-- ==== Defs.lean ====
def Pre_Kernel [hPre_sizes_ok : Cert.Pre_sizes_ok.Facts] (m : (ℓ : Loc Cert.Kernel.nD Cert.Kernel.τ Cert.Kernel.sig) → Buf (Elt Bits) ℓ) : Prop :=
  ∀ c : Dev Cert.Kernel.nD,
    (Cert.Pre_sizes_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_sizes_ok : Cert.Pre_sizes_ok.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_sizes_ok : Cert.Pre_sizes_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_sizes_ok : Cert.Pre_sizes_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sizes_ok : Cert.Pre_sizes_ok.Facts) (hPre_inputs_ok : Cert.Pre_inputs_ok.Facts),
    quiescent_Kernel (hKernel := hKernel) (hPre_sizes_ok := hPre_sizes_ok)
    ∧ quiescent_KernelIdeal (hKernelIdeal := hKernelIdeal) (hPre_sizes_ok := hPre_sizes_ok)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S128x5120 : Shape := ⟨2, ![128, 5120]⟩
abbrev S16 : Shape := ⟨1, ![16]⟩
abbrev S16x1536x5120 : Shape := ⟨3, ![16, 1536, 5120]⟩
abbrev S16x12x40 : Shape := ⟨3, ![16, 12, 40]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bitsLt_bf16_f32 : FTy.bits .bf16 < FTy.bits .f32
  bcast_S_S128x5120 : S_.BroadcastsInDim S128x5120 (![] : Fin 0 → Fin S128x5120.rank)
  reducesTo_S128x5120_S_d0_1 : S128x5120.ReducesTo [0, 1] S_

variable [Facts]

def fn {F : FTy → Type} [FloatOps F] (main_arg0 : FVec F S128x5120 .bf16) (main_arg1 : IVec S16 32) (main_arg2 : FVec F S16x1536x5120 .fp8e4m3) (main_arg3 : FVec F S16x12x40 .f32) : IVec S_ 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 134217728#32
  let main_v2 : IVec S16 32 := broadcastInDim S16 ![] bcast_S_S16 main_c_0
  let main_v3 : IVec S16 1 := cmpi .slt main_arg1 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  let main_v6 : FVec F S128x5120 .f32 := (extf .f32 · bitsLt_bf16_f32) main_arg0
  let main_v7 : FVec F S128x5120 .f32 := Host.absf main_v6
  let main_cst : FVec F S_ .f32 := constant S_ .f32 0x7F7F0000#32
  let main_v8 : FVec F S128x5120 .f32 := broadcastInDim S128x5120 ![] bcast_S_S128x5120 main_cst
  let main_v9 : IVec S128x5120 1 := cmpf .ole main_v7 main_v8
  let main_c_2 : IVec S_ 1 := constantI S_ 1 1#1
  let main_v10 : IVec S_ 1 := (fun x v => Host.reduce IntOp.andi x v reducesTo_S128x5120_S_d0_1 h_S_) main_v9 main_c_2
  let main_v11 : IVec S_ 1 := andi main_v5 main_v10
  main_v11
-- ==== Pre_sizes_ok.lean ====
abbrev S128x5120 : Shape := ⟨2, ![128, 5120]⟩
abbrev S16 : Shape := ⟨1, ![16]⟩
abbrev S16x1536x5120 : Shape := ⟨3, ![16, 1536, 5120]⟩
abbrev S16x12x40 : Shape := ⟨3, ![16, 12, 40]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S128x5120 .bf16) (main_arg1 : IVec S16 32) (main_arg2 : FVec F S16x1536x5120 .fp8e4m3) (main_arg3 : FVec F S16x12x40 .f32) : IVec S_ 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 134217728#32
  let main_v2 : IVec S16 32 := broadcastInDim S16 ![] bcast_S_S16 main_c_0
  let main_v3 : IVec S16 1 := cmpi .slt main_arg1 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  main_v5
-- ==== Kernel.lean ====
abbrev S128x5120 : Shape := ⟨2, ![128, 5120]⟩
abbrev S16 : Shape := ⟨1, ![16]⟩
abbrev S16x1536x5120 : Shape := ⟨3, ![16, 1536, 5120]⟩
abbrev S16x12x40 : Shape := ⟨3, ![16, 12, 40]⟩
abbrev S128x1536 : Shape := ⟨2, ![128, 1536]⟩
abbrev S5x1536x5120 : Shape := ⟨3, ![5, 1536, 5120]⟩
abbrev S3x17 : Shape := ⟨2, ![3, 17]⟩
abbrev S_ : Shape := ⟨0, ![]⟩
abbrev S5x6 : Shape := ⟨2, ![5, 6]⟩
abbrev S1 : Shape := ⟨1, ![1]⟩
abbrev S1x1 : Shape := ⟨2, ![1, 1]⟩
abbrev S1x256x5120 : Shape := ⟨3, ![1, 256, 5120]⟩
abbrev S256x5120 : Shape := ⟨2, ![256, 5120]⟩
abbrev S16x128 : Shape := ⟨2, ![16, 128]⟩
abbrev S16x1 : Shape := ⟨2, ![16, 1]⟩
abbrev S1x1x1 : Shape := ⟨3, ![1, 1, 1]⟩
abbrev S16x256 : Shape := ⟨2, ![16, 256]⟩
abbrev S32x256 : Shape := ⟨2, ![32, 256]⟩
abbrev S1x256x256 : Shape := ⟨3, ![1, 256, 256]⟩
abbrev S256x256 : Shape := ⟨2, ![256, 256]⟩
abbrev S32x1 : Shape := ⟨2, ![32, 1]⟩
abbrev S32x128 : Shape := ⟨2, ![32, 128]⟩
abbrev S64x256 : Shape := ⟨2, ![64, 256]⟩
abbrev S64x1 : Shape := ⟨2, ![64, 1]⟩
abbrev S64x128 : Shape := ⟨2, ![64, 128]⟩
abbrev S128x256 : Shape := ⟨2, ![128, 256]⟩
abbrev S128x1 : Shape := ⟨2, ![128, 1]⟩
abbrev S128x128 : Shape := ⟨2, ![128, 128]⟩

abbrev nBuf : Space → Nat
  | .hbm => 5
  | .vmem => 4
  | .smem => 3
  | _ => 0

abbrev bufTy : (tb : Table) → Fin (tcTables nBuf tb) → BufTy
  | .hbm, ⟨0, _⟩ => ⟨S128x5120, .bf16⟩
  | .hbm, ⟨1, _⟩ => ⟨S16, .i32⟩
  | .hbm, ⟨2, _⟩ => ⟨S16x1536x5120, .fp8e4m3⟩
  | .hbm, ⟨3, _⟩ => ⟨S16x12x40, .f32⟩
  | .hbm, ⟨4, _⟩ => ⟨S128x1536, .bf16⟩
  | .local _ .vmem, ⟨0, _⟩ => ⟨S128x1536, .bf16⟩
  | .local _ .vmem, ⟨1, _⟩ => ⟨S128x5120, .bf16⟩
  | .local _ .vmem, ⟨2, _⟩ => ⟨S128x5120, .bf16⟩
  | .local _ .vmem, ⟨3, _⟩ => ⟨S5x1536x5120, .fp8e4m3⟩
  | .local _ .smem, ⟨0, _⟩ => ⟨S16, .i32⟩
  | .local _ .smem, ⟨1, _⟩ => ⟨S16x12x40, .f32⟩
  | .local _ .smem, ⟨2, _⟩ => ⟨S3x17, .i32⟩
  | _, _ => ⟨S128x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg2_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_stg0_0 : Ref sig .tc := ⟨.smem, 0, rfl⟩
abbrev cc0_stg1_0 : Ref sig .tc := ⟨.smem, 1, rfl⟩
abbrev cc0_scratch3 : Ref sig .tc := ⟨.smem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_1 : BitVec 32 := 0#32
  let c16_i32 : BitVec 32 := 16#32
  let v0 : BitVec 32 := Scalar.addi c0_i32_1 c16_i32
  let c1_i32 : BitVec 32 := 1#32
  ⟨c0_i32_1, v0, c1_i32⟩
def k0_off1 (k0_t1 : Fin k0_t1_loop.trips) : Fin 1 → Nat :=
  let c0_i32_1 : BitVec 32 := 0#32
  let c1_i32 : BitVec 32 := 1#32
  let arg11 : BitVec 32 := Scf.iv c0_i32_1 c1_i32 k0_t1
  let v12 : Index := Scalar.indexCast arg11
  ![v12.toNat]
def k0_off2 (arg12 : BitVec 32) : Fin 2 → Nat :=
  let c0_16 : Index := 0#32
  let v17 : Index := Scalar.indexCast arg12
  ![0, v17.toNat]

def k0_off3 (arg12 : BitVec 32) : Fin 2 → Nat :=
  let c1 : Index := 1#32
  let v19 : Index := Scalar.indexCast arg12
  ![1, v19.toNat]
def k0_off4 (arg12 : BitVec 32) : Fin 2 → Nat :=
  let c2 : Index := 2#32
  let v21 : Index := Scalar.indexCast arg12
  ![2, v21.toNat]

def k0_chk1 (arg12 : BitVec 32) : Prop :=
  (∀ a, (k0_off2 arg12) a + S1x1.size a ≤ S3x17.size a) ∧
  (∀ a, (k0_off3 arg12) a + S1x1.size a ≤ S3x17.size a) ∧
  (∀ a, (k0_off4 arg12) a + S1x1.size a ≤ S3x17.size a)
theorem k0_off2_inb : ∀ (arg12 : BitVec 32) (k0_hw1 : k0_chk1 arg12), ∀ a, (k0_off2 arg12) a + S1x1.size a ≤ S3x17.size a := fun arg12 k0_hw1 => k0_hw1.1
theorem k0_off3_inb : ∀ (arg12 : BitVec 32) (k0_hw1 : k0_chk1 arg12), ∀ a, (k0_off3 arg12) a + S1x1.size a ≤ S3x17.size a := fun arg12 k0_hw1 => k0_hw1.2.1
theorem k0_off4_inb : ∀ (arg12 : BitVec 32) (k0_hw1 : k0_chk1 arg12), ∀ a, (k0_off4 arg12) a + S1x1.size a ≤ S3x17.size a := fun arg12 k0_hw1 => k0_hw1.2.2

@[reducible] def k0_t2_loop : Scf.Loop 32 :=
  let c0_i32_3 : BitVec 32 := 0#32
  let c5_i32 : BitVec 32 := 5#32
  let v2 : BitVec 32 := Scalar.addi c0_i32_3 c5_i32
  let c1_i32_4 : BitVec 32 := 1#32
  ⟨c0_i32_3, v2, c1_i32_4⟩
@[reducible] def k0_t3_loop : Scf.Loop 32 :=
  let c0_i32_16 : BitVec 32 := 0#32
  let c6_i32 : BitVec 32 := 6#32
  let v14 : BitVec 32 := Scalar.addi c0_i32_16 c6_i32
  let c1_i32_17 : BitVec 32 := 1#32
  ⟨c0_i32_16, v14, c1_i32_17⟩
def k0_mult1 (k0_t3 : Fin k0_t3_loop.trips) : BitVec 32 :=
  let c0_i32_16 : BitVec 32 := 0#32
  let c1_i32_17 : BitVec 32 := 1#32
  let arg12 : BitVec 32 := Scf.iv c0_i32_16 c1_i32_17 k0_t3
  let c256_i32 : BitVec 32 := 256#32
  let v16 : BitVec 32 := Scalar.muli arg12 c256_i32
  v16
def k0_off5 (k0_t2 : Fin k0_t2_loop.trips) : Fin 2 → Nat :=
  let c0_20 : Index := 0#32
  let c0_i32_3 : BitVec 32 := 0#32
  let c1_i32_4 : BitVec 32 := 1#32
  let arg11 : BitVec 32 := Scf.iv c0_i32_3 c1_i32_4 k0_t2
  let v18 : Index := Scalar.indexCast arg11
  ![0, v18.toNat]
def k0_off6 (k0_t2 : Fin k0_t2_loop.trips) (k0_t3 : Fin k0_t3_loop.trips) : Fin 2 → Nat :=
  let c0_i32_3 : BitVec 32 := 0#32
  let c1_i32_4 : BitVec 32 := 1#32
  let arg11 : BitVec 32 := Scf.iv c0_i32_3 c1_i32_4 k0_t2
  let c5_i32_19 : BitVec 32 := 5#32
  let v15 : BitVec 32 := Scalar.remsi arg11 c5_i32_19
  let c0_i32_16 : BitVec 32 := 0#32
  let c1_i32_17 : BitVec 32 := 1#32
  let arg12 : BitVec 32 := Scf.iv c0_i32_16 c1_i32_17 k0_t3
  ![v15.toNat, arg12.toNat]
def k0_off7 (k0_t2 : Fin k0_t2_loop.trips) (k0_t3 : Fin k0_t3_loop.trips) : Fin 3 → Nat :=
  let c0_i32_3 : BitVec 32 := 0#32
  let c1_i32_4 : BitVec 32 := 1#32
  let arg11 : BitVec 32 := Scf.iv c0_i32_3 c1_i32_4 k0_t2
  let c5_i32_19 : BitVec 32 := 5#32
  let v15 : BitVec 32 := Scalar.remsi arg11 c5_i32_19
  let c0_i32_16 : BitVec 32 := 0#32
  let c1_i32_17 : BitVec 32 := 1#32
  let arg12 : BitVec 32 := Scf.iv c0_i32_16 c1_i32_17 k0_t3
  let c256_i32 : BitVec 32 := 256#32
  let v16 : BitVec 32 := Scalar.muli arg12 c256_i32
  let v17 : BitVec 32 := v16
  let c0_i32_21 : BitVec 32 := 0#32
  ![v15.toNat, v17.toNat, 0]
def k0_off8 (k0_t3 : Fin k0_t3_loop.trips) (v19 : BitVec 32) : Fin 3 → Nat :=
  let c0_i32_16 : BitVec 32 := 0#32
  let c1_i32_17 : BitVec 32 := 1#32
  let arg12 : BitVec 32 := Scf.iv c0_i32_16 c1_i32_17 k0_t3
  let c256_i32 : BitVec 32 := 256#32
  let v16 : BitVec 32 := Scalar.muli arg12 c256_i32
  let v17 : BitVec 32 := v16
  let c0_i32_22 : BitVec 32 := 0#32
  ![v19.toNat, v17.toNat, 0]
def k0_cond1 (v1_0 : BitVec 32) (k0_t2 : Fin k0_t2_loop.trips) : BitVec 1 :=
  let c0_i32_3 : BitVec 32 := 0#32
  let c1_i32_4 : BitVec 32 := 1#32
  let arg11 : BitVec 32 := Scf.iv c0_i32_3 c1_i32_4 k0_t2
  let v11 : BitVec 1 := Scalar.cmpi .slt arg11 v1_0
  let v12 : BitVec 32 := Scalar.extui v11
  let c0_i32_15 : BitVec 32 := 0#32
  let v13 : BitVec 1 := Scalar.cmpi .ne v12 c0_i32_15
  v13

def k0_chk2 (v1_0 : BitVec 32) (k0_t2 : Fin k0_t2_loop.trips) (k0_t3 : Fin k0_t3_loop.trips) (v19 : BitVec 32) : Prop :=
  (∀ (k0_h1 : k0_cond1 v1_0 k0_t2 = 1#1), ∀ a, (k0_off8 k0_t3 v19) a + S1x256x5120.size a ≤ S16x1536x5120.size a) ∧
  (∀ (k0_h1 : k0_cond1 v1_0 k0_t2 = 1#1), ∀ (hinb : ∀ a, (k0_off8 k0_t3 v19) a + S1x256x5120.size a ≤ S16x1536x5120.size a), (Rect.unit (s := S16x1536x5120) (k0_off8 k0_t3 v19) S1x256x5120.size hinb).WholeWords (EltTy.packing .fp8e4m3))
theorem k0_off8_inb : ∀ (v1_0 : BitVec 32) (k0_t2 : Fin k0_t2_loop.trips) (k0_t3 : Fin k0_t3_loop.trips) (v19 : BitVec 32) (k0_hw2 : k0_chk2 v1_0 k0_t2 k0_t3 v19), ∀ (k0_h1 : k0_cond1 v1_0 k0_t2 = 1#1), ∀ a, (k0_off8 k0_t3 v19) a + S1x256x5120.size a ≤ S16x1536x5120.size a := fun v1_0 k0_t2 k0_t3 v19 k0_hw2 k0_h1 => k0_hw2.1 k0_h1
theorem k0_off8_wordsfp8e4m3 : ∀ (v1_0 : BitVec 32) (k0_t2 : Fin k0_t2_loop.trips) (k0_t3 : Fin k0_t3_loop.trips) (v19 : BitVec 32) (k0_hw2 : k0_chk2 v1_0 k0_t2 k0_t3 v19), ∀ (k0_h1 : k0_cond1 v1_0 k0_t2 = 1#1), (Rect.unit (s := S16x1536x5120) (k0_off8 k0_t3 v19) S1x256x5120.size (k0_off8_inb v1_0 k0_t2 k0_t3 v19 k0_hw2 k0_h1)).WholeWords (EltTy.packing .fp8e4m3) := fun v1_0 k0_t2 k0_t3 v19 k0_hw2 k0_h1 => k0_hw2.2 k0_h1 (k0_off8_inb v1_0 k0_t2 k0_t3 v19 k0_hw2 k0_h1)

@[reducible] def k0_t4_loop : Scf.Loop 32 :=
  let c0_i32_7 : BitVec 32 := 0#32
  let c8_i32 : BitVec 32 := 8#32
  let v5 : BitVec 32 := Scalar.addi c0_i32_7 c8_i32
  let c1_i32_8 : BitVec 32 := 1#32
  ⟨c0_i32_7, v5, c1_i32_8⟩
def k0_mult2 (k0_t4 : Fin k0_t4_loop.trips) : BitVec 32 :=
  let c0_i32_7 : BitVec 32 := 0#32
  let c1_i32_8 : BitVec 32 := 1#32
  let arg11 : BitVec 32 := Scf.iv c0_i32_7 c1_i32_8 k0_t4
  let c16_i32_15 : BitVec 32 := 16#32
  let v11 : BitVec 32 := Scalar.muli arg11 c16_i32_15
  v11
@[reducible] def k0_t5_loop : Scf.Loop 32 :=
  let c0_i32_16 : BitVec 32 := 0#32
  let c40_i32 : BitVec 32 := 40#32
  let v13 : BitVec 32 := Scalar.addi c0_i32_16 c40_i32
  let c1_i32_17 : BitVec 32 := 1#32
  ⟨c0_i32_16, v13, c1_i32_17⟩
def k0_mult3 (k0_t5 : Fin k0_t5_loop.trips) : BitVec 32 :=
  let c0_i32_16 : BitVec 32 := 0#32
  let c1_i32_17 : BitVec 32 := 1#32
  let arg12 : BitVec 32 := Scf.iv c0_i32_16 c1_i32_17 k0_t5
  let c128_i32 : BitVec 32 := 128#32
  let v14 : BitVec 32 := Scalar.muli arg12 c128_i32
  v14
def k0_off9 (k0_t4 : Fin k0_t4_loop.trips) (k0_t5 : Fin k0_t5_loop.trips) : Fin 2 → Nat :=
  let c0_i32_7 : BitVec 32 := 0#32
  let c1_i32_8 : BitVec 32 := 1#32
  let arg11 : BitVec 32 := Scf.iv c0_i32_7 c1_i32_8 k0_t4
  let c16_i32_15 : BitVec 32 := 16#32
  let v11 : BitVec 32 := Scalar.muli arg11 c16_i32_15
  let v12 : BitVec 32 := v11
  let v16 : Index := Scalar.indexCast v12
  let c0_i32_16 : BitVec 32 := 0#32
  let c1_i32_17 : BitVec 32 := 1#32
  let arg12 : BitVec 32 := Scf.iv c0_i32_16 c1_i32_17 k0_t5
  let c128_i32 : BitVec 32 := 128#32
  let v14 : BitVec 32 := Scalar.muli arg12 c128_i32
  let v15 : BitVec 32 := v14
  let v17 : Index := Scalar.indexCast v15
  ![v16.toNat, v17.toNat]
@[reducible] def k0_t6_loop (v1_0 : BitVec 32) : Scf.Loop 32 :=
  let c0_i32_11 : BitVec 32 := 0#32
  let v6 : BitVec 32 := Scalar.subi v1_0 c0_i32_11
  let c1_i32_12 : BitVec 32 := 1#32
  let v8 : BitVec 32 := Scalar.divsi v6 c1_i32_12
  let v9 : BitVec 32 := Scalar.muli v8 c1_i32_12
  let v10 : BitVec 32 := Scalar.addi c0_i32_11 v9
  let c1_i32_13 : BitVec 32 := 1#32
  ⟨c0_i32_11, v10, c1_i32_13⟩

def k0_off10 (v1_0 : BitVec 32) (k0_t6 : Fin (k0_t6_loop v1_0).trips) : Fin 2 → Nat :=
  let c0_15 : Index := 0#32
  let c0_i32_11 : BitVec 32 := 0#32
  let c1_i32_13 : BitVec 32 := 1#32
  let arg11 : BitVec 32 := Scf.iv c0_i32_11 c1_i32_13 k0_t6
  let v11 : Index := Scalar.indexCast arg11
  ![0, v11.toNat]
def k0_off11 (v1_0 : BitVec 32) (k0_t6 : Fin (k0_t6_loop v1_0).trips) : Fin 2 → Nat :=
  let c1 : Index := 1#32
  let c0_i32_11 : BitVec 32 := 0#32
  let c1_i32_13 : BitVec 32 := 1#32
  let arg11 : BitVec 32 := Scf.iv c0_i32_11 c1_i32_13 k0_t6
  let v13 : Index := Scalar.indexCast arg11
  ![1, v13.toNat]
def k0_off12 (v1_0 : BitVec 32) (k0_t6 : Fin (k0_t6_loop v1_0).trips) : Fin 2 → Nat :=
  let c2 : Index := 2#32
  let c0_i32_11 : BitVec 32 := 0#32
  let c1_i32_13 : BitVec 32 := 1#32
  let arg11 : BitVec 32 := Scf.iv c0_i32_11 c1_i32_13 k0_t6
  let v15 : Index := Scalar.indexCast arg11
  ![2, v15.toNat]
def k0_mult4 (v14 : BitVec 32) : BitVec 32 :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c112_i32 : BitVec 32 := 112#32
  let v80 : BitVec 32 := Scalar.minsi v79 c112_i32
  v80
def k0_cond2 (v14 : BitVec 32) (v16 : BitVec 32) : BitVec 1 :=
  let c16_i32_24 : BitVec 32 := 16#32
  let v35 : BitVec 32 := Scalar.addi v16 c16_i32_24
  let c1_i32_25 : BitVec 32 := 1#32
  let v36 : BitVec 32 := Scalar.subi v35 c1_i32_25
  let c0_i32_27 : BitVec 32 := 0#32
  let v38 : BitVec 1 := Scalar.cmpi .sgt v36 c0_i32_27
  let v39 : BitVec 32 := Scalar.extui v38
  let c0_i32_28 : BitVec 32 := 0#32
  let v40 : BitVec 1 := Scalar.cmpi .slt v36 c0_i32_28
  let v41 : BitVec 32 := Scalar.extui v40
  let v42 : BitVec 32 := Scalar.subi v39 v41
  let c16_i32_26 : BitVec 32 := 16#32
  let c0_i32_29 : BitVec 32 := 0#32
  let v43 : BitVec 1 := Scalar.cmpi .sgt c16_i32_26 c0_i32_29
  let v44 : BitVec 32 := Scalar.extui v43
  let c0_i32_30 : BitVec 32 := 0#32
  let v45 : BitVec 1 := Scalar.cmpi .slt c16_i32_26 c0_i32_30
  let v46 : BitVec 32 := Scalar.extui v45
  let v47 : BitVec 32 := Scalar.subi v44 v46
  let v48 : BitVec 1 := Scalar.cmpi .ne v42 v47
  let v49 : BitVec 32 := Scalar.remsi v36 c16_i32_26
  let c0_i32_31 : BitVec 32 := 0#32
  let v50 : BitVec 1 := Scalar.cmpi .ne v49 c0_i32_31
  let v51 : BitVec 1 := Scalar.andi v48 v50
  let v37 : BitVec 32 := Scalar.divsi v36 c16_i32_26
  let c1_i32_32 : BitVec 32 := 1#32
  let v52 : BitVec 32 := Scalar.subi v37 c1_i32_32
  let v53 : BitVec 32 := Scalar.select v51 v52 v37
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let v54 : BitVec 32 := Scalar.subi v53 v34
  let c0_i32_33 : BitVec 32 := 0#32
  let v55 : BitVec 1 := Scalar.cmpi .sgt v54 c0_i32_33
  let c1_i32_34 : BitVec 32 := 1#32
  let v56 : BitVec 1 := Scalar.cmpi .sle v54 c1_i32_34
  let v57 : BitVec 1 := Scalar.andi v55 v56
  let v58 : BitVec 32 := Scalar.extui v57
  let c0_i32_35 : BitVec 32 := 0#32
  let v59 : BitVec 1 := Scalar.cmpi .ne v58 c0_i32_35
  v59

@[reducible] def k0_t7_loop : Scf.Loop 32 :=
  let c0_i32_47 : BitVec 32 := 0#32
  let c6_i32 : BitVec 32 := 6#32
  let v90 : BitVec 32 := Scalar.addi c0_i32_47 c6_i32
  let c1_i32_48 : BitVec 32 := 1#32
  ⟨c0_i32_47, v90, c1_i32_48⟩
def k0_mult5 (k0_t7 : Fin k0_t7_loop.trips) : BitVec 32 :=
  let c0_i32_47 : BitVec 32 := 0#32
  let c1_i32_48 : BitVec 32 := 1#32
  let arg12 : BitVec 32 := Scf.iv c0_i32_47 c1_i32_48 k0_t7
  let c256_i32 : BitVec 32 := 256#32
  let v92 : BitVec 32 := Scalar.muli arg12 c256_i32
  v92
def k0_off13 (v1_0 : BitVec 32) (k0_t6 : Fin (k0_t6_loop v1_0).trips) : Fin 2 → Nat :=
  let c0_51 : Index := 0#32
  let c0_i32_11 : BitVec 32 := 0#32
  let c1_i32_13 : BitVec 32 := 1#32
  let arg11 : BitVec 32 := Scf.iv c0_i32_11 c1_i32_13 k0_t6
  let v94 : Index := Scalar.indexCast arg11
  ![0, v94.toNat]
def k0_off14 (v1_0 : BitVec 32) (k0_t6 : Fin (k0_t6_loop v1_0).trips) (k0_t7 : Fin k0_t7_loop.trips) : Fin 2 → Nat :=
  let c0_i32_11 : BitVec 32 := 0#32
  let c1_i32_13 : BitVec 32 := 1#32
  let arg11 : BitVec 32 := Scf.iv c0_i32_11 c1_i32_13 k0_t6
  let c5_i32_50 : BitVec 32 := 5#32
  let v91 : BitVec 32 := Scalar.remsi arg11 c5_i32_50
  let c0_i32_47 : BitVec 32 := 0#32
  let c1_i32_48 : BitVec 32 := 1#32
  let arg12 : BitVec 32 := Scf.iv c0_i32_47 c1_i32_48 k0_t7
  ![v91.toNat, arg12.toNat]
def k0_off15 (v1_0 : BitVec 32) (k0_t6 : Fin (k0_t6_loop v1_0).trips) (k0_t7 : Fin k0_t7_loop.trips) : Fin 3 → Nat :=
  let c0_i32_11 : BitVec 32 := 0#32
  let c1_i32_13 : BitVec 32 := 1#32
  let arg11 : BitVec 32 := Scf.iv c0_i32_11 c1_i32_13 k0_t6
  let c5_i32_50 : BitVec 32 := 5#32
  let v91 : BitVec 32 := Scalar.remsi arg11 c5_i32_50
  let c0_i32_47 : BitVec 32 := 0#32
  let c1_i32_48 : BitVec 32 := 1#32
  let arg12 : BitVec 32 := Scf.iv c0_i32_47 c1_i32_48 k0_t7
  let c256_i32 : BitVec 32 := 256#32
  let v92 : BitVec 32 := Scalar.muli arg12 c256_i32
  let v93 : BitVec 32 := v92
  let c0_i32_52 : BitVec 32 := 0#32
  ![v91.toNat, v93.toNat, 0]
def k0_off16 (k0_t7 : Fin k0_t7_loop.trips) (v95 : BitVec 32) : Fin 3 → Nat :=
  let c0_i32_47 : BitVec 32 := 0#32
  let c1_i32_48 : BitVec 32 := 1#32
  let arg12 : BitVec 32 := Scf.iv c0_i32_47 c1_i32_48 k0_t7
  let c256_i32 : BitVec 32 := 256#32
  let v92 : BitVec 32 := Scalar.muli arg12 c256_i32
  let v93 : BitVec 32 := v92
  let c0_i32_53 : BitVec 32 := 0#32
  ![v95.toNat, v93.toNat, 0]

def k0_chk5 (v14 : BitVec 32) (v16 : BitVec 32) (k0_t7 : Fin k0_t7_loop.trips) (v95 : BitVec 32) : Prop :=
  (∀ (k0_h2 : k0_cond2 v14 v16 = 1#1), ∀ a, (k0_off16 k0_t7 v95) a + S1x256x5120.size a ≤ S16x1536x5120.size a) ∧
  (∀ (k0_h2 : k0_cond2 v14 v16 = 1#1), ∀ (hinb : ∀ a, (k0_off16 k0_t7 v95) a + S1x256x5120.size a ≤ S16x1536x5120.size a), (Rect.unit (s := S16x1536x5120) (k0_off16 k0_t7 v95) S1x256x5120.size hinb).WholeWords (EltTy.packing .fp8e4m3))
theorem k0_off16_inb : ∀ (v14 : BitVec 32) (v16 : BitVec 32) (k0_t7 : Fin k0_t7_loop.trips) (v95 : BitVec 32) (k0_hw5 : k0_chk5 v14 v16 k0_t7 v95), ∀ (k0_h2 : k0_cond2 v14 v16 = 1#1), ∀ a, (k0_off16 k0_t7 v95) a + S1x256x5120.size a ≤ S16x1536x5120.size a := fun v14 v16 k0_t7 v95 k0_hw5 k0_h2 => k0_hw5.1 k0_h2
theorem k0_off16_wordsfp8e4m3 : ∀ (v14 : BitVec 32) (v16 : BitVec 32) (k0_t7 : Fin k0_t7_loop.trips) (v95 : BitVec 32) (k0_hw5 : k0_chk5 v14 v16 k0_t7 v95), ∀ (k0_h2 : k0_cond2 v14 v16 = 1#1), (Rect.unit (s := S16x1536x5120) (k0_off16 k0_t7 v95) S1x256x5120.size (k0_off16_inb v14 v16 k0_t7 v95 k0_hw5 k0_h2)).WholeWords (EltTy.packing .fp8e4m3) := fun v14 v16 k0_t7 v95 k0_hw5 k0_h2 => k0_hw5.2 k0_h2 (k0_off16_inb v14 v16 k0_t7 v95 k0_hw5 k0_h2)

def k0_mult6 (k0_t7 : Fin k0_t7_loop.trips) : BitVec 32 :=
  let c0_i32_47 : BitVec 32 := 0#32
  let c1_i32_48 : BitVec 32 := 1#32
  let arg12 : BitVec 32 := Scf.iv c0_i32_47 c1_i32_48 k0_t7
  let c256_i32_54 : BitVec 32 := 256#32
  let v102 : BitVec 32 := Scalar.muli arg12 c256_i32_54
  v102
def k0_off17 (v12 : BitVec 32) (k0_t7 : Fin k0_t7_loop.trips) (c0_i32_56 : BitVec 32) : Fin 3 → Nat :=
  let v106 : Index := Scalar.indexCast v12
  let c2_i32_55 : BitVec 32 := 2#32
  let c0_i32_47 : BitVec 32 := 0#32
  let c1_i32_48 : BitVec 32 := 1#32
  let arg12 : BitVec 32 := Scf.iv c0_i32_47 c1_i32_48 k0_t7
  let v104 : BitVec 32 := Scalar.muli c2_i32_55 arg12
  let v105 : BitVec 32 := Scalar.addi v104 c0_i32_56
  let v107 : Index := Scalar.indexCast v105
  let c0_57 : Index := 0#32
  ![v106.toNat, v107.toNat, 0]
def k0_mult7 : BitVec 32 :=
  let c0_i32_58 : BitVec 32 := 0#32
  c0_i32_58
def k0_off18 (v14 : BitVec 32) : Fin 2 → Nat :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c112_i32 : BitVec 32 := 112#32
  let v80 : BitVec 32 := Scalar.minsi v79 c112_i32
  let v81 : BitVec 32 := v80
  let v112 : Index := Scalar.indexCast v81
  let c0_i32_58 : BitVec 32 := 0#32
  let v111 : BitVec 32 := c0_i32_58
  let v113 : Index := Scalar.indexCast v111
  ![v112.toNat, 0]
def k0_off19 (v12 : BitVec 32) (k0_t7 : Fin k0_t7_loop.trips) (c0_i32_60 : BitVec 32) : Fin 3 → Nat :=
  let v118 : Index := Scalar.indexCast v12
  let c2_i32_59 : BitVec 32 := 2#32
  let c0_i32_47 : BitVec 32 := 0#32
  let c1_i32_48 : BitVec 32 := 1#32
  let arg12 : BitVec 32 := Scf.iv c0_i32_47 c1_i32_48 k0_t7
  let v116 : BitVec 32 := Scalar.muli c2_i32_59 arg12
  let v117 : BitVec 32 := Scalar.addi v116 c0_i32_60
  let v119 : Index := Scalar.indexCast v117
  let c1_61 : Index := 1#32
  ![v118.toNat, v119.toNat, 1]
def k0_mult8 : BitVec 32 :=
  let c128_i32 : BitVec 32 := 128#32
  c128_i32
def k0_off20 (v14 : BitVec 32) : Fin 2 → Nat :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c112_i32 : BitVec 32 := 112#32
  let v80 : BitVec 32 := Scalar.minsi v79 c112_i32
  let v81 : BitVec 32 := v80
  let v124 : Index := Scalar.indexCast v81
  let c128_i32 : BitVec 32 := 128#32
  let v123 : BitVec 32 := c128_i32
  let v125 : Index := Scalar.indexCast v123
  ![v124.toNat, 128]
def k0_mult9 : BitVec 32 :=
  let c0_i32_65 : BitVec 32 := 0#32
  c0_i32_65
def k0_mult10 : BitVec 32 :=
  let c128_i32_69 : BitVec 32 := 128#32
  c128_i32_69
def k0_mult11 : BitVec 32 :=
  let c0_i32_70 : BitVec 32 := 0#32
  c0_i32_70
def k0_off21 (v1_0 : BitVec 32) (k0_t6 : Fin (k0_t6_loop v1_0).trips) (k0_t7 : Fin k0_t7_loop.trips) : Fin 3 → Nat :=
  let c0_i32_11 : BitVec 32 := 0#32
  let c1_i32_13 : BitVec 32 := 1#32
  let arg11 : BitVec 32 := Scf.iv c0_i32_11 c1_i32_13 k0_t6
  let c5_i32_16 : BitVec 32 := 5#32
  let v17 : BitVec 32 := Scalar.remsi arg11 c5_i32_16
  let v156 : Index := Scalar.indexCast v17
  let c0_i32_47 : BitVec 32 := 0#32
  let c1_i32_48 : BitVec 32 := 1#32
  let arg12 : BitVec 32 := Scf.iv c0_i32_47 c1_i32_48 k0_t7
  let c256_i32_54 : BitVec 32 := 256#32
  let v102 : BitVec 32 := Scalar.muli arg12 c256_i32_54
  let v103 : BitVec 32 := v102
  let v157 : Index := Scalar.indexCast v103
  let c0_i32_70 : BitVec 32 := 0#32
  let v155 : BitVec 32 := c0_i32_70
  let v158 : Index := Scalar.indexCast v155
  ![v156.toNat, v157.toNat, 0]
@[reducible] def k0_t8_loop : Scf.Loop 32 :=
  let c1_i32_72 : BitVec 32 := 1#32
  let c19_i32 : BitVec 32 := 19#32
  let v162 : BitVec 32 := Scalar.addi c1_i32_72 c19_i32
  let c1_i32_73 : BitVec 32 := 1#32
  ⟨c1_i32_72, v162, c1_i32_73⟩
def k0_off22 (v12 : BitVec 32) (k0_t7 : Fin k0_t7_loop.trips) (k0_t8 : Fin k0_t8_loop.trips) (c0_i32_78 : BitVec 32) (c0_i32_76 : BitVec 32) : Fin 3 → Nat :=
  let v183 : Index := Scalar.indexCast v12
  let c2_i32_77 : BitVec 32 := 2#32
  let c0_i32_47 : BitVec 32 := 0#32
  let c1_i32_48 : BitVec 32 := 1#32
  let arg12 : BitVec 32 := Scf.iv c0_i32_47 c1_i32_48 k0_t7
  let v181 : BitVec 32 := Scalar.muli c2_i32_77 arg12
  let v182 : BitVec 32 := Scalar.addi v181 c0_i32_78
  let v184 : Index := Scalar.indexCast v182
  let c2_i32_75 : BitVec 32 := 2#32
  let c1_i32_72 : BitVec 32 := 1#32
  let c1_i32_73 : BitVec 32 := 1#32
  let arg13 : BitVec 32 := Scf.iv c1_i32_72 c1_i32_73 k0_t8
  let v179 : BitVec 32 := Scalar.muli c2_i32_75 arg13
  let v180 : BitVec 32 := Scalar.addi v179 c0_i32_76
  let v185 : Index := Scalar.indexCast v180
  ![v183.toNat, v184.toNat, v185.toNat]
def k0_mult12 (k0_t8 : Fin k0_t8_loop.trips) : BitVec 32 :=
  let c2_i32_75 : BitVec 32 := 2#32
  let c1_i32_72 : BitVec 32 := 1#32
  let c1_i32_73 : BitVec 32 := 1#32
  let arg13 : BitVec 32 := Scf.iv c1_i32_72 c1_i32_73 k0_t8
  let v179 : BitVec 32 := Scalar.muli c2_i32_75 arg13
  let c0_i32_76 : BitVec 32 := 0#32
  let v180 : BitVec 32 := Scalar.addi v179 c0_i32_76
  let c128_i32_79 : BitVec 32 := 128#32
  let v189 : BitVec 32 := Scalar.muli v180 c128_i32_79
  v189
def k0_off23 (v14 : BitVec 32) (k0_t8 : Fin k0_t8_loop.trips) (c0_i32_76 : BitVec 32) : Fin 2 → Nat :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c112_i32 : BitVec 32 := 112#32
  let v80 : BitVec 32 := Scalar.minsi v79 c112_i32
  let v81 : BitVec 32 := v80
  let v191 : Index := Scalar.indexCast v81
  let c2_i32_75 : BitVec 32 := 2#32
  let c1_i32_72 : BitVec 32 := 1#32
  let c1_i32_73 : BitVec 32 := 1#32
  let arg13 : BitVec 32 := Scf.iv c1_i32_72 c1_i32_73 k0_t8
  let v179 : BitVec 32 := Scalar.muli c2_i32_75 arg13
  let v180 : BitVec 32 := Scalar.addi v179 c0_i32_76
  let c128_i32_79 : BitVec 32 := 128#32
  let v189 : BitVec 32 := Scalar.muli v180 c128_i32_79
  let v190 : BitVec 32 := v189
  let v192 : Index := Scalar.indexCast v190
  ![v191.toNat, v192.toNat]
def k0_mult13 (k0_t8 : Fin k0_t8_loop.trips) : BitVec 32 :=
  let c2_i32_80 : BitVec 32 := 2#32
  let c1_i32_72 : BitVec 32 := 1#32
  let c1_i32_73 : BitVec 32 := 1#32
  let arg13 : BitVec 32 := Scf.iv c1_i32_72 c1_i32_73 k0_t8
  let v195 : BitVec 32 := Scalar.muli c2_i32_80 arg13
  let c1_i32_81 : BitVec 32 := 1#32
  let v196 : BitVec 32 := Scalar.addi v195 c1_i32_81
  let c128_i32_84 : BitVec 32 := 128#32
  let v205 : BitVec 32 := Scalar.muli v196 c128_i32_84
  v205
def k0_mult14 (k0_t8 : Fin k0_t8_loop.trips) : BitVec 32 :=
  let c2_i32_85 : BitVec 32 := 2#32
  let c1_i32_72 : BitVec 32 := 1#32
  let c1_i32_73 : BitVec 32 := 1#32
  let arg13 : BitVec 32 := Scf.iv c1_i32_72 c1_i32_73 k0_t8
  let v212 : BitVec 32 := Scalar.muli c2_i32_85 arg13
  let c0_i32_86 : BitVec 32 := 0#32
  let v213 : BitVec 32 := Scalar.addi v212 c0_i32_86
  let c128_i32_89 : BitVec 32 := 128#32
  let v222 : BitVec 32 := Scalar.muli v213 c128_i32_89
  v222
def k0_mult15 (k0_t8 : Fin k0_t8_loop.trips) : BitVec 32 :=
  let c2_i32_90 : BitVec 32 := 2#32
  let c1_i32_72 : BitVec 32 := 1#32
  let c1_i32_73 : BitVec 32 := 1#32
  let arg13 : BitVec 32 := Scf.iv c1_i32_72 c1_i32_73 k0_t8
  let v228 : BitVec 32 := Scalar.muli c2_i32_90 arg13
  let c1_i32_91 : BitVec 32 := 1#32
  let v229 : BitVec 32 := Scalar.addi v228 c1_i32_91
  let c128_i32_94 : BitVec 32 := 128#32
  let v238 : BitVec 32 := Scalar.muli v229 c128_i32_94
  v238
def k0_mult16 (k0_t8 : Fin k0_t8_loop.trips) : BitVec 32 :=
  let c1_i32_72 : BitVec 32 := 1#32
  let c1_i32_73 : BitVec 32 := 1#32
  let arg13 : BitVec 32 := Scf.iv c1_i32_72 c1_i32_73 k0_t8
  let c256_i32_95 : BitVec 32 := 256#32
  let v246 : BitVec 32 := Scalar.muli arg13 c256_i32_95
  v246
def k0_off24 (v1_0 : BitVec 32) (k0_t6 : Fin (k0_t6_loop v1_0).trips) (k0_t7 : Fin k0_t7_loop.trips) (k0_t8 : Fin k0_t8_loop.trips) : Fin 3 → Nat :=
  let c0_i32_11 : BitVec 32 := 0#32
  let c1_i32_13 : BitVec 32 := 1#32
  let arg11 : BitVec 32 := Scf.iv c0_i32_11 c1_i32_13 k0_t6
  let c5_i32_16 : BitVec 32 := 5#32
  let v17 : BitVec 32 := Scalar.remsi arg11 c5_i32_16
  let v248 : Index := Scalar.indexCast v17
  let c0_i32_47 : BitVec 32 := 0#32
  let c1_i32_48 : BitVec 32 := 1#32
  let arg12 : BitVec 32 := Scf.iv c0_i32_47 c1_i32_48 k0_t7
  let c256_i32_54 : BitVec 32 := 256#32
  let v102 : BitVec 32 := Scalar.muli arg12 c256_i32_54
  let v103 : BitVec 32 := v102
  let v249 : Index := Scalar.indexCast v103
  let c1_i32_72 : BitVec 32 := 1#32
  let c1_i32_73 : BitVec 32 := 1#32
  let arg13 : BitVec 32 := Scf.iv c1_i32_72 c1_i32_73 k0_t8
  let c256_i32_95 : BitVec 32 := 256#32
  let v246 : BitVec 32 := Scalar.muli arg13 c256_i32_95
  let v247 : BitVec 32 := v246
  let v250 : Index := Scalar.indexCast v247
  ![v248.toNat, v249.toNat, v250.toNat]
def k0_off25 (v14 : BitVec 32) (k0_t7 : Fin k0_t7_loop.trips) : Fin 2 → Nat :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c112_i32 : BitVec 32 := 112#32
  let v80 : BitVec 32 := Scalar.minsi v79 c112_i32
  let v81 : BitVec 32 := v80
  let v167 : Index := Scalar.indexCast v81
  let c0_i32_47 : BitVec 32 := 0#32
  let c1_i32_48 : BitVec 32 := 1#32
  let arg12 : BitVec 32 := Scf.iv c0_i32_47 c1_i32_48 k0_t7
  let c256_i32_54 : BitVec 32 := 256#32
  let v102 : BitVec 32 := Scalar.muli arg12 c256_i32_54
  let v103 : BitVec 32 := v102
  let v168 : Index := Scalar.indexCast v103
  ![v167.toNat, v168.toNat]
def k0_mult17 (v14 : BitVec 32) : BitVec 32 :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c96_i32 : BitVec 32 := 96#32
  let v80 : BitVec 32 := Scalar.minsi v79 c96_i32
  v80
def k0_cond3 (v14 : BitVec 32) (v16 : BitVec 32) : BitVec 1 :=
  let c16_i32_24 : BitVec 32 := 16#32
  let v35 : BitVec 32 := Scalar.addi v16 c16_i32_24
  let c1_i32_25 : BitVec 32 := 1#32
  let v36 : BitVec 32 := Scalar.subi v35 c1_i32_25
  let c0_i32_27 : BitVec 32 := 0#32
  let v38 : BitVec 1 := Scalar.cmpi .sgt v36 c0_i32_27
  let v39 : BitVec 32 := Scalar.extui v38
  let c0_i32_28 : BitVec 32 := 0#32
  let v40 : BitVec 1 := Scalar.cmpi .slt v36 c0_i32_28
  let v41 : BitVec 32 := Scalar.extui v40
  let v42 : BitVec 32 := Scalar.subi v39 v41
  let c16_i32_26 : BitVec 32 := 16#32
  let c0_i32_29 : BitVec 32 := 0#32
  let v43 : BitVec 1 := Scalar.cmpi .sgt c16_i32_26 c0_i32_29
  let v44 : BitVec 32 := Scalar.extui v43
  let c0_i32_30 : BitVec 32 := 0#32
  let v45 : BitVec 1 := Scalar.cmpi .slt c16_i32_26 c0_i32_30
  let v46 : BitVec 32 := Scalar.extui v45
  let v47 : BitVec 32 := Scalar.subi v44 v46
  let v48 : BitVec 1 := Scalar.cmpi .ne v42 v47
  let v49 : BitVec 32 := Scalar.remsi v36 c16_i32_26
  let c0_i32_31 : BitVec 32 := 0#32
  let v50 : BitVec 1 := Scalar.cmpi .ne v49 c0_i32_31
  let v51 : BitVec 1 := Scalar.andi v48 v50
  let v37 : BitVec 32 := Scalar.divsi v36 c16_i32_26
  let c1_i32_32 : BitVec 32 := 1#32
  let v52 : BitVec 32 := Scalar.subi v37 c1_i32_32
  let v53 : BitVec 32 := Scalar.select v51 v52 v37
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let v54 : BitVec 32 := Scalar.subi v53 v34
  let c1_i32_36 : BitVec 32 := 1#32
  let v60 : BitVec 1 := Scalar.cmpi .sgt v54 c1_i32_36
  let c2_i32 : BitVec 32 := 2#32
  let v61 : BitVec 1 := Scalar.cmpi .sle v54 c2_i32
  let v62 : BitVec 1 := Scalar.andi v60 v61
  let v63 : BitVec 32 := Scalar.extui v62
  let c0_i32_37 : BitVec 32 := 0#32
  let v64 : BitVec 1 := Scalar.cmpi .ne v63 c0_i32_37
  v64

@[reducible] def k0_t9_loop : Scf.Loop 32 :=
  let c0_i32_47 : BitVec 32 := 0#32
  let c6_i32 : BitVec 32 := 6#32
  let v90 : BitVec 32 := Scalar.addi c0_i32_47 c6_i32
  let c1_i32_48 : BitVec 32 := 1#32
  ⟨c0_i32_47, v90, c1_i32_48⟩
def k0_mult18 (k0_t9 : Fin k0_t9_loop.trips) : BitVec 32 :=
  let c0_i32_47 : BitVec 32 := 0#32
  let c1_i32_48 : BitVec 32 := 1#32
  let arg12 : BitVec 32 := Scf.iv c0_i32_47 c1_i32_48 k0_t9
  let c256_i32 : BitVec 32 := 256#32
  let v92 : BitVec 32 := Scalar.muli arg12 c256_i32
  v92
def k0_off26 (v1_0 : BitVec 32) (k0_t6 : Fin (k0_t6_loop v1_0).trips) : Fin 2 → Nat :=
  let c0_51 : Index := 0#32
  let c0_i32_11 : BitVec 32 := 0#32
  let c1_i32_13 : BitVec 32 := 1#32
  let arg11 : BitVec 32 := Scf.iv c0_i32_11 c1_i32_13 k0_t6
  let v94 : Index := Scalar.indexCast arg11
  ![0, v94.toNat]
def k0_off27 (v1_0 : BitVec 32) (k0_t6 : Fin (k0_t6_loop v1_0).trips) (k0_t9 : Fin k0_t9_loop.trips) : Fin 2 → Nat :=
  let c0_i32_11 : BitVec 32 := 0#32
  let c1_i32_13 : BitVec 32 := 1#32
  let arg11 : BitVec 32 := Scf.iv c0_i32_11 c1_i32_13 k0_t6
  let c5_i32_50 : BitVec 32 := 5#32
  let v91 : BitVec 32 := Scalar.remsi arg11 c5_i32_50
  let c0_i32_47 : BitVec 32 := 0#32
  let c1_i32_48 : BitVec 32 := 1#32
  let arg12 : BitVec 32 := Scf.iv c0_i32_47 c1_i32_48 k0_t9
  ![v91.toNat, arg12.toNat]
def k0_off28 (v1_0 : BitVec 32) (k0_t6 : Fin (k0_t6_loop v1_0).trips) (k0_t9 : Fin k0_t9_loop.trips) : Fin 3 → Nat :=
  let c0_i32_11 : BitVec 32 := 0#32
  let c1_i32_13 : BitVec 32 := 1#32
  let arg11 : BitVec 32 := Scf.iv c0_i32_11 c1_i32_13 k0_t6
  let c5_i32_50 : BitVec 32 := 5#32
  let v91 : BitVec 32 := Scalar.remsi arg11 c5_i32_50
  let c0_i32_47 : BitVec 32 := 0#32
  let c1_i32_48 : BitVec 32 := 1#32
  let arg12 : BitVec 32 := Scf.iv c0_i32_47 c1_i32_48 k0_t9
  let c256_i32 : BitVec 32 := 256#32
  let v92 : BitVec 32 := Scalar.muli arg12 c256_i32
  let v93 : BitVec 32 := v92
  let c0_i32_52 : BitVec 32 := 0#32
  ![v91.toNat, v93.toNat, 0]
def k0_off29 (k0_t9 : Fin k0_t9_loop.trips) (v95 : BitVec 32) : Fin 3 → Nat :=
  let c0_i32_47 : BitVec 32 := 0#32
  let c1_i32_48 : BitVec 32 := 1#32
  let arg12 : BitVec 32 := Scf.iv c0_i32_47 c1_i32_48 k0_t9
  let c256_i32 : BitVec 32 := 256#32
  let v92 : BitVec 32 := Scalar.muli arg12 c256_i32
  let v93 : BitVec 32 := v92
  let c0_i32_53 : BitVec 32 := 0#32
  ![v95.toNat, v93.toNat, 0]

def k0_chk6 (v14 : BitVec 32) (v16 : BitVec 32) (k0_t9 : Fin k0_t9_loop.trips) (v95 : BitVec 32) : Prop :=
  (∀ (k0_h3 : k0_cond3 v14 v16 = 1#1), ∀ a, (k0_off29 k0_t9 v95) a + S1x256x5120.size a ≤ S16x1536x5120.size a) ∧
  (∀ (k0_h3 : k0_cond3 v14 v16 = 1#1), ∀ (hinb : ∀ a, (k0_off29 k0_t9 v95) a + S1x256x5120.size a ≤ S16x1536x5120.size a), (Rect.unit (s := S16x1536x5120) (k0_off29 k0_t9 v95) S1x256x5120.size hinb).WholeWords (EltTy.packing .fp8e4m3))
theorem k0_off29_inb : ∀ (v14 : BitVec 32) (v16 : BitVec 32) (k0_t9 : Fin k0_t9_loop.trips) (v95 : BitVec 32) (k0_hw6 : k0_chk6 v14 v16 k0_t9 v95), ∀ (k0_h3 : k0_cond3 v14 v16 = 1#1), ∀ a, (k0_off29 k0_t9 v95) a + S1x256x5120.size a ≤ S16x1536x5120.size a := fun v14 v16 k0_t9 v95 k0_hw6 k0_h3 => k0_hw6.1 k0_h3
theorem k0_off29_wordsfp8e4m3 : ∀ (v14 : BitVec 32) (v16 : BitVec 32) (k0_t9 : Fin k0_t9_loop.trips) (v95 : BitVec 32) (k0_hw6 : k0_chk6 v14 v16 k0_t9 v95), ∀ (k0_h3 : k0_cond3 v14 v16 = 1#1), (Rect.unit (s := S16x1536x5120) (k0_off29 k0_t9 v95) S1x256x5120.size (k0_off29_inb v14 v16 k0_t9 v95 k0_hw6 k0_h3)).WholeWords (EltTy.packing .fp8e4m3) := fun v14 v16 k0_t9 v95 k0_hw6 k0_h3 => k0_hw6.2 k0_h3 (k0_off29_inb v14 v16 k0_t9 v95 k0_hw6 k0_h3)

def k0_mult19 (k0_t9 : Fin k0_t9_loop.trips) : BitVec 32 :=
  let c0_i32_47 : BitVec 32 := 0#32
  let c1_i32_48 : BitVec 32 := 1#32
  let arg12 : BitVec 32 := Scf.iv c0_i32_47 c1_i32_48 k0_t9
  let c256_i32_54 : BitVec 32 := 256#32
  let v102 : BitVec 32 := Scalar.muli arg12 c256_i32_54
  v102
def k0_off30 (v12 : BitVec 32) (k0_t9 : Fin k0_t9_loop.trips) (c0_i32_56 : BitVec 32) : Fin 3 → Nat :=
  let v106 : Index := Scalar.indexCast v12
  let c2_i32_55 : BitVec 32 := 2#32
  let c0_i32_47 : BitVec 32 := 0#32
  let c1_i32_48 : BitVec 32 := 1#32
  let arg12 : BitVec 32 := Scf.iv c0_i32_47 c1_i32_48 k0_t9
  let v104 : BitVec 32 := Scalar.muli c2_i32_55 arg12
  let v105 : BitVec 32 := Scalar.addi v104 c0_i32_56
  let v107 : Index := Scalar.indexCast v105
  let c0_57 : Index := 0#32
  ![v106.toNat, v107.toNat, 0]
def k0_mult20 : BitVec 32 :=
  let c0_i32_58 : BitVec 32 := 0#32
  c0_i32_58
def k0_off31 (v14 : BitVec 32) : Fin 2 → Nat :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c96_i32 : BitVec 32 := 96#32
  let v80 : BitVec 32 := Scalar.minsi v79 c96_i32
  let v81 : BitVec 32 := v80
  let v112 : Index := Scalar.indexCast v81
  let c0_i32_58 : BitVec 32 := 0#32
  let v111 : BitVec 32 := c0_i32_58
  let v113 : Index := Scalar.indexCast v111
  ![v112.toNat, 0]
def k0_off32 (v12 : BitVec 32) (k0_t9 : Fin k0_t9_loop.trips) (c0_i32_60 : BitVec 32) : Fin 3 → Nat :=
  let v118 : Index := Scalar.indexCast v12
  let c2_i32_59 : BitVec 32 := 2#32
  let c0_i32_47 : BitVec 32 := 0#32
  let c1_i32_48 : BitVec 32 := 1#32
  let arg12 : BitVec 32 := Scf.iv c0_i32_47 c1_i32_48 k0_t9
  let v116 : BitVec 32 := Scalar.muli c2_i32_59 arg12
  let v117 : BitVec 32 := Scalar.addi v116 c0_i32_60
  let v119 : Index := Scalar.indexCast v117
  let c1_61 : Index := 1#32
  ![v118.toNat, v119.toNat, 1]
def k0_mult21 : BitVec 32 :=
  let c128_i32 : BitVec 32 := 128#32
  c128_i32
def k0_off33 (v14 : BitVec 32) : Fin 2 → Nat :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c96_i32 : BitVec 32 := 96#32
  let v80 : BitVec 32 := Scalar.minsi v79 c96_i32
  let v81 : BitVec 32 := v80
  let v124 : Index := Scalar.indexCast v81
  let c128_i32 : BitVec 32 := 128#32
  let v123 : BitVec 32 := c128_i32
  let v125 : Index := Scalar.indexCast v123
  ![v124.toNat, 128]
def k0_mult22 : BitVec 32 :=
  let c0_i32_65 : BitVec 32 := 0#32
  c0_i32_65
def k0_mult23 : BitVec 32 :=
  let c128_i32_69 : BitVec 32 := 128#32
  c128_i32_69
def k0_mult24 : BitVec 32 :=
  let c0_i32_70 : BitVec 32 := 0#32
  c0_i32_70
def k0_off34 (v1_0 : BitVec 32) (k0_t6 : Fin (k0_t6_loop v1_0).trips) (k0_t9 : Fin k0_t9_loop.trips) : Fin 3 → Nat :=
  let c0_i32_11 : BitVec 32 := 0#32
  let c1_i32_13 : BitVec 32 := 1#32
  let arg11 : BitVec 32 := Scf.iv c0_i32_11 c1_i32_13 k0_t6
  let c5_i32_16 : BitVec 32 := 5#32
  let v17 : BitVec 32 := Scalar.remsi arg11 c5_i32_16
  let v156 : Index := Scalar.indexCast v17
  let c0_i32_47 : BitVec 32 := 0#32
  let c1_i32_48 : BitVec 32 := 1#32
  let arg12 : BitVec 32 := Scf.iv c0_i32_47 c1_i32_48 k0_t9
  let c256_i32_54 : BitVec 32 := 256#32
  let v102 : BitVec 32 := Scalar.muli arg12 c256_i32_54
  let v103 : BitVec 32 := v102
  let v157 : Index := Scalar.indexCast v103
  let c0_i32_70 : BitVec 32 := 0#32
  let v155 : BitVec 32 := c0_i32_70
  let v158 : Index := Scalar.indexCast v155
  ![v156.toNat, v157.toNat, 0]
@[reducible] def k0_t10_loop : Scf.Loop 32 :=
  let c1_i32_72 : BitVec 32 := 1#32
  let c19_i32 : BitVec 32 := 19#32
  let v162 : BitVec 32 := Scalar.addi c1_i32_72 c19_i32
  let c1_i32_73 : BitVec 32 := 1#32
  ⟨c1_i32_72, v162, c1_i32_73⟩
def k0_off35 (v12 : BitVec 32) (k0_t9 : Fin k0_t9_loop.trips) (k0_t10 : Fin k0_t10_loop.trips) (c0_i32_78 : BitVec 32) (c0_i32_76 : BitVec 32) : Fin 3 → Nat :=
  let v183 : Index := Scalar.indexCast v12
  let c2_i32_77 : BitVec 32 := 2#32
  let c0_i32_47 : BitVec 32 := 0#32
  let c1_i32_48 : BitVec 32 := 1#32
  let arg12 : BitVec 32 := Scf.iv c0_i32_47 c1_i32_48 k0_t9
  let v181 : BitVec 32 := Scalar.muli c2_i32_77 arg12
  let v182 : BitVec 32 := Scalar.addi v181 c0_i32_78
  let v184 : Index := Scalar.indexCast v182
  let c2_i32_75 : BitVec 32 := 2#32
  let c1_i32_72 : BitVec 32 := 1#32
  let c1_i32_73 : BitVec 32 := 1#32
  let arg13 : BitVec 32 := Scf.iv c1_i32_72 c1_i32_73 k0_t10
  let v179 : BitVec 32 := Scalar.muli c2_i32_75 arg13
  let v180 : BitVec 32 := Scalar.addi v179 c0_i32_76
  let v185 : Index := Scalar.indexCast v180
  ![v183.toNat, v184.toNat, v185.toNat]
def k0_mult25 (k0_t10 : Fin k0_t10_loop.trips) : BitVec 32 :=
  let c2_i32_75 : BitVec 32 := 2#32
  let c1_i32_72 : BitVec 32 := 1#32
  let c1_i32_73 : BitVec 32 := 1#32
  let arg13 : BitVec 32 := Scf.iv c1_i32_72 c1_i32_73 k0_t10
  let v179 : BitVec 32 := Scalar.muli c2_i32_75 arg13
  let c0_i32_76 : BitVec 32 := 0#32
  let v180 : BitVec 32 := Scalar.addi v179 c0_i32_76
  let c128_i32_79 : BitVec 32 := 128#32
  let v189 : BitVec 32 := Scalar.muli v180 c128_i32_79
  v189
def k0_off36 (v14 : BitVec 32) (k0_t10 : Fin k0_t10_loop.trips) (c0_i32_76 : BitVec 32) : Fin 2 → Nat :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c96_i32 : BitVec 32 := 96#32
  let v80 : BitVec 32 := Scalar.minsi v79 c96_i32
  let v81 : BitVec 32 := v80
  let v191 : Index := Scalar.indexCast v81
  let c2_i32_75 : BitVec 32 := 2#32
  let c1_i32_72 : BitVec 32 := 1#32
  let c1_i32_73 : BitVec 32 := 1#32
  let arg13 : BitVec 32 := Scf.iv c1_i32_72 c1_i32_73 k0_t10
  let v179 : BitVec 32 := Scalar.muli c2_i32_75 arg13
  let v180 : BitVec 32 := Scalar.addi v179 c0_i32_76
  let c128_i32_79 : BitVec 32 := 128#32
  let v189 : BitVec 32 := Scalar.muli v180 c128_i32_79
  let v190 : BitVec 32 := v189
  let v192 : Index := Scalar.indexCast v190
  ![v191.toNat, v192.toNat]
def k0_mult26 (k0_t10 : Fin k0_t10_loop.trips) : BitVec 32 :=
  let c2_i32_80 : BitVec 32 := 2#32
  let c1_i32_72 : BitVec 32 := 1#32
  let c1_i32_73 : BitVec 32 := 1#32
  let arg13 : BitVec 32 := Scf.iv c1_i32_72 c1_i32_73 k0_t10
  let v195 : BitVec 32 := Scalar.muli c2_i32_80 arg13
  let c1_i32_81 : BitVec 32 := 1#32
  let v196 : BitVec 32 := Scalar.addi v195 c1_i32_81
  let c128_i32_84 : BitVec 32 := 128#32
  let v205 : BitVec 32 := Scalar.muli v196 c128_i32_84
  v205
def k0_mult27 (k0_t10 : Fin k0_t10_loop.trips) : BitVec 32 :=
  let c2_i32_85 : BitVec 32 := 2#32
  let c1_i32_72 : BitVec 32 := 1#32
  let c1_i32_73 : BitVec 32 := 1#32
  let arg13 : BitVec 32 := Scf.iv c1_i32_72 c1_i32_73 k0_t10
  let v212 : BitVec 32 := Scalar.muli c2_i32_85 arg13
  let c0_i32_86 : BitVec 32 := 0#32
  let v213 : BitVec 32 := Scalar.addi v212 c0_i32_86
  let c128_i32_89 : BitVec 32 := 128#32
  let v222 : BitVec 32 := Scalar.muli v213 c128_i32_89
  v222
def k0_mult28 (k0_t10 : Fin k0_t10_loop.trips) : BitVec 32 :=
  let c2_i32_90 : BitVec 32 := 2#32
  let c1_i32_72 : BitVec 32 := 1#32
  let c1_i32_73 : BitVec 32 := 1#32
  let arg13 : BitVec 32 := Scf.iv c1_i32_72 c1_i32_73 k0_t10
  let v228 : BitVec 32 := Scalar.muli c2_i32_90 arg13
  let c1_i32_91 : BitVec 32 := 1#32
  let v229 : BitVec 32 := Scalar.addi v228 c1_i32_91
  let c128_i32_94 : BitVec 32 := 128#32
  let v238 : BitVec 32 := Scalar.muli v229 c128_i32_94
  v238
def k0_mult29 (k0_t10 : Fin k0_t10_loop.trips) : BitVec 32 :=
  let c1_i32_72 : BitVec 32 := 1#32
  let c1_i32_73 : BitVec 32 := 1#32
  let arg13 : BitVec 32 := Scf.iv c1_i32_72 c1_i32_73 k0_t10
  let c256_i32_95 : BitVec 32 := 256#32
  let v246 : BitVec 32 := Scalar.muli arg13 c256_i32_95
  v246
def k0_off37 (v1_0 : BitVec 32) (k0_t6 : Fin (k0_t6_loop v1_0).trips) (k0_t9 : Fin k0_t9_loop.trips) (k0_t10 : Fin k0_t10_loop.trips) : Fin 3 → Nat :=
  let c0_i32_11 : BitVec 32 := 0#32
  let c1_i32_13 : BitVec 32 := 1#32
  let arg11 : BitVec 32 := Scf.iv c0_i32_11 c1_i32_13 k0_t6
  let c5_i32_16 : BitVec 32 := 5#32
  let v17 : BitVec 32 := Scalar.remsi arg11 c5_i32_16
  let v248 : Index := Scalar.indexCast v17
  let c0_i32_47 : BitVec 32 := 0#32
  let c1_i32_48 : BitVec 32 := 1#32
  let arg12 : BitVec 32 := Scf.iv c0_i32_47 c1_i32_48 k0_t9
  let c256_i32_54 : BitVec 32 := 256#32
  let v102 : BitVec 32 := Scalar.muli arg12 c256_i32_54
  let v103 : BitVec 32 := v102
  let v249 : Index := Scalar.indexCast v103
  let c1_i32_72 : BitVec 32 := 1#32
  let c1_i32_73 : BitVec 32 := 1#32
  let arg13 : BitVec 32 := Scf.iv c1_i32_72 c1_i32_73 k0_t10
  let c256_i32_95 : BitVec 32 := 256#32
  let v246 : BitVec 32 := Scalar.muli arg13 c256_i32_95
  let v247 : BitVec 32 := v246
  let v250 : Index := Scalar.indexCast v247
  ![v248.toNat, v249.toNat, v250.toNat]
def k0_off38 (v14 : BitVec 32) (k0_t9 : Fin k0_t9_loop.trips) : Fin 2 → Nat :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c96_i32 : BitVec 32 := 96#32
  let v80 : BitVec 32 := Scalar.minsi v79 c96_i32
  let v81 : BitVec 32 := v80
  let v167 : Index := Scalar.indexCast v81
  let c0_i32_47 : BitVec 32 := 0#32
  let c1_i32_48 : BitVec 32 := 1#32
  let arg12 : BitVec 32 := Scf.iv c0_i32_47 c1_i32_48 k0_t9
  let c256_i32_54 : BitVec 32 := 256#32
  let v102 : BitVec 32 := Scalar.muli arg12 c256_i32_54
  let v103 : BitVec 32 := v102
  let v168 : Index := Scalar.indexCast v103
  ![v167.toNat, v168.toNat]
def k0_mult30 (v14 : BitVec 32) : BitVec 32 :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c64_i32 : BitVec 32 := 64#32
  let v80 : BitVec 32 := Scalar.minsi v79 c64_i32
  v80
def k0_cond4 (v14 : BitVec 32) (v16 : BitVec 32) : BitVec 1 :=
  let c16_i32_24 : BitVec 32 := 16#32
  let v35 : BitVec 32 := Scalar.addi v16 c16_i32_24
  let c1_i32_25 : BitVec 32 := 1#32
  let v36 : BitVec 32 := Scalar.subi v35 c1_i32_25
  let c0_i32_27 : BitVec 32 := 0#32
  let v38 : BitVec 1 := Scalar.cmpi .sgt v36 c0_i32_27
  let v39 : BitVec 32 := Scalar.extui v38
  let c0_i32_28 : BitVec 32 := 0#32
  let v40 : BitVec 1 := Scalar.cmpi .slt v36 c0_i32_28
  let v41 : BitVec 32 := Scalar.extui v40
  let v42 : BitVec 32 := Scalar.subi v39 v41
  let c16_i32_26 : BitVec 32 := 16#32
  let c0_i32_29 : BitVec 32 := 0#32
  let v43 : BitVec 1 := Scalar.cmpi .sgt c16_i32_26 c0_i32_29
  let v44 : BitVec 32 := Scalar.extui v43
  let c0_i32_30 : BitVec 32 := 0#32
  let v45 : BitVec 1 := Scalar.cmpi .slt c16_i32_26 c0_i32_30
  let v46 : BitVec 32 := Scalar.extui v45
  let v47 : BitVec 32 := Scalar.subi v44 v46
  let v48 : BitVec 1 := Scalar.cmpi .ne v42 v47
  let v49 : BitVec 32 := Scalar.remsi v36 c16_i32_26
  let c0_i32_31 : BitVec 32 := 0#32
  let v50 : BitVec 1 := Scalar.cmpi .ne v49 c0_i32_31
  let v51 : BitVec 1 := Scalar.andi v48 v50
  let v37 : BitVec 32 := Scalar.divsi v36 c16_i32_26
  let c1_i32_32 : BitVec 32 := 1#32
  let v52 : BitVec 32 := Scalar.subi v37 c1_i32_32
  let v53 : BitVec 32 := Scalar.select v51 v52 v37
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let v54 : BitVec 32 := Scalar.subi v53 v34
  let c2_i32_38 : BitVec 32 := 2#32
  let v65 : BitVec 1 := Scalar.cmpi .sgt v54 c2_i32_38
  let c4_i32 : BitVec 32 := 4#32
  let v66 : BitVec 1 := Scalar.cmpi .sle v54 c4_i32
  let v67 : BitVec 1 := Scalar.andi v65 v66
  let v68 : BitVec 32 := Scalar.extui v67
  let c0_i32_39 : BitVec 32 := 0#32
  let v69 : BitVec 1 := Scalar.cmpi .ne v68 c0_i32_39
  v69

@[reducible] def k0_t11_loop : Scf.Loop 32 :=
  let c0_i32_47 : BitVec 32 := 0#32
  let c6_i32 : BitVec 32 := 6#32
  let v90 : BitVec 32 := Scalar.addi c0_i32_47 c6_i32
  let c1_i32_48 : BitVec 32 := 1#32
  ⟨c0_i32_47, v90, c1_i32_48⟩
def k0_mult31 (k0_t11 : Fin k0_t11_loop.trips) : BitVec 32 :=
  let c0_i32_47 : BitVec 32 := 0#32
  let c1_i32_48 : BitVec 32 := 1#32
  let arg12 : BitVec 32 := Scf.iv c0_i32_47 c1_i32_48 k0_t11
  let c256_i32 : BitVec 32 := 256#32
  let v92 : BitVec 32 := Scalar.muli arg12 c256_i32
  v92
def k0_off39 (v1_0 : BitVec 32) (k0_t6 : Fin (k0_t6_loop v1_0).trips) : Fin 2 → Nat :=
  let c0_51 : Index := 0#32
  let c0_i32_11 : BitVec 32 := 0#32
  let c1_i32_13 : BitVec 32 := 1#32
  let arg11 : BitVec 32 := Scf.iv c0_i32_11 c1_i32_13 k0_t6
  let v94 : Index := Scalar.indexCast arg11
  ![0, v94.toNat]
def k0_off40 (v1_0 : BitVec 32) (k0_t6 : Fin (k0_t6_loop v1_0).trips) (k0_t11 : Fin k0_t11_loop.trips) : Fin 2 → Nat :=
  let c0_i32_11 : BitVec 32 := 0#32
  let c1_i32_13 : BitVec 32 := 1#32
  let arg11 : BitVec 32 := Scf.iv c0_i32_11 c1_i32_13 k0_t6
  let c5_i32_50 : BitVec 32 := 5#32
  let v91 : BitVec 32 := Scalar.remsi arg11 c5_i32_50
  let c0_i32_47 : BitVec 32 := 0#32
  let c1_i32_48 : BitVec 32 := 1#32
  let arg12 : BitVec 32 := Scf.iv c0_i32_47 c1_i32_48 k0_t11
  ![v91.toNat, arg12.toNat]
def k0_off41 (v1_0 : BitVec 32) (k0_t6 : Fin (k0_t6_loop v1_0).trips) (k0_t11 : Fin k0_t11_loop.trips) : Fin 3 → Nat :=
  let c0_i32_11 : BitVec 32 := 0#32
  let c1_i32_13 : BitVec 32 := 1#32
  let arg11 : BitVec 32 := Scf.iv c0_i32_11 c1_i32_13 k0_t6
  let c5_i32_50 : BitVec 32 := 5#32
  let v91 : BitVec 32 := Scalar.remsi arg11 c5_i32_50
  let c0_i32_47 : BitVec 32 := 0#32
  let c1_i32_48 : BitVec 32 := 1#32
  let arg12 : BitVec 32 := Scf.iv c0_i32_47 c1_i32_48 k0_t11
  let c256_i32 : BitVec 32 := 256#32
  let v92 : BitVec 32 := Scalar.muli arg12 c256_i32
  let v93 : BitVec 32 := v92
  let c0_i32_52 : BitVec 32 := 0#32
  ![v91.toNat, v93.toNat, 0]
def k0_off42 (k0_t11 : Fin k0_t11_loop.trips) (v95 : BitVec 32) : Fin 3 → Nat :=
  let c0_i32_47 : BitVec 32 := 0#32
  let c1_i32_48 : BitVec 32 := 1#32
  let arg12 : BitVec 32 := Scf.iv c0_i32_47 c1_i32_48 k0_t11
  let c256_i32 : BitVec 32 := 256#32
  let v92 : BitVec 32 := Scalar.muli arg12 c256_i32
  let v93 : BitVec 32 := v92
  let c0_i32_53 : BitVec 32 := 0#32
  ![v95.toNat, v93.toNat, 0]

def k0_chk7 (v14 : BitVec 32) (v16 : BitVec 32) (k0_t11 : Fin k0_t11_loop.trips) (v95 : BitVec 32) : Prop :=
  (∀ (k0_h4 : k0_cond4 v14 v16 = 1#1), ∀ a, (k0_off42 k0_t11 v95) a + S1x256x5120.size a ≤ S16x1536x5120.size a) ∧
  (∀ (k0_h4 : k0_cond4 v14 v16 = 1#1), ∀ (hinb : ∀ a, (k0_off42 k0_t11 v95) a + S1x256x5120.size a ≤ S16x1536x5120.size a), (Rect.unit (s := S16x1536x5120) (k0_off42 k0_t11 v95) S1x256x5120.size hinb).WholeWords (EltTy.packing .fp8e4m3))
theorem k0_off42_inb : ∀ (v14 : BitVec 32) (v16 : BitVec 32) (k0_t11 : Fin k0_t11_loop.trips) (v95 : BitVec 32) (k0_hw7 : k0_chk7 v14 v16 k0_t11 v95), ∀ (k0_h4 : k0_cond4 v14 v16 = 1#1), ∀ a, (k0_off42 k0_t11 v95) a + S1x256x5120.size a ≤ S16x1536x5120.size a := fun v14 v16 k0_t11 v95 k0_hw7 k0_h4 => k0_hw7.1 k0_h4
theorem k0_off42_wordsfp8e4m3 : ∀ (v14 : BitVec 32) (v16 : BitVec 32) (k0_t11 : Fin k0_t11_loop.trips) (v95 : BitVec 32) (k0_hw7 : k0_chk7 v14 v16 k0_t11 v95), ∀ (k0_h4 : k0_cond4 v14 v16 = 1#1), (Rect.unit (s := S16x1536x5120) (k0_off42 k0_t11 v95) S1x256x5120.size (k0_off42_inb v14 v16 k0_t11 v95 k0_hw7 k0_h4)).WholeWords (EltTy.packing .fp8e4m3) := fun v14 v16 k0_t11 v95 k0_hw7 k0_h4 => k0_hw7.2 k0_h4 (k0_off42_inb v14 v16 k0_t11 v95 k0_hw7 k0_h4)

def k0_mult32 (k0_t11 : Fin k0_t11_loop.trips) : BitVec 32 :=
  let c0_i32_47 : BitVec 32 := 0#32
  let c1_i32_48 : BitVec 32 := 1#32
  let arg12 : BitVec 32 := Scf.iv c0_i32_47 c1_i32_48 k0_t11
  let c256_i32_54 : BitVec 32 := 256#32
  let v102 : BitVec 32 := Scalar.muli arg12 c256_i32_54
  v102
def k0_off43 (v12 : BitVec 32) (k0_t11 : Fin k0_t11_loop.trips) (c0_i32_56 : BitVec 32) : Fin 3 → Nat :=
  let v106 : Index := Scalar.indexCast v12
  let c2_i32_55 : BitVec 32 := 2#32
  let c0_i32_47 : BitVec 32 := 0#32
  let c1_i32_48 : BitVec 32 := 1#32
  let arg12 : BitVec 32 := Scf.iv c0_i32_47 c1_i32_48 k0_t11
  let v104 : BitVec 32 := Scalar.muli c2_i32_55 arg12
  let v105 : BitVec 32 := Scalar.addi v104 c0_i32_56
  let v107 : Index := Scalar.indexCast v105
  let c0_57 : Index := 0#32
  ![v106.toNat, v107.toNat, 0]
def k0_mult33 : BitVec 32 :=
  let c0_i32_58 : BitVec 32 := 0#32
  c0_i32_58
def k0_off44 (v14 : BitVec 32) : Fin 2 → Nat :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c64_i32 : BitVec 32 := 64#32
  let v80 : BitVec 32 := Scalar.minsi v79 c64_i32
  let v81 : BitVec 32 := v80
  let v112 : Index := Scalar.indexCast v81
  let c0_i32_58 : BitVec 32 := 0#32
  let v111 : BitVec 32 := c0_i32_58
  let v113 : Index := Scalar.indexCast v111
  ![v112.toNat, 0]
def k0_off45 (v12 : BitVec 32) (k0_t11 : Fin k0_t11_loop.trips) (c0_i32_60 : BitVec 32) : Fin 3 → Nat :=
  let v118 : Index := Scalar.indexCast v12
  let c2_i32_59 : BitVec 32 := 2#32
  let c0_i32_47 : BitVec 32 := 0#32
  let c1_i32_48 : BitVec 32 := 1#32
  let arg12 : BitVec 32 := Scf.iv c0_i32_47 c1_i32_48 k0_t11
  let v116 : BitVec 32 := Scalar.muli c2_i32_59 arg12
  let v117 : BitVec 32 := Scalar.addi v116 c0_i32_60
  let v119 : Index := Scalar.indexCast v117
  let c1_61 : Index := 1#32
  ![v118.toNat, v119.toNat, 1]
def k0_mult34 : BitVec 32 :=
  let c128_i32 : BitVec 32 := 128#32
  c128_i32
def k0_off46 (v14 : BitVec 32) : Fin 2 → Nat :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c64_i32 : BitVec 32 := 64#32
  let v80 : BitVec 32 := Scalar.minsi v79 c64_i32
  let v81 : BitVec 32 := v80
  let v124 : Index := Scalar.indexCast v81
  let c128_i32 : BitVec 32 := 128#32
  let v123 : BitVec 32 := c128_i32
  let v125 : Index := Scalar.indexCast v123
  ![v124.toNat, 128]
def k0_mult35 : BitVec 32 :=
  let c0_i32_65 : BitVec 32 := 0#32
  c0_i32_65
def k0_mult36 : BitVec 32 :=
  let c128_i32_69 : BitVec 32 := 128#32
  c128_i32_69
def k0_mult37 : BitVec 32 :=
  let c0_i32_70 : BitVec 32 := 0#32
  c0_i32_70
def k0_off47 (v1_0 : BitVec 32) (k0_t6 : Fin (k0_t6_loop v1_0).trips) (k0_t11 : Fin k0_t11_loop.trips) : Fin 3 → Nat :=
  let c0_i32_11 : BitVec 32 := 0#32
  let c1_i32_13 : BitVec 32 := 1#32
  let arg11 : BitVec 32 := Scf.iv c0_i32_11 c1_i32_13 k0_t6
  let c5_i32_16 : BitVec 32 := 5#32
  let v17 : BitVec 32 := Scalar.remsi arg11 c5_i32_16
  let v156 : Index := Scalar.indexCast v17
  let c0_i32_47 : BitVec 32 := 0#32
  let c1_i32_48 : BitVec 32 := 1#32
  let arg12 : BitVec 32 := Scf.iv c0_i32_47 c1_i32_48 k0_t11
  let c256_i32_54 : BitVec 32 := 256#32
  let v102 : BitVec 32 := Scalar.muli arg12 c256_i32_54
  let v103 : BitVec 32 := v102
  let v157 : Index := Scalar.indexCast v103
  let c0_i32_70 : BitVec 32 := 0#32
  let v155 : BitVec 32 := c0_i32_70
  let v158 : Index := Scalar.indexCast v155
  ![v156.toNat, v157.toNat, 0]
@[reducible] def k0_t12_loop : Scf.Loop 32 :=
  let c1_i32_72 : BitVec 32 := 1#32
  let c19_i32 : BitVec 32 := 19#32
  let v162 : BitVec 32 := Scalar.addi c1_i32_72 c19_i32
  let c1_i32_73 : BitVec 32 := 1#32
  ⟨c1_i32_72, v162, c1_i32_73⟩
def k0_off48 (v12 : BitVec 32) (k0_t11 : Fin k0_t11_loop.trips) (k0_t12 : Fin k0_t12_loop.trips) (c0_i32_78 : BitVec 32) (c0_i32_76 : BitVec 32) : Fin 3 → Nat :=
  let v183 : Index := Scalar.indexCast v12
  let c2_i32_77 : BitVec 32 := 2#32
  let c0_i32_47 : BitVec 32 := 0#32
  let c1_i32_48 : BitVec 32 := 1#32
  let arg12 : BitVec 32 := Scf.iv c0_i32_47 c1_i32_48 k0_t11
  let v181 : BitVec 32 := Scalar.muli c2_i32_77 arg12
  let v182 : BitVec 32 := Scalar.addi v181 c0_i32_78
  let v184 : Index := Scalar.indexCast v182
  let c2_i32_75 : BitVec 32 := 2#32
  let c1_i32_72 : BitVec 32 := 1#32
  let c1_i32_73 : BitVec 32 := 1#32
  let arg13 : BitVec 32 := Scf.iv c1_i32_72 c1_i32_73 k0_t12
  let v179 : BitVec 32 := Scalar.muli c2_i32_75 arg13
  let v180 : BitVec 32 := Scalar.addi v179 c0_i32_76
  let v185 : Index := Scalar.indexCast v180
  ![v183.toNat, v184.toNat, v185.toNat]
def k0_mult38 (k0_t12 : Fin k0_t12_loop.trips) : BitVec 32 :=
  let c2_i32_75 : BitVec 32 := 2#32
  let c1_i32_72 : BitVec 32 := 1#32
  let c1_i32_73 : BitVec 32 := 1#32
  let arg13 : BitVec 32 := Scf.iv c1_i32_72 c1_i32_73 k0_t12
  let v179 : BitVec 32 := Scalar.muli c2_i32_75 arg13
  let c0_i32_76 : BitVec 32 := 0#32
  let v180 : BitVec 32 := Scalar.addi v179 c0_i32_76
  let c128_i32_79 : BitVec 32 := 128#32
  let v189 : BitVec 32 := Scalar.muli v180 c128_i32_79
  v189
def k0_off49 (v14 : BitVec 32) (k0_t12 : Fin k0_t12_loop.trips) (c0_i32_76 : BitVec 32) : Fin 2 → Nat :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c64_i32 : BitVec 32 := 64#32
  let v80 : BitVec 32 := Scalar.minsi v79 c64_i32
  let v81 : BitVec 32 := v80
  let v191 : Index := Scalar.indexCast v81
  let c2_i32_75 : BitVec 32 := 2#32
  let c1_i32_72 : BitVec 32 := 1#32
  let c1_i32_73 : BitVec 32 := 1#32
  let arg13 : BitVec 32 := Scf.iv c1_i32_72 c1_i32_73 k0_t12
  let v179 : BitVec 32 := Scalar.muli c2_i32_75 arg13
  let v180 : BitVec 32 := Scalar.addi v179 c0_i32_76
  let c128_i32_79 : BitVec 32 := 128#32
  let v189 : BitVec 32 := Scalar.muli v180 c128_i32_79
  let v190 : BitVec 32 := v189
  let v192 : Index := Scalar.indexCast v190
  ![v191.toNat, v192.toNat]
def k0_mult39 (k0_t12 : Fin k0_t12_loop.trips) : BitVec 32 :=
  let c2_i32_80 : BitVec 32 := 2#32
  let c1_i32_72 : BitVec 32 := 1#32
  let c1_i32_73 : BitVec 32 := 1#32
  let arg13 : BitVec 32 := Scf.iv c1_i32_72 c1_i32_73 k0_t12
  let v195 : BitVec 32 := Scalar.muli c2_i32_80 arg13
  let c1_i32_81 : BitVec 32 := 1#32
  let v196 : BitVec 32 := Scalar.addi v195 c1_i32_81
  let c128_i32_84 : BitVec 32 := 128#32
  let v205 : BitVec 32 := Scalar.muli v196 c128_i32_84
  v205
def k0_mult40 (k0_t12 : Fin k0_t12_loop.trips) : BitVec 32 :=
  let c2_i32_85 : BitVec 32 := 2#32
  let c1_i32_72 : BitVec 32 := 1#32
  let c1_i32_73 : BitVec 32 := 1#32
  let arg13 : BitVec 32 := Scf.iv c1_i32_72 c1_i32_73 k0_t12
  let v212 : BitVec 32 := Scalar.muli c2_i32_85 arg13
  let c0_i32_86 : BitVec 32 := 0#32
  let v213 : BitVec 32 := Scalar.addi v212 c0_i32_86
  let c128_i32_89 : BitVec 32 := 128#32
  let v222 : BitVec 32 := Scalar.muli v213 c128_i32_89
  v222
def k0_mult41 (k0_t12 : Fin k0_t12_loop.trips) : BitVec 32 :=
  let c2_i32_90 : BitVec 32 := 2#32
  let c1_i32_72 : BitVec 32 := 1#32
  let c1_i32_73 : BitVec 32 := 1#32
  let arg13 : BitVec 32 := Scf.iv c1_i32_72 c1_i32_73 k0_t12
  let v228 : BitVec 32 := Scalar.muli c2_i32_90 arg13
  let c1_i32_91 : BitVec 32 := 1#32
  let v229 : BitVec 32 := Scalar.addi v228 c1_i32_91
  let c128_i32_94 : BitVec 32 := 128#32
  let v238 : BitVec 32 := Scalar.muli v229 c128_i32_94
  v238
def k0_mult42 (k0_t12 : Fin k0_t12_loop.trips) : BitVec 32 :=
  let c1_i32_72 : BitVec 32 := 1#32
  let c1_i32_73 : BitVec 32 := 1#32
  let arg13 : BitVec 32 := Scf.iv c1_i32_72 c1_i32_73 k0_t12
  let c256_i32_95 : BitVec 32 := 256#32
  let v246 : BitVec 32 := Scalar.muli arg13 c256_i32_95
  v246
def k0_off50 (v1_0 : BitVec 32) (k0_t6 : Fin (k0_t6_loop v1_0).trips) (k0_t11 : Fin k0_t11_loop.trips) (k0_t12 : Fin k0_t12_loop.trips) : Fin 3 → Nat :=
  let c0_i32_11 : BitVec 32 := 0#32
  let c1_i32_13 : BitVec 32 := 1#32
  let arg11 : BitVec 32 := Scf.iv c0_i32_11 c1_i32_13 k0_t6
  let c5_i32_16 : BitVec 32 := 5#32
  let v17 : BitVec 32 := Scalar.remsi arg11 c5_i32_16
  let v248 : Index := Scalar.indexCast v17
  let c0_i32_47 : BitVec 32 := 0#32
  let c1_i32_48 : BitVec 32 := 1#32
  let arg12 : BitVec 32 := Scf.iv c0_i32_47 c1_i32_48 k0_t11
  let c256_i32_54 : BitVec 32 := 256#32
  let v102 : BitVec 32 := Scalar.muli arg12 c256_i32_54
  let v103 : BitVec 32 := v102
  let v249 : Index := Scalar.indexCast v103
  let c1_i32_72 : BitVec 32 := 1#32
  let c1_i32_73 : BitVec 32 := 1#32
  let arg13 : BitVec 32 := Scf.iv c1_i32_72 c1_i32_73 k0_t12
  let c256_i32_95 : BitVec 32 := 256#32
  let v246 : BitVec 32 := Scalar.muli arg13 c256_i32_95
  let v247 : BitVec 32 := v246
  let v250 : Index := Scalar.indexCast v247
  ![v248.toNat, v249.toNat, v250.toNat]
def k0_off51 (v14 : BitVec 32) (k0_t11 : Fin k0_t11_loop.trips) : Fin 2 → Nat :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c64_i32 : BitVec 32 := 64#32
  let v80 : BitVec 32 := Scalar.minsi v79 c64_i32
  let v81 : BitVec 32 := v80
  let v167 : Index := Scalar.indexCast v81
  let c0_i32_47 : BitVec 32 := 0#32
  let c1_i32_48 : BitVec 32 := 1#32
  let arg12 : BitVec 32 := Scf.iv c0_i32_47 c1_i32_48 k0_t11
  let c256_i32_54 : BitVec 32 := 256#32
  let v102 : BitVec 32 := Scalar.muli arg12 c256_i32_54
  let v103 : BitVec 32 := v102
  let v168 : Index := Scalar.indexCast v103
  ![v167.toNat, v168.toNat]
def k0_mult43 (v14 : BitVec 32) : BitVec 32 :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c0_i32_46 : BitVec 32 := 0#32
  let v80 : BitVec 32 := Scalar.minsi v79 c0_i32_46
  v80
def k0_cond5 (v14 : BitVec 32) (v16 : BitVec 32) : BitVec 1 :=
  let c16_i32_24 : BitVec 32 := 16#32
  let v35 : BitVec 32 := Scalar.addi v16 c16_i32_24
  let c1_i32_25 : BitVec 32 := 1#32
  let v36 : BitVec 32 := Scalar.subi v35 c1_i32_25
  let c0_i32_27 : BitVec 32 := 0#32
  let v38 : BitVec 1 := Scalar.cmpi .sgt v36 c0_i32_27
  let v39 : BitVec 32 := Scalar.extui v38
  let c0_i32_28 : BitVec 32 := 0#32
  let v40 : BitVec 1 := Scalar.cmpi .slt v36 c0_i32_28
  let v41 : BitVec 32 := Scalar.extui v40
  let v42 : BitVec 32 := Scalar.subi v39 v41
  let c16_i32_26 : BitVec 32 := 16#32
  let c0_i32_29 : BitVec 32 := 0#32
  let v43 : BitVec 1 := Scalar.cmpi .sgt c16_i32_26 c0_i32_29
  let v44 : BitVec 32 := Scalar.extui v43
  let c0_i32_30 : BitVec 32 := 0#32
  let v45 : BitVec 1 := Scalar.cmpi .slt c16_i32_26 c0_i32_30
  let v46 : BitVec 32 := Scalar.extui v45
  let v47 : BitVec 32 := Scalar.subi v44 v46
  let v48 : BitVec 1 := Scalar.cmpi .ne v42 v47
  let v49 : BitVec 32 := Scalar.remsi v36 c16_i32_26
  let c0_i32_31 : BitVec 32 := 0#32
  let v50 : BitVec 1 := Scalar.cmpi .ne v49 c0_i32_31
  let v51 : BitVec 1 := Scalar.andi v48 v50
  let v37 : BitVec 32 := Scalar.divsi v36 c16_i32_26
  let c1_i32_32 : BitVec 32 := 1#32
  let v52 : BitVec 32 := Scalar.subi v37 c1_i32_32
  let v53 : BitVec 32 := Scalar.select v51 v52 v37
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let v54 : BitVec 32 := Scalar.subi v53 v34
  let c4_i32_40 : BitVec 32 := 4#32
  let v70 : BitVec 1 := Scalar.cmpi .sgt v54 c4_i32_40
  let c8_i32_41 : BitVec 32 := 8#32
  let v71 : BitVec 1 := Scalar.cmpi .sle v54 c8_i32_41
  let v72 : BitVec 1 := Scalar.andi v70 v71
  let v73 : BitVec 32 := Scalar.extui v72
  let c0_i32_42 : BitVec 32 := 0#32
  let v74 : BitVec 1 := Scalar.cmpi .ne v73 c0_i32_42
  v74

@[reducible] def k0_t13_loop : Scf.Loop 32 :=
  let c0_i32_48 : BitVec 32 := 0#32
  let c6_i32 : BitVec 32 := 6#32
  let v90 : BitVec 32 := Scalar.addi c0_i32_48 c6_i32
  let c1_i32_49 : BitVec 32 := 1#32
  ⟨c0_i32_48, v90, c1_i32_49⟩
def k0_mult44 (k0_t13 : Fin k0_t13_loop.trips) : BitVec 32 :=
  let c0_i32_48 : BitVec 32 := 0#32
  let c1_i32_49 : BitVec 32 := 1#32
  let arg12 : BitVec 32 := Scf.iv c0_i32_48 c1_i32_49 k0_t13
  let c256_i32 : BitVec 32 := 256#32
  let v92 : BitVec 32 := Scalar.muli arg12 c256_i32
  v92
def k0_off52 (v1_0 : BitVec 32) (k0_t6 : Fin (k0_t6_loop v1_0).trips) : Fin 2 → Nat :=
  let c0_52 : Index := 0#32
  let c0_i32_11 : BitVec 32 := 0#32
  let c1_i32_13 : BitVec 32 := 1#32
  let arg11 : BitVec 32 := Scf.iv c0_i32_11 c1_i32_13 k0_t6
  let v94 : Index := Scalar.indexCast arg11
  ![0, v94.toNat]
def k0_off53 (v1_0 : BitVec 32) (k0_t6 : Fin (k0_t6_loop v1_0).trips) (k0_t13 : Fin k0_t13_loop.trips) : Fin 2 → Nat :=
  let c0_i32_11 : BitVec 32 := 0#32
  let c1_i32_13 : BitVec 32 := 1#32
  let arg11 : BitVec 32 := Scf.iv c0_i32_11 c1_i32_13 k0_t6
  let c5_i32_51 : BitVec 32 := 5#32
  let v91 : BitVec 32 := Scalar.remsi arg11 c5_i32_51
  let c0_i32_48 : BitVec 32 := 0#32
  let c1_i32_49 : BitVec 32 := 1#32
  let arg12 : BitVec 32 := Scf.iv c0_i32_48 c1_i32_49 k0_t13
  ![v91.toNat, arg12.toNat]
def k0_off54 (v1_0 : BitVec 32) (k0_t6 : Fin (k0_t6_loop v1_0).trips) (k0_t13 : Fin k0_t13_loop.trips) : Fin 3 → Nat :=
  let c0_i32_11 : BitVec 32 := 0#32
  let c1_i32_13 : BitVec 32 := 1#32
  let arg11 : BitVec 32 := Scf.iv c0_i32_11 c1_i32_13 k0_t6
  let c5_i32_51 : BitVec 32 := 5#32
  let v91 : BitVec 32 := Scalar.remsi arg11 c5_i32_51
  let c0_i32_48 : BitVec 32 := 0#32
  let c1_i32_49 : BitVec 32 := 1#32
  let arg12 : BitVec 32 := Scf.iv c0_i32_48 c1_i32_49 k0_t13
  let c256_i32 : BitVec 32 := 256#32
  let v92 : BitVec 32 := Scalar.muli arg12 c256_i32
  let v93 : BitVec 32 := v92
  let c0_i32_53 : BitVec 32 := 0#32
  ![v91.toNat, v93.toNat, 0]
def k0_off55 (k0_t13 : Fin k0_t13_loop.trips) (v95 : BitVec 32) : Fin 3 → Nat :=
  let c0_i32_48 : BitVec 32 := 0#32
  let c1_i32_49 : BitVec 32 := 1#32
  let arg12 : BitVec 32 := Scf.iv c0_i32_48 c1_i32_49 k0_t13
  let c256_i32 : BitVec 32 := 256#32
  let v92 : BitVec 32 := Scalar.muli arg12 c256_i32
  let v93 : BitVec 32 := v92
  let c0_i32_54 : BitVec 32 := 0#32
  ![v95.toNat, v93.toNat, 0]

def k0_chk8 (v14 : BitVec 32) (v16 : BitVec 32) (k0_t13 : Fin k0_t13_loop.trips) (v95 : BitVec 32) : Prop :=
  (∀ (k0_h5 : k0_cond5 v14 v16 = 1#1), ∀ a, (k0_off55 k0_t13 v95) a + S1x256x5120.size a ≤ S16x1536x5120.size a) ∧
  (∀ (k0_h5 : k0_cond5 v14 v16 = 1#1), ∀ (hinb : ∀ a, (k0_off55 k0_t13 v95) a + S1x256x5120.size a ≤ S16x1536x5120.size a), (Rect.unit (s := S16x1536x5120) (k0_off55 k0_t13 v95) S1x256x5120.size hinb).WholeWords (EltTy.packing .fp8e4m3))
theorem k0_off55_inb : ∀ (v14 : BitVec 32) (v16 : BitVec 32) (k0_t13 : Fin k0_t13_loop.trips) (v95 : BitVec 32) (k0_hw8 : k0_chk8 v14 v16 k0_t13 v95), ∀ (k0_h5 : k0_cond5 v14 v16 = 1#1), ∀ a, (k0_off55 k0_t13 v95) a + S1x256x5120.size a ≤ S16x1536x5120.size a := fun v14 v16 k0_t13 v95 k0_hw8 k0_h5 => k0_hw8.1 k0_h5
theorem k0_off55_wordsfp8e4m3 : ∀ (v14 : BitVec 32) (v16 : BitVec 32) (k0_t13 : Fin k0_t13_loop.trips) (v95 : BitVec 32) (k0_hw8 : k0_chk8 v14 v16 k0_t13 v95), ∀ (k0_h5 : k0_cond5 v14 v16 = 1#1), (Rect.unit (s := S16x1536x5120) (k0_off55 k0_t13 v95) S1x256x5120.size (k0_off55_inb v14 v16 k0_t13 v95 k0_hw8 k0_h5)).WholeWords (EltTy.packing .fp8e4m3) := fun v14 v16 k0_t13 v95 k0_hw8 k0_h5 => k0_hw8.2 k0_h5 (k0_off55_inb v14 v16 k0_t13 v95 k0_hw8 k0_h5)

def k0_mult45 (k0_t13 : Fin k0_t13_loop.trips) : BitVec 32 :=
  let c0_i32_48 : BitVec 32 := 0#32
  let c1_i32_49 : BitVec 32 := 1#32
  let arg12 : BitVec 32 := Scf.iv c0_i32_48 c1_i32_49 k0_t13
  let c256_i32_55 : BitVec 32 := 256#32
  let v102 : BitVec 32 := Scalar.muli arg12 c256_i32_55
  v102
def k0_off56 (v12 : BitVec 32) (k0_t13 : Fin k0_t13_loop.trips) (c0_i32_57 : BitVec 32) : Fin 3 → Nat :=
  let v106 : Index := Scalar.indexCast v12
  let c2_i32_56 : BitVec 32 := 2#32
  let c0_i32_48 : BitVec 32 := 0#32
  let c1_i32_49 : BitVec 32 := 1#32
  let arg12 : BitVec 32 := Scf.iv c0_i32_48 c1_i32_49 k0_t13
  let v104 : BitVec 32 := Scalar.muli c2_i32_56 arg12
  let v105 : BitVec 32 := Scalar.addi v104 c0_i32_57
  let v107 : Index := Scalar.indexCast v105
  let c0_58 : Index := 0#32
  ![v106.toNat, v107.toNat, 0]
def k0_mult46 : BitVec 32 :=
  let c0_i32_59 : BitVec 32 := 0#32
  c0_i32_59
def k0_off57 (v14 : BitVec 32) : Fin 2 → Nat :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c0_i32_46 : BitVec 32 := 0#32
  let v80 : BitVec 32 := Scalar.minsi v79 c0_i32_46
  let v81 : BitVec 32 := v80
  let v112 : Index := Scalar.indexCast v81
  let c0_i32_59 : BitVec 32 := 0#32
  let v111 : BitVec 32 := c0_i32_59
  let v113 : Index := Scalar.indexCast v111
  ![v112.toNat, 0]
def k0_off58 (v12 : BitVec 32) (k0_t13 : Fin k0_t13_loop.trips) (c0_i32_61 : BitVec 32) : Fin 3 → Nat :=
  let v118 : Index := Scalar.indexCast v12
  let c2_i32_60 : BitVec 32 := 2#32
  let c0_i32_48 : BitVec 32 := 0#32
  let c1_i32_49 : BitVec 32 := 1#32
  let arg12 : BitVec 32 := Scf.iv c0_i32_48 c1_i32_49 k0_t13
  let v116 : BitVec 32 := Scalar.muli c2_i32_60 arg12
  let v117 : BitVec 32 := Scalar.addi v116 c0_i32_61
  let v119 : Index := Scalar.indexCast v117
  let c1_62 : Index := 1#32
  ![v118.toNat, v119.toNat, 1]
def k0_mult47 : BitVec 32 :=
  let c128_i32 : BitVec 32 := 128#32
  c128_i32
def k0_off59 (v14 : BitVec 32) : Fin 2 → Nat :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c0_i32_46 : BitVec 32 := 0#32
  let v80 : BitVec 32 := Scalar.minsi v79 c0_i32_46
  let v81 : BitVec 32 := v80
  let v124 : Index := Scalar.indexCast v81
  let c128_i32 : BitVec 32 := 128#32
  let v123 : BitVec 32 := c128_i32
  let v125 : Index := Scalar.indexCast v123
  ![v124.toNat, 128]
def k0_mult48 : BitVec 32 :=
  let c0_i32_66 : BitVec 32 := 0#32
  c0_i32_66
def k0_mult49 : BitVec 32 :=
  let c128_i32_70 : BitVec 32 := 128#32
  c128_i32_70
def k0_mult50 : BitVec 32 :=
  let c0_i32_71 : BitVec 32 := 0#32
  c0_i32_71
def k0_off60 (v1_0 : BitVec 32) (k0_t6 : Fin (k0_t6_loop v1_0).trips) (k0_t13 : Fin k0_t13_loop.trips) : Fin 3 → Nat :=
  let c0_i32_11 : BitVec 32 := 0#32
  let c1_i32_13 : BitVec 32 := 1#32
  let arg11 : BitVec 32 := Scf.iv c0_i32_11 c1_i32_13 k0_t6
  let c5_i32_16 : BitVec 32 := 5#32
  let v17 : BitVec 32 := Scalar.remsi arg11 c5_i32_16
  let v156 : Index := Scalar.indexCast v17
  let c0_i32_48 : BitVec 32 := 0#32
  let c1_i32_49 : BitVec 32 := 1#32
  let arg12 : BitVec 32 := Scf.iv c0_i32_48 c1_i32_49 k0_t13
  let c256_i32_55 : BitVec 32 := 256#32
  let v102 : BitVec 32 := Scalar.muli arg12 c256_i32_55
  let v103 : BitVec 32 := v102
  let v157 : Index := Scalar.indexCast v103
  let c0_i32_71 : BitVec 32 := 0#32
  let v155 : BitVec 32 := c0_i32_71
  let v158 : Index := Scalar.indexCast v155
  ![v156.toNat, v157.toNat, 0]
@[reducible] def k0_t14_loop : Scf.Loop 32 :=
  let c1_i32_73 : BitVec 32 := 1#32
  let c19_i32 : BitVec 32 := 19#32
  let v162 : BitVec 32 := Scalar.addi c1_i32_73 c19_i32
  let c1_i32_74 : BitVec 32 := 1#32
  ⟨c1_i32_73, v162, c1_i32_74⟩
def k0_off61 (v12 : BitVec 32) (k0_t13 : Fin k0_t13_loop.trips) (k0_t14 : Fin k0_t14_loop.trips) (c0_i32_79 : BitVec 32) (c0_i32_77 : BitVec 32) : Fin 3 → Nat :=
  let v183 : Index := Scalar.indexCast v12
  let c2_i32_78 : BitVec 32 := 2#32
  let c0_i32_48 : BitVec 32 := 0#32
  let c1_i32_49 : BitVec 32 := 1#32
  let arg12 : BitVec 32 := Scf.iv c0_i32_48 c1_i32_49 k0_t13
  let v181 : BitVec 32 := Scalar.muli c2_i32_78 arg12
  let v182 : BitVec 32 := Scalar.addi v181 c0_i32_79
  let v184 : Index := Scalar.indexCast v182
  let c2_i32_76 : BitVec 32 := 2#32
  let c1_i32_73 : BitVec 32 := 1#32
  let c1_i32_74 : BitVec 32 := 1#32
  let arg13 : BitVec 32 := Scf.iv c1_i32_73 c1_i32_74 k0_t14
  let v179 : BitVec 32 := Scalar.muli c2_i32_76 arg13
  let v180 : BitVec 32 := Scalar.addi v179 c0_i32_77
  let v185 : Index := Scalar.indexCast v180
  ![v183.toNat, v184.toNat, v185.toNat]
def k0_mult51 (k0_t14 : Fin k0_t14_loop.trips) : BitVec 32 :=
  let c2_i32_76 : BitVec 32 := 2#32
  let c1_i32_73 : BitVec 32 := 1#32
  let c1_i32_74 : BitVec 32 := 1#32
  let arg13 : BitVec 32 := Scf.iv c1_i32_73 c1_i32_74 k0_t14
  let v179 : BitVec 32 := Scalar.muli c2_i32_76 arg13
  let c0_i32_77 : BitVec 32 := 0#32
  let v180 : BitVec 32 := Scalar.addi v179 c0_i32_77
  let c128_i32_80 : BitVec 32 := 128#32
  let v189 : BitVec 32 := Scalar.muli v180 c128_i32_80
  v189
def k0_off62 (v14 : BitVec 32) (k0_t14 : Fin k0_t14_loop.trips) (c0_i32_77 : BitVec 32) : Fin 2 → Nat :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c0_i32_46 : BitVec 32 := 0#32
  let v80 : BitVec 32 := Scalar.minsi v79 c0_i32_46
  let v81 : BitVec 32 := v80
  let v191 : Index := Scalar.indexCast v81
  let c2_i32_76 : BitVec 32 := 2#32
  let c1_i32_73 : BitVec 32 := 1#32
  let c1_i32_74 : BitVec 32 := 1#32
  let arg13 : BitVec 32 := Scf.iv c1_i32_73 c1_i32_74 k0_t14
  let v179 : BitVec 32 := Scalar.muli c2_i32_76 arg13
  let v180 : BitVec 32 := Scalar.addi v179 c0_i32_77
  let c128_i32_80 : BitVec 32 := 128#32
  let v189 : BitVec 32 := Scalar.muli v180 c128_i32_80
  let v190 : BitVec 32 := v189
  let v192 : Index := Scalar.indexCast v190
  ![v191.toNat, v192.toNat]
def k0_mult52 (k0_t14 : Fin k0_t14_loop.trips) : BitVec 32 :=
  let c2_i32_81 : BitVec 32 := 2#32
  let c1_i32_73 : BitVec 32 := 1#32
  let c1_i32_74 : BitVec 32 := 1#32
  let arg13 : BitVec 32 := Scf.iv c1_i32_73 c1_i32_74 k0_t14
  let v195 : BitVec 32 := Scalar.muli c2_i32_81 arg13
  let c1_i32_82 : BitVec 32 := 1#32
  let v196 : BitVec 32 := Scalar.addi v195 c1_i32_82
  let c128_i32_85 : BitVec 32 := 128#32
  let v205 : BitVec 32 := Scalar.muli v196 c128_i32_85
  v205
def k0_mult53 (k0_t14 : Fin k0_t14_loop.trips) : BitVec 32 :=
  let c2_i32_86 : BitVec 32 := 2#32
  let c1_i32_73 : BitVec 32 := 1#32
  let c1_i32_74 : BitVec 32 := 1#32
  let arg13 : BitVec 32 := Scf.iv c1_i32_73 c1_i32_74 k0_t14
  let v212 : BitVec 32 := Scalar.muli c2_i32_86 arg13
  let c0_i32_87 : BitVec 32 := 0#32
  let v213 : BitVec 32 := Scalar.addi v212 c0_i32_87
  let c128_i32_90 : BitVec 32 := 128#32
  let v222 : BitVec 32 := Scalar.muli v213 c128_i32_90
  v222
def k0_mult54 (k0_t14 : Fin k0_t14_loop.trips) : BitVec 32 :=
  let c2_i32_91 : BitVec 32 := 2#32
  let c1_i32_73 : BitVec 32 := 1#32
  let c1_i32_74 : BitVec 32 := 1#32
  let arg13 : BitVec 32 := Scf.iv c1_i32_73 c1_i32_74 k0_t14
  let v228 : BitVec 32 := Scalar.muli c2_i32_91 arg13
  let c1_i32_92 : BitVec 32 := 1#32
  let v229 : BitVec 32 := Scalar.addi v228 c1_i32_92
  let c128_i32_95 : BitVec 32 := 128#32
  let v238 : BitVec 32 := Scalar.muli v229 c128_i32_95
  v238
def k0_mult55 (k0_t14 : Fin k0_t14_loop.trips) : BitVec 32 :=
  let c1_i32_73 : BitVec 32 := 1#32
  let c1_i32_74 : BitVec 32 := 1#32
  let arg13 : BitVec 32 := Scf.iv c1_i32_73 c1_i32_74 k0_t14
  let c256_i32_96 : BitVec 32 := 256#32
  let v246 : BitVec 32 := Scalar.muli arg13 c256_i32_96
  v246
def k0_off63 (v1_0 : BitVec 32) (k0_t6 : Fin (k0_t6_loop v1_0).trips) (k0_t13 : Fin k0_t13_loop.trips) (k0_t14 : Fin k0_t14_loop.trips) : Fin 3 → Nat :=
  let c0_i32_11 : BitVec 32 := 0#32
  let c1_i32_13 : BitVec 32 := 1#32
  let arg11 : BitVec 32 := Scf.iv c0_i32_11 c1_i32_13 k0_t6
  let c5_i32_16 : BitVec 32 := 5#32
  let v17 : BitVec 32 := Scalar.remsi arg11 c5_i32_16
  let v248 : Index := Scalar.indexCast v17
  let c0_i32_48 : BitVec 32 := 0#32
  let c1_i32_49 : BitVec 32 := 1#32
  let arg12 : BitVec 32 := Scf.iv c0_i32_48 c1_i32_49 k0_t13
  let c256_i32_55 : BitVec 32 := 256#32
  let v102 : BitVec 32 := Scalar.muli arg12 c256_i32_55
  let v103 : BitVec 32 := v102
  let v249 : Index := Scalar.indexCast v103
  let c1_i32_73 : BitVec 32 := 1#32
  let c1_i32_74 : BitVec 32 := 1#32
  let arg13 : BitVec 32 := Scf.iv c1_i32_73 c1_i32_74 k0_t14
  let c256_i32_96 : BitVec 32 := 256#32
  let v246 : BitVec 32 := Scalar.muli arg13 c256_i32_96
  let v247 : BitVec 32 := v246
  let v250 : Index := Scalar.indexCast v247
  ![v248.toNat, v249.toNat, v250.toNat]
def k0_off64 (v14 : BitVec 32) (k0_t13 : Fin k0_t13_loop.trips) : Fin 2 → Nat :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c0_i32_46 : BitVec 32 := 0#32
  let v80 : BitVec 32 := Scalar.minsi v79 c0_i32_46
  let v81 : BitVec 32 := v80
  let v167 : Index := Scalar.indexCast v81
  let c0_i32_48 : BitVec 32 := 0#32
  let c1_i32_49 : BitVec 32 := 1#32
  let arg12 : BitVec 32 := Scf.iv c0_i32_48 c1_i32_49 k0_t13
  let c256_i32_55 : BitVec 32 := 256#32
  let v102 : BitVec 32 := Scalar.muli arg12 c256_i32_55
  let v103 : BitVec 32 := v102
  let v168 : Index := Scalar.indexCast v103
  ![v167.toNat, v168.toNat]

def k0_chk4_0 (v1_0 : BitVec 32) (k0_t6 : Fin (k0_t6_loop v1_0).trips) (v12 : BitVec 32) (v14 : BitVec 32) (v16 : BitVec 32) : Prop :=
  (∀ (k0_h2 : k0_cond2 v14 v16 = 1#1), 16 ∣ (k0_mult4 v14).toNat) ∧
  (∀ (k0_h2 : k0_cond2 v14 v16 = 1#1), ∀ a, (k0_off13 v1_0 k0_t6) a + S1x1.size a ≤ S3x17.size a) ∧
  (∀ k0_t7 : Fin k0_t7_loop.trips, ∀ (k0_h2 : k0_cond2 v14 v16 = 1#1), ∀ a, (k0_off14 v1_0 k0_t6 k0_t7) a + S1x1.size a ≤ S5x6.size a) ∧
  (∀ k0_t7 : Fin k0_t7_loop.trips, ∀ (k0_h2 : k0_cond2 v14 v16 = 1#1), ∀ a, (k0_off15 v1_0 k0_t6 k0_t7) a + S1x256x5120.size a ≤ S5x1536x5120.size a) ∧
  (∀ k0_t7 : Fin k0_t7_loop.trips, ∀ (k0_h2 : k0_cond2 v14 v16 = 1#1), ∀ (hinb : ∀ a, (k0_off15 v1_0 k0_t6 k0_t7) a + S1x256x5120.size a ≤ S5x1536x5120.size a), (Rect.unit (s := S5x1536x5120) (k0_off15 v1_0 k0_t6 k0_t7) S1x256x5120.size hinb).WholeWords (EltTy.packing .fp8e4m3)) ∧
  (∀ k0_t7 : Fin k0_t7_loop.trips, ∀ (k0_h2 : k0_cond2 v14 v16 = 1#1), ∀ (r : Fin 2), ∀ a, (k0_off17 v12 k0_t7 (BitVec.ofNat 32 r.val)) a + S1x1x1.size a ≤ S16x12x40.size a) ∧
  (∀ (k0_h2 : k0_cond2 v14 v16 = 1#1), ∀ a, (k0_off18 v14) a + S16x128.size a ≤ S128x5120.size a) ∧
  (∀ k0_t7 : Fin k0_t7_loop.trips, ∀ (k0_h2 : k0_cond2 v14 v16 = 1#1), ∀ (r : Fin 2), ∀ a, (k0_off19 v12 k0_t7 (BitVec.ofNat 32 r.val)) a + S1x1x1.size a ≤ S16x12x40.size a) ∧
  (∀ (k0_h2 : k0_cond2 v14 v16 = 1#1), ∀ a, (k0_off20 v14) a + S16x128.size a ≤ S128x5120.size a) ∧
  (∀ k0_t7 : Fin k0_t7_loop.trips, ∀ (k0_h2 : k0_cond2 v14 v16 = 1#1), ∀ a, (k0_off21 v1_0 k0_t6 k0_t7) a + S1x256x256.size a ≤ S5x1536x5120.size a) ∧
  (∀ (k0_t7 : Fin k0_t7_loop.trips) (k0_t8 : Fin k0_t8_loop.trips), ∀ (k0_h2 : k0_cond2 v14 v16 = 1#1), ∀ (r₁ : Fin 2) (r₂ : Fin 2), ∀ a, (k0_off22 v12 k0_t7 k0_t8 (BitVec.ofNat 32 r₁.val) (BitVec.ofNat 32 r₂.val)) a + S1x1x1.size a ≤ S16x12x40.size a) ∧
  (∀ k0_t8 : Fin k0_t8_loop.trips, ∀ (k0_h2 : k0_cond2 v14 v16 = 1#1), ∀ (r : Fin 2), ∀ a, (k0_off23 v14 k0_t8 (BitVec.ofNat 32 r.val)) a + S16x128.size a ≤ S128x5120.size a) ∧
  (∀ (k0_t7 : Fin k0_t7_loop.trips) (k0_t8 : Fin k0_t8_loop.trips), ∀ (k0_h2 : k0_cond2 v14 v16 = 1#1), ∀ a, (k0_off24 v1_0 k0_t6 k0_t7 k0_t8) a + S1x256x256.size a ≤ S5x1536x5120.size a) ∧
  (∀ k0_t7 : Fin k0_t7_loop.trips, ∀ (k0_h2 : k0_cond2 v14 v16 = 1#1), ∀ a, (k0_off25 v14 k0_t7) a + S16x256.size a ≤ S128x1536.size a) ∧
  (∀ k0_t7 : Fin k0_t7_loop.trips, ∀ (k0_h2 : k0_cond2 v14 v16 = 1#1), ∀ (hinb : ∀ a, (k0_off25 v14 k0_t7) a + S16x256.size a ≤ S128x1536.size a), (Rect.unit (s := S128x1536) (k0_off25 v14 k0_t7) S16x256.size hinb).PackedRows (EltTy.packing .bf16)) ∧
  (∀ (k0_h3 : k0_cond3 v14 v16 = 1#1), 16 ∣ (k0_mult17 v14).toNat) ∧
  (∀ (k0_h3 : k0_cond3 v14 v16 = 1#1), ∀ a, (k0_off26 v1_0 k0_t6) a + S1x1.size a ≤ S3x17.size a) ∧
  (∀ k0_t9 : Fin k0_t9_loop.trips, ∀ (k0_h3 : k0_cond3 v14 v16 = 1#1), ∀ a, (k0_off27 v1_0 k0_t6 k0_t9) a + S1x1.size a ≤ S5x6.size a) ∧
  (∀ k0_t9 : Fin k0_t9_loop.trips, ∀ (k0_h3 : k0_cond3 v14 v16 = 1#1), ∀ a, (k0_off28 v1_0 k0_t6 k0_t9) a + S1x256x5120.size a ≤ S5x1536x5120.size a) ∧
  (∀ k0_t9 : Fin k0_t9_loop.trips, ∀ (k0_h3 : k0_cond3 v14 v16 = 1#1), ∀ (hinb : ∀ a, (k0_off28 v1_0 k0_t6 k0_t9) a + S1x256x5120.size a ≤ S5x1536x5120.size a), (Rect.unit (s := S5x1536x5120) (k0_off28 v1_0 k0_t6 k0_t9) S1x256x5120.size hinb).WholeWords (EltTy.packing .fp8e4m3)) ∧
  (∀ k0_t9 : Fin k0_t9_loop.trips, ∀ (k0_h3 : k0_cond3 v14 v16 = 1#1), ∀ (r : Fin 2), ∀ a, (k0_off30 v12 k0_t9 (BitVec.ofNat 32 r.val)) a + S1x1x1.size a ≤ S16x12x40.size a) ∧
  (∀ (k0_h3 : k0_cond3 v14 v16 = 1#1), ∀ a, (k0_off31 v14) a + S32x128.size a ≤ S128x5120.size a) ∧
  (∀ k0_t9 : Fin k0_t9_loop.trips, ∀ (k0_h3 : k0_cond3 v14 v16 = 1#1), ∀ (r : Fin 2), ∀ a, (k0_off32 v12 k0_t9 (BitVec.ofNat 32 r.val)) a + S1x1x1.size a ≤ S16x12x40.size a) ∧
  (∀ (k0_h3 : k0_cond3 v14 v16 = 1#1), ∀ a, (k0_off33 v14) a + S32x128.size a ≤ S128x5120.size a) ∧
  (∀ k0_t9 : Fin k0_t9_loop.trips, ∀ (k0_h3 : k0_cond3 v14 v16 = 1#1), ∀ a, (k0_off34 v1_0 k0_t6 k0_t9) a + S1x256x256.size a ≤ S5x1536x5120.size a) ∧
  (∀ (k0_t9 : Fin k0_t9_loop.trips) (k0_t10 : Fin k0_t10_loop.trips), ∀ (k0_h3 : k0_cond3 v14 v16 = 1#1), ∀ (r₁ : Fin 2) (r₂ : Fin 2), ∀ a, (k0_off35 v12 k0_t9 k0_t10 (BitVec.ofNat 32 r₁.val) (BitVec.ofNat 32 r₂.val)) a + S1x1x1.size a ≤ S16x12x40.size a) ∧
  (∀ k0_t10 : Fin k0_t10_loop.trips, ∀ (k0_h3 : k0_cond3 v14 v16 = 1#1), ∀ (r : Fin 2), ∀ a, (k0_off36 v14 k0_t10 (BitVec.ofNat 32 r.val)) a + S32x128.size a ≤ S128x5120.size a) ∧
  (∀ (k0_t9 : Fin k0_t9_loop.trips) (k0_t10 : Fin k0_t10_loop.trips), ∀ (k0_h3 : k0_cond3 v14 v16 = 1#1), ∀ a, (k0_off37 v1_0 k0_t6 k0_t9 k0_t10) a + S1x256x256.size a ≤ S5x1536x5120.size a) ∧
  (∀ k0_t9 : Fin k0_t9_loop.trips, ∀ (k0_h3 : k0_cond3 v14 v16 = 1#1), ∀ a, (k0_off38 v14 k0_t9) a + S32x256.size a ≤ S128x1536.size a) ∧
  (∀ k0_t9 : Fin k0_t9_loop.trips, ∀ (k0_h3 : k0_cond3 v14 v16 = 1#1), ∀ (hinb : ∀ a, (k0_off38 v14 k0_t9) a + S32x256.size a ≤ S128x1536.size a), (Rect.unit (s := S128x1536) (k0_off38 v14 k0_t9) S32x256.size hinb).PackedRows (EltTy.packing .bf16)) ∧
  (∀ (k0_h4 : k0_cond4 v14 v16 = 1#1), 16 ∣ (k0_mult30 v14).toNat) ∧
  (∀ (k0_h4 : k0_cond4 v14 v16 = 1#1), ∀ a, (k0_off39 v1_0 k0_t6) a + S1x1.size a ≤ S3x17.size a)
def k0_chk4_1 (v1_0 : BitVec 32) (k0_t6 : Fin (k0_t6_loop v1_0).trips) (v12 : BitVec 32) (v14 : BitVec 32) (v16 : BitVec 32) : Prop :=
  (∀ k0_t11 : Fin k0_t11_loop.trips, ∀ (k0_h4 : k0_cond4 v14 v16 = 1#1), ∀ a, (k0_off40 v1_0 k0_t6 k0_t11) a + S1x1.size a ≤ S5x6.size a) ∧
  (∀ k0_t11 : Fin k0_t11_loop.trips, ∀ (k0_h4 : k0_cond4 v14 v16 = 1#1), ∀ a, (k0_off41 v1_0 k0_t6 k0_t11) a + S1x256x5120.size a ≤ S5x1536x5120.size a) ∧
  (∀ k0_t11 : Fin k0_t11_loop.trips, ∀ (k0_h4 : k0_cond4 v14 v16 = 1#1), ∀ (hinb : ∀ a, (k0_off41 v1_0 k0_t6 k0_t11) a + S1x256x5120.size a ≤ S5x1536x5120.size a), (Rect.unit (s := S5x1536x5120) (k0_off41 v1_0 k0_t6 k0_t11) S1x256x5120.size hinb).WholeWords (EltTy.packing .fp8e4m3)) ∧
  (∀ k0_t11 : Fin k0_t11_loop.trips, ∀ (k0_h4 : k0_cond4 v14 v16 = 1#1), ∀ (r : Fin 2), ∀ a, (k0_off43 v12 k0_t11 (BitVec.ofNat 32 r.val)) a + S1x1x1.size a ≤ S16x12x40.size a) ∧
  (∀ (k0_h4 : k0_cond4 v14 v16 = 1#1), ∀ a, (k0_off44 v14) a + S64x128.size a ≤ S128x5120.size a) ∧
  (∀ k0_t11 : Fin k0_t11_loop.trips, ∀ (k0_h4 : k0_cond4 v14 v16 = 1#1), ∀ (r : Fin 2), ∀ a, (k0_off45 v12 k0_t11 (BitVec.ofNat 32 r.val)) a + S1x1x1.size a ≤ S16x12x40.size a) ∧
  (∀ (k0_h4 : k0_cond4 v14 v16 = 1#1), ∀ a, (k0_off46 v14) a + S64x128.size a ≤ S128x5120.size a) ∧
  (∀ k0_t11 : Fin k0_t11_loop.trips, ∀ (k0_h4 : k0_cond4 v14 v16 = 1#1), ∀ a, (k0_off47 v1_0 k0_t6 k0_t11) a + S1x256x256.size a ≤ S5x1536x5120.size a) ∧
  (∀ (k0_t11 : Fin k0_t11_loop.trips) (k0_t12 : Fin k0_t12_loop.trips), ∀ (k0_h4 : k0_cond4 v14 v16 = 1#1), ∀ (r₁ : Fin 2) (r₂ : Fin 2), ∀ a, (k0_off48 v12 k0_t11 k0_t12 (BitVec.ofNat 32 r₁.val) (BitVec.ofNat 32 r₂.val)) a + S1x1x1.size a ≤ S16x12x40.size a) ∧
  (∀ k0_t12 : Fin k0_t12_loop.trips, ∀ (k0_h4 : k0_cond4 v14 v16 = 1#1), ∀ (r : Fin 2), ∀ a, (k0_off49 v14 k0_t12 (BitVec.ofNat 32 r.val)) a + S64x128.size a ≤ S128x5120.size a) ∧
  (∀ (k0_t11 : Fin k0_t11_loop.trips) (k0_t12 : Fin k0_t12_loop.trips), ∀ (k0_h4 : k0_cond4 v14 v16 = 1#1), ∀ a, (k0_off50 v1_0 k0_t6 k0_t11 k0_t12) a + S1x256x256.size a ≤ S5x1536x5120.size a) ∧
  (∀ k0_t11 : Fin k0_t11_loop.trips, ∀ (k0_h4 : k0_cond4 v14 v16 = 1#1), ∀ a, (k0_off51 v14 k0_t11) a + S64x256.size a ≤ S128x1536.size a) ∧
  (∀ k0_t11 : Fin k0_t11_loop.trips, ∀ (k0_h4 : k0_cond4 v14 v16 = 1#1), ∀ (hinb : ∀ a, (k0_off51 v14 k0_t11) a + S64x256.size a ≤ S128x1536.size a), (Rect.unit (s := S128x1536) (k0_off51 v14 k0_t11) S64x256.size hinb).PackedRows (EltTy.packing .bf16)) ∧
  (∀ (k0_h5 : k0_cond5 v14 v16 = 1#1), 16 ∣ (k0_mult43 v14).toNat) ∧
  (∀ (k0_h5 : k0_cond5 v14 v16 = 1#1), ∀ a, (k0_off52 v1_0 k0_t6) a + S1x1.size a ≤ S3x17.size a) ∧
  (∀ k0_t13 : Fin k0_t13_loop.trips, ∀ (k0_h5 : k0_cond5 v14 v16 = 1#1), ∀ a, (k0_off53 v1_0 k0_t6 k0_t13) a + S1x1.size a ≤ S5x6.size a) ∧
  (∀ k0_t13 : Fin k0_t13_loop.trips, ∀ (k0_h5 : k0_cond5 v14 v16 = 1#1), ∀ a, (k0_off54 v1_0 k0_t6 k0_t13) a + S1x256x5120.size a ≤ S5x1536x5120.size a) ∧
  (∀ k0_t13 : Fin k0_t13_loop.trips, ∀ (k0_h5 : k0_cond5 v14 v16 = 1#1), ∀ (hinb : ∀ a, (k0_off54 v1_0 k0_t6 k0_t13) a + S1x256x5120.size a ≤ S5x1536x5120.size a), (Rect.unit (s := S5x1536x5120) (k0_off54 v1_0 k0_t6 k0_t13) S1x256x5120.size hinb).WholeWords (EltTy.packing .fp8e4m3)) ∧
  (∀ k0_t13 : Fin k0_t13_loop.trips, ∀ (k0_h5 : k0_cond5 v14 v16 = 1#1), ∀ (r : Fin 2), ∀ a, (k0_off56 v12 k0_t13 (BitVec.ofNat 32 r.val)) a + S1x1x1.size a ≤ S16x12x40.size a) ∧
  (∀ (k0_h5 : k0_cond5 v14 v16 = 1#1), ∀ a, (k0_off57 v14) a + S128x128.size a ≤ S128x5120.size a) ∧
  (∀ k0_t13 : Fin k0_t13_loop.trips, ∀ (k0_h5 : k0_cond5 v14 v16 = 1#1), ∀ (r : Fin 2), ∀ a, (k0_off58 v12 k0_t13 (BitVec.ofNat 32 r.val)) a + S1x1x1.size a ≤ S16x12x40.size a) ∧
  (∀ (k0_h5 : k0_cond5 v14 v16 = 1#1), ∀ a, (k0_off59 v14) a + S128x128.size a ≤ S128x5120.size a) ∧
  (∀ k0_t13 : Fin k0_t13_loop.trips, ∀ (k0_h5 : k0_cond5 v14 v16 = 1#1), ∀ a, (k0_off60 v1_0 k0_t6 k0_t13) a + S1x256x256.size a ≤ S5x1536x5120.size a) ∧
  (∀ (k0_t13 : Fin k0_t13_loop.trips) (k0_t14 : Fin k0_t14_loop.trips), ∀ (k0_h5 : k0_cond5 v14 v16 = 1#1), ∀ (r₁ : Fin 2) (r₂ : Fin 2), ∀ a, (k0_off61 v12 k0_t13 k0_t14 (BitVec.ofNat 32 r₁.val) (BitVec.ofNat 32 r₂.val)) a + S1x1x1.size a ≤ S16x12x40.size a) ∧
  (∀ k0_t14 : Fin k0_t14_loop.trips, ∀ (k0_h5 : k0_cond5 v14 v16 = 1#1), ∀ (r : Fin 2), ∀ a, (k0_off62 v14 k0_t14 (BitVec.ofNat 32 r.val)) a + S128x128.size a ≤ S128x5120.size a) ∧
  (∀ (k0_t13 : Fin k0_t13_loop.trips) (k0_t14 : Fin k0_t14_loop.trips), ∀ (k0_h5 : k0_cond5 v14 v16 = 1#1), ∀ a, (k0_off63 v1_0 k0_t6 k0_t13 k0_t14) a + S1x256x256.size a ≤ S5x1536x5120.size a) ∧
  (∀ k0_t13 : Fin k0_t13_loop.trips, ∀ (k0_h5 : k0_cond5 v14 v16 = 1#1), ∀ a, (k0_off64 v14 k0_t13) a + S128x256.size a ≤ S128x1536.size a) ∧
  (∀ k0_t13 : Fin k0_t13_loop.trips, ∀ (k0_h5 : k0_cond5 v14 v16 = 1#1), ∀ (hinb : ∀ a, (k0_off64 v14 k0_t13) a + S128x256.size a ≤ S128x1536.size a), (Rect.unit (s := S128x1536) (k0_off64 v14 k0_t13) S128x256.size hinb).PackedRows (EltTy.packing .bf16))
def k0_chk4 (v1_0 : BitVec 32) (k0_t6 : Fin (k0_t6_loop v1_0).trips) (v12 : BitVec 32) (v14 : BitVec 32) (v16 : BitVec 32) : Prop :=
  k0_chk4_0 v1_0 k0_t6 v12 v14 v16 ∧
  k0_chk4_1 v1_0 k0_t6 v12 v14 v16
theorem k0_mult4_dvd : ∀ (v1_0 : BitVec 32) (k0_t6 : Fin (k0_t6_loop v1_0).trips) (v12 : BitVec 32) (v14 : BitVec 32) (v16 : BitVec 32) (k0_hw4 : k0_chk4 v1_0 k0_t6 v12 v14 v16), ∀ (k0_h2 : k0_cond2 v14 v16 = 1#1), 16 ∣ (k0_mult4 v14).toNat := fun v1_0 k0_t6 v12 v14 v16 k0_hw4 k0_h2 => k0_hw4.1.1 k0_h2
theorem k0_off13_inb : ∀ (v1_0 : BitVec 32) (k0_t6 : Fin (k0_t6_loop v1_0).trips) (v12 : BitVec 32) (v14 : BitVec 32) (v16 : BitVec 32) (k0_hw4 : k0_chk4 v1_0 k0_t6 v12 v14 v16), ∀ (k0_h2 : k0_cond2 v14 v16 = 1#1), ∀ a, (k0_off13 v1_0 k0_t6) a + S1x1.size a ≤ S3x17.size a := fun v1_0 k0_t6 v12 v14 v16 k0_hw4 k0_h2 => k0_hw4.1.2.1 k0_h2
theorem k0_off14_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t7 : Fin k0_t7_loop.trips), ∀ (k0_h2 : k0_cond2 v14 v16 = 1#1), ∀ a, (k0_off14 v1_0 k0_t6 k0_t7) a + S1x1.size a ≤ S5x6.size a := fun v1_0 k0_t6 v12 v14 v16 k0_hw4 k0_t7 k0_h2 => k0_hw4.1.2.2.1 k0_t7 k0_h2
theorem k0_off15_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t7 : Fin k0_t7_loop.trips), ∀ (k0_h2 : k0_cond2 v14 v16 = 1#1), ∀ a, (k0_off15 v1_0 k0_t6 k0_t7) a + S1x256x5120.size a ≤ S5x1536x5120.size a := fun v1_0 k0_t6 v12 v14 v16 k0_hw4 k0_t7 k0_h2 => k0_hw4.1.2.2.2.1 k0_t7 k0_h2
theorem k0_off15_wordsfp8e4m3 : ∀ (v1_0 : BitVec 32) (k0_t6 : Fin (k0_t6_loop v1_0).trips) (v12 : BitVec 32) (v14 : BitVec 32) (v16 : BitVec 32) (k0_hw4 : k0_chk4 v1_0 k0_t6 v12 v14 v16) (k0_t7 : Fin k0_t7_loop.trips), ∀ (k0_h2 : k0_cond2 v14 v16 = 1#1), (Rect.unit (s := S5x1536x5120) (k0_off15 v1_0 k0_t6 k0_t7) S1x256x5120.size (k0_off15_inb v1_0 k0_t6 v12 v14 v16 k0_hw4 k0_t7 k0_h2)).WholeWords (EltTy.packing .fp8e4m3) := fun v1_0 k0_t6 v12 v14 v16 k0_hw4 k0_t7 k0_h2 => k0_hw4.1.2.2.2.2.1 k0_t7 k0_h2 (k0_off15_inb v1_0 k0_t6 v12 v14 v16 k0_hw4 k0_t7 k0_h2)
theorem k0_off17_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t7 : Fin k0_t7_loop.trips), ∀ (k0_h2 : k0_cond2 v14 v16 = 1#1), ∀ (r : Fin 2), ∀ a, (k0_off17 v12 k0_t7 (BitVec.ofNat 32 r.val)) a + S1x1x1.size a ≤ S16x12x40.size a := fun v1_0 k0_t6 v12 v14 v16 k0_hw4 k0_t7 k0_h2 r => k0_hw4.1.2.2.2.2.2.1 k0_t7 k0_h2 r
theorem k0_off18_inb : ∀ (v1_0 : BitVec 32) (k0_t6 : Fin (k0_t6_loop v1_0).trips) (v12 : BitVec 32) (v14 : BitVec 32) (v16 : BitVec 32) (k0_hw4 : k0_chk4 v1_0 k0_t6 v12 v14 v16), ∀ (k0_h2 : k0_cond2 v14 v16 = 1#1), ∀ a, (k0_off18 v14) a + S16x128.size a ≤ S128x5120.size a := fun v1_0 k0_t6 v12 v14 v16 k0_hw4 k0_h2 => k0_hw4.1.2.2.2.2.2.2.1 k0_h2
theorem k0_off19_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t7 : Fin k0_t7_loop.trips), ∀ (k0_h2 : k0_cond2 v14 v16 = 1#1), ∀ (r : Fin 2), ∀ a, (k0_off19 v12 k0_t7 (BitVec.ofNat 32 r.val)) a + S1x1x1.size a ≤ S16x12x40.size a := fun v1_0 k0_t6 v12 v14 v16 k0_hw4 k0_t7 k0_h2 r => k0_hw4.1.2.2.2.2.2.2.2.1 k0_t7 k0_h2 r
theorem k0_off20_inb : ∀ (v1_0 : BitVec 32) (k0_t6 : Fin (k0_t6_loop v1_0).trips) (v12 : BitVec 32) (v14 : BitVec 32) (v16 : BitVec 32) (k0_hw4 : k0_chk4 v1_0 k0_t6 v12 v14 v16), ∀ (k0_h2 : k0_cond2 v14 v16 = 1#1), ∀ a, (k0_off20 v14) a + S16x128.size a ≤ S128x5120.size a := fun v1_0 k0_t6 v12 v14 v16 k0_hw4 k0_h2 => k0_hw4.1.2.2.2.2.2.2.2.2.1 k0_h2
theorem k0_off21_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t7 : Fin k0_t7_loop.trips), ∀ (k0_h2 : k0_cond2 v14 v16 = 1#1), ∀ a, (k0_off21 v1_0 k0_t6 k0_t7) a + S1x256x256.size a ≤ S5x1536x5120.size a := fun v1_0 k0_t6 v12 v14 v16 k0_hw4 k0_t7 k0_h2 => k0_hw4.1.2.2.2.2.2.2.2.2.2.1 k0_t7 k0_h2
theorem k0_off22_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t7 : Fin k0_t7_loop.trips) (k0_t8 : Fin k0_t8_loop.trips), ∀ (k0_h2 : k0_cond2 v14 v16 = 1#1), ∀ (r₁ : Fin 2) (r₂ : Fin 2), ∀ a, (k0_off22 v12 k0_t7 k0_t8 (BitVec.ofNat 32 r₁.val) (BitVec.ofNat 32 r₂.val)) a + S1x1x1.size a ≤ S16x12x40.size a := fun v1_0 k0_t6 v12 v14 v16 k0_hw4 k0_t7 k0_t8 k0_h2 r₁ r₂ => k0_hw4.1.2.2.2.2.2.2.2.2.2.2.1 k0_t7 k0_t8 k0_h2 r₁ r₂
theorem k0_off23_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t8 : Fin k0_t8_loop.trips), ∀ (k0_h2 : k0_cond2 v14 v16 = 1#1), ∀ (r : Fin 2), ∀ a, (k0_off23 v14 k0_t8 (BitVec.ofNat 32 r.val)) a + S16x128.size a ≤ S128x5120.size a := fun v1_0 k0_t6 v12 v14 v16 k0_hw4 k0_t8 k0_h2 r => k0_hw4.1.2.2.2.2.2.2.2.2.2.2.2.1 k0_t8 k0_h2 r
theorem k0_off24_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t7 : Fin k0_t7_loop.trips) (k0_t8 : Fin k0_t8_loop.trips), ∀ (k0_h2 : k0_cond2 v14 v16 = 1#1), ∀ a, (k0_off24 v1_0 k0_t6 k0_t7 k0_t8) a + S1x256x256.size a ≤ S5x1536x5120.size a := fun v1_0 k0_t6 v12 v14 v16 k0_hw4 k0_t7 k0_t8 k0_h2 => k0_hw4.1.2.2.2.2.2.2.2.2.2.2.2.2.1 k0_t7 k0_t8 k0_h2
theorem k0_off25_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t7 : Fin k0_t7_loop.trips), ∀ (k0_h2 : k0_cond2 v14 v16 = 1#1), ∀ a, (k0_off25 v14 k0_t7) a + S16x256.size a ≤ S128x1536.size a := fun v1_0 k0_t6 v12 v14 v16 k0_hw4 k0_t7 k0_h2 => k0_hw4.1.2.2.2.2.2.2.2.2.2.2.2.2.2.1 k0_t7 k0_h2
theorem k0_off25_packedbf16 : ∀ (v1_0 : BitVec 32) (k0_t6 : Fin (k0_t6_loop v1_0).trips) (v12 : BitVec 32) (v14 : BitVec 32) (v16 : BitVec 32) (k0_hw4 : k0_chk4 v1_0 k0_t6 v12 v14 v16) (k0_t7 : Fin k0_t7_loop.trips), ∀ (k0_h2 : k0_cond2 v14 v16 = 1#1), (Rect.unit (s := S128x1536) (k0_off25 v14 k0_t7) S16x256.size (k0_off25_inb v1_0 k0_t6 v12 v14 v16 k0_hw4 k0_t7 k0_h2)).PackedRows (EltTy.packing .bf16) := fun v1_0 k0_t6 v12 v14 v16 k0_hw4 k0_t7 k0_h2 => k0_hw4.1.2.2.2.2.2.2.2.2.2.2.2.2.2.2.1 k0_t7 k0_h2 (k0_off25_inb v1_0 k0_t6 v12 v14 v16 k0_hw4 k0_t7 k0_h2)
theorem k0_mult17_dvd : ∀ (v1_0 : BitVec 32) (k0_t6 : Fin (k0_t6_loop v1_0).trips) (v12 : BitVec 32) (v14 : BitVec 32) (v16 : BitVec 32) (k0_hw4 : k0_chk4 v1_0 k0_t6 v12 v14 v16), ∀ (k0_h3 : k0_cond3 v14 v16 = 1#1), 16 ∣ (k0_mult17 v14).toNat := fun v1_0 k0_t6 v12 v14 v16 k0_hw4 k0_h3 => k0_hw4.1.2.2.2.2.2.2.2.2.2.2.2.2.2.2.2.1 k0_h3
theorem k0_off26_inb : ∀ (v1_0 : BitVec 32) (k0_t6 : Fin (k0_t6_loop v1_0).trips) (v12 : BitVec 32) (v14 : BitVec 32) (v16 : BitVec 32) (k0_hw4 : k0_chk4 v1_0 k0_t6 v12 v14 v16), ∀ (k0_h3 : k0_cond3 v14 v16 = 1#1), ∀ a, (k0_off26 v1_0 k0_t6) a + S1x1.size a ≤ S3x17.size a := fun v1_0 k0_t6 v12 v14 v16 k0_hw4 k0_h3 => k0_hw4.1.2.2.2.2.2.2.2.2.2.2.2.2.2.2.2.2.1 k0_h3
theorem k0_off27_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t9 : Fin k0_t9_loop.trips), ∀ (k0_h3 : k0_cond3 v14 v16 = 1#1), ∀ a, (k0_off27 v1_0 k0_t6 k0_t9) a + S1x1.size a ≤ S5x6.size a := fun v1_0 k0_t6 v12 v14 v16 k0_hw4 k0_t9 k0_h3 => k0_hw4.1.2.2.2.2.2.2.2.2.2.2.2.2.2.2.2.2.2.1 k0_t9 k0_h3
theorem k0_off28_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t9 : Fin k0_t9_loop.trips), ∀ (k0_h3 : k0_cond3 v14 v16 = 1#1), ∀ a, (k0_off28 v1_0 k0_t6 k0_t9) a + S1x256x5120.size a ≤ S5x1536x5120.size a := fun v1_0 k0_t6 v12 v14 v16 k0_hw4 k0_t9 k0_h3 => k0_hw4.1.2.2.2.2.2.2.2.2.2.2.2.2.2.2.2.2.2.2.1 k0_t9 k0_h3
theorem k0_off28_wordsfp8e4m3 : ∀ (v1_0 : BitVec 32) (k0_t6 : Fin (k0_t6_loop v1_0).trips) (v12 : BitVec 32) (v14 : BitVec 32) (v16 : BitVec 32) (k0_hw4 : k0_chk4 v1_0 k0_t6 v12 v14 v16) (k0_t9 : Fin k0_t9_loop.trips), ∀ (k0_h3 : k0_cond3 v14 v16 = 1#1), (Rect.unit (s := S5x1536x5120) (k0_off28 v1_0 k0_t6 k0_t9) S1x256x5120.size (k0_off28_inb v1_0 k0_t6 v12 v14 v16 k0_hw4 k0_t9 k0_h3)).WholeWords (EltTy.packing .fp8e4m3) := fun v1_0 k0_t6 v12 v14 v16 k0_hw4 k0_t9 k0_h3 => k0_hw4.1.2.2.2.2.2.2.2.2.2.2.2.2.2.2.2.2.2.2.2.1 k0_t9 k0_h3 (k0_off28_inb v1_0 k0_t6 v12 v14 v16 k0_hw4 k0_t9 k0_h3)
theorem k0_off30_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t9 : Fin k0_t9_loop.trips), ∀ (k0_h3 : k0_cond3 v14 v16 = 1#1), ∀ (r : Fin 2), ∀ a, (k0_off30 v12 k0_t9 (BitVec.ofNat 32 r.val)) a + S1x1x1.size a ≤ S16x12x40.size a := fun v1_0 k0_t6 v12 v14 v16 k0_hw4 k0_t9 k0_h3 r => k0_hw4.1.2.2.2.2.2.2.2.2.2.2.2.2.2.2.2.2.2.2.2.2.1 k0_t9 k0_h3 r
theorem k0_off31_inb : ∀ (v1_0 : BitVec 32) (k0_t6 : Fin (k0_t6_loop v1_0).trips) (v12 : BitVec 32) (v14 : BitVec 32) (v16 : BitVec 32) (k0_hw4 : k0_chk4 v1_0 k0_t6 v12 v14 v16), ∀ (k0_h3 : k0_cond3 v14 v16 = 1#1), ∀ a, (k0_off31 v14) a + S32x128.size a ≤ S128x5120.size a := fun v1_0 k0_t6 v12 v14 v16 k0_hw4 k0_h3 => k0_hw4.1.2.2.2.2.2.2.2.2.2.2.2.2.2.2.2.2.2.2.2.2.2.1 k0_h3
theorem k0_off32_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t9 : Fin k0_t9_loop.trips), ∀ (k0_h3 : k0_cond3 v14 v16 = 1#1), ∀ (r : Fin 2), ∀ a, (k0_off32 v12 k0_t9 (BitVec.ofNat 32 r.val)) a + S1x1x1.size a ≤ S16x12x40.size a := fun v1_0 k0_t6 v12 v14 v16 k0_hw4 k0_t9 k0_h3 r => k0_hw4.1.2.2.2.2.2.2.2.2.2.2.2.2.2.2.2.2.2.2.2.2.2.2.1 k0_t9 k0_h3 r
theorem k0_off33_inb : ∀ (v1_0 : BitVec 32) (k0_t6 : Fin (k0_t6_loop v1_0).trips) (v12 : BitVec 32) (v14 : BitVec 32) (v16 : BitVec 32) (k0_hw4 : k0_chk4 v1_0 k0_t6 v12 v14 v16), ∀ (k0_h3 : k0_cond3 v14 v16 = 1#1), ∀ a, (k0_off33 v14) a + S32x128.size a ≤ S128x5120.size a := fun v1_0 k0_t6 v12 v14 v16 k0_hw4 k0_h3 => k0_hw4.1.2.2.2.2.2.2.2.2.2.2.2.2.2.2.2.2.2.2.2.2.2.2.2.1 k0_h3
theorem k0_off34_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t9 : Fin k0_t9_loop.trips), ∀ (k0_h3 : k0_cond3 v14 v16 = 1#1), ∀ a, (k0_off34 v1_0 k0_t6 k0_t9) a + S1x256x256.size a ≤ S5x1536x5120.size a := fun v1_0 k0_t6 v12 v14 v16 k0_hw4 k0_t9 k0_h3 => k0_hw4.1.2.2.2.2.2.2.2.2.2.2.2.2.2.2.2.2.2.2.2.2.2.2.2.2.1 k0_t9 k0_h3
theorem k0_off35_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t9 : Fin k0_t9_loop.trips) (k0_t10 : Fin k0_t10_loop.trips), ∀ (k0_h3 : k0_cond3 v14 v16 = 1#1), ∀ (r₁ : Fin 2) (r₂ : Fin 2), ∀ a, (k0_off35 v12 k0_t9 k0_t10 (BitVec.ofNat 32 r₁.val) (BitVec.ofNat 32 r₂.val)) a + S1x1x1.size a ≤ S16x12x40.size a := fun v1_0 k0_t6 v12 v14 v16 k0_hw4 k0_t9 k0_t10 k0_h3 r₁ r₂ => k0_hw4.1.2.2.2.2.2.2.2.2.2.2.2.2.2.2.2.2.2.2.2.2.2.2.2.2.2.1 k0_t9 k0_t10 k0_h3 r₁ r₂
theorem k0_off36_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t10 : Fin k0_t10_loop.trips), ∀ (k0_h3 : k0_cond3 v14 v16 = 1#1), ∀ (r : Fin 2), ∀ a, (k0_off36 v14 k0_t10 (BitVec.ofNat 32 r.val)) a + S32x128.size a ≤ S128x5120.size a := fun v1_0 k0_t6 v12 v14 v16 k0_hw4 k0_t10 k0_h3 r => k0_hw4.1.2.2.2.2.2.2.2.2.2.2.2.2.2.2.2.2.2.2.2.2.2.2.2.2.2.2.1 k0_t10 k0_h3 r
theorem k0_off37_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t9 : Fin k0_t9_loop.trips) (k0_t10 : Fin k0_t10_loop.trips), ∀ (k0_h3 : k0_cond3 v14 v16 = 1#1), ∀ a, (k0_off37 v1_0 k0_t6 k0_t9 k0_t10) a + S1x256x256.size a ≤ S5x1536x5120.size a := fun v1_0 k0_t6 v12 v14 v16 k0_hw4 k0_t9 k0_t10 k0_h3 => k0_hw4.1.2.2.2.2.2.2.2.2.2.2.2.2.2.2.2.2.2.2.2.2.2.2.2.2.2.2.2.1 k0_t9 k0_t10 k0_h3
theorem k0_off38_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t9 : Fin k0_t9_loop.trips), ∀ (k0_h3 : k0_cond3 v14 v16 = 1#1), ∀ a, (k0_off38 v14 k0_t9) a + S32x256.size a ≤ S128x1536.size a := fun v1_0 k0_t6 v12 v14 v16 k0_hw4 k0_t9 k0_h3 => k0_hw4.1.2.2.2.2.2.2.2.2.2.2.2.2.2.2.2.2.2.2.2.2.2.2.2.2.2.2.2.2.1 k0_t9 k0_h3
theorem k0_off38_packedbf16 : ∀ (v1_0 : BitVec 32) (k0_t6 : Fin (k0_t6_loop v1_0).trips) (v12 : BitVec 32) (v14 : BitVec 32) (v16 : BitVec 32) (k0_hw4 : k0_chk4 v1_0 k0_t6 v12 v14 v16) (k0_t9 : Fin k0_t9_loop.trips), ∀ (k0_h3 : k0_cond3 v14 v16 = 1#1), (Rect.unit (s := S128x1536) (k0_off38 v14 k0_t9) S32x256.size (k0_off38_inb v1_0 k0_t6 v12 v14 v16 k0_hw4 k0_t9 k0_h3)).PackedRows (EltTy.packing .bf16) := fun v1_0 k0_t6 v12 v14 v16 k0_hw4 k0_t9 k0_h3 => k0_hw4.1.2.2.2.2.2.2.2.2.2.2.2.2.2.2.2.2.2.2.2.2.2.2.2.2.2.2.2.2.2.1 k0_t9 k0_h3 (k0_off38_inb v1_0 k0_t6 v12 v14 v16 k0_hw4 k0_t9 k0_h3)
theorem k0_mult30_dvd : ∀ (v1_0 : BitVec 32) (k0_t6 : Fin (k0_t6_loop v1_0).trips) (v12 : BitVec 32) (v14 : BitVec 32) (v16 : BitVec 32) (k0_hw4 : k0_chk4 v1_0 k0_t6 v12 v14 v16), ∀ (k0_h4 : k0_cond4 v14 v16 = 1#1), 16 ∣ (k0_mult30 v14).toNat := fun v1_0 k0_t6 v12 v14 v16 k0_hw4 k0_h4 => k0_hw4.1.2.2.2.2.2.2.2.2.2.2.2.2.2.2.2.2.2.2.2.2.2.2.2.2.2.2.2.2.2.2.1 k0_h4
theorem k0_off39_inb : ∀ (v1_0 : BitVec 32) (k0_t6 : Fin (k0_t6_loop v1_0).trips) (v12 : BitVec 32) (v14 : BitVec 32) (v16 : BitVec 32) (k0_hw4 : k0_chk4 v1_0 k0_t6 v12 v14 v16), ∀ (k0_h4 : k0_cond4 v14 v16 = 1#1), ∀ a, (k0_off39 v1_0 k0_t6) a + S1x1.size a ≤ S3x17.size a := fun v1_0 k0_t6 v12 v14 v16 k0_hw4 k0_h4 => k0_hw4.1.2.2.2.2.2.2.2.2.2.2.2.2.2.2.2.2.2.2.2.2.2.2.2.2.2.2.2.2.2.2.2 k0_h4
theorem k0_off40_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t11 : Fin k0_t11_loop.trips), ∀ (k0_h4 : k0_cond4 v14 v16 = 1#1), ∀ a, (k0_off40 v1_0 k0_t6 k0_t11) a + S1x1.size a ≤ S5x6.size a := fun v1_0 k0_t6 v12 v14 v16 k0_hw4 k0_t11 k0_h4 => k0_hw4.2.1 k0_t11 k0_h4
theorem k0_off41_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t11 : Fin k0_t11_loop.trips), ∀ (k0_h4 : k0_cond4 v14 v16 = 1#1), ∀ a, (k0_off41 v1_0 k0_t6 k0_t11) a + S1x256x5120.size a ≤ S5x1536x5120.size a := fun v1_0 k0_t6 v12 v14 v16 k0_hw4 k0_t11 k0_h4 => k0_hw4.2.2.1 k0_t11 k0_h4
theorem k0_off41_wordsfp8e4m3 : ∀ (v1_0 : BitVec 32) (k0_t6 : Fin (k0_t6_loop v1_0).trips) (v12 : BitVec 32) (v14 : BitVec 32) (v16 : BitVec 32) (k0_hw4 : k0_chk4 v1_0 k0_t6 v12 v14 v16) (k0_t11 : Fin k0_t11_loop.trips), ∀ (k0_h4 : k0_cond4 v14 v16 = 1#1), (Rect.unit (s := S5x1536x5120) (k0_off41 v1_0 k0_t6 k0_t11) S1x256x5120.size (k0_off41_inb v1_0 k0_t6 v12 v14 v16 k0_hw4 k0_t11 k0_h4)).WholeWords (EltTy.packing .fp8e4m3) := fun v1_0 k0_t6 v12 v14 v16 k0_hw4 k0_t11 k0_h4 => k0_hw4.2.2.2.1 k0_t11 k0_h4 (k0_off41_inb v1_0 k0_t6 v12 v14 v16 k0_hw4 k0_t11 k0_h4)
theorem k0_off43_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t11 : Fin k0_t11_loop.trips), ∀ (k0_h4 : k0_cond4 v14 v16 = 1#1), ∀ (r : Fin 2), ∀ a, (k0_off43 v12 k0_t11 (BitVec.ofNat 32 r.val)) a + S1x1x1.size a ≤ S16x12x40.size a := fun v1_0 k0_t6 v12 v14 v16 k0_hw4 k0_t11 k0_h4 r => k0_hw4.2.2.2.2.1 k0_t11 k0_h4 r
theorem k0_off44_inb : ∀ (v1_0 : BitVec 32) (k0_t6 : Fin (k0_t6_loop v1_0).trips) (v12 : BitVec 32) (v14 : BitVec 32) (v16 : BitVec 32) (k0_hw4 : k0_chk4 v1_0 k0_t6 v12 v14 v16), ∀ (k0_h4 : k0_cond4 v14 v16 = 1#1), ∀ a, (k0_off44 v14) a + S64x128.size a ≤ S128x5120.size a := fun v1_0 k0_t6 v12 v14 v16 k0_hw4 k0_h4 => k0_hw4.2.2.2.2.2.1 k0_h4
theorem k0_off45_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t11 : Fin k0_t11_loop.trips), ∀ (k0_h4 : k0_cond4 v14 v16 = 1#1), ∀ (r : Fin 2), ∀ a, (k0_off45 v12 k0_t11 (BitVec.ofNat 32 r.val)) a + S1x1x1.size a ≤ S16x12x40.size a := fun v1_0 k0_t6 v12 v14 v16 k0_hw4 k0_t11 k0_h4 r => k0_hw4.2.2.2.2.2.2.1 k0_t11 k0_h4 r
theorem k0_off46_inb : ∀ (v1_0 : BitVec 32) (k0_t6 : Fin (k0_t6_loop v1_0).trips) (v12 : BitVec 32) (v14 : BitVec 32) (v16 : BitVec 32) (k0_hw4 : k0_chk4 v1_0 k0_t6 v12 v14 v16), ∀ (k0_h4 : k0_cond4 v14 v16 = 1#1), ∀ a, (k0_off46 v14) a + S64x128.size a ≤ S128x5120.size a := fun v1_0 k0_t6 v12 v14 v16 k0_hw4 k0_h4 => k0_hw4.2.2.2.2.2.2.2.1 k0_h4
theorem k0_off47_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t11 : Fin k0_t11_loop.trips), ∀ (k0_h4 : k0_cond4 v14 v16 = 1#1), ∀ a, (k0_off47 v1_0 k0_t6 k0_t11) a + S1x256x256.size a ≤ S5x1536x5120.size a := fun v1_0 k0_t6 v12 v14 v16 k0_hw4 k0_t11 k0_h4 => k0_hw4.2.2.2.2.2.2.2.2.1 k0_t11 k0_h4
theorem k0_off48_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t11 : Fin k0_t11_loop.trips) (k0_t12 : Fin k0_t12_loop.trips), ∀ (k0_h4 : k0_cond4 v14 v16 = 1#1), ∀ (r₁ : Fin 2) (r₂ : Fin 2), ∀ a, (k0_off48 v12 k0_t11 k0_t12 (BitVec.ofNat 32 r₁.val) (BitVec.ofNat 32 r₂.val)) a + S1x1x1.size a ≤ S16x12x40.size a := fun v1_0 k0_t6 v12 v14 v16 k0_hw4 k0_t11 k0_t12 k0_h4 r₁ r₂ => k0_hw4.2.2.2.2.2.2.2.2.2.1 k0_t11 k0_t12 k0_h4 r₁ r₂
theorem k0_off49_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t12 : Fin k0_t12_loop.trips), ∀ (k0_h4 : k0_cond4 v14 v16 = 1#1), ∀ (r : Fin 2), ∀ a, (k0_off49 v14 k0_t12 (BitVec.ofNat 32 r.val)) a + S64x128.size a ≤ S128x5120.size a := fun v1_0 k0_t6 v12 v14 v16 k0_hw4 k0_t12 k0_h4 r => k0_hw4.2.2.2.2.2.2.2.2.2.2.1 k0_t12 k0_h4 r
theorem k0_off50_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t11 : Fin k0_t11_loop.trips) (k0_t12 : Fin k0_t12_loop.trips), ∀ (k0_h4 : k0_cond4 v14 v16 = 1#1), ∀ a, (k0_off50 v1_0 k0_t6 k0_t11 k0_t12) a + S1x256x256.size a ≤ S5x1536x5120.size a := fun v1_0 k0_t6 v12 v14 v16 k0_hw4 k0_t11 k0_t12 k0_h4 => k0_hw4.2.2.2.2.2.2.2.2.2.2.2.1 k0_t11 k0_t12 k0_h4
theorem k0_off51_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t11 : Fin k0_t11_loop.trips), ∀ (k0_h4 : k0_cond4 v14 v16 = 1#1), ∀ a, (k0_off51 v14 k0_t11) a + S64x256.size a ≤ S128x1536.size a := fun v1_0 k0_t6 v12 v14 v16 k0_hw4 k0_t11 k0_h4 => k0_hw4.2.2.2.2.2.2.2.2.2.2.2.2.1 k0_t11 k0_h4
theorem k0_off51_packedbf16 : ∀ (v1_0 : BitVec 32) (k0_t6 : Fin (k0_t6_loop v1_0).trips) (v12 : BitVec 32) (v14 : BitVec 32) (v16 : BitVec 32) (k0_hw4 : k0_chk4 v1_0 k0_t6 v12 v14 v16) (k0_t11 : Fin k0_t11_loop.trips), ∀ (k0_h4 : k0_cond4 v14 v16 = 1#1), (Rect.unit (s := S128x1536) (k0_off51 v14 k0_t11) S64x256.size (k0_off51_inb v1_0 k0_t6 v12 v14 v16 k0_hw4 k0_t11 k0_h4)).PackedRows (EltTy.packing .bf16) := fun v1_0 k0_t6 v12 v14 v16 k0_hw4 k0_t11 k0_h4 => k0_hw4.2.2.2.2.2.2.2.2.2.2.2.2.2.1 k0_t11 k0_h4 (k0_off51_inb v1_0 k0_t6 v12 v14 v16 k0_hw4 k0_t11 k0_h4)
theorem k0_mult43_dvd : ∀ (v1_0 : BitVec 32) (k0_t6 : Fin (k0_t6_loop v1_0).trips) (v12 : BitVec 32) (v14 : BitVec 32) (v16 : BitVec 32) (k0_hw4 : k0_chk4 v1_0 k0_t6 v12 v14 v16), ∀ (k0_h5 : k0_cond5 v14 v16 = 1#1), 16 ∣ (k0_mult43 v14).toNat := fun v1_0 k0_t6 v12 v14 v16 k0_hw4 k0_h5 => k0_hw4.2.2.2.2.2.2.2.2.2.2.2.2.2.2.1 k0_h5
theorem k0_off52_inb : ∀ (v1_0 : BitVec 32) (k0_t6 : Fin (k0_t6_loop v1_0).trips) (v12 : BitVec 32) (v14 : BitVec 32) (v16 : BitVec 32) (k0_hw4 : k0_chk4 v1_0 k0_t6 v12 v14 v16), ∀ (k0_h5 : k0_cond5 v14 v16 = 1#1), ∀ a, (k0_off52 v1_0 k0_t6) a + S1x1.size a ≤ S3x17.size a := fun v1_0 k0_t6 v12 v14 v16 k0_hw4 k0_h5 => k0_hw4.2.2.2.2.2.2.2.2.2.2.2.2.2.2.2.1 k0_h5
theorem k0_off53_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t13 : Fin k0_t13_loop.trips), ∀ (k0_h5 : k0_cond5 v14 v16 = 1#1), ∀ a, (k0_off53 v1_0 k0_t6 k0_t13) a + S1x1.size a ≤ S5x6.size a := fun v1_0 k0_t6 v12 v14 v16 k0_hw4 k0_t13 k0_h5 => k0_hw4.2.2.2.2.2.2.2.2.2.2.2.2.2.2.2.2.1 k0_t13 k0_h5
theorem k0_off54_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t13 : Fin k0_t13_loop.trips), ∀ (k0_h5 : k0_cond5 v14 v16 = 1#1), ∀ a, (k0_off54 v1_0 k0_t6 k0_t13) a + S1x256x5120.size a ≤ S5x1536x5120.size a := fun v1_0 k0_t6 v12 v14 v16 k0_hw4 k0_t13 k0_h5 => k0_hw4.2.2.2.2.2.2.2.2.2.2.2.2.2.2.2.2.2.1 k0_t13 k0_h5
theorem k0_off54_wordsfp8e4m3 : ∀ (v1_0 : BitVec 32) (k0_t6 : Fin (k0_t6_loop v1_0).trips) (v12 : BitVec 32) (v14 : BitVec 32) (v16 : BitVec 32) (k0_hw4 : k0_chk4 v1_0 k0_t6 v12 v14 v16) (k0_t13 : Fin k0_t13_loop.trips), ∀ (k0_h5 : k0_cond5 v14 v16 = 1#1), (Rect.unit (s := S5x1536x5120) (k0_off54 v1_0 k0_t6 k0_t13) S1x256x5120.size (k0_off54_inb v1_0 k0_t6 v12 v14 v16 k0_hw4 k0_t13 k0_h5)).WholeWords (EltTy.packing .fp8e4m3) := fun v1_0 k0_t6 v12 v14 v16 k0_hw4 k0_t13 k0_h5 => k0_hw4.2.2.2.2.2.2.2.2.2.2.2.2.2.2.2.2.2.2.1 k0_t13 k0_h5 (k0_off54_inb v1_0 k0_t6 v12 v14 v16 k0_hw4 k0_t13 k0_h5)
theorem k0_off56_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t13 : Fin k0_t13_loop.trips), ∀ (k0_h5 : k0_cond5 v14 v16 = 1#1), ∀ (r : Fin 2), ∀ a, (k0_off56 v12 k0_t13 (BitVec.ofNat 32 r.val)) a + S1x1x1.size a ≤ S16x12x40.size a := fun v1_0 k0_t6 v12 v14 v16 k0_hw4 k0_t13 k0_h5 r => k0_hw4.2.2.2.2.2.2.2.2.2.2.2.2.2.2.2.2.2.2.2.1 k0_t13 k0_h5 r
theorem k0_off57_inb : ∀ (v1_0 : BitVec 32) (k0_t6 : Fin (k0_t6_loop v1_0).trips) (v12 : BitVec 32) (v14 : BitVec 32) (v16 : BitVec 32) (k0_hw4 : k0_chk4 v1_0 k0_t6 v12 v14 v16), ∀ (k0_h5 : k0_cond5 v14 v16 = 1#1), ∀ a, (k0_off57 v14) a + S128x128.size a ≤ S128x5120.size a := fun v1_0 k0_t6 v12 v14 v16 k0_hw4 k0_h5 => k0_hw4.2.2.2.2.2.2.2.2.2.2.2.2.2.2.2.2.2.2.2.2.1 k0_h5
theorem k0_off58_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t13 : Fin k0_t13_loop.trips), ∀ (k0_h5 : k0_cond5 v14 v16 = 1#1), ∀ (r : Fin 2), ∀ a, (k0_off58 v12 k0_t13 (BitVec.ofNat 32 r.val)) a + S1x1x1.size a ≤ S16x12x40.size a := fun v1_0 k0_t6 v12 v14 v16 k0_hw4 k0_t13 k0_h5 r => k0_hw4.2.2.2.2.2.2.2.2.2.2.2.2.2.2.2.2.2.2.2.2.2.1 k0_t13 k0_h5 r
theorem k0_off59_inb : ∀ (v1_0 : BitVec 32) (k0_t6 : Fin (k0_t6_loop v1_0).trips) (v12 : BitVec 32) (v14 : BitVec 32) (v16 : BitVec 32) (k0_hw4 : k0_chk4 v1_0 k0_t6 v12 v14 v16), ∀ (k0_h5 : k0_cond5 v14 v16 = 1#1), ∀ a, (k0_off59 v14) a + S128x128.size a ≤ S128x5120.size a := fun v1_0 k0_t6 v12 v14 v16 k0_hw4 k0_h5 => k0_hw4.2.2.2.2.2.2.2.2.2.2.2.2.2.2.2.2.2.2.2.2.2.2.1 k0_h5
theorem k0_off60_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t13 : Fin k0_t13_loop.trips), ∀ (k0_h5 : k0_cond5 v14 v16 = 1#1), ∀ a, (k0_off60 v1_0 k0_t6 k0_t13) a + S1x256x256.size a ≤ S5x1536x5120.size a := fun v1_0 k0_t6 v12 v14 v16 k0_hw4 k0_t13 k0_h5 => k0_hw4.2.2.2.2.2.2.2.2.2.2.2.2.2.2.2.2.2.2.2.2.2.2.2.1 k0_t13 k0_h5
theorem k0_off61_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t13 : Fin k0_t13_loop.trips) (k0_t14 : Fin k0_t14_loop.trips), ∀ (k0_h5 : k0_cond5 v14 v16 = 1#1), ∀ (r₁ : Fin 2) (r₂ : Fin 2), ∀ a, (k0_off61 v12 k0_t13 k0_t14 (BitVec.ofNat 32 r₁.val) (BitVec.ofNat 32 r₂.val)) a + S1x1x1.size a ≤ S16x12x40.size a := fun v1_0 k0_t6 v12 v14 v16 k0_hw4 k0_t13 k0_t14 k0_h5 r₁ r₂ => k0_hw4.2.2.2.2.2.2.2.2.2.2.2.2.2.2.2.2.2.2.2.2.2.2.2.2.1 k0_t13 k0_t14 k0_h5 r₁ r₂
theorem k0_off62_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t14 : Fin k0_t14_loop.trips), ∀ (k0_h5 : k0_cond5 v14 v16 = 1#1), ∀ (r : Fin 2), ∀ a, (k0_off62 v14 k0_t14 (BitVec.ofNat 32 r.val)) a + S128x128.size a ≤ S128x5120.size a := fun v1_0 k0_t6 v12 v14 v16 k0_hw4 k0_t14 k0_h5 r => k0_hw4.2.2.2.2.2.2.2.2.2.2.2.2.2.2.2.2.2.2.2.2.2.2.2.2.2.1 k0_t14 k0_h5 r
theorem k0_off63_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t13 : Fin k0_t13_loop.trips) (k0_t14 : Fin k0_t14_loop.trips), ∀ (k0_h5 : k0_cond5 v14 v16 = 1#1), ∀ a, (k0_off63 v1_0 k0_t6 k0_t13 k0_t14) a + S1x256x256.size a ≤ S5x1536x5120.size a := fun v1_0 k0_t6 v12 v14 v16 k0_hw4 k0_t13 k0_t14 k0_h5 => k0_hw4.2.2.2.2.2.2.2.2.2.2.2.2.2.2.2.2.2.2.2.2.2.2.2.2.2.2.1 k0_t13 k0_t14 k0_h5
theorem k0_off64_inb : ∀ (v1_0 : BitVec 32) (k0_t6 : Fin (k0_t6_loop v1_0).trips) (v12 : BitVec 32) (v14 : BitVec 32) (v16 : BitVec 32) (k0_hw4 : k0_chk4 v1_0 k0_t6 v12 v14 v16) (k0_t13 : Fin k0_t13_loop.trips), ∀ (k0_h5 : k0_cond5 v14 v16 = 1#1), ∀ a, (k0_off64 v14 k0_t13) a + S128x256.size a ≤ S128x1536.size a := fun v1_0 k0_t6 v12 v14 v16 k0_hw4 k0_t13 k0_h5 => k0_hw4.2.2.2.2.2.2.2.2.2.2.2.2.2.2.2.2.2.2.2.2.2.2.2.2.2.2.2.1 k0_t13 k0_h5
theorem k0_off64_packedbf16 : ∀ (v1_0 : BitVec 32) (k0_t6 : Fin (k0_t6_loop v1_0).trips) (v12 : BitVec 32) (v14 : BitVec 32) (v16 : BitVec 32) (k0_hw4 : k0_chk4 v1_0 k0_t6 v12 v14 v16) (k0_t13 : Fin k0_t13_loop.trips), ∀ (k0_h5 : k0_cond5 v14 v16 = 1#1), (Rect.unit (s := S128x1536) (k0_off64 v14 k0_t13) S128x256.size (k0_off64_inb v1_0 k0_t6 v12 v14 v16 k0_hw4 k0_t13 k0_h5)).PackedRows (EltTy.packing .bf16) := fun v1_0 k0_t6 v12 v14 v16 k0_hw4 k0_t13 k0_h5 => k0_hw4.2.2.2.2.2.2.2.2.2.2.2.2.2.2.2.2.2.2.2.2.2.2.2.2.2.2.2.2 k0_t13 k0_h5 (k0_off64_inb v1_0 k0_t6 v12 v14 v16 k0_hw4 k0_t13 k0_h5)

@[reducible] def k0_t15_loop : Scf.Loop 32 :=
  let c0_i32_46 : BitVec 32 := 0#32
  let c6_i32 : BitVec 32 := 6#32
  let v79 : BitVec 32 := Scalar.addi c0_i32_46 c6_i32
  let c1_i32_47 : BitVec 32 := 1#32
  ⟨c0_i32_46, v79, c1_i32_47⟩
def k0_mult56 (k0_t15 : Fin k0_t15_loop.trips) : BitVec 32 :=
  let c0_i32_46 : BitVec 32 := 0#32
  let c1_i32_47 : BitVec 32 := 1#32
  let arg12 : BitVec 32 := Scf.iv c0_i32_46 c1_i32_47 k0_t15
  let c256_i32 : BitVec 32 := 256#32
  let v81 : BitVec 32 := Scalar.muli arg12 c256_i32
  v81
def k0_off65 (v1_0 : BitVec 32) (k0_t6 : Fin (k0_t6_loop v1_0).trips) : Fin 2 → Nat :=
  let c0_50 : Index := 0#32
  let c0_i32_11 : BitVec 32 := 0#32
  let c1_i32_13 : BitVec 32 := 1#32
  let arg11 : BitVec 32 := Scf.iv c0_i32_11 c1_i32_13 k0_t6
  let c5_i32_43 : BitVec 32 := 5#32
  let v75 : BitVec 32 := Scalar.addi arg11 c5_i32_43
  let v83 : Index := Scalar.indexCast v75
  ![0, v83.toNat]
def k0_cond6 (v1_0 : BitVec 32) (k0_t6 : Fin (k0_t6_loop v1_0).trips) : BitVec 1 :=
  let c0_i32_11 : BitVec 32 := 0#32
  let c1_i32_13 : BitVec 32 := 1#32
  let arg11 : BitVec 32 := Scf.iv c0_i32_11 c1_i32_13 k0_t6
  let c5_i32_43 : BitVec 32 := 5#32
  let v75 : BitVec 32 := Scalar.addi arg11 c5_i32_43
  let v76 : BitVec 1 := Scalar.cmpi .slt v75 v1_0
  let v77 : BitVec 32 := Scalar.extui v76
  let c0_i32_44 : BitVec 32 := 0#32
  let v78 : BitVec 1 := Scalar.cmpi .ne v77 c0_i32_44
  v78

def k0_off66 (v1_0 : BitVec 32) (k0_t6 : Fin (k0_t6_loop v1_0).trips) (k0_t15 : Fin k0_t15_loop.trips) : Fin 2 → Nat :=
  let c0_i32_11 : BitVec 32 := 0#32
  let c1_i32_13 : BitVec 32 := 1#32
  let arg11 : BitVec 32 := Scf.iv c0_i32_11 c1_i32_13 k0_t6
  let c5_i32_43 : BitVec 32 := 5#32
  let v75 : BitVec 32 := Scalar.addi arg11 c5_i32_43
  let c5_i32_49 : BitVec 32 := 5#32
  let v80 : BitVec 32 := Scalar.remsi v75 c5_i32_49
  let c0_i32_46 : BitVec 32 := 0#32
  let c1_i32_47 : BitVec 32 := 1#32
  let arg12 : BitVec 32 := Scf.iv c0_i32_46 c1_i32_47 k0_t15
  ![v80.toNat, arg12.toNat]
def k0_off67 (v1_0 : BitVec 32) (k0_t6 : Fin (k0_t6_loop v1_0).trips) (k0_t15 : Fin k0_t15_loop.trips) : Fin 3 → Nat :=
  let c0_i32_11 : BitVec 32 := 0#32
  let c1_i32_13 : BitVec 32 := 1#32
  let arg11 : BitVec 32 := Scf.iv c0_i32_11 c1_i32_13 k0_t6
  let c5_i32_43 : BitVec 32 := 5#32
  let v75 : BitVec 32 := Scalar.addi arg11 c5_i32_43
  let c5_i32_49 : BitVec 32 := 5#32
  let v80 : BitVec 32 := Scalar.remsi v75 c5_i32_49
  let c0_i32_46 : BitVec 32 := 0#32
  let c1_i32_47 : BitVec 32 := 1#32
  let arg12 : BitVec 32 := Scf.iv c0_i32_46 c1_i32_47 k0_t15
  let c256_i32 : BitVec 32 := 256#32
  let v81 : BitVec 32 := Scalar.muli arg12 c256_i32
  let v82 : BitVec 32 := v81
  let c0_i32_51 : BitVec 32 := 0#32
  ![v80.toNat, v82.toNat, 0]
def k0_off68 (k0_t15 : Fin k0_t15_loop.trips) (v84 : BitVec 32) : Fin 3 → Nat :=
  let c0_i32_46 : BitVec 32 := 0#32
  let c1_i32_47 : BitVec 32 := 1#32
  let arg12 : BitVec 32 := Scf.iv c0_i32_46 c1_i32_47 k0_t15
  let c256_i32 : BitVec 32 := 256#32
  let v81 : BitVec 32 := Scalar.muli arg12 c256_i32
  let v82 : BitVec 32 := v81
  let c0_i32_52 : BitVec 32 := 0#32
  ![v84.toNat, v82.toNat, 0]

def k0_chk9 (v1_0 : BitVec 32) (k0_t6 : Fin (k0_t6_loop v1_0).trips) (k0_t15 : Fin k0_t15_loop.trips) (v84 : BitVec 32) : Prop :=
  (∀ (k0_h6 : k0_cond6 v1_0 k0_t6 = 1#1), ∀ a, (k0_off68 k0_t15 v84) a + S1x256x5120.size a ≤ S16x1536x5120.size a) ∧
  (∀ (k0_h6 : k0_cond6 v1_0 k0_t6 = 1#1), ∀ (hinb : ∀ a, (k0_off68 k0_t15 v84) a + S1x256x5120.size a ≤ S16x1536x5120.size a), (Rect.unit (s := S16x1536x5120) (k0_off68 k0_t15 v84) S1x256x5120.size hinb).WholeWords (EltTy.packing .fp8e4m3))
theorem k0_off68_inb : ∀ (v1_0 : BitVec 32) (k0_t6 : Fin (k0_t6_loop v1_0).trips) (k0_t15 : Fin k0_t15_loop.trips) (v84 : BitVec 32) (k0_hw9 : k0_chk9 v1_0 k0_t6 k0_t15 v84), ∀ (k0_h6 : k0_cond6 v1_0 k0_t6 = 1#1), ∀ a, (k0_off68 k0_t15 v84) a + S1x256x5120.size a ≤ S16x1536x5120.size a := fun v1_0 k0_t6 k0_t15 v84 k0_hw9 k0_h6 => k0_hw9.1 k0_h6
theorem k0_off68_wordsfp8e4m3 : ∀ (v1_0 : BitVec 32) (k0_t6 : Fin (k0_t6_loop v1_0).trips) (k0_t15 : Fin k0_t15_loop.trips) (v84 : BitVec 32) (k0_hw9 : k0_chk9 v1_0 k0_t6 k0_t15 v84), ∀ (k0_h6 : k0_cond6 v1_0 k0_t6 = 1#1), (Rect.unit (s := S16x1536x5120) (k0_off68 k0_t15 v84) S1x256x5120.size (k0_off68_inb v1_0 k0_t6 k0_t15 v84 k0_hw9 k0_h6)).WholeWords (EltTy.packing .fp8e4m3) := fun v1_0 k0_t6 k0_t15 v84 k0_hw9 k0_h6 => k0_hw9.2 k0_h6 (k0_off68_inb v1_0 k0_t6 k0_t15 v84 k0_hw9 k0_h6)

@[reducible] def k0_t16_loop (v1_0 : BitVec 32) : Scf.Loop 32 :=
  let c0_i32_11 : BitVec 32 := 0#32
  let v6 : BitVec 32 := Scalar.subi v1_0 c0_i32_11
  let c1_i32_12 : BitVec 32 := 1#32
  let v8 : BitVec 32 := Scalar.divsi v6 c1_i32_12
  let v9 : BitVec 32 := Scalar.muli v8 c1_i32_12
  let v10 : BitVec 32 := Scalar.addi c0_i32_11 v9
  let v7 : BitVec 32 := Scalar.addi c0_i32_11 v6
  let c1_i32_14 : BitVec 32 := 1#32
  ⟨v10, v7, c1_i32_14⟩
def k0_off69 (v1_0 : BitVec 32) (k0_t16 : Fin (k0_t16_loop v1_0).trips) : Fin 2 → Nat :=
  let c0_15 : Index := 0#32
  let c0_i32_11 : BitVec 32 := 0#32
  let v6 : BitVec 32 := Scalar.subi v1_0 c0_i32_11
  let c1_i32_12 : BitVec 32 := 1#32
  let v8 : BitVec 32 := Scalar.divsi v6 c1_i32_12
  let v9 : BitVec 32 := Scalar.muli v8 c1_i32_12
  let v10 : BitVec 32 := Scalar.addi c0_i32_11 v9
  let c1_i32_14 : BitVec 32 := 1#32
  let arg11 : BitVec 32 := Scf.iv v10 c1_i32_14 k0_t16
  let v11 : Index := Scalar.indexCast arg11
  ![0, v11.toNat]
def k0_off70 (v1_0 : BitVec 32) (k0_t16 : Fin (k0_t16_loop v1_0).trips) : Fin 2 → Nat :=
  let c1 : Index := 1#32
  let c0_i32_11 : BitVec 32 := 0#32
  let v6 : BitVec 32 := Scalar.subi v1_0 c0_i32_11
  let c1_i32_12 : BitVec 32 := 1#32
  let v8 : BitVec 32 := Scalar.divsi v6 c1_i32_12
  let v9 : BitVec 32 := Scalar.muli v8 c1_i32_12
  let v10 : BitVec 32 := Scalar.addi c0_i32_11 v9
  let c1_i32_14 : BitVec 32 := 1#32
  let arg11 : BitVec 32 := Scf.iv v10 c1_i32_14 k0_t16
  let v13 : Index := Scalar.indexCast arg11
  ![1, v13.toNat]
def k0_off71 (v1_0 : BitVec 32) (k0_t16 : Fin (k0_t16_loop v1_0).trips) : Fin 2 → Nat :=
  let c2 : Index := 2#32
  let c0_i32_11 : BitVec 32 := 0#32
  let v6 : BitVec 32 := Scalar.subi v1_0 c0_i32_11
  let c1_i32_12 : BitVec 32 := 1#32
  let v8 : BitVec 32 := Scalar.divsi v6 c1_i32_12
  let v9 : BitVec 32 := Scalar.muli v8 c1_i32_12
  let v10 : BitVec 32 := Scalar.addi c0_i32_11 v9
  let c1_i32_14 : BitVec 32 := 1#32
  let arg11 : BitVec 32 := Scf.iv v10 c1_i32_14 k0_t16
  let v15 : Index := Scalar.indexCast arg11
  ![2, v15.toNat]
def k0_mult57 (v14 : BitVec 32) : BitVec 32 :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c112_i32 : BitVec 32 := 112#32
  let v80 : BitVec 32 := Scalar.minsi v79 c112_i32
  v80
def k0_cond7 (v14 : BitVec 32) (v16 : BitVec 32) : BitVec 1 :=
  let c16_i32_24 : BitVec 32 := 16#32
  let v35 : BitVec 32 := Scalar.addi v16 c16_i32_24
  let c1_i32_25 : BitVec 32 := 1#32
  let v36 : BitVec 32 := Scalar.subi v35 c1_i32_25
  let c0_i32_27 : BitVec 32 := 0#32
  let v38 : BitVec 1 := Scalar.cmpi .sgt v36 c0_i32_27
  let v39 : BitVec 32 := Scalar.extui v38
  let c0_i32_28 : BitVec 32 := 0#32
  let v40 : BitVec 1 := Scalar.cmpi .slt v36 c0_i32_28
  let v41 : BitVec 32 := Scalar.extui v40
  let v42 : BitVec 32 := Scalar.subi v39 v41
  let c16_i32_26 : BitVec 32 := 16#32
  let c0_i32_29 : BitVec 32 := 0#32
  let v43 : BitVec 1 := Scalar.cmpi .sgt c16_i32_26 c0_i32_29
  let v44 : BitVec 32 := Scalar.extui v43
  let c0_i32_30 : BitVec 32 := 0#32
  let v45 : BitVec 1 := Scalar.cmpi .slt c16_i32_26 c0_i32_30
  let v46 : BitVec 32 := Scalar.extui v45
  let v47 : BitVec 32 := Scalar.subi v44 v46
  let v48 : BitVec 1 := Scalar.cmpi .ne v42 v47
  let v49 : BitVec 32 := Scalar.remsi v36 c16_i32_26
  let c0_i32_31 : BitVec 32 := 0#32
  let v50 : BitVec 1 := Scalar.cmpi .ne v49 c0_i32_31
  let v51 : BitVec 1 := Scalar.andi v48 v50
  let v37 : BitVec 32 := Scalar.divsi v36 c16_i32_26
  let c1_i32_32 : BitVec 32 := 1#32
  let v52 : BitVec 32 := Scalar.subi v37 c1_i32_32
  let v53 : BitVec 32 := Scalar.select v51 v52 v37
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let v54 : BitVec 32 := Scalar.subi v53 v34
  let c0_i32_33 : BitVec 32 := 0#32
  let v55 : BitVec 1 := Scalar.cmpi .sgt v54 c0_i32_33
  let c1_i32_34 : BitVec 32 := 1#32
  let v56 : BitVec 1 := Scalar.cmpi .sle v54 c1_i32_34
  let v57 : BitVec 1 := Scalar.andi v55 v56
  let v58 : BitVec 32 := Scalar.extui v57
  let c0_i32_35 : BitVec 32 := 0#32
  let v59 : BitVec 1 := Scalar.cmpi .ne v58 c0_i32_35
  v59

@[reducible] def k0_t17_loop : Scf.Loop 32 :=
  let c0_i32_47 : BitVec 32 := 0#32
  let c6_i32 : BitVec 32 := 6#32
  let v90 : BitVec 32 := Scalar.addi c0_i32_47 c6_i32
  let c1_i32_48 : BitVec 32 := 1#32
  ⟨c0_i32_47, v90, c1_i32_48⟩
def k0_mult58 (k0_t17 : Fin k0_t17_loop.trips) : BitVec 32 :=
  let c0_i32_47 : BitVec 32 := 0#32
  let c1_i32_48 : BitVec 32 := 1#32
  let arg12 : BitVec 32 := Scf.iv c0_i32_47 c1_i32_48 k0_t17
  let c256_i32 : BitVec 32 := 256#32
  let v92 : BitVec 32 := Scalar.muli arg12 c256_i32
  v92
def k0_off72 (v1_0 : BitVec 32) (k0_t16 : Fin (k0_t16_loop v1_0).trips) : Fin 2 → Nat :=
  let c0_51 : Index := 0#32
  let c0_i32_11 : BitVec 32 := 0#32
  let v6 : BitVec 32 := Scalar.subi v1_0 c0_i32_11
  let c1_i32_12 : BitVec 32 := 1#32
  let v8 : BitVec 32 := Scalar.divsi v6 c1_i32_12
  let v9 : BitVec 32 := Scalar.muli v8 c1_i32_12
  let v10 : BitVec 32 := Scalar.addi c0_i32_11 v9
  let c1_i32_14 : BitVec 32 := 1#32
  let arg11 : BitVec 32 := Scf.iv v10 c1_i32_14 k0_t16
  let v94 : Index := Scalar.indexCast arg11
  ![0, v94.toNat]
def k0_off73 (v1_0 : BitVec 32) (k0_t16 : Fin (k0_t16_loop v1_0).trips) (k0_t17 : Fin k0_t17_loop.trips) : Fin 2 → Nat :=
  let c0_i32_11 : BitVec 32 := 0#32
  let v6 : BitVec 32 := Scalar.subi v1_0 c0_i32_11
  let c1_i32_12 : BitVec 32 := 1#32
  let v8 : BitVec 32 := Scalar.divsi v6 c1_i32_12
  let v9 : BitVec 32 := Scalar.muli v8 c1_i32_12
  let v10 : BitVec 32 := Scalar.addi c0_i32_11 v9
  let c1_i32_14 : BitVec 32 := 1#32
  let arg11 : BitVec 32 := Scf.iv v10 c1_i32_14 k0_t16
  let c5_i32_50 : BitVec 32 := 5#32
  let v91 : BitVec 32 := Scalar.remsi arg11 c5_i32_50
  let c0_i32_47 : BitVec 32 := 0#32
  let c1_i32_48 : BitVec 32 := 1#32
  let arg12 : BitVec 32 := Scf.iv c0_i32_47 c1_i32_48 k0_t17
  ![v91.toNat, arg12.toNat]
def k0_off74 (v1_0 : BitVec 32) (k0_t16 : Fin (k0_t16_loop v1_0).trips) (k0_t17 : Fin k0_t17_loop.trips) : Fin 3 → Nat :=
  let c0_i32_11 : BitVec 32 := 0#32
  let v6 : BitVec 32 := Scalar.subi v1_0 c0_i32_11
  let c1_i32_12 : BitVec 32 := 1#32
  let v8 : BitVec 32 := Scalar.divsi v6 c1_i32_12
  let v9 : BitVec 32 := Scalar.muli v8 c1_i32_12
  let v10 : BitVec 32 := Scalar.addi c0_i32_11 v9
  let c1_i32_14 : BitVec 32 := 1#32
  let arg11 : BitVec 32 := Scf.iv v10 c1_i32_14 k0_t16
  let c5_i32_50 : BitVec 32 := 5#32
  let v91 : BitVec 32 := Scalar.remsi arg11 c5_i32_50
  let c0_i32_47 : BitVec 32 := 0#32
  let c1_i32_48 : BitVec 32 := 1#32
  let arg12 : BitVec 32 := Scf.iv c0_i32_47 c1_i32_48 k0_t17
  let c256_i32 : BitVec 32 := 256#32
  let v92 : BitVec 32 := Scalar.muli arg12 c256_i32
  let v93 : BitVec 32 := v92
  let c0_i32_52 : BitVec 32 := 0#32
  ![v91.toNat, v93.toNat, 0]
def k0_off75 (k0_t17 : Fin k0_t17_loop.trips) (v95 : BitVec 32) : Fin 3 → Nat :=
  let c0_i32_47 : BitVec 32 := 0#32
  let c1_i32_48 : BitVec 32 := 1#32
  let arg12 : BitVec 32 := Scf.iv c0_i32_47 c1_i32_48 k0_t17
  let c256_i32 : BitVec 32 := 256#32
  let v92 : BitVec 32 := Scalar.muli arg12 c256_i32
  let v93 : BitVec 32 := v92
  let c0_i32_53 : BitVec 32 := 0#32
  ![v95.toNat, v93.toNat, 0]

def k0_chk11 (v14 : BitVec 32) (v16 : BitVec 32) (k0_t17 : Fin k0_t17_loop.trips) (v95 : BitVec 32) : Prop :=
  (∀ (k0_h7 : k0_cond7 v14 v16 = 1#1), ∀ a, (k0_off75 k0_t17 v95) a + S1x256x5120.size a ≤ S16x1536x5120.size a) ∧
  (∀ (k0_h7 : k0_cond7 v14 v16 = 1#1), ∀ (hinb : ∀ a, (k0_off75 k0_t17 v95) a + S1x256x5120.size a ≤ S16x1536x5120.size a), (Rect.unit (s := S16x1536x5120) (k0_off75 k0_t17 v95) S1x256x5120.size hinb).WholeWords (EltTy.packing .fp8e4m3))
theorem k0_off75_inb : ∀ (v14 : BitVec 32) (v16 : BitVec 32) (k0_t17 : Fin k0_t17_loop.trips) (v95 : BitVec 32) (k0_hw11 : k0_chk11 v14 v16 k0_t17 v95), ∀ (k0_h7 : k0_cond7 v14 v16 = 1#1), ∀ a, (k0_off75 k0_t17 v95) a + S1x256x5120.size a ≤ S16x1536x5120.size a := fun v14 v16 k0_t17 v95 k0_hw11 k0_h7 => k0_hw11.1 k0_h7
theorem k0_off75_wordsfp8e4m3 : ∀ (v14 : BitVec 32) (v16 : BitVec 32) (k0_t17 : Fin k0_t17_loop.trips) (v95 : BitVec 32) (k0_hw11 : k0_chk11 v14 v16 k0_t17 v95), ∀ (k0_h7 : k0_cond7 v14 v16 = 1#1), (Rect.unit (s := S16x1536x5120) (k0_off75 k0_t17 v95) S1x256x5120.size (k0_off75_inb v14 v16 k0_t17 v95 k0_hw11 k0_h7)).WholeWords (EltTy.packing .fp8e4m3) := fun v14 v16 k0_t17 v95 k0_hw11 k0_h7 => k0_hw11.2 k0_h7 (k0_off75_inb v14 v16 k0_t17 v95 k0_hw11 k0_h7)

def k0_mult59 (k0_t17 : Fin k0_t17_loop.trips) : BitVec 32 :=
  let c0_i32_47 : BitVec 32 := 0#32
  let c1_i32_48 : BitVec 32 := 1#32
  let arg12 : BitVec 32 := Scf.iv c0_i32_47 c1_i32_48 k0_t17
  let c256_i32_54 : BitVec 32 := 256#32
  let v102 : BitVec 32 := Scalar.muli arg12 c256_i32_54
  v102
def k0_off76 (v12 : BitVec 32) (k0_t17 : Fin k0_t17_loop.trips) (c0_i32_56 : BitVec 32) : Fin 3 → Nat :=
  let v106 : Index := Scalar.indexCast v12
  let c2_i32_55 : BitVec 32 := 2#32
  let c0_i32_47 : BitVec 32 := 0#32
  let c1_i32_48 : BitVec 32 := 1#32
  let arg12 : BitVec 32 := Scf.iv c0_i32_47 c1_i32_48 k0_t17
  let v104 : BitVec 32 := Scalar.muli c2_i32_55 arg12
  let v105 : BitVec 32 := Scalar.addi v104 c0_i32_56
  let v107 : Index := Scalar.indexCast v105
  let c0_57 : Index := 0#32
  ![v106.toNat, v107.toNat, 0]
def k0_mult60 : BitVec 32 :=
  let c0_i32_58 : BitVec 32 := 0#32
  c0_i32_58
def k0_off77 (v14 : BitVec 32) : Fin 2 → Nat :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c112_i32 : BitVec 32 := 112#32
  let v80 : BitVec 32 := Scalar.minsi v79 c112_i32
  let v81 : BitVec 32 := v80
  let v112 : Index := Scalar.indexCast v81
  let c0_i32_58 : BitVec 32 := 0#32
  let v111 : BitVec 32 := c0_i32_58
  let v113 : Index := Scalar.indexCast v111
  ![v112.toNat, 0]
def k0_off78 (v12 : BitVec 32) (k0_t17 : Fin k0_t17_loop.trips) (c0_i32_60 : BitVec 32) : Fin 3 → Nat :=
  let v118 : Index := Scalar.indexCast v12
  let c2_i32_59 : BitVec 32 := 2#32
  let c0_i32_47 : BitVec 32 := 0#32
  let c1_i32_48 : BitVec 32 := 1#32
  let arg12 : BitVec 32 := Scf.iv c0_i32_47 c1_i32_48 k0_t17
  let v116 : BitVec 32 := Scalar.muli c2_i32_59 arg12
  let v117 : BitVec 32 := Scalar.addi v116 c0_i32_60
  let v119 : Index := Scalar.indexCast v117
  let c1_61 : Index := 1#32
  ![v118.toNat, v119.toNat, 1]
def k0_mult61 : BitVec 32 :=
  let c128_i32 : BitVec 32 := 128#32
  c128_i32
def k0_off79 (v14 : BitVec 32) : Fin 2 → Nat :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c112_i32 : BitVec 32 := 112#32
  let v80 : BitVec 32 := Scalar.minsi v79 c112_i32
  let v81 : BitVec 32 := v80
  let v124 : Index := Scalar.indexCast v81
  let c128_i32 : BitVec 32 := 128#32
  let v123 : BitVec 32 := c128_i32
  let v125 : Index := Scalar.indexCast v123
  ![v124.toNat, 128]
def k0_mult62 : BitVec 32 :=
  let c0_i32_65 : BitVec 32 := 0#32
  c0_i32_65
def k0_mult63 : BitVec 32 :=
  let c128_i32_69 : BitVec 32 := 128#32
  c128_i32_69
def k0_mult64 : BitVec 32 :=
  let c0_i32_70 : BitVec 32 := 0#32
  c0_i32_70
def k0_off80 (v1_0 : BitVec 32) (k0_t16 : Fin (k0_t16_loop v1_0).trips) (k0_t17 : Fin k0_t17_loop.trips) : Fin 3 → Nat :=
  let c0_i32_11 : BitVec 32 := 0#32
  let v6 : BitVec 32 := Scalar.subi v1_0 c0_i32_11
  let c1_i32_12 : BitVec 32 := 1#32
  let v8 : BitVec 32 := Scalar.divsi v6 c1_i32_12
  let v9 : BitVec 32 := Scalar.muli v8 c1_i32_12
  let v10 : BitVec 32 := Scalar.addi c0_i32_11 v9
  let c1_i32_14 : BitVec 32 := 1#32
  let arg11 : BitVec 32 := Scf.iv v10 c1_i32_14 k0_t16
  let c5_i32_16 : BitVec 32 := 5#32
  let v17 : BitVec 32 := Scalar.remsi arg11 c5_i32_16
  let v156 : Index := Scalar.indexCast v17
  let c0_i32_47 : BitVec 32 := 0#32
  let c1_i32_48 : BitVec 32 := 1#32
  let arg12 : BitVec 32 := Scf.iv c0_i32_47 c1_i32_48 k0_t17
  let c256_i32_54 : BitVec 32 := 256#32
  let v102 : BitVec 32 := Scalar.muli arg12 c256_i32_54
  let v103 : BitVec 32 := v102
  let v157 : Index := Scalar.indexCast v103
  let c0_i32_70 : BitVec 32 := 0#32
  let v155 : BitVec 32 := c0_i32_70
  let v158 : Index := Scalar.indexCast v155
  ![v156.toNat, v157.toNat, 0]
@[reducible] def k0_t18_loop : Scf.Loop 32 :=
  let c1_i32_72 : BitVec 32 := 1#32
  let c19_i32 : BitVec 32 := 19#32
  let v162 : BitVec 32 := Scalar.addi c1_i32_72 c19_i32
  let c1_i32_73 : BitVec 32 := 1#32
  ⟨c1_i32_72, v162, c1_i32_73⟩
def k0_off81 (v12 : BitVec 32) (k0_t17 : Fin k0_t17_loop.trips) (k0_t18 : Fin k0_t18_loop.trips) (c0_i32_78 : BitVec 32) (c0_i32_76 : BitVec 32) : Fin 3 → Nat :=
  let v183 : Index := Scalar.indexCast v12
  let c2_i32_77 : BitVec 32 := 2#32
  let c0_i32_47 : BitVec 32 := 0#32
  let c1_i32_48 : BitVec 32 := 1#32
  let arg12 : BitVec 32 := Scf.iv c0_i32_47 c1_i32_48 k0_t17
  let v181 : BitVec 32 := Scalar.muli c2_i32_77 arg12
  let v182 : BitVec 32 := Scalar.addi v181 c0_i32_78
  let v184 : Index := Scalar.indexCast v182
  let c2_i32_75 : BitVec 32 := 2#32
  let c1_i32_72 : BitVec 32 := 1#32
  let c1_i32_73 : BitVec 32 := 1#32
  let arg13 : BitVec 32 := Scf.iv c1_i32_72 c1_i32_73 k0_t18
  let v179 : BitVec 32 := Scalar.muli c2_i32_75 arg13
  let v180 : BitVec 32 := Scalar.addi v179 c0_i32_76
  let v185 : Index := Scalar.indexCast v180
  ![v183.toNat, v184.toNat, v185.toNat]
def k0_mult65 (k0_t18 : Fin k0_t18_loop.trips) : BitVec 32 :=
  let c2_i32_75 : BitVec 32 := 2#32
  let c1_i32_72 : BitVec 32 := 1#32
  let c1_i32_73 : BitVec 32 := 1#32
  let arg13 : BitVec 32 := Scf.iv c1_i32_72 c1_i32_73 k0_t18
  let v179 : BitVec 32 := Scalar.muli c2_i32_75 arg13
  let c0_i32_76 : BitVec 32 := 0#32
  let v180 : BitVec 32 := Scalar.addi v179 c0_i32_76
  let c128_i32_79 : BitVec 32 := 128#32
  let v189 : BitVec 32 := Scalar.muli v180 c128_i32_79
  v189
def k0_off82 (v14 : BitVec 32) (k0_t18 : Fin k0_t18_loop.trips) (c0_i32_76 : BitVec 32) : Fin 2 → Nat :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c112_i32 : BitVec 32 := 112#32
  let v80 : BitVec 32 := Scalar.minsi v79 c112_i32
  let v81 : BitVec 32 := v80
  let v191 : Index := Scalar.indexCast v81
  let c2_i32_75 : BitVec 32 := 2#32
  let c1_i32_72 : BitVec 32 := 1#32
  let c1_i32_73 : BitVec 32 := 1#32
  let arg13 : BitVec 32 := Scf.iv c1_i32_72 c1_i32_73 k0_t18
  let v179 : BitVec 32 := Scalar.muli c2_i32_75 arg13
  let v180 : BitVec 32 := Scalar.addi v179 c0_i32_76
  let c128_i32_79 : BitVec 32 := 128#32
  let v189 : BitVec 32 := Scalar.muli v180 c128_i32_79
  let v190 : BitVec 32 := v189
  let v192 : Index := Scalar.indexCast v190
  ![v191.toNat, v192.toNat]
def k0_mult66 (k0_t18 : Fin k0_t18_loop.trips) : BitVec 32 :=
  let c2_i32_80 : BitVec 32 := 2#32
  let c1_i32_72 : BitVec 32 := 1#32
  let c1_i32_73 : BitVec 32 := 1#32
  let arg13 : BitVec 32 := Scf.iv c1_i32_72 c1_i32_73 k0_t18
  let v195 : BitVec 32 := Scalar.muli c2_i32_80 arg13
  let c1_i32_81 : BitVec 32 := 1#32
  let v196 : BitVec 32 := Scalar.addi v195 c1_i32_81
  let c128_i32_84 : BitVec 32 := 128#32
  let v205 : BitVec 32 := Scalar.muli v196 c128_i32_84
  v205
def k0_mult67 (k0_t18 : Fin k0_t18_loop.trips) : BitVec 32 :=
  let c2_i32_85 : BitVec 32 := 2#32
  let c1_i32_72 : BitVec 32 := 1#32
  let c1_i32_73 : BitVec 32 := 1#32
  let arg13 : BitVec 32 := Scf.iv c1_i32_72 c1_i32_73 k0_t18
  let v212 : BitVec 32 := Scalar.muli c2_i32_85 arg13
  let c0_i32_86 : BitVec 32 := 0#32
  let v213 : BitVec 32 := Scalar.addi v212 c0_i32_86
  let c128_i32_89 : BitVec 32 := 128#32
  let v222 : BitVec 32 := Scalar.muli v213 c128_i32_89
  v222
def k0_mult68 (k0_t18 : Fin k0_t18_loop.trips) : BitVec 32 :=
  let c2_i32_90 : BitVec 32 := 2#32
  let c1_i32_72 : BitVec 32 := 1#32
  let c1_i32_73 : BitVec 32 := 1#32
  let arg13 : BitVec 32 := Scf.iv c1_i32_72 c1_i32_73 k0_t18
  let v228 : BitVec 32 := Scalar.muli c2_i32_90 arg13
  let c1_i32_91 : BitVec 32 := 1#32
  let v229 : BitVec 32 := Scalar.addi v228 c1_i32_91
  let c128_i32_94 : BitVec 32 := 128#32
  let v238 : BitVec 32 := Scalar.muli v229 c128_i32_94
  v238
def k0_mult69 (k0_t18 : Fin k0_t18_loop.trips) : BitVec 32 :=
  let c1_i32_72 : BitVec 32 := 1#32
  let c1_i32_73 : BitVec 32 := 1#32
  let arg13 : BitVec 32 := Scf.iv c1_i32_72 c1_i32_73 k0_t18
  let c256_i32_95 : BitVec 32 := 256#32
  let v246 : BitVec 32 := Scalar.muli arg13 c256_i32_95
  v246
def k0_off83 (v1_0 : BitVec 32) (k0_t16 : Fin (k0_t16_loop v1_0).trips) (k0_t17 : Fin k0_t17_loop.trips) (k0_t18 : Fin k0_t18_loop.trips) : Fin 3 → Nat :=
  let c0_i32_11 : BitVec 32 := 0#32
  let v6 : BitVec 32 := Scalar.subi v1_0 c0_i32_11
  let c1_i32_12 : BitVec 32 := 1#32
  let v8 : BitVec 32 := Scalar.divsi v6 c1_i32_12
  let v9 : BitVec 32 := Scalar.muli v8 c1_i32_12
  let v10 : BitVec 32 := Scalar.addi c0_i32_11 v9
  let c1_i32_14 : BitVec 32 := 1#32
  let arg11 : BitVec 32 := Scf.iv v10 c1_i32_14 k0_t16
  let c5_i32_16 : BitVec 32 := 5#32
  let v17 : BitVec 32 := Scalar.remsi arg11 c5_i32_16
  let v248 : Index := Scalar.indexCast v17
  let c0_i32_47 : BitVec 32 := 0#32
  let c1_i32_48 : BitVec 32 := 1#32
  let arg12 : BitVec 32 := Scf.iv c0_i32_47 c1_i32_48 k0_t17
  let c256_i32_54 : BitVec 32 := 256#32
  let v102 : BitVec 32 := Scalar.muli arg12 c256_i32_54
  let v103 : BitVec 32 := v102
  let v249 : Index := Scalar.indexCast v103
  let c1_i32_72 : BitVec 32 := 1#32
  let c1_i32_73 : BitVec 32 := 1#32
  let arg13 : BitVec 32 := Scf.iv c1_i32_72 c1_i32_73 k0_t18
  let c256_i32_95 : BitVec 32 := 256#32
  let v246 : BitVec 32 := Scalar.muli arg13 c256_i32_95
  let v247 : BitVec 32 := v246
  let v250 : Index := Scalar.indexCast v247
  ![v248.toNat, v249.toNat, v250.toNat]
def k0_off84 (v14 : BitVec 32) (k0_t17 : Fin k0_t17_loop.trips) : Fin 2 → Nat :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c112_i32 : BitVec 32 := 112#32
  let v80 : BitVec 32 := Scalar.minsi v79 c112_i32
  let v81 : BitVec 32 := v80
  let v167 : Index := Scalar.indexCast v81
  let c0_i32_47 : BitVec 32 := 0#32
  let c1_i32_48 : BitVec 32 := 1#32
  let arg12 : BitVec 32 := Scf.iv c0_i32_47 c1_i32_48 k0_t17
  let c256_i32_54 : BitVec 32 := 256#32
  let v102 : BitVec 32 := Scalar.muli arg12 c256_i32_54
  let v103 : BitVec 32 := v102
  let v168 : Index := Scalar.indexCast v103
  ![v167.toNat, v168.toNat]
def k0_mult70 (v14 : BitVec 32) : BitVec 32 :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c96_i32 : BitVec 32 := 96#32
  let v80 : BitVec 32 := Scalar.minsi v79 c96_i32
  v80
def k0_cond8 (v14 : BitVec 32) (v16 : BitVec 32) : BitVec 1 :=
  let c16_i32_24 : BitVec 32 := 16#32
  let v35 : BitVec 32 := Scalar.addi v16 c16_i32_24
  let c1_i32_25 : BitVec 32 := 1#32
  let v36 : BitVec 32 := Scalar.subi v35 c1_i32_25
  let c0_i32_27 : BitVec 32 := 0#32
  let v38 : BitVec 1 := Scalar.cmpi .sgt v36 c0_i32_27
  let v39 : BitVec 32 := Scalar.extui v38
  let c0_i32_28 : BitVec 32 := 0#32
  let v40 : BitVec 1 := Scalar.cmpi .slt v36 c0_i32_28
  let v41 : BitVec 32 := Scalar.extui v40
  let v42 : BitVec 32 := Scalar.subi v39 v41
  let c16_i32_26 : BitVec 32 := 16#32
  let c0_i32_29 : BitVec 32 := 0#32
  let v43 : BitVec 1 := Scalar.cmpi .sgt c16_i32_26 c0_i32_29
  let v44 : BitVec 32 := Scalar.extui v43
  let c0_i32_30 : BitVec 32 := 0#32
  let v45 : BitVec 1 := Scalar.cmpi .slt c16_i32_26 c0_i32_30
  let v46 : BitVec 32 := Scalar.extui v45
  let v47 : BitVec 32 := Scalar.subi v44 v46
  let v48 : BitVec 1 := Scalar.cmpi .ne v42 v47
  let v49 : BitVec 32 := Scalar.remsi v36 c16_i32_26
  let c0_i32_31 : BitVec 32 := 0#32
  let v50 : BitVec 1 := Scalar.cmpi .ne v49 c0_i32_31
  let v51 : BitVec 1 := Scalar.andi v48 v50
  let v37 : BitVec 32 := Scalar.divsi v36 c16_i32_26
  let c1_i32_32 : BitVec 32 := 1#32
  let v52 : BitVec 32 := Scalar.subi v37 c1_i32_32
  let v53 : BitVec 32 := Scalar.select v51 v52 v37
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let v54 : BitVec 32 := Scalar.subi v53 v34
  let c1_i32_36 : BitVec 32 := 1#32
  let v60 : BitVec 1 := Scalar.cmpi .sgt v54 c1_i32_36
  let c2_i32 : BitVec 32 := 2#32
  let v61 : BitVec 1 := Scalar.cmpi .sle v54 c2_i32
  let v62 : BitVec 1 := Scalar.andi v60 v61
  let v63 : BitVec 32 := Scalar.extui v62
  let c0_i32_37 : BitVec 32 := 0#32
  let v64 : BitVec 1 := Scalar.cmpi .ne v63 c0_i32_37
  v64

@[reducible] def k0_t19_loop : Scf.Loop 32 :=
  let c0_i32_47 : BitVec 32 := 0#32
  let c6_i32 : BitVec 32 := 6#32
  let v90 : BitVec 32 := Scalar.addi c0_i32_47 c6_i32
  let c1_i32_48 : BitVec 32 := 1#32
  ⟨c0_i32_47, v90, c1_i32_48⟩
def k0_mult71 (k0_t19 : Fin k0_t19_loop.trips) : BitVec 32 :=
  let c0_i32_47 : BitVec 32 := 0#32
  let c1_i32_48 : BitVec 32 := 1#32
  let arg12 : BitVec 32 := Scf.iv c0_i32_47 c1_i32_48 k0_t19
  let c256_i32 : BitVec 32 := 256#32
  let v92 : BitVec 32 := Scalar.muli arg12 c256_i32
  v92
def k0_off85 (v1_0 : BitVec 32) (k0_t16 : Fin (k0_t16_loop v1_0).trips) : Fin 2 → Nat :=
  let c0_51 : Index := 0#32
  let c0_i32_11 : BitVec 32 := 0#32
  let v6 : BitVec 32 := Scalar.subi v1_0 c0_i32_11
  let c1_i32_12 : BitVec 32 := 1#32
  let v8 : BitVec 32 := Scalar.divsi v6 c1_i32_12
  let v9 : BitVec 32 := Scalar.muli v8 c1_i32_12
  let v10 : BitVec 32 := Scalar.addi c0_i32_11 v9
  let c1_i32_14 : BitVec 32 := 1#32
  let arg11 : BitVec 32 := Scf.iv v10 c1_i32_14 k0_t16
  let v94 : Index := Scalar.indexCast arg11
  ![0, v94.toNat]
def k0_off86 (v1_0 : BitVec 32) (k0_t16 : Fin (k0_t16_loop v1_0).trips) (k0_t19 : Fin k0_t19_loop.trips) : Fin 2 → Nat :=
  let c0_i32_11 : BitVec 32 := 0#32
  let v6 : BitVec 32 := Scalar.subi v1_0 c0_i32_11
  let c1_i32_12 : BitVec 32 := 1#32
  let v8 : BitVec 32 := Scalar.divsi v6 c1_i32_12
  let v9 : BitVec 32 := Scalar.muli v8 c1_i32_12
  let v10 : BitVec 32 := Scalar.addi c0_i32_11 v9
  let c1_i32_14 : BitVec 32 := 1#32
  let arg11 : BitVec 32 := Scf.iv v10 c1_i32_14 k0_t16
  let c5_i32_50 : BitVec 32 := 5#32
  let v91 : BitVec 32 := Scalar.remsi arg11 c5_i32_50
  let c0_i32_47 : BitVec 32 := 0#32
  let c1_i32_48 : BitVec 32 := 1#32
  let arg12 : BitVec 32 := Scf.iv c0_i32_47 c1_i32_48 k0_t19
  ![v91.toNat, arg12.toNat]
def k0_off87 (v1_0 : BitVec 32) (k0_t16 : Fin (k0_t16_loop v1_0).trips) (k0_t19 : Fin k0_t19_loop.trips) : Fin 3 → Nat :=
  let c0_i32_11 : BitVec 32 := 0#32
  let v6 : BitVec 32 := Scalar.subi v1_0 c0_i32_11
  let c1_i32_12 : BitVec 32 := 1#32
  let v8 : BitVec 32 := Scalar.divsi v6 c1_i32_12
  let v9 : BitVec 32 := Scalar.muli v8 c1_i32_12
  let v10 : BitVec 32 := Scalar.addi c0_i32_11 v9
  let c1_i32_14 : BitVec 32 := 1#32
  let arg11 : BitVec 32 := Scf.iv v10 c1_i32_14 k0_t16
  let c5_i32_50 : BitVec 32 := 5#32
  let v91 : BitVec 32 := Scalar.remsi arg11 c5_i32_50
  let c0_i32_47 : BitVec 32 := 0#32
  let c1_i32_48 : BitVec 32 := 1#32
  let arg12 : BitVec 32 := Scf.iv c0_i32_47 c1_i32_48 k0_t19
  let c256_i32 : BitVec 32 := 256#32
  let v92 : BitVec 32 := Scalar.muli arg12 c256_i32
  let v93 : BitVec 32 := v92
  let c0_i32_52 : BitVec 32 := 0#32
  ![v91.toNat, v93.toNat, 0]
def k0_off88 (k0_t19 : Fin k0_t19_loop.trips) (v95 : BitVec 32) : Fin 3 → Nat :=
  let c0_i32_47 : BitVec 32 := 0#32
  let c1_i32_48 : BitVec 32 := 1#32
  let arg12 : BitVec 32 := Scf.iv c0_i32_47 c1_i32_48 k0_t19
  let c256_i32 : BitVec 32 := 256#32
  let v92 : BitVec 32 := Scalar.muli arg12 c256_i32
  let v93 : BitVec 32 := v92
  let c0_i32_53 : BitVec 32 := 0#32
  ![v95.toNat, v93.toNat, 0]

def k0_chk12 (v14 : BitVec 32) (v16 : BitVec 32) (k0_t19 : Fin k0_t19_loop.trips) (v95 : BitVec 32) : Prop :=
  (∀ (k0_h8 : k0_cond8 v14 v16 = 1#1), ∀ a, (k0_off88 k0_t19 v95) a + S1x256x5120.size a ≤ S16x1536x5120.size a) ∧
  (∀ (k0_h8 : k0_cond8 v14 v16 = 1#1), ∀ (hinb : ∀ a, (k0_off88 k0_t19 v95) a + S1x256x5120.size a ≤ S16x1536x5120.size a), (Rect.unit (s := S16x1536x5120) (k0_off88 k0_t19 v95) S1x256x5120.size hinb).WholeWords (EltTy.packing .fp8e4m3))
theorem k0_off88_inb : ∀ (v14 : BitVec 32) (v16 : BitVec 32) (k0_t19 : Fin k0_t19_loop.trips) (v95 : BitVec 32) (k0_hw12 : k0_chk12 v14 v16 k0_t19 v95), ∀ (k0_h8 : k0_cond8 v14 v16 = 1#1), ∀ a, (k0_off88 k0_t19 v95) a + S1x256x5120.size a ≤ S16x1536x5120.size a := fun v14 v16 k0_t19 v95 k0_hw12 k0_h8 => k0_hw12.1 k0_h8
theorem k0_off88_wordsfp8e4m3 : ∀ (v14 : BitVec 32) (v16 : BitVec 32) (k0_t19 : Fin k0_t19_loop.trips) (v95 : BitVec 32) (k0_hw12 : k0_chk12 v14 v16 k0_t19 v95), ∀ (k0_h8 : k0_cond8 v14 v16 = 1#1), (Rect.unit (s := S16x1536x5120) (k0_off88 k0_t19 v95) S1x256x5120.size (k0_off88_inb v14 v16 k0_t19 v95 k0_hw12 k0_h8)).WholeWords (EltTy.packing .fp8e4m3) := fun v14 v16 k0_t19 v95 k0_hw12 k0_h8 => k0_hw12.2 k0_h8 (k0_off88_inb v14 v16 k0_t19 v95 k0_hw12 k0_h8)

def k0_mult72 (k0_t19 : Fin k0_t19_loop.trips) : BitVec 32 :=
  let c0_i32_47 : BitVec 32 := 0#32
  let c1_i32_48 : BitVec 32 := 1#32
  let arg12 : BitVec 32 := Scf.iv c0_i32_47 c1_i32_48 k0_t19
  let c256_i32_54 : BitVec 32 := 256#32
  let v102 : BitVec 32 := Scalar.muli arg12 c256_i32_54
  v102
def k0_off89 (v12 : BitVec 32) (k0_t19 : Fin k0_t19_loop.trips) (c0_i32_56 : BitVec 32) : Fin 3 → Nat :=
  let v106 : Index := Scalar.indexCast v12
  let c2_i32_55 : BitVec 32 := 2#32
  let c0_i32_47 : BitVec 32 := 0#32
  let c1_i32_48 : BitVec 32 := 1#32
  let arg12 : BitVec 32 := Scf.iv c0_i32_47 c1_i32_48 k0_t19
  let v104 : BitVec 32 := Scalar.muli c2_i32_55 arg12
  let v105 : BitVec 32 := Scalar.addi v104 c0_i32_56
  let v107 : Index := Scalar.indexCast v105
  let c0_57 : Index := 0#32
  ![v106.toNat, v107.toNat, 0]
def k0_mult73 : BitVec 32 :=
  let c0_i32_58 : BitVec 32 := 0#32
  c0_i32_58
def k0_off90 (v14 : BitVec 32) : Fin 2 → Nat :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c96_i32 : BitVec 32 := 96#32
  let v80 : BitVec 32 := Scalar.minsi v79 c96_i32
  let v81 : BitVec 32 := v80
  let v112 : Index := Scalar.indexCast v81
  let c0_i32_58 : BitVec 32 := 0#32
  let v111 : BitVec 32 := c0_i32_58
  let v113 : Index := Scalar.indexCast v111
  ![v112.toNat, 0]
def k0_off91 (v12 : BitVec 32) (k0_t19 : Fin k0_t19_loop.trips) (c0_i32_60 : BitVec 32) : Fin 3 → Nat :=
  let v118 : Index := Scalar.indexCast v12
  let c2_i32_59 : BitVec 32 := 2#32
  let c0_i32_47 : BitVec 32 := 0#32
  let c1_i32_48 : BitVec 32 := 1#32
  let arg12 : BitVec 32 := Scf.iv c0_i32_47 c1_i32_48 k0_t19
  let v116 : BitVec 32 := Scalar.muli c2_i32_59 arg12
  let v117 : BitVec 32 := Scalar.addi v116 c0_i32_60
  let v119 : Index := Scalar.indexCast v117
  let c1_61 : Index := 1#32
  ![v118.toNat, v119.toNat, 1]
def k0_mult74 : BitVec 32 :=
  let c128_i32 : BitVec 32 := 128#32
  c128_i32
def k0_off92 (v14 : BitVec 32) : Fin 2 → Nat :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c96_i32 : BitVec 32 := 96#32
  let v80 : BitVec 32 := Scalar.minsi v79 c96_i32
  let v81 : BitVec 32 := v80
  let v124 : Index := Scalar.indexCast v81
  let c128_i32 : BitVec 32 := 128#32
  let v123 : BitVec 32 := c128_i32
  let v125 : Index := Scalar.indexCast v123
  ![v124.toNat, 128]
def k0_mult75 : BitVec 32 :=
  let c0_i32_65 : BitVec 32 := 0#32
  c0_i32_65
def k0_mult76 : BitVec 32 :=
  let c128_i32_69 : BitVec 32 := 128#32
  c128_i32_69
def k0_mult77 : BitVec 32 :=
  let c0_i32_70 : BitVec 32 := 0#32
  c0_i32_70
def k0_off93 (v1_0 : BitVec 32) (k0_t16 : Fin (k0_t16_loop v1_0).trips) (k0_t19 : Fin k0_t19_loop.trips) : Fin 3 → Nat :=
  let c0_i32_11 : BitVec 32 := 0#32
  let v6 : BitVec 32 := Scalar.subi v1_0 c0_i32_11
  let c1_i32_12 : BitVec 32 := 1#32
  let v8 : BitVec 32 := Scalar.divsi v6 c1_i32_12
  let v9 : BitVec 32 := Scalar.muli v8 c1_i32_12
  let v10 : BitVec 32 := Scalar.addi c0_i32_11 v9
  let c1_i32_14 : BitVec 32 := 1#32
  let arg11 : BitVec 32 := Scf.iv v10 c1_i32_14 k0_t16
  let c5_i32_16 : BitVec 32 := 5#32
  let v17 : BitVec 32 := Scalar.remsi arg11 c5_i32_16
  let v156 : Index := Scalar.indexCast v17
  let c0_i32_47 : BitVec 32 := 0#32
  let c1_i32_48 : BitVec 32 := 1#32
  let arg12 : BitVec 32 := Scf.iv c0_i32_47 c1_i32_48 k0_t19
  let c256_i32_54 : BitVec 32 := 256#32
  let v102 : BitVec 32 := Scalar.muli arg12 c256_i32_54
  let v103 : BitVec 32 := v102
  let v157 : Index := Scalar.indexCast v103
  let c0_i32_70 : BitVec 32 := 0#32
  let v155 : BitVec 32 := c0_i32_70
  let v158 : Index := Scalar.indexCast v155
  ![v156.toNat, v157.toNat, 0]
@[reducible] def k0_t20_loop : Scf.Loop 32 :=
  let c1_i32_72 : BitVec 32 := 1#32
  let c19_i32 : BitVec 32 := 19#32
  let v162 : BitVec 32 := Scalar.addi c1_i32_72 c19_i32
  let c1_i32_73 : BitVec 32 := 1#32
  ⟨c1_i32_72, v162, c1_i32_73⟩
def k0_off94 (v12 : BitVec 32) (k0_t19 : Fin k0_t19_loop.trips) (k0_t20 : Fin k0_t20_loop.trips) (c0_i32_78 : BitVec 32) (c0_i32_76 : BitVec 32) : Fin 3 → Nat :=
  let v183 : Index := Scalar.indexCast v12
  let c2_i32_77 : BitVec 32 := 2#32
  let c0_i32_47 : BitVec 32 := 0#32
  let c1_i32_48 : BitVec 32 := 1#32
  let arg12 : BitVec 32 := Scf.iv c0_i32_47 c1_i32_48 k0_t19
  let v181 : BitVec 32 := Scalar.muli c2_i32_77 arg12
  let v182 : BitVec 32 := Scalar.addi v181 c0_i32_78
  let v184 : Index := Scalar.indexCast v182
  let c2_i32_75 : BitVec 32 := 2#32
  let c1_i32_72 : BitVec 32 := 1#32
  let c1_i32_73 : BitVec 32 := 1#32
  let arg13 : BitVec 32 := Scf.iv c1_i32_72 c1_i32_73 k0_t20
  let v179 : BitVec 32 := Scalar.muli c2_i32_75 arg13
  let v180 : BitVec 32 := Scalar.addi v179 c0_i32_76
  let v185 : Index := Scalar.indexCast v180
  ![v183.toNat, v184.toNat, v185.toNat]
def k0_mult78 (k0_t20 : Fin k0_t20_loop.trips) : BitVec 32 :=
  let c2_i32_75 : BitVec 32 := 2#32
  let c1_i32_72 : BitVec 32 := 1#32
  let c1_i32_73 : BitVec 32 := 1#32
  let arg13 : BitVec 32 := Scf.iv c1_i32_72 c1_i32_73 k0_t20
  let v179 : BitVec 32 := Scalar.muli c2_i32_75 arg13
  let c0_i32_76 : BitVec 32 := 0#32
  let v180 : BitVec 32 := Scalar.addi v179 c0_i32_76
  let c128_i32_79 : BitVec 32 := 128#32
  let v189 : BitVec 32 := Scalar.muli v180 c128_i32_79
  v189
def k0_off95 (v14 : BitVec 32) (k0_t20 : Fin k0_t20_loop.trips) (c0_i32_76 : BitVec 32) : Fin 2 → Nat :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c96_i32 : BitVec 32 := 96#32
  let v80 : BitVec 32 := Scalar.minsi v79 c96_i32
  let v81 : BitVec 32 := v80
  let v191 : Index := Scalar.indexCast v81
  let c2_i32_75 : BitVec 32 := 2#32
  let c1_i32_72 : BitVec 32 := 1#32
  let c1_i32_73 : BitVec 32 := 1#32
  let arg13 : BitVec 32 := Scf.iv c1_i32_72 c1_i32_73 k0_t20
  let v179 : BitVec 32 := Scalar.muli c2_i32_75 arg13
  let v180 : BitVec 32 := Scalar.addi v179 c0_i32_76
  let c128_i32_79 : BitVec 32 := 128#32
  let v189 : BitVec 32 := Scalar.muli v180 c128_i32_79
  let v190 : BitVec 32 := v189
  let v192 : Index := Scalar.indexCast v190
  ![v191.toNat, v192.toNat]
def k0_mult79 (k0_t20 : Fin k0_t20_loop.trips) : BitVec 32 :=
  let c2_i32_80 : BitVec 32 := 2#32
  let c1_i32_72 : BitVec 32 := 1#32
  let c1_i32_73 : BitVec 32 := 1#32
  let arg13 : BitVec 32 := Scf.iv c1_i32_72 c1_i32_73 k0_t20
  let v195 : BitVec 32 := Scalar.muli c2_i32_80 arg13
  let c1_i32_81 : BitVec 32 := 1#32
  let v196 : BitVec 32 := Scalar.addi v195 c1_i32_81
  let c128_i32_84 : BitVec 32 := 128#32
  let v205 : BitVec 32 := Scalar.muli v196 c128_i32_84
  v205
def k0_mult80 (k0_t20 : Fin k0_t20_loop.trips) : BitVec 32 :=
  let c2_i32_85 : BitVec 32 := 2#32
  let c1_i32_72 : BitVec 32 := 1#32
  let c1_i32_73 : BitVec 32 := 1#32
  let arg13 : BitVec 32 := Scf.iv c1_i32_72 c1_i32_73 k0_t20
  let v212 : BitVec 32 := Scalar.muli c2_i32_85 arg13
  let c0_i32_86 : BitVec 32 := 0#32
  let v213 : BitVec 32 := Scalar.addi v212 c0_i32_86
  let c128_i32_89 : BitVec 32 := 128#32
  let v222 : BitVec 32 := Scalar.muli v213 c128_i32_89
  v222
def k0_mult81 (k0_t20 : Fin k0_t20_loop.trips) : BitVec 32 :=
  let c2_i32_90 : BitVec 32 := 2#32
  let c1_i32_72 : BitVec 32 := 1#32
  let c1_i32_73 : BitVec 32 := 1#32
  let arg13 : BitVec 32 := Scf.iv c1_i32_72 c1_i32_73 k0_t20
  let v228 : BitVec 32 := Scalar.muli c2_i32_90 arg13
  let c1_i32_91 : BitVec 32 := 1#32
  let v229 : BitVec 32 := Scalar.addi v228 c1_i32_91
  let c128_i32_94 : BitVec 32 := 128#32
  let v238 : BitVec 32 := Scalar.muli v229 c128_i32_94
  v238
def k0_mult82 (k0_t20 : Fin k0_t20_loop.trips) : BitVec 32 :=
  let c1_i32_72 : BitVec 32 := 1#32
  let c1_i32_73 : BitVec 32 := 1#32
  let arg13 : BitVec 32 := Scf.iv c1_i32_72 c1_i32_73 k0_t20
  let c256_i32_95 : BitVec 32 := 256#32
  let v246 : BitVec 32 := Scalar.muli arg13 c256_i32_95
  v246
def k0_off96 (v1_0 : BitVec 32) (k0_t16 : Fin (k0_t16_loop v1_0).trips) (k0_t19 : Fin k0_t19_loop.trips) (k0_t20 : Fin k0_t20_loop.trips) : Fin 3 → Nat :=
  let c0_i32_11 : BitVec 32 := 0#32
  let v6 : BitVec 32 := Scalar.subi v1_0 c0_i32_11
  let c1_i32_12 : BitVec 32 := 1#32
  let v8 : BitVec 32 := Scalar.divsi v6 c1_i32_12
  let v9 : BitVec 32 := Scalar.muli v8 c1_i32_12
  let v10 : BitVec 32 := Scalar.addi c0_i32_11 v9
  let c1_i32_14 : BitVec 32 := 1#32
  let arg11 : BitVec 32 := Scf.iv v10 c1_i32_14 k0_t16
  let c5_i32_16 : BitVec 32 := 5#32
  let v17 : BitVec 32 := Scalar.remsi arg11 c5_i32_16
  let v248 : Index := Scalar.indexCast v17
  let c0_i32_47 : BitVec 32 := 0#32
  let c1_i32_48 : BitVec 32 := 1#32
  let arg12 : BitVec 32 := Scf.iv c0_i32_47 c1_i32_48 k0_t19
  let c256_i32_54 : BitVec 32 := 256#32
  let v102 : BitVec 32 := Scalar.muli arg12 c256_i32_54
  let v103 : BitVec 32 := v102
  let v249 : Index := Scalar.indexCast v103
  let c1_i32_72 : BitVec 32 := 1#32
  let c1_i32_73 : BitVec 32 := 1#32
  let arg13 : BitVec 32 := Scf.iv c1_i32_72 c1_i32_73 k0_t20
  let c256_i32_95 : BitVec 32 := 256#32
  let v246 : BitVec 32 := Scalar.muli arg13 c256_i32_95
  let v247 : BitVec 32 := v246
  let v250 : Index := Scalar.indexCast v247
  ![v248.toNat, v249.toNat, v250.toNat]
def k0_off97 (v14 : BitVec 32) (k0_t19 : Fin k0_t19_loop.trips) : Fin 2 → Nat :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c96_i32 : BitVec 32 := 96#32
  let v80 : BitVec 32 := Scalar.minsi v79 c96_i32
  let v81 : BitVec 32 := v80
  let v167 : Index := Scalar.indexCast v81
  let c0_i32_47 : BitVec 32 := 0#32
  let c1_i32_48 : BitVec 32 := 1#32
  let arg12 : BitVec 32 := Scf.iv c0_i32_47 c1_i32_48 k0_t19
  let c256_i32_54 : BitVec 32 := 256#32
  let v102 : BitVec 32 := Scalar.muli arg12 c256_i32_54
  let v103 : BitVec 32 := v102
  let v168 : Index := Scalar.indexCast v103
  ![v167.toNat, v168.toNat]
def k0_mult83 (v14 : BitVec 32) : BitVec 32 :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c64_i32 : BitVec 32 := 64#32
  let v80 : BitVec 32 := Scalar.minsi v79 c64_i32
  v80
def k0_cond9 (v14 : BitVec 32) (v16 : BitVec 32) : BitVec 1 :=
  let c16_i32_24 : BitVec 32 := 16#32
  let v35 : BitVec 32 := Scalar.addi v16 c16_i32_24
  let c1_i32_25 : BitVec 32 := 1#32
  let v36 : BitVec 32 := Scalar.subi v35 c1_i32_25
  let c0_i32_27 : BitVec 32 := 0#32
  let v38 : BitVec 1 := Scalar.cmpi .sgt v36 c0_i32_27
  let v39 : BitVec 32 := Scalar.extui v38
  let c0_i32_28 : BitVec 32 := 0#32
  let v40 : BitVec 1 := Scalar.cmpi .slt v36 c0_i32_28
  let v41 : BitVec 32 := Scalar.extui v40
  let v42 : BitVec 32 := Scalar.subi v39 v41
  let c16_i32_26 : BitVec 32 := 16#32
  let c0_i32_29 : BitVec 32 := 0#32
  let v43 : BitVec 1 := Scalar.cmpi .sgt c16_i32_26 c0_i32_29
  let v44 : BitVec 32 := Scalar.extui v43
  let c0_i32_30 : BitVec 32 := 0#32
  let v45 : BitVec 1 := Scalar.cmpi .slt c16_i32_26 c0_i32_30
  let v46 : BitVec 32 := Scalar.extui v45
  let v47 : BitVec 32 := Scalar.subi v44 v46
  let v48 : BitVec 1 := Scalar.cmpi .ne v42 v47
  let v49 : BitVec 32 := Scalar.remsi v36 c16_i32_26
  let c0_i32_31 : BitVec 32 := 0#32
  let v50 : BitVec 1 := Scalar.cmpi .ne v49 c0_i32_31
  let v51 : BitVec 1 := Scalar.andi v48 v50
  let v37 : BitVec 32 := Scalar.divsi v36 c16_i32_26
  let c1_i32_32 : BitVec 32 := 1#32
  let v52 : BitVec 32 := Scalar.subi v37 c1_i32_32
  let v53 : BitVec 32 := Scalar.select v51 v52 v37
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let v54 : BitVec 32 := Scalar.subi v53 v34
  let c2_i32_38 : BitVec 32 := 2#32
  let v65 : BitVec 1 := Scalar.cmpi .sgt v54 c2_i32_38
  let c4_i32 : BitVec 32 := 4#32
  let v66 : BitVec 1 := Scalar.cmpi .sle v54 c4_i32
  let v67 : BitVec 1 := Scalar.andi v65 v66
  let v68 : BitVec 32 := Scalar.extui v67
  let c0_i32_39 : BitVec 32 := 0#32
  let v69 : BitVec 1 := Scalar.cmpi .ne v68 c0_i32_39
  v69

@[reducible] def k0_t21_loop : Scf.Loop 32 :=
  let c0_i32_47 : BitVec 32 := 0#32
  let c6_i32 : BitVec 32 := 6#32
  let v90 : BitVec 32 := Scalar.addi c0_i32_47 c6_i32
  let c1_i32_48 : BitVec 32 := 1#32
  ⟨c0_i32_47, v90, c1_i32_48⟩
def k0_mult84 (k0_t21 : Fin k0_t21_loop.trips) : BitVec 32 :=
  let c0_i32_47 : BitVec 32 := 0#32
  let c1_i32_48 : BitVec 32 := 1#32
  let arg12 : BitVec 32 := Scf.iv c0_i32_47 c1_i32_48 k0_t21
  let c256_i32 : BitVec 32 := 256#32
  let v92 : BitVec 32 := Scalar.muli arg12 c256_i32
  v92
def k0_off98 (v1_0 : BitVec 32) (k0_t16 : Fin (k0_t16_loop v1_0).trips) : Fin 2 → Nat :=
  let c0_51 : Index := 0#32
  let c0_i32_11 : BitVec 32 := 0#32
  let v6 : BitVec 32 := Scalar.subi v1_0 c0_i32_11
  let c1_i32_12 : BitVec 32 := 1#32
  let v8 : BitVec 32 := Scalar.divsi v6 c1_i32_12
  let v9 : BitVec 32 := Scalar.muli v8 c1_i32_12
  let v10 : BitVec 32 := Scalar.addi c0_i32_11 v9
  let c1_i32_14 : BitVec 32 := 1#32
  let arg11 : BitVec 32 := Scf.iv v10 c1_i32_14 k0_t16
  let v94 : Index := Scalar.indexCast arg11
  ![0, v94.toNat]
def k0_off99 (v1_0 : BitVec 32) (k0_t16 : Fin (k0_t16_loop v1_0).trips) (k0_t21 : Fin k0_t21_loop.trips) : Fin 2 → Nat :=
  let c0_i32_11 : BitVec 32 := 0#32
  let v6 : BitVec 32 := Scalar.subi v1_0 c0_i32_11
  let c1_i32_12 : BitVec 32 := 1#32
  let v8 : BitVec 32 := Scalar.divsi v6 c1_i32_12
  let v9 : BitVec 32 := Scalar.muli v8 c1_i32_12
  let v10 : BitVec 32 := Scalar.addi c0_i32_11 v9
  let c1_i32_14 : BitVec 32 := 1#32
  let arg11 : BitVec 32 := Scf.iv v10 c1_i32_14 k0_t16
  let c5_i32_50 : BitVec 32 := 5#32
  let v91 : BitVec 32 := Scalar.remsi arg11 c5_i32_50
  let c0_i32_47 : BitVec 32 := 0#32
  let c1_i32_48 : BitVec 32 := 1#32
  let arg12 : BitVec 32 := Scf.iv c0_i32_47 c1_i32_48 k0_t21
  ![v91.toNat, arg12.toNat]
def k0_off100 (v1_0 : BitVec 32) (k0_t16 : Fin (k0_t16_loop v1_0).trips) (k0_t21 : Fin k0_t21_loop.trips) : Fin 3 → Nat :=
  let c0_i32_11 : BitVec 32 := 0#32
  let v6 : BitVec 32 := Scalar.subi v1_0 c0_i32_11
  let c1_i32_12 : BitVec 32 := 1#32
  let v8 : BitVec 32 := Scalar.divsi v6 c1_i32_12
  let v9 : BitVec 32 := Scalar.muli v8 c1_i32_12
  let v10 : BitVec 32 := Scalar.addi c0_i32_11 v9
  let c1_i32_14 : BitVec 32 := 1#32
  let arg11 : BitVec 32 := Scf.iv v10 c1_i32_14 k0_t16
  let c5_i32_50 : BitVec 32 := 5#32
  let v91 : BitVec 32 := Scalar.remsi arg11 c5_i32_50
  let c0_i32_47 : BitVec 32 := 0#32
  let c1_i32_48 : BitVec 32 := 1#32
  let arg12 : BitVec 32 := Scf.iv c0_i32_47 c1_i32_48 k0_t21
  let c256_i32 : BitVec 32 := 256#32
  let v92 : BitVec 32 := Scalar.muli arg12 c256_i32
  let v93 : BitVec 32 := v92
  let c0_i32_52 : BitVec 32 := 0#32
  ![v91.toNat, v93.toNat, 0]
def k0_off101 (k0_t21 : Fin k0_t21_loop.trips) (v95 : BitVec 32) : Fin 3 → Nat :=
  let c0_i32_47 : BitVec 32 := 0#32
  let c1_i32_48 : BitVec 32 := 1#32
  let arg12 : BitVec 32 := Scf.iv c0_i32_47 c1_i32_48 k0_t21
  let c256_i32 : BitVec 32 := 256#32
  let v92 : BitVec 32 := Scalar.muli arg12 c256_i32
  let v93 : BitVec 32 := v92
  let c0_i32_53 : BitVec 32 := 0#32
  ![v95.toNat, v93.toNat, 0]

def k0_chk13 (v14 : BitVec 32) (v16 : BitVec 32) (k0_t21 : Fin k0_t21_loop.trips) (v95 : BitVec 32) : Prop :=
  (∀ (k0_h9 : k0_cond9 v14 v16 = 1#1), ∀ a, (k0_off101 k0_t21 v95) a + S1x256x5120.size a ≤ S16x1536x5120.size a) ∧
  (∀ (k0_h9 : k0_cond9 v14 v16 = 1#1), ∀ (hinb : ∀ a, (k0_off101 k0_t21 v95) a + S1x256x5120.size a ≤ S16x1536x5120.size a), (Rect.unit (s := S16x1536x5120) (k0_off101 k0_t21 v95) S1x256x5120.size hinb).WholeWords (EltTy.packing .fp8e4m3))
theorem k0_off101_inb : ∀ (v14 : BitVec 32) (v16 : BitVec 32) (k0_t21 : Fin k0_t21_loop.trips) (v95 : BitVec 32) (k0_hw13 : k0_chk13 v14 v16 k0_t21 v95), ∀ (k0_h9 : k0_cond9 v14 v16 = 1#1), ∀ a, (k0_off101 k0_t21 v95) a + S1x256x5120.size a ≤ S16x1536x5120.size a := fun v14 v16 k0_t21 v95 k0_hw13 k0_h9 => k0_hw13.1 k0_h9
theorem k0_off101_wordsfp8e4m3 : ∀ (v14 : BitVec 32) (v16 : BitVec 32) (k0_t21 : Fin k0_t21_loop.trips) (v95 : BitVec 32) (k0_hw13 : k0_chk13 v14 v16 k0_t21 v95), ∀ (k0_h9 : k0_cond9 v14 v16 = 1#1), (Rect.unit (s := S16x1536x5120) (k0_off101 k0_t21 v95) S1x256x5120.size (k0_off101_inb v14 v16 k0_t21 v95 k0_hw13 k0_h9)).WholeWords (EltTy.packing .fp8e4m3) := fun v14 v16 k0_t21 v95 k0_hw13 k0_h9 => k0_hw13.2 k0_h9 (k0_off101_inb v14 v16 k0_t21 v95 k0_hw13 k0_h9)

def k0_mult85 (k0_t21 : Fin k0_t21_loop.trips) : BitVec 32 :=
  let c0_i32_47 : BitVec 32 := 0#32
  let c1_i32_48 : BitVec 32 := 1#32
  let arg12 : BitVec 32 := Scf.iv c0_i32_47 c1_i32_48 k0_t21
  let c256_i32_54 : BitVec 32 := 256#32
  let v102 : BitVec 32 := Scalar.muli arg12 c256_i32_54
  v102
def k0_off102 (v12 : BitVec 32) (k0_t21 : Fin k0_t21_loop.trips) (c0_i32_56 : BitVec 32) : Fin 3 → Nat :=
  let v106 : Index := Scalar.indexCast v12
  let c2_i32_55 : BitVec 32 := 2#32
  let c0_i32_47 : BitVec 32 := 0#32
  let c1_i32_48 : BitVec 32 := 1#32
  let arg12 : BitVec 32 := Scf.iv c0_i32_47 c1_i32_48 k0_t21
  let v104 : BitVec 32 := Scalar.muli c2_i32_55 arg12
  let v105 : BitVec 32 := Scalar.addi v104 c0_i32_56
  let v107 : Index := Scalar.indexCast v105
  let c0_57 : Index := 0#32
  ![v106.toNat, v107.toNat, 0]
def k0_mult86 : BitVec 32 :=
  let c0_i32_58 : BitVec 32 := 0#32
  c0_i32_58
def k0_off103 (v14 : BitVec 32) : Fin 2 → Nat :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c64_i32 : BitVec 32 := 64#32
  let v80 : BitVec 32 := Scalar.minsi v79 c64_i32
  let v81 : BitVec 32 := v80
  let v112 : Index := Scalar.indexCast v81
  let c0_i32_58 : BitVec 32 := 0#32
  let v111 : BitVec 32 := c0_i32_58
  let v113 : Index := Scalar.indexCast v111
  ![v112.toNat, 0]
def k0_off104 (v12 : BitVec 32) (k0_t21 : Fin k0_t21_loop.trips) (c0_i32_60 : BitVec 32) : Fin 3 → Nat :=
  let v118 : Index := Scalar.indexCast v12
  let c2_i32_59 : BitVec 32 := 2#32
  let c0_i32_47 : BitVec 32 := 0#32
  let c1_i32_48 : BitVec 32 := 1#32
  let arg12 : BitVec 32 := Scf.iv c0_i32_47 c1_i32_48 k0_t21
  let v116 : BitVec 32 := Scalar.muli c2_i32_59 arg12
  let v117 : BitVec 32 := Scalar.addi v116 c0_i32_60
  let v119 : Index := Scalar.indexCast v117
  let c1_61 : Index := 1#32
  ![v118.toNat, v119.toNat, 1]
def k0_mult87 : BitVec 32 :=
  let c128_i32 : BitVec 32 := 128#32
  c128_i32
def k0_off105 (v14 : BitVec 32) : Fin 2 → Nat :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c64_i32 : BitVec 32 := 64#32
  let v80 : BitVec 32 := Scalar.minsi v79 c64_i32
  let v81 : BitVec 32 := v80
  let v124 : Index := Scalar.indexCast v81
  let c128_i32 : BitVec 32 := 128#32
  let v123 : BitVec 32 := c128_i32
  let v125 : Index := Scalar.indexCast v123
  ![v124.toNat, 128]
def k0_mult88 : BitVec 32 :=
  let c0_i32_65 : BitVec 32 := 0#32
  c0_i32_65
def k0_mult89 : BitVec 32 :=
  let c128_i32_69 : BitVec 32 := 128#32
  c128_i32_69
def k0_mult90 : BitVec 32 :=
  let c0_i32_70 : BitVec 32 := 0#32
  c0_i32_70
def k0_off106 (v1_0 : BitVec 32) (k0_t16 : Fin (k0_t16_loop v1_0).trips) (k0_t21 : Fin k0_t21_loop.trips) : Fin 3 → Nat :=
  let c0_i32_11 : BitVec 32 := 0#32
  let v6 : BitVec 32 := Scalar.subi v1_0 c0_i32_11
  let c1_i32_12 : BitVec 32 := 1#32
  let v8 : BitVec 32 := Scalar.divsi v6 c1_i32_12
  let v9 : BitVec 32 := Scalar.muli v8 c1_i32_12
  let v10 : BitVec 32 := Scalar.addi c0_i32_11 v9
  let c1_i32_14 : BitVec 32 := 1#32
  let arg11 : BitVec 32 := Scf.iv v10 c1_i32_14 k0_t16
  let c5_i32_16 : BitVec 32 := 5#32
  let v17 : BitVec 32 := Scalar.remsi arg11 c5_i32_16
  let v156 : Index := Scalar.indexCast v17
  let c0_i32_47 : BitVec 32 := 0#32
  let c1_i32_48 : BitVec 32 := 1#32
  let arg12 : BitVec 32 := Scf.iv c0_i32_47 c1_i32_48 k0_t21
  let c256_i32_54 : BitVec 32 := 256#32
  let v102 : BitVec 32 := Scalar.muli arg12 c256_i32_54
  let v103 : BitVec 32 := v102
  let v157 : Index := Scalar.indexCast v103
  let c0_i32_70 : BitVec 32 := 0#32
  let v155 : BitVec 32 := c0_i32_70
  let v158 : Index := Scalar.indexCast v155
  ![v156.toNat, v157.toNat, 0]
@[reducible] def k0_t22_loop : Scf.Loop 32 :=
  let c1_i32_72 : BitVec 32 := 1#32
  let c19_i32 : BitVec 32 := 19#32
  let v162 : BitVec 32 := Scalar.addi c1_i32_72 c19_i32
  let c1_i32_73 : BitVec 32 := 1#32
  ⟨c1_i32_72, v162, c1_i32_73⟩
def k0_off107 (v12 : BitVec 32) (k0_t21 : Fin k0_t21_loop.trips) (k0_t22 : Fin k0_t22_loop.trips) (c0_i32_78 : BitVec 32) (c0_i32_76 : BitVec 32) : Fin 3 → Nat :=
  let v183 : Index := Scalar.indexCast v12
  let c2_i32_77 : BitVec 32 := 2#32
  let c0_i32_47 : BitVec 32 := 0#32
  let c1_i32_48 : BitVec 32 := 1#32
  let arg12 : BitVec 32 := Scf.iv c0_i32_47 c1_i32_48 k0_t21
  let v181 : BitVec 32 := Scalar.muli c2_i32_77 arg12
  let v182 : BitVec 32 := Scalar.addi v181 c0_i32_78
  let v184 : Index := Scalar.indexCast v182
  let c2_i32_75 : BitVec 32 := 2#32
  let c1_i32_72 : BitVec 32 := 1#32
  let c1_i32_73 : BitVec 32 := 1#32
  let arg13 : BitVec 32 := Scf.iv c1_i32_72 c1_i32_73 k0_t22
  let v179 : BitVec 32 := Scalar.muli c2_i32_75 arg13
  let v180 : BitVec 32 := Scalar.addi v179 c0_i32_76
  let v185 : Index := Scalar.indexCast v180
  ![v183.toNat, v184.toNat, v185.toNat]
def k0_mult91 (k0_t22 : Fin k0_t22_loop.trips) : BitVec 32 :=
  let c2_i32_75 : BitVec 32 := 2#32
  let c1_i32_72 : BitVec 32 := 1#32
  let c1_i32_73 : BitVec 32 := 1#32
  let arg13 : BitVec 32 := Scf.iv c1_i32_72 c1_i32_73 k0_t22
  let v179 : BitVec 32 := Scalar.muli c2_i32_75 arg13
  let c0_i32_76 : BitVec 32 := 0#32
  let v180 : BitVec 32 := Scalar.addi v179 c0_i32_76
  let c128_i32_79 : BitVec 32 := 128#32
  let v189 : BitVec 32 := Scalar.muli v180 c128_i32_79
  v189
def k0_off108 (v14 : BitVec 32) (k0_t22 : Fin k0_t22_loop.trips) (c0_i32_76 : BitVec 32) : Fin 2 → Nat :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c64_i32 : BitVec 32 := 64#32
  let v80 : BitVec 32 := Scalar.minsi v79 c64_i32
  let v81 : BitVec 32 := v80
  let v191 : Index := Scalar.indexCast v81
  let c2_i32_75 : BitVec 32 := 2#32
  let c1_i32_72 : BitVec 32 := 1#32
  let c1_i32_73 : BitVec 32 := 1#32
  let arg13 : BitVec 32 := Scf.iv c1_i32_72 c1_i32_73 k0_t22
  let v179 : BitVec 32 := Scalar.muli c2_i32_75 arg13
  let v180 : BitVec 32 := Scalar.addi v179 c0_i32_76
  let c128_i32_79 : BitVec 32 := 128#32
  let v189 : BitVec 32 := Scalar.muli v180 c128_i32_79
  let v190 : BitVec 32 := v189
  let v192 : Index := Scalar.indexCast v190
  ![v191.toNat, v192.toNat]
def k0_mult92 (k0_t22 : Fin k0_t22_loop.trips) : BitVec 32 :=
  let c2_i32_80 : BitVec 32 := 2#32
  let c1_i32_72 : BitVec 32 := 1#32
  let c1_i32_73 : BitVec 32 := 1#32
  let arg13 : BitVec 32 := Scf.iv c1_i32_72 c1_i32_73 k0_t22
  let v195 : BitVec 32 := Scalar.muli c2_i32_80 arg13
  let c1_i32_81 : BitVec 32 := 1#32
  let v196 : BitVec 32 := Scalar.addi v195 c1_i32_81
  let c128_i32_84 : BitVec 32 := 128#32
  let v205 : BitVec 32 := Scalar.muli v196 c128_i32_84
  v205
def k0_mult93 (k0_t22 : Fin k0_t22_loop.trips) : BitVec 32 :=
  let c2_i32_85 : BitVec 32 := 2#32
  let c1_i32_72 : BitVec 32 := 1#32
  let c1_i32_73 : BitVec 32 := 1#32
  let arg13 : BitVec 32 := Scf.iv c1_i32_72 c1_i32_73 k0_t22
  let v212 : BitVec 32 := Scalar.muli c2_i32_85 arg13
  let c0_i32_86 : BitVec 32 := 0#32
  let v213 : BitVec 32 := Scalar.addi v212 c0_i32_86
  let c128_i32_89 : BitVec 32 := 128#32
  let v222 : BitVec 32 := Scalar.muli v213 c128_i32_89
  v222
def k0_mult94 (k0_t22 : Fin k0_t22_loop.trips) : BitVec 32 :=
  let c2_i32_90 : BitVec 32 := 2#32
  let c1_i32_72 : BitVec 32 := 1#32
  let c1_i32_73 : BitVec 32 := 1#32
  let arg13 : BitVec 32 := Scf.iv c1_i32_72 c1_i32_73 k0_t22
  let v228 : BitVec 32 := Scalar.muli c2_i32_90 arg13
  let c1_i32_91 : BitVec 32 := 1#32
  let v229 : BitVec 32 := Scalar.addi v228 c1_i32_91
  let c128_i32_94 : BitVec 32 := 128#32
  let v238 : BitVec 32 := Scalar.muli v229 c128_i32_94
  v238
def k0_mult95 (k0_t22 : Fin k0_t22_loop.trips) : BitVec 32 :=
  let c1_i32_72 : BitVec 32 := 1#32
  let c1_i32_73 : BitVec 32 := 1#32
  let arg13 : BitVec 32 := Scf.iv c1_i32_72 c1_i32_73 k0_t22
  let c256_i32_95 : BitVec 32 := 256#32
  let v246 : BitVec 32 := Scalar.muli arg13 c256_i32_95
  v246
def k0_off109 (v1_0 : BitVec 32) (k0_t16 : Fin (k0_t16_loop v1_0).trips) (k0_t21 : Fin k0_t21_loop.trips) (k0_t22 : Fin k0_t22_loop.trips) : Fin 3 → Nat :=
  let c0_i32_11 : BitVec 32 := 0#32
  let v6 : BitVec 32 := Scalar.subi v1_0 c0_i32_11
  let c1_i32_12 : BitVec 32 := 1#32
  let v8 : BitVec 32 := Scalar.divsi v6 c1_i32_12
  let v9 : BitVec 32 := Scalar.muli v8 c1_i32_12
  let v10 : BitVec 32 := Scalar.addi c0_i32_11 v9
  let c1_i32_14 : BitVec 32 := 1#32
  let arg11 : BitVec 32 := Scf.iv v10 c1_i32_14 k0_t16
  let c5_i32_16 : BitVec 32 := 5#32
  let v17 : BitVec 32 := Scalar.remsi arg11 c5_i32_16
  let v248 : Index := Scalar.indexCast v17
  let c0_i32_47 : BitVec 32 := 0#32
  let c1_i32_48 : BitVec 32 := 1#32
  let arg12 : BitVec 32 := Scf.iv c0_i32_47 c1_i32_48 k0_t21
  let c256_i32_54 : BitVec 32 := 256#32
  let v102 : BitVec 32 := Scalar.muli arg12 c256_i32_54
  let v103 : BitVec 32 := v102
  let v249 : Index := Scalar.indexCast v103
  let c1_i32_72 : BitVec 32 := 1#32
  let c1_i32_73 : BitVec 32 := 1#32
  let arg13 : BitVec 32 := Scf.iv c1_i32_72 c1_i32_73 k0_t22
  let c256_i32_95 : BitVec 32 := 256#32
  let v246 : BitVec 32 := Scalar.muli arg13 c256_i32_95
  let v247 : BitVec 32 := v246
  let v250 : Index := Scalar.indexCast v247
  ![v248.toNat, v249.toNat, v250.toNat]
def k0_off110 (v14 : BitVec 32) (k0_t21 : Fin k0_t21_loop.trips) : Fin 2 → Nat :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c64_i32 : BitVec 32 := 64#32
  let v80 : BitVec 32 := Scalar.minsi v79 c64_i32
  let v81 : BitVec 32 := v80
  let v167 : Index := Scalar.indexCast v81
  let c0_i32_47 : BitVec 32 := 0#32
  let c1_i32_48 : BitVec 32 := 1#32
  let arg12 : BitVec 32 := Scf.iv c0_i32_47 c1_i32_48 k0_t21
  let c256_i32_54 : BitVec 32 := 256#32
  let v102 : BitVec 32 := Scalar.muli arg12 c256_i32_54
  let v103 : BitVec 32 := v102
  let v168 : Index := Scalar.indexCast v103
  ![v167.toNat, v168.toNat]
def k0_mult96 (v14 : BitVec 32) : BitVec 32 :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c0_i32_46 : BitVec 32 := 0#32
  let v80 : BitVec 32 := Scalar.minsi v79 c0_i32_46
  v80
def k0_cond10 (v14 : BitVec 32) (v16 : BitVec 32) : BitVec 1 :=
  let c16_i32_24 : BitVec 32 := 16#32
  let v35 : BitVec 32 := Scalar.addi v16 c16_i32_24
  let c1_i32_25 : BitVec 32 := 1#32
  let v36 : BitVec 32 := Scalar.subi v35 c1_i32_25
  let c0_i32_27 : BitVec 32 := 0#32
  let v38 : BitVec 1 := Scalar.cmpi .sgt v36 c0_i32_27
  let v39 : BitVec 32 := Scalar.extui v38
  let c0_i32_28 : BitVec 32 := 0#32
  let v40 : BitVec 1 := Scalar.cmpi .slt v36 c0_i32_28
  let v41 : BitVec 32 := Scalar.extui v40
  let v42 : BitVec 32 := Scalar.subi v39 v41
  let c16_i32_26 : BitVec 32 := 16#32
  let c0_i32_29 : BitVec 32 := 0#32
  let v43 : BitVec 1 := Scalar.cmpi .sgt c16_i32_26 c0_i32_29
  let v44 : BitVec 32 := Scalar.extui v43
  let c0_i32_30 : BitVec 32 := 0#32
  let v45 : BitVec 1 := Scalar.cmpi .slt c16_i32_26 c0_i32_30
  let v46 : BitVec 32 := Scalar.extui v45
  let v47 : BitVec 32 := Scalar.subi v44 v46
  let v48 : BitVec 1 := Scalar.cmpi .ne v42 v47
  let v49 : BitVec 32 := Scalar.remsi v36 c16_i32_26
  let c0_i32_31 : BitVec 32 := 0#32
  let v50 : BitVec 1 := Scalar.cmpi .ne v49 c0_i32_31
  let v51 : BitVec 1 := Scalar.andi v48 v50
  let v37 : BitVec 32 := Scalar.divsi v36 c16_i32_26
  let c1_i32_32 : BitVec 32 := 1#32
  let v52 : BitVec 32 := Scalar.subi v37 c1_i32_32
  let v53 : BitVec 32 := Scalar.select v51 v52 v37
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let v54 : BitVec 32 := Scalar.subi v53 v34
  let c4_i32_40 : BitVec 32 := 4#32
  let v70 : BitVec 1 := Scalar.cmpi .sgt v54 c4_i32_40
  let c8_i32_41 : BitVec 32 := 8#32
  let v71 : BitVec 1 := Scalar.cmpi .sle v54 c8_i32_41
  let v72 : BitVec 1 := Scalar.andi v70 v71
  let v73 : BitVec 32 := Scalar.extui v72
  let c0_i32_42 : BitVec 32 := 0#32
  let v74 : BitVec 1 := Scalar.cmpi .ne v73 c0_i32_42
  v74

@[reducible] def k0_t23_loop : Scf.Loop 32 :=
  let c0_i32_48 : BitVec 32 := 0#32
  let c6_i32 : BitVec 32 := 6#32
  let v90 : BitVec 32 := Scalar.addi c0_i32_48 c6_i32
  let c1_i32_49 : BitVec 32 := 1#32
  ⟨c0_i32_48, v90, c1_i32_49⟩
def k0_mult97 (k0_t23 : Fin k0_t23_loop.trips) : BitVec 32 :=
  let c0_i32_48 : BitVec 32 := 0#32
  let c1_i32_49 : BitVec 32 := 1#32
  let arg12 : BitVec 32 := Scf.iv c0_i32_48 c1_i32_49 k0_t23
  let c256_i32 : BitVec 32 := 256#32
  let v92 : BitVec 32 := Scalar.muli arg12 c256_i32
  v92
def k0_off111 (v1_0 : BitVec 32) (k0_t16 : Fin (k0_t16_loop v1_0).trips) : Fin 2 → Nat :=
  let c0_52 : Index := 0#32
  let c0_i32_11 : BitVec 32 := 0#32
  let v6 : BitVec 32 := Scalar.subi v1_0 c0_i32_11
  let c1_i32_12 : BitVec 32 := 1#32
  let v8 : BitVec 32 := Scalar.divsi v6 c1_i32_12
  let v9 : BitVec 32 := Scalar.muli v8 c1_i32_12
  let v10 : BitVec 32 := Scalar.addi c0_i32_11 v9
  let c1_i32_14 : BitVec 32 := 1#32
  let arg11 : BitVec 32 := Scf.iv v10 c1_i32_14 k0_t16
  let v94 : Index := Scalar.indexCast arg11
  ![0, v94.toNat]
def k0_off112 (v1_0 : BitVec 32) (k0_t16 : Fin (k0_t16_loop v1_0).trips) (k0_t23 : Fin k0_t23_loop.trips) : Fin 2 → Nat :=
  let c0_i32_11 : BitVec 32 := 0#32
  let v6 : BitVec 32 := Scalar.subi v1_0 c0_i32_11
  let c1_i32_12 : BitVec 32 := 1#32
  let v8 : BitVec 32 := Scalar.divsi v6 c1_i32_12
  let v9 : BitVec 32 := Scalar.muli v8 c1_i32_12
  let v10 : BitVec 32 := Scalar.addi c0_i32_11 v9
  let c1_i32_14 : BitVec 32 := 1#32
  let arg11 : BitVec 32 := Scf.iv v10 c1_i32_14 k0_t16
  let c5_i32_51 : BitVec 32 := 5#32
  let v91 : BitVec 32 := Scalar.remsi arg11 c5_i32_51
  let c0_i32_48 : BitVec 32 := 0#32
  let c1_i32_49 : BitVec 32 := 1#32
  let arg12 : BitVec 32 := Scf.iv c0_i32_48 c1_i32_49 k0_t23
  ![v91.toNat, arg12.toNat]
def k0_off113 (v1_0 : BitVec 32) (k0_t16 : Fin (k0_t16_loop v1_0).trips) (k0_t23 : Fin k0_t23_loop.trips) : Fin 3 → Nat :=
  let c0_i32_11 : BitVec 32 := 0#32
  let v6 : BitVec 32 := Scalar.subi v1_0 c0_i32_11
  let c1_i32_12 : BitVec 32 := 1#32
  let v8 : BitVec 32 := Scalar.divsi v6 c1_i32_12
  let v9 : BitVec 32 := Scalar.muli v8 c1_i32_12
  let v10 : BitVec 32 := Scalar.addi c0_i32_11 v9
  let c1_i32_14 : BitVec 32 := 1#32
  let arg11 : BitVec 32 := Scf.iv v10 c1_i32_14 k0_t16
  let c5_i32_51 : BitVec 32 := 5#32
  let v91 : BitVec 32 := Scalar.remsi arg11 c5_i32_51
  let c0_i32_48 : BitVec 32 := 0#32
  let c1_i32_49 : BitVec 32 := 1#32
  let arg12 : BitVec 32 := Scf.iv c0_i32_48 c1_i32_49 k0_t23
  let c256_i32 : BitVec 32 := 256#32
  let v92 : BitVec 32 := Scalar.muli arg12 c256_i32
  let v93 : BitVec 32 := v92
  let c0_i32_53 : BitVec 32 := 0#32
  ![v91.toNat, v93.toNat, 0]
def k0_off114 (k0_t23 : Fin k0_t23_loop.trips) (v95 : BitVec 32) : Fin 3 → Nat :=
  let c0_i32_48 : BitVec 32 := 0#32
  let c1_i32_49 : BitVec 32 := 1#32
  let arg12 : BitVec 32 := Scf.iv c0_i32_48 c1_i32_49 k0_t23
  let c256_i32 : BitVec 32 := 256#32
  let v92 : BitVec 32 := Scalar.muli arg12 c256_i32
  let v93 : BitVec 32 := v92
  let c0_i32_54 : BitVec 32 := 0#32
  ![v95.toNat, v93.toNat, 0]

def k0_chk14 (v14 : BitVec 32) (v16 : BitVec 32) (k0_t23 : Fin k0_t23_loop.trips) (v95 : BitVec 32) : Prop :=
  (∀ (k0_h10 : k0_cond10 v14 v16 = 1#1), ∀ a, (k0_off114 k0_t23 v95) a + S1x256x5120.size a ≤ S16x1536x5120.size a) ∧
  (∀ (k0_h10 : k0_cond10 v14 v16 = 1#1), ∀ (hinb : ∀ a, (k0_off114 k0_t23 v95) a + S1x256x5120.size a ≤ S16x1536x5120.size a), (Rect.unit (s := S16x1536x5120) (k0_off114 k0_t23 v95) S1x256x5120.size hinb).WholeWords (EltTy.packing .fp8e4m3))
theorem k0_off114_inb : ∀ (v14 : BitVec 32) (v16 : BitVec 32) (k0_t23 : Fin k0_t23_loop.trips) (v95 : BitVec 32) (k0_hw14 : k0_chk14 v14 v16 k0_t23 v95), ∀ (k0_h10 : k0_cond10 v14 v16 = 1#1), ∀ a, (k0_off114 k0_t23 v95) a + S1x256x5120.size a ≤ S16x1536x5120.size a := fun v14 v16 k0_t23 v95 k0_hw14 k0_h10 => k0_hw14.1 k0_h10
theorem k0_off114_wordsfp8e4m3 : ∀ (v14 : BitVec 32) (v16 : BitVec 32) (k0_t23 : Fin k0_t23_loop.trips) (v95 : BitVec 32) (k0_hw14 : k0_chk14 v14 v16 k0_t23 v95), ∀ (k0_h10 : k0_cond10 v14 v16 = 1#1), (Rect.unit (s := S16x1536x5120) (k0_off114 k0_t23 v95) S1x256x5120.size (k0_off114_inb v14 v16 k0_t23 v95 k0_hw14 k0_h10)).WholeWords (EltTy.packing .fp8e4m3) := fun v14 v16 k0_t23 v95 k0_hw14 k0_h10 => k0_hw14.2 k0_h10 (k0_off114_inb v14 v16 k0_t23 v95 k0_hw14 k0_h10)

def k0_mult98 (k0_t23 : Fin k0_t23_loop.trips) : BitVec 32 :=
  let c0_i32_48 : BitVec 32 := 0#32
  let c1_i32_49 : BitVec 32 := 1#32
  let arg12 : BitVec 32 := Scf.iv c0_i32_48 c1_i32_49 k0_t23
  let c256_i32_55 : BitVec 32 := 256#32
  let v102 : BitVec 32 := Scalar.muli arg12 c256_i32_55
  v102
def k0_off115 (v12 : BitVec 32) (k0_t23 : Fin k0_t23_loop.trips) (c0_i32_57 : BitVec 32) : Fin 3 → Nat :=
  let v106 : Index := Scalar.indexCast v12
  let c2_i32_56 : BitVec 32 := 2#32
  let c0_i32_48 : BitVec 32 := 0#32
  let c1_i32_49 : BitVec 32 := 1#32
  let arg12 : BitVec 32 := Scf.iv c0_i32_48 c1_i32_49 k0_t23
  let v104 : BitVec 32 := Scalar.muli c2_i32_56 arg12
  let v105 : BitVec 32 := Scalar.addi v104 c0_i32_57
  let v107 : Index := Scalar.indexCast v105
  let c0_58 : Index := 0#32
  ![v106.toNat, v107.toNat, 0]
def k0_mult99 : BitVec 32 :=
  let c0_i32_59 : BitVec 32 := 0#32
  c0_i32_59
def k0_off116 (v14 : BitVec 32) : Fin 2 → Nat :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c0_i32_46 : BitVec 32 := 0#32
  let v80 : BitVec 32 := Scalar.minsi v79 c0_i32_46
  let v81 : BitVec 32 := v80
  let v112 : Index := Scalar.indexCast v81
  let c0_i32_59 : BitVec 32 := 0#32
  let v111 : BitVec 32 := c0_i32_59
  let v113 : Index := Scalar.indexCast v111
  ![v112.toNat, 0]
def k0_off117 (v12 : BitVec 32) (k0_t23 : Fin k0_t23_loop.trips) (c0_i32_61 : BitVec 32) : Fin 3 → Nat :=
  let v118 : Index := Scalar.indexCast v12
  let c2_i32_60 : BitVec 32 := 2#32
  let c0_i32_48 : BitVec 32 := 0#32
  let c1_i32_49 : BitVec 32 := 1#32
  let arg12 : BitVec 32 := Scf.iv c0_i32_48 c1_i32_49 k0_t23
  let v116 : BitVec 32 := Scalar.muli c2_i32_60 arg12
  let v117 : BitVec 32 := Scalar.addi v116 c0_i32_61
  let v119 : Index := Scalar.indexCast v117
  let c1_62 : Index := 1#32
  ![v118.toNat, v119.toNat, 1]
def k0_mult100 : BitVec 32 :=
  let c128_i32 : BitVec 32 := 128#32
  c128_i32
def k0_off118 (v14 : BitVec 32) : Fin 2 → Nat :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c0_i32_46 : BitVec 32 := 0#32
  let v80 : BitVec 32 := Scalar.minsi v79 c0_i32_46
  let v81 : BitVec 32 := v80
  let v124 : Index := Scalar.indexCast v81
  let c128_i32 : BitVec 32 := 128#32
  let v123 : BitVec 32 := c128_i32
  let v125 : Index := Scalar.indexCast v123
  ![v124.toNat, 128]
def k0_mult101 : BitVec 32 :=
  let c0_i32_66 : BitVec 32 := 0#32
  c0_i32_66
def k0_mult102 : BitVec 32 :=
  let c128_i32_70 : BitVec 32 := 128#32
  c128_i32_70
def k0_mult103 : BitVec 32 :=
  let c0_i32_71 : BitVec 32 := 0#32
  c0_i32_71
def k0_off119 (v1_0 : BitVec 32) (k0_t16 : Fin (k0_t16_loop v1_0).trips) (k0_t23 : Fin k0_t23_loop.trips) : Fin 3 → Nat :=
  let c0_i32_11 : BitVec 32 := 0#32
  let v6 : BitVec 32 := Scalar.subi v1_0 c0_i32_11
  let c1_i32_12 : BitVec 32 := 1#32
  let v8 : BitVec 32 := Scalar.divsi v6 c1_i32_12
  let v9 : BitVec 32 := Scalar.muli v8 c1_i32_12
  let v10 : BitVec 32 := Scalar.addi c0_i32_11 v9
  let c1_i32_14 : BitVec 32 := 1#32
  let arg11 : BitVec 32 := Scf.iv v10 c1_i32_14 k0_t16
  let c5_i32_16 : BitVec 32 := 5#32
  let v17 : BitVec 32 := Scalar.remsi arg11 c5_i32_16
  let v156 : Index := Scalar.indexCast v17
  let c0_i32_48 : BitVec 32 := 0#32
  let c1_i32_49 : BitVec 32 := 1#32
  let arg12 : BitVec 32 := Scf.iv c0_i32_48 c1_i32_49 k0_t23
  let c256_i32_55 : BitVec 32 := 256#32
  let v102 : BitVec 32 := Scalar.muli arg12 c256_i32_55
  let v103 : BitVec 32 := v102
  let v157 : Index := Scalar.indexCast v103
  let c0_i32_71 : BitVec 32 := 0#32
  let v155 : BitVec 32 := c0_i32_71
  let v158 : Index := Scalar.indexCast v155
  ![v156.toNat, v157.toNat, 0]
@[reducible] def k0_t24_loop : Scf.Loop 32 :=
  let c1_i32_73 : BitVec 32 := 1#32
  let c19_i32 : BitVec 32 := 19#32
  let v162 : BitVec 32 := Scalar.addi c1_i32_73 c19_i32
  let c1_i32_74 : BitVec 32 := 1#32
  ⟨c1_i32_73, v162, c1_i32_74⟩
def k0_off120 (v12 : BitVec 32) (k0_t23 : Fin k0_t23_loop.trips) (k0_t24 : Fin k0_t24_loop.trips) (c0_i32_79 : BitVec 32) (c0_i32_77 : BitVec 32) : Fin 3 → Nat :=
  let v183 : Index := Scalar.indexCast v12
  let c2_i32_78 : BitVec 32 := 2#32
  let c0_i32_48 : BitVec 32 := 0#32
  let c1_i32_49 : BitVec 32 := 1#32
  let arg12 : BitVec 32 := Scf.iv c0_i32_48 c1_i32_49 k0_t23
  let v181 : BitVec 32 := Scalar.muli c2_i32_78 arg12
  let v182 : BitVec 32 := Scalar.addi v181 c0_i32_79
  let v184 : Index := Scalar.indexCast v182
  let c2_i32_76 : BitVec 32 := 2#32
  let c1_i32_73 : BitVec 32 := 1#32
  let c1_i32_74 : BitVec 32 := 1#32
  let arg13 : BitVec 32 := Scf.iv c1_i32_73 c1_i32_74 k0_t24
  let v179 : BitVec 32 := Scalar.muli c2_i32_76 arg13
  let v180 : BitVec 32 := Scalar.addi v179 c0_i32_77
  let v185 : Index := Scalar.indexCast v180
  ![v183.toNat, v184.toNat, v185.toNat]
def k0_mult104 (k0_t24 : Fin k0_t24_loop.trips) : BitVec 32 :=
  let c2_i32_76 : BitVec 32 := 2#32
  let c1_i32_73 : BitVec 32 := 1#32
  let c1_i32_74 : BitVec 32 := 1#32
  let arg13 : BitVec 32 := Scf.iv c1_i32_73 c1_i32_74 k0_t24
  let v179 : BitVec 32 := Scalar.muli c2_i32_76 arg13
  let c0_i32_77 : BitVec 32 := 0#32
  let v180 : BitVec 32 := Scalar.addi v179 c0_i32_77
  let c128_i32_80 : BitVec 32 := 128#32
  let v189 : BitVec 32 := Scalar.muli v180 c128_i32_80
  v189
def k0_off121 (v14 : BitVec 32) (k0_t24 : Fin k0_t24_loop.trips) (c0_i32_77 : BitVec 32) : Fin 2 → Nat :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c0_i32_46 : BitVec 32 := 0#32
  let v80 : BitVec 32 := Scalar.minsi v79 c0_i32_46
  let v81 : BitVec 32 := v80
  let v191 : Index := Scalar.indexCast v81
  let c2_i32_76 : BitVec 32 := 2#32
  let c1_i32_73 : BitVec 32 := 1#32
  let c1_i32_74 : BitVec 32 := 1#32
  let arg13 : BitVec 32 := Scf.iv c1_i32_73 c1_i32_74 k0_t24
  let v179 : BitVec 32 := Scalar.muli c2_i32_76 arg13
  let v180 : BitVec 32 := Scalar.addi v179 c0_i32_77
  let c128_i32_80 : BitVec 32 := 128#32
  let v189 : BitVec 32 := Scalar.muli v180 c128_i32_80
  let v190 : BitVec 32 := v189
  let v192 : Index := Scalar.indexCast v190
  ![v191.toNat, v192.toNat]
def k0_mult105 (k0_t24 : Fin k0_t24_loop.trips) : BitVec 32 :=
  let c2_i32_81 : BitVec 32 := 2#32
  let c1_i32_73 : BitVec 32 := 1#32
  let c1_i32_74 : BitVec 32 := 1#32
  let arg13 : BitVec 32 := Scf.iv c1_i32_73 c1_i32_74 k0_t24
  let v195 : BitVec 32 := Scalar.muli c2_i32_81 arg13
  let c1_i32_82 : BitVec 32 := 1#32
  let v196 : BitVec 32 := Scalar.addi v195 c1_i32_82
  let c128_i32_85 : BitVec 32 := 128#32
  let v205 : BitVec 32 := Scalar.muli v196 c128_i32_85
  v205
def k0_mult106 (k0_t24 : Fin k0_t24_loop.trips) : BitVec 32 :=
  let c2_i32_86 : BitVec 32 := 2#32
  let c1_i32_73 : BitVec 32 := 1#32
  let c1_i32_74 : BitVec 32 := 1#32
  let arg13 : BitVec 32 := Scf.iv c1_i32_73 c1_i32_74 k0_t24
  let v212 : BitVec 32 := Scalar.muli c2_i32_86 arg13
  let c0_i32_87 : BitVec 32 := 0#32
  let v213 : BitVec 32 := Scalar.addi v212 c0_i32_87
  let c128_i32_90 : BitVec 32 := 128#32
  let v222 : BitVec 32 := Scalar.muli v213 c128_i32_90
  v222
def k0_mult107 (k0_t24 : Fin k0_t24_loop.trips) : BitVec 32 :=
  let c2_i32_91 : BitVec 32 := 2#32
  let c1_i32_73 : BitVec 32 := 1#32
  let c1_i32_74 : BitVec 32 := 1#32
  let arg13 : BitVec 32 := Scf.iv c1_i32_73 c1_i32_74 k0_t24
  let v228 : BitVec 32 := Scalar.muli c2_i32_91 arg13
  let c1_i32_92 : BitVec 32 := 1#32
  let v229 : BitVec 32 := Scalar.addi v228 c1_i32_92
  let c128_i32_95 : BitVec 32 := 128#32
  let v238 : BitVec 32 := Scalar.muli v229 c128_i32_95
  v238
def k0_mult108 (k0_t24 : Fin k0_t24_loop.trips) : BitVec 32 :=
  let c1_i32_73 : BitVec 32 := 1#32
  let c1_i32_74 : BitVec 32 := 1#32
  let arg13 : BitVec 32 := Scf.iv c1_i32_73 c1_i32_74 k0_t24
  let c256_i32_96 : BitVec 32 := 256#32
  let v246 : BitVec 32 := Scalar.muli arg13 c256_i32_96
  v246
def k0_off122 (v1_0 : BitVec 32) (k0_t16 : Fin (k0_t16_loop v1_0).trips) (k0_t23 : Fin k0_t23_loop.trips) (k0_t24 : Fin k0_t24_loop.trips) : Fin 3 → Nat :=
  let c0_i32_11 : BitVec 32 := 0#32
  let v6 : BitVec 32 := Scalar.subi v1_0 c0_i32_11
  let c1_i32_12 : BitVec 32 := 1#32
  let v8 : BitVec 32 := Scalar.divsi v6 c1_i32_12
  let v9 : BitVec 32 := Scalar.muli v8 c1_i32_12
  let v10 : BitVec 32 := Scalar.addi c0_i32_11 v9
  let c1_i32_14 : BitVec 32 := 1#32
  let arg11 : BitVec 32 := Scf.iv v10 c1_i32_14 k0_t16
  let c5_i32_16 : BitVec 32 := 5#32
  let v17 : BitVec 32 := Scalar.remsi arg11 c5_i32_16
  let v248 : Index := Scalar.indexCast v17
  let c0_i32_48 : BitVec 32 := 0#32
  let c1_i32_49 : BitVec 32 := 1#32
  let arg12 : BitVec 32 := Scf.iv c0_i32_48 c1_i32_49 k0_t23
  let c256_i32_55 : BitVec 32 := 256#32
  let v102 : BitVec 32 := Scalar.muli arg12 c256_i32_55
  let v103 : BitVec 32 := v102
  let v249 : Index := Scalar.indexCast v103
  let c1_i32_73 : BitVec 32 := 1#32
  let c1_i32_74 : BitVec 32 := 1#32
  let arg13 : BitVec 32 := Scf.iv c1_i32_73 c1_i32_74 k0_t24
  let c256_i32_96 : BitVec 32 := 256#32
  let v246 : BitVec 32 := Scalar.muli arg13 c256_i32_96
  let v247 : BitVec 32 := v246
  let v250 : Index := Scalar.indexCast v247
  ![v248.toNat, v249.toNat, v250.toNat]
def k0_off123 (v14 : BitVec 32) (k0_t23 : Fin k0_t23_loop.trips) : Fin 2 → Nat :=
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c16_i32_17 : BitVec 32 := 16#32
  let c0_i32_20 : BitVec 32 := 0#32
  let v24 : BitVec 1 := Scalar.cmpi .sgt c16_i32_17 c0_i32_20
  let v25 : BitVec 32 := Scalar.extui v24
  let c0_i32_21 : BitVec 32 := 0#32
  let v26 : BitVec 1 := Scalar.cmpi .slt c16_i32_17 c0_i32_21
  let v27 : BitVec 32 := Scalar.extui v26
  let v28 : BitVec 32 := Scalar.subi v25 v27
  let v29 : BitVec 1 := Scalar.cmpi .ne v23 v28
  let v30 : BitVec 32 := Scalar.remsi v14 c16_i32_17
  let c0_i32_22 : BitVec 32 := 0#32
  let v31 : BitVec 1 := Scalar.cmpi .ne v30 c0_i32_22
  let v32 : BitVec 1 := Scalar.andi v29 v31
  let v18 : BitVec 32 := Scalar.divsi v14 c16_i32_17
  let c1_i32_23 : BitVec 32 := 1#32
  let v33 : BitVec 32 := Scalar.subi v18 c1_i32_23
  let v34 : BitVec 32 := Scalar.select v32 v33 v18
  let c16_i32_45 : BitVec 32 := 16#32
  let v79 : BitVec 32 := Scalar.muli v34 c16_i32_45
  let c0_i32_46 : BitVec 32 := 0#32
  let v80 : BitVec 32 := Scalar.minsi v79 c0_i32_46
  let v81 : BitVec 32 := v80
  let v167 : Index := Scalar.indexCast v81
  let c0_i32_48 : BitVec 32 := 0#32
  let c1_i32_49 : BitVec 32 := 1#32
  let arg12 : BitVec 32 := Scf.iv c0_i32_48 c1_i32_49 k0_t23
  let c256_i32_55 : BitVec 32 := 256#32
  let v102 : BitVec 32 := Scalar.muli arg12 c256_i32_55
  let v103 : BitVec 32 := v102
  let v168 : Index := Scalar.indexCast v103
  ![v167.toNat, v168.toNat]

def k0_chk10_0 (v1_0 : BitVec 32) (k0_t16 : Fin (k0_t16_loop v1_0).trips) (v12 : BitVec 32) (v14 : BitVec 32) (v16 : BitVec 32) : Prop :=
  (∀ (k0_h7 : k0_cond7 v14 v16 = 1#1), 16 ∣ (k0_mult57 v14).toNat) ∧
  (∀ (k0_h7 : k0_cond7 v14 v16 = 1#1), ∀ a, (k0_off72 v1_0 k0_t16) a + S1x1.size a ≤ S3x17.size a) ∧
  (∀ k0_t17 : Fin k0_t17_loop.trips, ∀ (k0_h7 : k0_cond7 v14 v16 = 1#1), ∀ a, (k0_off73 v1_0 k0_t16 k0_t17) a + S1x1.size a ≤ S5x6.size a) ∧
  (∀ k0_t17 : Fin k0_t17_loop.trips, ∀ (k0_h7 : k0_cond7 v14 v16 = 1#1), ∀ a, (k0_off74 v1_0 k0_t16 k0_t17) a + S1x256x5120.size a ≤ S5x1536x5120.size a) ∧
  (∀ k0_t17 : Fin k0_t17_loop.trips, ∀ (k0_h7 : k0_cond7 v14 v16 = 1#1), ∀ (hinb : ∀ a, (k0_off74 v1_0 k0_t16 k0_t17) a + S1x256x5120.size a ≤ S5x1536x5120.size a), (Rect.unit (s := S5x1536x5120) (k0_off74 v1_0 k0_t16 k0_t17) S1x256x5120.size hinb).WholeWords (EltTy.packing .fp8e4m3)) ∧
  (∀ k0_t17 : Fin k0_t17_loop.trips, ∀ (k0_h7 : k0_cond7 v14 v16 = 1#1), ∀ (r : Fin 2), ∀ a, (k0_off76 v12 k0_t17 (BitVec.ofNat 32 r.val)) a + S1x1x1.size a ≤ S16x12x40.size a) ∧
  (∀ (k0_h7 : k0_cond7 v14 v16 = 1#1), ∀ a, (k0_off77 v14) a + S16x128.size a ≤ S128x5120.size a) ∧
  (∀ k0_t17 : Fin k0_t17_loop.trips, ∀ (k0_h7 : k0_cond7 v14 v16 = 1#1), ∀ (r : Fin 2), ∀ a, (k0_off78 v12 k0_t17 (BitVec.ofNat 32 r.val)) a + S1x1x1.size a ≤ S16x12x40.size a) ∧
  (∀ (k0_h7 : k0_cond7 v14 v16 = 1#1), ∀ a, (k0_off79 v14) a + S16x128.size a ≤ S128x5120.size a) ∧
  (∀ k0_t17 : Fin k0_t17_loop.trips, ∀ (k0_h7 : k0_cond7 v14 v16 = 1#1), ∀ a, (k0_off80 v1_0 k0_t16 k0_t17) a + S1x256x256.size a ≤ S5x1536x5120.size a) ∧
  (∀ (k0_t17 : Fin k0_t17_loop.trips) (k0_t18 : Fin k0_t18_loop.trips), ∀ (k0_h7 : k0_cond7 v14 v16 = 1#1), ∀ (r₁ : Fin 2) (r₂ : Fin 2), ∀ a, (k0_off81 v12 k0_t17 k0_t18 (BitVec.ofNat 32 r₁.val) (BitVec.ofNat 32 r₂.val)) a + S1x1x1.size a ≤ S16x12x40.size a) ∧
  (∀ k0_t18 : Fin k0_t18_loop.trips, ∀ (k0_h7 : k0_cond7 v14 v16 = 1#1), ∀ (r : Fin 2), ∀ a, (k0_off82 v14 k0_t18 (BitVec.ofNat 32 r.val)) a + S16x128.size a ≤ S128x5120.size a) ∧
  (∀ (k0_t17 : Fin k0_t17_loop.trips) (k0_t18 : Fin k0_t18_loop.trips), ∀ (k0_h7 : k0_cond7 v14 v16 = 1#1), ∀ a, (k0_off83 v1_0 k0_t16 k0_t17 k0_t18) a + S1x256x256.size a ≤ S5x1536x5120.size a) ∧
  (∀ k0_t17 : Fin k0_t17_loop.trips, ∀ (k0_h7 : k0_cond7 v14 v16 = 1#1), ∀ a, (k0_off84 v14 k0_t17) a + S16x256.size a ≤ S128x1536.size a) ∧
  (∀ k0_t17 : Fin k0_t17_loop.trips, ∀ (k0_h7 : k0_cond7 v14 v16 = 1#1), ∀ (hinb : ∀ a, (k0_off84 v14 k0_t17) a + S16x256.size a ≤ S128x1536.size a), (Rect.unit (s := S128x1536) (k0_off84 v14 k0_t17) S16x256.size hinb).PackedRows (EltTy.packing .bf16)) ∧
  (∀ (k0_h8 : k0_cond8 v14 v16 = 1#1), 16 ∣ (k0_mult70 v14).toNat) ∧
  (∀ (k0_h8 : k0_cond8 v14 v16 = 1#1), ∀ a, (k0_off85 v1_0 k0_t16) a + S1x1.size a ≤ S3x17.size a) ∧
  (∀ k0_t19 : Fin k0_t19_loop.trips, ∀ (k0_h8 : k0_cond8 v14 v16 = 1#1), ∀ a, (k0_off86 v1_0 k0_t16 k0_t19) a + S1x1.size a ≤ S5x6.size a) ∧
  (∀ k0_t19 : Fin k0_t19_loop.trips, ∀ (k0_h8 : k0_cond8 v14 v16 = 1#1), ∀ a, (k0_off87 v1_0 k0_t16 k0_t19) a + S1x256x5120.size a ≤ S5x1536x5120.size a) ∧
  (∀ k0_t19 : Fin k0_t19_loop.trips, ∀ (k0_h8 : k0_cond8 v14 v16 = 1#1), ∀ (hinb : ∀ a, (k0_off87 v1_0 k0_t16 k0_t19) a + S1x256x5120.size a ≤ S5x1536x5120.size a), (Rect.unit (s := S5x1536x5120) (k0_off87 v1_0 k0_t16 k0_t19) S1x256x5120.size hinb).WholeWords (EltTy.packing .fp8e4m3)) ∧
  (∀ k0_t19 : Fin k0_t19_loop.trips, ∀ (k0_h8 : k0_cond8 v14 v16 = 1#1), ∀ (r : Fin 2), ∀ a, (k0_off89 v12 k0_t19 (BitVec.ofNat 32 r.val)) a + S1x1x1.size a ≤ S16x12x40.size a) ∧
  (∀ (k0_h8 : k0_cond8 v14 v16 = 1#1), ∀ a, (k0_off90 v14) a + S32x128.size a ≤ S128x5120.size a) ∧
  (∀ k0_t19 : Fin k0_t19_loop.trips, ∀ (k0_h8 : k0_cond8 v14 v16 = 1#1), ∀ (r : Fin 2), ∀ a, (k0_off91 v12 k0_t19 (BitVec.ofNat 32 r.val)) a + S1x1x1.size a ≤ S16x12x40.size a) ∧
  (∀ (k0_h8 : k0_cond8 v14 v16 = 1#1), ∀ a, (k0_off92 v14) a + S32x128.size a ≤ S128x5120.size a) ∧
  (∀ k0_t19 : Fin k0_t19_loop.trips, ∀ (k0_h8 : k0_cond8 v14 v16 = 1#1), ∀ a, (k0_off93 v1_0 k0_t16 k0_t19) a + S1x256x256.size a ≤ S5x1536x5120.size a) ∧
  (∀ (k0_t19 : Fin k0_t19_loop.trips) (k0_t20 : Fin k0_t20_loop.trips), ∀ (k0_h8 : k0_cond8 v14 v16 = 1#1), ∀ (r₁ : Fin 2) (r₂ : Fin 2), ∀ a, (k0_off94 v12 k0_t19 k0_t20 (BitVec.ofNat 32 r₁.val) (BitVec.ofNat 32 r₂.val)) a + S1x1x1.size a ≤ S16x12x40.size a) ∧
  (∀ k0_t20 : Fin k0_t20_loop.trips, ∀ (k0_h8 : k0_cond8 v14 v16 = 1#1), ∀ (r : Fin 2), ∀ a, (k0_off95 v14 k0_t20 (BitVec.ofNat 32 r.val)) a + S32x128.size a ≤ S128x5120.size a) ∧
  (∀ (k0_t19 : Fin k0_t19_loop.trips) (k0_t20 : Fin k0_t20_loop.trips), ∀ (k0_h8 : k0_cond8 v14 v16 = 1#1), ∀ a, (k0_off96 v1_0 k0_t16 k0_t19 k0_t20) a + S1x256x256.size a ≤ S5x1536x5120.size a) ∧
  (∀ k0_t19 : Fin k0_t19_loop.trips, ∀ (k0_h8 : k0_cond8 v14 v16 = 1#1), ∀ a, (k0_off97 v14 k0_t19) a + S32x256.size a ≤ S128x1536.size a) ∧
  (∀ k0_t19 : Fin k0_t19_loop.trips, ∀ (k0_h8 : k0_cond8 v14 v16 = 1#1), ∀ (hinb : ∀ a, (k0_off97 v14 k0_t19) a + S32x256.size a ≤ S128x1536.size a), (Rect.unit (s := S128x1536) (k0_off97 v14 k0_t19) S32x256.size hinb).PackedRows (EltTy.packing .bf16)) ∧
  (∀ (k0_h9 : k0_cond9 v14 v16 = 1#1), 16 ∣ (k0_mult83 v14).toNat) ∧
  (∀ (k0_h9 : k0_cond9 v14 v16 = 1#1), ∀ a, (k0_off98 v1_0 k0_t16) a + S1x1.size a ≤ S3x17.size a)
def k0_chk10_1 (v1_0 : BitVec 32) (k0_t16 : Fin (k0_t16_loop v1_0).trips) (v12 : BitVec 32) (v14 : BitVec 32) (v16 : BitVec 32) : Prop :=
  (∀ k0_t21 : Fin k0_t21_loop.trips, ∀ (k0_h9 : k0_cond9 v14 v16 = 1#1), ∀ a, (k0_off99 v1_0 k0_t16 k0_t21) a + S1x1.size a ≤ S5x6.size a) ∧
  (∀ k0_t21 : Fin k0_t21_loop.trips, ∀ (k0_h9 : k0_cond9 v14 v16 = 1#1), ∀ a, (k0_off100 v1_0 k0_t16 k0_t21) a + S1x256x5120.size a ≤ S5x1536x5120.size a) ∧
  (∀ k0_t21 : Fin k0_t21_loop.trips, ∀ (k0_h9 : k0_cond9 v14 v16 = 1#1), ∀ (hinb : ∀ a, (k0_off100 v1_0 k0_t16 k0_t21) a + S1x256x5120.size a ≤ S5x1536x5120.size a), (Rect.unit (s := S5x1536x5120) (k0_off100 v1_0 k0_t16 k0_t21) S1x256x5120.size hinb).WholeWords (EltTy.packing .fp8e4m3)) ∧
  (∀ k0_t21 : Fin k0_t21_loop.trips, ∀ (k0_h9 : k0_cond9 v14 v16 = 1#1), ∀ (r : Fin 2), ∀ a, (k0_off102 v12 k0_t21 (BitVec.ofNat 32 r.val)) a + S1x1x1.size a ≤ S16x12x40.size a) ∧
  (∀ (k0_h9 : k0_cond9 v14 v16 = 1#1), ∀ a, (k0_off103 v14) a + S64x128.size a ≤ S128x5120.size a) ∧
  (∀ k0_t21 : Fin k0_t21_loop.trips, ∀ (k0_h9 : k0_cond9 v14 v16 = 1#1), ∀ (r : Fin 2), ∀ a, (k0_off104 v12 k0_t21 (BitVec.ofNat 32 r.val)) a + S1x1x1.size a ≤ S16x12x40.size a) ∧
  (∀ (k0_h9 : k0_cond9 v14 v16 = 1#1), ∀ a, (k0_off105 v14) a + S64x128.size a ≤ S128x5120.size a) ∧
  (∀ k0_t21 : Fin k0_t21_loop.trips, ∀ (k0_h9 : k0_cond9 v14 v16 = 1#1), ∀ a, (k0_off106 v1_0 k0_t16 k0_t21) a + S1x256x256.size a ≤ S5x1536x5120.size a) ∧
  (∀ (k0_t21 : Fin k0_t21_loop.trips) (k0_t22 : Fin k0_t22_loop.trips), ∀ (k0_h9 : k0_cond9 v14 v16 = 1#1), ∀ (r₁ : Fin 2) (r₂ : Fin 2), ∀ a, (k0_off107 v12 k0_t21 k0_t22 (BitVec.ofNat 32 r₁.val) (BitVec.ofNat 32 r₂.val)) a + S1x1x1.size a ≤ S16x12x40.size a) ∧
  (∀ k0_t22 : Fin k0_t22_loop.trips, ∀ (k0_h9 : k0_cond9 v14 v16 = 1#1), ∀ (r : Fin 2), ∀ a, (k0_off108 v14 k0_t22 (BitVec.ofNat 32 r.val)) a + S64x128.size a ≤ S128x5120.size a) ∧
  (∀ (k0_t21 : Fin k0_t21_loop.trips) (k0_t22 : Fin k0_t22_loop.trips), ∀ (k0_h9 : k0_cond9 v14 v16 = 1#1), ∀ a, (k0_off109 v1_0 k0_t16 k0_t21 k0_t22) a + S1x256x256.size a ≤ S5x1536x5120.size a) ∧
  (∀ k0_t21 : Fin k0_t21_loop.trips, ∀ (k0_h9 : k0_cond9 v14 v16 = 1#1), ∀ a, (k0_off110 v14 k0_t21) a + S64x256.size a ≤ S128x1536.size a) ∧
  (∀ k0_t21 : Fin k0_t21_loop.trips, ∀ (k0_h9 : k0_cond9 v14 v16 = 1#1), ∀ (hinb : ∀ a, (k0_off110 v14 k0_t21) a + S64x256.size a ≤ S128x1536.size a), (Rect.unit (s := S128x1536) (k0_off110 v14 k0_t21) S64x256.size hinb).PackedRows (EltTy.packing .bf16)) ∧
  (∀ (k0_h10 : k0_cond10 v14 v16 = 1#1), 16 ∣ (k0_mult96 v14).toNat) ∧
  (∀ (k0_h10 : k0_cond10 v14 v16 = 1#1), ∀ a, (k0_off111 v1_0 k0_t16) a + S1x1.size a ≤ S3x17.size a) ∧
  (∀ k0_t23 : Fin k0_t23_loop.trips, ∀ (k0_h10 : k0_cond10 v14 v16 = 1#1), ∀ a, (k0_off112 v1_0 k0_t16 k0_t23) a + S1x1.size a ≤ S5x6.size a) ∧
  (∀ k0_t23 : Fin k0_t23_loop.trips, ∀ (k0_h10 : k0_cond10 v14 v16 = 1#1), ∀ a, (k0_off113 v1_0 k0_t16 k0_t23) a + S1x256x5120.size a ≤ S5x1536x5120.size a) ∧
  (∀ k0_t23 : Fin k0_t23_loop.trips, ∀ (k0_h10 : k0_cond10 v14 v16 = 1#1), ∀ (hinb : ∀ a, (k0_off113 v1_0 k0_t16 k0_t23) a + S1x256x5120.size a ≤ S5x1536x5120.size a), (Rect.unit (s := S5x1536x5120) (k0_off113 v1_0 k0_t16 k0_t23) S1x256x5120.size hinb).WholeWords (EltTy.packing .fp8e4m3)) ∧
  (∀ k0_t23 : Fin k0_t23_loop.trips, ∀ (k0_h10 : k0_cond10 v14 v16 = 1#1), ∀ (r : Fin 2), ∀ a, (k0_off115 v12 k0_t23 (BitVec.ofNat 32 r.val)) a + S1x1x1.size a ≤ S16x12x40.size a) ∧
  (∀ (k0_h10 : k0_cond10 v14 v16 = 1#1), ∀ a, (k0_off116 v14) a + S128x128.size a ≤ S128x5120.size a) ∧
  (∀ k0_t23 : Fin k0_t23_loop.trips, ∀ (k0_h10 : k0_cond10 v14 v16 = 1#1), ∀ (r : Fin 2), ∀ a, (k0_off117 v12 k0_t23 (BitVec.ofNat 32 r.val)) a + S1x1x1.size a ≤ S16x12x40.size a) ∧
  (∀ (k0_h10 : k0_cond10 v14 v16 = 1#1), ∀ a, (k0_off118 v14) a + S128x128.size a ≤ S128x5120.size a) ∧
  (∀ k0_t23 : Fin k0_t23_loop.trips, ∀ (k0_h10 : k0_cond10 v14 v16 = 1#1), ∀ a, (k0_off119 v1_0 k0_t16 k0_t23) a + S1x256x256.size a ≤ S5x1536x5120.size a) ∧
  (∀ (k0_t23 : Fin k0_t23_loop.trips) (k0_t24 : Fin k0_t24_loop.trips), ∀ (k0_h10 : k0_cond10 v14 v16 = 1#1), ∀ (r₁ : Fin 2) (r₂ : Fin 2), ∀ a, (k0_off120 v12 k0_t23 k0_t24 (BitVec.ofNat 32 r₁.val) (BitVec.ofNat 32 r₂.val)) a + S1x1x1.size a ≤ S16x12x40.size a) ∧
  (∀ k0_t24 : Fin k0_t24_loop.trips, ∀ (k0_h10 : k0_cond10 v14 v16 = 1#1), ∀ (r : Fin 2), ∀ a, (k0_off121 v14 k0_t24 (BitVec.ofNat 32 r.val)) a + S128x128.size a ≤ S128x5120.size a) ∧
  (∀ (k0_t23 : Fin k0_t23_loop.trips) (k0_t24 : Fin k0_t24_loop.trips), ∀ (k0_h10 : k0_cond10 v14 v16 = 1#1), ∀ a, (k0_off122 v1_0 k0_t16 k0_t23 k0_t24) a + S1x256x256.size a ≤ S5x1536x5120.size a) ∧
  (∀ k0_t23 : Fin k0_t23_loop.trips, ∀ (k0_h10 : k0_cond10 v14 v16 = 1#1), ∀ a, (k0_off123 v14 k0_t23) a + S128x256.size a ≤ S128x1536.size a) ∧
  (∀ k0_t23 : Fin k0_t23_loop.trips, ∀ (k0_h10 : k0_cond10 v14 v16 = 1#1), ∀ (hinb : ∀ a, (k0_off123 v14 k0_t23) a + S128x256.size a ≤ S128x1536.size a), (Rect.unit (s := S128x1536) (k0_off123 v14 k0_t23) S128x256.size hinb).PackedRows (EltTy.packing .bf16))
def k0_chk10 (v1_0 : BitVec 32) (k0_t16 : Fin (k0_t16_loop v1_0).trips) (v12 : BitVec 32) (v14 : BitVec 32) (v16 : BitVec 32) : Prop :=
  k0_chk10_0 v1_0 k0_t16 v12 v14 v16 ∧
  k0_chk10_1 v1_0 k0_t16 v12 v14 v16
theorem k0_mult57_dvd : ∀ (v1_0 : BitVec 32) (k0_t16 : Fin (k0_t16_loop v1_0).trips) (v12 : BitVec 32) (v14 : BitVec 32) (v16 : BitVec 32) (k0_hw10 : k0_chk10 v1_0 k0_t16 v12 v14 v16), ∀ (k0_h7 : k0_cond7 v14 v16 = 1#1), 16 ∣ (k0_mult57 v14).toNat := fun v1_0 k0_t16 v12 v14 v16 k0_hw10 k0_h7 => k0_hw10.1.1 k0_h7
theorem k0_off72_inb : ∀ (v1_0 : BitVec 32) (k0_t16 : Fin (k0_t16_loop v1_0).trips) (v12 : BitVec 32) (v14 : BitVec 32) (v16 : BitVec 32) (k0_hw10 : k0_chk10 v1_0 k0_t16 v12 v14 v16), ∀ (k0_h7 : k0_cond7 v14 v16 = 1#1), ∀ a, (k0_off72 v1_0 k0_t16) a + S1x1.size a ≤ S3x17.size a := fun v1_0 k0_t16 v12 v14 v16 k0_hw10 k0_h7 => k0_hw10.1.2.1 k0_h7
theorem k0_off73_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t17 : Fin k0_t17_loop.trips), ∀ (k0_h7 : k0_cond7 v14 v16 = 1#1), ∀ a, (k0_off73 v1_0 k0_t16 k0_t17) a + S1x1.size a ≤ S5x6.size a := fun v1_0 k0_t16 v12 v14 v16 k0_hw10 k0_t17 k0_h7 => k0_hw10.1.2.2.1 k0_t17 k0_h7
theorem k0_off74_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t17 : Fin k0_t17_loop.trips), ∀ (k0_h7 : k0_cond7 v14 v16 = 1#1), ∀ a, (k0_off74 v1_0 k0_t16 k0_t17) a + S1x256x5120.size a ≤ S5x1536x5120.size a := fun v1_0 k0_t16 v12 v14 v16 k0_hw10 k0_t17 k0_h7 => k0_hw10.1.2.2.2.1 k0_t17 k0_h7
theorem k0_off74_wordsfp8e4m3 : ∀ (v1_0 : BitVec 32) (k0_t16 : Fin (k0_t16_loop v1_0).trips) (v12 : BitVec 32) (v14 : BitVec 32) (v16 : BitVec 32) (k0_hw10 : k0_chk10 v1_0 k0_t16 v12 v14 v16) (k0_t17 : Fin k0_t17_loop.trips), ∀ (k0_h7 : k0_cond7 v14 v16 = 1#1), (Rect.unit (s := S5x1536x5120) (k0_off74 v1_0 k0_t16 k0_t17) S1x256x5120.size (k0_off74_inb v1_0 k0_t16 v12 v14 v16 k0_hw10 k0_t17 k0_h7)).WholeWords (EltTy.packing .fp8e4m3) := fun v1_0 k0_t16 v12 v14 v16 k0_hw10 k0_t17 k0_h7 => k0_hw10.1.2.2.2.2.1 k0_t17 k0_h7 (k0_off74_inb v1_0 k0_t16 v12 v14 v16 k0_hw10 k0_t17 k0_h7)
theorem k0_off76_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t17 : Fin k0_t17_loop.trips), ∀ (k0_h7 : k0_cond7 v14 v16 = 1#1), ∀ (r : Fin 2), ∀ a, (k0_off76 v12 k0_t17 (BitVec.ofNat 32 r.val)) a + S1x1x1.size a ≤ S16x12x40.size a := fun v1_0 k0_t16 v12 v14 v16 k0_hw10 k0_t17 k0_h7 r => k0_hw10.1.2.2.2.2.2.1 k0_t17 k0_h7 r
theorem k0_off77_inb : ∀ (v1_0 : BitVec 32) (k0_t16 : Fin (k0_t16_loop v1_0).trips) (v12 : BitVec 32) (v14 : BitVec 32) (v16 : BitVec 32) (k0_hw10 : k0_chk10 v1_0 k0_t16 v12 v14 v16), ∀ (k0_h7 : k0_cond7 v14 v16 = 1#1), ∀ a, (k0_off77 v14) a + S16x128.size a ≤ S128x5120.size a := fun v1_0 k0_t16 v12 v14 v16 k0_hw10 k0_h7 => k0_hw10.1.2.2.2.2.2.2.1 k0_h7
theorem k0_off78_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t17 : Fin k0_t17_loop.trips), ∀ (k0_h7 : k0_cond7 v14 v16 = 1#1), ∀ (r : Fin 2), ∀ a, (k0_off78 v12 k0_t17 (BitVec.ofNat 32 r.val)) a + S1x1x1.size a ≤ S16x12x40.size a := fun v1_0 k0_t16 v12 v14 v16 k0_hw10 k0_t17 k0_h7 r => k0_hw10.1.2.2.2.2.2.2.2.1 k0_t17 k0_h7 r
theorem k0_off79_inb : ∀ (v1_0 : BitVec 32) (k0_t16 : Fin (k0_t16_loop v1_0).trips) (v12 : BitVec 32) (v14 : BitVec 32) (v16 : BitVec 32) (k0_hw10 : k0_chk10 v1_0 k0_t16 v12 v14 v16), ∀ (k0_h7 : k0_cond7 v14 v16 = 1#1), ∀ a, (k0_off79 v14) a + S16x128.size a ≤ S128x5120.size a := fun v1_0 k0_t16 v12 v14 v16 k0_hw10 k0_h7 => k0_hw10.1.2.2.2.2.2.2.2.2.1 k0_h7
theorem k0_off80_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t17 : Fin k0_t17_loop.trips), ∀ (k0_h7 : k0_cond7 v14 v16 = 1#1), ∀ a, (k0_off80 v1_0 k0_t16 k0_t17) a + S1x256x256.size a ≤ S5x1536x5120.size a := fun v1_0 k0_t16 v12 v14 v16 k0_hw10 k0_t17 k0_h7 => k0_hw10.1.2.2.2.2.2.2.2.2.2.1 k0_t17 k0_h7
theorem k0_off81_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t17 : Fin k0_t17_loop.trips) (k0_t18 : Fin k0_t18_loop.trips), ∀ (k0_h7 : k0_cond7 v14 v16 = 1#1), ∀ (r₁ : Fin 2) (r₂ : Fin 2), ∀ a, (k0_off81 v12 k0_t17 k0_t18 (BitVec.ofNat 32 r₁.val) (BitVec.ofNat 32 r₂.val)) a + S1x1x1.size a ≤ S16x12x40.size a := fun v1_0 k0_t16 v12 v14 v16 k0_hw10 k0_t17 k0_t18 k0_h7 r₁ r₂ => k0_hw10.1.2.2.2.2.2.2.2.2.2.2.1 k0_t17 k0_t18 k0_h7 r₁ r₂
theorem k0_off82_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t18 : Fin k0_t18_loop.trips), ∀ (k0_h7 : k0_cond7 v14 v16 = 1#1), ∀ (r : Fin 2), ∀ a, (k0_off82 v14 k0_t18 (BitVec.ofNat 32 r.val)) a + S16x128.size a ≤ S128x5120.size a := fun v1_0 k0_t16 v12 v14 v16 k0_hw10 k0_t18 k0_h7 r => k0_hw10.1.2.2.2.2.2.2.2.2.2.2.2.1 k0_t18 k0_h7 r
theorem k0_off83_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t17 : Fin k0_t17_loop.trips) (k0_t18 : Fin k0_t18_loop.trips), ∀ (k0_h7 : k0_cond7 v14 v16 = 1#1), ∀ a, (k0_off83 v1_0 k0_t16 k0_t17 k0_t18) a + S1x256x256.size a ≤ S5x1536x5120.size a := fun v1_0 k0_t16 v12 v14 v16 k0_hw10 k0_t17 k0_t18 k0_h7 => k0_hw10.1.2.2.2.2.2.2.2.2.2.2.2.2.1 k0_t17 k0_t18 k0_h7
theorem k0_off84_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t17 : Fin k0_t17_loop.trips), ∀ (k0_h7 : k0_cond7 v14 v16 = 1#1), ∀ a, (k0_off84 v14 k0_t17) a + S16x256.size a ≤ S128x1536.size a := fun v1_0 k0_t16 v12 v14 v16 k0_hw10 k0_t17 k0_h7 => k0_hw10.1.2.2.2.2.2.2.2.2.2.2.2.2.2.1 k0_t17 k0_h7
theorem k0_off84_packedbf16 : ∀ (v1_0 : BitVec 32) (k0_t16 : Fin (k0_t16_loop v1_0).trips) (v12 : BitVec 32) (v14 : BitVec 32) (v16 : BitVec 32) (k0_hw10 : k0_chk10 v1_0 k0_t16 v12 v14 v16) (k0_t17 : Fin k0_t17_loop.trips), ∀ (k0_h7 : k0_cond7 v14 v16 = 1#1), (Rect.unit (s := S128x1536) (k0_off84 v14 k0_t17) S16x256.size (k0_off84_inb v1_0 k0_t16 v12 v14 v16 k0_hw10 k0_t17 k0_h7)).PackedRows (EltTy.packing .bf16) := fun v1_0 k0_t16 v12 v14 v16 k0_hw10 k0_t17 k0_h7 => k0_hw10.1.2.2.2.2.2.2.2.2.2.2.2.2.2.2.1 k0_t17 k0_h7 (k0_off84_inb v1_0 k0_t16 v12 v14 v16 k0_hw10 k0_t17 k0_h7)
theorem k0_mult70_dvd : ∀ (v1_0 : BitVec 32) (k0_t16 : Fin (k0_t16_loop v1_0).trips) (v12 : BitVec 32) (v14 : BitVec 32) (v16 : BitVec 32) (k0_hw10 : k0_chk10 v1_0 k0_t16 v12 v14 v16), ∀ (k0_h8 : k0_cond8 v14 v16 = 1#1), 16 ∣ (k0_mult70 v14).toNat := fun v1_0 k0_t16 v12 v14 v16 k0_hw10 k0_h8 => k0_hw10.1.2.2.2.2.2.2.2.2.2.2.2.2.2.2.2.1 k0_h8
theorem k0_off85_inb : ∀ (v1_0 : BitVec 32) (k0_t16 : Fin (k0_t16_loop v1_0).trips) (v12 : BitVec 32) (v14 : BitVec 32) (v16 : BitVec 32) (k0_hw10 : k0_chk10 v1_0 k0_t16 v12 v14 v16), ∀ (k0_h8 : k0_cond8 v14 v16 = 1#1), ∀ a, (k0_off85 v1_0 k0_t16) a + S1x1.size a ≤ S3x17.size a := fun v1_0 k0_t16 v12 v14 v16 k0_hw10 k0_h8 => k0_hw10.1.2.2.2.2.2.2.2.2.2.2.2.2.2.2.2.2.1 k0_h8
theorem k0_off86_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t19 : Fin k0_t19_loop.trips), ∀ (k0_h8 : k0_cond8 v14 v16 = 1#1), ∀ a, (k0_off86 v1_0 k0_t16 k0_t19) a + S1x1.size a ≤ S5x6.size a := fun v1_0 k0_t16 v12 v14 v16 k0_hw10 k0_t19 k0_h8 => k0_hw10.1.2.2.2.2.2.2.2.2.2.2.2.2.2.2.2.2.2.1 k0_t19 k0_h8
theorem k0_off87_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t19 : Fin k0_t19_loop.trips), ∀ (k0_h8 : k0_cond8 v14 v16 = 1#1), ∀ a, (k0_off87 v1_0 k0_t16 k0_t19) a + S1x256x5120.size a ≤ S5x1536x5120.size a := fun v1_0 k0_t16 v12 v14 v16 k0_hw10 k0_t19 k0_h8 => k0_hw10.1.2.2.2.2.2.2.2.2.2.2.2.2.2.2.2.2.2.2.1 k0_t19 k0_h8
theorem k0_off87_wordsfp8e4m3 : ∀ (v1_0 : BitVec 32) (k0_t16 : Fin (k0_t16_loop v1_0).trips) (v12 : BitVec 32) (v14 : BitVec 32) (v16 : BitVec 32) (k0_hw10 : k0_chk10 v1_0 k0_t16 v12 v14 v16) (k0_t19 : Fin k0_t19_loop.trips), ∀ (k0_h8 : k0_cond8 v14 v16 = 1#1), (Rect.unit (s := S5x1536x5120) (k0_off87 v1_0 k0_t16 k0_t19) S1x256x5120.size (k0_off87_inb v1_0 k0_t16 v12 v14 v16 k0_hw10 k0_t19 k0_h8)).WholeWords (EltTy.packing .fp8e4m3) := fun v1_0 k0_t16 v12 v14 v16 k0_hw10 k0_t19 k0_h8 => k0_hw10.1.2.2.2.2.2.2.2.2.2.2.2.2.2.2.2.2.2.2.2.1 k0_t19 k0_h8 (k0_off87_inb v1_0 k0_t16 v12 v14 v16 k0_hw10 k0_t19 k0_h8)
theorem k0_off89_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t19 : Fin k0_t19_loop.trips), ∀ (k0_h8 : k0_cond8 v14 v16 = 1#1), ∀ (r : Fin 2), ∀ a, (k0_off89 v12 k0_t19 (BitVec.ofNat 32 r.val)) a + S1x1x1.size a ≤ S16x12x40.size a := fun v1_0 k0_t16 v12 v14 v16 k0_hw10 k0_t19 k0_h8 r => k0_hw10.1.2.2.2.2.2.2.2.2.2.2.2.2.2.2.2.2.2.2.2.2.1 k0_t19 k0_h8 r
theorem k0_off90_inb : ∀ (v1_0 : BitVec 32) (k0_t16 : Fin (k0_t16_loop v1_0).trips) (v12 : BitVec 32) (v14 : BitVec 32) (v16 : BitVec 32) (k0_hw10 : k0_chk10 v1_0 k0_t16 v12 v14 v16), ∀ (k0_h8 : k0_cond8 v14 v16 = 1#1), ∀ a, (k0_off90 v14) a + S32x128.size a ≤ S128x5120.size a := fun v1_0 k0_t16 v12 v14 v16 k0_hw10 k0_h8 => k0_hw10.1.2.2.2.2.2.2.2.2.2.2.2.2.2.2.2.2.2.2.2.2.2.1 k0_h8
theorem k0_off91_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t19 : Fin k0_t19_loop.trips), ∀ (k0_h8 : k0_cond8 v14 v16 = 1#1), ∀ (r : Fin 2), ∀ a, (k0_off91 v12 k0_t19 (BitVec.ofNat 32 r.val)) a + S1x1x1.size a ≤ S16x12x40.size a := fun v1_0 k0_t16 v12 v14 v16 k0_hw10 k0_t19 k0_h8 r => k0_hw10.1.2.2.2.2.2.2.2.2.2.2.2.2.2.2.2.2.2.2.2.2.2.2.1 k0_t19 k0_h8 r
theorem k0_off92_inb : ∀ (v1_0 : BitVec 32) (k0_t16 : Fin (k0_t16_loop v1_0).trips) (v12 : BitVec 32) (v14 : BitVec 32) (v16 : BitVec 32) (k0_hw10 : k0_chk10 v1_0 k0_t16 v12 v14 v16), ∀ (k0_h8 : k0_cond8 v14 v16 = 1#1), ∀ a, (k0_off92 v14) a + S32x128.size a ≤ S128x5120.size a := fun v1_0 k0_t16 v12 v14 v16 k0_hw10 k0_h8 => k0_hw10.1.2.2.2.2.2.2.2.2.2.2.2.2.2.2.2.2.2.2.2.2.2.2.2.1 k0_h8
theorem k0_off93_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t19 : Fin k0_t19_loop.trips), ∀ (k0_h8 : k0_cond8 v14 v16 = 1#1), ∀ a, (k0_off93 v1_0 k0_t16 k0_t19) a + S1x256x256.size a ≤ S5x1536x5120.size a := fun v1_0 k0_t16 v12 v14 v16 k0_hw10 k0_t19 k0_h8 => k0_hw10.1.2.2.2.2.2.2.2.2.2.2.2.2.2.2.2.2.2.2.2.2.2.2.2.2.1 k0_t19 k0_h8
theorem k0_off94_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t19 : Fin k0_t19_loop.trips) (k0_t20 : Fin k0_t20_loop.trips), ∀ (k0_h8 : k0_cond8 v14 v16 = 1#1), ∀ (r₁ : Fin 2) (r₂ : Fin 2), ∀ a, (k0_off94 v12 k0_t19 k0_t20 (BitVec.ofNat 32 r₁.val) (BitVec.ofNat 32 r₂.val)) a + S1x1x1.size a ≤ S16x12x40.size a := fun v1_0 k0_t16 v12 v14 v16 k0_hw10 k0_t19 k0_t20 k0_h8 r₁ r₂ => k0_hw10.1.2.2.2.2.2.2.2.2.2.2.2.2.2.2.2.2.2.2.2.2.2.2.2.2.2.1 k0_t19 k0_t20 k0_h8 r₁ r₂
theorem k0_off95_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t20 : Fin k0_t20_loop.trips), ∀ (k0_h8 : k0_cond8 v14 v16 = 1#1), ∀ (r : Fin 2), ∀ a, (k0_off95 v14 k0_t20 (BitVec.ofNat 32 r.val)) a + S32x128.size a ≤ S128x5120.size a := fun v1_0 k0_t16 v12 v14 v16 k0_hw10 k0_t20 k0_h8 r => k0_hw10.1.2.2.2.2.2.2.2.2.2.2.2.2.2.2.2.2.2.2.2.2.2.2.2.2.2.2.1 k0_t20 k0_h8 r
theorem k0_off96_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t19 : Fin k0_t19_loop.trips) (k0_t20 : Fin k0_t20_loop.trips), ∀ (k0_h8 : k0_cond8 v14 v16 = 1#1), ∀ a, (k0_off96 v1_0 k0_t16 k0_t19 k0_t20) a + S1x256x256.size a ≤ S5x1536x5120.size a := fun v1_0 k0_t16 v12 v14 v16 k0_hw10 k0_t19 k0_t20 k0_h8 => k0_hw10.1.2.2.2.2.2.2.2.2.2.2.2.2.2.2.2.2.2.2.2.2.2.2.2.2.2.2.2.1 k0_t19 k0_t20 k0_h8
theorem k0_off97_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t19 : Fin k0_t19_loop.trips), ∀ (k0_h8 : k0_cond8 v14 v16 = 1#1), ∀ a, (k0_off97 v14 k0_t19) a + S32x256.size a ≤ S128x1536.size a := fun v1_0 k0_t16 v12 v14 v16 k0_hw10 k0_t19 k0_h8 => k0_hw10.1.2.2.2.2.2.2.2.2.2.2.2.2.2.2.2.2.2.2.2.2.2.2.2.2.2.2.2.2.1 k0_t19 k0_h8
theorem k0_off97_packedbf16 : ∀ (v1_0 : BitVec 32) (k0_t16 : Fin (k0_t16_loop v1_0).trips) (v12 : BitVec 32) (v14 : BitVec 32) (v16 : BitVec 32) (k0_hw10 : k0_chk10 v1_0 k0_t16 v12 v14 v16) (k0_t19 : Fin k0_t19_loop.trips), ∀ (k0_h8 : k0_cond8 v14 v16 = 1#1), (Rect.unit (s := S128x1536) (k0_off97 v14 k0_t19) S32x256.size (k0_off97_inb v1_0 k0_t16 v12 v14 v16 k0_hw10 k0_t19 k0_h8)).PackedRows (EltTy.packing .bf16) := fun v1_0 k0_t16 v12 v14 v16 k0_hw10 k0_t19 k0_h8 => k0_hw10.1.2.2.2.2.2.2.2.2.2.2.2.2.2.2.2.2.2.2.2.2.2.2.2.2.2.2.2.2.2.1 k0_t19 k0_h8 (k0_off97_inb v1_0 k0_t16 v12 v14 v16 k0_hw10 k0_t19 k0_h8)
theorem k0_mult83_dvd : ∀ (v1_0 : BitVec 32) (k0_t16 : Fin (k0_t16_loop v1_0).trips) (v12 : BitVec 32) (v14 : BitVec 32) (v16 : BitVec 32) (k0_hw10 : k0_chk10 v1_0 k0_t16 v12 v14 v16), ∀ (k0_h9 : k0_cond9 v14 v16 = 1#1), 16 ∣ (k0_mult83 v14).toNat := fun v1_0 k0_t16 v12 v14 v16 k0_hw10 k0_h9 => k0_hw10.1.2.2.2.2.2.2.2.2.2.2.2.2.2.2.2.2.2.2.2.2.2.2.2.2.2.2.2.2.2.2.1 k0_h9
theorem k0_off98_inb : ∀ (v1_0 : BitVec 32) (k0_t16 : Fin (k0_t16_loop v1_0).trips) (v12 : BitVec 32) (v14 : BitVec 32) (v16 : BitVec 32) (k0_hw10 : k0_chk10 v1_0 k0_t16 v12 v14 v16), ∀ (k0_h9 : k0_cond9 v14 v16 = 1#1), ∀ a, (k0_off98 v1_0 k0_t16) a + S1x1.size a ≤ S3x17.size a := fun v1_0 k0_t16 v12 v14 v16 k0_hw10 k0_h9 => k0_hw10.1.2.2.2.2.2.2.2.2.2.2.2.2.2.2.2.2.2.2.2.2.2.2.2.2.2.2.2.2.2.2.2 k0_h9
theorem k0_off99_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t21 : Fin k0_t21_loop.trips), ∀ (k0_h9 : k0_cond9 v14 v16 = 1#1), ∀ a, (k0_off99 v1_0 k0_t16 k0_t21) a + S1x1.size a ≤ S5x6.size a := fun v1_0 k0_t16 v12 v14 v16 k0_hw10 k0_t21 k0_h9 => k0_hw10.2.1 k0_t21 k0_h9
theorem k0_off100_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t21 : Fin k0_t21_loop.trips), ∀ (k0_h9 : k0_cond9 v14 v16 = 1#1), ∀ a, (k0_off100 v1_0 k0_t16 k0_t21) a + S1x256x5120.size a ≤ S5x1536x5120.size a := fun v1_0 k0_t16 v12 v14 v16 k0_hw10 k0_t21 k0_h9 => k0_hw10.2.2.1 k0_t21 k0_h9
theorem k0_off100_wordsfp8e4m3 : ∀ (v1_0 : BitVec 32) (k0_t16 : Fin (k0_t16_loop v1_0).trips) (v12 : BitVec 32) (v14 : BitVec 32) (v16 : BitVec 32) (k0_hw10 : k0_chk10 v1_0 k0_t16 v12 v14 v16) (k0_t21 : Fin k0_t21_loop.trips), ∀ (k0_h9 : k0_cond9 v14 v16 = 1#1), (Rect.unit (s := S5x1536x5120) (k0_off100 v1_0 k0_t16 k0_t21) S1x256x5120.size (k0_off100_inb v1_0 k0_t16 v12 v14 v16 k0_hw10 k0_t21 k0_h9)).WholeWords (EltTy.packing .fp8e4m3) := fun v1_0 k0_t16 v12 v14 v16 k0_hw10 k0_t21 k0_h9 => k0_hw10.2.2.2.1 k0_t21 k0_h9 (k0_off100_inb v1_0 k0_t16 v12 v14 v16 k0_hw10 k0_t21 k0_h9)
theorem k0_off102_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t21 : Fin k0_t21_loop.trips), ∀ (k0_h9 : k0_cond9 v14 v16 = 1#1), ∀ (r : Fin 2), ∀ a, (k0_off102 v12 k0_t21 (BitVec.ofNat 32 r.val)) a + S1x1x1.size a ≤ S16x12x40.size a := fun v1_0 k0_t16 v12 v14 v16 k0_hw10 k0_t21 k0_h9 r => k0_hw10.2.2.2.2.1 k0_t21 k0_h9 r
theorem k0_off103_inb : ∀ (v1_0 : BitVec 32) (k0_t16 : Fin (k0_t16_loop v1_0).trips) (v12 : BitVec 32) (v14 : BitVec 32) (v16 : BitVec 32) (k0_hw10 : k0_chk10 v1_0 k0_t16 v12 v14 v16), ∀ (k0_h9 : k0_cond9 v14 v16 = 1#1), ∀ a, (k0_off103 v14) a + S64x128.size a ≤ S128x5120.size a := fun v1_0 k0_t16 v12 v14 v16 k0_hw10 k0_h9 => k0_hw10.2.2.2.2.2.1 k0_h9
theorem k0_off104_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t21 : Fin k0_t21_loop.trips), ∀ (k0_h9 : k0_cond9 v14 v16 = 1#1), ∀ (r : Fin 2), ∀ a, (k0_off104 v12 k0_t21 (BitVec.ofNat 32 r.val)) a + S1x1x1.size a ≤ S16x12x40.size a := fun v1_0 k0_t16 v12 v14 v16 k0_hw10 k0_t21 k0_h9 r => k0_hw10.2.2.2.2.2.2.1 k0_t21 k0_h9 r
theorem k0_off105_inb : ∀ (v1_0 : BitVec 32) (k0_t16 : Fin (k0_t16_loop v1_0).trips) (v12 : BitVec 32) (v14 : BitVec 32) (v16 : BitVec 32) (k0_hw10 : k0_chk10 v1_0 k0_t16 v12 v14 v16), ∀ (k0_h9 : k0_cond9 v14 v16 = 1#1), ∀ a, (k0_off105 v14) a + S64x128.size a ≤ S128x5120.size a := fun v1_0 k0_t16 v12 v14 v16 k0_hw10 k0_h9 => k0_hw10.2.2.2.2.2.2.2.1 k0_h9
theorem k0_off106_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t21 : Fin k0_t21_loop.trips), ∀ (k0_h9 : k0_cond9 v14 v16 = 1#1), ∀ a, (k0_off106 v1_0 k0_t16 k0_t21) a + S1x256x256.size a ≤ S5x1536x5120.size a := fun v1_0 k0_t16 v12 v14 v16 k0_hw10 k0_t21 k0_h9 => k0_hw10.2.2.2.2.2.2.2.2.1 k0_t21 k0_h9
theorem k0_off107_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t21 : Fin k0_t21_loop.trips) (k0_t22 : Fin k0_t22_loop.trips), ∀ (k0_h9 : k0_cond9 v14 v16 = 1#1), ∀ (r₁ : Fin 2) (r₂ : Fin 2), ∀ a, (k0_off107 v12 k0_t21 k0_t22 (BitVec.ofNat 32 r₁.val) (BitVec.ofNat 32 r₂.val)) a + S1x1x1.size a ≤ S16x12x40.size a := fun v1_0 k0_t16 v12 v14 v16 k0_hw10 k0_t21 k0_t22 k0_h9 r₁ r₂ => k0_hw10.2.2.2.2.2.2.2.2.2.1 k0_t21 k0_t22 k0_h9 r₁ r₂
theorem k0_off108_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t22 : Fin k0_t22_loop.trips), ∀ (k0_h9 : k0_cond9 v14 v16 = 1#1), ∀ (r : Fin 2), ∀ a, (k0_off108 v14 k0_t22 (BitVec.ofNat 32 r.val)) a + S64x128.size a ≤ S128x5120.size a := fun v1_0 k0_t16 v12 v14 v16 k0_hw10 k0_t22 k0_h9 r => k0_hw10.2.2.2.2.2.2.2.2.2.2.1 k0_t22 k0_h9 r
theorem k0_off109_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t21 : Fin k0_t21_loop.trips) (k0_t22 : Fin k0_t22_loop.trips), ∀ (k0_h9 : k0_cond9 v14 v16 = 1#1), ∀ a, (k0_off109 v1_0 k0_t16 k0_t21 k0_t22) a + S1x256x256.size a ≤ S5x1536x5120.size a := fun v1_0 k0_t16 v12 v14 v16 k0_hw10 k0_t21 k0_t22 k0_h9 => k0_hw10.2.2.2.2.2.2.2.2.2.2.2.1 k0_t21 k0_t22 k0_h9
theorem k0_off110_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t21 : Fin k0_t21_loop.trips), ∀ (k0_h9 : k0_cond9 v14 v16 = 1#1), ∀ a, (k0_off110 v14 k0_t21) a + S64x256.size a ≤ S128x1536.size a := fun v1_0 k0_t16 v12 v14 v16 k0_hw10 k0_t21 k0_h9 => k0_hw10.2.2.2.2.2.2.2.2.2.2.2.2.1 k0_t21 k0_h9
theorem k0_off110_packedbf16 : ∀ (v1_0 : BitVec 32) (k0_t16 : Fin (k0_t16_loop v1_0).trips) (v12 : BitVec 32) (v14 : BitVec 32) (v16 : BitVec 32) (k0_hw10 : k0_chk10 v1_0 k0_t16 v12 v14 v16) (k0_t21 : Fin k0_t21_loop.trips), ∀ (k0_h9 : k0_cond9 v14 v16 = 1#1), (Rect.unit (s := S128x1536) (k0_off110 v14 k0_t21) S64x256.size (k0_off110_inb v1_0 k0_t16 v12 v14 v16 k0_hw10 k0_t21 k0_h9)).PackedRows (EltTy.packing .bf16) := fun v1_0 k0_t16 v12 v14 v16 k0_hw10 k0_t21 k0_h9 => k0_hw10.2.2.2.2.2.2.2.2.2.2.2.2.2.1 k0_t21 k0_h9 (k0_off110_inb v1_0 k0_t16 v12 v14 v16 k0_hw10 k0_t21 k0_h9)
theorem k0_mult96_dvd : ∀ (v1_0 : BitVec 32) (k0_t16 : Fin (k0_t16_loop v1_0).trips) (v12 : BitVec 32) (v14 : BitVec 32) (v16 : BitVec 32) (k0_hw10 : k0_chk10 v1_0 k0_t16 v12 v14 v16), ∀ (k0_h10 : k0_cond10 v14 v16 = 1#1), 16 ∣ (k0_mult96 v14).toNat := fun v1_0 k0_t16 v12 v14 v16 k0_hw10 k0_h10 => k0_hw10.2.2.2.2.2.2.2.2.2.2.2.2.2.2.1 k0_h10
theorem k0_off111_inb : ∀ (v1_0 : BitVec 32) (k0_t16 : Fin (k0_t16_loop v1_0).trips) (v12 : BitVec 32) (v14 : BitVec 32) (v16 : BitVec 32) (k0_hw10 : k0_chk10 v1_0 k0_t16 v12 v14 v16), ∀ (k0_h10 : k0_cond10 v14 v16 = 1#1), ∀ a, (k0_off111 v1_0 k0_t16) a + S1x1.size a ≤ S3x17.size a := fun v1_0 k0_t16 v12 v14 v16 k0_hw10 k0_h10 => k0_hw10.2.2.2.2.2.2.2.2.2.2.2.2.2.2.2.1 k0_h10
theorem k0_off112_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t23 : Fin k0_t23_loop.trips), ∀ (k0_h10 : k0_cond10 v14 v16 = 1#1), ∀ a, (k0_off112 v1_0 k0_t16 k0_t23) a + S1x1.size a ≤ S5x6.size a := fun v1_0 k0_t16 v12 v14 v16 k0_hw10 k0_t23 k0_h10 => k0_hw10.2.2.2.2.2.2.2.2.2.2.2.2.2.2.2.2.1 k0_t23 k0_h10
theorem k0_off113_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t23 : Fin k0_t23_loop.trips), ∀ (k0_h10 : k0_cond10 v14 v16 = 1#1), ∀ a, (k0_off113 v1_0 k0_t16 k0_t23) a + S1x256x5120.size a ≤ S5x1536x5120.size a := fun v1_0 k0_t16 v12 v14 v16 k0_hw10 k0_t23 k0_h10 => k0_hw10.2.2.2.2.2.2.2.2.2.2.2.2.2.2.2.2.2.1 k0_t23 k0_h10
theorem k0_off113_wordsfp8e4m3 : ∀ (v1_0 : BitVec 32) (k0_t16 : Fin (k0_t16_loop v1_0).trips) (v12 : BitVec 32) (v14 : BitVec 32) (v16 : BitVec 32) (k0_hw10 : k0_chk10 v1_0 k0_t16 v12 v14 v16) (k0_t23 : Fin k0_t23_loop.trips), ∀ (k0_h10 : k0_cond10 v14 v16 = 1#1), (Rect.unit (s := S5x1536x5120) (k0_off113 v1_0 k0_t16 k0_t23) S1x256x5120.size (k0_off113_inb v1_0 k0_t16 v12 v14 v16 k0_hw10 k0_t23 k0_h10)).WholeWords (EltTy.packing .fp8e4m3) := fun v1_0 k0_t16 v12 v14 v16 k0_hw10 k0_t23 k0_h10 => k0_hw10.2.2.2.2.2.2.2.2.2.2.2.2.2.2.2.2.2.2.1 k0_t23 k0_h10 (k0_off113_inb v1_0 k0_t16 v12 v14 v16 k0_hw10 k0_t23 k0_h10)
theorem k0_off115_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t23 : Fin k0_t23_loop.trips), ∀ (k0_h10 : k0_cond10 v14 v16 = 1#1), ∀ (r : Fin 2), ∀ a, (k0_off115 v12 k0_t23 (BitVec.ofNat 32 r.val)) a + S1x1x1.size a ≤ S16x12x40.size a := fun v1_0 k0_t16 v12 v14 v16 k0_hw10 k0_t23 k0_h10 r => k0_hw10.2.2.2.2.2.2.2.2.2.2.2.2.2.2.2.2.2.2.2.1 k0_t23 k0_h10 r
theorem k0_off116_inb : ∀ (v1_0 : BitVec 32) (k0_t16 : Fin (k0_t16_loop v1_0).trips) (v12 : BitVec 32) (v14 : BitVec 32) (v16 : BitVec 32) (k0_hw10 : k0_chk10 v1_0 k0_t16 v12 v14 v16), ∀ (k0_h10 : k0_cond10 v14 v16 = 1#1), ∀ a, (k0_off116 v14) a + S128x128.size a ≤ S128x5120.size a := fun v1_0 k0_t16 v12 v14 v16 k0_hw10 k0_h10 => k0_hw10.2.2.2.2.2.2.2.2.2.2.2.2.2.2.2.2.2.2.2.2.1 k0_h10
theorem k0_off117_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t23 : Fin k0_t23_loop.trips), ∀ (k0_h10 : k0_cond10 v14 v16 = 1#1), ∀ (r : Fin 2), ∀ a, (k0_off117 v12 k0_t23 (BitVec.ofNat 32 r.val)) a + S1x1x1.size a ≤ S16x12x40.size a := fun v1_0 k0_t16 v12 v14 v16 k0_hw10 k0_t23 k0_h10 r => k0_hw10.2.2.2.2.2.2.2.2.2.2.2.2.2.2.2.2.2.2.2.2.2.1 k0_t23 k0_h10 r
theorem k0_off118_inb : ∀ (v1_0 : BitVec 32) (k0_t16 : Fin (k0_t16_loop v1_0).trips) (v12 : BitVec 32) (v14 : BitVec 32) (v16 : BitVec 32) (k0_hw10 : k0_chk10 v1_0 k0_t16 v12 v14 v16), ∀ (k0_h10 : k0_cond10 v14 v16 = 1#1), ∀ a, (k0_off118 v14) a + S128x128.size a ≤ S128x5120.size a := fun v1_0 k0_t16 v12 v14 v16 k0_hw10 k0_h10 => k0_hw10.2.2.2.2.2.2.2.2.2.2.2.2.2.2.2.2.2.2.2.2.2.2.1 k0_h10
theorem k0_off119_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t23 : Fin k0_t23_loop.trips), ∀ (k0_h10 : k0_cond10 v14 v16 = 1#1), ∀ a, (k0_off119 v1_0 k0_t16 k0_t23) a + S1x256x256.size a ≤ S5x1536x5120.size a := fun v1_0 k0_t16 v12 v14 v16 k0_hw10 k0_t23 k0_h10 => k0_hw10.2.2.2.2.2.2.2.2.2.2.2.2.2.2.2.2.2.2.2.2.2.2.2.1 k0_t23 k0_h10
theorem k0_off120_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t23 : Fin k0_t23_loop.trips) (k0_t24 : Fin k0_t24_loop.trips), ∀ (k0_h10 : k0_cond10 v14 v16 = 1#1), ∀ (r₁ : Fin 2) (r₂ : Fin 2), ∀ a, (k0_off120 v12 k0_t23 k0_t24 (BitVec.ofNat 32 r₁.val) (BitVec.ofNat 32 r₂.val)) a + S1x1x1.size a ≤ S16x12x40.size a := fun v1_0 k0_t16 v12 v14 v16 k0_hw10 k0_t23 k0_t24 k0_h10 r₁ r₂ => k0_hw10.2.2.2.2.2.2.2.2.2.2.2.2.2.2.2.2.2.2.2.2.2.2.2.2.1 k0_t23 k0_t24 k0_h10 r₁ r₂
theorem k0_off121_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t24 : Fin k0_t24_loop.trips), ∀ (k0_h10 : k0_cond10 v14 v16 = 1#1), ∀ (r : Fin 2), ∀ a, (k0_off121 v14 k0_t24 (BitVec.ofNat 32 r.val)) a + S128x128.size a ≤ S128x5120.size a := fun v1_0 k0_t16 v12 v14 v16 k0_hw10 k0_t24 k0_h10 r => k0_hw10.2.2.2.2.2.2.2.2.2.2.2.2.2.2.2.2.2.2.2.2.2.2.2.2.2.1 k0_t24 k0_h10 r
theorem k0_off122_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t23 : Fin k0_t23_loop.trips) (k0_t24 : Fin k0_t24_loop.trips), ∀ (k0_h10 : k0_cond10 v14 v16 = 1#1), ∀ a, (k0_off122 v1_0 k0_t16 k0_t23 k0_t24) a + S1x256x256.size a ≤ S5x1536x5120.size a := fun v1_0 k0_t16 v12 v14 v16 k0_hw10 k0_t23 k0_t24 k0_h10 => k0_hw10.2.2.2.2.2.2.2.2.2.2.2.2.2.2.2.2.2.2.2.2.2.2.2.2.2.2.1 k0_t23 k0_t24 k0_h10
theorem k0_off123_inb : ∀ (v1_0 : BitVec 32) (k0_t16 : Fin (k0_t16_loop v1_0).trips) (v12 : BitVec 32) (v14 : BitVec 32) (v16 : BitVec 32) (k0_hw10 : k0_chk10 v1_0 k0_t16 v12 v14 v16) (k0_t23 : Fin k0_t23_loop.trips), ∀ (k0_h10 : k0_cond10 v14 v16 = 1#1), ∀ a, (k0_off123 v14 k0_t23) a + S128x256.size a ≤ S128x1536.size a := fun v1_0 k0_t16 v12 v14 v16 k0_hw10 k0_t23 k0_h10 => k0_hw10.2.2.2.2.2.2.2.2.2.2.2.2.2.2.2.2.2.2.2.2.2.2.2.2.2.2.2.1 k0_t23 k0_h10
theorem k0_off123_packedbf16 : ∀ (v1_0 : BitVec 32) (k0_t16 : Fin (k0_t16_loop v1_0).trips) (v12 : BitVec 32) (v14 : BitVec 32) (v16 : BitVec 32) (k0_hw10 : k0_chk10 v1_0 k0_t16 v12 v14 v16) (k0_t23 : Fin k0_t23_loop.trips), ∀ (k0_h10 : k0_cond10 v14 v16 = 1#1), (Rect.unit (s := S128x1536) (k0_off123 v14 k0_t23) S128x256.size (k0_off123_inb v1_0 k0_t16 v12 v14 v16 k0_hw10 k0_t23 k0_h10)).PackedRows (EltTy.packing .bf16) := fun v1_0 k0_t16 v12 v14 v16 k0_hw10 k0_t23 k0_h10 => k0_hw10.2.2.2.2.2.2.2.2.2.2.2.2.2.2.2.2.2.2.2.2.2.2.2.2.2.2.2.2 k0_t23 k0_h10 (k0_off123_inb v1_0 k0_t16 v12 v14 v16 k0_hw10 k0_t23 k0_h10)

@[reducible] def k0_t25_loop : Scf.Loop 32 :=
  let c0_i32_46 : BitVec 32 := 0#32
  let c6_i32 : BitVec 32 := 6#32
  let v79 : BitVec 32 := Scalar.addi c0_i32_46 c6_i32
  let c1_i32_47 : BitVec 32 := 1#32
  ⟨c0_i32_46, v79, c1_i32_47⟩
def k0_mult109 (k0_t25 : Fin k0_t25_loop.trips) : BitVec 32 :=
  let c0_i32_46 : BitVec 32 := 0#32
  let c1_i32_47 : BitVec 32 := 1#32
  let arg12 : BitVec 32 := Scf.iv c0_i32_46 c1_i32_47 k0_t25
  let c256_i32 : BitVec 32 := 256#32
  let v81 : BitVec 32 := Scalar.muli arg12 c256_i32
  v81
def k0_off124 (v1_0 : BitVec 32) (k0_t16 : Fin (k0_t16_loop v1_0).trips) : Fin 2 → Nat :=
  let c0_50 : Index := 0#32
  let c0_i32_11 : BitVec 32 := 0#32
  let v6 : BitVec 32 := Scalar.subi v1_0 c0_i32_11
  let c1_i32_12 : BitVec 32 := 1#32
  let v8 : BitVec 32 := Scalar.divsi v6 c1_i32_12
  let v9 : BitVec 32 := Scalar.muli v8 c1_i32_12
  let v10 : BitVec 32 := Scalar.addi c0_i32_11 v9
  let c1_i32_14 : BitVec 32 := 1#32
  let arg11 : BitVec 32 := Scf.iv v10 c1_i32_14 k0_t16
  let c5_i32_43 : BitVec 32 := 5#32
  let v75 : BitVec 32 := Scalar.addi arg11 c5_i32_43
  let v83 : Index := Scalar.indexCast v75
  ![0, v83.toNat]
def k0_cond11 (v1_0 : BitVec 32) (k0_t16 : Fin (k0_t16_loop v1_0).trips) : BitVec 1 :=
  let c0_i32_11 : BitVec 32 := 0#32
  let v6 : BitVec 32 := Scalar.subi v1_0 c0_i32_11
  let c1_i32_12 : BitVec 32 := 1#32
  let v8 : BitVec 32 := Scalar.divsi v6 c1_i32_12
  let v9 : BitVec 32 := Scalar.muli v8 c1_i32_12
  let v10 : BitVec 32 := Scalar.addi c0_i32_11 v9
  let c1_i32_14 : BitVec 32 := 1#32
  let arg11 : BitVec 32 := Scf.iv v10 c1_i32_14 k0_t16
  let c5_i32_43 : BitVec 32 := 5#32
  let v75 : BitVec 32 := Scalar.addi arg11 c5_i32_43
  let v76 : BitVec 1 := Scalar.cmpi .slt v75 v1_0
  let v77 : BitVec 32 := Scalar.extui v76
  let c0_i32_44 : BitVec 32 := 0#32
  let v78 : BitVec 1 := Scalar.cmpi .ne v77 c0_i32_44
  v78

def k0_off125 (v1_0 : BitVec 32) (k0_t16 : Fin (k0_t16_loop v1_0).trips) (k0_t25 : Fin k0_t25_loop.trips) : Fin 2 → Nat :=
  let c0_i32_11 : BitVec 32 := 0#32
  let v6 : BitVec 32 := Scalar.subi v1_0 c0_i32_11
  let c1_i32_12 : BitVec 32 := 1#32
  let v8 : BitVec 32 := Scalar.divsi v6 c1_i32_12
  let v9 : BitVec 32 := Scalar.muli v8 c1_i32_12
  let v10 : BitVec 32 := Scalar.addi c0_i32_11 v9
  let c1_i32_14 : BitVec 32 := 1#32
  let arg11 : BitVec 32 := Scf.iv v10 c1_i32_14 k0_t16
  let c5_i32_43 : BitVec 32 := 5#32
  let v75 : BitVec 32 := Scalar.addi arg11 c5_i32_43
  let c5_i32_49 : BitVec 32 := 5#32
  let v80 : BitVec 32 := Scalar.remsi v75 c5_i32_49
  let c0_i32_46 : BitVec 32 := 0#32
  let c1_i32_47 : BitVec 32 := 1#32
  let arg12 : BitVec 32 := Scf.iv c0_i32_46 c1_i32_47 k0_t25
  ![v80.toNat, arg12.toNat]
def k0_off126 (v1_0 : BitVec 32) (k0_t16 : Fin (k0_t16_loop v1_0).trips) (k0_t25 : Fin k0_t25_loop.trips) : Fin 3 → Nat :=
  let c0_i32_11 : BitVec 32 := 0#32
  let v6 : BitVec 32 := Scalar.subi v1_0 c0_i32_11
  let c1_i32_12 : BitVec 32 := 1#32
  let v8 : BitVec 32 := Scalar.divsi v6 c1_i32_12
  let v9 : BitVec 32 := Scalar.muli v8 c1_i32_12
  let v10 : BitVec 32 := Scalar.addi c0_i32_11 v9
  let c1_i32_14 : BitVec 32 := 1#32
  let arg11 : BitVec 32 := Scf.iv v10 c1_i32_14 k0_t16
  let c5_i32_43 : BitVec 32 := 5#32
  let v75 : BitVec 32 := Scalar.addi arg11 c5_i32_43
  let c5_i32_49 : BitVec 32 := 5#32
  let v80 : BitVec 32 := Scalar.remsi v75 c5_i32_49
  let c0_i32_46 : BitVec 32 := 0#32
  let c1_i32_47 : BitVec 32 := 1#32
  let arg12 : BitVec 32 := Scf.iv c0_i32_46 c1_i32_47 k0_t25
  let c256_i32 : BitVec 32 := 256#32
  let v81 : BitVec 32 := Scalar.muli arg12 c256_i32
  let v82 : BitVec 32 := v81
  let c0_i32_51 : BitVec 32 := 0#32
  ![v80.toNat, v82.toNat, 0]
def k0_off127 (k0_t25 : Fin k0_t25_loop.trips) (v84 : BitVec 32) : Fin 3 → Nat :=
  let c0_i32_46 : BitVec 32 := 0#32
  let c1_i32_47 : BitVec 32 := 1#32
  let arg12 : BitVec 32 := Scf.iv c0_i32_46 c1_i32_47 k0_t25
  let c256_i32 : BitVec 32 := 256#32
  let v81 : BitVec 32 := Scalar.muli arg12 c256_i32
  let v82 : BitVec 32 := v81
  let c0_i32_52 : BitVec 32 := 0#32
  ![v84.toNat, v82.toNat, 0]

def k0_chk15 (v1_0 : BitVec 32) (k0_t16 : Fin (k0_t16_loop v1_0).trips) (k0_t25 : Fin k0_t25_loop.trips) (v84 : BitVec 32) : Prop :=
  (∀ (k0_h11 : k0_cond11 v1_0 k0_t16 = 1#1), ∀ a, (k0_off127 k0_t25 v84) a + S1x256x5120.size a ≤ S16x1536x5120.size a) ∧
  (∀ (k0_h11 : k0_cond11 v1_0 k0_t16 = 1#1), ∀ (hinb : ∀ a, (k0_off127 k0_t25 v84) a + S1x256x5120.size a ≤ S16x1536x5120.size a), (Rect.unit (s := S16x1536x5120) (k0_off127 k0_t25 v84) S1x256x5120.size hinb).WholeWords (EltTy.packing .fp8e4m3))
theorem k0_off127_inb : ∀ (v1_0 : BitVec 32) (k0_t16 : Fin (k0_t16_loop v1_0).trips) (k0_t25 : Fin k0_t25_loop.trips) (v84 : BitVec 32) (k0_hw15 : k0_chk15 v1_0 k0_t16 k0_t25 v84), ∀ (k0_h11 : k0_cond11 v1_0 k0_t16 = 1#1), ∀ a, (k0_off127 k0_t25 v84) a + S1x256x5120.size a ≤ S16x1536x5120.size a := fun v1_0 k0_t16 k0_t25 v84 k0_hw15 k0_h11 => k0_hw15.1 k0_h11
theorem k0_off127_wordsfp8e4m3 : ∀ (v1_0 : BitVec 32) (k0_t16 : Fin (k0_t16_loop v1_0).trips) (k0_t25 : Fin k0_t25_loop.trips) (v84 : BitVec 32) (k0_hw15 : k0_chk15 v1_0 k0_t16 k0_t25 v84), ∀ (k0_h11 : k0_cond11 v1_0 k0_t16 = 1#1), (Rect.unit (s := S16x1536x5120) (k0_off127 k0_t25 v84) S1x256x5120.size (k0_off127_inb v1_0 k0_t16 k0_t25 v84 k0_hw15 k0_h11)).WholeWords (EltTy.packing .fp8e4m3) := fun v1_0 k0_t16 k0_t25 v84 k0_hw15 k0_h11 => k0_hw15.2 k0_h11 (k0_off127_inb v1_0 k0_t16 k0_t25 v84 k0_hw15 k0_h11)

def k0_chk3 (v1_0 : BitVec 32) : Prop :=
  ((k0_t6_loop v1_0).OK) ∧
  (∀ k0_t6 : Fin (k0_t6_loop v1_0).trips, ∀ a, (k0_off10 v1_0 k0_t6) a + S1x1.size a ≤ S3x17.size a) ∧
  (∀ k0_t6 : Fin (k0_t6_loop v1_0).trips, ∀ a, (k0_off11 v1_0 k0_t6) a + S1x1.size a ≤ S3x17.size a) ∧
  (∀ k0_t6 : Fin (k0_t6_loop v1_0).trips, ∀ a, (k0_off12 v1_0 k0_t6) a + S1x1.size a ≤ S3x17.size a) ∧
  (∀ k0_t6 : Fin (k0_t6_loop v1_0).trips, ∀ (k0_h6 : k0_cond6 v1_0 k0_t6 = 1#1), ∀ a, (k0_off65 v1_0 k0_t6) a + S1x1.size a ≤ S3x17.size a) ∧
  (∀ (k0_t6 : Fin (k0_t6_loop v1_0).trips) (k0_t15 : Fin k0_t15_loop.trips), ∀ (k0_h6 : k0_cond6 v1_0 k0_t6 = 1#1), ∀ a, (k0_off66 v1_0 k0_t6 k0_t15) a + S1x1.size a ≤ S5x6.size a) ∧
  (∀ (k0_t6 : Fin (k0_t6_loop v1_0).trips) (k0_t15 : Fin k0_t15_loop.trips), ∀ (k0_h6 : k0_cond6 v1_0 k0_t6 = 1#1), ∀ a, (k0_off67 v1_0 k0_t6 k0_t15) a + S1x256x5120.size a ≤ S5x1536x5120.size a) ∧
  (∀ (k0_t6 : Fin (k0_t6_loop v1_0).trips) (k0_t15 : Fin k0_t15_loop.trips), ∀ (k0_h6 : k0_cond6 v1_0 k0_t6 = 1#1), ∀ (hinb : ∀ a, (k0_off67 v1_0 k0_t6 k0_t15) a + S1x256x5120.size a ≤ S5x1536x5120.size a), (Rect.unit (s := S5x1536x5120) (k0_off67 v1_0 k0_t6 k0_t15) S1x256x5120.size hinb).WholeWords (EltTy.packing .fp8e4m3)) ∧
  ((k0_t16_loop v1_0).OK) ∧
  (∀ k0_t16 : Fin (k0_t16_loop v1_0).trips, ∀ a, (k0_off69 v1_0 k0_t16) a + S1x1.size a ≤ S3x17.size a) ∧
  (∀ k0_t16 : Fin (k0_t16_loop v1_0).trips, ∀ a, (k0_off70 v1_0 k0_t16) a + S1x1.size a ≤ S3x17.size a) ∧
  (∀ k0_t16 : Fin (k0_t16_loop v1_0).trips, ∀ a, (k0_off71 v1_0 k0_t16) a + S1x1.size a ≤ S3x17.size a) ∧
  (∀ k0_t16 : Fin (k0_t16_loop v1_0).trips, ∀ (k0_h11 : k0_cond11 v1_0 k0_t16 = 1#1), ∀ a, (k0_off124 v1_0 k0_t16) a + S1x1.size a ≤ S3x17.size a) ∧
  (∀ (k0_t16 : Fin (k0_t16_loop v1_0).trips) (k0_t25 : Fin k0_t25_loop.trips), ∀ (k0_h11 : k0_cond11 v1_0 k0_t16 = 1#1), ∀ a, (k0_off125 v1_0 k0_t16 k0_t25) a + S1x1.size a ≤ S5x6.size a) ∧
  (∀ (k0_t16 : Fin (k0_t16_loop v1_0).trips) (k0_t25 : Fin k0_t25_loop.trips), ∀ (k0_h11 : k0_cond11 v1_0 k0_t16 = 1#1), ∀ a, (k0_off126 v1_0 k0_t16 k0_t25) a + S1x256x5120.size a ≤ S5x1536x5120.size a) ∧
  (∀ (k0_t16 : Fin (k0_t16_loop v1_0).trips) (k0_t25 : Fin k0_t25_loop.trips), ∀ (k0_h11 : k0_cond11 v1_0 k0_t16 = 1#1), ∀ (hinb : ∀ a, (k0_off126 v1_0 k0_t16 k0_t25) a + S1x256x5120.size a ≤ S5x1536x5120.size a), (Rect.unit (s := S5x1536x5120) (k0_off126 v1_0 k0_t16 k0_t25) S1x256x5120.size hinb).WholeWords (EltTy.packing .fp8e4m3))
theorem k0_t6_ok : ∀ (v1_0 : BitVec 32) (k0_hw3 : k0_chk3 v1_0), (k0_t6_loop v1_0).OK := fun v1_0 k0_hw3 => k0_hw3.1
theorem k0_off10_inb : ∀ (v1_0 : BitVec 32) (k0_hw3 : k0_chk3 v1_0) (k0_t6 : Fin (k0_t6_loop v1_0).trips), ∀ a, (k0_off10 v1_0 k0_t6) a + S1x1.size a ≤ S3x17.size a := fun v1_0 k0_hw3 k0_t6 => k0_hw3.2.1 k0_t6
theorem k0_off11_inb : ∀ (v1_0 : BitVec 32) (k0_hw3 : k0_chk3 v1_0) (k0_t6 : Fin (k0_t6_loop v1_0).trips), ∀ a, (k0_off11 v1_0 k0_t6) a + S1x1.size a ≤ S3x17.size a := fun v1_0 k0_hw3 k0_t6 => k0_hw3.2.2.1 k0_t6
theorem k0_off12_inb : ∀ (v1_0 : BitVec 32) (k0_hw3 : k0_chk3 v1_0) (k0_t6 : Fin (k0_t6_loop v1_0).trips), ∀ a, (k0_off12 v1_0 k0_t6) a + S1x1.size a ≤ S3x17.size a := fun v1_0 k0_hw3 k0_t6 => k0_hw3.2.2.2.1 k0_t6
theorem k0_off65_inb : ∀ (v1_0 : BitVec 32) (k0_hw3 : k0_chk3 v1_0) (k0_t6 : Fin (k0_t6_loop v1_0).trips), ∀ (k0_h6 : k0_cond6 v1_0 k0_t6 = 1#1), ∀ a, (k0_off65 v1_0 k0_t6) a + S1x1.size a ≤ S3x17.size a := fun v1_0 k0_hw3 k0_t6 k0_h6 => k0_hw3.2.2.2.2.1 k0_t6 k0_h6
theorem k0_off66_inb : ∀ (v1_0 : BitVec 32) (k0_hw3 : k0_chk3 v1_0) (k0_t6 : Fin (k0_t6_loop v1_0).trips) (k0_t15 : Fin k0_t15_loop.trips), ∀ (k0_h6 : k0_cond6 v1_0 k0_t6 = 1#1), ∀ a, (k0_off66 v1_0 k0_t6 k0_t15) a + S1x1.size a ≤ S5x6.size a := fun v1_0 k0_hw3 k0_t6 k0_t15 k0_h6 => k0_hw3.2.2.2.2.2.1 k0_t6 k0_t15 k0_h6
theorem k0_off67_inb : ∀ (v1_0 : BitVec 32) (k0_hw3 : k0_chk3 v1_0) (k0_t6 : Fin (k0_t6_loop v1_0).trips) (k0_t15 : Fin k0_t15_loop.trips), ∀ (k0_h6 : k0_cond6 v1_0 k0_t6 = 1#1), ∀ a, (k0_off67 v1_0 k0_t6 k0_t15) a + S1x256x5120.size a ≤ S5x1536x5120.size a := fun v1_0 k0_hw3 k0_t6 k0_t15 k0_h6 => k0_hw3.2.2.2.2.2.2.1 k0_t6 k0_t15 k0_h6
theorem k0_off67_wordsfp8e4m3 : ∀ (v1_0 : BitVec 32) (k0_hw3 : k0_chk3 v1_0) (k0_t6 : Fin (k0_t6_loop v1_0).trips) (k0_t15 : Fin k0_t15_loop.trips), ∀ (k0_h6 : k0_cond6 v1_0 k0_t6 = 1#1), (Rect.unit (s := S5x1536x5120) (k0_off67 v1_0 k0_t6 k0_t15) S1x256x5120.size (k0_off67_inb v1_0 k0_hw3 k0_t6 k0_t15 k0_h6)).WholeWords (EltTy.packing .fp8e4m3) := fun v1_0 k0_hw3 k0_t6 k0_t15 k0_h6 => k0_hw3.2.2.2.2.2.2.2.1 k0_t6 k0_t15 k0_h6 (k0_off67_inb v1_0 k0_hw3 k0_t6 k0_t15 k0_h6)
theorem k0_t16_ok : ∀ (v1_0 : BitVec 32) (k0_hw3 : k0_chk3 v1_0), (k0_t16_loop v1_0).OK := fun v1_0 k0_hw3 => k0_hw3.2.2.2.2.2.2.2.2.1
theorem k0_off69_inb : ∀ (v1_0 : BitVec 32) (k0_hw3 : k0_chk3 v1_0) (k0_t16 : Fin (k0_t16_loop v1_0).trips), ∀ a, (k0_off69 v1_0 k0_t16) a + S1x1.size a ≤ S3x17.size a := fun v1_0 k0_hw3 k0_t16 => k0_hw3.2.2.2.2.2.2.2.2.2.1 k0_t16
theorem k0_off70_inb : ∀ (v1_0 : BitVec 32) (k0_hw3 : k0_chk3 v1_0) (k0_t16 : Fin (k0_t16_loop v1_0).trips), ∀ a, (k0_off70 v1_0 k0_t16) a + S1x1.size a ≤ S3x17.size a := fun v1_0 k0_hw3 k0_t16 => k0_hw3.2.2.2.2.2.2.2.2.2.2.1 k0_t16
theorem k0_off71_inb : ∀ (v1_0 : BitVec 32) (k0_hw3 : k0_chk3 v1_0) (k0_t16 : Fin (k0_t16_loop v1_0).trips), ∀ a, (k0_off71 v1_0 k0_t16) a + S1x1.size a ≤ S3x17.size a := fun v1_0 k0_hw3 k0_t16 => k0_hw3.2.2.2.2.2.2.2.2.2.2.2.1 k0_t16
theorem k0_off124_inb : ∀ (v1_0 : BitVec 32) (k0_hw3 : k0_chk3 v1_0) (k0_t16 : Fin (k0_t16_loop v1_0).trips), ∀ (k0_h11 : k0_cond11 v1_0 k0_t16 = 1#1), ∀ a, (k0_off124 v1_0 k0_t16) a + S1x1.size a ≤ S3x17.size a := fun v1_0 k0_hw3 k0_t16 k0_h11 => k0_hw3.2.2.2.2.2.2.2.2.2.2.2.2.1 k0_t16 k0_h11
theorem k0_off125_inb : ∀ (v1_0 : BitVec 32) (k0_hw3 : k0_chk3 v1_0) (k0_t16 : Fin (k0_t16_loop v1_0).trips) (k0_t25 : Fin k0_t25_loop.trips), ∀ (k0_h11 : k0_cond11 v1_0 k0_t16 = 1#1), ∀ a, (k0_off125 v1_0 k0_t16 k0_t25) a + S1x1.size a ≤ S5x6.size a := fun v1_0 k0_hw3 k0_t16 k0_t25 k0_h11 => k0_hw3.2.2.2.2.2.2.2.2.2.2.2.2.2.1 k0_t16 k0_t25 k0_h11
theorem k0_off126_inb : ∀ (v1_0 : BitVec 32) (k0_hw3 : k0_chk3 v1_0) (k0_t16 : Fin (k0_t16_loop v1_0).trips) (k0_t25 : Fin k0_t25_loop.trips), ∀ (k0_h11 : k0_cond11 v1_0 k0_t16 = 1#1), ∀ a, (k0_off126 v1_0 k0_t16 k0_t25) a + S1x256x5120.size a ≤ S5x1536x5120.size a := fun v1_0 k0_hw3 k0_t16 k0_t25 k0_h11 => k0_hw3.2.2.2.2.2.2.2.2.2.2.2.2.2.2.1 k0_t16 k0_t25 k0_h11
theorem k0_off126_wordsfp8e4m3 : ∀ (v1_0 : BitVec 32) (k0_hw3 : k0_chk3 v1_0) (k0_t16 : Fin (k0_t16_loop v1_0).trips) (k0_t25 : Fin k0_t25_loop.trips), ∀ (k0_h11 : k0_cond11 v1_0 k0_t16 = 1#1), (Rect.unit (s := S5x1536x5120) (k0_off126 v1_0 k0_t16 k0_t25) S1x256x5120.size (k0_off126_inb v1_0 k0_hw3 k0_t16 k0_t25 k0_h11)).WholeWords (EltTy.packing .fp8e4m3) := fun v1_0 k0_hw3 k0_t16 k0_t25 k0_h11 => k0_hw3.2.2.2.2.2.2.2.2.2.2.2.2.2.2.2 k0_t16 k0_t25 k0_h11 (k0_off126_inb v1_0 k0_hw3 k0_t16 k0_t25 k0_h11)

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S16x12x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S128x5120 : Shape := ⟨2, ![128, 5120]⟩
abbrev S16 : Shape := ⟨1, ![16]⟩
abbrev S16x1536x5120 : Shape := ⟨3, ![16, 1536, 5120]⟩
abbrev S16x12x40 : Shape := ⟨3, ![16, 12, 40]⟩
abbrev S128x40x128 : Shape := ⟨3, ![128, 40, 128]⟩
abbrev S128x40 : Shape := ⟨2, ![128, 40]⟩
abbrev S128x40x1 : Shape := ⟨3, ![128, 40, 1]⟩
abbrev S_ : Shape := ⟨0, ![]⟩
abbrev S128 : Shape := ⟨1, ![128]⟩
abbrev S128x1 : Shape := ⟨2, ![128, 1]⟩
abbrev S1x16 : Shape := ⟨2, ![1, 16]⟩
abbrev S128x16 : Shape := ⟨2, ![128, 16]⟩
abbrev S128x12x40 : Shape := ⟨3, ![128, 12, 40]⟩
abbrev S128x1x40x128 : Shape := ⟨4, ![128, 1, 40, 128]⟩
abbrev S128x12x40x1 : Shape := ⟨4, ![128, 12, 40, 1]⟩
abbrev S128x12x40x128 : Shape := ⟨4, ![128, 12, 40, 128]⟩
abbrev S128x12x5120 : Shape := ⟨3, ![128, 12, 5120]⟩
abbrev S16x12x128x5120 : Shape := ⟨4, ![16, 12, 128, 5120]⟩
abbrev S12x128x16x128 : Shape := ⟨4, ![12, 128, 16, 128]⟩
abbrev S1x128x16x1 : Shape := ⟨4, ![1, 128, 16, 1]⟩
abbrev S12x128x128 : Shape := ⟨3, ![12, 128, 128]⟩
abbrev S128x12x128 : Shape := ⟨3, ![128, 12, 128]⟩
abbrev S128x1536 : Shape := ⟨2, ![128, 1536]⟩

abbrev nBuf : Space → Nat
  | .hbm => 49
  | .vmem => 4
  | .smem => 0
  | _ => 0

abbrev bufTy : (tb : Table) → Fin (tcTables nBuf tb) → BufTy
  | .hbm, ⟨0, _⟩ => ⟨S128x5120, .bf16⟩
  | .hbm, ⟨1, _⟩ => ⟨S16, .i32⟩
  | .hbm, ⟨2, _⟩ => ⟨S16x1536x5120, .fp8e4m3⟩
  | .hbm, ⟨3, _⟩ => ⟨S16x12x40, .f32⟩
  | .hbm, ⟨4, _⟩ => ⟨S128x40x128, .bf16⟩
  | .hbm, ⟨5, _⟩ => ⟨S16x1536x5120, .bf16⟩
  | .hbm, ⟨6, _⟩ => ⟨S_, .i32⟩
  | .hbm, ⟨7, _⟩ => ⟨S_, .i32⟩
  | .hbm, ⟨8, _⟩ => ⟨S16, .i32⟩
  | .hbm, ⟨9, _⟩ => ⟨S128, .i32⟩
  | .hbm, ⟨10, _⟩ => ⟨S128x1, .i32⟩
  | .hbm, ⟨11, _⟩ => ⟨S1x16, .i32⟩
  | .hbm, ⟨12, _⟩ => ⟨S128x16, .i32⟩
  | .hbm, ⟨13, _⟩ => ⟨S128x16, .i32⟩
  | .hbm, ⟨14, _⟩ => ⟨S128x16, .i1⟩
  | .hbm, ⟨15, _⟩ => ⟨S128x16, .i32⟩
  | .hbm, ⟨16, _⟩ => ⟨S_, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i32⟩
  | .hbm, ⟨21, _⟩ => ⟨S128x1, .i32⟩
  | .hbm, ⟨22, _⟩ => ⟨S16, .i32⟩
  | .hbm, ⟨23, _⟩ => ⟨S1x16, .i32⟩
  | .hbm, ⟨24, _⟩ => ⟨S128x16, .i32⟩
  | .hbm, ⟨25, _⟩ => ⟨S128x16, .i32⟩
  | .hbm, ⟨26, _⟩ => ⟨S128x16, .i1⟩
  | .hbm, ⟨27, _⟩ => ⟨S128x1, .i32⟩
  | .hbm, ⟨28, _⟩ => ⟨S128x12x40, .f32⟩
  | .hbm, ⟨29, _⟩ => ⟨S128x12x40, .bf16⟩
  | .hbm, ⟨30, _⟩ => ⟨S128x1x40x128, .bf16⟩
  | .hbm, ⟨31, _⟩ => ⟨S128x12x40x1, .bf16⟩
  | .hbm, ⟨32, _⟩ => ⟨S128x12x40x128, .bf16⟩
  | .hbm, ⟨33, _⟩ => ⟨S128x12x40x128, .bf16⟩
  | .hbm, ⟨34, _⟩ => ⟨S128x12x40x128, .bf16⟩
  | .hbm, ⟨35, _⟩ => ⟨S128x12x5120, .bf16⟩
  | .hbm, ⟨36, _⟩ => ⟨S16x12x128x5120, .bf16⟩
  | .hbm, ⟨37, _⟩ => ⟨S12x128x16x128, .f32⟩
  | .hbm, ⟨38, _⟩ => ⟨S1x128x16x1, .i1⟩
  | .hbm, ⟨39, _⟩ => ⟨S_, .f32⟩
  | .hbm, ⟨40, _⟩ => ⟨S_, .f32⟩
  | .hbm, ⟨41, _⟩ => ⟨S12x128x16x128, .i1⟩
  | .hbm, ⟨42, _⟩ => ⟨S12x128x16x128, .f32⟩
  | .hbm, ⟨43, _⟩ => ⟨S12x128x16x128, .f32⟩
  | .hbm, ⟨44, _⟩ => ⟨S_, .f32⟩
  | .hbm, ⟨45, _⟩ => ⟨S12x128x128, .f32⟩
  | .hbm, ⟨46, _⟩ => ⟨S128x12x128, .f32⟩
  | .hbm, ⟨47, _⟩ => ⟨S128x1536, .f32⟩
  | .hbm, ⟨48, _⟩ => ⟨S128x1536, .bf16⟩
  | .local _ .vmem, ⟨0, _⟩ => ⟨S128x5120, .bf16⟩
  | .local _ .vmem, ⟨1, _⟩ => ⟨S16x1536x5120, .fp8e4m3⟩
  | .local _ .vmem, ⟨2, _⟩ => ⟨S128x40x128, .bf16⟩
  | .local _ .vmem, ⟨3, _⟩ => ⟨S16x1536x5120, .bf16⟩
  | _, _ => ⟨S128x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_call0_call0_c : Ref sig .tc := ⟨.hbm, 6, rfl⟩
abbrev main_call0_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call1_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_v29 : Ref sig .tc := ⟨.hbm, 43, rfl⟩
abbrev main_cst_1 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S128x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1536x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x40x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1536x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Scan.lean ====
/-
  The routing of the tokens to the experts, over the natural numbers: the running sums of the group sizes cut at the number
  of tokens (`cut`), and the list of the experts that have any token (`cnt` of them, `exs` in order).
-/
module

public import Mathlib.Data.Nat.Basic
public import Mathlib.Logic.Function.Basic
public import Mathlib.Tactic.FinCases

@[expose] public section

namespace Cert.Hand

/-- The row at which group `k` begins: the sum of the sizes before it, cut at 128 rows; the sixteenth group ends at row 128. -/
def cut (g : ℕ → ℕ) : ℕ → ℕ
  | 0 => 0
  | k + 1 => if k < 15 then min (cut g k + g k) 128 else 128

/-- How many of the first `k` groups have a row. -/
def cnt (g : ℕ → ℕ) : ℕ → ℕ
  | 0 => 0
  | k + 1 => cnt g k + if cut g k < cut g (k + 1) then 1 else 0

/-- The groups among the first `k` that have a row, in order, numbered from 0 (the entry at `cnt g k` is the last group met). -/
def exs (g : ℕ → ℕ) : ℕ → ℕ → ℕ
  | 0 => fun _ => 0
  | k + 1 => Function.update (exs g k) (cnt g k) k

variable (g : ℕ → ℕ)

theorem cut_le (k : ℕ) : cut g k ≤ 128 := by
  cases k with
  | zero => simp [cut]
  | succ k => simp only [cut]; split <;> omega

theorem cut_mono1 (k : ℕ) : cut g k ≤ cut g (k + 1) := by
  have := cut_le g k
  simp only [cut]; split <;> omega

theorem cut_mono {j k : ℕ} (h : j ≤ k) : cut g j ≤ cut g k := by
  induction k with
  | zero => rw [Nat.le_zero.1 h]
  | succ k ih =>
    rcases Nat.lt_or_ge j (k + 1) with h' | h'
    · exact (ih (by omega)).trans (cut_mono1 g k)
    · rw [show j = k + 1 by omega]

theorem cut_16 : cut g 16 = 128 := by simp [cut]

theorem cnt_le (k : ℕ) : cnt g k ≤ k := by
  induction k with
  | zero => simp [cnt]
  | succ k ih => simp only [cnt]; split <;> omega

/-- Each listed group lies among the first `k` and has a row. -/
theorem exs_spec (k j : ℕ) (h : j < cnt g k) : exs g k j < k ∧ cut g (exs g k j) < cut g (exs g k j + 1) := by
  induction k with
  | zero => simp [cnt] at h
  | succ k ih =>
    simp only [cnt] at h
    simp only [exs]
    by_cases hj : j = cnt g k
    · subst hj
      rw [Function.update_self]
      refine ⟨by omega, ?_⟩
      by_contra hc
      rw [if_neg hc] at h; omega
    · rw [Function.update_of_ne hj]
      have hj' : j < cnt g k := by split at h <;> omega
      obtain ⟨a, b⟩ := ih hj'
      exact ⟨by omega, b⟩

/-- Each group with a row is listed. -/
theorem exs_cover (k i : ℕ) (h : i < k) (hc : cut g i < cut g (i + 1)) : ∃ j < cnt g k, exs g k j = i := by
  induction k with
  | zero => omega
  | succ k ih =>
    simp only [cnt, exs]
    by_cases hi : i = k
    · subst hi
      exact ⟨cnt g i, by rw [if_pos hc]; omega, Function.update_self ..⟩
    · obtain ⟨j, hj, e⟩ := ih (by omega)
      exact ⟨j, by omega, by rw [Function.update_of_ne (by omega)]; exact e⟩

/-- The listing is in increasing order. -/
theorem exs_lt (k j j' : ℕ) (h : j < j') (h' : j' < cnt g k) : exs g k j < exs g k j' := by
  induction k with
  | zero => simp [cnt] at h'
  | succ k ih =>
    simp only [cnt] at h'
    simp only [exs]
    by_cases hj : j' = cnt g k
    · subst hj
      rw [Function.update_self, Function.update_of_ne (by omega)]
      exact (exs_spec g k j h).1
    · rw [Function.update_of_ne (by split at h' <;> omega), Function.update_of_ne hj]
      exact ih (by split at h' <;> omega)

/-- The number of groups that have a row. -/
abbrev num : ℕ := cnt g 16
/-- The `j`-th group that has a row. -/
abbrev ex (j : ℕ) : ℕ := exs g 16 j
/-- Its first row. -/
abbrev lo (j : ℕ) : ℕ := cut g (ex g j)
/-- The row after its last. -/
abbrev hi (j : ℕ) : ℕ := cut g (ex g j + 1)

theorem num_lt : num g < 17 := Nat.lt_succ_of_le (cnt_le g 16)
theorem ex_lt {j : ℕ} (h : j < num g) : ex g j < 16 := (exs_spec g 16 j h).1
theorem lo_lt_hi {j : ℕ} (h : j < num g) : lo g j < hi g j := (exs_spec g 16 j h).2
theorem hi_lt (j : ℕ) : hi g j < 129 := Nat.lt_succ_of_le (cut_le g _)
theorem lo_lt (j : ℕ) : lo g j < 129 := Nat.lt_succ_of_le (cut_le g _)

/-- Every row below 128 lies in one group's span. -/
theorem exists_span (t : ℕ) (ht : t < 128) : ∃ i < 16, cut g i ≤ t ∧ t < cut g (i + 1) := by
  have : ∀ k, t < cut g k → ∃ i < k, cut g i ≤ t ∧ t < cut g (i + 1) := by
    intro k
    induction k with
    | zero => intro h; simp [cut] at h
    | succ k ih =>
      intro h
      by_cases hk : t < cut g k
      · obtain ⟨i, hi, h1⟩ := ih hk
        exact ⟨i, by omega, h1⟩
      · exact ⟨k, by omega, by omega, h⟩
  exact this 16 (by rw [cut_16]; exact ht)

end Cert.Hand

end
-- ==== Proof.KWords.lean ====
/-
  The kernel's index arithmetic on 32-bit words, in closed form: the offsets of its slices, the trip counts of its loops,
  the conditions of its branches and the side conditions on its slices, for words that hold small natural numbers.
-/
module

public import proofs.«01_k».proof.Proof.Gen.Kernel.Skeleton

@[expose] public section

set_option maxRecDepth 16384

namespace Cert.Kernel.Hand

open Cert.Kernel Cert.Kernel.Gen
open Idealize.ShloMosaic

/-- The 32-bit word of a natural number. -/
abbrev wd (n : ℕ) : BitVec 32 := BitVec.ofNat 32 n

theorem vec2 {a b a' b' : ℕ} (h0 : a = a') (h1 : b = b') : ![a, b] = ![a', b'] := by rw [h0, h1]
theorem vec3 {a b c a' b' c' : ℕ} (h0 : a = a') (h1 : b = b') (h2 : c = c') : ![a, b, c] = ![a', b', c'] := by rw [h0, h1, h2]

theorem iv_wd (k : ℕ) : Scf.iv (0#32) (1#32) k = wd k := by unfold Scf.iv wd; simp
theorem wd_toNat {n : ℕ} (h : n < 2 ^ 32) : (wd n).toNat = n := by unfold wd; simpa using h

private theorem tab_iv17 : ∀ t : Fin 17, (Scf.iv (0#32) (1#32) t.val).toNat = t.val := by decide +kernel
private theorem tab_iv5 : ∀ t : Fin 17, (Scalar.addi (Scf.iv (0#32) (1#32) t.val) 5#32).toNat = t.val + 5 := by decide +kernel
private theorem tab_rem5 : ∀ t : Fin 17, (Scalar.remsi (Scf.iv (0#32) (1#32) t.val) 5#32).toNat = t.val % 5 := by decide +kernel
private theorem tab_rem55 : ∀ t : Fin 17, (Scalar.remsi (Scalar.addi (Scf.iv (0#32) (1#32) t.val) 5#32) 5#32).toNat = t.val % 5 := by decide +kernel
private theorem tab_m256 : ∀ t : Fin 6, (Scalar.muli (Scf.iv (0#32) (1#32) t.val) 256#32).toNat = 256 * t.val := by decide +kernel
private theorem tab_m128 : ∀ t : Fin 40, (Scalar.muli (Scf.iv (0#32) (1#32) t.val) 128#32).toNat = 128 * t.val := by decide +kernel
private theorem tab_m16 : ∀ t : Fin 8, (Scalar.muli (Scf.iv (0#32) (1#32) t.val) 16#32).toNat = 16 * t.val := by decide +kernel
private theorem tab_m256' : ∀ t : Fin 19, (Scalar.muli (Scf.iv (1#32) (1#32) t.val) 256#32).toNat = 256 * (t.val + 1) := by decide +kernel
private theorem tab_2 : ∀ t : Fin 6, ∀ r : Fin 2, (Scalar.addi (Scalar.muli 2#32 (Scf.iv (0#32) (1#32) t.val)) (wd r.val)).toNat = 2 * t.val + r.val := by decide +kernel
private theorem tab_2' : ∀ t : Fin 19, ∀ r : Fin 2, (Scalar.addi (Scalar.muli 2#32 (Scf.iv (1#32) (1#32) t.val)) (wd r.val)).toNat = 2 * (t.val + 1) + r.val := by decide +kernel
private theorem tab_128' : ∀ t : Fin 19, ∀ r : Fin 2, (Scalar.muli (Scalar.addi (Scalar.muli 2#32 (Scf.iv (1#32) (1#32) t.val)) (wd r.val)) 128#32).toNat = 128 * (2 * (t.val + 1) + r.val) := by decide +kernel

theorem iv17 {t : ℕ} (h : t < 17) : (Scf.iv (0#32) (1#32) t).toNat = t := tab_iv17 ⟨t, h⟩
theorem iv5 {t : ℕ} (h : t < 17) : (Scalar.addi (Scf.iv (0#32) (1#32) t) 5#32).toNat = t + 5 := tab_iv5 ⟨t, h⟩
theorem rem5 {t : ℕ} (h : t < 17) : (Scalar.remsi (Scf.iv (0#32) (1#32) t) 5#32).toNat = t % 5 := tab_rem5 ⟨t, h⟩
theorem rem55 {t : ℕ} (h : t < 17) : (Scalar.remsi (Scalar.addi (Scf.iv (0#32) (1#32) t) 5#32) 5#32).toNat = t % 5 := tab_rem55 ⟨t, h⟩

theorem t1_trips : k0_t1_loop.trips = 16 := by decide +kernel
theorem t2_trips : k0_t2_loop.trips = 5 := by decide +kernel
theorem t3_trips : k0_t3_loop.trips = 6 := by decide +kernel
theorem t4_trips : k0_t4_loop.trips = 8 := by decide +kernel
theorem t5_trips : k0_t5_loop.trips = 40 := by decide +kernel
theorem t15_trips : k0_t15_loop.trips = 6 := by decide +kernel
private theorem tab_t6 : ∀ n : Fin 17, (k0_t6_loop (wd n.val)).trips = n.val := by decide +kernel
theorem t6_trips {n : ℕ} (h : n < 17) : (k0_t6_loop (wd n)).trips = n := tab_t6 ⟨n, h⟩
private theorem tab_t16 : ∀ n : Fin 17, (k0_t16_loop (wd n.val)).trips = 0 := by decide +kernel
theorem t16_trips {n : ℕ} (h : n < 17) : (k0_t16_loop (wd n)).trips = 0 := tab_t16 ⟨n, h⟩

theorem off1_eq (t : Fin k0_t1_loop.trips) : k0_off1 t = ![t.val] := by
  have h : t.val < 17 := Nat.lt_trans (Nat.lt_of_lt_of_eq t.isLt t1_trips) (by omega)
  have := iv17 h
  show ![_] = ![_]
  exact congrArg (fun z => ![z]) this
theorem off2_eq {j : ℕ} (h : j < 17) : k0_off2 (wd j) = ![0, j] := vec2 rfl (wd_toNat (by omega))
theorem off3_eq {j : ℕ} (h : j < 17) : k0_off3 (wd j) = ![1, j] := vec2 rfl (wd_toNat (by omega))
theorem off4_eq {j : ℕ} (h : j < 17) : k0_off4 (wd j) = ![2, j] := vec2 rfl (wd_toNat (by omega))
theorem off5_eq (t : Fin k0_t2_loop.trips) : k0_off5 t = ![0, t.val] :=
  vec2 rfl (iv17 (Nat.lt_trans (Nat.lt_of_lt_of_eq t.isLt t2_trips) (by omega)))
theorem off6_eq (t : Fin k0_t2_loop.trips) (u : Fin k0_t3_loop.trips) : k0_off6 t u = ![t.val, u.val] := by
  have h1 := Nat.lt_of_lt_of_eq t.isLt t2_trips; have h2 := Nat.lt_of_lt_of_eq u.isLt t3_trips
  exact vec2 ((rem5 (by omega)).trans (Nat.mod_eq_of_lt h1)) (iv17 (by omega))
theorem off7_eq (t : Fin k0_t2_loop.trips) (u : Fin k0_t3_loop.trips) : k0_off7 t u = ![t.val, 256 * u.val, 0] := by
  have h1 := Nat.lt_of_lt_of_eq t.isLt t2_trips; have h2 := Nat.lt_of_lt_of_eq u.isLt t3_trips
  exact vec3 ((rem5 (by omega)).trans (Nat.mod_eq_of_lt h1)) (tab_m256 ⟨u.val, h2⟩) rfl
theorem off8_eq (u : Fin k0_t3_loop.trips) {e : ℕ} (he : e < 16) : k0_off8 u (wd e) = ![e, 256 * u.val, 0] :=
  vec3 (wd_toNat (by omega)) (tab_m256 ⟨u.val, Nat.lt_of_lt_of_eq u.isLt t3_trips⟩) rfl
theorem off9_eq (t : Fin k0_t4_loop.trips) (u : Fin k0_t5_loop.trips) : k0_off9 t u = ![16 * t.val, 128 * u.val] :=
  vec2 (tab_m16 ⟨t.val, Nat.lt_of_lt_of_eq t.isLt t4_trips⟩) (tab_m128 ⟨u.val, Nat.lt_of_lt_of_eq u.isLt t5_trips⟩)

section Trip
variable {v : BitVec 32} (t : Fin (k0_t6_loop v).trips) (ht : t.val < 17)
include ht
theorem off10_eq : k0_off10 v t = ![0, t.val] := vec2 rfl (iv17 ht)
theorem off11_eq : k0_off11 v t = ![1, t.val] := vec2 rfl (iv17 ht)
theorem off12_eq : k0_off12 v t = ![2, t.val] := vec2 rfl (iv17 ht)
theorem off65_eq : k0_off65 v t = ![0, t.val + 5] := vec2 rfl (iv5 ht)
theorem off66_eq (u : Fin k0_t15_loop.trips) : k0_off66 v t u = ![t.val % 5, u.val] :=
  vec2 (rem55 ht) (iv17 (Nat.lt_trans (Nat.lt_of_lt_of_eq u.isLt t15_trips) (by omega)))
theorem off67_eq (u : Fin k0_t15_loop.trips) : k0_off67 v t u = ![t.val % 5, 256 * u.val, 0] :=
  vec3 (rem55 ht) (tab_m256 ⟨u.val, Nat.lt_of_lt_of_eq u.isLt t15_trips⟩) rfl
end Trip
theorem off68_eq (u : Fin k0_t15_loop.trips) {e : ℕ} (he : e < 16) : k0_off68 u (wd e) = ![e, 256 * u.val, 0] :=
  vec3 (wd_toNat (by omega)) (tab_m256 ⟨u.val, Nat.lt_of_lt_of_eq u.isLt t15_trips⟩) rfl

private theorem tab_cond1 : ∀ n : Fin 17, ∀ t : Fin k0_t2_loop.trips, k0_cond1 (wd n.val) t = 1#1 ↔ t.val < n.val := by decide +kernel
theorem cond1_iff {n : ℕ} (h : n < 17) (t : Fin k0_t2_loop.trips) : k0_cond1 (wd n) t = 1#1 ↔ t.val < n := tab_cond1 ⟨n, h⟩ t
private theorem tab_cond6 : ∀ n : Fin 17, ∀ t : Fin (k0_t6_loop (wd n.val)).trips, k0_cond6 (wd n.val) t = 1#1 ↔ t.val + 5 < n.val := by decide +kernel
theorem cond6_iff {n : ℕ} (h : n < 17) (t : Fin (k0_t6_loop (wd n)).trips) : k0_cond6 (wd n) t = 1#1 ↔ t.val + 5 < n := tab_cond6 ⟨n, h⟩ t

/-- A slice of one weight chunk takes whole words of the array of experts. -/
theorem words_w {e u : ℕ} (he : e < 16) (hu : u < 6) : ∀ off : Fin 3 → ℕ, off = ![e, 256 * u, 0] →
    (∀ a, off a + S1x256x5120.size a ≤ S16x1536x5120.size a) ∧
    ∀ hinb : ∀ a, off a + S1x256x5120.size a ≤ S16x1536x5120.size a,
      (Rect.unit (s := S16x1536x5120) off S1x256x5120.size hinb).WholeWords (EltTy.packing .fp8e4m3) := by
  rintro _ rfl
  have tab : ∀ e : Fin 16, ∀ u : Fin 6, (∀ a, (![e.val, 256 * u.val, 0] : Fin 3 → ℕ) a + S1x256x5120.size a ≤ S16x1536x5120.size a) ∧
    ∀ hinb : ∀ a, (![e.val, 256 * u.val, 0] : Fin 3 → ℕ) a + S1x256x5120.size a ≤ S16x1536x5120.size a,
      (Rect.unit (s := S16x1536x5120) ![e.val, 256 * u.val, 0] S1x256x5120.size hinb).WholeWords (EltTy.packing .fp8e4m3) := by decide +kernel
  exact tab ⟨e, he⟩ ⟨u, hu⟩

/-- A slice of one chunk of the ring of weight buffers is in bounds and takes whole words. -/
theorem words_r {s u : ℕ} (hs : s < 5) (hu : u < 6) : ∀ off : Fin 3 → ℕ, off = ![s, 256 * u, 0] →
    (∀ a, off a + S1x256x5120.size a ≤ S5x1536x5120.size a) ∧
    ∀ hinb : ∀ a, off a + S1x256x5120.size a ≤ S5x1536x5120.size a,
      (Rect.unit (s := S5x1536x5120) off S1x256x5120.size hinb).WholeWords (EltTy.packing .fp8e4m3) := by
  rintro _ rfl
  have tab : ∀ e : Fin 5, ∀ u : Fin 6, (∀ a, (![e.val, 256 * u.val, 0] : Fin 3 → ℕ) a + S1x256x5120.size a ≤ S5x1536x5120.size a) ∧
    ∀ hinb : ∀ a, (![e.val, 256 * u.val, 0] : Fin 3 → ℕ) a + S1x256x5120.size a ≤ S5x1536x5120.size a,
      (Rect.unit (s := S5x1536x5120) ![e.val, 256 * u.val, 0] S1x256x5120.size hinb).WholeWords (EltTy.packing .fp8e4m3) := by decide +kernel
  exact tab ⟨s, hs⟩ ⟨u, hu⟩

theorem inb_r {s u d : ℕ} (hs : s < 5) (hu : u < 6) (hd : d < 20) : ∀ off : Fin 3 → ℕ, off = ![s, 256 * u, 256 * d] →
    ∀ a, off a + S1x256x256.size a ≤ S5x1536x5120.size a := by
  rintro _ rfl a; fin_cases a <;> simp <;> omega
theorem inb_sem {s u : ℕ} (hs : s < 5) (hu : u < 6) : ∀ off : Fin 2 → ℕ, off = ![s, u] → ∀ a, off a + S1x1.size a ≤ S5x6.size a := by
  rintro _ rfl a; fin_cases a <;> simp <;> omega
theorem inb_act {s u : ℕ} (hs : s < 3) (hu : u < 17) : ∀ off : Fin 2 → ℕ, off = ![s, u] → ∀ a, off a + S1x1.size a ≤ S3x17.size a := by
  rintro _ rfl a; fin_cases a <;> simp <;> omega
theorem inb_ws {e u d : ℕ} (hs : e < 16) (hu : u < 12) (hd : d < 40) : ∀ off : Fin 3 → ℕ, off = ![e, u, d] →
    ∀ a, off a + S1x1x1.size a ≤ S16x12x40.size a := by
  rintro _ rfl a; fin_cases a <;> simp <;> omega

theorem chk1_ok {j : ℕ} (h : j < 17) : k0_chk1 (wd j) :=
  ⟨inb_act (by omega) h _ (off2_eq h), inb_act (by omega) h _ (off3_eq h), inb_act (by omega) h _ (off4_eq h)⟩
theorem chk2_ok (v : BitVec 32) (t : Fin k0_t2_loop.trips) (u : Fin k0_t3_loop.trips) {e : ℕ} (he : e < 16) : k0_chk2 v t u (wd e) := by
  have hu : u.val < 6 := Nat.lt_of_lt_of_eq u.isLt t3_trips
  exact ⟨fun _ => (words_w he hu _ (off8_eq u he)).1, fun _ => (words_w he hu _ (off8_eq u he)).2⟩
theorem chk9_ok (v : BitVec 32) (t : Fin (k0_t6_loop v).trips) (u : Fin k0_t15_loop.trips) {e : ℕ} (he : e < 16) : k0_chk9 v t u (wd e) := by
  have hu : u.val < 6 := Nat.lt_of_lt_of_eq u.isLt t15_trips
  exact ⟨fun _ => (words_w he hu _ (off68_eq u he)).1, fun _ => (words_w he hu _ (off68_eq u he)).2⟩
private theorem tab_chk3 : ∀ n : Fin 17, k0_chk3 (wd n.val) := by
  intro n
  have h16 : (k0_t16_loop (wd n.val)).trips = 0 := t16_trips n.isLt
  have e16 : ∀ {p : Fin (k0_t16_loop (wd n.val)).trips → Prop}, ∀ t, p t := fun t => absurd t.isLt (by omega)
  have h6 : ∀ t : Fin (k0_t6_loop (wd n.val)).trips, t.val < n.val := fun t => Nat.lt_of_lt_of_eq t.isLt (t6_trips n.isLt)
  have hn := n.isLt
  unfold k0_chk3
  have ok6 : ∀ n : Fin 17, (k0_t6_loop (wd n.val)).OK := by decide +kernel
  have ok16 : ∀ n : Fin 17, (k0_t16_loop (wd n.val)).OK := by decide +kernel
  refine ⟨ok6 n, fun t => ?_, fun t => ?_, fun t => ?_, fun t h => ?_, fun t u h => ?_, fun t u h => ?_, fun t u h => ?_, ok16 n, ?_⟩
  · exact inb_act (by omega) (by have := h6 t; omega) _ (off10_eq t (by have := h6 t; omega))
  · exact inb_act (by omega) (by have := h6 t; omega) _ (off11_eq t (by have := h6 t; omega))
  · exact inb_act (by omega) (by have := h6 t; omega) _ (off12_eq t (by have := h6 t; omega))
  · exact inb_act (by omega) (by have := (cond6_iff n.isLt t).1 h; omega) _ (off65_eq t (by have := h6 t; omega))
  · exact inb_sem (Nat.mod_lt _ (by omega)) (Nat.lt_of_lt_of_eq u.isLt t15_trips) _ (off66_eq t (by have := h6 t; omega) u)
  · exact (words_r (Nat.mod_lt _ (by omega)) (Nat.lt_of_lt_of_eq u.isLt t15_trips) _ (off67_eq t (by have := h6 t; omega) u)).1
  · exact (words_r (Nat.mod_lt _ (by omega)) (Nat.lt_of_lt_of_eq u.isLt t15_trips) _ (off67_eq t (by have := h6 t; omega) u)).2
  · refine ⟨fun t => absurd t.isLt (by omega), fun t => absurd t.isLt (by omega), fun t => absurd t.isLt (by omega), fun t => absurd t.isLt (by omega), fun t => absurd t.isLt (by omega), fun t => absurd t.isLt (by omega), fun t => absurd t.isLt (by omega)⟩
theorem chk3_ok {n : ℕ} (h : n < 17) : k0_chk3 (wd n) := tab_chk3 ⟨n, h⟩

/-! ## The branch of 16 rows -/

/-- The first of the 16 rows that the branch reads and writes, for an expert whose rows begin at `lo`. -/
def row16 (lo : ℕ) : ℕ := min (16 * (lo / 16)) (128 - 16)
theorem row16_le (lo : ℕ) : row16 lo + 16 ≤ 128 := by unfold row16; omega
theorem t7_trips : k0_t7_loop.trips = 6 := by decide +kernel
theorem t8_trips : k0_t8_loop.trips = 19 := by decide +kernel
private theorem tab_row16 : ∀ lo : Fin 129, k0_off18 (wd lo.val) = ![row16 lo.val, 0] := by decide +kernel
theorem row16_eq {lo : ℕ} (h : lo < 129) : k0_off18 (wd lo) 0 = row16 lo := congrFun (tab_row16 ⟨lo, h⟩) 0
theorem off13_eq {v : BitVec 32} (t : Fin (k0_t6_loop v).trips) (ht : t.val < 17) : k0_off13 v t = ![0, t.val] := vec2 rfl (iv17 ht)
theorem off14_eq {v : BitVec 32} (t : Fin (k0_t6_loop v).trips) (ht : t.val < 17) (u : Fin k0_t7_loop.trips) :
    k0_off14 v t u = ![t.val % 5, u.val] := vec2 (rem5 ht) (iv17 (Nat.lt_trans (Nat.lt_of_lt_of_eq u.isLt t7_trips) (by omega)))
theorem off15_eq {v : BitVec 32} (t : Fin (k0_t6_loop v).trips) (ht : t.val < 17) (u : Fin k0_t7_loop.trips) :
    k0_off15 v t u = ![t.val % 5, 256 * u.val, 0] := vec3 (rem5 ht) (tab_m256 ⟨u.val, Nat.lt_of_lt_of_eq u.isLt t7_trips⟩) rfl
theorem off16_eq (u : Fin k0_t7_loop.trips) {e : ℕ} (he : e < 16) : k0_off16 u (wd e) = ![e, 256 * u.val, 0] :=
  vec3 (wd_toNat (by omega)) (tab_m256 ⟨u.val, Nat.lt_of_lt_of_eq u.isLt t7_trips⟩) rfl
theorem off17_eq {e : ℕ} (he : e < 16) (u : Fin k0_t7_loop.trips) (r : Fin 2) : k0_off17 (wd e) u (wd r.val) = ![e, 2 * u.val + r.val, 0] :=
  vec3 (wd_toNat (by omega)) (tab_2 ⟨u.val, Nat.lt_of_lt_of_eq u.isLt t7_trips⟩ r) rfl
theorem off18_eq {lo : ℕ} (h : lo < 129) : k0_off18 (wd lo) = ![row16 lo, 0] := tab_row16 ⟨lo, h⟩
theorem off19_eq {e : ℕ} (he : e < 16) (u : Fin k0_t7_loop.trips) (r : Fin 2) : k0_off19 (wd e) u (wd r.val) = ![e, 2 * u.val + r.val, 1] :=
  vec3 (wd_toNat (by omega)) (tab_2 ⟨u.val, Nat.lt_of_lt_of_eq u.isLt t7_trips⟩ r) rfl
theorem off20_eq {lo : ℕ} (h : lo < 129) : k0_off20 (wd lo) = ![row16 lo, 128] := vec2 (row16_eq h) rfl
theorem off21_eq {v : BitVec 32} (t : Fin (k0_t6_loop v).trips) (ht : t.val < 17) (u : Fin k0_t7_loop.trips) :
    k0_off21 v t u = ![t.val % 5, 256 * u.val, 0] := vec3 (rem5 ht) (tab_m256 ⟨u.val, Nat.lt_of_lt_of_eq u.isLt t7_trips⟩) rfl
theorem off22_eq {e : ℕ} (he : e < 16) (u : Fin k0_t7_loop.trips) (d : Fin k0_t8_loop.trips) (r r' : Fin 2) :
    k0_off22 (wd e) u d (wd r.val) (wd r'.val) = ![e, 2 * u.val + r.val, 2 * (d.val + 1) + r'.val] :=
  vec3 (wd_toNat (by omega)) (tab_2 ⟨u.val, Nat.lt_of_lt_of_eq u.isLt t7_trips⟩ r) (tab_2' ⟨d.val, Nat.lt_of_lt_of_eq d.isLt t8_trips⟩ r')
theorem off23_eq {lo : ℕ} (h : lo < 129) (d : Fin k0_t8_loop.trips) (r : Fin 2) :
    k0_off23 (wd lo) d (wd r.val) = ![row16 lo, 128 * (2 * (d.val + 1) + r.val)] :=
  vec2 (row16_eq h) (tab_128' ⟨d.val, Nat.lt_of_lt_of_eq d.isLt t8_trips⟩ r)
theorem off24_eq {v : BitVec 32} (t : Fin (k0_t6_loop v).trips) (ht : t.val < 17) (u : Fin k0_t7_loop.trips) (d : Fin k0_t8_loop.trips) :
    k0_off24 v t u d = ![t.val % 5, 256 * u.val, 256 * (d.val + 1)] :=
  vec3 (rem5 ht) (tab_m256 ⟨u.val, Nat.lt_of_lt_of_eq u.isLt t7_trips⟩) (tab_m256' ⟨d.val, Nat.lt_of_lt_of_eq d.isLt t8_trips⟩)
theorem off25_eq {lo : ℕ} (h : lo < 129) (u : Fin k0_t7_loop.trips) : k0_off25 (wd lo) u = ![row16 lo, 256 * u.val] :=
  vec2 (row16_eq h) (tab_m256 ⟨u.val, Nat.lt_of_lt_of_eq u.isLt t7_trips⟩)
theorem inb_x16 {lo d : ℕ} (hd : d < 40) : ∀ off : Fin 2 → ℕ, off = ![row16 lo, 128 * d] → ∀ a, off a + S16x128.size a ≤ S128x5120.size a := by
  have := row16_le lo
  rintro _ rfl a; fin_cases a <;> simp <;> omega
theorem inb_y16 {lo u : ℕ} (hu : u < 6) : ∀ off : Fin 2 → ℕ, off = ![row16 lo, 256 * u] → (∀ a, off a + S16x256.size a ≤ S128x1536.size a) ∧
    ∀ hinb : ∀ a, off a + S16x256.size a ≤ S128x1536.size a,
      (Rect.unit (s := S128x1536) off S16x256.size hinb).PackedRows (EltTy.packing .bf16) := by
  have := row16_le lo
  rintro _ rfl
  refine ⟨fun a => by fin_cases a <;> simp <;> omega, fun hinb => Or.inr ⟨by decide, rfl, Or.inl ⟨?_, by show 2 ∣ 16; decide⟩⟩⟩
  show 2 ∣ row16 lo
  unfold row16; omega
private theorem tab_mult16 : ∀ lo : Fin 129, 16 ∣ (k0_mult4 (wd lo.val)).toNat := by decide +kernel
theorem mult16_ok {lo : ℕ} (h : lo < 129) : 16 ∣ (k0_mult4 (wd lo)).toNat := tab_mult16 ⟨lo, h⟩
theorem chk5_ok (v14 v16 : BitVec 32) (u : Fin k0_t7_loop.trips) {e : ℕ} (he : e < 16) : k0_chk5 v14 v16 u (wd e) := by
  have hu : u.val < 6 := Nat.lt_of_lt_of_eq u.isLt t7_trips
  exact ⟨fun _ => (words_w he hu _ (off16_eq u he)).1, fun _ => (words_w he hu _ (off16_eq u he)).2⟩

/-! ## The branch of 32 rows -/

/-- The first of the 32 rows that the branch reads and writes, for an expert whose rows begin at `lo`. -/
def row32 (lo : ℕ) : ℕ := min (16 * (lo / 16)) (128 - 32)
theorem row32_le (lo : ℕ) : row32 lo + 32 ≤ 128 := by unfold row32; omega
theorem t9_trips : k0_t9_loop.trips = 6 := by decide +kernel
theorem t10_trips : k0_t10_loop.trips = 19 := by decide +kernel
private theorem tab_row32 : ∀ lo : Fin 129, k0_off31 (wd lo.val) = ![row32 lo.val, 0] := by decide +kernel
theorem row32_eq {lo : ℕ} (h : lo < 129) : k0_off31 (wd lo) 0 = row32 lo := congrFun (tab_row32 ⟨lo, h⟩) 0
theorem off26_eq {v : BitVec 32} (t : Fin (k0_t6_loop v).trips) (ht : t.val < 17) : k0_off26 v t = ![0, t.val] := vec2 rfl (iv17 ht)
theorem off27_eq {v : BitVec 32} (t : Fin (k0_t6_loop v).trips) (ht : t.val < 17) (u : Fin k0_t9_loop.trips) :
    k0_off27 v t u = ![t.val % 5, u.val] := vec2 (rem5 ht) (iv17 (Nat.lt_trans (Nat.lt_of_lt_of_eq u.isLt t9_trips) (by omega)))
theorem off28_eq {v : BitVec 32} (t : Fin (k0_t6_loop v).trips) (ht : t.val < 17) (u : Fin k0_t9_loop.trips) :
    k0_off28 v t u = ![t.val % 5, 256 * u.val, 0] := vec3 (rem5 ht) (tab_m256 ⟨u.val, Nat.lt_of_lt_of_eq u.isLt t9_trips⟩) rfl
theorem off29_eq (u : Fin k0_t9_loop.trips) {e : ℕ} (he : e < 16) : k0_off29 u (wd e) = ![e, 256 * u.val, 0] :=
  vec3 (wd_toNat (by omega)) (tab_m256 ⟨u.val, Nat.lt_of_lt_of_eq u.isLt t9_trips⟩) rfl
theorem off30_eq {e : ℕ} (he : e < 16) (u : Fin k0_t9_loop.trips) (r : Fin 2) : k0_off30 (wd e) u (wd r.val) = ![e, 2 * u.val + r.val, 0] :=
  vec3 (wd_toNat (by omega)) (tab_2 ⟨u.val, Nat.lt_of_lt_of_eq u.isLt t9_trips⟩ r) rfl
theorem off31_eq {lo : ℕ} (h : lo < 129) : k0_off31 (wd lo) = ![row32 lo, 0] := tab_row32 ⟨lo, h⟩
theorem off32_eq {e : ℕ} (he : e < 16) (u : Fin k0_t9_loop.trips) (r : Fin 2) : k0_off32 (wd e) u (wd r.val) = ![e, 2 * u.val + r.val, 1] :=
  vec3 (wd_toNat (by omega)) (tab_2 ⟨u.val, Nat.lt_of_lt_of_eq u.isLt t9_trips⟩ r) rfl
theorem off33_eq {lo : ℕ} (h : lo < 129) : k0_off33 (wd lo) = ![row32 lo, 128] := vec2 (row32_eq h) rfl
theorem off34_eq {v : BitVec 32} (t : Fin (k0_t6_loop v).trips) (ht : t.val < 17) (u : Fin k0_t9_loop.trips) :
    k0_off34 v t u = ![t.val % 5, 256 * u.val, 0] := vec3 (rem5 ht) (tab_m256 ⟨u.val, Nat.lt_of_lt_of_eq u.isLt t9_trips⟩) rfl
theorem off35_eq {e : ℕ} (he : e < 16) (u : Fin k0_t9_loop.trips) (d : Fin k0_t10_loop.trips) (r r' : Fin 2) :
    k0_off35 (wd e) u d (wd r.val) (wd r'.val) = ![e, 2 * u.val + r.val, 2 * (d.val + 1) + r'.val] :=
  vec3 (wd_toNat (by omega)) (tab_2 ⟨u.val, Nat.lt_of_lt_of_eq u.isLt t9_trips⟩ r) (tab_2' ⟨d.val, Nat.lt_of_lt_of_eq d.isLt t10_trips⟩ r')
theorem off36_eq {lo : ℕ} (h : lo < 129) (d : Fin k0_t10_loop.trips) (r : Fin 2) :
    k0_off36 (wd lo) d (wd r.val) = ![row32 lo, 128 * (2 * (d.val + 1) + r.val)] :=
  vec2 (row32_eq h) (tab_128' ⟨d.val, Nat.lt_of_lt_of_eq d.isLt t10_trips⟩ r)
theorem off37_eq {v : BitVec 32} (t : Fin (k0_t6_loop v).trips) (ht : t.val < 17) (u : Fin k0_t9_loop.trips) (d : Fin k0_t10_loop.trips) :
    k0_off37 v t u d = ![t.val % 5, 256 * u.val, 256 * (d.val + 1)] :=
  vec3 (rem5 ht) (tab_m256 ⟨u.val, Nat.lt_of_lt_of_eq u.isLt t9_trips⟩) (tab_m256' ⟨d.val, Nat.lt_of_lt_of_eq d.isLt t10_trips⟩)
theorem off38_eq {lo : ℕ} (h : lo < 129) (u : Fin k0_t9_loop.trips) : k0_off38 (wd lo) u = ![row32 lo, 256 * u.val] :=
  vec2 (row32_eq h) (tab_m256 ⟨u.val, Nat.lt_of_lt_of_eq u.isLt t9_trips⟩)
theorem inb_x32 {lo d : ℕ} (hd : d < 40) : ∀ off : Fin 2 → ℕ, off = ![row32 lo, 128 * d] → ∀ a, off a + S32x128.size a ≤ S128x5120.size a := by
  have := row32_le lo
  rintro _ rfl a; fin_cases a <;> simp <;> omega
theorem inb_y32 {lo u : ℕ} (hu : u < 6) : ∀ off : Fin 2 → ℕ, off = ![row32 lo, 256 * u] → (∀ a, off a + S32x256.size a ≤ S128x1536.size a) ∧
    ∀ hinb : ∀ a, off a + S32x256.size a ≤ S128x1536.size a,
      (Rect.unit (s := S128x1536) off S32x256.size hinb).PackedRows (EltTy.packing .bf16) := by
  have := row32_le lo
  rintro _ rfl
  refine ⟨fun a => by fin_cases a <;> simp <;> omega, fun hinb => Or.inr ⟨by decide, rfl, Or.inl ⟨?_, by show 2 ∣ 32; decide⟩⟩⟩
  show 2 ∣ row32 lo
  unfold row32; omega
private theorem tab_mult32 : ∀ lo : Fin 129, 16 ∣ (k0_mult17 (wd lo.val)).toNat := by decide +kernel
theorem mult32_ok {lo : ℕ} (h : lo < 129) : 16 ∣ (k0_mult17 (wd lo)).toNat := tab_mult32 ⟨lo, h⟩
theorem chk6_ok (v14 v16 : BitVec 32) (u : Fin k0_t9_loop.trips) {e : ℕ} (he : e < 16) : k0_chk6 v14 v16 u (wd e) := by
  have hu : u.val < 6 := Nat.lt_of_lt_of_eq u.isLt t9_trips
  exact ⟨fun _ => (words_w he hu _ (off29_eq u he)).1, fun _ => (words_w he hu _ (off29_eq u he)).2⟩

/-! ## The branch of 64 rows -/

/-- The first of the 64 rows that the branch reads and writes, for an expert whose rows begin at `lo`. -/
def row64 (lo : ℕ) : ℕ := min (16 * (lo / 16)) (128 - 64)
theorem row64_le (lo : ℕ) : row64 lo + 64 ≤ 128 := by unfold row64; omega
theorem t11_trips : k0_t11_loop.trips = 6 := by decide +kernel
theorem t12_trips : k0_t12_loop.trips = 19 := by decide +kernel
private theorem tab_row64 : ∀ lo : Fin 129, k0_off44 (wd lo.val) = ![row64 lo.val, 0] := by decide +kernel
theorem row64_eq {lo : ℕ} (h : lo < 129) : k0_off44 (wd lo) 0 = row64 lo := congrFun (tab_row64 ⟨lo, h⟩) 0
theorem off39_eq {v : BitVec 32} (t : Fin (k0_t6_loop v).trips) (ht : t.val < 17) : k0_off39 v t = ![0, t.val] := vec2 rfl (iv17 ht)
theorem off40_eq {v : BitVec 32} (t : Fin (k0_t6_loop v).trips) (ht : t.val < 17) (u : Fin k0_t11_loop.trips) :
    k0_off40 v t u = ![t.val % 5, u.val] := vec2 (rem5 ht) (iv17 (Nat.lt_trans (Nat.lt_of_lt_of_eq u.isLt t11_trips) (by omega)))
theorem off41_eq {v : BitVec 32} (t : Fin (k0_t6_loop v).trips) (ht : t.val < 17) (u : Fin k0_t11_loop.trips) :
    k0_off41 v t u = ![t.val % 5, 256 * u.val, 0] := vec3 (rem5 ht) (tab_m256 ⟨u.val, Nat.lt_of_lt_of_eq u.isLt t11_trips⟩) rfl
theorem off42_eq (u : Fin k0_t11_loop.trips) {e : ℕ} (he : e < 16) : k0_off42 u (wd e) = ![e, 256 * u.val, 0] :=
  vec3 (wd_toNat (by omega)) (tab_m256 ⟨u.val, Nat.lt_of_lt_of_eq u.isLt t11_trips⟩) rfl
theorem off43_eq {e : ℕ} (he : e < 16) (u : Fin k0_t11_loop.trips) (r : Fin 2) : k0_off43 (wd e) u (wd r.val) = ![e, 2 * u.val + r.val, 0] :=
  vec3 (wd_toNat (by omega)) (tab_2 ⟨u.val, Nat.lt_of_lt_of_eq u.isLt t11_trips⟩ r) rfl
theorem off44_eq {lo : ℕ} (h : lo < 129) : k0_off44 (wd lo) = ![row64 lo, 0] := tab_row64 ⟨lo, h⟩
theorem off45_eq {e : ℕ} (he : e < 16) (u : Fin k0_t11_loop.trips) (r : Fin 2) : k0_off45 (wd e) u (wd r.val) = ![e, 2 * u.val + r.val, 1] :=
  vec3 (wd_toNat (by omega)) (tab_2 ⟨u.val, Nat.lt_of_lt_of_eq u.isLt t11_trips⟩ r) rfl
theorem off46_eq {lo : ℕ} (h : lo < 129) : k0_off46 (wd lo) = ![row64 lo, 128] := vec2 (row64_eq h) rfl
theorem off47_eq {v : BitVec 32} (t : Fin (k0_t6_loop v).trips) (ht : t.val < 17) (u : Fin k0_t11_loop.trips) :
    k0_off47 v t u = ![t.val % 5, 256 * u.val, 0] := vec3 (rem5 ht) (tab_m256 ⟨u.val, Nat.lt_of_lt_of_eq u.isLt t11_trips⟩) rfl
theorem off48_eq {e : ℕ} (he : e < 16) (u : Fin k0_t11_loop.trips) (d : Fin k0_t12_loop.trips) (r r' : Fin 2) :
    k0_off48 (wd e) u d (wd r.val) (wd r'.val) = ![e, 2 * u.val + r.val, 2 * (d.val + 1) + r'.val] :=
  vec3 (wd_toNat (by omega)) (tab_2 ⟨u.val, Nat.lt_of_lt_of_eq u.isLt t11_trips⟩ r) (tab_2' ⟨d.val, Nat.lt_of_lt_of_eq d.isLt t12_trips⟩ r')
theorem off49_eq {lo : ℕ} (h : lo < 129) (d : Fin k0_t12_loop.trips) (r : Fin 2) :
    k0_off49 (wd lo) d (wd r.val) = ![row64 lo, 128 * (2 * (d.val + 1) + r.val)] :=
  vec2 (row64_eq h) (tab_128' ⟨d.val, Nat.lt_of_lt_of_eq d.isLt t12_trips⟩ r)
theorem off50_eq {v : BitVec 32} (t : Fin (k0_t6_loop v).trips) (ht : t.val < 17) (u : Fin k0_t11_loop.trips) (d : Fin k0_t12_loop.trips) :
    k0_off50 v t u d = ![t.val % 5, 256 * u.val, 256 * (d.val + 1)] :=
  vec3 (rem5 ht) (tab_m256 ⟨u.val, Nat.lt_of_lt_of_eq u.isLt t11_trips⟩) (tab_m256' ⟨d.val, Nat.lt_of_lt_of_eq d.isLt t12_trips⟩)
theorem off51_eq {lo : ℕ} (h : lo < 129) (u : Fin k0_t11_loop.trips) : k0_off51 (wd lo) u = ![row64 lo, 256 * u.val] :=
  vec2 (row64_eq h) (tab_m256 ⟨u.val, Nat.lt_of_lt_of_eq u.isLt t11_trips⟩)
theorem inb_x64 {lo d : ℕ} (hd : d < 40) : ∀ off : Fin 2 → ℕ, off = ![row64 lo, 128 * d] → ∀ a, off a + S64x128.size a ≤ S128x5120.size a := by
  have := row64_le lo
  rintro _ rfl a; fin_cases a <;> simp <;> omega
theorem inb_y64 {lo u : ℕ} (hu : u < 6) : ∀ off : Fin 2 → ℕ, off = ![row64 lo, 256 * u] → (∀ a, off a + S64x256.size a ≤ S128x1536.size a) ∧
    ∀ hinb : ∀ a, off a + S64x256.size a ≤ S128x1536.size a,
      (Rect.unit (s := S128x1536) off S64x256.size hinb).PackedRows (EltTy.packing .bf16) := by
  have := row64_le lo
  rintro _ rfl
  refine ⟨fun a => by fin_cases a <;> simp <;> omega, fun hinb => Or.inr ⟨by decide, rfl, Or.inl ⟨?_, by show 2 ∣ 64; decide⟩⟩⟩
  show 2 ∣ row64 lo
  unfold row64; omega
private theorem tab_mult64 : ∀ lo : Fin 129, 16 ∣ (k0_mult30 (wd lo.val)).toNat := by decide +kernel
theorem mult64_ok {lo : ℕ} (h : lo < 129) : 16 ∣ (k0_mult30 (wd lo)).toNat := tab_mult64 ⟨lo, h⟩
theorem chk7_ok (v14 v16 : BitVec 32) (u : Fin k0_t11_loop.trips) {e : ℕ} (he : e < 16) : k0_chk7 v14 v16 u (wd e) := by
  have hu : u.val < 6 := Nat.lt_of_lt_of_eq u.isLt t11_trips
  exact ⟨fun _ => (words_w he hu _ (off42_eq u he)).1, fun _ => (words_w he hu _ (off42_eq u he)).2⟩

/-! ## The branch of 128 rows -/

/-- The first of the 128 rows that the branch reads and writes, for an expert whose rows begin at `lo`. -/
def row128 (lo : ℕ) : ℕ := min (16 * (lo / 16)) (128 - 128)
theorem row128_le (lo : ℕ) : row128 lo + 128 ≤ 128 := by unfold row128; omega
theorem t13_trips : k0_t13_loop.trips = 6 := by decide +kernel
theorem t14_trips : k0_t14_loop.trips = 19 := by decide +kernel
private theorem tab_row128 : ∀ lo : Fin 129, k0_off57 (wd lo.val) = ![row128 lo.val, 0] := by decide +kernel
theorem row128_eq {lo : ℕ} (h : lo < 129) : k0_off57 (wd lo) 0 = row128 lo := congrFun (tab_row128 ⟨lo, h⟩) 0
theorem off52_eq {v : BitVec 32} (t : Fin (k0_t6_loop v).trips) (ht : t.val < 17) : k0_off52 v t = ![0, t.val] := vec2 rfl (iv17 ht)
theorem off53_eq {v : BitVec 32} (t : Fin (k0_t6_loop v).trips) (ht : t.val < 17) (u : Fin k0_t13_loop.trips) :
    k0_off53 v t u = ![t.val % 5, u.val] := vec2 (rem5 ht) (iv17 (Nat.lt_trans (Nat.lt_of_lt_of_eq u.isLt t13_trips) (by omega)))
theorem off54_eq {v : BitVec 32} (t : Fin (k0_t6_loop v).trips) (ht : t.val < 17) (u : Fin k0_t13_loop.trips) :
    k0_off54 v t u = ![t.val % 5, 256 * u.val, 0] := vec3 (rem5 ht) (tab_m256 ⟨u.val, Nat.lt_of_lt_of_eq u.isLt t13_trips⟩) rfl
theorem off55_eq (u : Fin k0_t13_loop.trips) {e : ℕ} (he : e < 16) : k0_off55 u (wd e) = ![e, 256 * u.val, 0] :=
  vec3 (wd_toNat (by omega)) (tab_m256 ⟨u.val, Nat.lt_of_lt_of_eq u.isLt t13_trips⟩) rfl
theorem off56_eq {e : ℕ} (he : e < 16) (u : Fin k0_t13_loop.trips) (r : Fin 2) : k0_off56 (wd e) u (wd r.val) = ![e, 2 * u.val + r.val, 0] :=
  vec3 (wd_toNat (by omega)) (tab_2 ⟨u.val, Nat.lt_of_lt_of_eq u.isLt t13_trips⟩ r) rfl
theorem off57_eq {lo : ℕ} (h : lo < 129) : k0_off57 (wd lo) = ![row128 lo, 0] := tab_row128 ⟨lo, h⟩
theorem off58_eq {e : ℕ} (he : e < 16) (u : Fin k0_t13_loop.trips) (r : Fin 2) : k0_off58 (wd e) u (wd r.val) = ![e, 2 * u.val + r.val, 1] :=
  vec3 (wd_toNat (by omega)) (tab_2 ⟨u.val, Nat.lt_of_lt_of_eq u.isLt t13_trips⟩ r) rfl
theorem off59_eq {lo : ℕ} (h : lo < 129) : k0_off59 (wd lo) = ![row128 lo, 128] := vec2 (row128_eq h) rfl
theorem off60_eq {v : BitVec 32} (t : Fin (k0_t6_loop v).trips) (ht : t.val < 17) (u : Fin k0_t13_loop.trips) :
    k0_off60 v t u = ![t.val % 5, 256 * u.val, 0] := vec3 (rem5 ht) (tab_m256 ⟨u.val, Nat.lt_of_lt_of_eq u.isLt t13_trips⟩) rfl
theorem off61_eq {e : ℕ} (he : e < 16) (u : Fin k0_t13_loop.trips) (d : Fin k0_t14_loop.trips) (r r' : Fin 2) :
    k0_off61 (wd e) u d (wd r.val) (wd r'.val) = ![e, 2 * u.val + r.val, 2 * (d.val + 1) + r'.val] :=
  vec3 (wd_toNat (by omega)) (tab_2 ⟨u.val, Nat.lt_of_lt_of_eq u.isLt t13_trips⟩ r) (tab_2' ⟨d.val, Nat.lt_of_lt_of_eq d.isLt t14_trips⟩ r')
theorem off62_eq {lo : ℕ} (h : lo < 129) (d : Fin k0_t14_loop.trips) (r : Fin 2) :
    k0_off62 (wd lo) d (wd r.val) = ![row128 lo, 128 * (2 * (d.val + 1) + r.val)] :=
  vec2 (row128_eq h) (tab_128' ⟨d.val, Nat.lt_of_lt_of_eq d.isLt t14_trips⟩ r)
theorem off63_eq {v : BitVec 32} (t : Fin (k0_t6_loop v).trips) (ht : t.val < 17) (u : Fin k0_t13_loop.trips) (d : Fin k0_t14_loop.trips) :
    k0_off63 v t u d = ![t.val % 5, 256 * u.val, 256 * (d.val + 1)] :=
  vec3 (rem5 ht) (tab_m256 ⟨u.val, Nat.lt_of_lt_of_eq u.isLt t13_trips⟩) (tab_m256' ⟨d.val, Nat.lt_of_lt_of_eq d.isLt t14_trips⟩)
theorem off64_eq {lo : ℕ} (h : lo < 129) (u : Fin k0_t13_loop.trips) : k0_off64 (wd lo) u = ![row128 lo, 256 * u.val] :=
  vec2 (row128_eq h) (tab_m256 ⟨u.val, Nat.lt_of_lt_of_eq u.isLt t13_trips⟩)
theorem inb_x128 {lo d : ℕ} (hd : d < 40) : ∀ off : Fin 2 → ℕ, off = ![row128 lo, 128 * d] → ∀ a, off a + S128x128.size a ≤ S128x5120.size a := by
  have := row128_le lo
  rintro _ rfl a; fin_cases a <;> simp <;> omega
theorem inb_y128 {lo u : ℕ} (hu : u < 6) : ∀ off : Fin 2 → ℕ, off = ![row128 lo, 256 * u] → (∀ a, off a + S128x256.size a ≤ S128x1536.size a) ∧
    ∀ hinb : ∀ a, off a + S128x256.size a ≤ S128x1536.size a,
      (Rect.unit (s := S128x1536) off S128x256.size hinb).PackedRows (EltTy.packing .bf16) := by
  have := row128_le lo
  rintro _ rfl
  refine ⟨fun a => by fin_cases a <;> simp <;> omega, fun hinb => Or.inr ⟨by decide, rfl, Or.inl ⟨?_, by show 2 ∣ 128; decide⟩⟩⟩
  show 2 ∣ row128 lo
  unfold row128; omega
private theorem tab_mult128 : ∀ lo : Fin 129, 16 ∣ (k0_mult43 (wd lo.val)).toNat := by decide +kernel
theorem mult128_ok {lo : ℕ} (h : lo < 129) : 16 ∣ (k0_mult43 (wd lo)).toNat := tab_mult128 ⟨lo, h⟩
theorem chk8_ok (v14 v16 : BitVec 32) (u : Fin k0_t13_loop.trips) {e : ℕ} (he : e < 16) : k0_chk8 v14 v16 u (wd e) := by
  have hu : u.val < 6 := Nat.lt_of_lt_of_eq u.isLt t13_trips
  exact ⟨fun _ => (words_w he hu _ (off55_eq u he)).1, fun _ => (words_w he hu _ (off55_eq u he)).2⟩

/-- Every side condition of one expert's slices. -/
theorem chk4_ok {v : BitVec 32} (t : Fin (k0_t6_loop v).trips) (ht : t.val < 17) {e lo : ℕ} (he : e < 16) (hlo : lo < 129) (v16 : BitVec 32) :
    k0_chk4 v t (wd e) (wd lo) v16 := by
  have hm := Nat.mod_lt t.val (show 5 > 0 by omega)
  have u7 : ∀ u : Fin k0_t7_loop.trips, u.val < 6 := fun u => Nat.lt_of_lt_of_eq u.isLt t7_trips
  have u8 : ∀ u : Fin k0_t8_loop.trips, u.val < 19 := fun u => Nat.lt_of_lt_of_eq u.isLt t8_trips
  have u9 : ∀ u : Fin k0_t9_loop.trips, u.val < 6 := fun u => Nat.lt_of_lt_of_eq u.isLt t9_trips
  have u10 : ∀ u : Fin k0_t10_loop.trips, u.val < 19 := fun u => Nat.lt_of_lt_of_eq u.isLt t10_trips
  have u11 : ∀ u : Fin k0_t11_loop.trips, u.val < 6 := fun u => Nat.lt_of_lt_of_eq u.isLt t11_trips
  have u12 : ∀ u : Fin k0_t12_loop.trips, u.val < 19 := fun u => Nat.lt_of_lt_of_eq u.isLt t12_trips
  have u13 : ∀ u : Fin k0_t13_loop.trips, u.val < 6 := fun u => Nat.lt_of_lt_of_eq u.isLt t13_trips
  have u14 : ∀ u : Fin k0_t14_loop.trips, u.val < 19 := fun u => Nat.lt_of_lt_of_eq u.isLt t14_trips
  exact ⟨⟨fun _ => mult16_ok hlo,
    fun _ => inb_act (by omega) ht _ (off13_eq t ht),
    fun u _ => inb_sem hm (u7 u) _ (off14_eq t ht u),
    fun u _ => (words_r hm (u7 u) _ (off15_eq t ht u)).1,
    fun u _ => (words_r hm (u7 u) _ (off15_eq t ht u)).2,
    fun u _ r => inb_ws he (by have := u7 u; omega) (by omega) _ (off17_eq he u r),
    fun _ => inb_x16 (d := 0) (by omega) _ (off18_eq hlo),
    fun u _ r => inb_ws he (by have := u7 u; omega) (by omega) _ (off19_eq he u r),
    fun _ => inb_x16 (d := 1) (by omega) _ (off20_eq hlo),
    fun u _ => inb_r (d := 0) hm (u7 u) (by omega) _ (off21_eq t ht u),
    fun u d _ r r' => inb_ws he (by have := u7 u; omega) (by have := u8 d; omega) _ (off22_eq he u d r r'),
    fun d _ r => inb_x16 (by have := u8 d; omega) _ (off23_eq hlo d r),
    fun u d _ => inb_r hm (u7 u) (by have := u8 d; omega) _ (off24_eq t ht u d),
    fun u _ => (inb_y16 (u7 u) _ (off25_eq hlo u)).1,
    fun u _ => (inb_y16 (u7 u) _ (off25_eq hlo u)).2,
    fun _ => mult32_ok hlo,
    fun _ => inb_act (by omega) ht _ (off26_eq t ht),
    fun u _ => inb_sem hm (u9 u) _ (off27_eq t ht u),
    fun u _ => (words_r hm (u9 u) _ (off28_eq t ht u)).1,
    fun u _ => (words_r hm (u9 u) _ (off28_eq t ht u)).2,
    fun u _ r => inb_ws he (by have := u9 u; omega) (by omega) _ (off30_eq he u r),
    fun _ => inb_x32 (d := 0) (by omega) _ (off31_eq hlo),
    fun u _ r => inb_ws he (by have := u9 u; omega) (by omega) _ (off32_eq he u r),
    fun _ => inb_x32 (d := 1) (by omega) _ (off33_eq hlo),
    fun u _ => inb_r (d := 0) hm (u9 u) (by omega) _ (off34_eq t ht u),
    fun u d _ r r' => inb_ws he (by have := u9 u; omega) (by have := u10 d; omega) _ (off35_eq he u d r r'),
    fun d _ r => inb_x32 (by have := u10 d; omega) _ (off36_eq hlo d r),
    fun u d _ => inb_r hm (u9 u) (by have := u10 d; omega) _ (off37_eq t ht u d),
    fun u _ => (inb_y32 (u9 u) _ (off38_eq hlo u)).1,
    fun u _ => (inb_y32 (u9 u) _ (off38_eq hlo u)).2,
    fun _ => mult64_ok hlo,
    fun _ => inb_act (by omega) ht _ (off39_eq t ht)⟩,
   ⟨fun u _ => inb_sem hm (u11 u) _ (off40_eq t ht u),
    fun u _ => (words_r hm (u11 u) _ (off41_eq t ht u)).1,
    fun u _ => (words_r hm (u11 u) _ (off41_eq t ht u)).2,
    fun u _ r => inb_ws he (by have := u11 u; omega) (by omega) _ (off43_eq he u r),
    fun _ => inb_x64 (d := 0) (by omega) _ (off44_eq hlo),
    fun u _ r => inb_ws he (by have := u11 u; omega) (by omega) _ (off45_eq he u r),
    fun _ => inb_x64 (d := 1) (by omega) _ (off46_eq hlo),
    fun u _ => inb_r (d := 0) hm (u11 u) (by omega) _ (off47_eq t ht u),
    fun u d _ r r' => inb_ws he (by have := u11 u; omega) (by have := u12 d; omega) _ (off48_eq he u d r r'),
    fun d _ r => inb_x64 (by have := u12 d; omega) _ (off49_eq hlo d r),
    fun u d _ => inb_r hm (u11 u) (by have := u12 d; omega) _ (off50_eq t ht u d),
    fun u _ => (inb_y64 (u11 u) _ (off51_eq hlo u)).1,
    fun u _ => (inb_y64 (u11 u) _ (off51_eq hlo u)).2,
    fun _ => mult128_ok hlo,
    fun _ => inb_act (by omega) ht _ (off52_eq t ht),
    fun u _ => inb_sem hm (u13 u) _ (off53_eq t ht u),
    fun u _ => (words_r hm (u13 u) _ (off54_eq t ht u)).1,
    fun u _ => (words_r hm (u13 u) _ (off54_eq t ht u)).2,
    fun u _ r => inb_ws he (by have := u13 u; omega) (by omega) _ (off56_eq he u r),
    fun _ => inb_x128 (d := 0) (by omega) _ (off57_eq hlo),
    fun u _ r => inb_ws he (by have := u13 u; omega) (by omega) _ (off58_eq he u r),
    fun _ => inb_x128 (d := 1) (by omega) _ (off59_eq hlo),
    fun u _ => inb_r (d := 0) hm (u13 u) (by omega) _ (off60_eq t ht u),
    fun u d _ r r' => inb_ws he (by have := u13 u; omega) (by have := u14 d; omega) _ (off61_eq he u d r r'),
    fun d _ r => inb_x128 (by have := u14 d; omega) _ (off62_eq hlo d r),
    fun u d _ => inb_r hm (u13 u) (by have := u14 d; omega) _ (off63_eq t ht u d),
    fun u _ => (inb_y128 (u13 u) _ (off64_eq hlo u)).1,
    fun u _ => (inb_y128 (u13 u) _ (off64_eq hlo u)).2⟩⟩

/-! ## The branch taken -/

/-- How many tiles of sixteen rows the rows from `lo` up to `hi` meet. -/
def tiles (lo hi : ℕ) : ℕ := (hi + 15) / 16 - lo / 16

/-- The sign of a word. -/
def sgn (v : BitVec 32) : BitVec 32 := Scalar.subi (Scalar.extui (Scalar.cmpi .sgt v 0#32)) (Scalar.extui (Scalar.cmpi .slt v 0#32))
/-- The quotient of a word by sixteen, rounded down. -/
def fl (v : BitVec 32) : BitVec 32 :=
  Scalar.select (Scalar.andi (Scalar.cmpi .ne (sgn v) (sgn 16#32)) (Scalar.cmpi .ne (Scalar.remsi v 16#32) 0#32))
    (Scalar.subi (Scalar.divsi v 16#32) 1#32) (Scalar.divsi v 16#32)
/-- The quotient of a word by sixteen, rounded up. -/
def cl (v : BitVec 32) : BitVec 32 := fl (Scalar.subi (Scalar.addi v 16#32) 1#32)
/-- Whether a difference lies above `a` and not above `b`. -/
def within (a b p q : BitVec 32) : BitVec 1 :=
  Scalar.cmpi .ne (Scalar.extui (Scalar.andi (Scalar.cmpi .sgt (Scalar.subi p q) a) (Scalar.cmpi .sle (Scalar.subi p q) b))) 0#32
private theorem tab_fl : ∀ lo : Fin 129, fl (wd lo.val) = wd (lo.val / 16) := by decide +kernel
private theorem tab_cl : ∀ lo : Fin 129, cl (wd lo.val) = wd ((lo.val + 15) / 16) := by decide +kernel
private theorem tab_within2 : ∀ p q : Fin 10, within 0#32 1#32 (wd p.val) (wd q.val) = 1#1 ↔ 0 < p.val - q.val ∧ p.val - q.val ≤ 1 ∨ (within 0#32 1#32 (wd p.val) (wd q.val) = 1#1 ∧ p.val < q.val) := by decide +kernel
theorem cond2_iff {lo hi : ℕ} (h : lo ≤ hi) (hh : hi < 129) : k0_cond2 (wd lo) (wd hi) = 1#1 ↔ 0 < tiles lo hi ∧ tiles lo hi ≤ 1 := by
  have e : k0_cond2 (wd lo) (wd hi) = within 0#32 1#32 (cl (wd hi)) (fl (wd lo)) := rfl
  rw [e, tab_fl ⟨lo, by omega⟩, tab_cl ⟨hi, hh⟩]
  refine (tab_within2 ⟨(hi + 15) / 16, by omega⟩ ⟨lo / 16, by omega⟩).trans ⟨fun h => ?_, fun h => Or.inl h⟩
  rcases h with h | ⟨_, h⟩
  · exact h
  · simp only at h; omega
private theorem tab_within3 : ∀ p q : Fin 10, within 1#32 2#32 (wd p.val) (wd q.val) = 1#1 ↔ 1 < p.val - q.val ∧ p.val - q.val ≤ 2 ∨ (within 1#32 2#32 (wd p.val) (wd q.val) = 1#1 ∧ p.val < q.val) := by decide +kernel
theorem cond3_iff {lo hi : ℕ} (h : lo ≤ hi) (hh : hi < 129) : k0_cond3 (wd lo) (wd hi) = 1#1 ↔ 1 < tiles lo hi ∧ tiles lo hi ≤ 2 := by
  have e : k0_cond3 (wd lo) (wd hi) = within 1#32 2#32 (cl (wd hi)) (fl (wd lo)) := rfl
  rw [e, tab_fl ⟨lo, by omega⟩, tab_cl ⟨hi, hh⟩]
  refine (tab_within3 ⟨(hi + 15) / 16, by omega⟩ ⟨lo / 16, by omega⟩).trans ⟨fun h => ?_, fun h => Or.inl h⟩
  rcases h with h | ⟨_, h⟩
  · exact h
  · simp only at h; omega
private theorem tab_within4 : ∀ p q : Fin 10, within 2#32 4#32 (wd p.val) (wd q.val) = 1#1 ↔ 2 < p.val - q.val ∧ p.val - q.val ≤ 4 ∨ (within 2#32 4#32 (wd p.val) (wd q.val) = 1#1 ∧ p.val < q.val) := by decide +kernel
theorem cond4_iff {lo hi : ℕ} (h : lo ≤ hi) (hh : hi < 129) : k0_cond4 (wd lo) (wd hi) = 1#1 ↔ 2 < tiles lo hi ∧ tiles lo hi ≤ 4 := by
  have e : k0_cond4 (wd lo) (wd hi) = within 2#32 4#32 (cl (wd hi)) (fl (wd lo)) := rfl
  rw [e, tab_fl ⟨lo, by omega⟩, tab_cl ⟨hi, hh⟩]
  refine (tab_within4 ⟨(hi + 15) / 16, by omega⟩ ⟨lo / 16, by omega⟩).trans ⟨fun h => ?_, fun h => Or.inl h⟩
  rcases h with h | ⟨_, h⟩
  · exact h
  · simp only at h; omega
private theorem tab_within5 : ∀ p q : Fin 10, within 4#32 8#32 (wd p.val) (wd q.val) = 1#1 ↔ 4 < p.val - q.val ∧ p.val - q.val ≤ 8 ∨ (within 4#32 8#32 (wd p.val) (wd q.val) = 1#1 ∧ p.val < q.val) := by decide +kernel
theorem cond5_iff {lo hi : ℕ} (h : lo ≤ hi) (hh : hi < 129) : k0_cond5 (wd lo) (wd hi) = 1#1 ↔ 4 < tiles lo hi ∧ tiles lo hi ≤ 8 := by
  have e : k0_cond5 (wd lo) (wd hi) = within 4#32 8#32 (cl (wd hi)) (fl (wd lo)) := rfl
  rw [e, tab_fl ⟨lo, by omega⟩, tab_cl ⟨hi, hh⟩]
  refine (tab_within5 ⟨(hi + 15) / 16, by omega⟩ ⟨lo / 16, by omega⟩).trans ⟨fun h => ?_, fun h => Or.inl h⟩
  rcases h with h | ⟨_, h⟩
  · exact h
  · simp only at h; omega

end Cert.Kernel.Hand

end
-- ==== Proof.KAccess.lean ====
/-
  Loads and stores of the kernel's buffers, each through a rectangle of unit strides at an offset vector, with what a load
  returns and what a store leaves written as total functions of the buffer and the offset (`rd`, `wr`).
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Value
public import Idealize.ShloMosaic.Lib.Transfers
public import proofs.«01_k».proof.Proof.Scan
public import proofs.«01_k».proof.Proof.KWords
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- What a rectangle of extents `size` at `off` reads off an array (coordinates past the end wrap, so that it is total). -/
def rd {S : Shape} {α : Type} (hS : ∀ a, 0 < S.size a) (size : Fin S.rank → ℕ) (f : S.Idx → α) (off : Fin S.rank → ℕ) :
    (⟨S.rank, size⟩ : Shape).Idx → α :=
  fun y => f (fun a => ⟨(off a + (y a).val) % S.size a, Nat.mod_lt _ (hS a)⟩)

/-- An array with the rectangle of extents `size` at `off` replaced by `w`. -/
def wr {S : Shape} {α : Type} (size : Fin S.rank → ℕ) (f : S.Idx → α) (off : Fin S.rank → ℕ) (w : (⟨S.rank, size⟩ : Shape).Idx → α) :
    S.Idx → α :=
  fun i => if h : ∀ a, off a ≤ (i a).val ∧ (i a).val < off a + size a then
    w (fun a => ⟨(i a).val - off a, by have := h a; show _ < size a; omega⟩) else f i

theorem rd_emb {S : Shape} {α : Type} (hS : ∀ a, 0 < S.size a) (size off : Fin S.rank → ℕ) (inb : ∀ a, off a + size a ≤ S.size a)
    (f : S.Idx → α) (y : (Rect.unit (s := S) off size inb).shape.Idx) :
    f ((Rect.unit (s := S) off size inb).emb y) = rd hS size f off y := by
  unfold rd
  congr 1
  funext a
  apply Fin.ext
  have h1 := inb a
  have h2 : (y a).val < size a := (y a).isLt
  show off a + 1 * (y a).val = (off a + (y a).val) % S.size a
  rw [Nat.mod_eq_of_lt (by omega)]; omega

/-- The element of an array at a coordinate vector (coordinates past the end wrap). -/
def el {S : Shape} {α : Type} (hS : ∀ a, 0 < S.size a) (f : S.Idx → α) (off : Fin S.rank → ℕ) : α :=
  f (fun a => ⟨off a % S.size a, Nat.mod_lt _ (hS a)⟩)

theorem el_wr_self {S : Shape} {α : Type} (hS : ∀ a, 0 < S.size a) (size : Fin S.rank → ℕ) (f : S.Idx → α) (off : Fin S.rank → ℕ) (v : α)
    (hin : ∀ a, off a < S.size a) (h1 : ∀ a, 0 < size a) : el hS (wr size f off (fun _ => v)) off = v := by
  unfold el wr
  rw [dif_pos]
  intro a
  have := h1 a
  show off a ≤ off a % S.size a ∧ off a % S.size a < off a + size a
  rw [Nat.mod_eq_of_lt (hin a)]; omega

theorem el_wr_ne {S : Shape} {α : Type} (hS : ∀ a, 0 < S.size a) (size : Fin S.rank → ℕ) (f : S.Idx → α) (off off' : Fin S.rank → ℕ) (w)
    (hin : ∀ a, off' a < S.size a) (h1 : ∃ a, off' a < off a ∨ off a + size a ≤ off' a) : el hS (wr size f off w) off' = el hS f off' := by
  unfold el wr
  rw [dif_neg]
  intro h
  obtain ⟨a, ha⟩ := h1
  have := h a
  simp only [Nat.mod_eq_of_lt (hin a)] at this
  omega

theorem pos_S128x1536 : ∀ a, 0 < S128x1536.size a := by decide
theorem pos_S128x5120 : ∀ a, 0 < S128x5120.size a := by decide
theorem pos_S5x1536x5120 : ∀ a, 0 < S5x1536x5120.size a := by decide
theorem pos_S16 : ∀ a, 0 < S16.size a := by decide
theorem pos_S16x12x40 : ∀ a, 0 < S16x12x40.size a := by decide
theorem pos_S3x17 : ∀ a, 0 < S3x17.size a := by decide
theorem pos_S16x1536x5120 : ∀ a, 0 < S16x1536x5120.size a := by decide

theorem upd_wr {S : Shape} {α : Type} (size off : Fin S.rank → ℕ) (inb : ∀ a, off a + size a ≤ S.size a) (f : S.Idx → α)
    (w : (⟨S.rank, size⟩ : Shape).Idx → α) : updateSlice (u := ⟨S.rank, size⟩) f w off ⟨rfl, inb⟩ = wr size f off w := by
  funext i
  by_cases h : ∀ a, off a ≤ (i a).val ∧ (i a).val < off a + size a
  · unfold wr; rw [dif_pos h]; unfold updateSlice; exact dif_pos h
  · unfold wr; rw [dif_neg h]; unfold updateSlice; exact dif_neg h

section Steps
variable (c : Dev nD)

/-- The end of a program. -/
theorem wp_end {α : Type} {Q : α → sProp 𝕄} (a : α) :
    Q a ⊢ wp frame (wpE (defs₀ (F := F)) Variants.none (c : Thread nD τ) none) Set.univ (pure a : Prog (TpuEff nD τ sig (Elt F) Λ₀ .tc) α) Q := by
  rw [wp_pure]; exact fupd_intro

/-- A checked fact that holds. -/
theorem wp_chk {P : Prop} {d : Decidable P} {Q : PLift P → sProp 𝕄} (h : P) :
    Q ⟨h⟩ ⊢ wp frame (wpE (defs₀ (F := F)) Variants.none (c : Thread nD τ) none) Set.univ (Prog.lift (TpuEff.assume P d)) Q := by
  refine .trans ?_ (Idealize.ShloMosaic.wp_assume (k := Prog.ret) (Q := Q) Variants.none (c : Thread nD τ) none Set.univ h)
  rw [wp_ret]; exact fupd_intro

/-- A load through a rectangle of `cc0_stg2_0`. -/
theorem wp_ld4 {size off : Fin S128x1536.rank → ℕ} {inb : ∀ a, off a + size a ≤ S128x1536.size a} {hl} {Q : ((⟨S128x1536.rank, size⟩ : Shape).Idx → Elt F .bf16) → sProp 𝕄}
    {q : PosShare TreeShare} {f : Buf (Elt F) ((c : Thread nD τ).loc cc0_stg2_0)} {I : Finset (Idx ((c : Thread nD τ).loc cc0_stg2_0))}
    (hI : ∀ i : S128x1536.Idx, (∀ a, off a ≤ (i a).val ∧ (i a).val < off a + size a) → i ∈ I) :
    ((c : Thread nD τ).loc cc0_stg2_0 ↦[I]{q} f)
      ⊢ iprop((((c : Thread nD τ).loc cc0_stg2_0 ↦[I]{q} f) -∗ Q (rd (S := S128x1536) pos_S128x1536 size f off))
        -∗ wp frame (wpE (defs₀ (F := F)) Variants.none (c : Thread nD τ) none) Set.univ
          (Prog.lift (TpuEff.load (Memref.whole cc0_stg2_0 : Memref sig .tc _ S128x1536 .bf16) (Rect.unit (s := S128x1536) off size inb).toLoadRect hl)) Q) := by
  have hS : ((Memref.whole cc0_stg2_0 : Memref sig .tc _ S128x1536 .bf16).access (Rect.unit (s := S128x1536) off size inb)).set ⊆ I := by
    intro i hi
    rw [show ((Memref.whole cc0_stg2_0 : Memref sig .tc _ S128x1536 .bf16).access (Rect.unit (s := S128x1536) off size inb)).set = (Rect.unit (s := S128x1536) off size inb).set from View.set_slice_whole _ _, Rect.mem_set_unit] at hi
    exact hI i hi
  refine (Idealize.ShloMosaic.wp_load_rect (r := Rect.unit (s := S128x1536) off size inb) (hl := hl) (k := Prog.ret) (Q := Q) Variants.none (c : Thread nD τ) none Set.univ hS).trans (wand_mono_left (wand_mono_right ?_))
  have e : ((Memref.whole cc0_stg2_0 : Memref sig .tc _ S128x1536 .bf16).access (Rect.unit (s := S128x1536) off size inb)).read (Elt F) f = rd (S := S128x1536) pos_S128x1536 size f off := funext fun y => rd_emb pos_S128x1536 size off inb f y
  rw [wp_ret]
  exact .trans (by rw [← e]) fupd_intro

/-- A load through a rectangle of `cc0_scratch0`. -/
theorem wp_ld5 {size off : Fin S128x5120.rank → ℕ} {inb : ∀ a, off a + size a ≤ S128x5120.size a} {hl} {Q : ((⟨S128x5120.rank, size⟩ : Shape).Idx → Elt F .bf16) → sProp 𝕄}
    {q : PosShare TreeShare} {f : Buf (Elt F) ((c : Thread nD τ).loc cc0_scratch0)} {I : Finset (Idx ((c : Thread nD τ).loc cc0_scratch0))}
    (hI : ∀ i : S128x5120.Idx, (∀ a, off a ≤ (i a).val ∧ (i a).val < off a + size a) → i ∈ I) :
    ((c : Thread nD τ).loc cc0_scratch0 ↦[I]{q} f)
      ⊢ iprop((((c : Thread nD τ).loc cc0_scratch0 ↦[I]{q} f) -∗ Q (rd (S := S128x5120) pos_S128x5120 size f off))
        -∗ wp frame (wpE (defs₀ (F := F)) Variants.none (c : Thread nD τ) none) Set.univ
          (Prog.lift (TpuEff.load (Memref.whole cc0_scratch0 : Memref sig .tc _ S128x5120 .bf16) (Rect.unit (s := S128x5120) off size inb).toLoadRect hl)) Q) := by
  have hS : ((Memref.whole cc0_scratch0 : Memref sig .tc _ S128x5120 .bf16).access (Rect.unit (s := S128x5120) off size inb)).set ⊆ I := by
    intro i hi
    rw [show ((Memref.whole cc0_scratch0 : Memref sig .tc _ S128x5120 .bf16).access (Rect.unit (s := S128x5120) off size inb)).set = (Rect.unit (s := S128x5120) off size inb).set from View.set_slice_whole _ _, Rect.mem_set_unit] at hi
    exact hI i hi
  refine (Idealize.ShloMosaic.wp_load_rect (r := Rect.unit (s := S128x5120) off size inb) (hl := hl) (k := Prog.ret) (Q := Q) Variants.none (c : Thread nD τ) none Set.univ hS).trans (wand_mono_left (wand_mono_right ?_))
  have e : ((Memref.whole cc0_scratch0 : Memref sig .tc _ S128x5120 .bf16).access (Rect.unit (s := S128x5120) off size inb)).read (Elt F) f = rd (S := S128x5120) pos_S128x5120 size f off := funext fun y => rd_emb pos_S128x5120 size off inb f y
  rw [wp_ret]
  exact .trans (by rw [← e]) fupd_intro

/-- A load through a rectangle of `cc0_scratch1`. -/
theorem wp_ld6 {size off : Fin S128x5120.rank → ℕ} {inb : ∀ a, off a + size a ≤ S128x5120.size a} {hl} {Q : ((⟨S128x5120.rank, size⟩ : Shape).Idx → Elt F .bf16) → sProp 𝕄}
    {q : PosShare TreeShare} {f : Buf (Elt F) ((c : Thread nD τ).loc cc0_scratch1)} {I : Finset (Idx ((c : Thread nD τ).loc cc0_scratch1))}
    (hI : ∀ i : S128x5120.Idx, (∀ a, off a ≤ (i a).val ∧ (i a).val < off a + size a) → i ∈ I) :
    ((c : Thread nD τ).loc cc0_scratch1 ↦[I]{q} f)
      ⊢ iprop((((c : Thread nD τ).loc cc0_scratch1 ↦[I]{q} f) -∗ Q (rd (S := S128x5120) pos_S128x5120 size f off))
        -∗ wp frame (wpE (defs₀ (F := F)) Variants.none (c : Thread nD τ) none) Set.univ
          (Prog.lift (TpuEff.load (Memref.whole cc0_scratch1 : Memref sig .tc _ S128x5120 .bf16) (Rect.unit (s := S128x5120) off size inb).toLoadRect hl)) Q) := by
  have hS : ((Memref.whole cc0_scratch1 : Memref sig .tc _ S128x5120 .bf16).access (Rect.unit (s := S128x5120) off size inb)).set ⊆ I := by
    intro i hi
    rw [show ((Memref.whole cc0_scratch1 : Memref sig .tc _ S128x5120 .bf16).access (Rect.unit (s := S128x5120) off size inb)).set = (Rect.unit (s := S128x5120) off size inb).set from View.set_slice_whole _ _, Rect.mem_set_unit] at hi
    exact hI i hi
  refine (Idealize.ShloMosaic.wp_load_rect (r := Rect.unit (s := S128x5120) off size inb) (hl := hl) (k := Prog.ret) (Q := Q) Variants.none (c : Thread nD τ) none Set.univ hS).trans (wand_mono_left (wand_mono_right ?_))
  have e : ((Memref.whole cc0_scratch1 : Memref sig .tc _ S128x5120 .bf16).access (Rect.unit (s := S128x5120) off size inb)).read (Elt F) f = rd (S := S128x5120) pos_S128x5120 size f off := funext fun y => rd_emb pos_S128x5120 size off inb f y
  rw [wp_ret]
  exact .trans (by rw [← e]) fupd_intro

/-- A load through a rectangle of `cc0_scratch2`. -/
theorem wp_ld7 {size off : Fin S5x1536x5120.rank → ℕ} {inb : ∀ a, off a + size a ≤ S5x1536x5120.size a} {hl} {Q : ((⟨S5x1536x5120.rank, size⟩ : Shape).Idx → Elt F .fp8e4m3) → sProp 𝕄}
    {q : PosShare TreeShare} {f : Buf (Elt F) ((c : Thread nD τ).loc cc0_scratch2)} {I : Finset (Idx ((c : Thread nD τ).loc cc0_scratch2))}
    (hI : ∀ i : S5x1536x5120.Idx, (∀ a, off a ≤ (i a).val ∧ (i a).val < off a + size a) → i ∈ I) :
    ((c : Thread nD τ).loc cc0_scratch2 ↦[I]{q} f)
      ⊢ iprop((((c : Thread nD τ).loc cc0_scratch2 ↦[I]{q} f) -∗ Q (rd (S := S5x1536x5120) pos_S5x1536x5120 size f off))
        -∗ wp frame (wpE (defs₀ (F := F)) Variants.none (c : Thread nD τ) none) Set.univ
          (Prog.lift (TpuEff.load (Memref.whole cc0_scratch2 : Memref sig .tc _ S5x1536x5120 .fp8e4m3) (Rect.unit (s := S5x1536x5120) off size inb).toLoadRect hl)) Q) := by
  have hS : ((Memref.whole cc0_scratch2 : Memref sig .tc _ S5x1536x5120 .fp8e4m3).access (Rect.unit (s := S5x1536x5120) off size inb)).set ⊆ I := by
    intro i hi
    rw [show ((Memref.whole cc0_scratch2 : Memref sig .tc _ S5x1536x5120 .fp8e4m3).access (Rect.unit (s := S5x1536x5120) off size inb)).set = (Rect.unit (s := S5x1536x5120) off size inb).set from View.set_slice_whole _ _, Rect.mem_set_unit] at hi
    exact hI i hi
  refine (Idealize.ShloMosaic.wp_load_rect (r := Rect.unit (s := S5x1536x5120) off size inb) (hl := hl) (k := Prog.ret) (Q := Q) Variants.none (c : Thread nD τ) none Set.univ hS).trans (wand_mono_left (wand_mono_right ?_))
  have e : ((Memref.whole cc0_scratch2 : Memref sig .tc _ S5x1536x5120 .fp8e4m3).access (Rect.unit (s := S5x1536x5120) off size inb)).read (Elt F) f = rd (S := S5x1536x5120) pos_S5x1536x5120 size f off := funext fun y => rd_emb pos_S5x1536x5120 size off inb f y
  rw [wp_ret]
  exact .trans (by rw [← e]) fupd_intro

/-- A load of one word of `cc0_stg0_0`. -/
theorem wp_sm0 {size off : Fin S16.rank → ℕ} {inb : ∀ a, off a + size a ≤ S16.size a} {h1 hp} {Q : Elt F .i32 → sProp 𝕄}
    {q : PosShare TreeShare} {f : Buf (Elt F) ((c : Thread nD τ).loc cc0_stg0_0)} (hs : ∀ a, size a = 1) :
    ((c : Thread nD τ).loc cc0_stg0_0 ↦{q} f)
      ⊢ iprop((((c : Thread nD τ).loc cc0_stg0_0 ↦{q} f) -∗ Q (el (S := S16) pos_S16 f off))
        -∗ wp frame (wpE (defs₀ (F := F)) Variants.none (c : Thread nD τ) none) Set.univ
          (smemLoad (Memref.whole cc0_stg0_0 : Memref sig .tc _ S16 .i32) (Rect.unit (s := S16) off size inb) h1 hp) Q) := by
  have hz : ∀ (x : (Rect.unit (s := S16) off size inb).shape.Idx), ∀ a, (x a).val = 0 := by
    intro x a
    have h2 : (x a).val < size a := Fin.isLt (x a)
    rw [hs a] at h2
    exact Nat.lt_one_iff.1 h2
  have e : ∀ y : (Rect.unit (s := S16) off size inb).shape.Idx, (∀ a, (y a).val = 0) → ((Memref.whole cc0_stg0_0 : Memref sig .tc _ S16 .i32).access (Rect.unit (s := S16) off size inb)).read (Elt F) f y = el (S := S16) pos_S16 f off := by
    intro y hy
    refine (rd_emb pos_S16 size off inb f y).trans ?_
    unfold rd el
    congr 1; funext a; apply Fin.ext
    show (off a + (y a).val) % _ = _
    rw [hy a, Nat.add_zero]
  have key : ∀ (hw : ((Memref.whole cc0_stg0_0 : Memref sig .tc _ S16 .i32).access (Rect.unit (s := S16) off size inb)).Loads) (x : (Rect.unit (s := S16) off size inb).shape.Idx), ((c : Thread nD τ).loc cc0_stg0_0 ↦{q} f)
      ⊢ iprop((((c : Thread nD τ).loc cc0_stg0_0 ↦{q} f) -∗ Q (el (S := S16) pos_S16 f off))
        -∗ wp frame (wpE (defs₀ (F := F)) Variants.none (c : Thread nD τ) none) Set.univ
          (smemLoadElt (Memref.whole cc0_stg0_0 : Memref sig .tc _ S16 .i32) (Rect.unit (s := S16) off size inb) hw x .ret) Q) := fun hw x => by
    refine (Idealize.ShloMosaic.wp_smemLoadElt (r := Rect.unit (s := S16) off size inb) (hw := hw) (x := x) (k := Prog.ret) (Q := Q) Variants.none (c : Thread nD τ) none Set.univ (Finset.subset_univ _)).trans (wand_mono_left (wand_mono_right ?_))
    rw [wp_ret]
    exact .trans (.of_eq (congrArg Q (e _ (hz x)).symm)) fupd_intro
  exact key _ _

/-- A load of one word of `cc0_stg1_0`. -/
theorem wp_sm1 {size off : Fin S16x12x40.rank → ℕ} {inb : ∀ a, off a + size a ≤ S16x12x40.size a} {h1 hp} {Q : Elt F .f32 → sProp 𝕄}
    {q : PosShare TreeShare} {f : Buf (Elt F) ((c : Thread nD τ).loc cc0_stg1_0)} (hs : ∀ a, size a = 1) :
    ((c : Thread nD τ).loc cc0_stg1_0 ↦{q} f)
      ⊢ iprop((((c : Thread nD τ).loc cc0_stg1_0 ↦{q} f) -∗ Q (el (S := S16x12x40) pos_S16x12x40 f off))
        -∗ wp frame (wpE (defs₀ (F := F)) Variants.none (c : Thread nD τ) none) Set.univ
          (smemLoad (Memref.whole cc0_stg1_0 : Memref sig .tc _ S16x12x40 .f32) (Rect.unit (s := S16x12x40) off size inb) h1 hp) Q) := by
  have hz : ∀ (x : (Rect.unit (s := S16x12x40) off size inb).shape.Idx), ∀ a, (x a).val = 0 := by
    intro x a
    have h2 : (x a).val < size a := Fin.isLt (x a)
    rw [hs a] at h2
    exact Nat.lt_one_iff.1 h2
  have e : ∀ y : (Rect.unit (s := S16x12x40) off size inb).shape.Idx, (∀ a, (y a).val = 0) → ((Memref.whole cc0_stg1_0 : Memref sig .tc _ S16x12x40 .f32).access (Rect.unit (s := S16x12x40) off size inb)).read (Elt F) f y = el (S := S16x12x40) pos_S16x12x40 f off := by
    intro y hy
    refine (rd_emb pos_S16x12x40 size off inb f y).trans ?_
    unfold rd el
    congr 1; funext a; apply Fin.ext
    show (off a + (y a).val) % _ = _
    rw [hy a, Nat.add_zero]
  have key : ∀ (hw : ((Memref.whole cc0_stg1_0 : Memref sig .tc _ S16x12x40 .f32).access (Rect.unit (s := S16x12x40) off size inb)).Loads) (x : (Rect.unit (s := S16x12x40) off size inb).shape.Idx), ((c : Thread nD τ).loc cc0_stg1_0 ↦{q} f)
      ⊢ iprop((((c : Thread nD τ).loc cc0_stg1_0 ↦{q} f) -∗ Q (el (S := S16x12x40) pos_S16x12x40 f off))
        -∗ wp frame (wpE (defs₀ (F := F)) Variants.none (c : Thread nD τ) none) Set.univ
          (smemLoadElt (Memref.whole cc0_stg1_0 : Memref sig .tc _ S16x12x40 .f32) (Rect.unit (s := S16x12x40) off size inb) hw x .ret) Q) := fun hw x => by
    refine (Idealize.ShloMosaic.wp_smemLoadElt (r := Rect.unit (s := S16x12x40) off size inb) (hw := hw) (x := x) (k := Prog.ret) (Q := Q) Variants.none (c : Thread nD τ) none Set.univ (Finset.subset_univ _)).trans (wand_mono_left (wand_mono_right ?_))
    rw [wp_ret]
    exact .trans (.of_eq (congrArg Q (e _ (hz x)).symm)) fupd_intro
  exact key _ _

/-- A load of one word of `cc0_scratch3`. -/
theorem wp_sm8 {size off : Fin S3x17.rank → ℕ} {inb : ∀ a, off a + size a ≤ S3x17.size a} {h1 hp} {Q : Elt F .i32 → sProp 𝕄}
    {q : PosShare TreeShare} {f : Buf (Elt F) ((c : Thread nD τ).loc cc0_scratch3)} (hs : ∀ a, size a = 1) :
    ((c : Thread nD τ).loc cc0_scratch3 ↦{q} f)
      ⊢ iprop((((c : Thread nD τ).loc cc0_scratch3 ↦{q} f) -∗ Q (el (S := S3x17) pos_S3x17 f off))
        -∗ wp frame (wpE (defs₀ (F := F)) Variants.none (c : Thread nD τ) none) Set.univ
          (smemLoad (Memref.whole cc0_scratch3 : Memref sig .tc _ S3x17 .i32) (Rect.unit (s := S3x17) off size inb) h1 hp) Q) := by
  have hz : ∀ (x : (Rect.unit (s := S3x17) off size inb).shape.Idx), ∀ a, (x a).val = 0 := by
    intro x a
    have h2 : (x a).val < size a := Fin.isLt (x a)
    rw [hs a] at h2
    exact Nat.lt_one_iff.1 h2
  have e : ∀ y : (Rect.unit (s := S3x17) off size inb).shape.Idx, (∀ a, (y a).val = 0) → ((Memref.whole cc0_scratch3 : Memref sig .tc _ S3x17 .i32).access (Rect.unit (s := S3x17) off size inb)).read (Elt F) f y = el (S := S3x17) pos_S3x17 f off := by
    intro y hy
    refine (rd_emb pos_S3x17 size off inb f y).trans ?_
    unfold rd el
    congr 1; funext a; apply Fin.ext
    show (off a + (y a).val) % _ = _
    rw [hy a, Nat.add_zero]
  have key : ∀ (hw : ((Memref.whole cc0_scratch3 : Memref sig .tc _ S3x17 .i32).access (Rect.unit (s := S3x17) off size inb)).Loads) (x : (Rect.unit (s := S3x17) off size inb).shape.Idx), ((c : Thread nD τ).loc cc0_scratch3 ↦{q} f)
      ⊢ iprop((((c : Thread nD τ).loc cc0_scratch3 ↦{q} f) -∗ Q (el (S := S3x17) pos_S3x17 f off))
        -∗ wp frame (wpE (defs₀ (F := F)) Variants.none (c : Thread nD τ) none) Set.univ
          (smemLoadElt (Memref.whole cc0_scratch3 : Memref sig .tc _ S3x17 .i32) (Rect.unit (s := S3x17) off size inb) hw x .ret) Q) := fun hw x => by
    refine (Idealize.ShloMosaic.wp_smemLoadElt (r := Rect.unit (s := S3x17) off size inb) (hw := hw) (x := x) (k := Prog.ret) (Q := Q) Variants.none (c : Thread nD τ) none Set.univ (Finset.subset_univ _)).trans (wand_mono_left (wand_mono_right ?_))
    rw [wp_ret]
    exact .trans (.of_eq (congrArg Q (e _ (hz x)).symm)) fupd_intro
  exact key _ _

/-- A store through a rectangle of `cc0_stg2_0`. -/
theorem wp_st4 {size off : Fin S128x1536.rank → ℕ} {inb : ∀ a, off a + size a ≤ S128x1536.size a} {w : (⟨S128x1536.rank, size⟩ : Shape).Idx → Elt F .bf16} {hx hm} {Q : Unit → sProp 𝕄}
    {f : Buf (Elt F) ((c : Thread nD τ).loc cc0_stg2_0)} :
    ((c : Thread nD τ).loc cc0_stg2_0 ↦{fullShare} f)
      ⊢ iprop((((c : Thread nD τ).loc cc0_stg2_0 ↦{fullShare} (wr (S := S128x1536) size f off w : S128x1536.Idx → Elt F .bf16)) -∗ Q ⟨⟩)
        -∗ wp frame (wpE (defs₀ (F := F)) Variants.none (c : Thread nD τ) none) Set.univ
          (Prog.lift (TpuEff.store (Memref.whole cc0_stg2_0 : Memref sig .tc _ S128x1536 .bf16) (Rect.unit (s := S128x1536) off size inb) w Finset.univ hx hm)) Q) := by
  refine (Idealize.ShloMosaic.wp_store (r := Rect.unit (s := S128x1536) off size inb) (w := w) (Mk := Finset.univ) (hx := hx) (hm := hm) (k := Prog.ret) (Q := Q) Variants.none (c : Thread nD τ) none Set.univ (Finset.subset_univ _)).trans (wand_mono_left ?_)
  have e : ((Memref.whole cc0_stg2_0 : Memref sig .tc _ S128x1536 .bf16).access (Rect.unit (s := S128x1536) off size inb)).write (Elt F) f w Finset.univ = (wr (S := S128x1536) size f off w : S128x1536.Idx → Elt F .bf16) :=
    (View.write_whole_slice_unit cc0_stg2_0 off size inb f w).trans (upd_wr size off inb f w)
  rw [wp_ret]
  exact wand_mono (by rw [← e]) fupd_intro

/-- A store through a rectangle of `cc0_scratch1`. -/
theorem wp_st6 {size off : Fin S128x5120.rank → ℕ} {inb : ∀ a, off a + size a ≤ S128x5120.size a} {w : (⟨S128x5120.rank, size⟩ : Shape).Idx → Elt F .bf16} {hx hm} {Q : Unit → sProp 𝕄}
    {f : Buf (Elt F) ((c : Thread nD τ).loc cc0_scratch1)} :
    ((c : Thread nD τ).loc cc0_scratch1 ↦{fullShare} f)
      ⊢ iprop((((c : Thread nD τ).loc cc0_scratch1 ↦{fullShare} (wr (S := S128x5120) size f off w : S128x5120.Idx → Elt F .bf16)) -∗ Q ⟨⟩)
        -∗ wp frame (wpE (defs₀ (F := F)) Variants.none (c : Thread nD τ) none) Set.univ
          (Prog.lift (TpuEff.store (Memref.whole cc0_scratch1 : Memref sig .tc _ S128x5120 .bf16) (Rect.unit (s := S128x5120) off size inb) w Finset.univ hx hm)) Q) := by
  refine (Idealize.ShloMosaic.wp_store (r := Rect.unit (s := S128x5120) off size inb) (w := w) (Mk := Finset.univ) (hx := hx) (hm := hm) (k := Prog.ret) (Q := Q) Variants.none (c : Thread nD τ) none Set.univ (Finset.subset_univ _)).trans (wand_mono_left ?_)
  have e : ((Memref.whole cc0_scratch1 : Memref sig .tc _ S128x5120 .bf16).access (Rect.unit (s := S128x5120) off size inb)).write (Elt F) f w Finset.univ = (wr (S := S128x5120) size f off w : S128x5120.Idx → Elt F .bf16) :=
    (View.write_whole_slice_unit cc0_scratch1 off size inb f w).trans (upd_wr size off inb f w)
  rw [wp_ret]
  exact wand_mono (by rw [← e]) fupd_intro

/-- A store through a rectangle of `cc0_scratch3`. -/
theorem wp_st8 {size off : Fin S3x17.rank → ℕ} {inb : ∀ a, off a + size a ≤ S3x17.size a} {w : (⟨S3x17.rank, size⟩ : Shape).Idx → Elt F .i32} {hx hm} {Q : Unit → sProp 𝕄}
    {f : Buf (Elt F) ((c : Thread nD τ).loc cc0_scratch3)} :
    ((c : Thread nD τ).loc cc0_scratch3 ↦{fullShare} f)
      ⊢ iprop((((c : Thread nD τ).loc cc0_scratch3 ↦{fullShare} (wr (S := S3x17) size f off w : S3x17.Idx → Elt F .i32)) -∗ Q ⟨⟩)
        -∗ wp frame (wpE (defs₀ (F := F)) Variants.none (c : Thread nD τ) none) Set.univ
          (Prog.lift (TpuEff.store (Memref.whole cc0_scratch3 : Memref sig .tc _ S3x17 .i32) (Rect.unit (s := S3x17) off size inb) w Finset.univ hx hm)) Q) := by
  refine (Idealize.ShloMosaic.wp_store (r := Rect.unit (s := S3x17) off size inb) (w := w) (Mk := Finset.univ) (hx := hx) (hm := hm) (k := Prog.ret) (Q := Q) Variants.none (c : Thread nD τ) none Set.univ (Finset.subset_univ _)).trans (wand_mono_left ?_)
  have e : ((Memref.whole cc0_scratch3 : Memref sig .tc _ S3x17 .i32).access (Rect.unit (s := S3x17) off size inb)).write (Elt F) f w Finset.univ = (wr (S := S3x17) size f off w : S3x17.Idx → Elt F .i32) :=
    (View.write_whole_slice_unit cc0_scratch3 off size inb f w).trans (upd_wr size off inb f w)
  rw [wp_ret]
  exact wand_mono (by rw [← e]) fupd_intro

/-- A counted loop, by an invariant over the trips done. -/
theorem wp_loop {σ : Type} (L : Scf.Loop 32) (hok : L.OK) (init : σ) (body : Fin L.trips → σ → Prog (TpuEff nD τ sig (Elt F) Λ₀ .tc) σ) (n : ℕ) (hn : L.trips = n)
    (I : ℕ → σ → sProp 𝕄)
    (hbody : ∀ (k : Fin L.trips) (acc : σ), k.val < n → (I k.val acc ⊢ wp frame (wpE (defs₀ (F := F)) Variants.none (c : Thread nD τ) none) Set.univ (body k acc) (I (k.val + 1))))
    {Q : σ → sProp 𝕄} :
    I 0 init ⊢ iprop((∀ acc, I n acc -∗ Q acc) -∗
      wp frame (wpE (defs₀ (F := F)) Variants.none (c : Thread nD τ) none) Set.univ (Scf.Loop.for L hok init body) Q) := by
  subst hn
  iintro H HQ
  iapply Scf.wp_for _ _ _ _ _ _ hok init body I (fun k acc => hbody k acc k.isLt)
  isplitl [H]
  · iexact H
  · iexact HQ

end Steps

end Cert.Kernel.Hand

end
-- ==== Proof.KRing.lean ====
/-
  The ring of weight buffers: its chunks, the copies into them and the waits for them.
-/
module

public import proofs.«01_k».proof.Proof.KAccess

@[expose] public section

set_option maxRecDepth 16384

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- The part of the ring of weight buffers that chunk `u` of slot `s` takes: rows `256 u` up to `256 (u + 1)`. -/
def Rg (s u : ℕ) : Finset S5x1536x5120.Idx :=
  Finset.univ.filter fun i => (i 0).val = s ∧ 256 * u ≤ (i 1).val ∧ (i 1).val < 256 * u + 256

/-- What a slot holds once expert `e`'s weights are in it (the same at every slot). -/
def G (fw : S16x1536x5120.Idx → Elt F .fp8e4m3) (e : ℕ) : S5x1536x5120.Idx → Elt F .fp8e4m3 :=
  fun i => fw (fun | 0 => ⟨e % 16, Nat.mod_lt _ (by decide)⟩ | 1 => i 1 | 2 => i 2)

/-- Chunk `u` of slot `s`, as the kernel's copies name it. -/
abbrev dstM (o : Fin 3 → ℕ) (h : ∀ a, o a + S1x256x5120.size a ≤ S5x1536x5120.size a) : Memref sig .tc .vmem S256x5120 .fp8e4m3 :=
  ((Memref.whole cc0_scratch2 : Memref sig .tc .vmem S5x1536x5120 .fp8e4m3).slice (Rect.unit (s := S5x1536x5120) o S1x256x5120.size h) (fun _ => rfl)).squeeze
    S256x5120 squeezes_S1x256x5120_S256x5120
/-- Chunk `u` of expert `e`'s weights, as the kernel's copies name it. -/
abbrev srcM (o : Fin 3 → ℕ) (h : ∀ a, o a + S1x256x5120.size a ≤ S16x1536x5120.size a) : Memref sig .tc .hbm S256x5120 .fp8e4m3 :=
  ((Memref.whole main_arg2 : Memref sig .tc .hbm S16x1536x5120 .fp8e4m3).slice (Rect.unit (s := S16x1536x5120) o S1x256x5120.size h) (fun _ => rfl)).squeeze
    S256x5120 squeezes_S1x256x5120_S256x5120
/-- The semaphore of a chunk of a slot, as the kernel's copies name it. -/
abbrev semM (o : Fin 2 → ℕ) (h : ∀ a, o a + S1x1.size a ≤ S5x6.size a) : DmaSem sig :=
  ((cc0_scratch5.slice (Rect.unit (s := S5x6) o S1x1.size h)).squeeze S_ squeezes_S1x1_S_).sem

theorem dst_set (s u : ℕ) (h) : (dstM ![s, 256 * u, 0] h).view.set = Rg s u := by
  have e : (dstM ![s, 256 * u, 0] h).view.set = (Rect.unit (s := S5x1536x5120) ![s, 256 * u, 0] S1x256x5120.size h).set :=
    (View.set_reshape _ _).trans (View.set_slice_whole _ _)
  rw [e]
  ext i
  rw [Rect.mem_set_unit]
  unfold Rg
  rw [Finset.mem_filter]
  have h2 : (i 2).val < 5120 := (i 2).isLt
  constructor
  · intro hi
    have a0 : s ≤ (i 0).val ∧ (i 0).val < s + 1 := hi 0
    have a1 : 256 * u ≤ (i 1).val ∧ (i 1).val < 256 * u + 256 := hi 1
    exact ⟨Finset.mem_univ _, by omega, a1⟩
  · rintro ⟨_, h0, h1⟩ a
    fin_cases a
    · show s ≤ (i 0).val ∧ (i 0).val < s + 1; omega
    · exact h1
    · show 0 ≤ (i 2).val ∧ (i 2).val < 0 + 5120; omega

/-- What a copy of a chunk leaves on the chunk it wrote. -/
theorem dst_write (s u e : ℕ) (he : e < 16) (h h') (fd : S5x1536x5120.Idx → Elt F .fp8e4m3) (fw : S16x1536x5120.Idx → Elt F .fp8e4m3) :
    ∀ i ∈ (dstM ![s, 256 * u, 0] h).view.set,
      (dstM ![s, 256 * u, 0] h).view.write (Elt F) fd ((srcM ![e, 256 * u, 0] h').view.read (Elt F) fw) Finset.univ i = G fw e i := by
  intro i hi
  obtain ⟨j, -, rfl⟩ := Finset.mem_map.1 hi
  rw [View.write_emb_of_mem _ _ (Finset.mem_univ _)]
  show fw ((srcM ![e, 256 * u, 0] h').view.emb j) = _
  unfold G
  congr 1
  funext a
  apply Fin.ext
  have y0 : ((Shape.reshapeEquiv (squeezes_S1x256x5120_S256x5120.numel_eq) j) 0).val = 0 := Nat.lt_one_iff.1 ((Shape.reshapeEquiv (squeezes_S1x256x5120_S256x5120.numel_eq) j) 0).isLt
  fin_cases a
  · show e + 1 * ((Shape.reshapeEquiv (squeezes_S1x256x5120_S256x5120.numel_eq) j) 0).val = e % 16
    rw [y0, Nat.mod_eq_of_lt he]; rfl
  · rfl
  · rfl

/-- The chunk's place among the thirty: which slot and which chunk of it. -/
abbrev sl (p : Fin 30) : ℕ := p.val / 6
abbrev ch (p : Fin 30) : ℕ := p.val % 6

theorem sl_lt (p : Fin 30) : sl p < 5 := by have := p.isLt; show p.val / 6 < 5; omega
theorem ch_lt (p : Fin 30) : ch p < 6 := Nat.mod_lt _ (by decide)

/-- The semaphore of place `p`. -/
def cellSem (p : Fin 30) : DmaSem sig := semM ![sl p, ch p] (inb_sem (sl_lt p) (ch_lt p) _ rfl)

/-- The share of the weights lent to the copy into place `p`. -/
abbrev tk (p : Fin 30) : PosShare TreeShare := Transfers.shareTok fullShare 30 p

/-- The bytes of one chunk's copy. -/
def amt : ℕ := (dstM ![0, 0, 0] (by decide)).view.dmaCredit

/-- A place of the ring: free, or with expert `e`'s chunk on its way. -/
def cell (c : Dev nD) (fw : Buf (Elt F) ((c : Thread nD τ).loc main_arg2)) (p : Fin 30) : Option ℕ → sProp 𝕄
  | none => iprop((∃ f : Buf (Elt F) ((c : Thread nD τ).loc cc0_scratch2), (c : Thread nD τ).loc cc0_scratch2 ↦[Rg (sl p) (ch p)]{fullShare} f)
      ∗ semVal ((c : Thread nD τ), SemLoc.dma (cellSem p)) 0 ∗ (c : Thread nD τ).loc main_arg2 ↦{tk p} fw)
  | some e => iprop(∃ I : Finset (Idx ((c : Thread nD τ).loc main_arg2)), Transfers.Flight (countersEmb (U := Pipeline.UD sig nD τ) : UEmb Counters 𝕄) (c : Thread nD τ) (SemLoc.dma (cellSem p)) () amt
        iprop(((c : Thread nD τ).loc cc0_scratch2 ↦[Rg (sl p) (ch p)]{fullShare} (G fw e : S5x1536x5120.Idx → Elt F .fp8e4m3))
          ∗ (c : Thread nD τ).loc main_arg2 ↦[I]{tk p} fw)
      ∗ (c : Thread nD τ).loc main_arg2 ↦[Finset.univ \ I]{tk p} fw)

/-- The kernel's copy of a chunk into a free place. -/
theorem wp_issue (c : Dev nD) (fw : Buf (Elt F) ((c : Thread nD τ).loc main_arg2)) (p : Fin 30) (e : ℕ) (he : e < 16)
    {o6 : Fin 2 → ℕ} {o7 o8 : Fin 3 → ℕ} (h6 : o6 = ![sl p, ch p]) (h7 : o7 = ![sl p, 256 * ch p, 0]) (h8 : o8 = ![e, 256 * ch p, 0])
    {i6 i7 i8 hsrc hdst hsem} {Q : Unit → sProp 𝕄} :
    cell c fw p none ⊢ iprop((cell c fw p (some e) -∗ Q ⟨⟩) -∗
      wp frame (wpE (defs₀ (F := F)) Variants.none (c : Thread nD τ) none) Set.univ
        (Prog.lift (TpuEff.enqueueDma (srcM o8 i8) (.here (dstM o7 i7)) (.dma (semM o6 i6)) hsrc hdst hsem)) Q) := by
  subst h6 h7 h8
  unfold cell
  iintro ⟨⟨%fd, Hd⟩, Hs, Hw⟩ HQ
  have hsub : (srcM ![e, 256 * ch p, 0] i8).view.set ⊆ (Finset.univ : Finset (Idx ((c : Thread nD τ).loc main_arg2))) := Finset.subset_univ _
  ihave Hw2 := (pointsTo_split_subset (ℓ := (c : Thread nD τ).loc main_arg2) (q := tk p) (f := fw) hsub).1 $$ Hw
  icases Hw2 with ⟨Hw1, Hw2⟩
  have e1 : ((c : Thread nD τ).loc cc0_scratch2 ↦[Rg (sl p) (ch p)]{fullShare} fd : sProp 𝕄) = ((c : Thread nD τ).loc cc0_scratch2 ↦[(dstM ![sl p, 256 * ch p, 0] i7).view.set]{fullShare} fd) := by
    rw [dst_set]
  ihave Hd := (Entails.of_eq e1) $$ Hd
  have key := Transfers.wp_dmaLocal (Lvl := ℕ) (Name := ℕ) (defs := defs₀ (F := F)) (countersEmb (U := Pipeline.UD sig nD τ) : UEmb Counters 𝕄) (via := ReadAs.same) (hsrc := hsrc) (hdst := hdst) (hsem := hsem) (k := Prog.ret) (Q := Q) (q := tk p) (fs := fw) (Sd := (dstM ![sl p, 256 * ch p, 0] i7).view.set) (fd := fd) (src := srcM ![e, 256 * ch p, 0] i8) (dst := dstM ![sl p, 256 * ch p, 0] i7) (sm := SemLoc.dma (cellSem p)) Variants.none (c : Thread nD τ) none () amt rfl (View.amount_pos (dstM ![sl p, 256 * ch p, 0] i7).view (SemLoc.dma (cellSem p)) (by decide)) subset_rfl
  iapply key $$ [Hw1 Hd Hs]
  · isplitl [Hw1]
    · iexact Hw1
    isplitl [Hd]
    · iexact Hd
    iexact Hs
  iintro HF
  rw [wp_ret]
  imodintro
  iapply HQ
  iexists (srcM ![e, 256 * ch p, 0] i8).view.set
  isplitl [HF]
  · have e2 : ((c : Thread nD τ).loc cc0_scratch2 ↦[(dstM ![sl p, 256 * ch p, 0] i7).view.set]{fullShare}
        ((dstM ![sl p, 256 * ch p, 0] i7).view.write (Elt F) fd ((srcM ![e, 256 * ch p, 0] i8).view.read (Elt F) fw) Finset.univ) : sProp 𝕄)
        = ((c : Thread nD τ).loc cc0_scratch2 ↦[Rg (sl p) (ch p)]{fullShare} (G fw e : S5x1536x5120.Idx → Elt F .fp8e4m3)) := by
      rw [pointsTo_congr (dst_write (sl p) (ch p) e he i7 i8 fd fw), dst_set]
    iapply (Entails.of_eq (congrArg (fun X => Transfers.Flight (countersEmb (U := Pipeline.UD sig nD τ) : UEmb Counters 𝕄) (c : Thread nD τ) (SemLoc.dma (cellSem p)) () amt iprop(X ∗ (c : Thread nD τ).loc main_arg2 ↦[(srcM ![e, 256 * ch p, 0] i8).view.set]{tk p} fw)) e2)) $$ HF
  · iexact Hw2

/-- The kernel's wait for a chunk on its way. -/
theorem wp_arrive (c : Dev nD) (fw : Buf (Elt F) ((c : Thread nD τ).loc main_arg2)) (p : Fin 30) (e : ℕ) (W : Waits sig Unit)
    {o6 : Fin 2 → ℕ} {o7 o8 : Fin 3 → ℕ} (h6 : o6 = ![sl p, ch p])
    {i6 i7 i8 hsrc hdst} {Q : Unit → sProp 𝕄} :
    iprop(cell c fw p (some e) ∗ owes (c : Thread nD τ) (0 : CellTallies nD τ sig Unit) W) ⊢ iprop((((c : Thread nD τ).loc cc0_scratch2 ↦[Rg (sl p) (ch p)]{fullShare} (G fw e : S5x1536x5120.Idx → Elt F .fp8e4m3)) -∗
        (((c : Thread nD τ).loc cc0_scratch2 ↦[Rg (sl p) (ch p)]{fullShare} (G fw e : S5x1536x5120.Idx → Elt F .fp8e4m3)) -∗ cell c fw p none) -∗
        (∃ W', owes (c : Thread nD τ) (0 : CellTallies nD τ sig Unit) W') -∗ Q ⟨⟩) -∗
      wp frame (wpE (defs₀ (F := F)) Variants.none (c : Thread nD τ) none) Set.univ
        (Prog.lift (TpuEff.waitDma2 (semM o6 i6) (srcM o8 i8) (dstM o7 i7) hsrc hdst)) Q) := by
  subst h6
  unfold cell
  iintro ⟨⟨%I, HF, Hw2⟩, HO⟩ HQ
  have key := Transfers.wp_waitLocal (Lvl := ℕ) (Name := ℕ) (defs := defs₀ (F := F)) (countersEmb (U := Pipeline.UD sig nD τ) : UEmb Counters 𝕄) (sem := semM ![sl p, ch p] i6) (srcw := srcM o8 i8) (dstw := dstM o7 i7) (hsrc := hsrc) (hdst := hdst) (k := Prog.ret) (Q := Q) (D := iprop(((c : Thread nD τ).loc cc0_scratch2 ↦[Rg (sl p) (ch p)]{fullShare} (G fw e : S5x1536x5120.Idx → Elt F .fp8e4m3))
          ∗ (c : Thread nD τ).loc main_arg2 ↦[I]{tk p} fw)) (W := W) Variants.none (c : Thread nD τ) none () (N := amt) rfl
  iapply key $$ [HF HO]
  · isplitl [HF]
    · iexact HF
    iexact HO
  iintro ⟨⟨Hd, Hw1⟩, Hs, HO⟩
  rw [wp_ret]
  imodintro
  iapply HQ $$ Hd [Hw1 Hw2 Hs] [HO]
  · iintro Hd
    isplitl [Hd]
    · iexists _
      iexact Hd
    isplitl [Hs]
    · iexact Hs
    iapply (pointsTo_split_subset (ℓ := (c : Thread nD τ).loc main_arg2) (q := tk p) (f := fw) (Finset.subset_univ I)).2
    isplitl [Hw1]
    · iexact Hw1
    iexact Hw2
  · iexists _
    iexact HO

/-- The thirty places. -/
def ring (c : Dev nD) (fw : Buf (Elt F) ((c : Thread nD τ).loc main_arg2)) (st : Fin 30 → Option ℕ) : sProp 𝕄 :=
  bigSep Finset.univ fun p => cell c fw p (st p)

/-- One place of the ring comes out, and the ring comes back for whatever it becomes. -/
theorem ring_turn (c : Dev nD) (fw : Buf (Elt F) ((c : Thread nD τ).loc main_arg2)) (st : Fin 30 → Option ℕ) (p : Fin 30) :
    ring c fw st ⊢ iprop(cell c fw p (st p) ∗ ∀ o, cell c fw p o -∗ ring c fw (Function.update st p o)) :=
  BI.bigSep_univ_turn (α := fun _ => Option ℕ) (cell c fw) st p

end Cert.Kernel.Hand

end
-- ==== Proof.KScan.lean ====
/-
  The first loop: the table of the experts that have rows.
-/
module

public import proofs.«01_k».proof.Proof.KAccess

@[expose] public section

set_option maxRecDepth 16384

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- What the table of experts holds after `k` groups: for each expert listed so far its number, its first row and the row after its last. -/
def Act (g : ℕ → ℕ) (k : ℕ) (f : S3x17.Idx → BitVec 32) : Prop :=
  ∀ j, j < cnt g k → el pos_S3x17 f ![0, j] = wd (exs g k j) ∧ el pos_S3x17 f ![1, j] = wd (cut g (exs g k j)) ∧
    el pos_S3x17 f ![2, j] = wd (cut g (exs g k j + 1))

/-- The group sizes as natural numbers. -/
def sizes (fg : S16.Idx → BitVec 32) (k : ℕ) : ℕ := (el pos_S16 fg ![k]).toNat

theorem el_sizes (fg : S16.Idx → BitVec 32) (k : ℕ) : el pos_S16 fg ![k] = wd (sizes fg k) := by
  unfold sizes wd; simp

theorem wd_add_one {n : ℕ} : wd n + 1#32 = wd (n + 1) := by unfold wd; rw [← BitVec.ofNat_add]

theorem msb_wd {a : ℕ} (ha : a < 2 ^ 30) : (wd a).toInt = a := by
  unfold wd; rw [BitVec.toInt_eq_toNat_cond, BitVec.toNat_ofNat, Nat.mod_eq_of_lt (by omega), if_pos (by omega)]

theorem wd_inj {a b : ℕ} (ha : a < 2 ^ 30) (hb : b < 2 ^ 30) (h : wd a = wd b) : a = b := by
  have := congrArg BitVec.toNat h
  rwa [wd_toNat (by omega), wd_toNat (by omega)] at this

theorem slt_wd {a b : ℕ} (ha : a < 2 ^ 30) (hb : b < 2 ^ 30) : Scalar.cmpi .slt (wd a) (wd b) = if a < b then 1#1 else 0#1 := by
  have e : (wd a).slt (wd b) = decide (a < b) := by
    unfold BitVec.slt; rw [msb_wd ha, msb_wd hb]; exact decide_eq_decide.2 Int.ofNat_lt
  show BitVec.ofBool ((wd a).slt (wd b)) = _
  rw [e]
  by_cases h : a < b
  · rw [if_pos h, decide_eq_true h]; rfl
  · rw [if_neg h, decide_eq_false h]; rfl

theorem minsi_wd {a b : ℕ} (ha : a < 2 ^ 30) (hb : b < 2 ^ 30) : Scalar.minsi (wd a) (wd b) = wd (min a b) := by
  have e : (wd a).slt (wd b) = decide (a < b) := by
    unfold BitVec.slt; rw [msb_wd ha, msb_wd hb]; exact decide_eq_decide.2 Int.ofNat_lt
  show (if (wd a).slt (wd b) then wd a else wd b) = _
  rw [e]
  by_cases h : a < b
  · rw [decide_eq_true h, if_pos rfl, Nat.min_eq_left (by omega)]
  · rw [decide_eq_false h, if_neg (by decide), Nat.min_eq_right (by omega)]

/-- The next cut, as the kernel computes it. -/
theorem cut_word (g : ℕ → ℕ) (k : ℕ) (hk : k < 16) (hg : g k < 2 ^ 27) :
    Scalar.select (Scalar.cmpi .slt (Scf.iv (0#32) (1#32) k) 15#32) (Scalar.minsi (Scalar.addi (wd (cut g k)) (wd (g k))) 128#32) 128#32
      = wd (cut g (k + 1)) := by
  have h1 := cut_le g k
  rw [iv_wd, show (15#32) = wd 15 from rfl, slt_wd (by omega) (by omega),
    show Scalar.addi (wd (cut g k)) (wd (g k)) = wd (cut g k + g k) from (BitVec.ofNat_add ..).symm]
  simp only [cut]
  by_cases h : k < 15
  · rw [if_pos h, if_pos h]
    rw [show (128#32) = wd 128 from rfl, minsi_wd (by omega) (by omega)]; rfl
  · rw [if_neg h, if_neg h]; rfl

/-- The count's step, as the kernel computes it. -/
theorem cnt_word (g : ℕ → ℕ) (k : ℕ) :
    Scalar.addi (wd (cnt g k)) (Scalar.extui (Scalar.cmpi .sgt (wd (cut g (k + 1))) (wd (cut g k)))) = wd (cnt g (k + 1)) := by
  have h1 := cut_le g k
  have h2 := cut_le g (k + 1)
  rw [show Scalar.cmpi .sgt (wd (cut g (k + 1))) (wd (cut g k)) = Scalar.cmpi .slt (wd (cut g k)) (wd (cut g (k + 1))) from rfl, slt_wd (by omega) (by omega)]
  show _ = wd (cnt g k + if cut g k < cut g (k + 1) then 1 else 0)
  by_cases h : cut g k < cut g (k + 1)
  · rw [if_pos h, if_pos h]; exact wd_add_one
  · rw [if_neg h, if_neg h]; exact BitVec.add_zero _

/-- One trip's effect on the table. -/
theorem Act_step (g : ℕ → ℕ) (k : ℕ) (hk : k < 16) (f : S3x17.Idx → BitVec 32) (h : Act g k f) :
    ∀ o0 o1 o2 : Fin 2 → ℕ, o0 = ![0, cnt g k] → o1 = ![1, cnt g k] → o2 = ![2, cnt g k] → ∀ v0 v1 v2, v0 = wd k → v1 = wd (cut g k) → v2 = wd (cut g (k + 1)) →
    Act g (k + 1) (wr S1x1.size (wr S1x1.size (wr S1x1.size f o0 (fun _ => v0)) o1 (fun _ => v1)) o2 (fun _ => v2)) := by
  rintro _ _ _ rfl rfl rfl _ _ _ rfl rfl rfl
  have hc := cnt_le g k
  intro j hj
  have inb : ∀ r < 3, ∀ j < 17, ∀ a, (![r, j] : Fin 2 → ℕ) a < S3x17.size a := fun r hr j hj a => by fin_cases a <;> simp <;> omega
  have one : ∀ a, 0 < S1x1.size a := by decide
  have dif0 : ∀ (r r' j j' : ℕ), r ≠ r' → ∃ a, (![r', j'] : Fin 2 → ℕ) a < (![r, j] : Fin 2 → ℕ) a ∨ (![r, j] : Fin 2 → ℕ) a + S1x1.size a ≤ (![r', j'] : Fin 2 → ℕ) a :=
    fun r r' j j' h => ⟨0, by show r' < r ∨ r + 1 ≤ r'; omega⟩
  have dif1 : ∀ (r r' j j' : ℕ), j ≠ j' → ∃ a, (![r', j'] : Fin 2 → ℕ) a < (![r, j] : Fin 2 → ℕ) a ∨ (![r, j] : Fin 2 → ℕ) a + S1x1.size a ≤ (![r', j'] : Fin 2 → ℕ) a :=
    fun r r' j j' h => ⟨1, by show j' < j ∨ j + 1 ≤ j'; omega⟩
  have hj17 : j < 17 := by have := cnt_le g (k + 1); omega
  by_cases e : j = cnt g k
  · subst e
    rw [show exs g (k + 1) (cnt g k) = k from Function.update_self ..]
    refine ⟨?_, ?_, ?_⟩
    · rw [el_wr_ne _ _ _ _ _ _ (inb 0 (by omega) _ hj17) (dif0 _ _ _ _ (by omega)), el_wr_ne _ _ _ _ _ _ (inb 0 (by omega) _ hj17) (dif0 _ _ _ _ (by omega))]
      exact el_wr_self pos_S3x17 S1x1.size f ![0, cnt g k] (wd k) (inb 0 (by omega) _ hj17) one
    · rw [el_wr_ne _ _ _ _ _ _ (inb 1 (by omega) _ hj17) (dif0 _ _ _ _ (by omega))]
      exact el_wr_self pos_S3x17 S1x1.size _ ![1, cnt g k] (wd (cut g k)) (inb 1 (by omega) _ hj17) one
    · exact el_wr_self pos_S3x17 S1x1.size _ ![2, cnt g k] (wd (cut g (k + 1))) (inb 2 (by omega) _ hj17) one
  · have hj' : j < cnt g k := by simp only [cnt] at hj; split at hj <;> omega
    rw [show exs g (k + 1) j = exs g k j from Function.update_of_ne e ..]
    have w : ∀ r < 3, ∀ v0 v1 v2, el pos_S3x17 (wr S1x1.size (wr S1x1.size (wr S1x1.size f ![0, cnt g k] (fun _ => v0)) ![1, cnt g k] (fun _ => v1))
      ![2, cnt g k] (fun _ => v2)) ![r, j] = el pos_S3x17 f ![r, j] := fun r hr v0 v1 v2 => by
      rw [el_wr_ne _ _ _ _ _ _ (inb _ hr _ hj17) (dif1 _ _ _ _ (Ne.symm e)), el_wr_ne _ _ _ _ _ _ (inb _ hr _ hj17) (dif1 _ _ _ _ (Ne.symm e)),
        el_wr_ne _ _ _ _ _ _ (inb _ hr _ hj17) (dif1 _ _ _ _ (Ne.symm e))]
    rw [w 0 (by omega), w 1 (by omega), w 2 (by omega)]
    exact h j hj'

/-- What holds before trip `k` of the loop over the groups. -/
def scanInv (c : Dev nD) (q : PosShare TreeShare) (fg : Buf (Elt F) ((c : Thread nD τ).loc cc0_stg0_0)) (k : ℕ) (acc : BitVec 32 × BitVec 32) : sProp 𝕄 :=
  iprop(((c : Thread nD τ).loc cc0_stg0_0 ↦{q} fg) ∗ ∃ f : Buf (Elt F) ((c : Thread nD τ).loc cc0_scratch3), ((c : Thread nD τ).loc cc0_scratch3 ↦{fullShare} f) ∗
    ⌜acc = (wd (cnt (sizes fg) k), wd (cut (sizes fg) k)) ∧ Act (sizes fg) k f⌝)

theorem scan_step (c : Dev nD) (q : PosShare TreeShare) (fg : Buf (Elt F) ((c : Thread nD τ).loc cc0_stg0_0)) (hg : ∀ k < 16, sizes fg k < 2 ^ 27)
    (k : Fin k0_t1_loop.trips) (acc : BitVec 32 × BitVec 32) :
    scanInv (F := F) c q fg k acc ⊢ wp frame (wpE (defs₀ (F := F)) Variants.none (c : Thread nD τ) none) Set.univ
      (k0_t1_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 k acc) (scanInv (F := F) c q fg (k + 1)) := by
  have hk : k.val < 16 := Nat.lt_of_lt_of_eq k.isLt t1_trips
  have hc := cnt_le (sizes fg) k.val
  obtain ⟨a12, a13⟩ := acc
  unfold scanInv
  iintro ⟨Hg, %f, Hf, %hp⟩
  obtain ⟨he, hact⟩ := hp
  obtain ⟨rfl, rfl⟩ := Prod.mk.inj he
  unfold k0_t1_body
  dsimp only
  rw [wp_bind]
  iapply wp_chk c (chk1_ok (by omega))
  beta_reduce
  rw [wp_bind]
  iapply wp_sm0 (F := F) c (by decide) $$ Hg
  iintro Hg
  beta_reduce
  rw [wp_bind]
  iapply wp_sm8 (F := F) c (by decide) $$ Hf
  iintro Hf
  rw [wp_bind]
  iapply wp_st8 (F := F) c $$ Hf
  iintro Hf
  rw [wp_bind]
  iapply wp_sm8 (F := F) c (by decide) $$ Hf
  iintro Hf
  rw [wp_bind]
  iapply wp_st8 (F := F) c $$ Hf
  iintro Hf
  rw [wp_bind]
  iapply wp_sm8 (F := F) c (by decide) $$ Hf
  iintro Hf
  rw [wp_bind]
  iapply wp_st8 (F := F) c $$ Hf
  iintro Hf
  iapply wp_end c
  isplitl [Hg]
  · iexact Hg
  iexists _
  isplitl [Hf]
  · iexact Hf
  ipureintro
  have e1 : Scalar.select (Scalar.cmpi .slt (Scf.iv (0#32) (1#32) k.val) 15#32) (Scalar.minsi (Scalar.addi (wd (cut (sizes fg) k.val)) (el pos_S16 fg (k0_off1 k))) 128#32) 128#32
      = wd (cut (sizes fg) (k.val + 1)) := by
    rw [off1_eq, el_sizes]; exact cut_word _ _ hk (hg _ hk)
  exact ⟨Prod.ext (by rw [e1]; exact cnt_word _ _) e1,
    Act_step _ _ hk _ hact _ _ _ (off2_eq (by omega)) (off3_eq (by omega)) (off4_eq (by omega)) _ _ _ (iv_wd _) rfl e1⟩

/-- The loop over the groups leaves the table of the experts that have rows, and their number. -/
theorem scan_run (c : Dev nD) (q : PosShare TreeShare) (fg : Buf (Elt F) ((c : Thread nD τ).loc cc0_stg0_0)) (hg : ∀ k < 16, sizes fg k < 2 ^ 27)
    (fa : Buf (Elt F) ((c : Thread nD τ).loc cc0_scratch3)) {Q : BitVec 32 × BitVec 32 → sProp 𝕄} :
    iprop(((c : Thread nD τ).loc cc0_stg0_0 ↦{q} fg) ∗ ((c : Thread nD τ).loc cc0_scratch3 ↦{fullShare} fa))
      ⊢ iprop((∀ f : Buf (Elt F) ((c : Thread nD τ).loc cc0_scratch3), ((c : Thread nD τ).loc cc0_stg0_0 ↦{q} fg) -∗ ((c : Thread nD τ).loc cc0_scratch3 ↦{fullShare} f) -∗ ⌜Act (sizes fg) 16 f⌝ -∗
          Q (wd (num (sizes fg)), wd 128)) -∗
        wp frame (wpE (defs₀ (F := F)) Variants.none (c : Thread nD τ) none) Set.univ
          (Scf.Loop.for k0_t1_loop k0_t1_ok (0#32, 0#32) (k0_t1_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5)) Q) := by
  iintro ⟨Hg, Ha⟩ HQ
  iapply wp_loop (F := F) c _ _ _ _ 16 t1_trips (scanInv (F := F) c q fg) (fun k acc _ => scan_step c q fg hg k acc) $$ [Hg Ha]
  · unfold scanInv
    isplitl [Hg]
    · iexact Hg
    iexists fa
    isplitl [Ha]
    · iexact Ha
    ipureintro
    exact ⟨rfl, fun j hj => absurd hj (Nat.not_lt_zero _)⟩
  · iintro %acc H
    unfold scanInv
    icases H with ⟨Hg, %f, Hf, %hp⟩
    obtain ⟨rfl, hact⟩ := hp
    rw [cut_16]
    iapply HQ $$ Hg Hf
    ipureintro
    exact hact

end Cert.Kernel.Hand

end
-- ==== Proof.KFill.lean ====
/-
  The copies of the weights into the ring.
-/
module

public import proofs.«01_k».proof.Proof.KRing
public import proofs.«01_k».proof.Proof.KScan

@[expose] public section

set_option maxRecDepth 16384

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- The place of chunk `u` of slot `k`. -/
def pl (k u : ℕ) (hk : k < 5) (hu : u < 6) : Fin 30 := ⟨6 * k + u, by omega⟩
theorem sl_pl {k u : ℕ} (hk : k < 5) (hu : u < 6) : sl (pl k u hk hu) = k := by show (6 * k + u) / 6 = k; omega
theorem ch_pl {k u : ℕ} (hk : k < 5) (hu : u < 6) : ch (pl k u hk hu) = u := by show (6 * k + u) % 6 = u; omega
theorem eq_pl {k u : ℕ} (hk : k < 5) (hu : u < 6) (p : Fin 30) : p = pl k u hk hu ↔ sl p = k ∧ ch p = u := by
  constructor
  · rintro rfl; exact ⟨sl_pl hk hu, ch_pl hk hu⟩
  · rintro ⟨h1, h2⟩; apply Fin.ext
    have h1' : p.val / 6 = k := h1
    have h2' : p.val % 6 = u := h2
    show p.val = 6 * k + u; omega

variable (g : ℕ → ℕ)

/-- The ring while the first copies start: the slots before `k` and the first `u` chunks of slot `k`. -/
def stPre (k u : ℕ) (p : Fin 30) : Option ℕ :=
  if (sl p < k ∨ (sl p = k ∧ ch p < u)) ∧ sl p < num g then some (ex g (sl p)) else none
/-- The ring before segment `a`: the next five segments' weights are on their way. -/
def stFull (a : ℕ) (p : Fin 30) : Option ℕ :=
  if a + (sl p + 5 - a % 5) % 5 < num g then some (ex g (a + (sl p + 5 - a % 5) % 5)) else none
/-- The ring during segment `a`, its first `u` chunks taken. -/
def stDrain (a u : ℕ) (p : Fin 30) : Option ℕ := if sl p = a % 5 ∧ ch p < u then none else stFull g a p
/-- The ring after segment `a`, the first `u` chunks of the segment five further on their way. -/
def stFill (a u : ℕ) (p : Fin 30) : Option ℕ :=
  if sl p = a % 5 then (if ch p < u then some (ex g (a + 5)) else none) else stFull g a p

theorem stPre_zero : stPre g 0 0 = fun _ => none := by
  funext p; unfold stPre; rw [if_neg]; omega
theorem stPre_step (k u : ℕ) (hk : k < 5) (hu : u < 6) (hn : k < num g) :
    Function.update (stPre g k u) (pl k u hk hu) (some (ex g k)) = stPre g k (u + 1) := by
  funext p
  rw [Function.update_apply]
  unfold stPre
  by_cases h : p = pl k u hk hu
  · rw [if_pos h]
    obtain ⟨h1, h2⟩ := (eq_pl hk hu p).1 h
    rw [if_pos (by omega), h1]
  · rw [if_neg h]
    have h' := mt (eq_pl hk hu p).2 h
    exact if_congr (by omega) rfl rfl
theorem stPre_at (k u : ℕ) (hk : k < 5) (hu : u < 6) : stPre g k u (pl k u hk hu) = none := by
  unfold stPre; rw [sl_pl, ch_pl, if_neg]; omega
theorem stPre_next (k : ℕ) : stPre g k 6 = stPre g (k + 1) 0 := by
  funext p; unfold stPre; have := ch_lt p; exact if_congr (by omega) rfl rfl
theorem stPre_skip (k : ℕ) (hn : ¬ k < num g) : stPre g k 0 = stPre g (k + 1) 0 := by
  funext p; unfold stPre; exact if_congr (by omega) rfl rfl
theorem stPre_full : stPre g 5 0 = stFull g 0 := by
  funext p; unfold stPre stFull
  have h := sl_lt p
  have e : 0 + (sl p + 5 - 0 % 5) % 5 = sl p := by omega
  rw [e]; exact if_congr (by omega) rfl rfl

theorem stFull_at (a u : ℕ) (hu : u < 6) (ha : a < num g) : stFull g a (pl (a % 5) u (Nat.mod_lt _ (by decide)) hu) = some (ex g a) := by
  unfold stFull
  rw [sl_pl]
  have e : a + (a % 5 + 5 - a % 5) % 5 = a := by omega
  rw [e, if_pos ha]
theorem stDrain_zero (a : ℕ) : stDrain g a 0 = stFull g a := by
  funext p; unfold stDrain; rw [if_neg]; omega
theorem stDrain_at (a u : ℕ) (hu : u < 6) (ha : a < num g) : stDrain g a u (pl (a % 5) u (Nat.mod_lt _ (by decide)) hu) = some (ex g a) := by
  unfold stDrain; rw [if_neg, stFull_at g a u hu ha]; rw [ch_pl]; omega
theorem stDrain_step (a u : ℕ) (hu : u < 6) :
    Function.update (stDrain g a u) (pl (a % 5) u (Nat.mod_lt _ (by decide)) hu) none = stDrain g a (u + 1) := by
  funext p
  rw [Function.update_apply]
  unfold stDrain
  by_cases h : p = pl (a % 5) u (Nat.mod_lt _ (by decide)) hu
  · rw [if_pos h]
    obtain ⟨h1, h2⟩ := (eq_pl (Nat.mod_lt _ (by decide)) hu p).1 h
    rw [if_pos (by omega)]
  · rw [if_neg h]
    have h' := mt (eq_pl (Nat.mod_lt _ (by decide)) hu p).2 h
    exact if_congr (by omega) rfl rfl
theorem stDrain_fill (a : ℕ) : stDrain g a 6 = stFill g a 0 := by
  funext p; unfold stDrain stFill
  have h := ch_lt p
  by_cases e : sl p = a % 5
  · rw [if_pos ⟨e, h⟩, if_pos e, if_neg (by omega)]
  · rw [if_neg (by omega), if_neg e]
theorem stDrain_last (a : ℕ) (hn : ¬ a + 5 < num g) : stDrain g a 6 = stFull g (a + 1) := by
  funext p; unfold stDrain stFull
  have h := ch_lt p; have h5 := sl_lt p
  by_cases e : sl p = a % 5
  · rw [if_pos ⟨e, h⟩, if_neg]; omega
  · rw [if_neg (by omega)]
    have e' : a + (sl p + 5 - a % 5) % 5 = a + 1 + (sl p + 5 - (a + 1) % 5) % 5 := by omega
    rw [e']
theorem stFill_at (a u : ℕ) (hu : u < 6) : stFill g a u (pl (a % 5) u (Nat.mod_lt _ (by decide)) hu) = none := by
  unfold stFill; rw [sl_pl, ch_pl, if_pos rfl, if_neg]; omega
theorem stFill_step (a u : ℕ) (hu : u < 6) :
    Function.update (stFill g a u) (pl (a % 5) u (Nat.mod_lt _ (by decide)) hu) (some (ex g (a + 5))) = stFill g a (u + 1) := by
  funext p
  rw [Function.update_apply]
  unfold stFill
  by_cases h : p = pl (a % 5) u (Nat.mod_lt _ (by decide)) hu
  · rw [if_pos h]
    obtain ⟨h1, h2⟩ := (eq_pl (Nat.mod_lt _ (by decide)) hu p).1 h
    rw [if_pos h1, if_pos (by omega)]
  · rw [if_neg h]
    have h' := mt (eq_pl (Nat.mod_lt _ (by decide)) hu p).2 h
    by_cases e : sl p = a % 5
    · rw [if_pos e, if_pos e]; exact if_congr (by omega) rfl rfl
    · rw [if_neg e, if_neg e]
theorem stFill_full (a : ℕ) (hn : a + 5 < num g) : stFill g a 6 = stFull g (a + 1) := by
  funext p; unfold stFill stFull
  have h := ch_lt p; have h5 := sl_lt p
  by_cases e : sl p = a % 5
  · have e' : a + 1 + (sl p + 5 - (a + 1) % 5) % 5 = a + 5 := by omega
    rw [if_pos e, if_pos h, e', if_pos hn]
  · rw [if_neg e]
    have e' : a + (sl p + 5 - a % 5) % 5 = a + 1 + (sl p + 5 - (a + 1) % 5) % 5 := by omega
    rw [e']
theorem stFull_num : stFull g (num g) = fun _ => none := by
  funext p; unfold stFull; rw [if_neg]; omega

/-- What the copies' loops hold: the table of experts and the ring. -/
def fillInv (c : Dev nD) (fw : Buf (Elt F) ((c : Thread nD τ).loc main_arg2)) (f : Buf (Elt F) ((c : Thread nD τ).loc cc0_scratch3)) (st : Fin 30 → Option ℕ) : sProp 𝕄 :=
  iprop(((c : Thread nD τ).loc cc0_scratch3 ↦{fullShare} f) ∗ ring c fw st)

/-- One chunk's copy among the first. -/
theorem pre_chunk (c : Dev nD) (fw : Buf (Elt F) ((c : Thread nD τ).loc main_arg2)) (f : Buf (Elt F) ((c : Thread nD τ).loc cc0_scratch3)) (hact : Act g 16 f)
    (t : Fin k0_t2_loop.trips) (h1 : k0_cond1 (wd (num g)) t = 1#1) (u : Fin k0_t3_loop.trips) (acc : Unit) :
    fillInv (F := F) c fw f (stPre g t.val u.val)
      ⊢ wp frame (wpE (defs₀ (F := F)) Variants.none (c : Thread nD τ) none) Set.univ
          (k0_t3_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (wd (num g)) t h1 u acc) (fun _ => fillInv (F := F) c fw f (stPre g t.val (u.val + 1))) := by
  have hk : t.val < num g := (cond1_iff (num_lt g) t).1 h1
  have ht5 : t.val < 5 := Nat.lt_of_lt_of_eq t.isLt t2_trips
  have hu6 : u.val < 6 := Nat.lt_of_lt_of_eq u.isLt t3_trips
  have he := ex_lt g hk
  unfold k0_t3_body fillInv
  iintro ⟨Ha, HR⟩
  rw [wp_bind]
  iapply wp_sm8 (F := F) c (by decide) $$ Ha
  iintro Ha
  rw [off5_eq, (hact t.val hk).1]
  rw [wp_bind]
  iapply wp_chk (F := F) c (chk2_ok _ t u he)
  dsimp only
  rw [wp_bind]
  ihave HR2 := ring_turn c fw _ (pl t.val u.val ht5 hu6) $$ HR
  icases HR2 with ⟨HC, HR⟩
  rw [stPre_at]
  iapply wp_issue (F := F) c fw (pl t.val u.val ht5 hu6) (ex g t.val) he ((off6_eq t u).trans (by rw [sl_pl, ch_pl])) ((off7_eq t u).trans (by rw [sl_pl, ch_pl]))
    ((off8_eq u he).trans (by rw [ch_pl])) $$ HC
  iintro HC
  iapply wp_end c
  isplitl [Ha]
  · iexact Ha
  ihave HR3 := HR $$ HC
  rw [stPre_step g t.val u.val ht5 hu6 hk]
  iexact HR3

/-- The first copies of one slot. -/
theorem pre_slot (c : Dev nD) (fw : Buf (Elt F) ((c : Thread nD τ).loc main_arg2)) (f : Buf (Elt F) ((c : Thread nD τ).loc cc0_scratch3)) (hact : Act g 16 f)
    (t : Fin k0_t2_loop.trips) (acc : Unit) :
    fillInv (F := F) c fw f (stPre g t.val 0)
      ⊢ wp frame (wpE (defs₀ (F := F)) Variants.none (c : Thread nD τ) none) Set.univ
          (k0_t2_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (wd (num g)) t acc) (fun _ => fillInv (F := F) c fw f (stPre g (t.val + 1) 0)) := by
  unfold k0_t2_body
  by_cases h1 : k0_cond1 (wd (num g)) t = 1#1
  · rw [dif_pos h1]
    iintro H
    rw [wp_bind]
    iapply wp_loop (F := F) c _ _ _ _ 6 t3_trips (fun u _ => fillInv (F := F) c fw f (stPre g t.val u)) (fun u acc _ => pre_chunk g c fw f hact t h1 u acc) $$ H
    iintro %acc H
    dsimp only
    iapply wp_end c
    rw [stPre_next]
    iexact H
  · rw [dif_neg h1]
    have hk : ¬ t.val < num g := fun h => h1 ((cond1_iff (num_lt g) t).2 h)
    iintro H
    dsimp only
    iapply wp_end c
    rw [stPre_skip g t.val hk]
    iexact H

/-- The first copies. -/
theorem pre_run (c : Dev nD) (fw : Buf (Elt F) ((c : Thread nD τ).loc main_arg2)) (f : Buf (Elt F) ((c : Thread nD τ).loc cc0_scratch3)) (hact : Act g 16 f) {Q : Unit → sProp 𝕄} :
    iprop(((c : Thread nD τ).loc cc0_scratch3 ↦{fullShare} f) ∗ ring c fw (fun _ => none))
      ⊢ iprop((((c : Thread nD τ).loc cc0_scratch3 ↦{fullShare} f) -∗ ring c fw (stFull g 0) -∗ Q ⟨⟩) -∗
        wp frame (wpE (defs₀ (F := F)) Variants.none (c : Thread nD τ) none) Set.univ
          (Scf.Loop.for k0_t2_loop k0_t2_ok ⟨⟩ (k0_t2_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (wd (num g)))) Q) := by
  iintro H HQ
  iapply wp_loop (F := F) c _ _ _ _ 5 t2_trips (fun k _ => fillInv (F := F) c fw f (stPre g k 0)) (fun k acc _ => pre_slot g c fw f hact k acc) $$ [H]
  · rw [stPre_zero]
    unfold fillInv
    iexact H
  iintro %acc H
  unfold fillInv
  icases H with ⟨Ha, HR⟩
  rw [stPre_full]
  iapply HQ $$ Ha HR

/-- One chunk's copy for the segment five further. -/
theorem fill_chunk (c : Dev nD) (fw : Buf (Elt F) ((c : Thread nD τ).loc main_arg2)) (f : Buf (Elt F) ((c : Thread nD τ).loc cc0_scratch3)) (hact : Act g 16 f)
    (hw3 : k0_chk3 (wd (num g))) (t : Fin (k0_t6_loop (wd (num g))).trips) (h6 : k0_cond6 (wd (num g)) t = 1#1) (u : Fin k0_t15_loop.trips) (acc : Unit) :
    fillInv (F := F) c fw f (stFill g t.val u.val)
      ⊢ wp frame (wpE (defs₀ (F := F)) Variants.none (c : Thread nD τ) none) Set.univ
          (k0_t15_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (wd (num g)) hw3 t h6 u acc) (fun _ => fillInv (F := F) c fw f (stFill g t.val (u.val + 1))) := by
  have hk : t.val + 5 < num g := (cond6_iff (num_lt g) t).1 h6
  have hn := num_lt g
  have ht17 : t.val < 17 := by omega
  have hu6 : u.val < 6 := Nat.lt_of_lt_of_eq u.isLt t15_trips
  have hm : t.val % 5 < 5 := Nat.mod_lt _ (by decide)
  have he := ex_lt g hk
  unfold k0_t15_body fillInv
  iintro ⟨Ha, HR⟩
  rw [wp_bind]
  iapply wp_sm8 (F := F) c (by decide) $$ Ha
  iintro Ha
  rw [off65_eq t ht17, (hact (t.val + 5) hk).1]
  rw [wp_bind]
  iapply wp_chk (F := F) c (chk9_ok _ t u he)
  dsimp only
  rw [wp_bind]
  ihave HR2 := ring_turn c fw _ (pl (t.val % 5) u.val hm hu6) $$ HR
  icases HR2 with ⟨HC, HR⟩
  rw [stFill_at g t.val u.val hu6]
  iapply wp_issue (F := F) c fw (pl (t.val % 5) u.val hm hu6) (ex g (t.val + 5)) he ((off66_eq t ht17 u).trans (by rw [sl_pl, ch_pl])) ((off67_eq t ht17 u).trans (by rw [sl_pl, ch_pl]))
    ((off68_eq u he).trans (by rw [ch_pl])) $$ HC
  iintro HC
  iapply wp_end c
  isplitl [Ha]
  · iexact Ha
  ihave HR3 := HR $$ HC
  rw [stFill_step g t.val u.val hu6]
  iexact HR3

/-- The copies for the segment five further. -/
theorem fill_run (c : Dev nD) (fw : Buf (Elt F) ((c : Thread nD τ).loc main_arg2)) (f : Buf (Elt F) ((c : Thread nD τ).loc cc0_scratch3)) (hact : Act g 16 f)
    (hw3 : k0_chk3 (wd (num g))) (t : Fin (k0_t6_loop (wd (num g))).trips) (h6 : k0_cond6 (wd (num g)) t = 1#1) {Q : Unit → sProp 𝕄} :
    iprop(((c : Thread nD τ).loc cc0_scratch3 ↦{fullShare} f) ∗ ring c fw (stDrain g t.val 6))
      ⊢ iprop((((c : Thread nD τ).loc cc0_scratch3 ↦{fullShare} f) -∗ ring c fw (stFull g (t.val + 1)) -∗ Q ⟨⟩) -∗
        wp frame (wpE (defs₀ (F := F)) Variants.none (c : Thread nD τ) none) Set.univ
          (Scf.Loop.for k0_t15_loop k0_t15_ok ⟨⟩ (k0_t15_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (wd (num g)) hw3 t h6)) Q) := by
  iintro H HQ
  iapply wp_loop (F := F) c _ _ _ _ 6 t15_trips (fun u _ => fillInv (F := F) c fw f (stFill g t.val u)) (fun u acc _ => fill_chunk g c fw f hact hw3 t h6 u acc) $$ [H]
  · rw [← stDrain_fill]
    unfold fillInv
    iexact H
  iintro %acc H
  unfold fillInv
  icases H with ⟨Ha, HR⟩
  rw [stFill_full g t.val ((cond6_iff (num_lt g) t).1 h6)]
  iapply HQ $$ Ha HR

end Cert.Kernel.Hand

end
-- ==== Proof.KTile.lean ====
/-
  Tiles of the weights and the wait for a chunk.
-/
module

public import proofs.«01_k».proof.Proof.KFill

@[expose] public section

set_option maxRecDepth 16384

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- The scale of one block of one expert's weights. -/
abbrev ws (fs : S16x12x40.Idx → Elt F .f32) (e b d : ℕ) : Elt F .f32 := el (S := S16x12x40) pos_S16x12x40 fs ![e, b, d]

/-- A tile of one expert's weights: 256 rows by 256 columns. -/
abbrev wt (fw : S16x1536x5120.Idx → Elt F .fp8e4m3) (e u d : ℕ) : S1x256x256.Idx → Elt F .fp8e4m3 :=
  rd (S := S16x1536x5120) pos_S16x1536x5120 S1x256x256.size fw ![e, 256 * u, 256 * d]

/-- A tile of the ring is a tile of the expert's weights. -/
theorem rd_G (fw : S16x1536x5120.Idx → Elt F .fp8e4m3) (e s u d : ℕ) (he : e < 16) : ∀ o, o = ![s, 256 * u, 256 * d] →
    rd (S := S5x1536x5120) pos_S5x1536x5120 S1x256x256.size (G fw e) o = wt fw e u d := by
  rintro _ rfl
  funext y
  unfold wt rd G
  dsimp only
  congr 1
  funext a
  apply Fin.ext
  have y0 : (y 0).val = 0 := Nat.lt_one_iff.1 (y 0).isLt
  fin_cases a
  · show e % 16 = (e + (y 0).val) % 16
    rw [y0]; rfl
  · rfl
  · rfl

theorem mem_Rg {s u d : ℕ} (hd : d < 20) : ∀ o : Fin 3 → ℕ, o = ![s, 256 * u, 256 * d] →
    ∀ i : S5x1536x5120.Idx, (∀ a, o a ≤ (i a).val ∧ (i a).val < o a + S1x256x256.size a) → i ∈ Rg s u := by
  rintro _ rfl i h
  unfold Rg
  have a0 : s ≤ (i 0).val ∧ (i 0).val < s + 1 := h 0
  have a1 : 256 * u ≤ (i 1).val ∧ (i 1).val < 256 * u + 256 := h 1
  exact Finset.mem_filter.2 ⟨Finset.mem_univ _, by omega, a1⟩

/-- The wait for a chunk of the segment at hand. -/
theorem arrive (g : ℕ → ℕ) (c : Dev nD) (fw : Buf (Elt F) ((c : Thread nD τ).loc main_arg2)) (a u : ℕ) (hu : u < 6) (ha : a < num g)
    {o6 : Fin 2 → ℕ} {o7 o8 : Fin 3 → ℕ} (h6 : o6 = ![a % 5, u]) {i6 i7 i8 hsrc hdst} {Q : Unit → sProp 𝕄} :
    iprop(ring c fw (stDrain g a u) ∗ (∃ W, owes (c : Thread nD τ) (0 : CellTallies nD τ sig Unit) W)) ⊢
      iprop((((c : Thread nD τ).loc cc0_scratch2 ↦[Rg (a % 5) u]{fullShare} (G fw (ex g a) : S5x1536x5120.Idx → Elt F .fp8e4m3)) -∗
        (((c : Thread nD τ).loc cc0_scratch2 ↦[Rg (a % 5) u]{fullShare} (G fw (ex g a) : S5x1536x5120.Idx → Elt F .fp8e4m3)) -∗ ring c fw (stDrain g a (u + 1))) -∗
        (∃ W, owes (c : Thread nD τ) (0 : CellTallies nD τ sig Unit) W) -∗ Q ⟨⟩) -∗
      wp frame (wpE (defs₀ (F := F)) Variants.none (c : Thread nD τ) none) Set.univ
        (Prog.lift (TpuEff.waitDma2 (semM o6 i6) (srcM o8 i8) (dstM o7 i7) hsrc hdst)) Q) := by
  have hm : a % 5 < 5 := Nat.mod_lt _ (by decide)
  have es := sl_pl hm hu
  have ec := ch_pl hm hu
  iintro ⟨HR, %W, HO⟩ HQ
  ihave HR2 := ring_turn c fw _ (pl (a % 5) u hm hu) $$ HR
  icases HR2 with ⟨HC, HR⟩
  rw [stDrain_at g a u hu ha]
  have key := wp_arrive (F := F) c fw (pl (a % 5) u hm hu) (ex g a) W (o6 := o6) (o7 := o7) (o8 := o8) (i6 := i6) (i7 := i7) (i8 := i8) (hsrc := hsrc) (hdst := hdst) (Q := Q) (by rw [h6, es, ec])
  rw [es, ec] at key
  iapply key $$ [HC HO]
  · isplitl [HC]
    · iexact HC
    iexact HO
  iintro Hd Hback HO
  iapply HQ $$ Hd [HR Hback] HO
  iintro Hd
  ihave HC := Hback $$ Hd
  ihave HR3 := HR $$ HC
  rw [stDrain_step g a u hu]
  iexact HR3

end Cert.Kernel.Hand

end
-- ==== Proof.KBranch16.lean ====
/-
  What the branch of 16 rows computes, and its run.
-/
module

public import proofs.«01_k».proof.Proof.KTile

@[expose] public section

set_option maxRecDepth 16384

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-! ## The branch of 16 rows -/

/-- The branch's rows of a block of quantised tokens. -/
abbrev xr16 (fq : S128x5120.Idx → Elt F .bf16) (lo d : ℕ) : S16x128.Idx → Elt F .bf16 :=
  rd (S := S128x5120) pos_S128x5120 S16x128.size fq ![row16 lo, 128 * d]

/-- The running product after `d + 1` tiles. -/
def acc16 (fs : S16x12x40.Idx → Elt F .f32) (fq : S128x5120.Idx → Elt F .bf16) (fw : S16x1536x5120.Idx → Elt F .fp8e4m3) (e lo u : ℕ) : ℕ → FVec F S32x256 .f32
  | 0 => k0_pay22 (k0_pay21 (ws fs e (2 * u) 0) (xr16 fq lo 0) (ws fs e (2 * u) 1) (xr16 fq lo 1)) (ws fs e (2 * u + 1) 0) (xr16 fq lo 0)
      (ws fs e (2 * u + 1) 1) (xr16 fq lo 1) (wt fw e u 0)
  | d + 1 => k0_pay23 (acc16 fs fq fw e lo u d)
      (k0_pay19 (ws fs e (2 * u) (2 * (d + 1))) (xr16 fq lo (2 * (d + 1))) (ws fs e (2 * u) (2 * (d + 1) + 1)) (xr16 fq lo (2 * (d + 1) + 1)))
      (k0_pay20 (ws fs e (2 * u + 1) (2 * (d + 1)))) (xr16 fq lo (2 * (d + 1))) (ws fs e (2 * u + 1) (2 * (d + 1) + 1)) (xr16 fq lo (2 * (d + 1) + 1)) (wt fw e u (d + 1))

/-- What one chunk's branch makes of the result. -/
def chunk16 (fs : S16x12x40.Idx → Elt F .f32) (fq : S128x5120.Idx → Elt F .bf16) (fw : S16x1536x5120.Idx → Elt F .fp8e4m3) (e lo hi u : ℕ)
    (y : S128x1536.Idx → Elt F .bf16) : S128x1536.Idx → Elt F .bf16 :=
  wr (S := S128x1536) S16x256.size y ![row16 lo, 256 * u] (k0_pay24 (k0_pay3 (F := F) (wd lo) (wd hi) (fl (wd lo))) (acc16 fs fq fw e lo u 19)
    (rd (S := S128x1536) pos_S128x1536 S16x256.size y ![row16 lo, 256 * u]))

theorem acc_step16 (fs : S16x12x40.Idx → Elt F .f32) (fq : S128x5120.Idx → Elt F .bf16) (fw : S16x1536x5120.Idx → Elt F .fp8e4m3) (s e lo u d : ℕ) (he : e < 16) (a : FVec F S32x256 .f32)
    (ha : a = acc16 fs fq fw e lo u d) : ∀ w00 w01 w10 w11 : Fin 3 → ℕ, w00 = ![e, 2 * u, 2 * (d + 1)] → w01 = ![e, 2 * u, 2 * (d + 1) + 1] →
      w10 = ![e, 2 * u + 1, 2 * (d + 1)] → w11 = ![e, 2 * u + 1, 2 * (d + 1) + 1] →
      ∀ x0 x1 : Fin 2 → ℕ, x0 = ![row16 lo, 128 * (2 * (d + 1))] → x1 = ![row16 lo, 128 * (2 * (d + 1) + 1)] → ∀ t, t = ![s, 256 * u, 256 * (d + 1)] →
      k0_pay23 a (k0_pay19 (el (S := S16x12x40) pos_S16x12x40 fs w00) (rd (S := S128x5120) pos_S128x5120 S16x128.size fq x0)
          (el (S := S16x12x40) pos_S16x12x40 fs w01) (rd (S := S128x5120) pos_S128x5120 S16x128.size fq x1))
        (k0_pay20 (el (S := S16x12x40) pos_S16x12x40 fs w10)) (rd (S := S128x5120) pos_S128x5120 S16x128.size fq x0) (el (S := S16x12x40) pos_S16x12x40 fs w11)
        (rd (S := S128x5120) pos_S128x5120 S16x128.size fq x1) (rd (S := S5x1536x5120) pos_S5x1536x5120 S1x256x256.size (G fw e) t) = acc16 fs fq fw e lo u (d + 1) := by
  rintro _ _ _ _ rfl rfl rfl rfl _ _ rfl rfl t ht
  rw [rd_G fw e s u (d + 1) he t ht, ha]
  rfl

theorem acc_first16 (fs : S16x12x40.Idx → Elt F .f32) (fq : S128x5120.Idx → Elt F .bf16) (fw : S16x1536x5120.Idx → Elt F .fp8e4m3) (s e lo u : ℕ) (he : e < 16) :
    ∀ w00 w01 w10 w11 : Fin 3 → ℕ, w00 = ![e, 2 * u, 0] → w01 = ![e, 2 * u, 1] → w10 = ![e, 2 * u + 1, 0] → w11 = ![e, 2 * u + 1, 1] →
      ∀ x0 x1 : Fin 2 → ℕ, x0 = ![row16 lo, 0] → x1 = ![row16 lo, 128] → ∀ t, t = ![s, 256 * u, 0] →
      k0_pay22 (k0_pay21 (el (S := S16x12x40) pos_S16x12x40 fs w00) (rd (S := S128x5120) pos_S128x5120 S16x128.size fq x0)
          (el (S := S16x12x40) pos_S16x12x40 fs w01) (rd (S := S128x5120) pos_S128x5120 S16x128.size fq x1))
        (el (S := S16x12x40) pos_S16x12x40 fs w10) (rd (S := S128x5120) pos_S128x5120 S16x128.size fq x0) (el (S := S16x12x40) pos_S16x12x40 fs w11)
        (rd (S := S128x5120) pos_S128x5120 S16x128.size fq x1) (rd (S := S5x1536x5120) pos_S5x1536x5120 S1x256x256.size (G fw e) t) = acc16 fs fq fw e lo u 0 := by
  rintro _ _ _ _ rfl rfl rfl rfl _ _ rfl rfl t ht
  rw [rd_G fw e s u 0 he t ht]
  rfl

theorem chunk_eq16 (fs : S16x12x40.Idx → Elt F .f32) (fq : S128x5120.Idx → Elt F .bf16) (fw : S16x1536x5120.Idx → Elt F .fp8e4m3) (e lo hi u : ℕ)
    (y : S128x1536.Idx → Elt F .bf16) (a : FVec F S32x256 .f32) (ha : a = acc16 fs fq fw e lo u 19) : ∀ o, o = ![row16 lo, 256 * u] →
    wr (S := S128x1536) S16x256.size y o (k0_pay24 (k0_pay3 (F := F) (wd lo) (wd hi) (fl (wd lo))) a (rd (S := S128x1536) pos_S128x1536 S16x256.size y o))
      = chunk16 fs fq fw e lo hi u y := by
  rintro _ rfl
  rw [ha]; rfl

/-- What the product's loop holds. -/
def inner16 (c : Dev nD) (fs : Buf (Elt F) ((c : Thread nD τ).loc cc0_stg1_0)) (fq : Buf (Elt F) ((c : Thread nD τ).loc cc0_scratch1)) (fw : Buf (Elt F) ((c : Thread nD τ).loc main_arg2))
    (s e lo u d : ℕ) (acc : FVec F S32x256 .f32) : sProp 𝕄 :=
  iprop(((c : Thread nD τ).loc cc0_stg1_0 ↦{fullShare} fs) ∗ ((c : Thread nD τ).loc cc0_scratch1 ↦{fullShare} fq) ∗
    ((c : Thread nD τ).loc cc0_scratch2 ↦[Rg s u]{fullShare} (G fw e : S5x1536x5120.Idx → Elt F .fp8e4m3)) ∗ ⌜acc = acc16 fs fq fw e lo u d⌝)

section
variable (c : Dev nD) (fs : Buf (Elt F) ((c : Thread nD τ).loc cc0_stg1_0)) (fq : Buf (Elt F) ((c : Thread nD τ).loc cc0_scratch1)) (fw : Buf (Elt F) ((c : Thread nD τ).loc main_arg2))

/-- One tile of the product. -/
theorem inner_step16 {v : BitVec 32} (t : Fin (k0_t6_loop v).trips) (ht : t.val < 17) {e lo : ℕ} (he : e < 16) (hlo : lo < 129) (v16 : BitVec 32)
    (hw4 : k0_chk4 v t (wd e) (wd lo) v16) (v17 : BitVec 32) (h2 : k0_cond2 (wd lo) v16 = 1#1) (v81 : BitVec 32) (v89 : IVec S16x1 1) (u : Fin k0_t7_loop.trips)
    (arg12 v103 : BitVec 32) (v128 : FVec F S16x256 .bf16) (v130 : BitVec 32) (d : Fin k0_t8_loop.trips) (acc : FVec F S32x256 .f32) :
    inner16 c fs fq fw (t.val % 5) e lo u.val d.val acc ⊢ wp frame (wpE (defs₀ (F := F)) Variants.none (c : Thread nD τ) none) Set.univ
      (k0_t8_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v t (wd e) (wd lo) v16 hw4 v17 h2 v81 v89 u arg12 v103 v128 v130 d acc) (inner16 c fs fq fw (t.val % 5) e lo u.val (d.val + 1)) := by
  have hd : d.val < 19 := Nat.lt_of_lt_of_eq d.isLt t8_trips
  unfold inner16
  iintro ⟨Hs, Hx, Hw, %hp⟩
  unfold k0_t8_body
  rw [wp_bind, k0_part3_eq_skeleton]
  unfold k0_part3_skel
  dsimp only
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_sm1 (F := F) c (by decide) $$ Hs
  iintro Hs
  iapply wp_end c
  dsimp only
  rw [wp_bind]
  iapply wp_ld6 (F := F) c (fun _ _ => Finset.mem_univ _) $$ Hx
  iintro Hx
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_ld7 (F := F) c (mem_Rg (d := d.val + 1) (by omega) _ (off24_eq t ht u d)) $$ Hw
  iintro Hw
  iapply wp_end c
  isplitl [Hs]
  · iexact Hs
  isplitl [Hx]
  · iexact Hx
  isplitl [Hw]
  · iexact Hw
  ipureintro
  exact acc_step16 fs fq fw (t.val % 5) e lo u.val d.val he acc hp _ _ _ _ (off22_eq he u d 0 0) (off22_eq he u d 0 1) (off22_eq he u d 1 0) (off22_eq he u d 1 1)
    _ _ (off23_eq hlo d 0) (off23_eq hlo d 1) _ (off24_eq t ht u d)

/-- What a branch's loop over the chunks holds. -/
def branch16 (g : ℕ → ℕ) (fa : Buf (Elt F) ((c : Thread nD τ).loc cc0_scratch3)) (y : ℕ → S128x1536.Idx → Elt F .bf16) (a u : ℕ) : sProp 𝕄 :=
  iprop(((c : Thread nD τ).loc cc0_stg1_0 ↦{fullShare} fs) ∗ ((c : Thread nD τ).loc cc0_scratch1 ↦{fullShare} fq) ∗ ((c : Thread nD τ).loc cc0_scratch3 ↦{fullShare} fa) ∗
    ((c : Thread nD τ).loc cc0_stg2_0 ↦{fullShare} (y u : S128x1536.Idx → Elt F .bf16)) ∗ ring c fw (stDrain g a u) ∗ (∃ W, owes (c : Thread nD τ) (0 : CellTallies nD τ sig Unit) W))

/-- One chunk of a branch. -/
theorem chunk_step16 (g : ℕ → ℕ) (fa : Buf (Elt F) ((c : Thread nD τ).loc cc0_scratch3)) (hact : Act g 16 fa) (y : ℕ → S128x1536.Idx → Elt F .bf16)
    {v : BitVec 32} (t : Fin (k0_t6_loop v).trips) (ht : t.val < num g)
    (hy : ∀ u, y (u + 1) = chunk16 fs fq fw (ex g t.val) (lo g t.val) (hi g t.val) u (y u))
    (hw4 : k0_chk4 v t (wd (ex g t.val)) (wd (lo g t.val)) (wd (hi g t.val))) (arg11 v17 : BitVec 32) (h2 : k0_cond2 (wd (lo g t.val)) (wd (hi g t.val)) = 1#1) (v81 : BitVec 32)
    (u : Fin k0_t7_loop.trips) (acc : Unit) :
    branch16 c fs fq fw g fa y t.val u.val ⊢ wp frame (wpE (defs₀ (F := F)) Variants.none (c : Thread nD τ) none) Set.univ
      (k0_t7_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v t arg11 (wd (ex g t.val)) (wd (lo g t.val)) (wd (hi g t.val)) hw4 v17 (fl (wd (lo g t.val))) h2 v81 u acc)
      (fun _ => branch16 c fs fq fw g fa y t.val (u.val + 1)) := by
  have hu : u.val < 6 := Nat.lt_of_lt_of_eq u.isLt t7_trips
  have hn := num_lt g
  have ht17 : t.val < 17 := by omega
  have he := ex_lt g ht
  have hlo := lo_lt g t.val
  have hv : el (S := S3x17) pos_S3x17 fa (k0_off13 v t) = wd (ex g t.val) := by rw [off13_eq t ht17]; exact (hact t.val ht).1
  unfold branch16
  iintro ⟨Hs, Hx, Ha, Hy, HR, HO⟩
  unfold k0_t7_body
  rw [wp_bind, k0_part4_eq_skeleton]
  unfold k0_part4_skel
  dsimp only
  rw [wp_bind]
  iapply wp_sm8 (F := F) c (by decide) $$ Ha
  iintro Ha
  rw [hv]
  rw [wp_bind]
  iapply wp_chk (F := F) c (chk5_ok _ _ u he)
  rw [wp_bind]
  iapply arrive (F := F) g c fw t.val u.val hu ht (off14_eq t ht17 u) $$ [HR HO]
  · isplitl [HR]
    · iexact HR
    iexact HO
  iintro Hw Hback HO
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_sm1 (F := F) c (by decide) $$ Hs
  iintro Hs
  rw [wp_bind]
  iapply wp_ld6 (F := F) c (fun _ _ => Finset.mem_univ _) $$ Hx
  iintro Hx
  iapply wp_end c
  dsimp only
  rw [wp_bind, k0_part5_eq_skeleton]
  unfold k0_part5_skel
  dsimp only
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_ld7 (F := F) c (mem_Rg (d := 0) (by omega) _ (off21_eq t ht17 u)) $$ Hw
  iintro Hw
  rw [wp_bind]
  iapply wp_loop (F := F) c _ _ _ _ 19 t8_trips (fun d acc => inner16 c fs fq fw (t.val % 5) (ex g t.val) (lo g t.val) u.val d acc)
    (fun d acc _ => inner_step16 c fs fq fw t ht17 he hlo _ hw4 v17 h2 v81 _ u _ _ _ _ d acc) $$ [Hs Hx Hw]
  · unfold inner16
    isplitl [Hs]
    · iexact Hs
    isplitl [Hx]
    · iexact Hx
    isplitl [Hw]
    · iexact Hw
    ipureintro
    exact acc_first16 fs fq fw (t.val % 5) (ex g t.val) (lo g t.val) u.val he _ _ _ _ (off17_eq he u 0) (off19_eq he u 0) (off17_eq he u 1) (off19_eq he u 1)
      _ _ (off18_eq hlo) (off20_eq hlo) _ (off21_eq t ht17 u)
  iintro %a H
  unfold inner16
  icases H with ⟨Hs, Hx, Hw, %hp⟩
  rw [wp_bind]
  iapply wp_ld4 (F := F) c (fun _ _ => Finset.mem_univ _) $$ Hy
  iintro Hy
  rw [wp_bind]
  iapply wp_ld4 (F := F) c (fun _ _ => Finset.mem_univ _) $$ Hy
  iintro Hy
  rw [wp_bind]
  iapply wp_st4 (F := F) c $$ Hy
  iintro Hy
  iapply wp_end c
  iapply wp_end c
  isplitl [Hs]
  · iexact Hs
  isplitl [Hx]
  · iexact Hx
  isplitl [Ha]
  · iexact Ha
  isplitl [Hy]
  · rw [hy, ← chunk_eq16 fs fq fw (ex g t.val) (lo g t.val) (hi g t.val) u.val (y u.val) a hp _ (off25_eq hlo u)]
    iexact Hy
  isplitl [Hw Hback]
  · iapply Hback $$ Hw
  · iexact HO

/-- A branch, run. -/
theorem branch_run16 (g : ℕ → ℕ) (fa : Buf (Elt F) ((c : Thread nD τ).loc cc0_scratch3)) (hact : Act g 16 fa) (y : ℕ → S128x1536.Idx → Elt F .bf16)
    {v : BitVec 32} (t : Fin (k0_t6_loop v).trips) (ht : t.val < num g)
    (hy : ∀ u, y (u + 1) = chunk16 fs fq fw (ex g t.val) (lo g t.val) (hi g t.val) u (y u))
    (hw4 : k0_chk4 v t (wd (ex g t.val)) (wd (lo g t.val)) (wd (hi g t.val))) (arg11 v17 : BitVec 32) (h2 : k0_cond2 (wd (lo g t.val)) (wd (hi g t.val)) = 1#1) (v81 : BitVec 32)
    {Q : Unit → sProp 𝕄} :
    branch16 c fs fq fw g fa y t.val 0 ⊢ iprop((branch16 c fs fq fw g fa y t.val 6 -∗ Q ⟨⟩) -∗ wp frame (wpE (defs₀ (F := F)) Variants.none (c : Thread nD τ) none) Set.univ
      (Scf.Loop.for k0_t7_loop k0_t7_ok ⟨⟩ (k0_t7_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v t arg11 (wd (ex g t.val)) (wd (lo g t.val)) (wd (hi g t.val)) hw4 v17 (fl (wd (lo g t.val))) h2 v81)) Q) := by
  iintro H HQ
  iapply wp_loop (F := F) c _ _ _ _ 6 t7_trips (fun u _ => branch16 c fs fq fw g fa y t.val u)
    (fun u acc _ => chunk_step16 c fs fq fw g fa hact y t ht hy hw4 arg11 v17 h2 v81 u acc) $$ H
  iintro %acc H
  iapply HQ $$ H
end

end Cert.Kernel.Hand

end
-- ==== Proof.KBranch32.lean ====
/-
  What the branch of 32 rows computes, and its run.
-/
module

public import proofs.«01_k».proof.Proof.KTile

@[expose] public section

set_option maxRecDepth 16384

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-! ## The branch of 32 rows -/

/-- The branch's rows of a block of quantised tokens. -/
abbrev xr32 (fq : S128x5120.Idx → Elt F .bf16) (lo d : ℕ) : S32x128.Idx → Elt F .bf16 :=
  rd (S := S128x5120) pos_S128x5120 S32x128.size fq ![row32 lo, 128 * d]

/-- The running product after `d + 1` tiles. -/
def acc32 (fs : S16x12x40.Idx → Elt F .f32) (fq : S128x5120.Idx → Elt F .bf16) (fw : S16x1536x5120.Idx → Elt F .fp8e4m3) (e lo u : ℕ) : ℕ → FVec F S64x256 .f32
  | 0 => k0_pay28 (k0_pay27 (ws fs e (2 * u) 0) (xr32 fq lo 0) (ws fs e (2 * u) 1) (xr32 fq lo 1)) (ws fs e (2 * u + 1) 0) (xr32 fq lo 0)
      (ws fs e (2 * u + 1) 1) (xr32 fq lo 1) (wt fw e u 0)
  | d + 1 => k0_pay29 (acc32 fs fq fw e lo u d)
      (k0_pay25 (ws fs e (2 * u) (2 * (d + 1))) (xr32 fq lo (2 * (d + 1))) (ws fs e (2 * u) (2 * (d + 1) + 1)) (xr32 fq lo (2 * (d + 1) + 1)))
      (k0_pay26 (ws fs e (2 * u + 1) (2 * (d + 1)))) (xr32 fq lo (2 * (d + 1))) (ws fs e (2 * u + 1) (2 * (d + 1) + 1)) (xr32 fq lo (2 * (d + 1) + 1)) (wt fw e u (d + 1))

/-- What one chunk's branch makes of the result. -/
def chunk32 (fs : S16x12x40.Idx → Elt F .f32) (fq : S128x5120.Idx → Elt F .bf16) (fw : S16x1536x5120.Idx → Elt F .fp8e4m3) (e lo hi u : ℕ)
    (y : S128x1536.Idx → Elt F .bf16) : S128x1536.Idx → Elt F .bf16 :=
  wr (S := S128x1536) S32x256.size y ![row32 lo, 256 * u] (k0_pay30 (k0_pay4 (F := F) (wd lo) (wd hi) (fl (wd lo))) (acc32 fs fq fw e lo u 19)
    (rd (S := S128x1536) pos_S128x1536 S32x256.size y ![row32 lo, 256 * u]))

theorem acc_step32 (fs : S16x12x40.Idx → Elt F .f32) (fq : S128x5120.Idx → Elt F .bf16) (fw : S16x1536x5120.Idx → Elt F .fp8e4m3) (s e lo u d : ℕ) (he : e < 16) (a : FVec F S64x256 .f32)
    (ha : a = acc32 fs fq fw e lo u d) : ∀ w00 w01 w10 w11 : Fin 3 → ℕ, w00 = ![e, 2 * u, 2 * (d + 1)] → w01 = ![e, 2 * u, 2 * (d + 1) + 1] →
      w10 = ![e, 2 * u + 1, 2 * (d + 1)] → w11 = ![e, 2 * u + 1, 2 * (d + 1) + 1] →
      ∀ x0 x1 : Fin 2 → ℕ, x0 = ![row32 lo, 128 * (2 * (d + 1))] → x1 = ![row32 lo, 128 * (2 * (d + 1) + 1)] → ∀ t, t = ![s, 256 * u, 256 * (d + 1)] →
      k0_pay29 a (k0_pay25 (el (S := S16x12x40) pos_S16x12x40 fs w00) (rd (S := S128x5120) pos_S128x5120 S32x128.size fq x0)
          (el (S := S16x12x40) pos_S16x12x40 fs w01) (rd (S := S128x5120) pos_S128x5120 S32x128.size fq x1))
        (k0_pay26 (el (S := S16x12x40) pos_S16x12x40 fs w10)) (rd (S := S128x5120) pos_S128x5120 S32x128.size fq x0) (el (S := S16x12x40) pos_S16x12x40 fs w11)
        (rd (S := S128x5120) pos_S128x5120 S32x128.size fq x1) (rd (S := S5x1536x5120) pos_S5x1536x5120 S1x256x256.size (G fw e) t) = acc32 fs fq fw e lo u (d + 1) := by
  rintro _ _ _ _ rfl rfl rfl rfl _ _ rfl rfl t ht
  rw [rd_G fw e s u (d + 1) he t ht, ha]
  rfl

theorem acc_first32 (fs : S16x12x40.Idx → Elt F .f32) (fq : S128x5120.Idx → Elt F .bf16) (fw : S16x1536x5120.Idx → Elt F .fp8e4m3) (s e lo u : ℕ) (he : e < 16) :
    ∀ w00 w01 w10 w11 : Fin 3 → ℕ, w00 = ![e, 2 * u, 0] → w01 = ![e, 2 * u, 1] → w10 = ![e, 2 * u + 1, 0] → w11 = ![e, 2 * u + 1, 1] →
      ∀ x0 x1 : Fin 2 → ℕ, x0 = ![row32 lo, 0] → x1 = ![row32 lo, 128] → ∀ t, t = ![s, 256 * u, 0] →
      k0_pay28 (k0_pay27 (el (S := S16x12x40) pos_S16x12x40 fs w00) (rd (S := S128x5120) pos_S128x5120 S32x128.size fq x0)
          (el (S := S16x12x40) pos_S16x12x40 fs w01) (rd (S := S128x5120) pos_S128x5120 S32x128.size fq x1))
        (el (S := S16x12x40) pos_S16x12x40 fs w10) (rd (S := S128x5120) pos_S128x5120 S32x128.size fq x0) (el (S := S16x12x40) pos_S16x12x40 fs w11)
        (rd (S := S128x5120) pos_S128x5120 S32x128.size fq x1) (rd (S := S5x1536x5120) pos_S5x1536x5120 S1x256x256.size (G fw e) t) = acc32 fs fq fw e lo u 0 := by
  rintro _ _ _ _ rfl rfl rfl rfl _ _ rfl rfl t ht
  rw [rd_G fw e s u 0 he t ht]
  rfl

theorem chunk_eq32 (fs : S16x12x40.Idx → Elt F .f32) (fq : S128x5120.Idx → Elt F .bf16) (fw : S16x1536x5120.Idx → Elt F .fp8e4m3) (e lo hi u : ℕ)
    (y : S128x1536.Idx → Elt F .bf16) (a : FVec F S64x256 .f32) (ha : a = acc32 fs fq fw e lo u 19) : ∀ o, o = ![row32 lo, 256 * u] →
    wr (S := S128x1536) S32x256.size y o (k0_pay30 (k0_pay4 (F := F) (wd lo) (wd hi) (fl (wd lo))) a (rd (S := S128x1536) pos_S128x1536 S32x256.size y o))
      = chunk32 fs fq fw e lo hi u y := by
  rintro _ rfl
  rw [ha]; rfl

/-- What the product's loop holds. -/
def inner32 (c : Dev nD) (fs : Buf (Elt F) ((c : Thread nD τ).loc cc0_stg1_0)) (fq : Buf (Elt F) ((c : Thread nD τ).loc cc0_scratch1)) (fw : Buf (Elt F) ((c : Thread nD τ).loc main_arg2))
    (s e lo u d : ℕ) (acc : FVec F S64x256 .f32) : sProp 𝕄 :=
  iprop(((c : Thread nD τ).loc cc0_stg1_0 ↦{fullShare} fs) ∗ ((c : Thread nD τ).loc cc0_scratch1 ↦{fullShare} fq) ∗
    ((c : Thread nD τ).loc cc0_scratch2 ↦[Rg s u]{fullShare} (G fw e : S5x1536x5120.Idx → Elt F .fp8e4m3)) ∗ ⌜acc = acc32 fs fq fw e lo u d⌝)

section
variable (c : Dev nD) (fs : Buf (Elt F) ((c : Thread nD τ).loc cc0_stg1_0)) (fq : Buf (Elt F) ((c : Thread nD τ).loc cc0_scratch1)) (fw : Buf (Elt F) ((c : Thread nD τ).loc main_arg2))

/-- One tile of the product. -/
theorem inner_step32 {v : BitVec 32} (t : Fin (k0_t6_loop v).trips) (ht : t.val < 17) {e lo : ℕ} (he : e < 16) (hlo : lo < 129) (v16 : BitVec 32)
    (hw4 : k0_chk4 v t (wd e) (wd lo) v16) (v17 : BitVec 32) (h2 : k0_cond3 (wd lo) v16 = 1#1) (v81 : BitVec 32) (v89 : IVec S32x1 1) (u : Fin k0_t9_loop.trips)
    (arg12 v103 : BitVec 32) (v128 : FVec F S32x256 .bf16) (v130 : BitVec 32) (d : Fin k0_t10_loop.trips) (acc : FVec F S64x256 .f32) :
    inner32 c fs fq fw (t.val % 5) e lo u.val d.val acc ⊢ wp frame (wpE (defs₀ (F := F)) Variants.none (c : Thread nD τ) none) Set.univ
      (k0_t10_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v t (wd e) (wd lo) v16 hw4 v17 h2 v81 v89 u arg12 v103 v128 v130 d acc) (inner32 c fs fq fw (t.val % 5) e lo u.val (d.val + 1)) := by
  have hd : d.val < 19 := Nat.lt_of_lt_of_eq d.isLt t10_trips
  unfold inner32
  iintro ⟨Hs, Hx, Hw, %hp⟩
  unfold k0_t10_body
  rw [wp_bind, k0_part6_eq_skeleton]
  unfold k0_part6_skel
  dsimp only
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_sm1 (F := F) c (by decide) $$ Hs
  iintro Hs
  iapply wp_end c
  dsimp only
  rw [wp_bind]
  iapply wp_ld6 (F := F) c (fun _ _ => Finset.mem_univ _) $$ Hx
  iintro Hx
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_ld7 (F := F) c (mem_Rg (d := d.val + 1) (by omega) _ (off37_eq t ht u d)) $$ Hw
  iintro Hw
  iapply wp_end c
  isplitl [Hs]
  · iexact Hs
  isplitl [Hx]
  · iexact Hx
  isplitl [Hw]
  · iexact Hw
  ipureintro
  exact acc_step32 fs fq fw (t.val % 5) e lo u.val d.val he acc hp _ _ _ _ (off35_eq he u d 0 0) (off35_eq he u d 0 1) (off35_eq he u d 1 0) (off35_eq he u d 1 1)
    _ _ (off36_eq hlo d 0) (off36_eq hlo d 1) _ (off37_eq t ht u d)

/-- What a branch's loop over the chunks holds. -/
def branch32 (g : ℕ → ℕ) (fa : Buf (Elt F) ((c : Thread nD τ).loc cc0_scratch3)) (y : ℕ → S128x1536.Idx → Elt F .bf16) (a u : ℕ) : sProp 𝕄 :=
  iprop(((c : Thread nD τ).loc cc0_stg1_0 ↦{fullShare} fs) ∗ ((c : Thread nD τ).loc cc0_scratch1 ↦{fullShare} fq) ∗ ((c : Thread nD τ).loc cc0_scratch3 ↦{fullShare} fa) ∗
    ((c : Thread nD τ).loc cc0_stg2_0 ↦{fullShare} (y u : S128x1536.Idx → Elt F .bf16)) ∗ ring c fw (stDrain g a u) ∗ (∃ W, owes (c : Thread nD τ) (0 : CellTallies nD τ sig Unit) W))

/-- One chunk of a branch. -/
theorem chunk_step32 (g : ℕ → ℕ) (fa : Buf (Elt F) ((c : Thread nD τ).loc cc0_scratch3)) (hact : Act g 16 fa) (y : ℕ → S128x1536.Idx → Elt F .bf16)
    {v : BitVec 32} (t : Fin (k0_t6_loop v).trips) (ht : t.val < num g)
    (hy : ∀ u, y (u + 1) = chunk32 fs fq fw (ex g t.val) (lo g t.val) (hi g t.val) u (y u))
    (hw4 : k0_chk4 v t (wd (ex g t.val)) (wd (lo g t.val)) (wd (hi g t.val))) (arg11 v17 : BitVec 32) (h2 : k0_cond3 (wd (lo g t.val)) (wd (hi g t.val)) = 1#1) (v81 : BitVec 32)
    (u : Fin k0_t9_loop.trips) (acc : Unit) :
    branch32 c fs fq fw g fa y t.val u.val ⊢ wp frame (wpE (defs₀ (F := F)) Variants.none (c : Thread nD τ) none) Set.univ
      (k0_t9_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v t arg11 (wd (ex g t.val)) (wd (lo g t.val)) (wd (hi g t.val)) hw4 v17 (fl (wd (lo g t.val))) h2 v81 u acc)
      (fun _ => branch32 c fs fq fw g fa y t.val (u.val + 1)) := by
  have hu : u.val < 6 := Nat.lt_of_lt_of_eq u.isLt t9_trips
  have hn := num_lt g
  have ht17 : t.val < 17 := by omega
  have he := ex_lt g ht
  have hlo := lo_lt g t.val
  have hv : el (S := S3x17) pos_S3x17 fa (k0_off26 v t) = wd (ex g t.val) := by rw [off26_eq t ht17]; exact (hact t.val ht).1
  unfold branch32
  iintro ⟨Hs, Hx, Ha, Hy, HR, HO⟩
  unfold k0_t9_body
  rw [wp_bind, k0_part7_eq_skeleton]
  unfold k0_part7_skel
  dsimp only
  rw [wp_bind]
  iapply wp_sm8 (F := F) c (by decide) $$ Ha
  iintro Ha
  rw [hv]
  rw [wp_bind]
  iapply wp_chk (F := F) c (chk6_ok _ _ u he)
  rw [wp_bind]
  iapply arrive (F := F) g c fw t.val u.val hu ht (off27_eq t ht17 u) $$ [HR HO]
  · isplitl [HR]
    · iexact HR
    iexact HO
  iintro Hw Hback HO
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_sm1 (F := F) c (by decide) $$ Hs
  iintro Hs
  rw [wp_bind]
  iapply wp_ld6 (F := F) c (fun _ _ => Finset.mem_univ _) $$ Hx
  iintro Hx
  iapply wp_end c
  dsimp only
  rw [wp_bind, k0_part8_eq_skeleton]
  unfold k0_part8_skel
  dsimp only
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_ld7 (F := F) c (mem_Rg (d := 0) (by omega) _ (off34_eq t ht17 u)) $$ Hw
  iintro Hw
  rw [wp_bind]
  iapply wp_loop (F := F) c _ _ _ _ 19 t10_trips (fun d acc => inner32 c fs fq fw (t.val % 5) (ex g t.val) (lo g t.val) u.val d acc)
    (fun d acc _ => inner_step32 c fs fq fw t ht17 he hlo _ hw4 v17 h2 v81 _ u _ _ _ _ d acc) $$ [Hs Hx Hw]
  · unfold inner32
    isplitl [Hs]
    · iexact Hs
    isplitl [Hx]
    · iexact Hx
    isplitl [Hw]
    · iexact Hw
    ipureintro
    exact acc_first32 fs fq fw (t.val % 5) (ex g t.val) (lo g t.val) u.val he _ _ _ _ (off30_eq he u 0) (off32_eq he u 0) (off30_eq he u 1) (off32_eq he u 1)
      _ _ (off31_eq hlo) (off33_eq hlo) _ (off34_eq t ht17 u)
  iintro %a H
  unfold inner32
  icases H with ⟨Hs, Hx, Hw, %hp⟩
  rw [wp_bind]
  iapply wp_ld4 (F := F) c (fun _ _ => Finset.mem_univ _) $$ Hy
  iintro Hy
  rw [wp_bind]
  iapply wp_ld4 (F := F) c (fun _ _ => Finset.mem_univ _) $$ Hy
  iintro Hy
  rw [wp_bind]
  iapply wp_st4 (F := F) c $$ Hy
  iintro Hy
  iapply wp_end c
  iapply wp_end c
  isplitl [Hs]
  · iexact Hs
  isplitl [Hx]
  · iexact Hx
  isplitl [Ha]
  · iexact Ha
  isplitl [Hy]
  · rw [hy, ← chunk_eq32 fs fq fw (ex g t.val) (lo g t.val) (hi g t.val) u.val (y u.val) a hp _ (off38_eq hlo u)]
    iexact Hy
  isplitl [Hw Hback]
  · iapply Hback $$ Hw
  · iexact HO

/-- A branch, run. -/
theorem branch_run32 (g : ℕ → ℕ) (fa : Buf (Elt F) ((c : Thread nD τ).loc cc0_scratch3)) (hact : Act g 16 fa) (y : ℕ → S128x1536.Idx → Elt F .bf16)
    {v : BitVec 32} (t : Fin (k0_t6_loop v).trips) (ht : t.val < num g)
    (hy : ∀ u, y (u + 1) = chunk32 fs fq fw (ex g t.val) (lo g t.val) (hi g t.val) u (y u))
    (hw4 : k0_chk4 v t (wd (ex g t.val)) (wd (lo g t.val)) (wd (hi g t.val))) (arg11 v17 : BitVec 32) (h2 : k0_cond3 (wd (lo g t.val)) (wd (hi g t.val)) = 1#1) (v81 : BitVec 32)
    {Q : Unit → sProp 𝕄} :
    branch32 c fs fq fw g fa y t.val 0 ⊢ iprop((branch32 c fs fq fw g fa y t.val 6 -∗ Q ⟨⟩) -∗ wp frame (wpE (defs₀ (F := F)) Variants.none (c : Thread nD τ) none) Set.univ
      (Scf.Loop.for k0_t9_loop k0_t9_ok ⟨⟩ (k0_t9_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v t arg11 (wd (ex g t.val)) (wd (lo g t.val)) (wd (hi g t.val)) hw4 v17 (fl (wd (lo g t.val))) h2 v81)) Q) := by
  iintro H HQ
  iapply wp_loop (F := F) c _ _ _ _ 6 t9_trips (fun u _ => branch32 c fs fq fw g fa y t.val u)
    (fun u acc _ => chunk_step32 c fs fq fw g fa hact y t ht hy hw4 arg11 v17 h2 v81 u acc) $$ H
  iintro %acc H
  iapply HQ $$ H
end

end Cert.Kernel.Hand

end
-- ==== Proof.KBranch64.lean ====
/-
  What the branch of 64 rows computes, and its run.
-/
module

public import proofs.«01_k».proof.Proof.KTile

@[expose] public section

set_option maxRecDepth 16384

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-! ## The branch of 64 rows -/

/-- The branch's rows of a block of quantised tokens. -/
abbrev xr64 (fq : S128x5120.Idx → Elt F .bf16) (lo d : ℕ) : S64x128.Idx → Elt F .bf16 :=
  rd (S := S128x5120) pos_S128x5120 S64x128.size fq ![row64 lo, 128 * d]

/-- The running product after `d + 1` tiles. -/
def acc64 (fs : S16x12x40.Idx → Elt F .f32) (fq : S128x5120.Idx → Elt F .bf16) (fw : S16x1536x5120.Idx → Elt F .fp8e4m3) (e lo u : ℕ) : ℕ → FVec F S128x256 .f32
  | 0 => k0_pay34 (k0_pay33 (ws fs e (2 * u) 0) (xr64 fq lo 0) (ws fs e (2 * u) 1) (xr64 fq lo 1)) (ws fs e (2 * u + 1) 0) (xr64 fq lo 0)
      (ws fs e (2 * u + 1) 1) (xr64 fq lo 1) (wt fw e u 0)
  | d + 1 => k0_pay35 (acc64 fs fq fw e lo u d)
      (k0_pay31 (ws fs e (2 * u) (2 * (d + 1))) (xr64 fq lo (2 * (d + 1))) (ws fs e (2 * u) (2 * (d + 1) + 1)) (xr64 fq lo (2 * (d + 1) + 1)))
      (k0_pay32 (ws fs e (2 * u + 1) (2 * (d + 1)))) (xr64 fq lo (2 * (d + 1))) (ws fs e (2 * u + 1) (2 * (d + 1) + 1)) (xr64 fq lo (2 * (d + 1) + 1)) (wt fw e u (d + 1))

/-- What one chunk's branch makes of the result. -/
def chunk64 (fs : S16x12x40.Idx → Elt F .f32) (fq : S128x5120.Idx → Elt F .bf16) (fw : S16x1536x5120.Idx → Elt F .fp8e4m3) (e lo hi u : ℕ)
    (y : S128x1536.Idx → Elt F .bf16) : S128x1536.Idx → Elt F .bf16 :=
  wr (S := S128x1536) S64x256.size y ![row64 lo, 256 * u] (k0_pay36 (k0_pay5 (F := F) (wd lo) (wd hi) (fl (wd lo))) (acc64 fs fq fw e lo u 19)
    (rd (S := S128x1536) pos_S128x1536 S64x256.size y ![row64 lo, 256 * u]))

theorem acc_step64 (fs : S16x12x40.Idx → Elt F .f32) (fq : S128x5120.Idx → Elt F .bf16) (fw : S16x1536x5120.Idx → Elt F .fp8e4m3) (s e lo u d : ℕ) (he : e < 16) (a : FVec F S128x256 .f32)
    (ha : a = acc64 fs fq fw e lo u d) : ∀ w00 w01 w10 w11 : Fin 3 → ℕ, w00 = ![e, 2 * u, 2 * (d + 1)] → w01 = ![e, 2 * u, 2 * (d + 1) + 1] →
      w10 = ![e, 2 * u + 1, 2 * (d + 1)] → w11 = ![e, 2 * u + 1, 2 * (d + 1) + 1] →
      ∀ x0 x1 : Fin 2 → ℕ, x0 = ![row64 lo, 128 * (2 * (d + 1))] → x1 = ![row64 lo, 128 * (2 * (d + 1) + 1)] → ∀ t, t = ![s, 256 * u, 256 * (d + 1)] →
      k0_pay35 a (k0_pay31 (el (S := S16x12x40) pos_S16x12x40 fs w00) (rd (S := S128x5120) pos_S128x5120 S64x128.size fq x0)
          (el (S := S16x12x40) pos_S16x12x40 fs w01) (rd (S := S128x5120) pos_S128x5120 S64x128.size fq x1))
        (k0_pay32 (el (S := S16x12x40) pos_S16x12x40 fs w10)) (rd (S := S128x5120) pos_S128x5120 S64x128.size fq x0) (el (S := S16x12x40) pos_S16x12x40 fs w11)
        (rd (S := S128x5120) pos_S128x5120 S64x128.size fq x1) (rd (S := S5x1536x5120) pos_S5x1536x5120 S1x256x256.size (G fw e) t) = acc64 fs fq fw e lo u (d + 1) := by
  rintro _ _ _ _ rfl rfl rfl rfl _ _ rfl rfl t ht
  rw [rd_G fw e s u (d + 1) he t ht, ha]
  rfl

theorem acc_first64 (fs : S16x12x40.Idx → Elt F .f32) (fq : S128x5120.Idx → Elt F .bf16) (fw : S16x1536x5120.Idx → Elt F .fp8e4m3) (s e lo u : ℕ) (he : e < 16) :
    ∀ w00 w01 w10 w11 : Fin 3 → ℕ, w00 = ![e, 2 * u, 0] → w01 = ![e, 2 * u, 1] → w10 = ![e, 2 * u + 1, 0] → w11 = ![e, 2 * u + 1, 1] →
      ∀ x0 x1 : Fin 2 → ℕ, x0 = ![row64 lo, 0] → x1 = ![row64 lo, 128] → ∀ t, t = ![s, 256 * u, 0] →
      k0_pay34 (k0_pay33 (el (S := S16x12x40) pos_S16x12x40 fs w00) (rd (S := S128x5120) pos_S128x5120 S64x128.size fq x0)
          (el (S := S16x12x40) pos_S16x12x40 fs w01) (rd (S := S128x5120) pos_S128x5120 S64x128.size fq x1))
        (el (S := S16x12x40) pos_S16x12x40 fs w10) (rd (S := S128x5120) pos_S128x5120 S64x128.size fq x0) (el (S := S16x12x40) pos_S16x12x40 fs w11)
        (rd (S := S128x5120) pos_S128x5120 S64x128.size fq x1) (rd (S := S5x1536x5120) pos_S5x1536x5120 S1x256x256.size (G fw e) t) = acc64 fs fq fw e lo u 0 := by
  rintro _ _ _ _ rfl rfl rfl rfl _ _ rfl rfl t ht
  rw [rd_G fw e s u 0 he t ht]
  rfl

theorem chunk_eq64 (fs : S16x12x40.Idx → Elt F .f32) (fq : S128x5120.Idx → Elt F .bf16) (fw : S16x1536x5120.Idx → Elt F .fp8e4m3) (e lo hi u : ℕ)
    (y : S128x1536.Idx → Elt F .bf16) (a : FVec F S128x256 .f32) (ha : a = acc64 fs fq fw e lo u 19) : ∀ o, o = ![row64 lo, 256 * u] →
    wr (S := S128x1536) S64x256.size y o (k0_pay36 (k0_pay5 (F := F) (wd lo) (wd hi) (fl (wd lo))) a (rd (S := S128x1536) pos_S128x1536 S64x256.size y o))
      = chunk64 fs fq fw e lo hi u y := by
  rintro _ rfl
  rw [ha]; rfl

/-- What the product's loop holds. -/
def inner64 (c : Dev nD) (fs : Buf (Elt F) ((c : Thread nD τ).loc cc0_stg1_0)) (fq : Buf (Elt F) ((c : Thread nD τ).loc cc0_scratch1)) (fw : Buf (Elt F) ((c : Thread nD τ).loc main_arg2))
    (s e lo u d : ℕ) (acc : FVec F S128x256 .f32) : sProp 𝕄 :=
  iprop(((c : Thread nD τ).loc cc0_stg1_0 ↦{fullShare} fs) ∗ ((c : Thread nD τ).loc cc0_scratch1 ↦{fullShare} fq) ∗
    ((c : Thread nD τ).loc cc0_scratch2 ↦[Rg s u]{fullShare} (G fw e : S5x1536x5120.Idx → Elt F .fp8e4m3)) ∗ ⌜acc = acc64 fs fq fw e lo u d⌝)

section
variable (c : Dev nD) (fs : Buf (Elt F) ((c : Thread nD τ).loc cc0_stg1_0)) (fq : Buf (Elt F) ((c : Thread nD τ).loc cc0_scratch1)) (fw : Buf (Elt F) ((c : Thread nD τ).loc main_arg2))

/-- One tile of the product. -/
theorem inner_step64 {v : BitVec 32} (t : Fin (k0_t6_loop v).trips) (ht : t.val < 17) {e lo : ℕ} (he : e < 16) (hlo : lo < 129) (v16 : BitVec 32)
    (hw4 : k0_chk4 v t (wd e) (wd lo) v16) (v17 : BitVec 32) (h2 : k0_cond4 (wd lo) v16 = 1#1) (v81 : BitVec 32) (v89 : IVec S64x1 1) (u : Fin k0_t11_loop.trips)
    (arg12 v103 : BitVec 32) (v128 : FVec F S64x256 .bf16) (v130 : BitVec 32) (d : Fin k0_t12_loop.trips) (acc : FVec F S128x256 .f32) :
    inner64 c fs fq fw (t.val % 5) e lo u.val d.val acc ⊢ wp frame (wpE (defs₀ (F := F)) Variants.none (c : Thread nD τ) none) Set.univ
      (k0_t12_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v t (wd e) (wd lo) v16 hw4 v17 h2 v81 v89 u arg12 v103 v128 v130 d acc) (inner64 c fs fq fw (t.val % 5) e lo u.val (d.val + 1)) := by
  have hd : d.val < 19 := Nat.lt_of_lt_of_eq d.isLt t12_trips
  unfold inner64
  iintro ⟨Hs, Hx, Hw, %hp⟩
  unfold k0_t12_body
  rw [wp_bind, k0_part9_eq_skeleton]
  unfold k0_part9_skel
  dsimp only
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_sm1 (F := F) c (by decide) $$ Hs
  iintro Hs
  iapply wp_end c
  dsimp only
  rw [wp_bind]
  iapply wp_ld6 (F := F) c (fun _ _ => Finset.mem_univ _) $$ Hx
  iintro Hx
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_ld7 (F := F) c (mem_Rg (d := d.val + 1) (by omega) _ (off50_eq t ht u d)) $$ Hw
  iintro Hw
  iapply wp_end c
  isplitl [Hs]
  · iexact Hs
  isplitl [Hx]
  · iexact Hx
  isplitl [Hw]
  · iexact Hw
  ipureintro
  exact acc_step64 fs fq fw (t.val % 5) e lo u.val d.val he acc hp _ _ _ _ (off48_eq he u d 0 0) (off48_eq he u d 0 1) (off48_eq he u d 1 0) (off48_eq he u d 1 1)
    _ _ (off49_eq hlo d 0) (off49_eq hlo d 1) _ (off50_eq t ht u d)

/-- What a branch's loop over the chunks holds. -/
def branch64 (g : ℕ → ℕ) (fa : Buf (Elt F) ((c : Thread nD τ).loc cc0_scratch3)) (y : ℕ → S128x1536.Idx → Elt F .bf16) (a u : ℕ) : sProp 𝕄 :=
  iprop(((c : Thread nD τ).loc cc0_stg1_0 ↦{fullShare} fs) ∗ ((c : Thread nD τ).loc cc0_scratch1 ↦{fullShare} fq) ∗ ((c : Thread nD τ).loc cc0_scratch3 ↦{fullShare} fa) ∗
    ((c : Thread nD τ).loc cc0_stg2_0 ↦{fullShare} (y u : S128x1536.Idx → Elt F .bf16)) ∗ ring c fw (stDrain g a u) ∗ (∃ W, owes (c : Thread nD τ) (0 : CellTallies nD τ sig Unit) W))

/-- One chunk of a branch. -/
theorem chunk_step64 (g : ℕ → ℕ) (fa : Buf (Elt F) ((c : Thread nD τ).loc cc0_scratch3)) (hact : Act g 16 fa) (y : ℕ → S128x1536.Idx → Elt F .bf16)
    {v : BitVec 32} (t : Fin (k0_t6_loop v).trips) (ht : t.val < num g)
    (hy : ∀ u, y (u + 1) = chunk64 fs fq fw (ex g t.val) (lo g t.val) (hi g t.val) u (y u))
    (hw4 : k0_chk4 v t (wd (ex g t.val)) (wd (lo g t.val)) (wd (hi g t.val))) (arg11 v17 : BitVec 32) (h2 : k0_cond4 (wd (lo g t.val)) (wd (hi g t.val)) = 1#1) (v81 : BitVec 32)
    (u : Fin k0_t11_loop.trips) (acc : Unit) :
    branch64 c fs fq fw g fa y t.val u.val ⊢ wp frame (wpE (defs₀ (F := F)) Variants.none (c : Thread nD τ) none) Set.univ
      (k0_t11_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v t arg11 (wd (ex g t.val)) (wd (lo g t.val)) (wd (hi g t.val)) hw4 v17 (fl (wd (lo g t.val))) h2 v81 u acc)
      (fun _ => branch64 c fs fq fw g fa y t.val (u.val + 1)) := by
  have hu : u.val < 6 := Nat.lt_of_lt_of_eq u.isLt t11_trips
  have hn := num_lt g
  have ht17 : t.val < 17 := by omega
  have he := ex_lt g ht
  have hlo := lo_lt g t.val
  have hv : el (S := S3x17) pos_S3x17 fa (k0_off39 v t) = wd (ex g t.val) := by rw [off39_eq t ht17]; exact (hact t.val ht).1
  unfold branch64
  iintro ⟨Hs, Hx, Ha, Hy, HR, HO⟩
  unfold k0_t11_body
  rw [wp_bind, k0_part10_eq_skeleton]
  unfold k0_part10_skel
  dsimp only
  rw [wp_bind]
  iapply wp_sm8 (F := F) c (by decide) $$ Ha
  iintro Ha
  rw [hv]
  rw [wp_bind]
  iapply wp_chk (F := F) c (chk7_ok _ _ u he)
  rw [wp_bind]
  iapply arrive (F := F) g c fw t.val u.val hu ht (off40_eq t ht17 u) $$ [HR HO]
  · isplitl [HR]
    · iexact HR
    iexact HO
  iintro Hw Hback HO
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_sm1 (F := F) c (by decide) $$ Hs
  iintro Hs
  rw [wp_bind]
  iapply wp_ld6 (F := F) c (fun _ _ => Finset.mem_univ _) $$ Hx
  iintro Hx
  iapply wp_end c
  dsimp only
  rw [wp_bind, k0_part11_eq_skeleton]
  unfold k0_part11_skel
  dsimp only
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_ld7 (F := F) c (mem_Rg (d := 0) (by omega) _ (off47_eq t ht17 u)) $$ Hw
  iintro Hw
  rw [wp_bind]
  iapply wp_loop (F := F) c _ _ _ _ 19 t12_trips (fun d acc => inner64 c fs fq fw (t.val % 5) (ex g t.val) (lo g t.val) u.val d acc)
    (fun d acc _ => inner_step64 c fs fq fw t ht17 he hlo _ hw4 v17 h2 v81 _ u _ _ _ _ d acc) $$ [Hs Hx Hw]
  · unfold inner64
    isplitl [Hs]
    · iexact Hs
    isplitl [Hx]
    · iexact Hx
    isplitl [Hw]
    · iexact Hw
    ipureintro
    exact acc_first64 fs fq fw (t.val % 5) (ex g t.val) (lo g t.val) u.val he _ _ _ _ (off43_eq he u 0) (off45_eq he u 0) (off43_eq he u 1) (off45_eq he u 1)
      _ _ (off44_eq hlo) (off46_eq hlo) _ (off47_eq t ht17 u)
  iintro %a H
  unfold inner64
  icases H with ⟨Hs, Hx, Hw, %hp⟩
  rw [wp_bind]
  iapply wp_ld4 (F := F) c (fun _ _ => Finset.mem_univ _) $$ Hy
  iintro Hy
  rw [wp_bind]
  iapply wp_ld4 (F := F) c (fun _ _ => Finset.mem_univ _) $$ Hy
  iintro Hy
  rw [wp_bind]
  iapply wp_st4 (F := F) c $$ Hy
  iintro Hy
  iapply wp_end c
  iapply wp_end c
  isplitl [Hs]
  · iexact Hs
  isplitl [Hx]
  · iexact Hx
  isplitl [Ha]
  · iexact Ha
  isplitl [Hy]
  · rw [hy, ← chunk_eq64 fs fq fw (ex g t.val) (lo g t.val) (hi g t.val) u.val (y u.val) a hp _ (off51_eq hlo u)]
    iexact Hy
  isplitl [Hw Hback]
  · iapply Hback $$ Hw
  · iexact HO

/-- A branch, run. -/
theorem branch_run64 (g : ℕ → ℕ) (fa : Buf (Elt F) ((c : Thread nD τ).loc cc0_scratch3)) (hact : Act g 16 fa) (y : ℕ → S128x1536.Idx → Elt F .bf16)
    {v : BitVec 32} (t : Fin (k0_t6_loop v).trips) (ht : t.val < num g)
    (hy : ∀ u, y (u + 1) = chunk64 fs fq fw (ex g t.val) (lo g t.val) (hi g t.val) u (y u))
    (hw4 : k0_chk4 v t (wd (ex g t.val)) (wd (lo g t.val)) (wd (hi g t.val))) (arg11 v17 : BitVec 32) (h2 : k0_cond4 (wd (lo g t.val)) (wd (hi g t.val)) = 1#1) (v81 : BitVec 32)
    {Q : Unit → sProp 𝕄} :
    branch64 c fs fq fw g fa y t.val 0 ⊢ iprop((branch64 c fs fq fw g fa y t.val 6 -∗ Q ⟨⟩) -∗ wp frame (wpE (defs₀ (F := F)) Variants.none (c : Thread nD τ) none) Set.univ
      (Scf.Loop.for k0_t11_loop k0_t11_ok ⟨⟩ (k0_t11_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v t arg11 (wd (ex g t.val)) (wd (lo g t.val)) (wd (hi g t.val)) hw4 v17 (fl (wd (lo g t.val))) h2 v81)) Q) := by
  iintro H HQ
  iapply wp_loop (F := F) c _ _ _ _ 6 t11_trips (fun u _ => branch64 c fs fq fw g fa y t.val u)
    (fun u acc _ => chunk_step64 c fs fq fw g fa hact y t ht hy hw4 arg11 v17 h2 v81 u acc) $$ H
  iintro %acc H
  iapply HQ $$ H
end

end Cert.Kernel.Hand

end
-- ==== Proof.KBranch128.lean ====
/-
  What the branch of 128 rows computes, and its run.
-/
module

public import proofs.«01_k».proof.Proof.KTile

@[expose] public section

set_option maxRecDepth 16384

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-! ## The branch of 128 rows -/

/-- The branch's rows of a block of quantised tokens. -/
abbrev xr128 (fq : S128x5120.Idx → Elt F .bf16) (lo d : ℕ) : S128x128.Idx → Elt F .bf16 :=
  rd (S := S128x5120) pos_S128x5120 S128x128.size fq ![row128 lo, 128 * d]

/-- The running product after `d + 1` tiles. -/
def acc128 (fs : S16x12x40.Idx → Elt F .f32) (fq : S128x5120.Idx → Elt F .bf16) (fw : S16x1536x5120.Idx → Elt F .fp8e4m3) (e lo u : ℕ) : ℕ → FVec F S256x256 .f32
  | 0 => k0_pay40 (k0_pay39 (ws fs e (2 * u) 0) (xr128 fq lo 0) (ws fs e (2 * u) 1) (xr128 fq lo 1)) (ws fs e (2 * u + 1) 0) (xr128 fq lo 0)
      (ws fs e (2 * u + 1) 1) (xr128 fq lo 1) (wt fw e u 0)
  | d + 1 => k0_pay41 (acc128 fs fq fw e lo u d)
      (k0_pay37 (ws fs e (2 * u) (2 * (d + 1))) (xr128 fq lo (2 * (d + 1))) (ws fs e (2 * u) (2 * (d + 1) + 1)) (xr128 fq lo (2 * (d + 1) + 1)))
      (k0_pay38 (ws fs e (2 * u + 1) (2 * (d + 1)))) (xr128 fq lo (2 * (d + 1))) (ws fs e (2 * u + 1) (2 * (d + 1) + 1)) (xr128 fq lo (2 * (d + 1) + 1)) (wt fw e u (d + 1))

/-- What one chunk's branch makes of the result. -/
def chunk128 (fs : S16x12x40.Idx → Elt F .f32) (fq : S128x5120.Idx → Elt F .bf16) (fw : S16x1536x5120.Idx → Elt F .fp8e4m3) (e lo hi u : ℕ)
    (y : S128x1536.Idx → Elt F .bf16) : S128x1536.Idx → Elt F .bf16 :=
  wr (S := S128x1536) S128x256.size y ![row128 lo, 256 * u] (k0_pay42 (k0_pay6 (F := F) (wd lo) (wd hi) (fl (wd lo))) (acc128 fs fq fw e lo u 19)
    (rd (S := S128x1536) pos_S128x1536 S128x256.size y ![row128 lo, 256 * u]))

theorem acc_step128 (fs : S16x12x40.Idx → Elt F .f32) (fq : S128x5120.Idx → Elt F .bf16) (fw : S16x1536x5120.Idx → Elt F .fp8e4m3) (s e lo u d : ℕ) (he : e < 16) (a : FVec F S256x256 .f32)
    (ha : a = acc128 fs fq fw e lo u d) : ∀ w00 w01 w10 w11 : Fin 3 → ℕ, w00 = ![e, 2 * u, 2 * (d + 1)] → w01 = ![e, 2 * u, 2 * (d + 1) + 1] →
      w10 = ![e, 2 * u + 1, 2 * (d + 1)] → w11 = ![e, 2 * u + 1, 2 * (d + 1) + 1] →
      ∀ x0 x1 : Fin 2 → ℕ, x0 = ![row128 lo, 128 * (2 * (d + 1))] → x1 = ![row128 lo, 128 * (2 * (d + 1) + 1)] → ∀ t, t = ![s, 256 * u, 256 * (d + 1)] →
      k0_pay41 a (k0_pay37 (el (S := S16x12x40) pos_S16x12x40 fs w00) (rd (S := S128x5120) pos_S128x5120 S128x128.size fq x0)
          (el (S := S16x12x40) pos_S16x12x40 fs w01) (rd (S := S128x5120) pos_S128x5120 S128x128.size fq x1))
        (k0_pay38 (el (S := S16x12x40) pos_S16x12x40 fs w10)) (rd (S := S128x5120) pos_S128x5120 S128x128.size fq x0) (el (S := S16x12x40) pos_S16x12x40 fs w11)
        (rd (S := S128x5120) pos_S128x5120 S128x128.size fq x1) (rd (S := S5x1536x5120) pos_S5x1536x5120 S1x256x256.size (G fw e) t) = acc128 fs fq fw e lo u (d + 1) := by
  rintro _ _ _ _ rfl rfl rfl rfl _ _ rfl rfl t ht
  rw [rd_G fw e s u (d + 1) he t ht, ha]
  rfl

theorem acc_first128 (fs : S16x12x40.Idx → Elt F .f32) (fq : S128x5120.Idx → Elt F .bf16) (fw : S16x1536x5120.Idx → Elt F .fp8e4m3) (s e lo u : ℕ) (he : e < 16) :
    ∀ w00 w01 w10 w11 : Fin 3 → ℕ, w00 = ![e, 2 * u, 0] → w01 = ![e, 2 * u, 1] → w10 = ![e, 2 * u + 1, 0] → w11 = ![e, 2 * u + 1, 1] →
      ∀ x0 x1 : Fin 2 → ℕ, x0 = ![row128 lo, 0] → x1 = ![row128 lo, 128] → ∀ t, t = ![s, 256 * u, 0] →
      k0_pay40 (k0_pay39 (el (S := S16x12x40) pos_S16x12x40 fs w00) (rd (S := S128x5120) pos_S128x5120 S128x128.size fq x0)
          (el (S := S16x12x40) pos_S16x12x40 fs w01) (rd (S := S128x5120) pos_S128x5120 S128x128.size fq x1))
        (el (S := S16x12x40) pos_S16x12x40 fs w10) (rd (S := S128x5120) pos_S128x5120 S128x128.size fq x0) (el (S := S16x12x40) pos_S16x12x40 fs w11)
        (rd (S := S128x5120) pos_S128x5120 S128x128.size fq x1) (rd (S := S5x1536x5120) pos_S5x1536x5120 S1x256x256.size (G fw e) t) = acc128 fs fq fw e lo u 0 := by
  rintro _ _ _ _ rfl rfl rfl rfl _ _ rfl rfl t ht
  rw [rd_G fw e s u 0 he t ht]
  rfl

theorem chunk_eq128 (fs : S16x12x40.Idx → Elt F .f32) (fq : S128x5120.Idx → Elt F .bf16) (fw : S16x1536x5120.Idx → Elt F .fp8e4m3) (e lo hi u : ℕ)
    (y : S128x1536.Idx → Elt F .bf16) (a : FVec F S256x256 .f32) (ha : a = acc128 fs fq fw e lo u 19) : ∀ o, o = ![row128 lo, 256 * u] →
    wr (S := S128x1536) S128x256.size y o (k0_pay42 (k0_pay6 (F := F) (wd lo) (wd hi) (fl (wd lo))) a (rd (S := S128x1536) pos_S128x1536 S128x256.size y o))
      = chunk128 fs fq fw e lo hi u y := by
  rintro _ rfl
  rw [ha]; rfl

/-- What the product's loop holds. -/
def inner128 (c : Dev nD) (fs : Buf (Elt F) ((c : Thread nD τ).loc cc0_stg1_0)) (fq : Buf (Elt F) ((c : Thread nD τ).loc cc0_scratch1)) (fw : Buf (Elt F) ((c : Thread nD τ).loc main_arg2))
    (s e lo u d : ℕ) (acc : FVec F S256x256 .f32) : sProp 𝕄 :=
  iprop(((c : Thread nD τ).loc cc0_stg1_0 ↦{fullShare} fs) ∗ ((c : Thread nD τ).loc cc0_scratch1 ↦{fullShare} fq) ∗
    ((c : Thread nD τ).loc cc0_scratch2 ↦[Rg s u]{fullShare} (G fw e : S5x1536x5120.Idx → Elt F .fp8e4m3)) ∗ ⌜acc = acc128 fs fq fw e lo u d⌝)

section
variable (c : Dev nD) (fs : Buf (Elt F) ((c : Thread nD τ).loc cc0_stg1_0)) (fq : Buf (Elt F) ((c : Thread nD τ).loc cc0_scratch1)) (fw : Buf (Elt F) ((c : Thread nD τ).loc main_arg2))

/-- One tile of the product. -/
theorem inner_step128 {v : BitVec 32} (t : Fin (k0_t6_loop v).trips) (ht : t.val < 17) {e lo : ℕ} (he : e < 16) (hlo : lo < 129) (v16 : BitVec 32)
    (hw4 : k0_chk4 v t (wd e) (wd lo) v16) (v17 : BitVec 32) (h2 : k0_cond5 (wd lo) v16 = 1#1) (v81 : BitVec 32) (v89 : IVec S128x1 1) (u : Fin k0_t13_loop.trips)
    (arg12 v103 : BitVec 32) (v128 : FVec F S128x256 .bf16) (v130 : BitVec 32) (d : Fin k0_t14_loop.trips) (acc : FVec F S256x256 .f32) :
    inner128 c fs fq fw (t.val % 5) e lo u.val d.val acc ⊢ wp frame (wpE (defs₀ (F := F)) Variants.none (c : Thread nD τ) none) Set.univ
      (k0_t14_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v t (wd e) (wd lo) v16 hw4 v17 h2 v81 v89 u arg12 v103 v128 v130 d acc) (inner128 c fs fq fw (t.val % 5) e lo u.val (d.val + 1)) := by
  have hd : d.val < 19 := Nat.lt_of_lt_of_eq d.isLt t14_trips
  unfold inner128
  iintro ⟨Hs, Hx, Hw, %hp⟩
  unfold k0_t14_body
  rw [wp_bind, k0_part12_eq_skeleton]
  unfold k0_part12_skel
  dsimp only
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_sm1 (F := F) c (by decide) $$ Hs
  iintro Hs
  iapply wp_end c
  dsimp only
  rw [wp_bind]
  iapply wp_ld6 (F := F) c (fun _ _ => Finset.mem_univ _) $$ Hx
  iintro Hx
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_ld7 (F := F) c (mem_Rg (d := d.val + 1) (by omega) _ (off63_eq t ht u d)) $$ Hw
  iintro Hw
  iapply wp_end c
  isplitl [Hs]
  · iexact Hs
  isplitl [Hx]
  · iexact Hx
  isplitl [Hw]
  · iexact Hw
  ipureintro
  exact acc_step128 fs fq fw (t.val % 5) e lo u.val d.val he acc hp _ _ _ _ (off61_eq he u d 0 0) (off61_eq he u d 0 1) (off61_eq he u d 1 0) (off61_eq he u d 1 1)
    _ _ (off62_eq hlo d 0) (off62_eq hlo d 1) _ (off63_eq t ht u d)

/-- What a branch's loop over the chunks holds. -/
def branch128 (g : ℕ → ℕ) (fa : Buf (Elt F) ((c : Thread nD τ).loc cc0_scratch3)) (y : ℕ → S128x1536.Idx → Elt F .bf16) (a u : ℕ) : sProp 𝕄 :=
  iprop(((c : Thread nD τ).loc cc0_stg1_0 ↦{fullShare} fs) ∗ ((c : Thread nD τ).loc cc0_scratch1 ↦{fullShare} fq) ∗ ((c : Thread nD τ).loc cc0_scratch3 ↦{fullShare} fa) ∗
    ((c : Thread nD τ).loc cc0_stg2_0 ↦{fullShare} (y u : S128x1536.Idx → Elt F .bf16)) ∗ ring c fw (stDrain g a u) ∗ (∃ W, owes (c : Thread nD τ) (0 : CellTallies nD τ sig Unit) W))

/-- One chunk of a branch. -/
theorem chunk_step128 (g : ℕ → ℕ) (fa : Buf (Elt F) ((c : Thread nD τ).loc cc0_scratch3)) (hact : Act g 16 fa) (y : ℕ → S128x1536.Idx → Elt F .bf16)
    {v : BitVec 32} (t : Fin (k0_t6_loop v).trips) (ht : t.val < num g)
    (hy : ∀ u, y (u + 1) = chunk128 fs fq fw (ex g t.val) (lo g t.val) (hi g t.val) u (y u))
    (hw4 : k0_chk4 v t (wd (ex g t.val)) (wd (lo g t.val)) (wd (hi g t.val))) (arg11 v17 : BitVec 32) (h2 : k0_cond5 (wd (lo g t.val)) (wd (hi g t.val)) = 1#1) (v81 : BitVec 32)
    (u : Fin k0_t13_loop.trips) (acc : Unit) :
    branch128 c fs fq fw g fa y t.val u.val ⊢ wp frame (wpE (defs₀ (F := F)) Variants.none (c : Thread nD τ) none) Set.univ
      (k0_t13_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v t arg11 (wd (ex g t.val)) (wd (lo g t.val)) (wd (hi g t.val)) hw4 v17 (fl (wd (lo g t.val))) h2 v81 u acc)
      (fun _ => branch128 c fs fq fw g fa y t.val (u.val + 1)) := by
  have hu : u.val < 6 := Nat.lt_of_lt_of_eq u.isLt t13_trips
  have hn := num_lt g
  have ht17 : t.val < 17 := by omega
  have he := ex_lt g ht
  have hlo := lo_lt g t.val
  have hv : el (S := S3x17) pos_S3x17 fa (k0_off52 v t) = wd (ex g t.val) := by rw [off52_eq t ht17]; exact (hact t.val ht).1
  unfold branch128
  iintro ⟨Hs, Hx, Ha, Hy, HR, HO⟩
  unfold k0_t13_body
  rw [wp_bind, k0_part13_eq_skeleton]
  unfold k0_part13_skel
  dsimp only
  rw [wp_bind]
  iapply wp_sm8 (F := F) c (by decide) $$ Ha
  iintro Ha
  rw [hv]
  rw [wp_bind]
  iapply wp_chk (F := F) c (chk8_ok _ _ u he)
  rw [wp_bind]
  iapply arrive (F := F) g c fw t.val u.val hu ht (off53_eq t ht17 u) $$ [HR HO]
  · isplitl [HR]
    · iexact HR
    iexact HO
  iintro Hw Hback HO
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_sm1 (F := F) c (by decide) $$ Hs
  iintro Hs
  rw [wp_bind]
  iapply wp_ld6 (F := F) c (fun _ _ => Finset.mem_univ _) $$ Hx
  iintro Hx
  iapply wp_end c
  dsimp only
  rw [wp_bind, k0_part14_eq_skeleton]
  unfold k0_part14_skel
  dsimp only
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_ld7 (F := F) c (mem_Rg (d := 0) (by omega) _ (off60_eq t ht17 u)) $$ Hw
  iintro Hw
  rw [wp_bind]
  iapply wp_loop (F := F) c _ _ _ _ 19 t14_trips (fun d acc => inner128 c fs fq fw (t.val % 5) (ex g t.val) (lo g t.val) u.val d acc)
    (fun d acc _ => inner_step128 c fs fq fw t ht17 he hlo _ hw4 v17 h2 v81 _ u _ _ _ _ d acc) $$ [Hs Hx Hw]
  · unfold inner128
    isplitl [Hs]
    · iexact Hs
    isplitl [Hx]
    · iexact Hx
    isplitl [Hw]
    · iexact Hw
    ipureintro
    exact acc_first128 fs fq fw (t.val % 5) (ex g t.val) (lo g t.val) u.val he _ _ _ _ (off56_eq he u 0) (off58_eq he u 0) (off56_eq he u 1) (off58_eq he u 1)
      _ _ (off57_eq hlo) (off59_eq hlo) _ (off60_eq t ht17 u)
  iintro %a H
  unfold inner128
  icases H with ⟨Hs, Hx, Hw, %hp⟩
  rw [wp_bind]
  iapply wp_ld4 (F := F) c (fun _ _ => Finset.mem_univ _) $$ Hy
  iintro Hy
  rw [wp_bind]
  iapply wp_ld4 (F := F) c (fun _ _ => Finset.mem_univ _) $$ Hy
  iintro Hy
  rw [wp_bind]
  iapply wp_st4 (F := F) c $$ Hy
  iintro Hy
  iapply wp_end c
  iapply wp_end c
  isplitl [Hs]
  · iexact Hs
  isplitl [Hx]
  · iexact Hx
  isplitl [Ha]
  · iexact Ha
  isplitl [Hy]
  · rw [hy, ← chunk_eq128 fs fq fw (ex g t.val) (lo g t.val) (hi g t.val) u.val (y u.val) a hp _ (off64_eq hlo u)]
    iexact Hy
  isplitl [Hw Hback]
  · iapply Hback $$ Hw
  · iexact HO

/-- A branch, run. -/
theorem branch_run128 (g : ℕ → ℕ) (fa : Buf (Elt F) ((c : Thread nD τ).loc cc0_scratch3)) (hact : Act g 16 fa) (y : ℕ → S128x1536.Idx → Elt F .bf16)
    {v : BitVec 32} (t : Fin (k0_t6_loop v).trips) (ht : t.val < num g)
    (hy : ∀ u, y (u + 1) = chunk128 fs fq fw (ex g t.val) (lo g t.val) (hi g t.val) u (y u))
    (hw4 : k0_chk4 v t (wd (ex g t.val)) (wd (lo g t.val)) (wd (hi g t.val))) (arg11 v17 : BitVec 32) (h2 : k0_cond5 (wd (lo g t.val)) (wd (hi g t.val)) = 1#1) (v81 : BitVec 32)
    {Q : Unit → sProp 𝕄} :
    branch128 c fs fq fw g fa y t.val 0 ⊢ iprop((branch128 c fs fq fw g fa y t.val 6 -∗ Q ⟨⟩) -∗ wp frame (wpE (defs₀ (F := F)) Variants.none (c : Thread nD τ) none) Set.univ
      (Scf.Loop.for k0_t13_loop k0_t13_ok ⟨⟩ (k0_t13_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v t arg11 (wd (ex g t.val)) (wd (lo g t.val)) (wd (hi g t.val)) hw4 v17 (fl (wd (lo g t.val))) h2 v81)) Q) := by
  iintro H HQ
  iapply wp_loop (F := F) c _ _ _ _ 6 t13_trips (fun u _ => branch128 c fs fq fw g fa y t.val u)
    (fun u acc _ => chunk_step128 c fs fq fw g fa hact y t ht hy hw4 arg11 v17 h2 v81 u acc) $$ H
  iintro %acc H
  iapply HQ $$ H
end

end Cert.Kernel.Hand

end
-- ==== Proof.KSegment.lean ====
/-
  One segment: its branch, and the copies it starts; and all of them.
-/
module

public import proofs.«01_k».proof.Proof.KBranch16
public import proofs.«01_k».proof.Proof.KBranch32
public import proofs.«01_k».proof.Proof.KBranch64
public import proofs.«01_k».proof.Proof.KBranch128

@[expose] public section

set_option maxRecDepth 16384

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- `f` at the first `n` numbers, one after the other. -/
def iter {α : Type} (f : ℕ → α → α) : ℕ → α → α
  | 0, y => y
  | n + 1, y => f n (iter f n y)

/-- What one segment makes of the result: the branch its tiles choose. -/
def seg (fs : S16x12x40.Idx → Elt F .f32) (fq : S128x5120.Idx → Elt F .bf16) (fw : S16x1536x5120.Idx → Elt F .fp8e4m3) (e lo hi : ℕ)
    (y : S128x1536.Idx → Elt F .bf16) : S128x1536.Idx → Elt F .bf16 :=
  if tiles lo hi ≤ 1 then iter (chunk16 fs fq fw e lo hi) 6 y
  else if tiles lo hi ≤ 2 then iter (chunk32 fs fq fw e lo hi) 6 y
  else if tiles lo hi ≤ 4 then iter (chunk64 fs fq fw e lo hi) 6 y
  else iter (chunk128 fs fq fw e lo hi) 6 y

/-- The result after `n` segments. -/
def Y (fs : S16x12x40.Idx → Elt F .f32) (fq : S128x5120.Idx → Elt F .bf16) (fw : S16x1536x5120.Idx → Elt F .fp8e4m3) (g : ℕ → ℕ) (n : ℕ) :
    S128x1536.Idx → Elt F .bf16 :=
  iter (fun j => seg fs fq fw (ex g j) (lo g j) (hi g j)) n (k0_pay1 (F := F))

section
variable (c : Dev nD) (fs : Buf (Elt F) ((c : Thread nD τ).loc cc0_stg1_0)) (fq : Buf (Elt F) ((c : Thread nD τ).loc cc0_scratch1)) (fw : Buf (Elt F) ((c : Thread nD τ).loc main_arg2))
  (g : ℕ → ℕ) (fa : Buf (Elt F) ((c : Thread nD τ).loc cc0_scratch3)) (hact : Act g 16 fa)
include hact

/-- What the segments' loop holds. -/
def segInv (a : ℕ) (y : S128x1536.Idx → Elt F .bf16) : sProp 𝕄 :=
  iprop(((c : Thread nD τ).loc cc0_stg1_0 ↦{fullShare} fs) ∗ ((c : Thread nD τ).loc cc0_scratch1 ↦{fullShare} fq) ∗ ((c : Thread nD τ).loc cc0_scratch3 ↦{fullShare} fa) ∗
    ((c : Thread nD τ).loc cc0_stg2_0 ↦{fullShare} (y : S128x1536.Idx → Elt F .bf16)) ∗ ring c fw (stFull g a) ∗ (∃ W, owes (c : Thread nD τ) (0 : CellTallies nD τ sig Unit) W))

/-- The segment's expert and rows, read from the table. -/
theorem head_run (hw3 : k0_chk3 (wd (num g))) (t : Fin (k0_t6_loop (wd (num g))).trips)
    {Q : (Σ' (arg11 : BitVec 32) (v12 : Elt F .i32) (v14 : Elt F .i32) (v16 : Elt F .i32) (k0_hw4 : k0_chk4 (wd (num g)) t v12 v14 v16) (v17 : BitVec 32) (v34 : BitVec 32) (v37 : BitVec 32) (v48 : BitVec 1) (v49 : BitVec 32), BitVec 32) → sProp 𝕄} :
    ((c : Thread nD τ).loc cc0_scratch3 ↦{fullShare} fa) ⊢ iprop((∀ a11 : BitVec 32, ∀ hw4 : k0_chk4 (wd (num g)) t (wd (ex g t.val)) (wd (lo g t.val)) (wd (hi g t.val)),
        ∀ v17 : BitVec 32, ∀ v34 : BitVec 32, ∀ v37 : BitVec 32, ∀ v48 : BitVec 1, ∀ v49 : BitVec 32, ∀ c0 : BitVec 32, ⌜v34 = fl (wd (lo g t.val))⌝ -∗
        ((c : Thread nD τ).loc cc0_scratch3 ↦{fullShare} fa) -∗ Q ⟨a11, wd (ex g t.val), wd (lo g t.val), wd (hi g t.val), hw4, v17, v34, v37, v48, v49, c0⟩) -∗
      wp frame (wpE (defs₀ (F := F)) Variants.none (c : Thread nD τ) none) Set.univ
        (k0_part15 (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (wd (num g)) hw3 0#32 1#32 t) Q) := by
  have hn := num_lt g
  have ht : t.val < num g := Nat.lt_of_lt_of_eq t.isLt (t6_trips hn)
  have ht17 : t.val < 17 := by omega
  have h0 : el (S := S3x17) pos_S3x17 fa (k0_off10 (wd (num g)) t) = wd (ex g t.val) := by rw [off10_eq t ht17]; exact (hact t.val ht).1
  have h1 : el (S := S3x17) pos_S3x17 fa (k0_off11 (wd (num g)) t) = wd (lo g t.val) := by rw [off11_eq t ht17]; exact (hact t.val ht).2.1
  have h2 : el (S := S3x17) pos_S3x17 fa (k0_off12 (wd (num g)) t) = wd (hi g t.val) := by rw [off12_eq t ht17]; exact (hact t.val ht).2.2
  iintro Ha HQ
  rw [k0_part15_eq_skeleton]
  unfold k0_part15_skel
  dsimp only
  rw [wp_bind]
  iapply wp_sm8 (F := F) c (by decide) $$ Ha
  iintro Ha
  rw [h0]
  rw [wp_bind]
  iapply wp_sm8 (F := F) c (by decide) $$ Ha
  iintro Ha
  rw [h1]
  rw [wp_bind]
  iapply wp_sm8 (F := F) c (by decide) $$ Ha
  iintro Ha
  rw [h2]
  rw [wp_bind]
  iapply wp_chk (F := F) c (chk4_ok t ht17 (ex_lt g ht) (lo_lt g t.val) _)
  iapply wp_end c
  iapply HQ $$ [] Ha
  ipureintro
  rfl

/-- The copies for the segment five further, if there is one. -/
theorem tail_run (hw3 : k0_chk3 (wd (num g))) (t : Fin (k0_t6_loop (wd (num g))).trips) {Q : Unit → sProp 𝕄} :
    iprop(((c : Thread nD τ).loc cc0_scratch3 ↦{fullShare} fa) ∗ ring c fw (stDrain g t.val 6))
      ⊢ iprop((((c : Thread nD τ).loc cc0_scratch3 ↦{fullShare} fa) -∗ ring c fw (stFull g (t.val + 1)) -∗ Q ⟨⟩) -∗
        wp frame (wpE (defs₀ (F := F)) Variants.none (c : Thread nD τ) none) Set.univ
          (if h6 : k0_cond6 (wd (num g)) t = 1#1 then do
            Scf.Loop.for k0_t15_loop k0_t15_ok ⟨⟩ (k0_t15_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (wd (num g)) hw3 t h6)
            pure ⟨⟩
          else do
            pure ⟨⟩) Q) := by
  iintro ⟨Ha, HR⟩ HQ
  by_cases h6 : k0_cond6 (wd (num g)) t = 1#1
  · rw [dif_pos h6]
    rw [wp_bind]
    iapply fill_run (F := F) g c fw fa hact hw3 t h6 $$ [Ha HR]
    · isplitl [Ha]
      · iexact Ha
      iexact HR
    iintro Ha HR
    dsimp only
    iapply wp_end c
    iapply HQ $$ Ha HR
  · rw [dif_neg h6]
    dsimp only
    iapply wp_end c
    have hn : ¬ t.val + 5 < num g := fun h => h6 ((cond6_iff (num_lt g) t).2 h)
    rw [stDrain_last g t.val hn]
    iapply HQ $$ Ha HR

variable (hw3 : k0_chk3 (wd (num g))) (t : Fin (k0_t6_loop (wd (num g))).trips)

/-- A segment of 16 rows. -/
theorem seg_step16 (y : S128x1536.Idx → Elt F .bf16) (hT : 0 < tiles (lo g t.val) (hi g t.val) ∧ tiles (lo g t.val) (hi g t.val) ≤ 1) (acc : Unit) :
    segInv c fs fq fw g fa t.val y ⊢ wp frame (wpE (defs₀ (F := F)) Variants.none (c : Thread nD τ) none) Set.univ
      (k0_t6_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (wd (num g)) hw3 t acc)
      (fun _ => segInv c fs fq fw g fa (t.val + 1) (seg fs fq fw (ex g t.val) (lo g t.val) (hi g t.val) y)) := by
  have hn := num_lt g
  have ht : t.val < num g := Nat.lt_of_lt_of_eq t.isLt (t6_trips hn)
  have hle := Nat.le_of_lt (lo_lt_hi g ht)
  have hh := hi_lt g t.val
  have h2 := (cond2_iff hle hh).2 ⟨by omega, by omega⟩
  have h3 := mt (cond3_iff hle hh).1 (by omega)
  have h4 := mt (cond4_iff hle hh).1 (by omega)
  have h5 := mt (cond5_iff hle hh).1 (by omega)
  have hseg : seg fs fq fw (ex g t.val) (lo g t.val) (hi g t.val) y = iter (chunk16 fs fq fw (ex g t.val) (lo g t.val) (hi g t.val)) 6 y := by
    unfold seg
    rw [if_pos (by omega)]
  rw [hseg]
  unfold segInv
  iintro ⟨Hs, Hx, Ha, Hy, HR, HO⟩
  unfold k0_t6_body
  rw [wp_bind]
  iapply head_run (F := F) c g fa hact hw3 t $$ Ha
  iintro %a11 %hw4 %v17 %v34 %v37 %v48 %v49 %c0 %e34 Ha
  subst e34
  dsimp only
  rw [dif_pos h2]
  rw [wp_bind]
  iapply branch_run16 (F := F) c fs fq fw g fa hact (fun u => iter (chunk16 fs fq fw (ex g t.val) (lo g t.val) (hi g t.val)) u y) t ht (fun _ => rfl) hw4 a11 v17 h2 _ $$ [Hs Hx Ha Hy HR HO]
  · unfold branch16
    isplitl [Hs]
    · iexact Hs
    isplitl [Hx]
    · iexact Hx
    isplitl [Ha]
    · iexact Ha
    isplitl [Hy]
    · iexact Hy
    isplitl [HR]
    · rw [stDrain_zero]; iexact HR
    iexact HO
  iintro H
  unfold branch16
  icases H with ⟨Hs, Hx, Ha, Hy, HR, HO⟩
  rw [dif_neg h3]
  rw [dif_neg h4]
  rw [dif_neg h5]
  iapply tail_run (F := F) c fw g fa hact hw3 t $$ [Ha HR]
  · isplitl [Ha]
    · iexact Ha
    iexact HR
  iintro Ha HR
  isplitl [Hs]
  · iexact Hs
  isplitl [Hx]
  · iexact Hx
  isplitl [Ha]
  · iexact Ha
  isplitl [Hy]
  · iexact Hy
  isplitl [HR]
  · iexact HR
  iexact HO

/-- A segment of 32 rows. -/
theorem seg_step32 (y : S128x1536.Idx → Elt F .bf16) (hT : 1 < tiles (lo g t.val) (hi g t.val) ∧ tiles (lo g t.val) (hi g t.val) ≤ 2) (acc : Unit) :
    segInv c fs fq fw g fa t.val y ⊢ wp frame (wpE (defs₀ (F := F)) Variants.none (c : Thread nD τ) none) Set.univ
      (k0_t6_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (wd (num g)) hw3 t acc)
      (fun _ => segInv c fs fq fw g fa (t.val + 1) (seg fs fq fw (ex g t.val) (lo g t.val) (hi g t.val) y)) := by
  have hn := num_lt g
  have ht : t.val < num g := Nat.lt_of_lt_of_eq t.isLt (t6_trips hn)
  have hle := Nat.le_of_lt (lo_lt_hi g ht)
  have hh := hi_lt g t.val
  have h2 := mt (cond2_iff hle hh).1 (by omega)
  have h3 := (cond3_iff hle hh).2 ⟨by omega, by omega⟩
  have h4 := mt (cond4_iff hle hh).1 (by omega)
  have h5 := mt (cond5_iff hle hh).1 (by omega)
  have hseg : seg fs fq fw (ex g t.val) (lo g t.val) (hi g t.val) y = iter (chunk32 fs fq fw (ex g t.val) (lo g t.val) (hi g t.val)) 6 y := by
    unfold seg
    rw [if_neg (by omega)]; rw [if_pos (by omega)]
  rw [hseg]
  unfold segInv
  iintro ⟨Hs, Hx, Ha, Hy, HR, HO⟩
  unfold k0_t6_body
  rw [wp_bind]
  iapply head_run (F := F) c g fa hact hw3 t $$ Ha
  iintro %a11 %hw4 %v17 %v34 %v37 %v48 %v49 %c0 %e34 Ha
  subst e34
  dsimp only
  rw [dif_neg h2]
  rw [dif_pos h3]
  rw [wp_bind]
  iapply branch_run32 (F := F) c fs fq fw g fa hact (fun u => iter (chunk32 fs fq fw (ex g t.val) (lo g t.val) (hi g t.val)) u y) t ht (fun _ => rfl) hw4 a11 v17 h3 _ $$ [Hs Hx Ha Hy HR HO]
  · unfold branch32
    isplitl [Hs]
    · iexact Hs
    isplitl [Hx]
    · iexact Hx
    isplitl [Ha]
    · iexact Ha
    isplitl [Hy]
    · iexact Hy
    isplitl [HR]
    · rw [stDrain_zero]; iexact HR
    iexact HO
  iintro H
  unfold branch32
  icases H with ⟨Hs, Hx, Ha, Hy, HR, HO⟩
  rw [dif_neg h4]
  rw [dif_neg h5]
  iapply tail_run (F := F) c fw g fa hact hw3 t $$ [Ha HR]
  · isplitl [Ha]
    · iexact Ha
    iexact HR
  iintro Ha HR
  isplitl [Hs]
  · iexact Hs
  isplitl [Hx]
  · iexact Hx
  isplitl [Ha]
  · iexact Ha
  isplitl [Hy]
  · iexact Hy
  isplitl [HR]
  · iexact HR
  iexact HO

/-- A segment of 64 rows. -/
theorem seg_step64 (y : S128x1536.Idx → Elt F .bf16) (hT : 2 < tiles (lo g t.val) (hi g t.val) ∧ tiles (lo g t.val) (hi g t.val) ≤ 4) (acc : Unit) :
    segInv c fs fq fw g fa t.val y ⊢ wp frame (wpE (defs₀ (F := F)) Variants.none (c : Thread nD τ) none) Set.univ
      (k0_t6_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (wd (num g)) hw3 t acc)
      (fun _ => segInv c fs fq fw g fa (t.val + 1) (seg fs fq fw (ex g t.val) (lo g t.val) (hi g t.val) y)) := by
  have hn := num_lt g
  have ht : t.val < num g := Nat.lt_of_lt_of_eq t.isLt (t6_trips hn)
  have hle := Nat.le_of_lt (lo_lt_hi g ht)
  have hh := hi_lt g t.val
  have h2 := mt (cond2_iff hle hh).1 (by omega)
  have h3 := mt (cond3_iff hle hh).1 (by omega)
  have h4 := (cond4_iff hle hh).2 ⟨by omega, by omega⟩
  have h5 := mt (cond5_iff hle hh).1 (by omega)
  have hseg : seg fs fq fw (ex g t.val) (lo g t.val) (hi g t.val) y = iter (chunk64 fs fq fw (ex g t.val) (lo g t.val) (hi g t.val)) 6 y := by
    unfold seg
    rw [if_neg (by omega)]; rw [if_neg (by omega)]; rw [if_pos (by omega)]
  rw [hseg]
  unfold segInv
  iintro ⟨Hs, Hx, Ha, Hy, HR, HO⟩
  unfold k0_t6_body
  rw [wp_bind]
  iapply head_run (F := F) c g fa hact hw3 t $$ Ha
  iintro %a11 %hw4 %v17 %v34 %v37 %v48 %v49 %c0 %e34 Ha
  subst e34
  dsimp only
  rw [dif_neg h2]
  rw [dif_neg h3]
  rw [dif_pos h4]
  rw [wp_bind]
  iapply branch_run64 (F := F) c fs fq fw g fa hact (fun u => iter (chunk64 fs fq fw (ex g t.val) (lo g t.val) (hi g t.val)) u y) t ht (fun _ => rfl) hw4 a11 v17 h4 _ $$ [Hs Hx Ha Hy HR HO]
  · unfold branch64
    isplitl [Hs]
    · iexact Hs
    isplitl [Hx]
    · iexact Hx
    isplitl [Ha]
    · iexact Ha
    isplitl [Hy]
    · iexact Hy
    isplitl [HR]
    · rw [stDrain_zero]; iexact HR
    iexact HO
  iintro H
  unfold branch64
  icases H with ⟨Hs, Hx, Ha, Hy, HR, HO⟩
  rw [dif_neg h5]
  iapply tail_run (F := F) c fw g fa hact hw3 t $$ [Ha HR]
  · isplitl [Ha]
    · iexact Ha
    iexact HR
  iintro Ha HR
  isplitl [Hs]
  · iexact Hs
  isplitl [Hx]
  · iexact Hx
  isplitl [Ha]
  · iexact Ha
  isplitl [Hy]
  · iexact Hy
  isplitl [HR]
  · iexact HR
  iexact HO

/-- A segment of 128 rows. -/
theorem seg_step128 (y : S128x1536.Idx → Elt F .bf16) (hT : 4 < tiles (lo g t.val) (hi g t.val) ∧ tiles (lo g t.val) (hi g t.val) ≤ 8) (acc : Unit) :
    segInv c fs fq fw g fa t.val y ⊢ wp frame (wpE (defs₀ (F := F)) Variants.none (c : Thread nD τ) none) Set.univ
      (k0_t6_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (wd (num g)) hw3 t acc)
      (fun _ => segInv c fs fq fw g fa (t.val + 1) (seg fs fq fw (ex g t.val) (lo g t.val) (hi g t.val) y)) := by
  have hn := num_lt g
  have ht : t.val < num g := Nat.lt_of_lt_of_eq t.isLt (t6_trips hn)
  have hle := Nat.le_of_lt (lo_lt_hi g ht)
  have hh := hi_lt g t.val
  have h2 := mt (cond2_iff hle hh).1 (by omega)
  have h3 := mt (cond3_iff hle hh).1 (by omega)
  have h4 := mt (cond4_iff hle hh).1 (by omega)
  have h5 := (cond5_iff hle hh).2 ⟨by omega, by omega⟩
  have hseg : seg fs fq fw (ex g t.val) (lo g t.val) (hi g t.val) y = iter (chunk128 fs fq fw (ex g t.val) (lo g t.val) (hi g t.val)) 6 y := by
    unfold seg
    rw [if_neg (by omega)]; rw [if_neg (by omega)]; rw [if_neg (by omega)]
  rw [hseg]
  unfold segInv
  iintro ⟨Hs, Hx, Ha, Hy, HR, HO⟩
  unfold k0_t6_body
  rw [wp_bind]
  iapply head_run (F := F) c g fa hact hw3 t $$ Ha
  iintro %a11 %hw4 %v17 %v34 %v37 %v48 %v49 %c0 %e34 Ha
  subst e34
  dsimp only
  rw [dif_neg h2]
  rw [dif_neg h3]
  rw [dif_neg h4]
  rw [dif_pos h5]
  rw [wp_bind]
  iapply branch_run128 (F := F) c fs fq fw g fa hact (fun u => iter (chunk128 fs fq fw (ex g t.val) (lo g t.val) (hi g t.val)) u y) t ht (fun _ => rfl) hw4 a11 v17 h5 _ $$ [Hs Hx Ha Hy HR HO]
  · unfold branch128
    isplitl [Hs]
    · iexact Hs
    isplitl [Hx]
    · iexact Hx
    isplitl [Ha]
    · iexact Ha
    isplitl [Hy]
    · iexact Hy
    isplitl [HR]
    · rw [stDrain_zero]; iexact HR
    iexact HO
  iintro H
  unfold branch128
  icases H with ⟨Hs, Hx, Ha, Hy, HR, HO⟩
  iapply tail_run (F := F) c fw g fa hact hw3 t $$ [Ha HR]
  · isplitl [Ha]
    · iexact Ha
    iexact HR
  iintro Ha HR
  isplitl [Hs]
  · iexact Hs
  isplitl [Hx]
  · iexact Hx
  isplitl [Ha]
  · iexact Ha
  isplitl [Hy]
  · iexact Hy
  isplitl [HR]
  · iexact HR
  iexact HO

/-- One segment. -/
theorem seg_step (n : ℕ) (y : S128x1536.Idx → Elt F .bf16) (acc : Unit) :
    segInv c fs fq fw g fa t.val y ⊢ wp frame (wpE (defs₀ (F := F)) Variants.none (c : Thread nD τ) none) Set.univ
      (k0_t6_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (wd (num g)) hw3 t acc)
      (fun _ => segInv c fs fq fw g fa (t.val + 1) (seg fs fq fw (ex g t.val) (lo g t.val) (hi g t.val) y)) := by
  have ht : t.val < num g := Nat.lt_of_lt_of_eq t.isLt (t6_trips (num_lt g))
  have h1 := lo_lt_hi g ht
  have h2 := hi_lt g t.val
  have h3 : 0 < tiles (lo g t.val) (hi g t.val) ∧ tiles (lo g t.val) (hi g t.val) ≤ 8 := by unfold tiles; omega
  by_cases c1 : tiles (lo g t.val) (hi g t.val) ≤ 1
  · exact seg_step16 c fs fq fw g fa hact hw3 t y ⟨by omega, by omega⟩ acc
  by_cases c2 : tiles (lo g t.val) (hi g t.val) ≤ 2
  · exact seg_step32 c fs fq fw g fa hact hw3 t y ⟨by omega, by omega⟩ acc
  by_cases c4 : tiles (lo g t.val) (hi g t.val) ≤ 4
  · exact seg_step64 c fs fq fw g fa hact hw3 t y ⟨by omega, by omega⟩ acc
  · exact seg_step128 c fs fq fw g fa hact hw3 t y ⟨by omega, by omega⟩ acc

/-- All segments. -/
theorem seg_run {Q : Unit → sProp 𝕄} (hok : (k0_t6_loop (wd (num g))).OK) :
    segInv c fs fq fw g fa 0 (Y fs fq fw g 0) ⊢ iprop((segInv c fs fq fw g fa (num g) (Y fs fq fw g (num g)) -∗ Q ⟨⟩) -∗
      wp frame (wpE (defs₀ (F := F)) Variants.none (c : Thread nD τ) none) Set.univ
        (Scf.Loop.for (k0_t6_loop (wd (num g))) hok ⟨⟩ (k0_t6_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (wd (num g)) hw3)) Q) := by
  iintro H HQ
  iapply wp_loop (F := F) c _ _ _ _ (num g) (t6_trips (num_lt g)) (fun a _ => segInv c fs fq fw g fa a (Y fs fq fw g a))
    (fun t acc _ => seg_step c fs fq fw g fa hact hw3 t 0 (Y fs fq fw g t.val) acc) $$ H
  iintro %acc H
  iapply HQ $$ H
end

end Cert.Kernel.Hand

end
-- ==== Proof.KQuant.lean ====
/-
  The loops that quantise the tokens, tile by tile.
-/
module

public import proofs.«01_k».proof.Proof.KAccess

@[expose] public section

set_option maxRecDepth 16384

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- One tile of sixteen rows by a block of 128 columns, quantised as the kernel does it. -/
def qt (v : Vec F S16x128 .bf16) : Vec F S16x128 .bf16 :=
  k0_pay2 (k0_pay17 (k0_pay12 v) (k0_pay13 v) (k0_pay14 v) (k0_pay15 v)) (k0_pay18 (k0_pay11 v) (k0_pay12 v) (k0_pay13 v) (k0_pay14 v) (k0_pay15 v))
    (Scalar.ofBits .f32 0xC3E00000#32) (Scalar.ofBits .f32 0x43E00000#32)

/-- The quantised tokens: each tile from the tile of the tokens it lies on. -/
def XQ (fx : S128x5120.Idx → Elt F .bf16) : S128x5120.Idx → Elt F .bf16 :=
  fun i => qt (rd pos_S128x5120 S16x128.size fx ![16 * ((i 0).val / 16), 128 * ((i 1).val / 128)])
    (fun a => ⟨(i a).val % S16x128.size a, Nat.mod_lt _ (by revert a; decide)⟩)

/-- The first `k` rows of tiles, and of the next row the first `u` blocks, hold the quantised tokens. -/
def Qd (fx f : S128x5120.Idx → Elt F .bf16) (k u : ℕ) : Prop :=
  ∀ i : S128x5120.Idx, (i 0).val < 16 * k ∨ ((i 0).val < 16 * (k + 1) ∧ (i 1).val < 128 * u) → f i = XQ fx i

theorem Qd_step (fx f : S128x5120.Idx → Elt F .bf16) (k u : ℕ) (h : Qd fx f k u) (o o' : Fin 2 → ℕ) (ho : o = ![16 * k, 128 * u]) (ho' : o' = ![16 * k, 128 * u]) :
    Qd fx (wr S16x128.size f o' (qt (rd pos_S128x5120 S16x128.size fx o))) k (u + 1) := by
  subst ho ho'
  intro i hi
  unfold wr
  split
  · next hin =>
    have h0 : 16 * k ≤ (i 0).val ∧ (i 0).val < 16 * k + 16 := hin 0
    have h1 : 128 * u ≤ (i 1).val ∧ (i 1).val < 128 * u + 128 := hin 1
    have e0 : (i 0).val / 16 = k := by omega
    have e1 : (i 1).val / 128 = u := by omega
    unfold XQ
    rw [e0, e1]
    congr 1
    funext a
    apply Fin.ext
    fin_cases a
    · show (i 0).val - 16 * k = (i 0).val % 16; omega
    · show (i 1).val - 128 * u = (i 1).val % 128; omega
  · next hin =>
    refine h i ?_
    by_contra hc
    refine hin fun a => ?_
    fin_cases a
    · show 16 * k ≤ (i 0).val ∧ (i 0).val < 16 * k + 16; omega
    · show 128 * u ≤ (i 1).val ∧ (i 1).val < 128 * u + 128; omega

/-- What holds before block `u` of row `k` of tiles. -/
def quantInv (c : Dev nD) (fx : Buf (Elt F) ((c : Thread nD τ).loc cc0_scratch0)) (k u : ℕ) : sProp 𝕄 :=
  iprop(((c : Thread nD τ).loc cc0_scratch0 ↦{fullShare} fx) ∗ ∃ f : Buf (Elt F) ((c : Thread nD τ).loc cc0_scratch1), ((c : Thread nD τ).loc cc0_scratch1 ↦{fullShare} f) ∗
    ⌜Qd fx f k u⌝)

theorem quant_step (c : Dev nD) (fx : Buf (Elt F) ((c : Thread nD τ).loc cc0_scratch0)) (k : Fin k0_t4_loop.trips) (w : BitVec 32)
    (u : Fin k0_t5_loop.trips) (acc : Unit) :
    quantInv (F := F) c fx k u ⊢ wp frame (wpE (defs₀ (F := F)) Variants.none (c : Thread nD τ) none) Set.univ
      (k0_t5_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 k w u acc) (fun _ => quantInv (F := F) c fx k (u + 1)) := by
  unfold quantInv
  iintro ⟨Hx, %f, Hf, %hp⟩
  unfold k0_t5_body
  rw [wp_bind, k0_part1_eq_skeleton]
  unfold k0_part1_skel
  dsimp only
  rw [wp_bind]
  iapply wp_ld5 (F := F) c (fun _ _ => Finset.mem_univ _) $$ Hx
  iintro Hx
  iapply wp_end c
  dsimp only
  rw [wp_bind, k0_part2_eq_skeleton]
  unfold k0_part2_skel
  dsimp only
  iapply wp_end c
  dsimp only
  rw [wp_bind]
  iapply wp_ld6 (F := F) c (fun _ _ => Finset.mem_univ _) $$ Hf
  iintro Hf
  rw [wp_bind]
  iapply wp_st6 (F := F) c $$ Hf
  iintro Hf
  iapply wp_end c
  isplitl [Hx]
  · iexact Hx
  iexists _
  isplitl [Hf]
  · iexact Hf
  ipureintro
  exact Qd_step fx f k u hp _ _ (off9_eq k u) (off9_eq k u)

theorem quant_row (c : Dev nD) (fx : Buf (Elt F) ((c : Thread nD τ).loc cc0_scratch0)) (k : Fin k0_t4_loop.trips) (acc : Unit) :
    quantInv (F := F) c fx k 0 ⊢ wp frame (wpE (defs₀ (F := F)) Variants.none (c : Thread nD τ) none) Set.univ
      (k0_t4_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 k acc) (fun _ => quantInv (F := F) c fx (k + 1) 0) := by
  unfold k0_t4_body
  rw [wp_bind]
  iintro H
  iapply wp_loop (F := F) c _ _ _ _ 40 t5_trips (fun u _ => quantInv (F := F) c fx k u) (fun u acc _ => quant_step c fx k _ u acc) $$ H
  iintro %acc H
  iapply wp_end c
  unfold quantInv
  icases H with ⟨Hx, %f, Hf, %hp⟩
  isplitl [Hx]
  · iexact Hx
  iexists f
  isplitl [Hf]
  · iexact Hf
  ipureintro
  intro i hi
  have h1 : (i 1).val < 5120 := (i 1).isLt
  exact hp i (by omega)

/-- The loops over the tiles leave the quantised tokens. -/
theorem quant_run (c : Dev nD) (fx : Buf (Elt F) ((c : Thread nD τ).loc cc0_scratch0)) (f0 : Buf (Elt F) ((c : Thread nD τ).loc cc0_scratch1))
    {Q : Unit → sProp 𝕄} :
    iprop(((c : Thread nD τ).loc cc0_scratch0 ↦{fullShare} fx) ∗ ((c : Thread nD τ).loc cc0_scratch1 ↦{fullShare} f0))
      ⊢ iprop((((c : Thread nD τ).loc cc0_scratch0 ↦{fullShare} fx) -∗ ((c : Thread nD τ).loc cc0_scratch1 ↦{fullShare} (XQ fx : S128x5120.Idx → Elt F .bf16)) -∗ Q ⟨⟩) -∗
        wp frame (wpE (defs₀ (F := F)) Variants.none (c : Thread nD τ) none) Set.univ
          (Scf.Loop.for k0_t4_loop k0_t4_ok ⟨⟩ (k0_t4_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5)) Q) := by
  iintro ⟨Hx, Hf⟩ HQ
  iapply wp_loop (F := F) c _ _ _ _ 8 t4_trips (fun k _ => quantInv (F := F) c fx k 0) (fun k acc _ => quant_row c fx k acc) $$ [Hx Hf]
  · unfold quantInv
    isplitl [Hx]
    · iexact Hx
    iexists f0
    isplitl [Hf]
    · iexact Hf
    ipureintro
    intro i hi; omega
  · iintro %acc H
    unfold quantInv
    icases H with ⟨Hx, %f, Hf, %hp⟩
    have e : f = (XQ fx : S128x5120.Idx → Elt F .bf16) := funext fun i => hp i (Or.inl (i 0).isLt)
    subst e
    iapply HQ $$ Hx Hf

end Cert.Kernel.Hand

end
-- ==== Proof.KBody.lean ====
/-
  The body of the kernel, run once: the ring lent and given back, the activations fetched, and the segments in turn.
-/
module

public import proofs.«01_k».proof.Proof.KSegment
public import proofs.«01_k».proof.Proof.KQuant

@[expose] public section

set_option maxRecDepth 16384

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-! ## The ring out of whole buffers, and back -/

theorem Rg_disjoint : ∀ p ∈ (Finset.univ : Finset (Fin 30)), ∀ p' ∈ (Finset.univ : Finset (Fin 30)), p ≠ p' →
    Disjoint (Rg (sl p) (ch p)) (Rg (sl p') (ch p')) := by
  intro p _ p' _ hne
  rw [Finset.disjoint_left]
  intro i hi hi'
  unfold Rg at hi hi'
  rw [Finset.mem_filter] at hi hi'
  apply hne
  apply Fin.ext
  have a : (i 0).val = p.val / 6 ∧ 256 * (p.val % 6) ≤ (i 1).val ∧ (i 1).val < 256 * (p.val % 6) + 256 := hi.2
  have b : (i 0).val = p'.val / 6 ∧ 256 * (p'.val % 6) ≤ (i 1).val ∧ (i 1).val < 256 * (p'.val % 6) + 256 := hi'.2
  omega

theorem Rg_union : (Finset.univ : Finset (Fin 30)).biUnion (fun p => Rg (sl p) (ch p)) = Finset.univ := by
  ext i
  simp only [Finset.mem_biUnion, Finset.mem_univ, true_and, iff_true]
  have h0 : (i 0).val < 5 := (i 0).isLt
  have h1 : (i 1).val < 1536 := (i 1).isLt
  refine ⟨⟨6 * (i 0).val + (i 1).val / 256, by omega⟩, ?_⟩
  unfold Rg
  rw [Finset.mem_filter]
  refine ⟨Finset.mem_univ _, ?_⟩
  show (i 0).val = (6 * (i 0).val + (i 1).val / 256) / 6 ∧ 256 * ((6 * (i 0).val + (i 1).val / 256) % 6) ≤ (i 1).val
    ∧ (i 1).val < 256 * ((6 * (i 0).val + (i 1).val / 256) % 6) + 256
  omega

/-- The whole buffers dealt out as a ring of free places. -/
theorem ring_make (c : Dev nD) (fw : Buf (Elt F) ((c : Thread nD τ).loc main_arg2)) (f : Buf (Elt F) ((c : Thread nD τ).loc cc0_scratch2)) :
    iprop(((c : Thread nD τ).loc main_arg2 ↦{fullShare} fw) ∗ ((c : Thread nD τ).loc cc0_scratch2 ↦{fullShare} f)
      ∗ bigSep Finset.univ (fun p : Fin 30 => semVal ((c : Thread nD τ), SemLoc.dma (cellSem p)) 0))
      ⊢ (iprop(((c : Thread nD τ).loc main_arg2 ↦{Transfers.shareDrop fullShare 30} fw) ∗ ring c fw (fun _ => none)) : sProp 𝕄) := by
  iintro ⟨Hw, Hf, Hs⟩
  ihave Hw := (Transfers.pointsTo_toks_split (ℓ := (c : Thread nD τ).loc main_arg2) (f := fw) fullShare 30) $$ Hw
  icases Hw with ⟨Hd, Hw⟩
  isplitl [Hd]
  · iexact Hd
  have e : ((c : Thread nD τ).loc cc0_scratch2 ↦{fullShare} f : sProp 𝕄) = bigSep Finset.univ (fun p : Fin 30 => (c : Thread nD τ).loc cc0_scratch2 ↦[Rg (sl p) (ch p)]{fullShare} f) := by
    rw [← pointsTo_biUnion (ℓ := (c : Thread nD τ).loc cc0_scratch2) (Finset.univ : Finset (Fin 30)) (fun p => Rg (sl p) (ch p)) Rg_disjoint, Rg_union]
  ihave Hf := (Entails.of_eq e) $$ Hf
  ihave Hsw := (Entails.of_eq (bigSep_sep' (Finset.univ : Finset (Fin 30)) _ _).symm) $$ [Hs Hw]
  · isplitl [Hs]
    · iexact Hs
    · iexact Hw
  ihave H := (Entails.of_eq (bigSep_sep' (Finset.univ : Finset (Fin 30)) _ _).symm) $$ [Hf Hsw]
  · isplitl [Hf]
    · iexact Hf
    · iexact Hsw
  unfold ring
  have hm : ∀ p ∈ (Finset.univ : Finset (Fin 30)), iprop(((c : Thread nD τ).loc cc0_scratch2 ↦[Rg (sl p) (ch p)]{fullShare} f)
      ∗ semVal ((c : Thread nD τ), SemLoc.dma (cellSem p)) 0 ∗ (c : Thread nD τ).loc main_arg2 ↦{tk p} fw) ⊢ (cell c fw p none : sProp 𝕄) := by
    intro p _
    unfold cell
    iintro ⟨H1, H2, H3⟩
    isplitl [H1]
    · iexists f
      iexact H1
    isplitl [H2]
    · iexact H2
    · iexact H3
  have h2 : (bigSep (Finset.univ : Finset (Fin 30)) (fun p => iprop(((c : Thread nD τ).loc cc0_scratch2 ↦[Rg (sl p) (ch p)]{fullShare} f)
      ∗ semVal ((c : Thread nD τ), SemLoc.dma (cellSem p)) 0 ∗ (c : Thread nD τ).loc main_arg2 ↦{tk p} fw)) : sProp 𝕄)
      ⊢ bigSep (Finset.univ : Finset (Fin 30)) (fun p => cell c fw p none) := bigSep_mono hm
  iapply h2 $$ H

/-- A ring of free places joined back into the whole buffers. -/
theorem ring_back (c : Dev nD) (fw : Buf (Elt F) ((c : Thread nD τ).loc main_arg2)) :
    (iprop(((c : Thread nD τ).loc main_arg2 ↦{Transfers.shareDrop fullShare 30} fw) ∗ ring c fw (fun _ => none)) : sProp 𝕄)
      ⊢ iprop(((c : Thread nD τ).loc main_arg2 ↦{fullShare} fw) ∗ (∃ f : Buf (Elt F) ((c : Thread nD τ).loc cc0_scratch2), (c : Thread nD τ).loc cc0_scratch2 ↦{fullShare} f)
      ∗ bigSep Finset.univ (fun p : Fin 30 => semVal ((c : Thread nD τ), SemLoc.dma (cellSem p)) 0)) := by
  iintro ⟨Hd, HR⟩
  have e : (ring c fw (fun _ => none) : sProp 𝕄) = bigSep (Finset.univ : Finset (Fin 30)) (fun p => iprop((∃ f : Buf (Elt F) ((c : Thread nD τ).loc cc0_scratch2), (c : Thread nD τ).loc cc0_scratch2 ↦[Rg (sl p) (ch p)]{fullShare} f)
      ∗ semVal ((c : Thread nD τ), SemLoc.dma (cellSem p)) 0 ∗ (c : Thread nD τ).loc main_arg2 ↦{tk p} fw)) := rfl
  ihave HR := (Entails.of_eq e) $$ HR
  ihave HR := (Entails.of_eq (bigSep_sep' (Finset.univ : Finset (Fin 30)) _ _)) $$ HR
  icases HR with ⟨Hf, HR⟩
  ihave HR := (Entails.of_eq (bigSep_sep' (Finset.univ : Finset (Fin 30)) _ _)) $$ HR
  icases HR with ⟨Hs, Hw⟩
  isplitl [Hd Hw]
  · iapply (Transfers.pointsTo_toks_join (ℓ := (c : Thread nD τ).loc main_arg2) (f := fw) fullShare 30)
    isplitl [Hd]
    · iexact Hd
    · iexact Hw
  isplitl [Hf]
  · ihave Hf := (BI.bigSep_exists_pi (Y := fun _ : Fin 30 => Buf (Elt F) ((c : Thread nD τ).loc cc0_scratch2)) (Finset.univ : Finset (Fin 30))
      (fun p f => ((c : Thread nD τ).loc cc0_scratch2 ↦[Rg (sl p) (ch p)]{fullShare} f : sProp 𝕄))) $$ Hf
    icases Hf with ⟨%fs, Hf⟩
    ihave Hf := (pointsTo_biUnion_join (ℓ := (c : Thread nD τ).loc cc0_scratch2) (q := fullShare) (Finset.univ : Finset (Fin 30)) (fun p => Rg (sl p) (ch p)) fs (fs 0) Rg_disjoint) $$ Hf
    icases Hf with ⟨%g, -, Hf⟩
    iexists g
    have e2 : ((c : Thread nD τ).loc cc0_scratch2 ↦[(Finset.univ : Finset (Fin 30)).biUnion (fun p => Rg (sl p) (ch p))]{fullShare} g : sProp 𝕄) = ((c : Thread nD τ).loc cc0_scratch2 ↦{fullShare} g) := by
      rw [Rg_union]
    iapply (Entails.of_eq e2) $$ Hf
  · iexact Hs

/-! ## The copy of the activations -/

/-- The copy of the activations on its way. -/
def flightX (c : Dev nD) (fx : Buf (Elt F) ((c : Thread nD τ).loc main_arg0)) : sProp 𝕄 :=
  Transfers.Flight (countersEmb (U := Pipeline.UD sig nD τ) : UEmb Counters 𝕄) (c : Thread nD τ) (SemLoc.dma cc0_scratch4.sem) () (Memref.whole cc0_scratch0 : Memref sig .tc .vmem S128x5120 .bf16).view.dmaCredit
    iprop(((c : Thread nD τ).loc cc0_scratch0 ↦{fullShare} (fx : S128x5120.Idx → Elt F .bf16)) ∗ (c : Thread nD τ).loc main_arg0 ↦{fullShare} fx)

theorem wp_fetchX (c : Dev nD) (fx : Buf (Elt F) ((c : Thread nD τ).loc main_arg0)) (fd : Buf (Elt F) ((c : Thread nD τ).loc cc0_scratch0)) {hsrc hdst hsem} {Q : Unit → sProp 𝕄} :
    iprop(((c : Thread nD τ).loc main_arg0 ↦{fullShare} fx) ∗ ((c : Thread nD τ).loc cc0_scratch0 ↦{fullShare} fd) ∗ semVal ((c : Thread nD τ), SemLoc.dma cc0_scratch4.sem) 0)
      ⊢ iprop((flightX c fx -∗ Q ⟨⟩) -∗
      wp frame (wpE (defs₀ (F := F)) Variants.none (c : Thread nD τ) none) Set.univ
        (Prog.lift (TpuEff.enqueueDma (Memref.whole main_arg0 : Memref sig .tc .hbm S128x5120 .bf16) (.here (Memref.whole cc0_scratch0 : Memref sig .tc .vmem S128x5120 .bf16)) (.dma cc0_scratch4.sem) hsrc hdst hsem)) Q) := by
  iintro ⟨Hx, Hd, Hs⟩ HQ
  have es : ((c : Thread nD τ).loc main_arg0 ↦{fullShare} fx : sProp 𝕄) = ((c : Thread nD τ).loc main_arg0 ↦[(Memref.whole main_arg0 : Memref sig .tc .hbm S128x5120 .bf16).view.set]{fullShare} fx) := by
    rw [show (Memref.whole main_arg0 : Memref sig .tc .hbm S128x5120 .bf16).view.set = Finset.univ from View.set_whole _]
  ihave Hx := (Entails.of_eq es) $$ Hx
  have key := Transfers.wp_dmaLocal (Lvl := ℕ) (Name := ℕ) (defs := defs₀ (F := F)) (countersEmb (U := Pipeline.UD sig nD τ) : UEmb Counters 𝕄) (via := ReadAs.same) (hsrc := hsrc) (hdst := hdst) (hsem := hsem) (k := Prog.ret) (Q := Q) (q := fullShare) (fs := fx) (Sd := Finset.univ) (fd := fd)
    (src := (Memref.whole main_arg0 : Memref sig .tc .hbm S128x5120 .bf16)) (dst := (Memref.whole cc0_scratch0 : Memref sig .tc .vmem S128x5120 .bf16)) (sm := SemLoc.dma cc0_scratch4.sem) Variants.none (c : Thread nD τ) none ()
    (Memref.whole cc0_scratch0 : Memref sig .tc .vmem S128x5120 .bf16).view.dmaCredit rfl (View.amount_pos (Memref.whole cc0_scratch0 : Memref sig .tc .vmem S128x5120 .bf16).view (SemLoc.dma cc0_scratch4.sem) (by decide)) (Finset.subset_univ _)
  iapply key $$ [Hx Hd Hs]
  · isplitl [Hx]
    · iexact Hx
    isplitl [Hd]
    · iexact Hd
    iexact Hs
  iintro HF
  rw [wp_ret]
  imodintro
  iapply HQ
  unfold flightX
  have e1 : ((c : Thread nD τ).loc cc0_scratch0 ↦{fullShare} ((Memref.whole cc0_scratch0 : Memref sig .tc .vmem S128x5120 .bf16).view.write (Elt F) fd ((Memref.whole main_arg0 : Memref sig .tc .hbm S128x5120 .bf16).view.read (Elt F) fx) Finset.univ) : sProp 𝕄)
      = ((c : Thread nD τ).loc cc0_scratch0 ↦{fullShare} (fx : S128x5120.Idx → Elt F .bf16)) :=
    congrArg (fun X : S128x5120.Idx → Elt F .bf16 => ((c : Thread nD τ).loc cc0_scratch0 ↦{fullShare} X : sProp 𝕄)) (View.write_whole_univ (Val := Elt F) cc0_scratch0 fd fx)
  iapply (Entails.of_eq ((congrArg (fun X => Transfers.Flight (countersEmb (U := Pipeline.UD sig nD τ) : UEmb Counters 𝕄) (c : Thread nD τ) (SemLoc.dma cc0_scratch4.sem) () (Memref.whole cc0_scratch0 : Memref sig .tc .vmem S128x5120 .bf16).view.dmaCredit
    iprop(X ∗ (c : Thread nD τ).loc main_arg0 ↦[(Memref.whole main_arg0 : Memref sig .tc .hbm S128x5120 .bf16).view.set]{fullShare} fx)) e1).trans
    (congrArg (fun X => Transfers.Flight (countersEmb (U := Pipeline.UD sig nD τ) : UEmb Counters 𝕄) (c : Thread nD τ) (SemLoc.dma cc0_scratch4.sem) () (Memref.whole cc0_scratch0 : Memref sig .tc .vmem S128x5120 .bf16).view.dmaCredit
    iprop(((c : Thread nD τ).loc cc0_scratch0 ↦{fullShare} (fx : S128x5120.Idx → Elt F .bf16)) ∗ X)) es.symm))) $$ HF

theorem wp_haveX (c : Dev nD) (fx : Buf (Elt F) ((c : Thread nD τ).loc main_arg0)) (W : Waits sig Unit) {hsrc hdst} {Q : Unit → sProp 𝕄} :
    iprop(flightX c fx ∗ owes (c : Thread nD τ) (0 : CellTallies nD τ sig Unit) W)
      ⊢ iprop((((c : Thread nD τ).loc cc0_scratch0 ↦{fullShare} (fx : S128x5120.Idx → Elt F .bf16)) -∗ ((c : Thread nD τ).loc main_arg0 ↦{fullShare} fx) -∗ semVal ((c : Thread nD τ), SemLoc.dma cc0_scratch4.sem) 0 -∗
          (∃ W', owes (c : Thread nD τ) (0 : CellTallies nD τ sig Unit) W') -∗ Q ⟨⟩) -∗
      wp frame (wpE (defs₀ (F := F)) Variants.none (c : Thread nD τ) none) Set.univ
        (Prog.lift (TpuEff.waitDma2 cc0_scratch4.sem (Memref.whole main_arg0 : Memref sig .tc .hbm S128x5120 .bf16) (Memref.whole cc0_scratch0 : Memref sig .tc .vmem S128x5120 .bf16) hsrc hdst)) Q) := by
  unfold flightX
  iintro ⟨HF, HO⟩ HQ
  have key := Transfers.wp_waitLocal (Lvl := ℕ) (Name := ℕ) (defs := defs₀ (F := F)) (countersEmb (U := Pipeline.UD sig nD τ) : UEmb Counters 𝕄) (sem := cc0_scratch4.sem) (srcw := (Memref.whole main_arg0 : Memref sig .tc .hbm S128x5120 .bf16)) (dstw := (Memref.whole cc0_scratch0 : Memref sig .tc .vmem S128x5120 .bf16)) (hsrc := hsrc) (hdst := hdst) (k := Prog.ret) (Q := Q)
    (D := iprop(((c : Thread nD τ).loc cc0_scratch0 ↦{fullShare} (fx : S128x5120.Idx → Elt F .bf16)) ∗ (c : Thread nD τ).loc main_arg0 ↦{fullShare} fx)) (W := W) Variants.none (c : Thread nD τ) none ()
    (N := (Memref.whole cc0_scratch0 : Memref sig .tc .vmem S128x5120 .bf16).view.dmaCredit) rfl
  iapply key $$ [HF HO]
  · isplitl [HF]
    · iexact HF
    iexact HO
  iintro ⟨⟨Hd, Hx⟩, Hs, HO⟩
  rw [wp_ret]
  imodintro
  iapply HQ $$ Hd Hx Hs [HO]
  iexists _
  iexact HO

/-! ## The whole body -/

theorem wr_all (f w : S128x1536.Idx → Elt F .bf16) : (wr (S := S128x1536) S128x1536.size f ![0, 0] w : S128x1536.Idx → Elt F .bf16) = w := by
  funext i
  unfold wr
  rw [dif_pos]
  · congr 1
    funext a
    apply Fin.ext
    fin_cases a <;> rfl
  · intro a
    fin_cases a
    · exact ⟨Nat.zero_le _, by show (i 0).val < 0 + 128; have := (i 0).isLt; have h : (i 0).val < 128 := this; omega⟩
    · exact ⟨Nat.zero_le _, by show (i 1).val < 0 + 1536; have := (i 1).isLt; have h : (i 1).val < 1536 := this; omega⟩

/-- What the body leaves in the result's buffer. -/
def YF (fg : S16.Idx → Elt F .i32) (fs : S16x12x40.Idx → Elt F .f32) (fx : S128x5120.Idx → Elt F .bf16) (fw : S16x1536x5120.Idx → Elt F .fp8e4m3) : S128x1536.Idx → Elt F .bf16 :=
  Y fs (XQ fx) fw (sizes fg) (num (sizes fg))

/-- The buffers and semaphores the body runs on. -/
def bodyRes (c : Dev nD) (fg : Buf (Elt F) ((c : Thread nD τ).loc cc0_stg0_0)) (fs : Buf (Elt F) ((c : Thread nD τ).loc cc0_stg1_0))
    (fx : Buf (Elt F) ((c : Thread nD τ).loc main_arg0)) (fw : Buf (Elt F) ((c : Thread nD τ).loc main_arg2)) (y : Buf (Elt F) ((c : Thread nD τ).loc cc0_stg2_0)) : sProp 𝕄 :=
  iprop(((c : Thread nD τ).loc cc0_stg0_0 ↦{fullShare} fg) ∗ ((c : Thread nD τ).loc cc0_stg1_0 ↦{fullShare} fs) ∗ ((c : Thread nD τ).loc cc0_stg2_0 ↦{fullShare} y)
    ∗ ((c : Thread nD τ).loc main_arg0 ↦{fullShare} fx) ∗ ((c : Thread nD τ).loc main_arg2 ↦{fullShare} fw)
    ∗ (∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f)
    ∗ (∃ f : Buf (Elt F) ((c : Thread nD τ).loc cc0_scratch3), (c : Thread nD τ).loc cc0_scratch3 ↦{fullShare} f)
    ∗ semVal ((c : Thread nD τ), SemLoc.dma cc0_scratch4.sem) 0
    ∗ bigSep Finset.univ (fun p : Fin 30 => semVal ((c : Thread nD τ), SemLoc.dma (cellSem p)) 0)
    ∗ (∃ W, owes (c : Thread nD τ) (0 : CellTallies nD τ sig Unit) W))

set_option maxHeartbeats 1600000 in
theorem body_run (c : Dev nD) (fg : Buf (Elt F) ((c : Thread nD τ).loc cc0_stg0_0)) (fs : Buf (Elt F) ((c : Thread nD τ).loc cc0_stg1_0))
    (fx : Buf (Elt F) ((c : Thread nD τ).loc main_arg0)) (fw : Buf (Elt F) ((c : Thread nD τ).loc main_arg2)) (y : Buf (Elt F) ((c : Thread nD τ).loc cc0_stg2_0))
    (hg : ∀ k < 16, sizes fg k < 2 ^ 27) {Q : Unit → sProp 𝕄} :
    bodyRes c fg fs fx fw y ⊢ iprop((bodyRes c fg fs fx fw (YF fg fs fx fw : S128x1536.Idx → Elt F .bf16) -∗ Q ⟨⟩) -∗
      wp frame (wpE (defs₀ (F := F)) Variants.none (c : Thread nD τ) none) Set.univ
        (cc0_grouped_fp8_matmul (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) Q) := by
  rw [cc0_grouped_fp8_matmul_eq_skeleton]
  unfold cc0_grouped_fp8_matmul_skel bodyRes
  dsimp only
  iintro ⟨Hg, Hs, Hy, Hx, Hw, ⟨%f0, H0⟩, ⟨%f1, H1⟩, ⟨%f2, H2⟩, ⟨%f3, H3⟩, Hq, Hqs, ⟨%W, HO⟩⟩ HQ
  ihave HR := (ring_make c fw f2) $$ [Hw H2 Hqs]
  · isplitl [Hw]
    · iexact Hw
    isplitl [H2]
    · iexact H2
    iexact Hqs
  icases HR with ⟨Hw, HR⟩
  rw [wp_bind]
  iapply wp_fetchX c fx f0 $$ [Hx H0 Hq]
  · isplitl [Hx]
    · iexact Hx
    isplitl [H0]
    · iexact H0
    iexact Hq
  iintro HF
  rw [wp_bind]
  iapply scan_run c fullShare fg hg f3 $$ [Hg H3]
  · isplitl [Hg]
    · iexact Hg
    iexact H3
  iintro %fa Hg H3 %hact
  have hn : num (sizes fg) < 17 := num_lt (sizes fg)
  have hw3 : k0_chk3 (wd (num (sizes fg))) := chk3_ok hn
  rw [wp_bind]
  iapply wp_chk (F := F) c hw3
  rw [wp_bind]
  iapply pre_run (sizes fg) c fw fa hact $$ [H3 HR]
  · isplitl [H3]
    · iexact H3
    iexact HR
  iintro H3 HR
  rw [wp_bind]
  iapply wp_haveX c fx W $$ [HF HO]
  · isplitl [HF]
    · iexact HF
    iexact HO
  iintro H0 Hx Hq HO
  rw [wp_bind]
  iapply wp_ld4 (F := F) c (fun _ _ => Finset.mem_univ _) $$ Hy
  iintro Hy
  rw [wp_bind]
  iapply wp_st4 (F := F) c $$ Hy
  iintro Hy
  rw [wr_all]
  rw [wp_bind]
  iapply quant_run c fx f1 $$ [H0 H1]
  · isplitl [H0]
    · iexact H0
    iexact H1
  iintro H0 H1
  rw [wp_bind]
  iapply seg_run c fs (XQ fx) fw (sizes fg) fa hact hw3 (k0_t6_ok _ hw3) $$ [Hs H1 H3 Hy HR HO]
  · unfold segInv
    isplitl [Hs]
    · iexact Hs
    isplitl [H1]
    · iexact H1
    isplitl [H3]
    · iexact H3
    isplitl [Hy]
    · iexact Hy
    isplitl [HR]
    · iexact HR
    iexact HO
  unfold segInv
  rw [stFull_num]
  iintro ⟨Hs, H1, H3, Hy, HR, HO⟩
  rw [wp_bind]
  iapply wp_loop (F := F) c _ _ _ _ 0 (t16_trips hn) (fun _ _ => iprop(⌜True⌝)) (fun k acc h => absurd h (Nat.not_lt_zero _)) $$ []
  · ipureintro; trivial
  iintro %acc -
  iapply wp_end (F := F) c
  ihave HR := (ring_back c fw) $$ [Hw HR]
  · isplitl [Hw]
    · iexact Hw
    iexact HR
  icases HR with ⟨Hw, H2, Hqs⟩
  iapply HQ
  isplitl [Hg]
  · iexact Hg
  isplitl [Hs]
  · iexact Hs
  isplitl [Hy]
  · unfold YF
    iexact Hy
  isplitl [Hx]
  · iexact Hx
  isplitl [Hw]
  · iexact Hw
  isplitl [H0]
  · iexists _
    iexact H0
  isplitl [H1]
  · iexists _
    iexact H1
  isplitl [H2]
  · iexact H2
  isplitl [H3]
  · iexists _
    iexact H3
  isplitl [Hq]
  · iexact Hq
  isplitl [Hqs]
  · iexact Hqs
  iexact HO

end Cert.Kernel.Hand

end
-- ==== Proof.KFrame.lean ====
/-
  The launch of the kernel: its run, the arguments it leaves unchanged and the result it computes.
-/
module

public import proofs.«01_k».proof.Proof.KBody
public import proofs.«01_k».proof.Proof.Gen.Kernel.Frame
public import proofs.«01_k».proof.Proof.Gen.Pre_sizes_ok
public import Idealize.ShloMosaic.Lib.ReduceAll

@[expose] public section

set_option maxRecDepth 16384

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The one grid point. -/
def t₀ : Fin cfg0.N := ⟨0, by decide⟩

theorem only_t (t : Fin cfg0.N) : t = t₀ := by
  apply Fin.ext
  have h : t.val < 1 := Nat.lt_of_lt_of_eq t.isLt (by decide)
  show t.val = 0
  omega

/-! ## The windows: each whole -/

theorem iblk_0 (c : Dev nD) : iblk m c 0 t₀ = V m c main_arg1 := by
  have hz : (fun a => (win0_0.index t₀) a * main_arg1.ty.shape.size a) = fun _ => 0 := funext fun a => by fin_cases a <;> decide
  exact Memref.read_access_unit_zero (Elt F) main_arg1 hz (fun a => by fin_cases a <;> decide) _
theorem iblk_1 (c : Dev nD) : iblk m c 1 t₀ = V m c main_arg3 := by
  have hz : (fun a => (win0_1.index t₀) a * main_arg3.ty.shape.size a) = fun _ => 0 := funext fun a => by fin_cases a <;> decide
  exact Memref.read_access_unit_zero (Elt F) main_arg3 hz (fun a => by fin_cases a <;> decide) _

/-! ## The kernel's own semaphores and the operands it addresses itself -/

/-- The semaphore of the activations' copy, and the thirty of the ring. -/
def osem0 : Option (Fin 30) → SemLoc sig
  | none => SemLoc.dma cc0_scratch4.sem
  | some p => SemLoc.dma (cellSem p)

theorem scratch4_val : (cc0_scratch4.sem : DmaSem sig) = (⟨3, by decide⟩ : Fin 34) := by decide +kernel
theorem cellSem_val : ∀ p : Fin 30, (cellSem p : DmaSem sig) = (⟨4 + p.val, by omega⟩ : Fin 34) := by decide +kernel

theorem osem0_val (k : Option (Fin 30)) : osem0 k = SemLoc.dma (⟨match k with | none => 3 | some p => 4 + p.val, by cases k <;> simp <;> omega⟩ : Fin 34) := by
  cases k with
  | none => exact congrArg SemLoc.dma scratch4_val
  | some p => exact congrArg SemLoc.dma (cellSem_val p)

theorem ownSemFacts0 : Pipeline.OwnSemFacts spec0 osem0 := by
  have e : osem0 = fun k => SemLoc.dma (⟨match k with | none => 3 | some p => 4 + p.val, by cases k <;> simp <;> omega⟩ : Fin 34) := funext osem0_val
  rw [e]
  decide +kernel

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma cc0_scratch4.sem) 0 ∗ bigSep Finset.univ (fun p : Fin 30 => semVal ((c : Thread nD τ), SemLoc.dma (cellSem p)) 0)) := by
  have hu : (Finset.univ : Finset (Option (Fin 30))) = insert none ((Finset.univ : Finset (Fin 30)).map Function.Embedding.some) := by
    ext k
    cases k <;> simp
  unfold Pipeline.ownSems0
  rw [hu, bigSep_insert (by simp), bigSep_map]
  rfl

/-- The operands the body copies from itself. -/
def H0 : Finset (Ref sig .tc) := {main_arg0, main_arg2}
theorem H0_sub : H0 ⊆ Pipeline.restRefs sig spec0 := by decide
theorem hbmPts0_eq (c : Dev nD) :
    (bigSep H0 (fun b => ((c : Thread nD τ).loc b) ↦{fullShare} V m c b) : sProp 𝕄)
      = iprop(((c : Thread nD τ).loc main_arg0 ↦{fullShare} V m c main_arg0) ∗ ((c : Thread nD τ).loc main_arg2 ↦{fullShare} V m c main_arg2)) := by
  rw [BI.bigSep_eq_bigSepL_of_eq [main_arg0, main_arg2] (by decide) (by decide)]; rfl

theorem PhiD0_eq (c : Dev nD) :
    (Pipeline.ΦD osem0 spec0 H0 (V m) c : sProp 𝕄)
      = iprop(iprop((∃ f : Buf (Elt F) ((c : Thread nD τ).loc cc0_scratch0), (c : Thread nD τ).loc cc0_scratch0 ↦{fullShare} f)
            ∗ (∃ f : Buf (Elt F) ((c : Thread nD τ).loc cc0_scratch1), (c : Thread nD τ).loc cc0_scratch1 ↦{fullShare} f)
            ∗ (∃ f : Buf (Elt F) ((c : Thread nD τ).loc cc0_scratch2), (c : Thread nD τ).loc cc0_scratch2 ↦{fullShare} f)
            ∗ (∃ f : Buf (Elt F) ((c : Thread nD τ).loc cc0_scratch3), (c : Thread nD τ).loc cc0_scratch3 ↦{fullShare} f))
          ∗ (∃ r, prngReg c r)
          ∗ iprop(semVal ((c : Thread nD τ), SemLoc.dma cc0_scratch4.sem) 0 ∗ bigSep Finset.univ (fun p : Fin 30 => semVal ((c : Thread nD τ), SemLoc.dma (cellSem p)) 0))
          ∗ iprop(((c : Thread nD τ).loc main_arg0 ↦{fullShare} V m c main_arg0) ∗ ((c : Thread nD τ).loc main_arg2 ↦{fullShare} V m c main_arg2))) := by
  rw [Pipeline.ΦD_eq, scopedRest0_eq, ownSems00_eq, hbmPts0_eq]

/-! ## The proof data and the body's obligation -/

/-- The result as a function of the argument arrays. -/
def outOf (c : Dev nD) : S128x1536.Idx → Elt F .bf16 :=
  YF (F := F) (V m c main_arg1) (V m c main_arg3) (V m c main_arg0) (V m c main_arg2)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outOf m c
    | ⟨_ + 3, h⟩ => absurd h (Nat.not_lt.2 (Nat.le_add_left _ _))
  Φ _ := Pipeline.ΦD osem0 spec0 H0 (V m) c
  q _ := fullShare
  owed _ := 0

theorem A_eq (c : Dev nD) (w) : (dats (F := F) m 0 c).A w = V m c (Pipeline.arrRef spec0 w) := rfl

theorem before0_0 (c : Dev nD) (t : Fin cfg0.N) (d) : (dats m 0 c).before 0 t d = iblk m c 0 t :=
  ((dats m 0 c).before_in_eq_fetched 0 rfl (fun _ => rfl) (fun _ _ _ => rfl) (fun t => by show iblk m c 0 t = _; unfold Dat.blockOf iblk; rw [A_eq]) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by show iblk m c 1 t = _; unfold Dat.blockOf iblk; rw [A_eq]) t d).trans
    (by unfold Dat.fetched Dat.blockOf iblk; rw [A_eq]; try rfl)

abbrev bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
abbrev bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

variable (hg : ∀ c : Dev nD, ∀ k < 16, sizes (V m c main_arg1) k < 2 ^ 27)
include hg

theorem sound_body (c : Dev nD) (t : Fin cfg0.N) :
    bodyPre m c t ⊢ wp frame (wpE (defs₀ (F := F)) Variants.none c none) Set.univ (bodyAt0 t) (fun _ => bodyPost m c t) := by
  obtain rfl := only_t t
  have e0 : ∀ X, (owns (c : Thread nD τ) (st0_0 t₀) fullShare X : sProp 𝕄) = ((c : Thread nD τ).loc cc0_stg0_0 ↦{fullShare} X) := fun X => owns_whole (c : Thread nD τ) cc0_stg0_0 fullShare X
  have e1 : ∀ X, (owns (c : Thread nD τ) (st0_1 t₀) fullShare X : sProp 𝕄) = ((c : Thread nD τ).loc cc0_stg1_0 ↦{fullShare} X) := fun X => owns_whole (c : Thread nD τ) cc0_stg1_0 fullShare X
  have e2 : ∀ X, (owns (c : Thread nD τ) (st0_2 t₀) fullShare X : sProp 𝕄) = ((c : Thread nD τ).loc cc0_stg2_0 ↦{fullShare} X) := fun X => owns_whole (c : Thread nD τ) cc0_stg2_0 fullShare X
  have a0 : (dats m 0 c).after 0 t₀ = V m c main_arg1 := iblk_0 m c
  have a1 : (dats m 0 c).after 1 t₀ = V m c main_arg3 := iblk_1 m c
  have a2 : (dats m 0 c).after 2 t₀ = outOf m c := rfl
  have b0 : ∀ d, (dats m 0 c).before 0 t₀ d = V m c main_arg1 := fun d => (before0_0 m c t₀ d).trans (iblk_0 m c)
  have b1 : ∀ d, (dats m 0 c).before 1 t₀ d = V m c main_arg3 := fun d => (before0_1 m c t₀ d).trans (iblk_1 m c)
  unfold bodyPre bodyPost bodyAt0
  rw [show (dats m 0 c).Φ t₀.succ = (dats m 0 c).Φ t₀.castSucc from rfl, a0, a1, a2]
  rw [show (dats m 0 c).Φ t₀.castSucc = Pipeline.ΦD osem0 spec0 H0 (V m) c from rfl, PhiD0_eq]
  unfold Dat.owesAt Pipeline.owesWithin
  rw [show (dats m 0 c).owed t₀.castSucc = 0 from rfl, show (dats m 0 c).owed t₀.succ = 0 from rfl]
  simp only [b0, b1, e0, e1, e2]
  iintro ⟨⟨⟨HS0, HS1, HS2, HS3⟩, Hg, ⟨Hq, Hqs⟩, ⟨Hx, Hw⟩⟩, ⟨%W, -, HW⟩, ⟨%d0, H0⟩, ⟨%d1, H1⟩, ⟨%d2, H2⟩⟩
  iapply (body_run c (V m c main_arg1) (V m c main_arg3) (V m c main_arg0) (V m c main_arg2) _ (hg c)) $$ [HS0 HS1 HS2 HS3 Hq Hqs Hx Hw HW H0 H1 H2]
  · unfold bodyRes
    isplitl [H0]
    · iexact H0
    isplitl [H1]
    · iexact H1
    isplitl [H2]
    · iexact H2
    isplitl [Hx]
    · iexact Hx
    isplitl [Hw]
    · iexact Hw
    isplitl [HS0]
    · iexact HS0
    isplitl [HS1]
    · iexact HS1
    isplitl [HS2]
    · iexact HS2
    isplitl [HS3]
    · iexact HS3
    isplitl [Hq]
    · iexact Hq
    isplitl [Hqs]
    · iexact Hqs
    iexists W
    iexact HW
  unfold bodyRes outOf
  iintro ⟨H0, H1, H2, Hx, Hw, HS0, HS1, HS2, HS3, Hq, Hqs, ⟨%W', HW⟩⟩
  isplitl [HS0 HS1 HS2 HS3 Hq Hqs Hx Hw Hg]
  · isplitl [HS0 HS1 HS2 HS3]
    · isplitl [HS0]
      · iexact HS0
      isplitl [HS1]
      · iexact HS1
      isplitl [HS2]
      · iexact HS2
      iexact HS3
    isplitl [Hg]
    · iexact Hg
    isplitl [Hq Hqs]
    · isplitl [Hq]
      · iexact Hq
      iexact Hqs
    isplitl [Hx]
    · iexact Hx
    iexact Hw
  isplitl [HW]
  · iexists W'
    isplitr
    · ipureintro; exact fun _ _ => Or.inl trivial
    iexact HW
  isplitl [H0]
  · iexact H0
  isplitl [H1]
  · iexact H1
  iexact H2

omit hg in
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m hg c t) rfl .rfl fun _ => .rfl

/-! ## The run, the frame and the result -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hg c).loose) (hshare := fun c => (dats m 0 c).share_full fun _ => rfl)
    (howed := fun _ _ => rfl) (V := V m) (hmain := hmain m Variants.none) (hA := A_eq m)
    (hin := fun _ => .rfl) (hout := fun _ => .rfl)

omit hg in
theorem final_v0 (c : Dev nD) : (dats (F := F) m 0 c).arrAt (2 : Fin 3) cfg0.N = outOf m c := by
  have ho : ((cfg0.win (2 : Fin 3)).blk t₀).view.read (Elt F) ((dats (F := F) m 0 c).arrAt (2 : Fin 3) cfg0.N) = (dats (F := F) m 0 c).flushed (2 : Fin 3) t₀ := by
    rw [show cfg0.N = (t₀ : Fin cfg0.N).val + 1 from rfl, (dats (F := F) m 0 c).arrAt_succ (2 : Fin 3) t₀]
    rw [show (cfg0.win (2 : Fin 3)).flush t₀ = true from by decide, if_pos rfl]
    exact View.read_write_univ _ _
  have hz2 : (fun a => (win0_2.index t₀) a * main_v0.ty.shape.size a) = fun _ => 0 := funext fun a => by fin_cases a <;> decide
  have hr2 := fun f => Memref.read_access_unit_zero (Elt F) main_v0 hz2 (fun a => by fin_cases a <;> decide) f
  rw [hr2] at ho
  rw [ho]
  rfl

/-- The run with everything a claim reads: the result, the arguments unchanged, every counter at zero. -/
theorem run_full : θ_run defs (onTc (τ := τ) (main (F := F))) ⟨m, fun _ => 0, ρ⟩ (fun r => (∀ c : Dev nD,
      r.2.mem ((c.tc : Thread nD τ).loc main_v0) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 2).trans (final_v0 m c),
      (h.1 c).2 main_arg0 (Pipeline.mem_restRefs_of main_arg0 (by decide) (by decide)),
      ((h.1 c).1 0).trans ((dats m 0 c).arrAt_in 0 rfl _),
      (h.1 c).2 main_arg2 (Pipeline.mem_restRefs_of main_arg2 (by decide) (by decide)),
      ((h.1 c).1 1).trans ((dats m 0 c).arrAt_in 1 rfl _)⟩, h.2⟩) (run_main m ρ hg)

omit hg in
/-- The precondition read: every group's size is below `2 ^ 27`. -/
theorem sizes_of_pre (x : S128x5120.Idx → Elt F .bf16) (gs : S16.Idx → BitVec 32) (w : S16x1536x5120.Idx → Elt F .fp8e4m3) (ws : S16x12x40.Idx → Elt F .f32)
    (h : Cert.Pre_sizes_ok.fn (F := F) x gs w ws (fun a => a.elim0) = 1#1) : ∀ k < 16, sizes gs k < 2 ^ 27 := by
  intro k hk
  unfold Cert.Pre_sizes_ok.fn at h
  dsimp only at h
  have hk' := Host.reduce_andi_all _ _ _ _ _ h (fun | 0 => (⟨k, hk⟩ : Fin 16))
  obtain ⟨h1, h2⟩ := IntOp.andi_eq_one.1 hk'
  have h1 := IntOp.cmpi_sge.1 h1
  have h2 := IntOp.cmpi_slt.1 h2
  have e : (fun | 0 => (⟨k, hk⟩ : Fin 16) : S16.Idx) = (fun a => ⟨(![k] : Fin 1 → ℕ) a % S16.size a, Nat.mod_lt _ (pos_S16 a)⟩ : S16.Idx) := by
    funext a
    apply Fin.ext
    match a with
    | 0 => exact (Nat.mod_eq_of_lt hk).symm
  unfold sizes el
  have h1 : (0#32 : BitVec 32).toInt ≤ (gs (fun | 0 => (⟨k, hk⟩ : Fin 16))).toInt := h1
  have h2 : (gs (fun | 0 => (⟨k, hk⟩ : Fin 16))).toInt < (134217728#32 : BitVec 32).toInt := h2
  have e2 := congrArg gs e
  rw [e2] at h1 h2
  generalize gs _ = b at h1 h2 ⊢
  have h3 : (0#32 : BitVec 32).toInt = 0 := by decide
  have h4 : (134217728#32 : BitVec 32).toInt = 134217728 := by decide
  rw [h3] at h1
  rw [h4] at h2
  have hb := b.isLt
  rw [BitVec.toInt_eq_toNat_cond] at h1 h2
  show b.toNat < 2 ^ 27
  split at h1 <;> rename_i hc
  · rw [if_pos hc] at h2; omega
  · omega

end Cert.Kernel.Hand

end
-- ==== Proof.KIWords.lean ====
/-
  The kernel's index arithmetic on 32-bit words, in closed form: the offsets of its slices, the trip counts of its loops,
  the conditions of its branches and the side conditions on its slices, for words that hold small natural numbers.
-/
module

public import proofs.«01_k».proof.Proof.Gen.KernelIdeal.Skeleton

@[expose] public section

set_option maxRecDepth 16384

namespace Cert.KernelIdeal.Hand

open Cert.KernelIdeal Cert.KernelIdeal.Gen
open Idealize.ShloMosaic

/-- The 32-bit word of a natural number. -/
abbrev wd (n : ℕ) : BitVec 32 := BitVec.ofNat 32 n

theorem vec2 {a b a' b' : ℕ} (h0 : a = a') (h1 : b = b') : ![a, b] = ![a', b'] := by rw [h0, h1]
theorem vec3 {a b c a' b' c' : ℕ} (h0 : a = a') (h1 : b = b') (h2 : c = c') : ![a, b, c] = ![a', b', c'] := by rw [h0, h1, h2]

theorem iv_wd (k : ℕ) : Scf.iv (0#32) (1#32) k = wd k := by unfold Scf.iv wd; simp
theorem wd_toNat {n : ℕ} (h : n < 2 ^ 32) : (wd n).toNat = n := by unfold wd; simpa using h

private theorem tab_iv17 : ∀ t : Fin 17, (Scf.iv (0#32) (1#32) t.val).toNat = t.val := by decide +kernel
private theorem tab_iv5 : ∀ t : Fin 17, (Scalar.addi (Scf.iv (0#32) (1#32) t.val) 5#32).toNat = t.val + 5 := by decide +kernel
private theorem tab_rem5 : ∀ t : Fin 17, (Scalar.remsi (Scf.iv (0#32) (1#32) t.val) 5#32).toNat = t.val % 5 := by decide +kernel
private theorem tab_rem55 : ∀ t : Fin 17, (Scalar.remsi (Scalar.addi (Scf.iv (0#32) (1#32) t.val) 5#32) 5#32).toNat = t.val % 5 := by decide +kernel
private theorem tab_m256 : ∀ t : Fin 6, (Scalar.muli (Scf.iv (0#32) (1#32) t.val) 256#32).toNat = 256 * t.val := by decide +kernel
private theorem tab_m128 : ∀ t : Fin 40, (Scalar.muli (Scf.iv (0#32) (1#32) t.val) 128#32).toNat = 128 * t.val := by decide +kernel
private theorem tab_m16 : ∀ t : Fin 8, (Scalar.muli (Scf.iv (0#32) (1#32) t.val) 16#32).toNat = 16 * t.val := by decide +kernel
private theorem tab_m256' : ∀ t : Fin 19, (Scalar.muli (Scf.iv (1#32) (1#32) t.val) 256#32).toNat = 256 * (t.val + 1) := by decide +kernel
private theorem tab_2 : ∀ t : Fin 6, ∀ r : Fin 2, (Scalar.addi (Scalar.muli 2#32 (Scf.iv (0#32) (1#32) t.val)) (wd r.val)).toNat = 2 * t.val + r.val := by decide +kernel
private theorem tab_2' : ∀ t : Fin 19, ∀ r : Fin 2, (Scalar.addi (Scalar.muli 2#32 (Scf.iv (1#32) (1#32) t.val)) (wd r.val)).toNat = 2 * (t.val + 1) + r.val := by decide +kernel
private theorem tab_128' : ∀ t : Fin 19, ∀ r : Fin 2, (Scalar.muli (Scalar.addi (Scalar.muli 2#32 (Scf.iv (1#32) (1#32) t.val)) (wd r.val)) 128#32).toNat = 128 * (2 * (t.val + 1) + r.val) := by decide +kernel

theorem iv17 {t : ℕ} (h : t < 17) : (Scf.iv (0#32) (1#32) t).toNat = t := tab_iv17 ⟨t, h⟩
theorem iv5 {t : ℕ} (h : t < 17) : (Scalar.addi (Scf.iv (0#32) (1#32) t) 5#32).toNat = t + 5 := tab_iv5 ⟨t, h⟩
theorem rem5 {t : ℕ} (h : t < 17) : (Scalar.remsi (Scf.iv (0#32) (1#32) t) 5#32).toNat = t % 5 := tab_rem5 ⟨t, h⟩
theorem rem55 {t : ℕ} (h : t < 17) : (Scalar.remsi (Scalar.addi (Scf.iv (0#32) (1#32) t) 5#32) 5#32).toNat = t % 5 := tab_rem55 ⟨t, h⟩

theorem t1_trips : k0_t1_loop.trips = 16 := by decide +kernel
theorem t2_trips : k0_t2_loop.trips = 5 := by decide +kernel
theorem t3_trips : k0_t3_loop.trips = 6 := by decide +kernel
theorem t4_trips : k0_t4_loop.trips = 8 := by decide +kernel
theorem t5_trips : k0_t5_loop.trips = 40 := by decide +kernel
theorem t15_trips : k0_t15_loop.trips = 6 := by decide +kernel
private theorem tab_t6 : ∀ n : Fin 17, (k0_t6_loop (wd n.val)).trips = n.val := by decide +kernel
theorem t6_trips {n : ℕ} (h : n < 17) : (k0_t6_loop (wd n)).trips = n := tab_t6 ⟨n, h⟩
private theorem tab_t16 : ∀ n : Fin 17, (k0_t16_loop (wd n.val)).trips = 0 := by decide +kernel
theorem t16_trips {n : ℕ} (h : n < 17) : (k0_t16_loop (wd n)).trips = 0 := tab_t16 ⟨n, h⟩

theorem off1_eq (t : Fin k0_t1_loop.trips) : k0_off1 t = ![t.val] := by
  have h : t.val < 17 := Nat.lt_trans (Nat.lt_of_lt_of_eq t.isLt t1_trips) (by omega)
  have := iv17 h
  show ![_] = ![_]
  exact congrArg (fun z => ![z]) this
theorem off2_eq {j : ℕ} (h : j < 17) : k0_off2 (wd j) = ![0, j] := vec2 rfl (wd_toNat (by omega))
theorem off3_eq {j : ℕ} (h : j < 17) : k0_off3 (wd j) = ![1, j] := vec2 rfl (wd_toNat (by omega))
theorem off4_eq {j : ℕ} (h : j < 17) : k0_off4 (wd j) = ![2, j] := vec2 rfl (wd_toNat (by omega))
theorem off5_eq (t : Fin k0_t2_loop.trips) : k0_off5 t = ![0, t.val] :=
  vec2 rfl (iv17 (Nat.lt_trans (Nat.lt_of_lt_of_eq t.isLt t2_trips) (by omega)))
theorem off6_eq (t : Fin k0_t2_loop.trips) (u : Fin k0_t3_loop.trips) : k0_off6 t u = ![t.val, u.val] := by
  have h1 := Nat.lt_of_lt_of_eq t.isLt t2_trips; have h2 := Nat.lt_of_lt_of_eq u.isLt t3_trips
  exact vec2 ((rem5 (by omega)).trans (Nat.mod_eq_of_lt h1)) (iv17 (by omega))
theorem off7_eq (t : Fin k0_t2_loop.trips) (u : Fin k0_t3_loop.trips) : k0_off7 t u = ![t.val, 256 * u.val, 0] := by
  have h1 := Nat.lt_of_lt_of_eq t.isLt t2_trips; have h2 := Nat.lt_of_lt_of_eq u.isLt t3_trips
  exact vec3 ((rem5 (by omega)).trans (Nat.mod_eq_of_lt h1)) (tab_m256 ⟨u.val, h2⟩) rfl
theorem off8_eq (u : Fin k0_t3_loop.trips) {e : ℕ} (he : e < 16) : k0_off8 u (wd e) = ![e, 256 * u.val, 0] :=
  vec3 (wd_toNat (by omega)) (tab_m256 ⟨u.val, Nat.lt_of_lt_of_eq u.isLt t3_trips⟩) rfl
theorem off9_eq (t : Fin k0_t4_loop.trips) (u : Fin k0_t5_loop.trips) : k0_off9 t u = ![16 * t.val, 128 * u.val] :=
  vec2 (tab_m16 ⟨t.val, Nat.lt_of_lt_of_eq t.isLt t4_trips⟩) (tab_m128 ⟨u.val, Nat.lt_of_lt_of_eq u.isLt t5_trips⟩)

section Trip
variable {v : BitVec 32} (t : Fin (k0_t6_loop v).trips) (ht : t.val < 17)
include ht
theorem off10_eq : k0_off10 v t = ![0, t.val] := vec2 rfl (iv17 ht)
theorem off11_eq : k0_off11 v t = ![1, t.val] := vec2 rfl (iv17 ht)
theorem off12_eq : k0_off12 v t = ![2, t.val] := vec2 rfl (iv17 ht)
theorem off65_eq : k0_off65 v t = ![0, t.val + 5] := vec2 rfl (iv5 ht)
theorem off66_eq (u : Fin k0_t15_loop.trips) : k0_off66 v t u = ![t.val % 5, u.val] :=
  vec2 (rem55 ht) (iv17 (Nat.lt_trans (Nat.lt_of_lt_of_eq u.isLt t15_trips) (by omega)))
theorem off67_eq (u : Fin k0_t15_loop.trips) : k0_off67 v t u = ![t.val % 5, 256 * u.val, 0] :=
  vec3 (rem55 ht) (tab_m256 ⟨u.val, Nat.lt_of_lt_of_eq u.isLt t15_trips⟩) rfl
end Trip
theorem off68_eq (u : Fin k0_t15_loop.trips) {e : ℕ} (he : e < 16) : k0_off68 u (wd e) = ![e, 256 * u.val, 0] :=
  vec3 (wd_toNat (by omega)) (tab_m256 ⟨u.val, Nat.lt_of_lt_of_eq u.isLt t15_trips⟩) rfl

private theorem tab_cond1 : ∀ n : Fin 17, ∀ t : Fin k0_t2_loop.trips, k0_cond1 (wd n.val) t = 1#1 ↔ t.val < n.val := by decide +kernel
theorem cond1_iff {n : ℕ} (h : n < 17) (t : Fin k0_t2_loop.trips) : k0_cond1 (wd n) t = 1#1 ↔ t.val < n := tab_cond1 ⟨n, h⟩ t
private theorem tab_cond6 : ∀ n : Fin 17, ∀ t : Fin (k0_t6_loop (wd n.val)).trips, k0_cond6 (wd n.val) t = 1#1 ↔ t.val + 5 < n.val := by decide +kernel
theorem cond6_iff {n : ℕ} (h : n < 17) (t : Fin (k0_t6_loop (wd n)).trips) : k0_cond6 (wd n) t = 1#1 ↔ t.val + 5 < n := tab_cond6 ⟨n, h⟩ t

/-- A slice of one weight chunk takes whole words of the array of experts. -/
theorem words_w {e u : ℕ} (he : e < 16) (hu : u < 6) : ∀ off : Fin 3 → ℕ, off = ![e, 256 * u, 0] →
    (∀ a, off a + S1x256x5120.size a ≤ S16x1536x5120.size a) ∧
    ∀ hinb : ∀ a, off a + S1x256x5120.size a ≤ S16x1536x5120.size a,
      (Rect.unit (s := S16x1536x5120) off S1x256x5120.size hinb).WholeWords (EltTy.packing .fp8e4m3) := by
  rintro _ rfl
  have tab : ∀ e : Fin 16, ∀ u : Fin 6, (∀ a, (![e.val, 256 * u.val, 0] : Fin 3 → ℕ) a + S1x256x5120.size a ≤ S16x1536x5120.size a) ∧
    ∀ hinb : ∀ a, (![e.val, 256 * u.val, 0] : Fin 3 → ℕ) a + S1x256x5120.size a ≤ S16x1536x5120.size a,
      (Rect.unit (s := S16x1536x5120) ![e.val, 256 * u.val, 0] S1x256x5120.size hinb).WholeWords (EltTy.packing .fp8e4m3) := by decide +kernel
  exact tab ⟨e, he⟩ ⟨u, hu⟩

/-- A slice of one chunk of the ring of weight buffers is in bounds and takes whole words. -/
theorem words_r {s u : ℕ} (hs : s < 5) (hu : u < 6) : ∀ off : Fin 3 → ℕ, off = ![s, 256 * u, 0] →
    (∀ a, off a + S1x256x5120.size a ≤ S5x1536x5120.size a) ∧
    ∀ hinb : ∀ a, off a + S1x256x5120.size a ≤ S5x1536x5120.size a,
      (Rect.unit (s := S5x1536x5120) off S1x256x5120.size hinb).WholeWords (EltTy.packing .fp8e4m3) := by
  rintro _ rfl
  have tab : ∀ e : Fin 5, ∀ u : Fin 6, (∀ a, (![e.val, 256 * u.val, 0] : Fin 3 → ℕ) a + S1x256x5120.size a ≤ S5x1536x5120.size a) ∧
    ∀ hinb : ∀ a, (![e.val, 256 * u.val, 0] : Fin 3 → ℕ) a + S1x256x5120.size a ≤ S5x1536x5120.size a,
      (Rect.unit (s := S5x1536x5120) ![e.val, 256 * u.val, 0] S1x256x5120.size hinb).WholeWords (EltTy.packing .fp8e4m3) := by decide +kernel
  exact tab ⟨s, hs⟩ ⟨u, hu⟩

theorem inb_r {s u d : ℕ} (hs : s < 5) (hu : u < 6) (hd : d < 20) : ∀ off : Fin 3 → ℕ, off = ![s, 256 * u, 256 * d] →
    ∀ a, off a + S1x256x256.size a ≤ S5x1536x5120.size a := by
  rintro _ rfl a; fin_cases a <;> simp <;> omega
theorem inb_sem {s u : ℕ} (hs : s < 5) (hu : u < 6) : ∀ off : Fin 2 → ℕ, off = ![s, u] → ∀ a, off a + S1x1.size a ≤ S5x6.size a := by
  rintro _ rfl a; fin_cases a <;> simp <;> omega
theorem inb_act {s u : ℕ} (hs : s < 3) (hu : u < 17) : ∀ off : Fin 2 → ℕ, off = ![s, u] → ∀ a, off a + S1x1.size a ≤ S3x17.size a := by
  rintro _ rfl a; fin_cases a <;> simp <;> omega
theorem inb_ws {e u d : ℕ} (hs : e < 16) (hu : u < 12) (hd : d < 40) : ∀ off : Fin 3 → ℕ, off = ![e, u, d] →
    ∀ a, off a + S1x1x1.size a ≤ S16x12x40.size a := by
  rintro _ rfl a; fin_cases a <;> simp <;> omega

theorem chk1_ok {j : ℕ} (h : j < 17) : k0_chk1 (wd j) :=
  ⟨inb_act (by omega) h _ (off2_eq h), inb_act (by omega) h _ (off3_eq h), inb_act (by omega) h _ (off4_eq h)⟩
theorem chk2_ok (v : BitVec 32) (t : Fin k0_t2_loop.trips) (u : Fin k0_t3_loop.trips) {e : ℕ} (he : e < 16) : k0_chk2 v t u (wd e) := by
  have hu : u.val < 6 := Nat.lt_of_lt_of_eq u.isLt t3_trips
  exact ⟨fun _ => (words_w he hu _ (off8_eq u he)).1, fun _ => (words_w he hu _ (off8_eq u he)).2⟩
theorem chk9_ok (v : BitVec 32) (t : Fin (k0_t6_loop v).trips) (u : Fin k0_t15_loop.trips) {e : ℕ} (he : e < 16) : k0_chk9 v t u (wd e) := by
  have hu : u.val < 6 := Nat.lt_of_lt_of_eq u.isLt t15_trips
  exact ⟨fun _ => (words_w he hu _ (off68_eq u he)).1, fun _ => (words_w he hu _ (off68_eq u he)).2⟩
private theorem tab_chk3 : ∀ n : Fin 17, k0_chk3 (wd n.val) := by
  intro n
  have h16 : (k0_t16_loop (wd n.val)).trips = 0 := t16_trips n.isLt
  have e16 : ∀ {p : Fin (k0_t16_loop (wd n.val)).trips → Prop}, ∀ t, p t := fun t => absurd t.isLt (by omega)
  have h6 : ∀ t : Fin (k0_t6_loop (wd n.val)).trips, t.val < n.val := fun t => Nat.lt_of_lt_of_eq t.isLt (t6_trips n.isLt)
  have hn := n.isLt
  unfold k0_chk3
  have ok6 : ∀ n : Fin 17, (k0_t6_loop (wd n.val)).OK := by decide +kernel
  have ok16 : ∀ n : Fin 17, (k0_t16_loop (wd n.val)).OK := by decide +kernel
  refine ⟨ok6 n, fun t => ?_, fun t => ?_, fun t => ?_, fun t h => ?_, fun t u h => ?_, fun t u h => ?_, fun t u h => ?_, ok16 n, ?_⟩
  · exact inb_act (by omega) (by have := h6 t; omega) _ (off10_eq t (by have := h6 t; omega))
  · exact inb_act (by omega) (by have := h6 t; omega) _ (off11_eq t (by have := h6 t; omega))
  · exact inb_act (by omega) (by have := h6 t; omega) _ (off12_eq t (by have := h6 t; omega))
  · exact inb_act (by omega) (by have := (cond6_iff n.isLt t).1 h; omega) _ (off65_eq t (by have := h6 t; omega))
  · exact inb_sem (Nat.mod_lt _ (by omega)) (Nat.lt_of_lt_of_eq u.isLt t15_trips) _ (off66_eq t (by have := h6 t; omega) u)
  · exact (words_r (Nat.mod_lt _ (by omega)) (Nat.lt_of_lt_of_eq u.isLt t15_trips) _ (off67_eq t (by have := h6 t; omega) u)).1
  · exact (words_r (Nat.mod_lt _ (by omega)) (Nat.lt_of_lt_of_eq u.isLt t15_trips) _ (off67_eq t (by have := h6 t; omega) u)).2
  · refine ⟨fun t => absurd t.isLt (by omega), fun t => absurd t.isLt (by omega), fun t => absurd t.isLt (by omega), fun t => absurd t.isLt (by omega), fun t => absurd t.isLt (by omega), fun t => absurd t.isLt (by omega), fun t => absurd t.isLt (by omega)⟩
theorem chk3_ok {n : ℕ} (h : n < 17) : k0_chk3 (wd n) := tab_chk3 ⟨n, h⟩

/-! ## The branch of 16 rows -/

/-- The first of the 16 rows that the branch reads and writes, for an expert whose rows begin at `lo`. -/
def row16 (lo : ℕ) : ℕ := min (16 * (lo / 16)) (128 - 16)
theorem row16_le (lo : ℕ) : row16 lo + 16 ≤ 128 := by unfold row16; omega
theorem t7_trips : k0_t7_loop.trips = 6 := by decide +kernel
theorem t8_trips : k0_t8_loop.trips = 19 := by decide +kernel
private theorem tab_row16 : ∀ lo : Fin 129, k0_off18 (wd lo.val) = ![row16 lo.val, 0] := by decide +kernel
theorem row16_eq {lo : ℕ} (h : lo < 129) : k0_off18 (wd lo) 0 = row16 lo := congrFun (tab_row16 ⟨lo, h⟩) 0
theorem off13_eq {v : BitVec 32} (t : Fin (k0_t6_loop v).trips) (ht : t.val < 17) : k0_off13 v t = ![0, t.val] := vec2 rfl (iv17 ht)
theorem off14_eq {v : BitVec 32} (t : Fin (k0_t6_loop v).trips) (ht : t.val < 17) (u : Fin k0_t7_loop.trips) :
    k0_off14 v t u = ![t.val % 5, u.val] := vec2 (rem5 ht) (iv17 (Nat.lt_trans (Nat.lt_of_lt_of_eq u.isLt t7_trips) (by omega)))
theorem off15_eq {v : BitVec 32} (t : Fin (k0_t6_loop v).trips) (ht : t.val < 17) (u : Fin k0_t7_loop.trips) :
    k0_off15 v t u = ![t.val % 5, 256 * u.val, 0] := vec3 (rem5 ht) (tab_m256 ⟨u.val, Nat.lt_of_lt_of_eq u.isLt t7_trips⟩) rfl
theorem off16_eq (u : Fin k0_t7_loop.trips) {e : ℕ} (he : e < 16) : k0_off16 u (wd e) = ![e, 256 * u.val, 0] :=
  vec3 (wd_toNat (by omega)) (tab_m256 ⟨u.val, Nat.lt_of_lt_of_eq u.isLt t7_trips⟩) rfl
theorem off17_eq {e : ℕ} (he : e < 16) (u : Fin k0_t7_loop.trips) (r : Fin 2) : k0_off17 (wd e) u (wd r.val) = ![e, 2 * u.val + r.val, 0] :=
  vec3 (wd_toNat (by omega)) (tab_2 ⟨u.val, Nat.lt_of_lt_of_eq u.isLt t7_trips⟩ r) rfl
theorem off18_eq {lo : ℕ} (h : lo < 129) : k0_off18 (wd lo) = ![row16 lo, 0] := tab_row16 ⟨lo, h⟩
theorem off19_eq {e : ℕ} (he : e < 16) (u : Fin k0_t7_loop.trips) (r : Fin 2) : k0_off19 (wd e) u (wd r.val) = ![e, 2 * u.val + r.val, 1] :=
  vec3 (wd_toNat (by omega)) (tab_2 ⟨u.val, Nat.lt_of_lt_of_eq u.isLt t7_trips⟩ r) rfl
theorem off20_eq {lo : ℕ} (h : lo < 129) : k0_off20 (wd lo) = ![row16 lo, 128] := vec2 (row16_eq h) rfl
theorem off21_eq {v : BitVec 32} (t : Fin (k0_t6_loop v).trips) (ht : t.val < 17) (u : Fin k0_t7_loop.trips) :
    k0_off21 v t u = ![t.val % 5, 256 * u.val, 0] := vec3 (rem5 ht) (tab_m256 ⟨u.val, Nat.lt_of_lt_of_eq u.isLt t7_trips⟩) rfl
theorem off22_eq {e : ℕ} (he : e < 16) (u : Fin k0_t7_loop.trips) (d : Fin k0_t8_loop.trips) (r r' : Fin 2) :
    k0_off22 (wd e) u d (wd r.val) (wd r'.val) = ![e, 2 * u.val + r.val, 2 * (d.val + 1) + r'.val] :=
  vec3 (wd_toNat (by omega)) (tab_2 ⟨u.val, Nat.lt_of_lt_of_eq u.isLt t7_trips⟩ r) (tab_2' ⟨d.val, Nat.lt_of_lt_of_eq d.isLt t8_trips⟩ r')
theorem off23_eq {lo : ℕ} (h : lo < 129) (d : Fin k0_t8_loop.trips) (r : Fin 2) :
    k0_off23 (wd lo) d (wd r.val) = ![row16 lo, 128 * (2 * (d.val + 1) + r.val)] :=
  vec2 (row16_eq h) (tab_128' ⟨d.val, Nat.lt_of_lt_of_eq d.isLt t8_trips⟩ r)
theorem off24_eq {v : BitVec 32} (t : Fin (k0_t6_loop v).trips) (ht : t.val < 17) (u : Fin k0_t7_loop.trips) (d : Fin k0_t8_loop.trips) :
    k0_off24 v t u d = ![t.val % 5, 256 * u.val, 256 * (d.val + 1)] :=
  vec3 (rem5 ht) (tab_m256 ⟨u.val, Nat.lt_of_lt_of_eq u.isLt t7_trips⟩) (tab_m256' ⟨d.val, Nat.lt_of_lt_of_eq d.isLt t8_trips⟩)
theorem off25_eq {lo : ℕ} (h : lo < 129) (u : Fin k0_t7_loop.trips) : k0_off25 (wd lo) u = ![row16 lo, 256 * u.val] :=
  vec2 (row16_eq h) (tab_m256 ⟨u.val, Nat.lt_of_lt_of_eq u.isLt t7_trips⟩)
theorem inb_x16 {lo d : ℕ} (hd : d < 40) : ∀ off : Fin 2 → ℕ, off = ![row16 lo, 128 * d] → ∀ a, off a + S16x128.size a ≤ S128x5120.size a := by
  have := row16_le lo
  rintro _ rfl a; fin_cases a <;> simp <;> omega
theorem inb_y16 {lo u : ℕ} (hu : u < 6) : ∀ off : Fin 2 → ℕ, off = ![row16 lo, 256 * u] → (∀ a, off a + S16x256.size a ≤ S128x1536.size a) ∧
    ∀ hinb : ∀ a, off a + S16x256.size a ≤ S128x1536.size a,
      (Rect.unit (s := S128x1536) off S16x256.size hinb).PackedRows (EltTy.packing .bf16) := by
  have := row16_le lo
  rintro _ rfl
  refine ⟨fun a => by fin_cases a <;> simp <;> omega, fun hinb => Or.inr ⟨by decide, rfl, Or.inl ⟨?_, by show 2 ∣ 16; decide⟩⟩⟩
  show 2 ∣ row16 lo
  unfold row16; omega
private theorem tab_mult16 : ∀ lo : Fin 129, 16 ∣ (k0_mult4 (wd lo.val)).toNat := by decide +kernel
theorem mult16_ok {lo : ℕ} (h : lo < 129) : 16 ∣ (k0_mult4 (wd lo)).toNat := tab_mult16 ⟨lo, h⟩
theorem chk5_ok (v14 v16 : BitVec 32) (u : Fin k0_t7_loop.trips) {e : ℕ} (he : e < 16) : k0_chk5 v14 v16 u (wd e) := by
  have hu : u.val < 6 := Nat.lt_of_lt_of_eq u.isLt t7_trips
  exact ⟨fun _ => (words_w he hu _ (off16_eq u he)).1, fun _ => (words_w he hu _ (off16_eq u he)).2⟩

/-! ## The branch of 32 rows -/

/-- The first of the 32 rows that the branch reads and writes, for an expert whose rows begin at `lo`. -/
def row32 (lo : ℕ) : ℕ := min (16 * (lo / 16)) (128 - 32)
theorem row32_le (lo : ℕ) : row32 lo + 32 ≤ 128 := by unfold row32; omega
theorem t9_trips : k0_t9_loop.trips = 6 := by decide +kernel
theorem t10_trips : k0_t10_loop.trips = 19 := by decide +kernel
private theorem tab_row32 : ∀ lo : Fin 129, k0_off31 (wd lo.val) = ![row32 lo.val, 0] := by decide +kernel
theorem row32_eq {lo : ℕ} (h : lo < 129) : k0_off31 (wd lo) 0 = row32 lo := congrFun (tab_row32 ⟨lo, h⟩) 0
theorem off26_eq {v : BitVec 32} (t : Fin (k0_t6_loop v).trips) (ht : t.val < 17) : k0_off26 v t = ![0, t.val] := vec2 rfl (iv17 ht)
theorem off27_eq {v : BitVec 32} (t : Fin (k0_t6_loop v).trips) (ht : t.val < 17) (u : Fin k0_t9_loop.trips) :
    k0_off27 v t u = ![t.val % 5, u.val] := vec2 (rem5 ht) (iv17 (Nat.lt_trans (Nat.lt_of_lt_of_eq u.isLt t9_trips) (by omega)))
theorem off28_eq {v : BitVec 32} (t : Fin (k0_t6_loop v).trips) (ht : t.val < 17) (u : Fin k0_t9_loop.trips) :
    k0_off28 v t u = ![t.val % 5, 256 * u.val, 0] := vec3 (rem5 ht) (tab_m256 ⟨u.val, Nat.lt_of_lt_of_eq u.isLt t9_trips⟩) rfl
theorem off29_eq (u : Fin k0_t9_loop.trips) {e : ℕ} (he : e < 16) : k0_off29 u (wd e) = ![e, 256 * u.val, 0] :=
  vec3 (wd_toNat (by omega)) (tab_m256 ⟨u.val, Nat.lt_of_lt_of_eq u.isLt t9_trips⟩) rfl
theorem off30_eq {e : ℕ} (he : e < 16) (u : Fin k0_t9_loop.trips) (r : Fin 2) : k0_off30 (wd e) u (wd r.val) = ![e, 2 * u.val + r.val, 0] :=
  vec3 (wd_toNat (by omega)) (tab_2 ⟨u.val, Nat.lt_of_lt_of_eq u.isLt t9_trips⟩ r) rfl
theorem off31_eq {lo : ℕ} (h : lo < 129) : k0_off31 (wd lo) = ![row32 lo, 0] := tab_row32 ⟨lo, h⟩
theorem off32_eq {e : ℕ} (he : e < 16) (u : Fin k0_t9_loop.trips) (r : Fin 2) : k0_off32 (wd e) u (wd r.val) = ![e, 2 * u.val + r.val, 1] :=
  vec3 (wd_toNat (by omega)) (tab_2 ⟨u.val, Nat.lt_of_lt_of_eq u.isLt t9_trips⟩ r) rfl
theorem off33_eq {lo : ℕ} (h : lo < 129) : k0_off33 (wd lo) = ![row32 lo, 128] := vec2 (row32_eq h) rfl
theorem off34_eq {v : BitVec 32} (t : Fin (k0_t6_loop v).trips) (ht : t.val < 17) (u : Fin k0_t9_loop.trips) :
    k0_off34 v t u = ![t.val % 5, 256 * u.val, 0] := vec3 (rem5 ht) (tab_m256 ⟨u.val, Nat.lt_of_lt_of_eq u.isLt t9_trips⟩) rfl
theorem off35_eq {e : ℕ} (he : e < 16) (u : Fin k0_t9_loop.trips) (d : Fin k0_t10_loop.trips) (r r' : Fin 2) :
    k0_off35 (wd e) u d (wd r.val) (wd r'.val) = ![e, 2 * u.val + r.val, 2 * (d.val + 1) + r'.val] :=
  vec3 (wd_toNat (by omega)) (tab_2 ⟨u.val, Nat.lt_of_lt_of_eq u.isLt t9_trips⟩ r) (tab_2' ⟨d.val, Nat.lt_of_lt_of_eq d.isLt t10_trips⟩ r')
theorem off36_eq {lo : ℕ} (h : lo < 129) (d : Fin k0_t10_loop.trips) (r : Fin 2) :
    k0_off36 (wd lo) d (wd r.val) = ![row32 lo, 128 * (2 * (d.val + 1) + r.val)] :=
  vec2 (row32_eq h) (tab_128' ⟨d.val, Nat.lt_of_lt_of_eq d.isLt t10_trips⟩ r)
theorem off37_eq {v : BitVec 32} (t : Fin (k0_t6_loop v).trips) (ht : t.val < 17) (u : Fin k0_t9_loop.trips) (d : Fin k0_t10_loop.trips) :
    k0_off37 v t u d = ![t.val % 5, 256 * u.val, 256 * (d.val + 1)] :=
  vec3 (rem5 ht) (tab_m256 ⟨u.val, Nat.lt_of_lt_of_eq u.isLt t9_trips⟩) (tab_m256' ⟨d.val, Nat.lt_of_lt_of_eq d.isLt t10_trips⟩)
theorem off38_eq {lo : ℕ} (h : lo < 129) (u : Fin k0_t9_loop.trips) : k0_off38 (wd lo) u = ![row32 lo, 256 * u.val] :=
  vec2 (row32_eq h) (tab_m256 ⟨u.val, Nat.lt_of_lt_of_eq u.isLt t9_trips⟩)
theorem inb_x32 {lo d : ℕ} (hd : d < 40) : ∀ off : Fin 2 → ℕ, off = ![row32 lo, 128 * d] → ∀ a, off a + S32x128.size a ≤ S128x5120.size a := by
  have := row32_le lo
  rintro _ rfl a; fin_cases a <;> simp <;> omega
theorem inb_y32 {lo u : ℕ} (hu : u < 6) : ∀ off : Fin 2 → ℕ, off = ![row32 lo, 256 * u] → (∀ a, off a + S32x256.size a ≤ S128x1536.size a) ∧
    ∀ hinb : ∀ a, off a + S32x256.size a ≤ S128x1536.size a,
      (Rect.unit (s := S128x1536) off S32x256.size hinb).PackedRows (EltTy.packing .bf16) := by
  have := row32_le lo
  rintro _ rfl
  refine ⟨fun a => by fin_cases a <;> simp <;> omega, fun hinb => Or.inr ⟨by decide, rfl, Or.inl ⟨?_, by show 2 ∣ 32; decide⟩⟩⟩
  show 2 ∣ row32 lo
  unfold row32; omega
private theorem tab_mult32 : ∀ lo : Fin 129, 16 ∣ (k0_mult17 (wd lo.val)).toNat := by decide +kernel
theorem mult32_ok {lo : ℕ} (h : lo < 129) : 16 ∣ (k0_mult17 (wd lo)).toNat := tab_mult32 ⟨lo, h⟩
theorem chk6_ok (v14 v16 : BitVec 32) (u : Fin k0_t9_loop.trips) {e : ℕ} (he : e < 16) : k0_chk6 v14 v16 u (wd e) := by
  have hu : u.val < 6 := Nat.lt_of_lt_of_eq u.isLt t9_trips
  exact ⟨fun _ => (words_w he hu _ (off29_eq u he)).1, fun _ => (words_w he hu _ (off29_eq u he)).2⟩

/-! ## The branch of 64 rows -/

/-- The first of the 64 rows that the branch reads and writes, for an expert whose rows begin at `lo`. -/
def row64 (lo : ℕ) : ℕ := min (16 * (lo / 16)) (128 - 64)
theorem row64_le (lo : ℕ) : row64 lo + 64 ≤ 128 := by unfold row64; omega
theorem t11_trips : k0_t11_loop.trips = 6 := by decide +kernel
theorem t12_trips : k0_t12_loop.trips = 19 := by decide +kernel
private theorem tab_row64 : ∀ lo : Fin 129, k0_off44 (wd lo.val) = ![row64 lo.val, 0] := by decide +kernel
theorem row64_eq {lo : ℕ} (h : lo < 129) : k0_off44 (wd lo) 0 = row64 lo := congrFun (tab_row64 ⟨lo, h⟩) 0
theorem off39_eq {v : BitVec 32} (t : Fin (k0_t6_loop v).trips) (ht : t.val < 17) : k0_off39 v t = ![0, t.val] := vec2 rfl (iv17 ht)
theorem off40_eq {v : BitVec 32} (t : Fin (k0_t6_loop v).trips) (ht : t.val < 17) (u : Fin k0_t11_loop.trips) :
    k0_off40 v t u = ![t.val % 5, u.val] := vec2 (rem5 ht) (iv17 (Nat.lt_trans (Nat.lt_of_lt_of_eq u.isLt t11_trips) (by omega)))
theorem off41_eq {v : BitVec 32} (t : Fin (k0_t6_loop v).trips) (ht : t.val < 17) (u : Fin k0_t11_loop.trips) :
    k0_off41 v t u = ![t.val % 5, 256 * u.val, 0] := vec3 (rem5 ht) (tab_m256 ⟨u.val, Nat.lt_of_lt_of_eq u.isLt t11_trips⟩) rfl
theorem off42_eq (u : Fin k0_t11_loop.trips) {e : ℕ} (he : e < 16) : k0_off42 u (wd e) = ![e, 256 * u.val, 0] :=
  vec3 (wd_toNat (by omega)) (tab_m256 ⟨u.val, Nat.lt_of_lt_of_eq u.isLt t11_trips⟩) rfl
theorem off43_eq {e : ℕ} (he : e < 16) (u : Fin k0_t11_loop.trips) (r : Fin 2) : k0_off43 (wd e) u (wd r.val) = ![e, 2 * u.val + r.val, 0] :=
  vec3 (wd_toNat (by omega)) (tab_2 ⟨u.val, Nat.lt_of_lt_of_eq u.isLt t11_trips⟩ r) rfl
theorem off44_eq {lo : ℕ} (h : lo < 129) : k0_off44 (wd lo) = ![row64 lo, 0] := tab_row64 ⟨lo, h⟩
theorem off45_eq {e : ℕ} (he : e < 16) (u : Fin k0_t11_loop.trips) (r : Fin 2) : k0_off45 (wd e) u (wd r.val) = ![e, 2 * u.val + r.val, 1] :=
  vec3 (wd_toNat (by omega)) (tab_2 ⟨u.val, Nat.lt_of_lt_of_eq u.isLt t11_trips⟩ r) rfl
theorem off46_eq {lo : ℕ} (h : lo < 129) : k0_off46 (wd lo) = ![row64 lo, 128] := vec2 (row64_eq h) rfl
theorem off47_eq {v : BitVec 32} (t : Fin (k0_t6_loop v).trips) (ht : t.val < 17) (u : Fin k0_t11_loop.trips) :
    k0_off47 v t u = ![t.val % 5, 256 * u.val, 0] := vec3 (rem5 ht) (tab_m256 ⟨u.val, Nat.lt_of_lt_of_eq u.isLt t11_trips⟩) rfl
theorem off48_eq {e : ℕ} (he : e < 16) (u : Fin k0_t11_loop.trips) (d : Fin k0_t12_loop.trips) (r r' : Fin 2) :
    k0_off48 (wd e) u d (wd r.val) (wd r'.val) = ![e, 2 * u.val + r.val, 2 * (d.val + 1) + r'.val] :=
  vec3 (wd_toNat (by omega)) (tab_2 ⟨u.val, Nat.lt_of_lt_of_eq u.isLt t11_trips⟩ r) (tab_2' ⟨d.val, Nat.lt_of_lt_of_eq d.isLt t12_trips⟩ r')
theorem off49_eq {lo : ℕ} (h : lo < 129) (d : Fin k0_t12_loop.trips) (r : Fin 2) :
    k0_off49 (wd lo) d (wd r.val) = ![row64 lo, 128 * (2 * (d.val + 1) + r.val)] :=
  vec2 (row64_eq h) (tab_128' ⟨d.val, Nat.lt_of_lt_of_eq d.isLt t12_trips⟩ r)
theorem off50_eq {v : BitVec 32} (t : Fin (k0_t6_loop v).trips) (ht : t.val < 17) (u : Fin k0_t11_loop.trips) (d : Fin k0_t12_loop.trips) :
    k0_off50 v t u d = ![t.val % 5, 256 * u.val, 256 * (d.val + 1)] :=
  vec3 (rem5 ht) (tab_m256 ⟨u.val, Nat.lt_of_lt_of_eq u.isLt t11_trips⟩) (tab_m256' ⟨d.val, Nat.lt_of_lt_of_eq d.isLt t12_trips⟩)
theorem off51_eq {lo : ℕ} (h : lo < 129) (u : Fin k0_t11_loop.trips) : k0_off51 (wd lo) u = ![row64 lo, 256 * u.val] :=
  vec2 (row64_eq h) (tab_m256 ⟨u.val, Nat.lt_of_lt_of_eq u.isLt t11_trips⟩)
theorem inb_x64 {lo d : ℕ} (hd : d < 40) : ∀ off : Fin 2 → ℕ, off = ![row64 lo, 128 * d] → ∀ a, off a + S64x128.size a ≤ S128x5120.size a := by
  have := row64_le lo
  rintro _ rfl a; fin_cases a <;> simp <;> omega
theorem inb_y64 {lo u : ℕ} (hu : u < 6) : ∀ off : Fin 2 → ℕ, off = ![row64 lo, 256 * u] → (∀ a, off a + S64x256.size a ≤ S128x1536.size a) ∧
    ∀ hinb : ∀ a, off a + S64x256.size a ≤ S128x1536.size a,
      (Rect.unit (s := S128x1536) off S64x256.size hinb).PackedRows (EltTy.packing .bf16) := by
  have := row64_le lo
  rintro _ rfl
  refine ⟨fun a => by fin_cases a <;> simp <;> omega, fun hinb => Or.inr ⟨by decide, rfl, Or.inl ⟨?_, by show 2 ∣ 64; decide⟩⟩⟩
  show 2 ∣ row64 lo
  unfold row64; omega
private theorem tab_mult64 : ∀ lo : Fin 129, 16 ∣ (k0_mult30 (wd lo.val)).toNat := by decide +kernel
theorem mult64_ok {lo : ℕ} (h : lo < 129) : 16 ∣ (k0_mult30 (wd lo)).toNat := tab_mult64 ⟨lo, h⟩
theorem chk7_ok (v14 v16 : BitVec 32) (u : Fin k0_t11_loop.trips) {e : ℕ} (he : e < 16) : k0_chk7 v14 v16 u (wd e) := by
  have hu : u.val < 6 := Nat.lt_of_lt_of_eq u.isLt t11_trips
  exact ⟨fun _ => (words_w he hu _ (off42_eq u he)).1, fun _ => (words_w he hu _ (off42_eq u he)).2⟩

/-! ## The branch of 128 rows -/

/-- The first of the 128 rows that the branch reads and writes, for an expert whose rows begin at `lo`. -/
def row128 (lo : ℕ) : ℕ := min (16 * (lo / 16)) (128 - 128)
theorem row128_le (lo : ℕ) : row128 lo + 128 ≤ 128 := by unfold row128; omega
theorem t13_trips : k0_t13_loop.trips = 6 := by decide +kernel
theorem t14_trips : k0_t14_loop.trips = 19 := by decide +kernel
private theorem tab_row128 : ∀ lo : Fin 129, k0_off57 (wd lo.val) = ![row128 lo.val, 0] := by decide +kernel
theorem row128_eq {lo : ℕ} (h : lo < 129) : k0_off57 (wd lo) 0 = row128 lo := congrFun (tab_row128 ⟨lo, h⟩) 0
theorem off52_eq {v : BitVec 32} (t : Fin (k0_t6_loop v).trips) (ht : t.val < 17) : k0_off52 v t = ![0, t.val] := vec2 rfl (iv17 ht)
theorem off53_eq {v : BitVec 32} (t : Fin (k0_t6_loop v).trips) (ht : t.val < 17) (u : Fin k0_t13_loop.trips) :
    k0_off53 v t u = ![t.val % 5, u.val] := vec2 (rem5 ht) (iv17 (Nat.lt_trans (Nat.lt_of_lt_of_eq u.isLt t13_trips) (by omega)))
theorem off54_eq {v : BitVec 32} (t : Fin (k0_t6_loop v).trips) (ht : t.val < 17) (u : Fin k0_t13_loop.trips) :
    k0_off54 v t u = ![t.val % 5, 256 * u.val, 0] := vec3 (rem5 ht) (tab_m256 ⟨u.val, Nat.lt_of_lt_of_eq u.isLt t13_trips⟩) rfl
theorem off55_eq (u : Fin k0_t13_loop.trips) {e : ℕ} (he : e < 16) : k0_off55 u (wd e) = ![e, 256 * u.val, 0] :=
  vec3 (wd_toNat (by omega)) (tab_m256 ⟨u.val, Nat.lt_of_lt_of_eq u.isLt t13_trips⟩) rfl
theorem off56_eq {e : ℕ} (he : e < 16) (u : Fin k0_t13_loop.trips) (r : Fin 2) : k0_off56 (wd e) u (wd r.val) = ![e, 2 * u.val + r.val, 0] :=
  vec3 (wd_toNat (by omega)) (tab_2 ⟨u.val, Nat.lt_of_lt_of_eq u.isLt t13_trips⟩ r) rfl
theorem off57_eq {lo : ℕ} (h : lo < 129) : k0_off57 (wd lo) = ![row128 lo, 0] := tab_row128 ⟨lo, h⟩
theorem off58_eq {e : ℕ} (he : e < 16) (u : Fin k0_t13_loop.trips) (r : Fin 2) : k0_off58 (wd e) u (wd r.val) = ![e, 2 * u.val + r.val, 1] :=
  vec3 (wd_toNat (by omega)) (tab_2 ⟨u.val, Nat.lt_of_lt_of_eq u.isLt t13_trips⟩ r) rfl
theorem off59_eq {lo : ℕ} (h : lo < 129) : k0_off59 (wd lo) = ![row128 lo, 128] := vec2 (row128_eq h) rfl
theorem off60_eq {v : BitVec 32} (t : Fin (k0_t6_loop v).trips) (ht : t.val < 17) (u : Fin k0_t13_loop.trips) :
    k0_off60 v t u = ![t.val % 5, 256 * u.val, 0] := vec3 (rem5 ht) (tab_m256 ⟨u.val, Nat.lt_of_lt_of_eq u.isLt t13_trips⟩) rfl
theorem off61_eq {e : ℕ} (he : e < 16) (u : Fin k0_t13_loop.trips) (d : Fin k0_t14_loop.trips) (r r' : Fin 2) :
    k0_off61 (wd e) u d (wd r.val) (wd r'.val) = ![e, 2 * u.val + r.val, 2 * (d.val + 1) + r'.val] :=
  vec3 (wd_toNat (by omega)) (tab_2 ⟨u.val, Nat.lt_of_lt_of_eq u.isLt t13_trips⟩ r) (tab_2' ⟨d.val, Nat.lt_of_lt_of_eq d.isLt t14_trips⟩ r')
theorem off62_eq {lo : ℕ} (h : lo < 129) (d : Fin k0_t14_loop.trips) (r : Fin 2) :
    k0_off62 (wd lo) d (wd r.val) = ![row128 lo, 128 * (2 * (d.val + 1) + r.val)] :=
  vec2 (row128_eq h) (tab_128' ⟨d.val, Nat.lt_of_lt_of_eq d.isLt t14_trips⟩ r)
theorem off63_eq {v : BitVec 32} (t : Fin (k0_t6_loop v).trips) (ht : t.val < 17) (u : Fin k0_t13_loop.trips) (d : Fin k0_t14_loop.trips) :
    k0_off63 v t u d = ![t.val % 5, 256 * u.val, 256 * (d.val + 1)] :=
  vec3 (rem5 ht) (tab_m256 ⟨u.val, Nat.lt_of_lt_of_eq u.isLt t13_trips⟩) (tab_m256' ⟨d.val, Nat.lt_of_lt_of_eq d.isLt t14_trips⟩)
theorem off64_eq {lo : ℕ} (h : lo < 129) (u : Fin k0_t13_loop.trips) : k0_off64 (wd lo) u = ![row128 lo, 256 * u.val] :=
  vec2 (row128_eq h) (tab_m256 ⟨u.val, Nat.lt_of_lt_of_eq u.isLt t13_trips⟩)
theorem inb_x128 {lo d : ℕ} (hd : d < 40) : ∀ off : Fin 2 → ℕ, off = ![row128 lo, 128 * d] → ∀ a, off a + S128x128.size a ≤ S128x5120.size a := by
  have := row128_le lo
  rintro _ rfl a; fin_cases a <;> simp <;> omega
theorem inb_y128 {lo u : ℕ} (hu : u < 6) : ∀ off : Fin 2 → ℕ, off = ![row128 lo, 256 * u] → (∀ a, off a + S128x256.size a ≤ S128x1536.size a) ∧
    ∀ hinb : ∀ a, off a + S128x256.size a ≤ S128x1536.size a,
      (Rect.unit (s := S128x1536) off S128x256.size hinb).PackedRows (EltTy.packing .bf16) := by
  have := row128_le lo
  rintro _ rfl
  refine ⟨fun a => by fin_cases a <;> simp <;> omega, fun hinb => Or.inr ⟨by decide, rfl, Or.inl ⟨?_, by show 2 ∣ 128; decide⟩⟩⟩
  show 2 ∣ row128 lo
  unfold row128; omega
private theorem tab_mult128 : ∀ lo : Fin 129, 16 ∣ (k0_mult43 (wd lo.val)).toNat := by decide +kernel
theorem mult128_ok {lo : ℕ} (h : lo < 129) : 16 ∣ (k0_mult43 (wd lo)).toNat := tab_mult128 ⟨lo, h⟩
theorem chk8_ok (v14 v16 : BitVec 32) (u : Fin k0_t13_loop.trips) {e : ℕ} (he : e < 16) : k0_chk8 v14 v16 u (wd e) := by
  have hu : u.val < 6 := Nat.lt_of_lt_of_eq u.isLt t13_trips
  exact ⟨fun _ => (words_w he hu _ (off55_eq u he)).1, fun _ => (words_w he hu _ (off55_eq u he)).2⟩

/-- Every side condition of one expert's slices. -/
theorem chk4_ok {v : BitVec 32} (t : Fin (k0_t6_loop v).trips) (ht : t.val < 17) {e lo : ℕ} (he : e < 16) (hlo : lo < 129) (v16 : BitVec 32) :
    k0_chk4 v t (wd e) (wd lo) v16 := by
  have hm := Nat.mod_lt t.val (show 5 > 0 by omega)
  have u7 : ∀ u : Fin k0_t7_loop.trips, u.val < 6 := fun u => Nat.lt_of_lt_of_eq u.isLt t7_trips
  have u8 : ∀ u : Fin k0_t8_loop.trips, u.val < 19 := fun u => Nat.lt_of_lt_of_eq u.isLt t8_trips
  have u9 : ∀ u : Fin k0_t9_loop.trips, u.val < 6 := fun u => Nat.lt_of_lt_of_eq u.isLt t9_trips
  have u10 : ∀ u : Fin k0_t10_loop.trips, u.val < 19 := fun u => Nat.lt_of_lt_of_eq u.isLt t10_trips
  have u11 : ∀ u : Fin k0_t11_loop.trips, u.val < 6 := fun u => Nat.lt_of_lt_of_eq u.isLt t11_trips
  have u12 : ∀ u : Fin k0_t12_loop.trips, u.val < 19 := fun u => Nat.lt_of_lt_of_eq u.isLt t12_trips
  have u13 : ∀ u : Fin k0_t13_loop.trips, u.val < 6 := fun u => Nat.lt_of_lt_of_eq u.isLt t13_trips
  have u14 : ∀ u : Fin k0_t14_loop.trips, u.val < 19 := fun u => Nat.lt_of_lt_of_eq u.isLt t14_trips
  exact ⟨⟨fun _ => mult16_ok hlo,
    fun _ => inb_act (by omega) ht _ (off13_eq t ht),
    fun u _ => inb_sem hm (u7 u) _ (off14_eq t ht u),
    fun u _ => (words_r hm (u7 u) _ (off15_eq t ht u)).1,
    fun u _ => (words_r hm (u7 u) _ (off15_eq t ht u)).2,
    fun u _ r => inb_ws he (by have := u7 u; omega) (by omega) _ (off17_eq he u r),
    fun _ => inb_x16 (d := 0) (by omega) _ (off18_eq hlo),
    fun u _ r => inb_ws he (by have := u7 u; omega) (by omega) _ (off19_eq he u r),
    fun _ => inb_x16 (d := 1) (by omega) _ (off20_eq hlo),
    fun u _ => inb_r (d := 0) hm (u7 u) (by omega) _ (off21_eq t ht u),
    fun u d _ r r' => inb_ws he (by have := u7 u; omega) (by have := u8 d; omega) _ (off22_eq he u d r r'),
    fun d _ r => inb_x16 (by have := u8 d; omega) _ (off23_eq hlo d r),
    fun u d _ => inb_r hm (u7 u) (by have := u8 d; omega) _ (off24_eq t ht u d),
    fun u _ => (inb_y16 (u7 u) _ (off25_eq hlo u)).1,
    fun u _ => (inb_y16 (u7 u) _ (off25_eq hlo u)).2,
    fun _ => mult32_ok hlo,
    fun _ => inb_act (by omega) ht _ (off26_eq t ht),
    fun u _ => inb_sem hm (u9 u) _ (off27_eq t ht u),
    fun u _ => (words_r hm (u9 u) _ (off28_eq t ht u)).1,
    fun u _ => (words_r hm (u9 u) _ (off28_eq t ht u)).2,
    fun u _ r => inb_ws he (by have := u9 u; omega) (by omega) _ (off30_eq he u r),
    fun _ => inb_x32 (d := 0) (by omega) _ (off31_eq hlo),
    fun u _ r => inb_ws he (by have := u9 u; omega) (by omega) _ (off32_eq he u r),
    fun _ => inb_x32 (d := 1) (by omega) _ (off33_eq hlo),
    fun u _ => inb_r (d := 0) hm (u9 u) (by omega) _ (off34_eq t ht u),
    fun u d _ r r' => inb_ws he (by have := u9 u; omega) (by have := u10 d; omega) _ (off35_eq he u d r r'),
    fun d _ r => inb_x32 (by have := u10 d; omega) _ (off36_eq hlo d r),
    fun u d _ => inb_r hm (u9 u) (by have := u10 d; omega) _ (off37_eq t ht u d),
    fun u _ => (inb_y32 (u9 u) _ (off38_eq hlo u)).1,
    fun u _ => (inb_y32 (u9 u) _ (off38_eq hlo u)).2,
    fun _ => mult64_ok hlo,
    fun _ => inb_act (by omega) ht _ (off39_eq t ht)⟩,
   ⟨fun u _ => inb_sem hm (u11 u) _ (off40_eq t ht u),
    fun u _ => (words_r hm (u11 u) _ (off41_eq t ht u)).1,
    fun u _ => (words_r hm (u11 u) _ (off41_eq t ht u)).2,
    fun u _ r => inb_ws he (by have := u11 u; omega) (by omega) _ (off43_eq he u r),
    fun _ => inb_x64 (d := 0) (by omega) _ (off44_eq hlo),
    fun u _ r => inb_ws he (by have := u11 u; omega) (by omega) _ (off45_eq he u r),
    fun _ => inb_x64 (d := 1) (by omega) _ (off46_eq hlo),
    fun u _ => inb_r (d := 0) hm (u11 u) (by omega) _ (off47_eq t ht u),
    fun u d _ r r' => inb_ws he (by have := u11 u; omega) (by have := u12 d; omega) _ (off48_eq he u d r r'),
    fun d _ r => inb_x64 (by have := u12 d; omega) _ (off49_eq hlo d r),
    fun u d _ => inb_r hm (u11 u) (by have := u12 d; omega) _ (off50_eq t ht u d),
    fun u _ => (inb_y64 (u11 u) _ (off51_eq hlo u)).1,
    fun u _ => (inb_y64 (u11 u) _ (off51_eq hlo u)).2,
    fun _ => mult128_ok hlo,
    fun _ => inb_act (by omega) ht _ (off52_eq t ht),
    fun u _ => inb_sem hm (u13 u) _ (off53_eq t ht u),
    fun u _ => (words_r hm (u13 u) _ (off54_eq t ht u)).1,
    fun u _ => (words_r hm (u13 u) _ (off54_eq t ht u)).2,
    fun u _ r => inb_ws he (by have := u13 u; omega) (by omega) _ (off56_eq he u r),
    fun _ => inb_x128 (d := 0) (by omega) _ (off57_eq hlo),
    fun u _ r => inb_ws he (by have := u13 u; omega) (by omega) _ (off58_eq he u r),
    fun _ => inb_x128 (d := 1) (by omega) _ (off59_eq hlo),
    fun u _ => inb_r (d := 0) hm (u13 u) (by omega) _ (off60_eq t ht u),
    fun u d _ r r' => inb_ws he (by have := u13 u; omega) (by have := u14 d; omega) _ (off61_eq he u d r r'),
    fun d _ r => inb_x128 (by have := u14 d; omega) _ (off62_eq hlo d r),
    fun u d _ => inb_r hm (u13 u) (by have := u14 d; omega) _ (off63_eq t ht u d),
    fun u _ => (inb_y128 (u13 u) _ (off64_eq hlo u)).1,
    fun u _ => (inb_y128 (u13 u) _ (off64_eq hlo u)).2⟩⟩

/-! ## The branch taken -/

/-- How many tiles of sixteen rows the rows from `lo` up to `hi` meet. -/
def tiles (lo hi : ℕ) : ℕ := (hi + 15) / 16 - lo / 16

/-- The sign of a word. -/
def sgn (v : BitVec 32) : BitVec 32 := Scalar.subi (Scalar.extui (Scalar.cmpi .sgt v 0#32)) (Scalar.extui (Scalar.cmpi .slt v 0#32))
/-- The quotient of a word by sixteen, rounded down. -/
def fl (v : BitVec 32) : BitVec 32 :=
  Scalar.select (Scalar.andi (Scalar.cmpi .ne (sgn v) (sgn 16#32)) (Scalar.cmpi .ne (Scalar.remsi v 16#32) 0#32))
    (Scalar.subi (Scalar.divsi v 16#32) 1#32) (Scalar.divsi v 16#32)
/-- The quotient of a word by sixteen, rounded up. -/
def cl (v : BitVec 32) : BitVec 32 := fl (Scalar.subi (Scalar.addi v 16#32) 1#32)
/-- Whether a difference lies above `a` and not above `b`. -/
def within (a b p q : BitVec 32) : BitVec 1 :=
  Scalar.cmpi .ne (Scalar.extui (Scalar.andi (Scalar.cmpi .sgt (Scalar.subi p q) a) (Scalar.cmpi .sle (Scalar.subi p q) b))) 0#32
private theorem tab_fl : ∀ lo : Fin 129, fl (wd lo.val) = wd (lo.val / 16) := by decide +kernel
private theorem tab_cl : ∀ lo : Fin 129, cl (wd lo.val) = wd ((lo.val + 15) / 16) := by decide +kernel
private theorem tab_within2 : ∀ p q : Fin 10, within 0#32 1#32 (wd p.val) (wd q.val) = 1#1 ↔ 0 < p.val - q.val ∧ p.val - q.val ≤ 1 ∨ (within 0#32 1#32 (wd p.val) (wd q.val) = 1#1 ∧ p.val < q.val) := by decide +kernel
theorem cond2_iff {lo hi : ℕ} (h : lo ≤ hi) (hh : hi < 129) : k0_cond2 (wd lo) (wd hi) = 1#1 ↔ 0 < tiles lo hi ∧ tiles lo hi ≤ 1 := by
  have e : k0_cond2 (wd lo) (wd hi) = within 0#32 1#32 (cl (wd hi)) (fl (wd lo)) := rfl
  rw [e, tab_fl ⟨lo, by omega⟩, tab_cl ⟨hi, hh⟩]
  refine (tab_within2 ⟨(hi + 15) / 16, by omega⟩ ⟨lo / 16, by omega⟩).trans ⟨fun h => ?_, fun h => Or.inl h⟩
  rcases h with h | ⟨_, h⟩
  · exact h
  · simp only at h; omega
private theorem tab_within3 : ∀ p q : Fin 10, within 1#32 2#32 (wd p.val) (wd q.val) = 1#1 ↔ 1 < p.val - q.val ∧ p.val - q.val ≤ 2 ∨ (within 1#32 2#32 (wd p.val) (wd q.val) = 1#1 ∧ p.val < q.val) := by decide +kernel
theorem cond3_iff {lo hi : ℕ} (h : lo ≤ hi) (hh : hi < 129) : k0_cond3 (wd lo) (wd hi) = 1#1 ↔ 1 < tiles lo hi ∧ tiles lo hi ≤ 2 := by
  have e : k0_cond3 (wd lo) (wd hi) = within 1#32 2#32 (cl (wd hi)) (fl (wd lo)) := rfl
  rw [e, tab_fl ⟨lo, by omega⟩, tab_cl ⟨hi, hh⟩]
  refine (tab_within3 ⟨(hi + 15) / 16, by omega⟩ ⟨lo / 16, by omega⟩).trans ⟨fun h => ?_, fun h => Or.inl h⟩
  rcases h with h | ⟨_, h⟩
  · exact h
  · simp only at h; omega
private theorem tab_within4 : ∀ p q : Fin 10, within 2#32 4#32 (wd p.val) (wd q.val) = 1#1 ↔ 2 < p.val - q.val ∧ p.val - q.val ≤ 4 ∨ (within 2#32 4#32 (wd p.val) (wd q.val) = 1#1 ∧ p.val < q.val) := by decide +kernel
theorem cond4_iff {lo hi : ℕ} (h : lo ≤ hi) (hh : hi < 129) : k0_cond4 (wd lo) (wd hi) = 1#1 ↔ 2 < tiles lo hi ∧ tiles lo hi ≤ 4 := by
  have e : k0_cond4 (wd lo) (wd hi) = within 2#32 4#32 (cl (wd hi)) (fl (wd lo)) := rfl
  rw [e, tab_fl ⟨lo, by omega⟩, tab_cl ⟨hi, hh⟩]
  refine (tab_within4 ⟨(hi + 15) / 16, by omega⟩ ⟨lo / 16, by omega⟩).trans ⟨fun h => ?_, fun h => Or.inl h⟩
  rcases h with h | ⟨_, h⟩
  · exact h
  · simp only at h; omega
private theorem tab_within5 : ∀ p q : Fin 10, within 4#32 8#32 (wd p.val) (wd q.val) = 1#1 ↔ 4 < p.val - q.val ∧ p.val - q.val ≤ 8 ∨ (within 4#32 8#32 (wd p.val) (wd q.val) = 1#1 ∧ p.val < q.val) := by decide +kernel
theorem cond5_iff {lo hi : ℕ} (h : lo ≤ hi) (hh : hi < 129) : k0_cond5 (wd lo) (wd hi) = 1#1 ↔ 4 < tiles lo hi ∧ tiles lo hi ≤ 8 := by
  have e : k0_cond5 (wd lo) (wd hi) = within 4#32 8#32 (cl (wd hi)) (fl (wd lo)) := rfl
  rw [e, tab_fl ⟨lo, by omega⟩, tab_cl ⟨hi, hh⟩]
  refine (tab_within5 ⟨(hi + 15) / 16, by omega⟩ ⟨lo / 16, by omega⟩).trans ⟨fun h => ?_, fun h => Or.inl h⟩
  rcases h with h | ⟨_, h⟩
  · exact h
  · simp only at h; omega

end Cert.KernelIdeal.Hand

end
-- ==== Proof.KIAccess.lean ====
/-
  Loads and stores of the kernel's buffers, each through a rectangle of unit strides at an offset vector, with what a load
  returns and what a store leaves written as total functions of the buffer and the offset (`rd`, `wr`).
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Transfers
public import proofs.«01_k».proof.Proof.Scan
public import proofs.«01_k».proof.Proof.KIWords
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- What a rectangle of extents `size` at `off` reads off an array (coordinates past the end wrap, so that it is total). -/
def rd {S : Shape} {α : Type} (hS : ∀ a, 0 < S.size a) (size : Fin S.rank → ℕ) (f : S.Idx → α) (off : Fin S.rank → ℕ) :
    (⟨S.rank, size⟩ : Shape).Idx → α :=
  fun y => f (fun a => ⟨(off a + (y a).val) % S.size a, Nat.mod_lt _ (hS a)⟩)

/-- An array with the rectangle of extents `size` at `off` replaced by `w`. -/
def wr {S : Shape} {α : Type} (size : Fin S.rank → ℕ) (f : S.Idx → α) (off : Fin S.rank → ℕ) (w : (⟨S.rank, size⟩ : Shape).Idx → α) :
    S.Idx → α :=
  fun i => if h : ∀ a, off a ≤ (i a).val ∧ (i a).val < off a + size a then
    w (fun a => ⟨(i a).val - off a, by have := h a; show _ < size a; omega⟩) else f i

theorem rd_emb {S : Shape} {α : Type} (hS : ∀ a, 0 < S.size a) (size off : Fin S.rank → ℕ) (inb : ∀ a, off a + size a ≤ S.size a)
    (f : S.Idx → α) (y : (Rect.unit (s := S) off size inb).shape.Idx) :
    f ((Rect.unit (s := S) off size inb).emb y) = rd hS size f off y := by
  unfold rd
  congr 1
  funext a
  apply Fin.ext
  have h1 := inb a
  have h2 : (y a).val < size a := (y a).isLt
  show off a + 1 * (y a).val = (off a + (y a).val) % S.size a
  rw [Nat.mod_eq_of_lt (by omega)]; omega

/-- The element of an array at a coordinate vector (coordinates past the end wrap). -/
def el {S : Shape} {α : Type} (hS : ∀ a, 0 < S.size a) (f : S.Idx → α) (off : Fin S.rank → ℕ) : α :=
  f (fun a => ⟨off a % S.size a, Nat.mod_lt _ (hS a)⟩)

theorem el_wr_self {S : Shape} {α : Type} (hS : ∀ a, 0 < S.size a) (size : Fin S.rank → ℕ) (f : S.Idx → α) (off : Fin S.rank → ℕ) (v : α)
    (hin : ∀ a, off a < S.size a) (h1 : ∀ a, 0 < size a) : el hS (wr size f off (fun _ => v)) off = v := by
  unfold el wr
  rw [dif_pos]
  intro a
  have := h1 a
  show off a ≤ off a % S.size a ∧ off a % S.size a < off a + size a
  rw [Nat.mod_eq_of_lt (hin a)]; omega

theorem el_wr_ne {S : Shape} {α : Type} (hS : ∀ a, 0 < S.size a) (size : Fin S.rank → ℕ) (f : S.Idx → α) (off off' : Fin S.rank → ℕ) (w)
    (hin : ∀ a, off' a < S.size a) (h1 : ∃ a, off' a < off a ∨ off a + size a ≤ off' a) : el hS (wr size f off w) off' = el hS f off' := by
  unfold el wr
  rw [dif_neg]
  intro h
  obtain ⟨a, ha⟩ := h1
  have := h a
  simp only [Nat.mod_eq_of_lt (hin a)] at this
  omega

theorem pos_S128x1536 : ∀ a, 0 < S128x1536.size a := by decide
theorem pos_S128x5120 : ∀ a, 0 < S128x5120.size a := by decide
theorem pos_S5x1536x5120 : ∀ a, 0 < S5x1536x5120.size a := by decide
theorem pos_S16 : ∀ a, 0 < S16.size a := by decide
theorem pos_S16x12x40 : ∀ a, 0 < S16x12x40.size a := by decide
theorem pos_S3x17 : ∀ a, 0 < S3x17.size a := by decide
theorem pos_S16x1536x5120 : ∀ a, 0 < S16x1536x5120.size a := by decide

theorem upd_wr {S : Shape} {α : Type} (size off : Fin S.rank → ℕ) (inb : ∀ a, off a + size a ≤ S.size a) (f : S.Idx → α)
    (w : (⟨S.rank, size⟩ : Shape).Idx → α) : updateSlice (u := ⟨S.rank, size⟩) f w off ⟨rfl, inb⟩ = wr size f off w := by
  funext i
  by_cases h : ∀ a, off a ≤ (i a).val ∧ (i a).val < off a + size a
  · unfold wr; rw [dif_pos h]; unfold updateSlice; exact dif_pos h
  · unfold wr; rw [dif_neg h]; unfold updateSlice; exact dif_neg h

section Steps
variable (c : Dev nD)

/-- The end of a program. -/
theorem wp_end {α : Type} {Q : α → sProp 𝕄} (a : α) :
    Q a ⊢ wp frame (wpE (defs₀ (F := F)) Variants.none (c : Thread nD τ) none) Set.univ (pure a : Prog (TpuEff nD τ sig (Elt F) Λ₀ .tc) α) Q := by
  rw [wp_pure]; exact fupd_intro

/-- A checked fact that holds. -/
theorem wp_chk {P : Prop} {d : Decidable P} {Q : PLift P → sProp 𝕄} (h : P) :
    Q ⟨h⟩ ⊢ wp frame (wpE (defs₀ (F := F)) Variants.none (c : Thread nD τ) none) Set.univ (Prog.lift (TpuEff.assume P d)) Q := by
  refine .trans ?_ (Idealize.ShloMosaic.wp_assume (k := Prog.ret) (Q := Q) Variants.none (c : Thread nD τ) none Set.univ h)
  rw [wp_ret]; exact fupd_intro

/-- A load through a rectangle of `cc0_stg2_0`. -/
theorem wp_ld4 {size off : Fin S128x1536.rank → ℕ} {inb : ∀ a, off a + size a ≤ S128x1536.size a} {hl} {Q : ((⟨S128x1536.rank, size⟩ : Shape).Idx → Elt F .bf16) → sProp 𝕄}
    {q : PosShare TreeShare} {f : Buf (Elt F) ((c : Thread nD τ).loc cc0_stg2_0)} {I : Finset (Idx ((c : Thread nD τ).loc cc0_stg2_0))}
    (hI : ∀ i : S128x1536.Idx, (∀ a, off a ≤ (i a).val ∧ (i a).val < off a + size a) → i ∈ I) :
    ((c : Thread nD τ).loc cc0_stg2_0 ↦[I]{q} f)
      ⊢ iprop((((c : Thread nD τ).loc cc0_stg2_0 ↦[I]{q} f) -∗ Q (rd (S := S128x1536) pos_S128x1536 size f off))
        -∗ wp frame (wpE (defs₀ (F := F)) Variants.none (c : Thread nD τ) none) Set.univ
          (Prog.lift (TpuEff.load (Memref.whole cc0_stg2_0 : Memref sig .tc _ S128x1536 .bf16) (Rect.unit (s := S128x1536) off size inb).toLoadRect hl)) Q) := by
  have hS : ((Memref.whole cc0_stg2_0 : Memref sig .tc _ S128x1536 .bf16).access (Rect.unit (s := S128x1536) off size inb)).set ⊆ I := by
    intro i hi
    rw [show ((Memref.whole cc0_stg2_0 : Memref sig .tc _ S128x1536 .bf16).access (Rect.unit (s := S128x1536) off size inb)).set = (Rect.unit (s := S128x1536) off size inb).set from View.set_slice_whole _ _, Rect.mem_set_unit] at hi
    exact hI i hi
  refine (Idealize.ShloMosaic.wp_load_rect (r := Rect.unit (s := S128x1536) off size inb) (hl := hl) (k := Prog.ret) (Q := Q) Variants.none (c : Thread nD τ) none Set.univ hS).trans (wand_mono_left (wand_mono_right ?_))
  have e : ((Memref.whole cc0_stg2_0 : Memref sig .tc _ S128x1536 .bf16).access (Rect.unit (s := S128x1536) off size inb)).read (Elt F) f = rd (S := S128x1536) pos_S128x1536 size f off := funext fun y => rd_emb pos_S128x1536 size off inb f y
  rw [wp_ret]
  exact .trans (by rw [← e]) fupd_intro

/-- A load through a rectangle of `cc0_scratch0`. -/
theorem wp_ld5 {size off : Fin S128x5120.rank → ℕ} {inb : ∀ a, off a + size a ≤ S128x5120.size a} {hl} {Q : ((⟨S128x5120.rank, size⟩ : Shape).Idx → Elt F .bf16) → sProp 𝕄}
    {q : PosShare TreeShare} {f : Buf (Elt F) ((c : Thread nD τ).loc cc0_scratch0)} {I : Finset (Idx ((c : Thread nD τ).loc cc0_scratch0))}
    (hI : ∀ i : S128x5120.Idx, (∀ a, off a ≤ (i a).val ∧ (i a).val < off a + size a) → i ∈ I) :
    ((c : Thread nD τ).loc cc0_scratch0 ↦[I]{q} f)
      ⊢ iprop((((c : Thread nD τ).loc cc0_scratch0 ↦[I]{q} f) -∗ Q (rd (S := S128x5120) pos_S128x5120 size f off))
        -∗ wp frame (wpE (defs₀ (F := F)) Variants.none (c : Thread nD τ) none) Set.univ
          (Prog.lift (TpuEff.load (Memref.whole cc0_scratch0 : Memref sig .tc _ S128x5120 .bf16) (Rect.unit (s := S128x5120) off size inb).toLoadRect hl)) Q) := by
  have hS : ((Memref.whole cc0_scratch0 : Memref sig .tc _ S128x5120 .bf16).access (Rect.unit (s := S128x5120) off size inb)).set ⊆ I := by
    intro i hi
    rw [show ((Memref.whole cc0_scratch0 : Memref sig .tc _ S128x5120 .bf16).access (Rect.unit (s := S128x5120) off size inb)).set = (Rect.unit (s := S128x5120) off size inb).set from View.set_slice_whole _ _, Rect.mem_set_unit] at hi
    exact hI i hi
  refine (Idealize.ShloMosaic.wp_load_rect (r := Rect.unit (s := S128x5120) off size inb) (hl := hl) (k := Prog.ret) (Q := Q) Variants.none (c : Thread nD τ) none Set.univ hS).trans (wand_mono_left (wand_mono_right ?_))
  have e : ((Memref.whole cc0_scratch0 : Memref sig .tc _ S128x5120 .bf16).access (Rect.unit (s := S128x5120) off size inb)).read (Elt F) f = rd (S := S128x5120) pos_S128x5120 size f off := funext fun y => rd_emb pos_S128x5120 size off inb f y
  rw [wp_ret]
  exact .trans (by rw [← e]) fupd_intro

/-- A load through a rectangle of `cc0_scratch1`. -/
theorem wp_ld6 {size off : Fin S128x5120.rank → ℕ} {inb : ∀ a, off a + size a ≤ S128x5120.size a} {hl} {Q : ((⟨S128x5120.rank, size⟩ : Shape).Idx → Elt F .bf16) → sProp 𝕄}
    {q : PosShare TreeShare} {f : Buf (Elt F) ((c : Thread nD τ).loc cc0_scratch1)} {I : Finset (Idx ((c : Thread nD τ).loc cc0_scratch1))}
    (hI : ∀ i : S128x5120.Idx, (∀ a, off a ≤ (i a).val ∧ (i a).val < off a + size a) → i ∈ I) :
    ((c : Thread nD τ).loc cc0_scratch1 ↦[I]{q} f)
      ⊢ iprop((((c : Thread nD τ).loc cc0_scratch1 ↦[I]{q} f) -∗ Q (rd (S := S128x5120) pos_S128x5120 size f off))
        -∗ wp frame (wpE (defs₀ (F := F)) Variants.none (c : Thread nD τ) none) Set.univ
          (Prog.lift (TpuEff.load (Memref.whole cc0_scratch1 : Memref sig .tc _ S128x5120 .bf16) (Rect.unit (s := S128x5120) off size inb).toLoadRect hl)) Q) := by
  have hS : ((Memref.whole cc0_scratch1 : Memref sig .tc _ S128x5120 .bf16).access (Rect.unit (s := S128x5120) off size inb)).set ⊆ I := by
    intro i hi
    rw [show ((Memref.whole cc0_scratch1 : Memref sig .tc _ S128x5120 .bf16).access (Rect.unit (s := S128x5120) off size inb)).set = (Rect.unit (s := S128x5120) off size inb).set from View.set_slice_whole _ _, Rect.mem_set_unit] at hi
    exact hI i hi
  refine (Idealize.ShloMosaic.wp_load_rect (r := Rect.unit (s := S128x5120) off size inb) (hl := hl) (k := Prog.ret) (Q := Q) Variants.none (c : Thread nD τ) none Set.univ hS).trans (wand_mono_left (wand_mono_right ?_))
  have e : ((Memref.whole cc0_scratch1 : Memref sig .tc _ S128x5120 .bf16).access (Rect.unit (s := S128x5120) off size inb)).read (Elt F) f = rd (S := S128x5120) pos_S128x5120 size f off := funext fun y => rd_emb pos_S128x5120 size off inb f y
  rw [wp_ret]
  exact .trans (by rw [← e]) fupd_intro

/-- A load through a rectangle of `cc0_scratch2`. -/
theorem wp_ld7 {size off : Fin S5x1536x5120.rank → ℕ} {inb : ∀ a, off a + size a ≤ S5x1536x5120.size a} {hl} {Q : ((⟨S5x1536x5120.rank, size⟩ : Shape).Idx → Elt F .fp8e4m3) → sProp 𝕄}
    {q : PosShare TreeShare} {f : Buf (Elt F) ((c : Thread nD τ).loc cc0_scratch2)} {I : Finset (Idx ((c : Thread nD τ).loc cc0_scratch2))}
    (hI : ∀ i : S5x1536x5120.Idx, (∀ a, off a ≤ (i a).val ∧ (i a).val < off a + size a) → i ∈ I) :
    ((c : Thread nD τ).loc cc0_scratch2 ↦[I]{q} f)
      ⊢ iprop((((c : Thread nD τ).loc cc0_scratch2 ↦[I]{q} f) -∗ Q (rd (S := S5x1536x5120) pos_S5x1536x5120 size f off))
        -∗ wp frame (wpE (defs₀ (F := F)) Variants.none (c : Thread nD τ) none) Set.univ
          (Prog.lift (TpuEff.load (Memref.whole cc0_scratch2 : Memref sig .tc _ S5x1536x5120 .fp8e4m3) (Rect.unit (s := S5x1536x5120) off size inb).toLoadRect hl)) Q) := by
  have hS : ((Memref.whole cc0_scratch2 : Memref sig .tc _ S5x1536x5120 .fp8e4m3).access (Rect.unit (s := S5x1536x5120) off size inb)).set ⊆ I := by
    intro i hi
    rw [show ((Memref.whole cc0_scratch2 : Memref sig .tc _ S5x1536x5120 .fp8e4m3).access (Rect.unit (s := S5x1536x5120) off size inb)).set = (Rect.unit (s := S5x1536x5120) off size inb).set from View.set_slice_whole _ _, Rect.mem_set_unit] at hi
    exact hI i hi
  refine (Idealize.ShloMosaic.wp_load_rect (r := Rect.unit (s := S5x1536x5120) off size inb) (hl := hl) (k := Prog.ret) (Q := Q) Variants.none (c : Thread nD τ) none Set.univ hS).trans (wand_mono_left (wand_mono_right ?_))
  have e : ((Memref.whole cc0_scratch2 : Memref sig .tc _ S5x1536x5120 .fp8e4m3).access (Rect.unit (s := S5x1536x5120) off size inb)).read (Elt F) f = rd (S := S5x1536x5120) pos_S5x1536x5120 size f off := funext fun y => rd_emb pos_S5x1536x5120 size off inb f y
  rw [wp_ret]
  exact .trans (by rw [← e]) fupd_intro

/-- A load of one word of `cc0_stg0_0`. -/
theorem wp_sm0 {size off : Fin S16.rank → ℕ} {inb : ∀ a, off a + size a ≤ S16.size a} {h1 hp} {Q : Elt F .i32 → sProp 𝕄}
    {q : PosShare TreeShare} {f : Buf (Elt F) ((c : Thread nD τ).loc cc0_stg0_0)} (hs : ∀ a, size a = 1) :
    ((c : Thread nD τ).loc cc0_stg0_0 ↦{q} f)
      ⊢ iprop((((c : Thread nD τ).loc cc0_stg0_0 ↦{q} f) -∗ Q (el (S := S16) pos_S16 f off))
        -∗ wp frame (wpE (defs₀ (F := F)) Variants.none (c : Thread nD τ) none) Set.univ
          (smemLoad (Memref.whole cc0_stg0_0 : Memref sig .tc _ S16 .i32) (Rect.unit (s := S16) off size inb) h1 hp) Q) := by
  have hz : ∀ (x : (Rect.unit (s := S16) off size inb).shape.Idx), ∀ a, (x a).val = 0 := by
    intro x a
    have h2 : (x a).val < size a := Fin.isLt (x a)
    rw [hs a] at h2
    exact Nat.lt_one_iff.1 h2
  have e : ∀ y : (Rect.unit (s := S16) off size inb).shape.Idx, (∀ a, (y a).val = 0) → ((Memref.whole cc0_stg0_0 : Memref sig .tc _ S16 .i32).access (Rect.unit (s := S16) off size inb)).read (Elt F) f y = el (S := S16) pos_S16 f off := by
    intro y hy
    refine (rd_emb pos_S16 size off inb f y).trans ?_
    unfold rd el
    congr 1; funext a; apply Fin.ext
    show (off a + (y a).val) % _ = _
    rw [hy a, Nat.add_zero]
  have key : ∀ (hw : ((Memref.whole cc0_stg0_0 : Memref sig .tc _ S16 .i32).access (Rect.unit (s := S16) off size inb)).Loads) (x : (Rect.unit (s := S16) off size inb).shape.Idx), ((c : Thread nD τ).loc cc0_stg0_0 ↦{q} f)
      ⊢ iprop((((c : Thread nD τ).loc cc0_stg0_0 ↦{q} f) -∗ Q (el (S := S16) pos_S16 f off))
        -∗ wp frame (wpE (defs₀ (F := F)) Variants.none (c : Thread nD τ) none) Set.univ
          (smemLoadElt (Memref.whole cc0_stg0_0 : Memref sig .tc _ S16 .i32) (Rect.unit (s := S16) off size inb) hw x .ret) Q) := fun hw x => by
    refine (Idealize.ShloMosaic.wp_smemLoadElt (r := Rect.unit (s := S16) off size inb) (hw := hw) (x := x) (k := Prog.ret) (Q := Q) Variants.none (c : Thread nD τ) none Set.univ (Finset.subset_univ _)).trans (wand_mono_left (wand_mono_right ?_))
    rw [wp_ret]
    exact .trans (.of_eq (congrArg Q (e _ (hz x)).symm)) fupd_intro
  exact key _ _

/-- A load of one word of `cc0_stg1_0`. -/
theorem wp_sm1 {size off : Fin S16x12x40.rank → ℕ} {inb : ∀ a, off a + size a ≤ S16x12x40.size a} {h1 hp} {Q : Elt F .f32 → sProp 𝕄}
    {q : PosShare TreeShare} {f : Buf (Elt F) ((c : Thread nD τ).loc cc0_stg1_0)} (hs : ∀ a, size a = 1) :
    ((c : Thread nD τ).loc cc0_stg1_0 ↦{q} f)
      ⊢ iprop((((c : Thread nD τ).loc cc0_stg1_0 ↦{q} f) -∗ Q (el (S := S16x12x40) pos_S16x12x40 f off))
        -∗ wp frame (wpE (defs₀ (F := F)) Variants.none (c : Thread nD τ) none) Set.univ
          (smemLoad (Memref.whole cc0_stg1_0 : Memref sig .tc _ S16x12x40 .f32) (Rect.unit (s := S16x12x40) off size inb) h1 hp) Q) := by
  have hz : ∀ (x : (Rect.unit (s := S16x12x40) off size inb).shape.Idx), ∀ a, (x a).val = 0 := by
    intro x a
    have h2 : (x a).val < size a := Fin.isLt (x a)
    rw [hs a] at h2
    exact Nat.lt_one_iff.1 h2
  have e : ∀ y : (Rect.unit (s := S16x12x40) off size inb).shape.Idx, (∀ a, (y a).val = 0) → ((Memref.whole cc0_stg1_0 : Memref sig .tc _ S16x12x40 .f32).access (Rect.unit (s := S16x12x40) off size inb)).read (Elt F) f y = el (S := S16x12x40) pos_S16x12x40 f off := by
    intro y hy
    refine (rd_emb pos_S16x12x40 size off inb f y).trans ?_
    unfold rd el
    congr 1; funext a; apply Fin.ext
    show (off a + (y a).val) % _ = _
    rw [hy a, Nat.add_zero]
  have key : ∀ (hw : ((Memref.whole cc0_stg1_0 : Memref sig .tc _ S16x12x40 .f32).access (Rect.unit (s := S16x12x40) off size inb)).Loads) (x : (Rect.unit (s := S16x12x40) off size inb).shape.Idx), ((c : Thread nD τ).loc cc0_stg1_0 ↦{q} f)
      ⊢ iprop((((c : Thread nD τ).loc cc0_stg1_0 ↦{q} f) -∗ Q (el (S := S16x12x40) pos_S16x12x40 f off))
        -∗ wp frame (wpE (defs₀ (F := F)) Variants.none (c : Thread nD τ) none) Set.univ
          (smemLoadElt (Memref.whole cc0_stg1_0 : Memref sig .tc _ S16x12x40 .f32) (Rect.unit (s := S16x12x40) off size inb) hw x .ret) Q) := fun hw x => by
    refine (Idealize.ShloMosaic.wp_smemLoadElt (r := Rect.unit (s := S16x12x40) off size inb) (hw := hw) (x := x) (k := Prog.ret) (Q := Q) Variants.none (c : Thread nD τ) none Set.univ (Finset.subset_univ _)).trans (wand_mono_left (wand_mono_right ?_))
    rw [wp_ret]
    exact .trans (.of_eq (congrArg Q (e _ (hz x)).symm)) fupd_intro
  exact key _ _

/-- A load of one word of `cc0_scratch3`. -/
theorem wp_sm8 {size off : Fin S3x17.rank → ℕ} {inb : ∀ a, off a + size a ≤ S3x17.size a} {h1 hp} {Q : Elt F .i32 → sProp 𝕄}
    {q : PosShare TreeShare} {f : Buf (Elt F) ((c : Thread nD τ).loc cc0_scratch3)} (hs : ∀ a, size a = 1) :
    ((c : Thread nD τ).loc cc0_scratch3 ↦{q} f)
      ⊢ iprop((((c : Thread nD τ).loc cc0_scratch3 ↦{q} f) -∗ Q (el (S := S3x17) pos_S3x17 f off))
        -∗ wp frame (wpE (defs₀ (F := F)) Variants.none (c : Thread nD τ) none) Set.univ
          (smemLoad (Memref.whole cc0_scratch3 : Memref sig .tc _ S3x17 .i32) (Rect.unit (s := S3x17) off size inb) h1 hp) Q) := by
  have hz : ∀ (x : (Rect.unit (s := S3x17) off size inb).shape.Idx), ∀ a, (x a).val = 0 := by
    intro x a
    have h2 : (x a).val < size a := Fin.isLt (x a)
    rw [hs a] at h2
    exact Nat.lt_one_iff.1 h2
  have e : ∀ y : (Rect.unit (s := S3x17) off size inb).shape.Idx, (∀ a, (y a).val = 0) → ((Memref.whole cc0_scratch3 : Memref sig .tc _ S3x17 .i32).access (Rect.unit (s := S3x17) off size inb)).read (Elt F) f y = el (S := S3x17) pos_S3x17 f off := by
    intro y hy
    refine (rd_emb pos_S3x17 size off inb f y).trans ?_
    unfold rd el
    congr 1; funext a; apply Fin.ext
    show (off a + (y a).val) % _ = _
    rw [hy a, Nat.add_zero]
  have key : ∀ (hw : ((Memref.whole cc0_scratch3 : Memref sig .tc _ S3x17 .i32).access (Rect.unit (s := S3x17) off size inb)).Loads) (x : (Rect.unit (s := S3x17) off size inb).shape.Idx), ((c : Thread nD τ).loc cc0_scratch3 ↦{q} f)
      ⊢ iprop((((c : Thread nD τ).loc cc0_scratch3 ↦{q} f) -∗ Q (el (S := S3x17) pos_S3x17 f off))
        -∗ wp frame (wpE (defs₀ (F := F)) Variants.none (c : Thread nD τ) none) Set.univ
          (smemLoadElt (Memref.whole cc0_scratch3 : Memref sig .tc _ S3x17 .i32) (Rect.unit (s := S3x17) off size inb) hw x .ret) Q) := fun hw x => by
    refine (Idealize.ShloMosaic.wp_smemLoadElt (r := Rect.unit (s := S3x17) off size inb) (hw := hw) (x := x) (k := Prog.ret) (Q := Q) Variants.none (c : Thread nD τ) none Set.univ (Finset.subset_univ _)).trans (wand_mono_left (wand_mono_right ?_))
    rw [wp_ret]
    exact .trans (.of_eq (congrArg Q (e _ (hz x)).symm)) fupd_intro
  exact key _ _

/-- A store through a rectangle of `cc0_stg2_0`. -/
theorem wp_st4 {size off : Fin S128x1536.rank → ℕ} {inb : ∀ a, off a + size a ≤ S128x1536.size a} {w : (⟨S128x1536.rank, size⟩ : Shape).Idx → Elt F .bf16} {hx hm} {Q : Unit → sProp 𝕄}
    {f : Buf (Elt F) ((c : Thread nD τ).loc cc0_stg2_0)} :
    ((c : Thread nD τ).loc cc0_stg2_0 ↦{fullShare} f)
      ⊢ iprop((((c : Thread nD τ).loc cc0_stg2_0 ↦{fullShare} (wr (S := S128x1536) size f off w : S128x1536.Idx → Elt F .bf16)) -∗ Q ⟨⟩)
        -∗ wp frame (wpE (defs₀ (F := F)) Variants.none (c : Thread nD τ) none) Set.univ
          (Prog.lift (TpuEff.store (Memref.whole cc0_stg2_0 : Memref sig .tc _ S128x1536 .bf16) (Rect.unit (s := S128x1536) off size inb) w Finset.univ hx hm)) Q) := by
  refine (Idealize.ShloMosaic.wp_store (r := Rect.unit (s := S128x1536) off size inb) (w := w) (Mk := Finset.univ) (hx := hx) (hm := hm) (k := Prog.ret) (Q := Q) Variants.none (c : Thread nD τ) none Set.univ (Finset.subset_univ _)).trans (wand_mono_left ?_)
  have e : ((Memref.whole cc0_stg2_0 : Memref sig .tc _ S128x1536 .bf16).access (Rect.unit (s := S128x1536) off size inb)).write (Elt F) f w Finset.univ = (wr (S := S128x1536) size f off w : S128x1536.Idx → Elt F .bf16) :=
    (View.write_whole_slice_unit cc0_stg2_0 off size inb f w).trans (upd_wr size off inb f w)
  rw [wp_ret]
  exact wand_mono (by rw [← e]) fupd_intro

/-- A store through a rectangle of `cc0_scratch1`. -/
theorem wp_st6 {size off : Fin S128x5120.rank → ℕ} {inb : ∀ a, off a + size a ≤ S128x5120.size a} {w : (⟨S128x5120.rank, size⟩ : Shape).Idx → Elt F .bf16} {hx hm} {Q : Unit → sProp 𝕄}
    {f : Buf (Elt F) ((c : Thread nD τ).loc cc0_scratch1)} :
    ((c : Thread nD τ).loc cc0_scratch1 ↦{fullShare} f)
      ⊢ iprop((((c : Thread nD τ).loc cc0_scratch1 ↦{fullShare} (wr (S := S128x5120) size f off w : S128x5120.Idx → Elt F .bf16)) -∗ Q ⟨⟩)
        -∗ wp frame (wpE (defs₀ (F := F)) Variants.none (c : Thread nD τ) none) Set.univ
          (Prog.lift (TpuEff.store (Memref.whole cc0_scratch1 : Memref sig .tc _ S128x5120 .bf16) (Rect.unit (s := S128x5120) off size inb) w Finset.univ hx hm)) Q) := by
  refine (Idealize.ShloMosaic.wp_store (r := Rect.unit (s := S128x5120) off size inb) (w := w) (Mk := Finset.univ) (hx := hx) (hm := hm) (k := Prog.ret) (Q := Q) Variants.none (c : Thread nD τ) none Set.univ (Finset.subset_univ _)).trans (wand_mono_left ?_)
  have e : ((Memref.whole cc0_scratch1 : Memref sig .tc _ S128x5120 .bf16).access (Rect.unit (s := S128x5120) off size inb)).write (Elt F) f w Finset.univ = (wr (S := S128x5120) size f off w : S128x5120.Idx → Elt F .bf16) :=
    (View.write_whole_slice_unit cc0_scratch1 off size inb f w).trans (upd_wr size off inb f w)
  rw [wp_ret]
  exact wand_mono (by rw [← e]) fupd_intro

/-- A store through a rectangle of `cc0_scratch3`. -/
theorem wp_st8 {size off : Fin S3x17.rank → ℕ} {inb : ∀ a, off a + size a ≤ S3x17.size a} {w : (⟨S3x17.rank, size⟩ : Shape).Idx → Elt F .i32} {hx hm} {Q : Unit → sProp 𝕄}
    {f : Buf (Elt F) ((c : Thread nD τ).loc cc0_scratch3)} :
    ((c : Thread nD τ).loc cc0_scratch3 ↦{fullShare} f)
      ⊢ iprop((((c : Thread nD τ).loc cc0_scratch3 ↦{fullShare} (wr (S := S3x17) size f off w : S3x17.Idx → Elt F .i32)) -∗ Q ⟨⟩)
        -∗ wp frame (wpE (defs₀ (F := F)) Variants.none (c : Thread nD τ) none) Set.univ
          (Prog.lift (TpuEff.store (Memref.whole cc0_scratch3 : Memref sig .tc _ S3x17 .i32) (Rect.unit (s := S3x17) off size inb) w Finset.univ hx hm)) Q) := by
  refine (Idealize.ShloMosaic.wp_store (r := Rect.unit (s := S3x17) off size inb) (w := w) (Mk := Finset.univ) (hx := hx) (hm := hm) (k := Prog.ret) (Q := Q) Variants.none (c : Thread nD τ) none Set.univ (Finset.subset_univ _)).trans (wand_mono_left ?_)
  have e : ((Memref.whole cc0_scratch3 : Memref sig .tc _ S3x17 .i32).access (Rect.unit (s := S3x17) off size inb)).write (Elt F) f w Finset.univ = (wr (S := S3x17) size f off w : S3x17.Idx → Elt F .i32) :=
    (View.write_whole_slice_unit cc0_scratch3 off size inb f w).trans (upd_wr size off inb f w)
  rw [wp_ret]
  exact wand_mono (by rw [← e]) fupd_intro

/-- A counted loop, by an invariant over the trips done. -/
theorem wp_loop {σ : Type} (L : Scf.Loop 32) (hok : L.OK) (init : σ) (body : Fin L.trips → σ → Prog (TpuEff nD τ sig (Elt F) Λ₀ .tc) σ) (n : ℕ) (hn : L.trips = n)
    (I : ℕ → σ → sProp 𝕄)
    (hbody : ∀ (k : Fin L.trips) (acc : σ), k.val < n → (I k.val acc ⊢ wp frame (wpE (defs₀ (F := F)) Variants.none (c : Thread nD τ) none) Set.univ (body k acc) (I (k.val + 1))))
    {Q : σ → sProp 𝕄} :
    I 0 init ⊢ iprop((∀ acc, I n acc -∗ Q acc) -∗
      wp frame (wpE (defs₀ (F := F)) Variants.none (c : Thread nD τ) none) Set.univ (Scf.Loop.for L hok init body) Q) := by
  subst hn
  iintro H HQ
  iapply Scf.wp_for _ _ _ _ _ _ hok init body I (fun k acc => hbody k acc k.isLt)
  isplitl [H]
  · iexact H
  · iexact HQ

end Steps

end Cert.KernelIdeal.Hand

end
-- ==== Proof.KIRing.lean ====
/-
  The ring of weight buffers: its chunks, the copies into them and the waits for them.
-/
module

public import proofs.«01_k».proof.Proof.KIAccess

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- The part of the ring of weight buffers that chunk `u` of slot `s` takes: rows `256 u` up to `256 (u + 1)`. -/
def Rg (s u : ℕ) : Finset S5x1536x5120.Idx :=
  Finset.univ.filter fun i => (i 0).val = s ∧ 256 * u ≤ (i 1).val ∧ (i 1).val < 256 * u + 256

/-- What a slot holds once expert `e`'s weights are in it (the same at every slot). -/
def G (fw : S16x1536x5120.Idx → Elt F .fp8e4m3) (e : ℕ) : S5x1536x5120.Idx → Elt F .fp8e4m3 :=
  fun i => fw (fun | 0 => ⟨e % 16, Nat.mod_lt _ (by decide)⟩ | 1 => i 1 | 2 => i 2)

/-- Chunk `u` of slot `s`, as the kernel's copies name it. -/
abbrev dstM (o : Fin 3 → ℕ) (h : ∀ a, o a + S1x256x5120.size a ≤ S5x1536x5120.size a) : Memref sig .tc .vmem S256x5120 .fp8e4m3 :=
  ((Memref.whole cc0_scratch2 : Memref sig .tc .vmem S5x1536x5120 .fp8e4m3).slice (Rect.unit (s := S5x1536x5120) o S1x256x5120.size h) (fun _ => rfl)).squeeze
    S256x5120 squeezes_S1x256x5120_S256x5120
/-- Chunk `u` of expert `e`'s weights, as the kernel's copies name it. -/
abbrev srcM (o : Fin 3 → ℕ) (h : ∀ a, o a + S1x256x5120.size a ≤ S16x1536x5120.size a) : Memref sig .tc .hbm S256x5120 .fp8e4m3 :=
  ((Memref.whole main_arg2 : Memref sig .tc .hbm S16x1536x5120 .fp8e4m3).slice (Rect.unit (s := S16x1536x5120) o S1x256x5120.size h) (fun _ => rfl)).squeeze
    S256x5120 squeezes_S1x256x5120_S256x5120
/-- The semaphore of a chunk of a slot, as the kernel's copies name it. -/
abbrev semM (o : Fin 2 → ℕ) (h : ∀ a, o a + S1x1.size a ≤ S5x6.size a) : DmaSem sig :=
  ((cc0_scratch5.slice (Rect.unit (s := S5x6) o S1x1.size h)).squeeze S_ squeezes_S1x1_S_).sem

theorem dst_set (s u : ℕ) (h) : (dstM ![s, 256 * u, 0] h).view.set = Rg s u := by
  have e : (dstM ![s, 256 * u, 0] h).view.set = (Rect.unit (s := S5x1536x5120) ![s, 256 * u, 0] S1x256x5120.size h).set :=
    (View.set_reshape _ _).trans (View.set_slice_whole _ _)
  rw [e]
  ext i
  rw [Rect.mem_set_unit]
  unfold Rg
  rw [Finset.mem_filter]
  have h2 : (i 2).val < 5120 := (i 2).isLt
  constructor
  · intro hi
    have a0 : s ≤ (i 0).val ∧ (i 0).val < s + 1 := hi 0
    have a1 : 256 * u ≤ (i 1).val ∧ (i 1).val < 256 * u + 256 := hi 1
    exact ⟨Finset.mem_univ _, by omega, a1⟩
  · rintro ⟨_, h0, h1⟩ a
    fin_cases a
    · show s ≤ (i 0).val ∧ (i 0).val < s + 1; omega
    · exact h1
    · show 0 ≤ (i 2).val ∧ (i 2).val < 0 + 5120; omega

/-- What a copy of a chunk leaves on the chunk it wrote. -/
theorem dst_write (s u e : ℕ) (he : e < 16) (h h') (fd : S5x1536x5120.Idx → Elt F .fp8e4m3) (fw : S16x1536x5120.Idx → Elt F .fp8e4m3) :
    ∀ i ∈ (dstM ![s, 256 * u, 0] h).view.set,
      (dstM ![s, 256 * u, 0] h).view.write (Elt F) fd ((srcM ![e, 256 * u, 0] h').view.read (Elt F) fw) Finset.univ i = G fw e i := by
  intro i hi
  obtain ⟨j, -, rfl⟩ := Finset.mem_map.1 hi
  rw [View.write_emb_of_mem _ _ (Finset.mem_univ _)]
  show fw ((srcM ![e, 256 * u, 0] h').view.emb j) = _
  unfold G
  congr 1
  funext a
  apply Fin.ext
  have y0 : ((Shape.reshapeEquiv (squeezes_S1x256x5120_S256x5120.numel_eq) j) 0).val = 0 := Nat.lt_one_iff.1 ((Shape.reshapeEquiv (squeezes_S1x256x5120_S256x5120.numel_eq) j) 0).isLt
  fin_cases a
  · show e + 1 * ((Shape.reshapeEquiv (squeezes_S1x256x5120_S256x5120.numel_eq) j) 0).val = e % 16
    rw [y0, Nat.mod_eq_of_lt he]; rfl
  · rfl
  · rfl

/-- The chunk's place among the thirty: which slot and which chunk of it. -/
abbrev sl (p : Fin 30) : ℕ := p.val / 6
abbrev ch (p : Fin 30) : ℕ := p.val % 6

theorem sl_lt (p : Fin 30) : sl p < 5 := by have := p.isLt; show p.val / 6 < 5; omega
theorem ch_lt (p : Fin 30) : ch p < 6 := Nat.mod_lt _ (by decide)

/-- The semaphore of place `p`. -/
def cellSem (p : Fin 30) : DmaSem sig := semM ![sl p, ch p] (inb_sem (sl_lt p) (ch_lt p) _ rfl)

/-- The share of the weights lent to the copy into place `p`. -/
abbrev tk (p : Fin 30) : PosShare TreeShare := Transfers.shareTok fullShare 30 p

/-- The bytes of one chunk's copy. -/
def amt : ℕ := (dstM ![0, 0, 0] (by decide)).view.dmaCredit

/-- A place of the ring: free, or with expert `e`'s chunk on its way. -/
def cell (c : Dev nD) (fw : Buf (Elt F) ((c : Thread nD τ).loc main_arg2)) (p : Fin 30) : Option ℕ → sProp 𝕄
  | none => iprop((∃ f : Buf (Elt F) ((c : Thread nD τ).loc cc0_scratch2), (c : Thread nD τ).loc cc0_scratch2 ↦[Rg (sl p) (ch p)]{fullShare} f)
      ∗ semVal ((c : Thread nD τ), SemLoc.dma (cellSem p)) 0 ∗ (c : Thread nD τ).loc main_arg2 ↦{tk p} fw)
  | some e => iprop(∃ I : Finset (Idx ((c : Thread nD τ).loc main_arg2)), Transfers.Flight (countersEmb (U := Pipeline.UD sig nD τ) : UEmb Counters 𝕄) (c : Thread nD τ) (SemLoc.dma (cellSem p)) () amt
        iprop(((c : Thread nD τ).loc cc0_scratch2 ↦[Rg (sl p) (ch p)]{fullShare} (G fw e : S5x1536x5120.Idx → Elt F .fp8e4m3))
          ∗ (c : Thread nD τ).loc main_arg2 ↦[I]{tk p} fw)
      ∗ (c : Thread nD τ).loc main_arg2 ↦[Finset.univ \ I]{tk p} fw)

/-- The kernel's copy of a chunk into a free place. -/
theorem wp_issue (c : Dev nD) (fw : Buf (Elt F) ((c : Thread nD τ).loc main_arg2)) (p : Fin 30) (e : ℕ) (he : e < 16)
    {o6 : Fin 2 → ℕ} {o7 o8 : Fin 3 → ℕ} (h6 : o6 = ![sl p, ch p]) (h7 : o7 = ![sl p, 256 * ch p, 0]) (h8 : o8 = ![e, 256 * ch p, 0])
    {i6 i7 i8 hsrc hdst hsem} {Q : Unit → sProp 𝕄} :
    cell c fw p none ⊢ iprop((cell c fw p (some e) -∗ Q ⟨⟩) -∗
      wp frame (wpE (defs₀ (F := F)) Variants.none (c : Thread nD τ) none) Set.univ
        (Prog.lift (TpuEff.enqueueDma (srcM o8 i8) (.here (dstM o7 i7)) (.dma (semM o6 i6)) hsrc hdst hsem)) Q) := by
  subst h6 h7 h8
  unfold cell
  iintro ⟨⟨%fd, Hd⟩, Hs, Hw⟩ HQ
  have hsub : (srcM ![e, 256 * ch p, 0] i8).view.set ⊆ (Finset.univ : Finset (Idx ((c : Thread nD τ).loc main_arg2))) := Finset.subset_univ _
  ihave Hw2 := (pointsTo_split_subset (ℓ := (c : Thread nD τ).loc main_arg2) (q := tk p) (f := fw) hsub).1 $$ Hw
  icases Hw2 with ⟨Hw1, Hw2⟩
  have e1 : ((c : Thread nD τ).loc cc0_scratch2 ↦[Rg (sl p) (ch p)]{fullShare} fd : sProp 𝕄) = ((c : Thread nD τ).loc cc0_scratch2 ↦[(dstM ![sl p, 256 * ch p, 0] i7).view.set]{fullShare} fd) := by
    rw [dst_set]
  ihave Hd := (Entails.of_eq e1) $$ Hd
  have key := Transfers.wp_dmaLocal (Lvl := ℕ) (Name := ℕ) (defs := defs₀ (F := F)) (countersEmb (U := Pipeline.UD sig nD τ) : UEmb Counters 𝕄) (via := ReadAs.same) (hsrc := hsrc) (hdst := hdst) (hsem := hsem) (k := Prog.ret) (Q := Q) (q := tk p) (fs := fw) (Sd := (dstM ![sl p, 256 * ch p, 0] i7).view.set) (fd := fd) (src := srcM ![e, 256 * ch p, 0] i8) (dst := dstM ![sl p, 256 * ch p, 0] i7) (sm := SemLoc.dma (cellSem p)) Variants.none (c : Thread nD τ) none () amt rfl (View.amount_pos (dstM ![sl p, 256 * ch p, 0] i7).view (SemLoc.dma (cellSem p)) (by decide)) subset_rfl
  iapply key $$ [Hw1 Hd Hs]
  · isplitl [Hw1]
    · iexact Hw1
    isplitl [Hd]
    · iexact Hd
    iexact Hs
  iintro HF
  rw [wp_ret]
  imodintro
  iapply HQ
  iexists (srcM ![e, 256 * ch p, 0] i8).view.set
  isplitl [HF]
  · have e2 : ((c : Thread nD τ).loc cc0_scratch2 ↦[(dstM ![sl p, 256 * ch p, 0] i7).view.set]{fullShare}
        ((dstM ![sl p, 256 * ch p, 0] i7).view.write (Elt F) fd ((srcM ![e, 256 * ch p, 0] i8).view.read (Elt F) fw) Finset.univ) : sProp 𝕄)
        = ((c : Thread nD τ).loc cc0_scratch2 ↦[Rg (sl p) (ch p)]{fullShare} (G fw e : S5x1536x5120.Idx → Elt F .fp8e4m3)) := by
      rw [pointsTo_congr (dst_write (sl p) (ch p) e he i7 i8 fd fw), dst_set]
    iapply (Entails.of_eq (congrArg (fun X => Transfers.Flight (countersEmb (U := Pipeline.UD sig nD τ) : UEmb Counters 𝕄) (c : Thread nD τ) (SemLoc.dma (cellSem p)) () amt iprop(X ∗ (c : Thread nD τ).loc main_arg2 ↦[(srcM ![e, 256 * ch p, 0] i8).view.set]{tk p} fw)) e2)) $$ HF
  · iexact Hw2

/-- The kernel's wait for a chunk on its way. -/
theorem wp_arrive (c : Dev nD) (fw : Buf (Elt F) ((c : Thread nD τ).loc main_arg2)) (p : Fin 30) (e : ℕ) (W : Waits sig Unit)
    {o6 : Fin 2 → ℕ} {o7 o8 : Fin 3 → ℕ} (h6 : o6 = ![sl p, ch p])
    {i6 i7 i8 hsrc hdst} {Q : Unit → sProp 𝕄} :
    iprop(cell c fw p (some e) ∗ owes (c : Thread nD τ) (0 : CellTallies nD τ sig Unit) W) ⊢ iprop((((c : Thread nD τ).loc cc0_scratch2 ↦[Rg (sl p) (ch p)]{fullShare} (G fw e : S5x1536x5120.Idx → Elt F .fp8e4m3)) -∗
        (((c : Thread nD τ).loc cc0_scratch2 ↦[Rg (sl p) (ch p)]{fullShare} (G fw e : S5x1536x5120.Idx → Elt F .fp8e4m3)) -∗ cell c fw p none) -∗
        (∃ W', owes (c : Thread nD τ) (0 : CellTallies nD τ sig Unit) W') -∗ Q ⟨⟩) -∗
      wp frame (wpE (defs₀ (F := F)) Variants.none (c : Thread nD τ) none) Set.univ
        (Prog.lift (TpuEff.waitDma2 (semM o6 i6) (srcM o8 i8) (dstM o7 i7) hsrc hdst)) Q) := by
  subst h6
  unfold cell
  iintro ⟨⟨%I, HF, Hw2⟩, HO⟩ HQ
  have key := Transfers.wp_waitLocal (Lvl := ℕ) (Name := ℕ) (defs := defs₀ (F := F)) (countersEmb (U := Pipeline.UD sig nD τ) : UEmb Counters 𝕄) (sem := semM ![sl p, ch p] i6) (srcw := srcM o8 i8) (dstw := dstM o7 i7) (hsrc := hsrc) (hdst := hdst) (k := Prog.ret) (Q := Q) (D := iprop(((c : Thread nD τ).loc cc0_scratch2 ↦[Rg (sl p) (ch p)]{fullShare} (G fw e : S5x1536x5120.Idx → Elt F .fp8e4m3))
          ∗ (c : Thread nD τ).loc main_arg2 ↦[I]{tk p} fw)) (W := W) Variants.none (c : Thread nD τ) none () (N := amt) rfl
  iapply key $$ [HF HO]
  · isplitl [HF]
    · iexact HF
    iexact HO
  iintro ⟨⟨Hd, Hw1⟩, Hs, HO⟩
  rw [wp_ret]
  imodintro
  iapply HQ $$ Hd [Hw1 Hw2 Hs] [HO]
  · iintro Hd
    isplitl [Hd]
    · iexists _
      iexact Hd
    isplitl [Hs]
    · iexact Hs
    iapply (pointsTo_split_subset (ℓ := (c : Thread nD τ).loc main_arg2) (q := tk p) (f := fw) (Finset.subset_univ I)).2
    isplitl [Hw1]
    · iexact Hw1
    iexact Hw2
  · iexists _
    iexact HO

/-- The thirty places. -/
def ring (c : Dev nD) (fw : Buf (Elt F) ((c : Thread nD τ).loc main_arg2)) (st : Fin 30 → Option ℕ) : sProp 𝕄 :=
  bigSep Finset.univ fun p => cell c fw p (st p)

/-- One place of the ring comes out, and the ring comes back for whatever it becomes. -/
theorem ring_turn (c : Dev nD) (fw : Buf (Elt F) ((c : Thread nD τ).loc main_arg2)) (st : Fin 30 → Option ℕ) (p : Fin 30) :
    ring c fw st ⊢ iprop(cell c fw p (st p) ∗ ∀ o, cell c fw p o -∗ ring c fw (Function.update st p o)) :=
  BI.bigSep_univ_turn (α := fun _ => Option ℕ) (cell c fw) st p

end Cert.KernelIdeal.Hand

end
-- ==== Proof.KIScan.lean ====
/-
  The first loop: the table of the experts that have rows.
-/
module

public import proofs.«01_k».proof.Proof.KIAccess

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- What the table of experts holds after `k` groups: for each expert listed so far its number, its first row and the row after its last. -/
def Act (g : ℕ → ℕ) (k : ℕ) (f : S3x17.Idx → BitVec 32) : Prop :=
  ∀ j, j < cnt g k → el pos_S3x17 f ![0, j] = wd (exs g k j) ∧ el pos_S3x17 f ![1, j] = wd (cut g (exs g k j)) ∧
    el pos_S3x17 f ![2, j] = wd (cut g (exs g k j + 1))

/-- The group sizes as natural numbers. -/
def sizes (fg : S16.Idx → BitVec 32) (k : ℕ) : ℕ := (el pos_S16 fg ![k]).toNat

theorem el_sizes (fg : S16.Idx → BitVec 32) (k : ℕ) : el pos_S16 fg ![k] = wd (sizes fg k) := by
  unfold sizes wd; simp

theorem wd_add_one {n : ℕ} : wd n + 1#32 = wd (n + 1) := by unfold wd; rw [← BitVec.ofNat_add]

theorem msb_wd {a : ℕ} (ha : a < 2 ^ 30) : (wd a).toInt = a := by
  unfold wd; rw [BitVec.toInt_eq_toNat_cond, BitVec.toNat_ofNat, Nat.mod_eq_of_lt (by omega), if_pos (by omega)]

theorem wd_inj {a b : ℕ} (ha : a < 2 ^ 30) (hb : b < 2 ^ 30) (h : wd a = wd b) : a = b := by
  have := congrArg BitVec.toNat h
  rwa [wd_toNat (by omega), wd_toNat (by omega)] at this

theorem slt_wd {a b : ℕ} (ha : a < 2 ^ 30) (hb : b < 2 ^ 30) : Scalar.cmpi .slt (wd a) (wd b) = if a < b then 1#1 else 0#1 := by
  have e : (wd a).slt (wd b) = decide (a < b) := by
    unfold BitVec.slt; rw [msb_wd ha, msb_wd hb]; exact decide_eq_decide.2 Int.ofNat_lt
  show BitVec.ofBool ((wd a).slt (wd b)) = _
  rw [e]
  by_cases h : a < b
  · rw [if_pos h, decide_eq_true h]; rfl
  · rw [if_neg h, decide_eq_false h]; rfl

theorem minsi_wd {a b : ℕ} (ha : a < 2 ^ 30) (hb : b < 2 ^ 30) : Scalar.minsi (wd a) (wd b) = wd (min a b) := by
  have e : (wd a).slt (wd b) = decide (a < b) := by
    unfold BitVec.slt; rw [msb_wd ha, msb_wd hb]; exact decide_eq_decide.2 Int.ofNat_lt
  show (if (wd a).slt (wd b) then wd a else wd b) = _
  rw [e]
  by_cases h : a < b
  · rw [decide_eq_true h, if_pos rfl, Nat.min_eq_left (by omega)]
  · rw [decide_eq_false h, if_neg (by decide), Nat.min_eq_right (by omega)]

/-- The next cut, as the kernel computes it. -/
theorem cut_word (g : ℕ → ℕ) (k : ℕ) (hk : k < 16) (hg : g k < 2 ^ 27) :
    Scalar.select (Scalar.cmpi .slt (Scf.iv (0#32) (1#32) k) 15#32) (Scalar.minsi (Scalar.addi (wd (cut g k)) (wd (g k))) 128#32) 128#32
      = wd (cut g (k + 1)) := by
  have h1 := cut_le g k
  rw [iv_wd, show (15#32) = wd 15 from rfl, slt_wd (by omega) (by omega),
    show Scalar.addi (wd (cut g k)) (wd (g k)) = wd (cut g k + g k) from (BitVec.ofNat_add ..).symm]
  simp only [cut]
  by_cases h : k < 15
  · rw [if_pos h, if_pos h]
    rw [show (128#32) = wd 128 from rfl, minsi_wd (by omega) (by omega)]; rfl
  · rw [if_neg h, if_neg h]; rfl

/-- The count's step, as the kernel computes it. -/
theorem cnt_word (g : ℕ → ℕ) (k : ℕ) :
    Scalar.addi (wd (cnt g k)) (Scalar.extui (Scalar.cmpi .sgt (wd (cut g (k + 1))) (wd (cut g k)))) = wd (cnt g (k + 1)) := by
  have h1 := cut_le g k
  have h2 := cut_le g (k + 1)
  rw [show Scalar.cmpi .sgt (wd (cut g (k + 1))) (wd (cut g k)) = Scalar.cmpi .slt (wd (cut g k)) (wd (cut g (k + 1))) from rfl, slt_wd (by omega) (by omega)]
  show _ = wd (cnt g k + if cut g k < cut g (k + 1) then 1 else 0)
  by_cases h : cut g k < cut g (k + 1)
  · rw [if_pos h, if_pos h]; exact wd_add_one
  · rw [if_neg h, if_neg h]; exact BitVec.add_zero _

/-- One trip's effect on the table. -/
theorem Act_step (g : ℕ → ℕ) (k : ℕ) (hk : k < 16) (f : S3x17.Idx → BitVec 32) (h : Act g k f) :
    ∀ o0 o1 o2 : Fin 2 → ℕ, o0 = ![0, cnt g k] → o1 = ![1, cnt g k] → o2 = ![2, cnt g k] → ∀ v0 v1 v2, v0 = wd k → v1 = wd (cut g k) → v2 = wd (cut g (k + 1)) →
    Act g (k + 1) (wr S1x1.size (wr S1x1.size (wr S1x1.size f o0 (fun _ => v0)) o1 (fun _ => v1)) o2 (fun _ => v2)) := by
  rintro _ _ _ rfl rfl rfl _ _ _ rfl rfl rfl
  have hc := cnt_le g k
  intro j hj
  have inb : ∀ r < 3, ∀ j < 17, ∀ a, (![r, j] : Fin 2 → ℕ) a < S3x17.size a := fun r hr j hj a => by fin_cases a <;> simp <;> omega
  have one : ∀ a, 0 < S1x1.size a := by decide
  have dif0 : ∀ (r r' j j' : ℕ), r ≠ r' → ∃ a, (![r', j'] : Fin 2 → ℕ) a < (![r, j] : Fin 2 → ℕ) a ∨ (![r, j] : Fin 2 → ℕ) a + S1x1.size a ≤ (![r', j'] : Fin 2 → ℕ) a :=
    fun r r' j j' h => ⟨0, by show r' < r ∨ r + 1 ≤ r'; omega⟩
  have dif1 : ∀ (r r' j j' : ℕ), j ≠ j' → ∃ a, (![r', j'] : Fin 2 → ℕ) a < (![r, j] : Fin 2 → ℕ) a ∨ (![r, j] : Fin 2 → ℕ) a + S1x1.size a ≤ (![r', j'] : Fin 2 → ℕ) a :=
    fun r r' j j' h => ⟨1, by show j' < j ∨ j + 1 ≤ j'; omega⟩
  have hj17 : j < 17 := by have := cnt_le g (k + 1); omega
  by_cases e : j = cnt g k
  · subst e
    rw [show exs g (k + 1) (cnt g k) = k from Function.update_self ..]
    refine ⟨?_, ?_, ?_⟩
    · rw [el_wr_ne _ _ _ _ _ _ (inb 0 (by omega) _ hj17) (dif0 _ _ _ _ (by omega)), el_wr_ne _ _ _ _ _ _ (inb 0 (by omega) _ hj17) (dif0 _ _ _ _ (by omega))]
      exact el_wr_self pos_S3x17 S1x1.size f ![0, cnt g k] (wd k) (inb 0 (by omega) _ hj17) one
    · rw [el_wr_ne _ _ _ _ _ _ (inb 1 (by omega) _ hj17) (dif0 _ _ _ _ (by omega))]
      exact el_wr_self pos_S3x17 S1x1.size _ ![1, cnt g k] (wd (cut g k)) (inb 1 (by omega) _ hj17) one
    · exact el_wr_self pos_S3x17 S1x1.size _ ![2, cnt g k] (wd (cut g (k + 1))) (inb 2 (by omega) _ hj17) one
  · have hj' : j < cnt g k := by simp only [cnt] at hj; split at hj <;> omega
    rw [show exs g (k + 1) j = exs g k j from Function.update_of_ne e ..]
    have w : ∀ r < 3, ∀ v0 v1 v2, el pos_S3x17 (wr S1x1.size (wr S1x1.size (wr S1x1.size f ![0, cnt g k] (fun _ => v0)) ![1, cnt g k] (fun _ => v1))
      ![2, cnt g k] (fun _ => v2)) ![r, j] = el pos_S3x17 f ![r, j] := fun r hr v0 v1 v2 => by
      rw [el_wr_ne _ _ _ _ _ _ (inb _ hr _ hj17) (dif1 _ _ _ _ (Ne.symm e)), el_wr_ne _ _ _ _ _ _ (inb _ hr _ hj17) (dif1 _ _ _ _ (Ne.symm e)),
        el_wr_ne _ _ _ _ _ _ (inb _ hr _ hj17) (dif1 _ _ _ _ (Ne.symm e))]
    rw [w 0 (by omega), w 1 (by omega), w 2 (by omega)]
    exact h j hj'

/-- What holds before trip `k` of the loop over the groups. -/
def scanInv (c : Dev nD) (q : PosShare TreeShare) (fg : Buf (Elt F) ((c : Thread nD τ).loc cc0_stg0_0)) (k : ℕ) (acc : BitVec 32 × BitVec 32) : sProp 𝕄 :=
  iprop(((c : Thread nD τ).loc cc0_stg0_0 ↦{q} fg) ∗ ∃ f : Buf (Elt F) ((c : Thread nD τ).loc cc0_scratch3), ((c : Thread nD τ).loc cc0_scratch3 ↦{fullShare} f) ∗
    ⌜acc = (wd (cnt (sizes fg) k), wd (cut (sizes fg) k)) ∧ Act (sizes fg) k f⌝)

theorem scan_step (c : Dev nD) (q : PosShare TreeShare) (fg : Buf (Elt F) ((c : Thread nD τ).loc cc0_stg0_0)) (hg : ∀ k < 16, sizes fg k < 2 ^ 27)
    (k : Fin k0_t1_loop.trips) (acc : BitVec 32 × BitVec 32) :
    scanInv (F := F) c q fg k acc ⊢ wp frame (wpE (defs₀ (F := F)) Variants.none (c : Thread nD τ) none) Set.univ
      (k0_t1_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 k acc) (scanInv (F := F) c q fg (k + 1)) := by
  have hk : k.val < 16 := Nat.lt_of_lt_of_eq k.isLt t1_trips
  have hc := cnt_le (sizes fg) k.val
  obtain ⟨a12, a13⟩ := acc
  unfold scanInv
  iintro ⟨Hg, %f, Hf, %hp⟩
  obtain ⟨he, hact⟩ := hp
  obtain ⟨rfl, rfl⟩ := Prod.mk.inj he
  unfold k0_t1_body
  dsimp only
  rw [wp_bind]
  iapply wp_chk c (chk1_ok (by omega))
  beta_reduce
  rw [wp_bind]
  iapply wp_sm0 (F := F) c (by decide) $$ Hg
  iintro Hg
  beta_reduce
  rw [wp_bind]
  iapply wp_sm8 (F := F) c (by decide) $$ Hf
  iintro Hf
  rw [wp_bind]
  iapply wp_st8 (F := F) c $$ Hf
  iintro Hf
  rw [wp_bind]
  iapply wp_sm8 (F := F) c (by decide) $$ Hf
  iintro Hf
  rw [wp_bind]
  iapply wp_st8 (F := F) c $$ Hf
  iintro Hf
  rw [wp_bind]
  iapply wp_sm8 (F := F) c (by decide) $$ Hf
  iintro Hf
  rw [wp_bind]
  iapply wp_st8 (F := F) c $$ Hf
  iintro Hf
  iapply wp_end c
  isplitl [Hg]
  · iexact Hg
  iexists _
  isplitl [Hf]
  · iexact Hf
  ipureintro
  have e1 : Scalar.select (Scalar.cmpi .slt (Scf.iv (0#32) (1#32) k.val) 15#32) (Scalar.minsi (Scalar.addi (wd (cut (sizes fg) k.val)) (el pos_S16 fg (k0_off1 k))) 128#32) 128#32
      = wd (cut (sizes fg) (k.val + 1)) := by
    rw [off1_eq, el_sizes]; exact cut_word _ _ hk (hg _ hk)
  exact ⟨Prod.ext (by rw [e1]; exact cnt_word _ _) e1,
    Act_step _ _ hk _ hact _ _ _ (off2_eq (by omega)) (off3_eq (by omega)) (off4_eq (by omega)) _ _ _ (iv_wd _) rfl e1⟩

/-- The loop over the groups leaves the table of the experts that have rows, and their number. -/
theorem scan_run (c : Dev nD) (q : PosShare TreeShare) (fg : Buf (Elt F) ((c : Thread nD τ).loc cc0_stg0_0)) (hg : ∀ k < 16, sizes fg k < 2 ^ 27)
    (fa : Buf (Elt F) ((c : Thread nD τ).loc cc0_scratch3)) {Q : BitVec 32 × BitVec 32 → sProp 𝕄} :
    iprop(((c : Thread nD τ).loc cc0_stg0_0 ↦{q} fg) ∗ ((c : Thread nD τ).loc cc0_scratch3 ↦{fullShare} fa))
      ⊢ iprop((∀ f : Buf (Elt F) ((c : Thread nD τ).loc cc0_scratch3), ((c : Thread nD τ).loc cc0_stg0_0 ↦{q} fg) -∗ ((c : Thread nD τ).loc cc0_scratch3 ↦{fullShare} f) -∗ ⌜Act (sizes fg) 16 f⌝ -∗
          Q (wd (num (sizes fg)), wd 128)) -∗
        wp frame (wpE (defs₀ (F := F)) Variants.none (c : Thread nD τ) none) Set.univ
          (Scf.Loop.for k0_t1_loop k0_t1_ok (0#32, 0#32) (k0_t1_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5)) Q) := by
  iintro ⟨Hg, Ha⟩ HQ
  iapply wp_loop (F := F) c _ _ _ _ 16 t1_trips (scanInv (F := F) c q fg) (fun k acc _ => scan_step c q fg hg k acc) $$ [Hg Ha]
  · unfold scanInv
    isplitl [Hg]
    · iexact Hg
    iexists fa
    isplitl [Ha]
    · iexact Ha
    ipureintro
    exact ⟨rfl, fun j hj => absurd hj (Nat.not_lt_zero _)⟩
  · iintro %acc H
    unfold scanInv
    icases H with ⟨Hg, %f, Hf, %hp⟩
    obtain ⟨rfl, hact⟩ := hp
    rw [cut_16]
    iapply HQ $$ Hg Hf
    ipureintro
    exact hact

end Cert.KernelIdeal.Hand

end
-- ==== Proof.KIFill.lean ====
/-
  The copies of the weights into the ring.
-/
module

public import proofs.«01_k».proof.Proof.KIRing
public import proofs.«01_k».proof.Proof.KIScan

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- The place of chunk `u` of slot `k`. -/
def pl (k u : ℕ) (hk : k < 5) (hu : u < 6) : Fin 30 := ⟨6 * k + u, by omega⟩
theorem sl_pl {k u : ℕ} (hk : k < 5) (hu : u < 6) : sl (pl k u hk hu) = k := by show (6 * k + u) / 6 = k; omega
theorem ch_pl {k u : ℕ} (hk : k < 5) (hu : u < 6) : ch (pl k u hk hu) = u := by show (6 * k + u) % 6 = u; omega
theorem eq_pl {k u : ℕ} (hk : k < 5) (hu : u < 6) (p : Fin 30) : p = pl k u hk hu ↔ sl p = k ∧ ch p = u := by
  constructor
  · rintro rfl; exact ⟨sl_pl hk hu, ch_pl hk hu⟩
  · rintro ⟨h1, h2⟩; apply Fin.ext
    have h1' : p.val / 6 = k := h1
    have h2' : p.val % 6 = u := h2
    show p.val = 6 * k + u; omega

variable (g : ℕ → ℕ)

/-- The ring while the first copies start: the slots before `k` and the first `u` chunks of slot `k`. -/
def stPre (k u : ℕ) (p : Fin 30) : Option ℕ :=
  if (sl p < k ∨ (sl p = k ∧ ch p < u)) ∧ sl p < num g then some (ex g (sl p)) else none
/-- The ring before segment `a`: the next five segments' weights are on their way. -/
def stFull (a : ℕ) (p : Fin 30) : Option ℕ :=
  if a + (sl p + 5 - a % 5) % 5 < num g then some (ex g (a + (sl p + 5 - a % 5) % 5)) else none
/-- The ring during segment `a`, its first `u` chunks taken. -/
def stDrain (a u : ℕ) (p : Fin 30) : Option ℕ := if sl p = a % 5 ∧ ch p < u then none else stFull g a p
/-- The ring after segment `a`, the first `u` chunks of the segment five further on their way. -/
def stFill (a u : ℕ) (p : Fin 30) : Option ℕ :=
  if sl p = a % 5 then (if ch p < u then some (ex g (a + 5)) else none) else stFull g a p

theorem stPre_zero : stPre g 0 0 = fun _ => none := by
  funext p; unfold stPre; rw [if_neg]; omega
theorem stPre_step (k u : ℕ) (hk : k < 5) (hu : u < 6) (hn : k < num g) :
    Function.update (stPre g k u) (pl k u hk hu) (some (ex g k)) = stPre g k (u + 1) := by
  funext p
  rw [Function.update_apply]
  unfold stPre
  by_cases h : p = pl k u hk hu
  · rw [if_pos h]
    obtain ⟨h1, h2⟩ := (eq_pl hk hu p).1 h
    rw [if_pos (by omega), h1]
  · rw [if_neg h]
    have h' := mt (eq_pl hk hu p).2 h
    exact if_congr (by omega) rfl rfl
theorem stPre_at (k u : ℕ) (hk : k < 5) (hu : u < 6) : stPre g k u (pl k u hk hu) = none := by
  unfold stPre; rw [sl_pl, ch_pl, if_neg]; omega
theorem stPre_next (k : ℕ) : stPre g k 6 = stPre g (k + 1) 0 := by
  funext p; unfold stPre; have := ch_lt p; exact if_congr (by omega) rfl rfl
theorem stPre_skip (k : ℕ) (hn : ¬ k < num g) : stPre g k 0 = stPre g (k + 1) 0 := by
  funext p; unfold stPre; exact if_congr (by omega) rfl rfl
theorem stPre_full : stPre g 5 0 = stFull g 0 := by
  funext p; unfold stPre stFull
  have h := sl_lt p
  have e : 0 + (sl p + 5 - 0 % 5) % 5 = sl p := by omega
  rw [e]; exact if_congr (by omega) rfl rfl

theorem stFull_at (a u : ℕ) (hu : u < 6) (ha : a < num g) : stFull g a (pl (a % 5) u (Nat.mod_lt _ (by decide)) hu) = some (ex g a) := by
  unfold stFull
  rw [sl_pl]
  have e : a + (a % 5 + 5 - a % 5) % 5 = a := by omega
  rw [e, if_pos ha]
theorem stDrain_zero (a : ℕ) : stDrain g a 0 = stFull g a := by
  funext p; unfold stDrain; rw [if_neg]; omega
theorem stDrain_at (a u : ℕ) (hu : u < 6) (ha : a < num g) : stDrain g a u (pl (a % 5) u (Nat.mod_lt _ (by decide)) hu) = some (ex g a) := by
  unfold stDrain; rw [if_neg, stFull_at g a u hu ha]; rw [ch_pl]; omega
theorem stDrain_step (a u : ℕ) (hu : u < 6) :
    Function.update (stDrain g a u) (pl (a % 5) u (Nat.mod_lt _ (by decide)) hu) none = stDrain g a (u + 1) := by
  funext p
  rw [Function.update_apply]
  unfold stDrain
  by_cases h : p = pl (a % 5) u (Nat.mod_lt _ (by decide)) hu
  · rw [if_pos h]
    obtain ⟨h1, h2⟩ := (eq_pl (Nat.mod_lt _ (by decide)) hu p).1 h
    rw [if_pos (by omega)]
  · rw [if_neg h]
    have h' := mt (eq_pl (Nat.mod_lt _ (by decide)) hu p).2 h
    exact if_congr (by omega) rfl rfl
theorem stDrain_fill (a : ℕ) : stDrain g a 6 = stFill g a 0 := by
  funext p; unfold stDrain stFill
  have h := ch_lt p
  by_cases e : sl p = a % 5
  · rw [if_pos ⟨e, h⟩, if_pos e, if_neg (by omega)]
  · rw [if_neg (by omega), if_neg e]
theorem stDrain_last (a : ℕ) (hn : ¬ a + 5 < num g) : stDrain g a 6 = stFull g (a + 1) := by
  funext p; unfold stDrain stFull
  have h := ch_lt p; have h5 := sl_lt p
  by_cases e : sl p = a % 5
  · rw [if_pos ⟨e, h⟩, if_neg]; omega
  · rw [if_neg (by omega)]
    have e' : a + (sl p + 5 - a % 5) % 5 = a + 1 + (sl p + 5 - (a + 1) % 5) % 5 := by omega
    rw [e']
theorem stFill_at (a u : ℕ) (hu : u < 6) : stFill g a u (pl (a % 5) u (Nat.mod_lt _ (by decide)) hu) = none := by
  unfold stFill; rw [sl_pl, ch_pl, if_pos rfl, if_neg]; omega
theorem stFill_step (a u : ℕ) (hu : u < 6) :
    Function.update (stFill g a u) (pl (a % 5) u (Nat.mod_lt _ (by decide)) hu) (some (ex g (a + 5))) = stFill g a (u + 1) := by
  funext p
  rw [Function.update_apply]
  unfold stFill
  by_cases h : p = pl (a % 5) u (Nat.mod_lt _ (by decide)) hu
  · rw [if_pos h]
    obtain ⟨h1, h2⟩ := (eq_pl (Nat.mod_lt _ (by decide)) hu p).1 h
    rw [if_pos h1, if_pos (by omega)]
  · rw [if_neg h]
    have h' := mt (eq_pl (Nat.mod_lt _ (by decide)) hu p).2 h
    by_cases e : sl p = a % 5
    · rw [if_pos e, if_pos e]; exact if_congr (by omega) rfl rfl
    · rw [if_neg e, if_neg e]
theorem stFill_full (a : ℕ) (hn : a + 5 < num g) : stFill g a 6 = stFull g (a + 1) := by
  funext p; unfold stFill stFull
  have h := ch_lt p; have h5 := sl_lt p
  by_cases e : sl p = a % 5
  · have e' : a + 1 + (sl p + 5 - (a + 1) % 5) % 5 = a + 5 := by omega
    rw [if_pos e, if_pos h, e', if_pos hn]
  · rw [if_neg e]
    have e' : a + (sl p + 5 - a % 5) % 5 = a + 1 + (sl p + 5 - (a + 1) % 5) % 5 := by omega
    rw [e']
theorem stFull_num : stFull g (num g) = fun _ => none := by
  funext p; unfold stFull; rw [if_neg]; omega

/-- What the copies' loops hold: the table of experts and the ring. -/
def fillInv (c : Dev nD) (fw : Buf (Elt F) ((c : Thread nD τ).loc main_arg2)) (f : Buf (Elt F) ((c : Thread nD τ).loc cc0_scratch3)) (st : Fin 30 → Option ℕ) : sProp 𝕄 :=
  iprop(((c : Thread nD τ).loc cc0_scratch3 ↦{fullShare} f) ∗ ring c fw st)

/-- One chunk's copy among the first. -/
theorem pre_chunk (c : Dev nD) (fw : Buf (Elt F) ((c : Thread nD τ).loc main_arg2)) (f : Buf (Elt F) ((c : Thread nD τ).loc cc0_scratch3)) (hact : Act g 16 f)
    (t : Fin k0_t2_loop.trips) (h1 : k0_cond1 (wd (num g)) t = 1#1) (u : Fin k0_t3_loop.trips) (acc : Unit) :
    fillInv (F := F) c fw f (stPre g t.val u.val)
      ⊢ wp frame (wpE (defs₀ (F := F)) Variants.none (c : Thread nD τ) none) Set.univ
          (k0_t3_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (wd (num g)) t h1 u acc) (fun _ => fillInv (F := F) c fw f (stPre g t.val (u.val + 1))) := by
  have hk : t.val < num g := (cond1_iff (num_lt g) t).1 h1
  have ht5 : t.val < 5 := Nat.lt_of_lt_of_eq t.isLt t2_trips
  have hu6 : u.val < 6 := Nat.lt_of_lt_of_eq u.isLt t3_trips
  have he := ex_lt g hk
  unfold k0_t3_body fillInv
  iintro ⟨Ha, HR⟩
  rw [wp_bind]
  iapply wp_sm8 (F := F) c (by decide) $$ Ha
  iintro Ha
  rw [off5_eq, (hact t.val hk).1]
  rw [wp_bind]
  iapply wp_chk (F := F) c (chk2_ok _ t u he)
  dsimp only
  rw [wp_bind]
  ihave HR2 := ring_turn c fw _ (pl t.val u.val ht5 hu6) $$ HR
  icases HR2 with ⟨HC, HR⟩
  rw [stPre_at]
  iapply wp_issue (F := F) c fw (pl t.val u.val ht5 hu6) (ex g t.val) he ((off6_eq t u).trans (by rw [sl_pl, ch_pl])) ((off7_eq t u).trans (by rw [sl_pl, ch_pl]))
    ((off8_eq u he).trans (by rw [ch_pl])) $$ HC
  iintro HC
  iapply wp_end c
  isplitl [Ha]
  · iexact Ha
  ihave HR3 := HR $$ HC
  rw [stPre_step g t.val u.val ht5 hu6 hk]
  iexact HR3

/-- The first copies of one slot. -/
theorem pre_slot (c : Dev nD) (fw : Buf (Elt F) ((c : Thread nD τ).loc main_arg2)) (f : Buf (Elt F) ((c : Thread nD τ).loc cc0_scratch3)) (hact : Act g 16 f)
    (t : Fin k0_t2_loop.trips) (acc : Unit) :
    fillInv (F := F) c fw f (stPre g t.val 0)
      ⊢ wp frame (wpE (defs₀ (F := F)) Variants.none (c : Thread nD τ) none) Set.univ
          (k0_t2_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (wd (num g)) t acc) (fun _ => fillInv (F := F) c fw f (stPre g (t.val + 1) 0)) := by
  unfold k0_t2_body
  by_cases h1 : k0_cond1 (wd (num g)) t = 1#1
  · rw [dif_pos h1]
    iintro H
    rw [wp_bind]
    iapply wp_loop (F := F) c _ _ _ _ 6 t3_trips (fun u _ => fillInv (F := F) c fw f (stPre g t.val u)) (fun u acc _ => pre_chunk g c fw f hact t h1 u acc) $$ H
    iintro %acc H
    dsimp only
    iapply wp_end c
    rw [stPre_next]
    iexact H
  · rw [dif_neg h1]
    have hk : ¬ t.val < num g := fun h => h1 ((cond1_iff (num_lt g) t).2 h)
    iintro H
    dsimp only
    iapply wp_end c
    rw [stPre_skip g t.val hk]
    iexact H

/-- The first copies. -/
theorem pre_run (c : Dev nD) (fw : Buf (Elt F) ((c : Thread nD τ).loc main_arg2)) (f : Buf (Elt F) ((c : Thread nD τ).loc cc0_scratch3)) (hact : Act g 16 f) {Q : Unit → sProp 𝕄} :
    iprop(((c : Thread nD τ).loc cc0_scratch3 ↦{fullShare} f) ∗ ring c fw (fun _ => none))
      ⊢ iprop((((c : Thread nD τ).loc cc0_scratch3 ↦{fullShare} f) -∗ ring c fw (stFull g 0) -∗ Q ⟨⟩) -∗
        wp frame (wpE (defs₀ (F := F)) Variants.none (c : Thread nD τ) none) Set.univ
          (Scf.Loop.for k0_t2_loop k0_t2_ok ⟨⟩ (k0_t2_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (wd (num g)))) Q) := by
  iintro H HQ
  iapply wp_loop (F := F) c _ _ _ _ 5 t2_trips (fun k _ => fillInv (F := F) c fw f (stPre g k 0)) (fun k acc _ => pre_slot g c fw f hact k acc) $$ [H]
  · rw [stPre_zero]
    unfold fillInv
    iexact H
  iintro %acc H
  unfold fillInv
  icases H with ⟨Ha, HR⟩
  rw [stPre_full]
  iapply HQ $$ Ha HR

/-- One chunk's copy for the segment five further. -/
theorem fill_chunk (c : Dev nD) (fw : Buf (Elt F) ((c : Thread nD τ).loc main_arg2)) (f : Buf (Elt F) ((c : Thread nD τ).loc cc0_scratch3)) (hact : Act g 16 f)
    (hw3 : k0_chk3 (wd (num g))) (t : Fin (k0_t6_loop (wd (num g))).trips) (h6 : k0_cond6 (wd (num g)) t = 1#1) (u : Fin k0_t15_loop.trips) (acc : Unit) :
    fillInv (F := F) c fw f (stFill g t.val u.val)
      ⊢ wp frame (wpE (defs₀ (F := F)) Variants.none (c : Thread nD τ) none) Set.univ
          (k0_t15_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (wd (num g)) hw3 t h6 u acc) (fun _ => fillInv (F := F) c fw f (stFill g t.val (u.val + 1))) := by
  have hk : t.val + 5 < num g := (cond6_iff (num_lt g) t).1 h6
  have hn := num_lt g
  have ht17 : t.val < 17 := by omega
  have hu6 : u.val < 6 := Nat.lt_of_lt_of_eq u.isLt t15_trips
  have hm : t.val % 5 < 5 := Nat.mod_lt _ (by decide)
  have he := ex_lt g hk
  unfold k0_t15_body fillInv
  iintro ⟨Ha, HR⟩
  rw [wp_bind]
  iapply wp_sm8 (F := F) c (by decide) $$ Ha
  iintro Ha
  rw [off65_eq t ht17, (hact (t.val + 5) hk).1]
  rw [wp_bind]
  iapply wp_chk (F := F) c (chk9_ok _ t u he)
  dsimp only
  rw [wp_bind]
  ihave HR2 := ring_turn c fw _ (pl (t.val % 5) u.val hm hu6) $$ HR
  icases HR2 with ⟨HC, HR⟩
  rw [stFill_at g t.val u.val hu6]
  iapply wp_issue (F := F) c fw (pl (t.val % 5) u.val hm hu6) (ex g (t.val + 5)) he ((off66_eq t ht17 u).trans (by rw [sl_pl, ch_pl])) ((off67_eq t ht17 u).trans (by rw [sl_pl, ch_pl]))
    ((off68_eq u he).trans (by rw [ch_pl])) $$ HC
  iintro HC
  iapply wp_end c
  isplitl [Ha]
  · iexact Ha
  ihave HR3 := HR $$ HC
  rw [stFill_step g t.val u.val hu6]
  iexact HR3

/-- The copies for the segment five further. -/
theorem fill_run (c : Dev nD) (fw : Buf (Elt F) ((c : Thread nD τ).loc main_arg2)) (f : Buf (Elt F) ((c : Thread nD τ).loc cc0_scratch3)) (hact : Act g 16 f)
    (hw3 : k0_chk3 (wd (num g))) (t : Fin (k0_t6_loop (wd (num g))).trips) (h6 : k0_cond6 (wd (num g)) t = 1#1) {Q : Unit → sProp 𝕄} :
    iprop(((c : Thread nD τ).loc cc0_scratch3 ↦{fullShare} f) ∗ ring c fw (stDrain g t.val 6))
      ⊢ iprop((((c : Thread nD τ).loc cc0_scratch3 ↦{fullShare} f) -∗ ring c fw (stFull g (t.val + 1)) -∗ Q ⟨⟩) -∗
        wp frame (wpE (defs₀ (F := F)) Variants.none (c : Thread nD τ) none) Set.univ
          (Scf.Loop.for k0_t15_loop k0_t15_ok ⟨⟩ (k0_t15_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (wd (num g)) hw3 t h6)) Q) := by
  iintro H HQ
  iapply wp_loop (F := F) c _ _ _ _ 6 t15_trips (fun u _ => fillInv (F := F) c fw f (stFill g t.val u)) (fun u acc _ => fill_chunk g c fw f hact hw3 t h6 u acc) $$ [H]
  · rw [← stDrain_fill]
    unfold fillInv
    iexact H
  iintro %acc H
  unfold fillInv
  icases H with ⟨Ha, HR⟩
  rw [stFill_full g t.val ((cond6_iff (num_lt g) t).1 h6)]
  iapply HQ $$ Ha HR

end Cert.KernelIdeal.Hand

end
-- ==== Proof.KITile.lean ====
/-
  Tiles of the weights and the wait for a chunk.
-/
module

public import proofs.«01_k».proof.Proof.KIFill

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- The scale of one block of one expert's weights. -/
abbrev ws (fs : S16x12x40.Idx → Elt F .f32) (e b d : ℕ) : Elt F .f32 := el (S := S16x12x40) pos_S16x12x40 fs ![e, b, d]

/-- A tile of one expert's weights: 256 rows by 256 columns. -/
abbrev wt (fw : S16x1536x5120.Idx → Elt F .fp8e4m3) (e u d : ℕ) : S1x256x256.Idx → Elt F .fp8e4m3 :=
  rd (S := S16x1536x5120) pos_S16x1536x5120 S1x256x256.size fw ![e, 256 * u, 256 * d]

/-- A tile of the ring is a tile of the expert's weights. -/
theorem rd_G (fw : S16x1536x5120.Idx → Elt F .fp8e4m3) (e s u d : ℕ) (he : e < 16) : ∀ o, o = ![s, 256 * u, 256 * d] →
    rd (S := S5x1536x5120) pos_S5x1536x5120 S1x256x256.size (G fw e) o = wt fw e u d := by
  rintro _ rfl
  funext y
  unfold wt rd G
  dsimp only
  congr 1
  funext a
  apply Fin.ext
  have y0 : (y 0).val = 0 := Nat.lt_one_iff.1 (y 0).isLt
  fin_cases a
  · show e % 16 = (e + (y 0).val) % 16
    rw [y0]; rfl
  · rfl
  · rfl

theorem mem_Rg {s u d : ℕ} (hd : d < 20) : ∀ o : Fin 3 → ℕ, o = ![s, 256 * u, 256 * d] →
    ∀ i : S5x1536x5120.Idx, (∀ a, o a ≤ (i a).val ∧ (i a).val < o a + S1x256x256.size a) → i ∈ Rg s u := by
  rintro _ rfl i h
  unfold Rg
  have a0 : s ≤ (i 0).val ∧ (i 0).val < s + 1 := h 0
  have a1 : 256 * u ≤ (i 1).val ∧ (i 1).val < 256 * u + 256 := h 1
  exact Finset.mem_filter.2 ⟨Finset.mem_univ _, by omega, a1⟩

/-- The wait for a chunk of the segment at hand. -/
theorem arrive (g : ℕ → ℕ) (c : Dev nD) (fw : Buf (Elt F) ((c : Thread nD τ).loc main_arg2)) (a u : ℕ) (hu : u < 6) (ha : a < num g)
    {o6 : Fin 2 → ℕ} {o7 o8 : Fin 3 → ℕ} (h6 : o6 = ![a % 5, u]) {i6 i7 i8 hsrc hdst} {Q : Unit → sProp 𝕄} :
    iprop(ring c fw (stDrain g a u) ∗ (∃ W, owes (c : Thread nD τ) (0 : CellTallies nD τ sig Unit) W)) ⊢
      iprop((((c : Thread nD τ).loc cc0_scratch2 ↦[Rg (a % 5) u]{fullShare} (G fw (ex g a) : S5x1536x5120.Idx → Elt F .fp8e4m3)) -∗
        (((c : Thread nD τ).loc cc0_scratch2 ↦[Rg (a % 5) u]{fullShare} (G fw (ex g a) : S5x1536x5120.Idx → Elt F .fp8e4m3)) -∗ ring c fw (stDrain g a (u + 1))) -∗
        (∃ W, owes (c : Thread nD τ) (0 : CellTallies nD τ sig Unit) W) -∗ Q ⟨⟩) -∗
      wp frame (wpE (defs₀ (F := F)) Variants.none (c : Thread nD τ) none) Set.univ
        (Prog.lift (TpuEff.waitDma2 (semM o6 i6) (srcM o8 i8) (dstM o7 i7) hsrc hdst)) Q) := by
  have hm : a % 5 < 5 := Nat.mod_lt _ (by decide)
  have es := sl_pl hm hu
  have ec := ch_pl hm hu
  iintro ⟨HR, %W, HO⟩ HQ
  ihave HR2 := ring_turn c fw _ (pl (a % 5) u hm hu) $$ HR
  icases HR2 with ⟨HC, HR⟩
  rw [stDrain_at g a u hu ha]
  have key := wp_arrive (F := F) c fw (pl (a % 5) u hm hu) (ex g a) W (o6 := o6) (o7 := o7) (o8 := o8) (i6 := i6) (i7 := i7) (i8 := i8) (hsrc := hsrc) (hdst := hdst) (Q := Q) (by rw [h6, es, ec])
  rw [es, ec] at key
  iapply key $$ [HC HO]
  · isplitl [HC]
    · iexact HC
    iexact HO
  iintro Hd Hback HO
  iapply HQ $$ Hd [HR Hback] HO
  iintro Hd
  ihave HC := Hback $$ Hd
  ihave HR3 := HR $$ HC
  rw [stDrain_step g a u hu]
  iexact HR3

end Cert.KernelIdeal.Hand

end
-- ==== Proof.KIBranch16.lean ====
/-
  What the branch of 16 rows computes, and its run.
-/
module

public import proofs.«01_k».proof.Proof.KITile

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-! ## The branch of 16 rows -/

/-- The branch's rows of a block of quantised tokens. -/
abbrev xr16 (fq : S128x5120.Idx → Elt F .bf16) (lo d : ℕ) : S16x128.Idx → Elt F .bf16 :=
  rd (S := S128x5120) pos_S128x5120 S16x128.size fq ![row16 lo, 128 * d]

/-- The running product after `d + 1` tiles. -/
def acc16 (fs : S16x12x40.Idx → Elt F .f32) (fq : S128x5120.Idx → Elt F .bf16) (fw : S16x1536x5120.Idx → Elt F .fp8e4m3) (e lo u : ℕ) : ℕ → FVec F S32x256 .f32
  | 0 => k0_pay22 (k0_pay21 (ws fs e (2 * u) 0) (xr16 fq lo 0) (ws fs e (2 * u) 1) (xr16 fq lo 1)) (ws fs e (2 * u + 1) 0) (xr16 fq lo 0)
      (ws fs e (2 * u + 1) 1) (xr16 fq lo 1) (wt fw e u 0)
  | d + 1 => k0_pay23 (acc16 fs fq fw e lo u d)
      (k0_pay19 (ws fs e (2 * u) (2 * (d + 1))) (xr16 fq lo (2 * (d + 1))) (ws fs e (2 * u) (2 * (d + 1) + 1)) (xr16 fq lo (2 * (d + 1) + 1)))
      (k0_pay20 (ws fs e (2 * u + 1) (2 * (d + 1)))) (xr16 fq lo (2 * (d + 1))) (ws fs e (2 * u + 1) (2 * (d + 1) + 1)) (xr16 fq lo (2 * (d + 1) + 1)) (wt fw e u (d + 1))

/-- What one chunk's branch makes of the result. -/
def chunk16 (fs : S16x12x40.Idx → Elt F .f32) (fq : S128x5120.Idx → Elt F .bf16) (fw : S16x1536x5120.Idx → Elt F .fp8e4m3) (e lo hi u : ℕ)
    (y : S128x1536.Idx → Elt F .bf16) : S128x1536.Idx → Elt F .bf16 :=
  wr (S := S128x1536) S16x256.size y ![row16 lo, 256 * u] (k0_pay24 (k0_pay3 (F := F) (wd lo) (wd hi) (fl (wd lo))) (acc16 fs fq fw e lo u 19)
    (rd (S := S128x1536) pos_S128x1536 S16x256.size y ![row16 lo, 256 * u]))

theorem acc_step16 (fs : S16x12x40.Idx → Elt F .f32) (fq : S128x5120.Idx → Elt F .bf16) (fw : S16x1536x5120.Idx → Elt F .fp8e4m3) (s e lo u d : ℕ) (he : e < 16) (a : FVec F S32x256 .f32)
    (ha : a = acc16 fs fq fw e lo u d) : ∀ w00 w01 w10 w11 : Fin 3 → ℕ, w00 = ![e, 2 * u, 2 * (d + 1)] → w01 = ![e, 2 * u, 2 * (d + 1) + 1] →
      w10 = ![e, 2 * u + 1, 2 * (d + 1)] → w11 = ![e, 2 * u + 1, 2 * (d + 1) + 1] →
      ∀ x0 x1 : Fin 2 → ℕ, x0 = ![row16 lo, 128 * (2 * (d + 1))] → x1 = ![row16 lo, 128 * (2 * (d + 1) + 1)] → ∀ t, t = ![s, 256 * u, 256 * (d + 1)] →
      k0_pay23 a (k0_pay19 (el (S := S16x12x40) pos_S16x12x40 fs w00) (rd (S := S128x5120) pos_S128x5120 S16x128.size fq x0)
          (el (S := S16x12x40) pos_S16x12x40 fs w01) (rd (S := S128x5120) pos_S128x5120 S16x128.size fq x1))
        (k0_pay20 (el (S := S16x12x40) pos_S16x12x40 fs w10)) (rd (S := S128x5120) pos_S128x5120 S16x128.size fq x0) (el (S := S16x12x40) pos_S16x12x40 fs w11)
        (rd (S := S128x5120) pos_S128x5120 S16x128.size fq x1) (rd (S := S5x1536x5120) pos_S5x1536x5120 S1x256x256.size (G fw e) t) = acc16 fs fq fw e lo u (d + 1) := by
  rintro _ _ _ _ rfl rfl rfl rfl _ _ rfl rfl t ht
  rw [rd_G fw e s u (d + 1) he t ht, ha]
  rfl

theorem acc_first16 (fs : S16x12x40.Idx → Elt F .f32) (fq : S128x5120.Idx → Elt F .bf16) (fw : S16x1536x5120.Idx → Elt F .fp8e4m3) (s e lo u : ℕ) (he : e < 16) :
    ∀ w00 w01 w10 w11 : Fin 3 → ℕ, w00 = ![e, 2 * u, 0] → w01 = ![e, 2 * u, 1] → w10 = ![e, 2 * u + 1, 0] → w11 = ![e, 2 * u + 1, 1] →
      ∀ x0 x1 : Fin 2 → ℕ, x0 = ![row16 lo, 0] → x1 = ![row16 lo, 128] → ∀ t, t = ![s, 256 * u, 0] →
      k0_pay22 (k0_pay21 (el (S := S16x12x40) pos_S16x12x40 fs w00) (rd (S := S128x5120) pos_S128x5120 S16x128.size fq x0)
          (el (S := S16x12x40) pos_S16x12x40 fs w01) (rd (S := S128x5120) pos_S128x5120 S16x128.size fq x1))
        (el (S := S16x12x40) pos_S16x12x40 fs w10) (rd (S := S128x5120) pos_S128x5120 S16x128.size fq x0) (el (S := S16x12x40) pos_S16x12x40 fs w11)
        (rd (S := S128x5120) pos_S128x5120 S16x128.size fq x1) (rd (S := S5x1536x5120) pos_S5x1536x5120 S1x256x256.size (G fw e) t) = acc16 fs fq fw e lo u 0 := by
  rintro _ _ _ _ rfl rfl rfl rfl _ _ rfl rfl t ht
  rw [rd_G fw e s u 0 he t ht]
  rfl

theorem chunk_eq16 (fs : S16x12x40.Idx → Elt F .f32) (fq : S128x5120.Idx → Elt F .bf16) (fw : S16x1536x5120.Idx → Elt F .fp8e4m3) (e lo hi u : ℕ)
    (y : S128x1536.Idx → Elt F .bf16) (a : FVec F S32x256 .f32) (ha : a = acc16 fs fq fw e lo u 19) : ∀ o, o = ![row16 lo, 256 * u] →
    wr (S := S128x1536) S16x256.size y o (k0_pay24 (k0_pay3 (F := F) (wd lo) (wd hi) (fl (wd lo))) a (rd (S := S128x1536) pos_S128x1536 S16x256.size y o))
      = chunk16 fs fq fw e lo hi u y := by
  rintro _ rfl
  rw [ha]; rfl

/-- What the product's loop holds. -/
def inner16 (c : Dev nD) (fs : Buf (Elt F) ((c : Thread nD τ).loc cc0_stg1_0)) (fq : Buf (Elt F) ((c : Thread nD τ).loc cc0_scratch1)) (fw : Buf (Elt F) ((c : Thread nD τ).loc main_arg2))
    (s e lo u d : ℕ) (acc : FVec F S32x256 .f32) : sProp 𝕄 :=
  iprop(((c : Thread nD τ).loc cc0_stg1_0 ↦{fullShare} fs) ∗ ((c : Thread nD τ).loc cc0_scratch1 ↦{fullShare} fq) ∗
    ((c : Thread nD τ).loc cc0_scratch2 ↦[Rg s u]{fullShare} (G fw e : S5x1536x5120.Idx → Elt F .fp8e4m3)) ∗ ⌜acc = acc16 fs fq fw e lo u d⌝)

section
variable (c : Dev nD) (fs : Buf (Elt F) ((c : Thread nD τ).loc cc0_stg1_0)) (fq : Buf (Elt F) ((c : Thread nD τ).loc cc0_scratch1)) (fw : Buf (Elt F) ((c : Thread nD τ).loc main_arg2))

/-- One tile of the product. -/
theorem inner_step16 {v : BitVec 32} (t : Fin (k0_t6_loop v).trips) (ht : t.val < 17) {e lo : ℕ} (he : e < 16) (hlo : lo < 129) (v16 : BitVec 32)
    (hw4 : k0_chk4 v t (wd e) (wd lo) v16) (v17 : BitVec 32) (h2 : k0_cond2 (wd lo) v16 = 1#1) (v81 : BitVec 32) (v89 : IVec S16x1 1) (u : Fin k0_t7_loop.trips)
    (arg12 v103 : BitVec 32) (v128 : FVec F S16x256 .bf16) (v130 : BitVec 32) (d : Fin k0_t8_loop.trips) (acc : FVec F S32x256 .f32) :
    inner16 c fs fq fw (t.val % 5) e lo u.val d.val acc ⊢ wp frame (wpE (defs₀ (F := F)) Variants.none (c : Thread nD τ) none) Set.univ
      (k0_t8_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v t (wd e) (wd lo) v16 hw4 v17 h2 v81 v89 u arg12 v103 v128 v130 d acc) (inner16 c fs fq fw (t.val % 5) e lo u.val (d.val + 1)) := by
  have hd : d.val < 19 := Nat.lt_of_lt_of_eq d.isLt t8_trips
  unfold inner16
  iintro ⟨Hs, Hx, Hw, %hp⟩
  unfold k0_t8_body
  rw [wp_bind, k0_part3_eq_skeleton]
  unfold k0_part3_skel
  dsimp only
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_sm1 (F := F) c (by decide) $$ Hs
  iintro Hs
  iapply wp_end c
  dsimp only
  rw [wp_bind]
  iapply wp_ld6 (F := F) c (fun _ _ => Finset.mem_univ _) $$ Hx
  iintro Hx
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_ld7 (F := F) c (mem_Rg (d := d.val + 1) (by omega) _ (off24_eq t ht u d)) $$ Hw
  iintro Hw
  iapply wp_end c
  isplitl [Hs]
  · iexact Hs
  isplitl [Hx]
  · iexact Hx
  isplitl [Hw]
  · iexact Hw
  ipureintro
  exact acc_step16 fs fq fw (t.val % 5) e lo u.val d.val he acc hp _ _ _ _ (off22_eq he u d 0 0) (off22_eq he u d 0 1) (off22_eq he u d 1 0) (off22_eq he u d 1 1)
    _ _ (off23_eq hlo d 0) (off23_eq hlo d 1) _ (off24_eq t ht u d)

/-- What a branch's loop over the chunks holds. -/
def branch16 (g : ℕ → ℕ) (fa : Buf (Elt F) ((c : Thread nD τ).loc cc0_scratch3)) (y : ℕ → S128x1536.Idx → Elt F .bf16) (a u : ℕ) : sProp 𝕄 :=
  iprop(((c : Thread nD τ).loc cc0_stg1_0 ↦{fullShare} fs) ∗ ((c : Thread nD τ).loc cc0_scratch1 ↦{fullShare} fq) ∗ ((c : Thread nD τ).loc cc0_scratch3 ↦{fullShare} fa) ∗
    ((c : Thread nD τ).loc cc0_stg2_0 ↦{fullShare} (y u : S128x1536.Idx → Elt F .bf16)) ∗ ring c fw (stDrain g a u) ∗ (∃ W, owes (c : Thread nD τ) (0 : CellTallies nD τ sig Unit) W))

/-- One chunk of a branch. -/
theorem chunk_step16 (g : ℕ → ℕ) (fa : Buf (Elt F) ((c : Thread nD τ).loc cc0_scratch3)) (hact : Act g 16 fa) (y : ℕ → S128x1536.Idx → Elt F .bf16)
    {v : BitVec 32} (t : Fin (k0_t6_loop v).trips) (ht : t.val < num g)
    (hy : ∀ u, y (u + 1) = chunk16 fs fq fw (ex g t.val) (lo g t.val) (hi g t.val) u (y u))
    (hw4 : k0_chk4 v t (wd (ex g t.val)) (wd (lo g t.val)) (wd (hi g t.val))) (arg11 v17 : BitVec 32) (h2 : k0_cond2 (wd (lo g t.val)) (wd (hi g t.val)) = 1#1) (v81 : BitVec 32)
    (u : Fin k0_t7_loop.trips) (acc : Unit) :
    branch16 c fs fq fw g fa y t.val u.val ⊢ wp frame (wpE (defs₀ (F := F)) Variants.none (c : Thread nD τ) none) Set.univ
      (k0_t7_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v t arg11 (wd (ex g t.val)) (wd (lo g t.val)) (wd (hi g t.val)) hw4 v17 (fl (wd (lo g t.val))) h2 v81 u acc)
      (fun _ => branch16 c fs fq fw g fa y t.val (u.val + 1)) := by
  have hu : u.val < 6 := Nat.lt_of_lt_of_eq u.isLt t7_trips
  have hn := num_lt g
  have ht17 : t.val < 17 := by omega
  have he := ex_lt g ht
  have hlo := lo_lt g t.val
  have hv : el (S := S3x17) pos_S3x17 fa (k0_off13 v t) = wd (ex g t.val) := by rw [off13_eq t ht17]; exact (hact t.val ht).1
  unfold branch16
  iintro ⟨Hs, Hx, Ha, Hy, HR, HO⟩
  unfold k0_t7_body
  rw [wp_bind, k0_part4_eq_skeleton]
  unfold k0_part4_skel
  dsimp only
  rw [wp_bind]
  iapply wp_sm8 (F := F) c (by decide) $$ Ha
  iintro Ha
  rw [hv]
  rw [wp_bind]
  iapply wp_chk (F := F) c (chk5_ok _ _ u he)
  rw [wp_bind]
  iapply arrive (F := F) g c fw t.val u.val hu ht (off14_eq t ht17 u) $$ [HR HO]
  · isplitl [HR]
    · iexact HR
    iexact HO
  iintro Hw Hback HO
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_sm1 (F := F) c (by decide) $$ Hs
  iintro Hs
  rw [wp_bind]
  iapply wp_ld6 (F := F) c (fun _ _ => Finset.mem_univ _) $$ Hx
  iintro Hx
  iapply wp_end c
  dsimp only
  rw [wp_bind, k0_part5_eq_skeleton]
  unfold k0_part5_skel
  dsimp only
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_ld7 (F := F) c (mem_Rg (d := 0) (by omega) _ (off21_eq t ht17 u)) $$ Hw
  iintro Hw
  rw [wp_bind]
  iapply wp_loop (F := F) c _ _ _ _ 19 t8_trips (fun d acc => inner16 c fs fq fw (t.val % 5) (ex g t.val) (lo g t.val) u.val d acc)
    (fun d acc _ => inner_step16 c fs fq fw t ht17 he hlo _ hw4 v17 h2 v81 _ u _ _ _ _ d acc) $$ [Hs Hx Hw]
  · unfold inner16
    isplitl [Hs]
    · iexact Hs
    isplitl [Hx]
    · iexact Hx
    isplitl [Hw]
    · iexact Hw
    ipureintro
    exact acc_first16 fs fq fw (t.val % 5) (ex g t.val) (lo g t.val) u.val he _ _ _ _ (off17_eq he u 0) (off19_eq he u 0) (off17_eq he u 1) (off19_eq he u 1)
      _ _ (off18_eq hlo) (off20_eq hlo) _ (off21_eq t ht17 u)
  iintro %a H
  unfold inner16
  icases H with ⟨Hs, Hx, Hw, %hp⟩
  rw [wp_bind]
  iapply wp_ld4 (F := F) c (fun _ _ => Finset.mem_univ _) $$ Hy
  iintro Hy
  rw [wp_bind]
  iapply wp_ld4 (F := F) c (fun _ _ => Finset.mem_univ _) $$ Hy
  iintro Hy
  rw [wp_bind]
  iapply wp_st4 (F := F) c $$ Hy
  iintro Hy
  iapply wp_end c
  iapply wp_end c
  isplitl [Hs]
  · iexact Hs
  isplitl [Hx]
  · iexact Hx
  isplitl [Ha]
  · iexact Ha
  isplitl [Hy]
  · rw [hy, ← chunk_eq16 fs fq fw (ex g t.val) (lo g t.val) (hi g t.val) u.val (y u.val) a hp _ (off25_eq hlo u)]
    iexact Hy
  isplitl [Hw Hback]
  · iapply Hback $$ Hw
  · iexact HO

/-- A branch, run. -/
theorem branch_run16 (g : ℕ → ℕ) (fa : Buf (Elt F) ((c : Thread nD τ).loc cc0_scratch3)) (hact : Act g 16 fa) (y : ℕ → S128x1536.Idx → Elt F .bf16)
    {v : BitVec 32} (t : Fin (k0_t6_loop v).trips) (ht : t.val < num g)
    (hy : ∀ u, y (u + 1) = chunk16 fs fq fw (ex g t.val) (lo g t.val) (hi g t.val) u (y u))
    (hw4 : k0_chk4 v t (wd (ex g t.val)) (wd (lo g t.val)) (wd (hi g t.val))) (arg11 v17 : BitVec 32) (h2 : k0_cond2 (wd (lo g t.val)) (wd (hi g t.val)) = 1#1) (v81 : BitVec 32)
    {Q : Unit → sProp 𝕄} :
    branch16 c fs fq fw g fa y t.val 0 ⊢ iprop((branch16 c fs fq fw g fa y t.val 6 -∗ Q ⟨⟩) -∗ wp frame (wpE (defs₀ (F := F)) Variants.none (c : Thread nD τ) none) Set.univ
      (Scf.Loop.for k0_t7_loop k0_t7_ok ⟨⟩ (k0_t7_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v t arg11 (wd (ex g t.val)) (wd (lo g t.val)) (wd (hi g t.val)) hw4 v17 (fl (wd (lo g t.val))) h2 v81)) Q) := by
  iintro H HQ
  iapply wp_loop (F := F) c _ _ _ _ 6 t7_trips (fun u _ => branch16 c fs fq fw g fa y t.val u)
    (fun u acc _ => chunk_step16 c fs fq fw g fa hact y t ht hy hw4 arg11 v17 h2 v81 u acc) $$ H
  iintro %acc H
  iapply HQ $$ H
end

end Cert.KernelIdeal.Hand

end
-- ==== Proof.KIBranch32.lean ====
/-
  What the branch of 32 rows computes, and its run.
-/
module

public import proofs.«01_k».proof.Proof.KITile

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-! ## The branch of 32 rows -/

/-- The branch's rows of a block of quantised tokens. -/
abbrev xr32 (fq : S128x5120.Idx → Elt F .bf16) (lo d : ℕ) : S32x128.Idx → Elt F .bf16 :=
  rd (S := S128x5120) pos_S128x5120 S32x128.size fq ![row32 lo, 128 * d]

/-- The running product after `d + 1` tiles. -/
def acc32 (fs : S16x12x40.Idx → Elt F .f32) (fq : S128x5120.Idx → Elt F .bf16) (fw : S16x1536x5120.Idx → Elt F .fp8e4m3) (e lo u : ℕ) : ℕ → FVec F S64x256 .f32
  | 0 => k0_pay28 (k0_pay27 (ws fs e (2 * u) 0) (xr32 fq lo 0) (ws fs e (2 * u) 1) (xr32 fq lo 1)) (ws fs e (2 * u + 1) 0) (xr32 fq lo 0)
      (ws fs e (2 * u + 1) 1) (xr32 fq lo 1) (wt fw e u 0)
  | d + 1 => k0_pay29 (acc32 fs fq fw e lo u d)
      (k0_pay25 (ws fs e (2 * u) (2 * (d + 1))) (xr32 fq lo (2 * (d + 1))) (ws fs e (2 * u) (2 * (d + 1) + 1)) (xr32 fq lo (2 * (d + 1) + 1)))
      (k0_pay26 (ws fs e (2 * u + 1) (2 * (d + 1)))) (xr32 fq lo (2 * (d + 1))) (ws fs e (2 * u + 1) (2 * (d + 1) + 1)) (xr32 fq lo (2 * (d + 1) + 1)) (wt fw e u (d + 1))

/-- What one chunk's branch makes of the result. -/
def chunk32 (fs : S16x12x40.Idx → Elt F .f32) (fq : S128x5120.Idx → Elt F .bf16) (fw : S16x1536x5120.Idx → Elt F .fp8e4m3) (e lo hi u : ℕ)
    (y : S128x1536.Idx → Elt F .bf16) : S128x1536.Idx → Elt F .bf16 :=
  wr (S := S128x1536) S32x256.size y ![row32 lo, 256 * u] (k0_pay30 (k0_pay4 (F := F) (wd lo) (wd hi) (fl (wd lo))) (acc32 fs fq fw e lo u 19)
    (rd (S := S128x1536) pos_S128x1536 S32x256.size y ![row32 lo, 256 * u]))

theorem acc_step32 (fs : S16x12x40.Idx → Elt F .f32) (fq : S128x5120.Idx → Elt F .bf16) (fw : S16x1536x5120.Idx → Elt F .fp8e4m3) (s e lo u d : ℕ) (he : e < 16) (a : FVec F S64x256 .f32)
    (ha : a = acc32 fs fq fw e lo u d) : ∀ w00 w01 w10 w11 : Fin 3 → ℕ, w00 = ![e, 2 * u, 2 * (d + 1)] → w01 = ![e, 2 * u, 2 * (d + 1) + 1] →
      w10 = ![e, 2 * u + 1, 2 * (d + 1)] → w11 = ![e, 2 * u + 1, 2 * (d + 1) + 1] →
      ∀ x0 x1 : Fin 2 → ℕ, x0 = ![row32 lo, 128 * (2 * (d + 1))] → x1 = ![row32 lo, 128 * (2 * (d + 1) + 1)] → ∀ t, t = ![s, 256 * u, 256 * (d + 1)] →
      k0_pay29 a (k0_pay25 (el (S := S16x12x40) pos_S16x12x40 fs w00) (rd (S := S128x5120) pos_S128x5120 S32x128.size fq x0)
          (el (S := S16x12x40) pos_S16x12x40 fs w01) (rd (S := S128x5120) pos_S128x5120 S32x128.size fq x1))
        (k0_pay26 (el (S := S16x12x40) pos_S16x12x40 fs w10)) (rd (S := S128x5120) pos_S128x5120 S32x128.size fq x0) (el (S := S16x12x40) pos_S16x12x40 fs w11)
        (rd (S := S128x5120) pos_S128x5120 S32x128.size fq x1) (rd (S := S5x1536x5120) pos_S5x1536x5120 S1x256x256.size (G fw e) t) = acc32 fs fq fw e lo u (d + 1) := by
  rintro _ _ _ _ rfl rfl rfl rfl _ _ rfl rfl t ht
  rw [rd_G fw e s u (d + 1) he t ht, ha]
  rfl

theorem acc_first32 (fs : S16x12x40.Idx → Elt F .f32) (fq : S128x5120.Idx → Elt F .bf16) (fw : S16x1536x5120.Idx → Elt F .fp8e4m3) (s e lo u : ℕ) (he : e < 16) :
    ∀ w00 w01 w10 w11 : Fin 3 → ℕ, w00 = ![e, 2 * u, 0] → w01 = ![e, 2 * u, 1] → w10 = ![e, 2 * u + 1, 0] → w11 = ![e, 2 * u + 1, 1] →
      ∀ x0 x1 : Fin 2 → ℕ, x0 = ![row32 lo, 0] → x1 = ![row32 lo, 128] → ∀ t, t = ![s, 256 * u, 0] →
      k0_pay28 (k0_pay27 (el (S := S16x12x40) pos_S16x12x40 fs w00) (rd (S := S128x5120) pos_S128x5120 S32x128.size fq x0)
          (el (S := S16x12x40) pos_S16x12x40 fs w01) (rd (S := S128x5120) pos_S128x5120 S32x128.size fq x1))
        (el (S := S16x12x40) pos_S16x12x40 fs w10) (rd (S := S128x5120) pos_S128x5120 S32x128.size fq x0) (el (S := S16x12x40) pos_S16x12x40 fs w11)
        (rd (S := S128x5120) pos_S128x5120 S32x128.size fq x1) (rd (S := S5x1536x5120) pos_S5x1536x5120 S1x256x256.size (G fw e) t) = acc32 fs fq fw e lo u 0 := by
  rintro _ _ _ _ rfl rfl rfl rfl _ _ rfl rfl t ht
  rw [rd_G fw e s u 0 he t ht]
  rfl

theorem chunk_eq32 (fs : S16x12x40.Idx → Elt F .f32) (fq : S128x5120.Idx → Elt F .bf16) (fw : S16x1536x5120.Idx → Elt F .fp8e4m3) (e lo hi u : ℕ)
    (y : S128x1536.Idx → Elt F .bf16) (a : FVec F S64x256 .f32) (ha : a = acc32 fs fq fw e lo u 19) : ∀ o, o = ![row32 lo, 256 * u] →
    wr (S := S128x1536) S32x256.size y o (k0_pay30 (k0_pay4 (F := F) (wd lo) (wd hi) (fl (wd lo))) a (rd (S := S128x1536) pos_S128x1536 S32x256.size y o))
      = chunk32 fs fq fw e lo hi u y := by
  rintro _ rfl
  rw [ha]; rfl

/-- What the product's loop holds. -/
def inner32 (c : Dev nD) (fs : Buf (Elt F) ((c : Thread nD τ).loc cc0_stg1_0)) (fq : Buf (Elt F) ((c : Thread nD τ).loc cc0_scratch1)) (fw : Buf (Elt F) ((c : Thread nD τ).loc main_arg2))
    (s e lo u d : ℕ) (acc : FVec F S64x256 .f32) : sProp 𝕄 :=
  iprop(((c : Thread nD τ).loc cc0_stg1_0 ↦{fullShare} fs) ∗ ((c : Thread nD τ).loc cc0_scratch1 ↦{fullShare} fq) ∗
    ((c : Thread nD τ).loc cc0_scratch2 ↦[Rg s u]{fullShare} (G fw e : S5x1536x5120.Idx → Elt F .fp8e4m3)) ∗ ⌜acc = acc32 fs fq fw e lo u d⌝)

section
variable (c : Dev nD) (fs : Buf (Elt F) ((c : Thread nD τ).loc cc0_stg1_0)) (fq : Buf (Elt F) ((c : Thread nD τ).loc cc0_scratch1)) (fw : Buf (Elt F) ((c : Thread nD τ).loc main_arg2))

/-- One tile of the product. -/
theorem inner_step32 {v : BitVec 32} (t : Fin (k0_t6_loop v).trips) (ht : t.val < 17) {e lo : ℕ} (he : e < 16) (hlo : lo < 129) (v16 : BitVec 32)
    (hw4 : k0_chk4 v t (wd e) (wd lo) v16) (v17 : BitVec 32) (h2 : k0_cond3 (wd lo) v16 = 1#1) (v81 : BitVec 32) (v89 : IVec S32x1 1) (u : Fin k0_t9_loop.trips)
    (arg12 v103 : BitVec 32) (v128 : FVec F S32x256 .bf16) (v130 : BitVec 32) (d : Fin k0_t10_loop.trips) (acc : FVec F S64x256 .f32) :
    inner32 c fs fq fw (t.val % 5) e lo u.val d.val acc ⊢ wp frame (wpE (defs₀ (F := F)) Variants.none (c : Thread nD τ) none) Set.univ
      (k0_t10_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v t (wd e) (wd lo) v16 hw4 v17 h2 v81 v89 u arg12 v103 v128 v130 d acc) (inner32 c fs fq fw (t.val % 5) e lo u.val (d.val + 1)) := by
  have hd : d.val < 19 := Nat.lt_of_lt_of_eq d.isLt t10_trips
  unfold inner32
  iintro ⟨Hs, Hx, Hw, %hp⟩
  unfold k0_t10_body
  rw [wp_bind, k0_part6_eq_skeleton]
  unfold k0_part6_skel
  dsimp only
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_sm1 (F := F) c (by decide) $$ Hs
  iintro Hs
  iapply wp_end c
  dsimp only
  rw [wp_bind]
  iapply wp_ld6 (F := F) c (fun _ _ => Finset.mem_univ _) $$ Hx
  iintro Hx
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_ld7 (F := F) c (mem_Rg (d := d.val + 1) (by omega) _ (off37_eq t ht u d)) $$ Hw
  iintro Hw
  iapply wp_end c
  isplitl [Hs]
  · iexact Hs
  isplitl [Hx]
  · iexact Hx
  isplitl [Hw]
  · iexact Hw
  ipureintro
  exact acc_step32 fs fq fw (t.val % 5) e lo u.val d.val he acc hp _ _ _ _ (off35_eq he u d 0 0) (off35_eq he u d 0 1) (off35_eq he u d 1 0) (off35_eq he u d 1 1)
    _ _ (off36_eq hlo d 0) (off36_eq hlo d 1) _ (off37_eq t ht u d)

/-- What a branch's loop over the chunks holds. -/
def branch32 (g : ℕ → ℕ) (fa : Buf (Elt F) ((c : Thread nD τ).loc cc0_scratch3)) (y : ℕ → S128x1536.Idx → Elt F .bf16) (a u : ℕ) : sProp 𝕄 :=
  iprop(((c : Thread nD τ).loc cc0_stg1_0 ↦{fullShare} fs) ∗ ((c : Thread nD τ).loc cc0_scratch1 ↦{fullShare} fq) ∗ ((c : Thread nD τ).loc cc0_scratch3 ↦{fullShare} fa) ∗
    ((c : Thread nD τ).loc cc0_stg2_0 ↦{fullShare} (y u : S128x1536.Idx → Elt F .bf16)) ∗ ring c fw (stDrain g a u) ∗ (∃ W, owes (c : Thread nD τ) (0 : CellTallies nD τ sig Unit) W))

/-- One chunk of a branch. -/
theorem chunk_step32 (g : ℕ → ℕ) (fa : Buf (Elt F) ((c : Thread nD τ).loc cc0_scratch3)) (hact : Act g 16 fa) (y : ℕ → S128x1536.Idx → Elt F .bf16)
    {v : BitVec 32} (t : Fin (k0_t6_loop v).trips) (ht : t.val < num g)
    (hy : ∀ u, y (u + 1) = chunk32 fs fq fw (ex g t.val) (lo g t.val) (hi g t.val) u (y u))
    (hw4 : k0_chk4 v t (wd (ex g t.val)) (wd (lo g t.val)) (wd (hi g t.val))) (arg11 v17 : BitVec 32) (h2 : k0_cond3 (wd (lo g t.val)) (wd (hi g t.val)) = 1#1) (v81 : BitVec 32)
    (u : Fin k0_t9_loop.trips) (acc : Unit) :
    branch32 c fs fq fw g fa y t.val u.val ⊢ wp frame (wpE (defs₀ (F := F)) Variants.none (c : Thread nD τ) none) Set.univ
      (k0_t9_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v t arg11 (wd (ex g t.val)) (wd (lo g t.val)) (wd (hi g t.val)) hw4 v17 (fl (wd (lo g t.val))) h2 v81 u acc)
      (fun _ => branch32 c fs fq fw g fa y t.val (u.val + 1)) := by
  have hu : u.val < 6 := Nat.lt_of_lt_of_eq u.isLt t9_trips
  have hn := num_lt g
  have ht17 : t.val < 17 := by omega
  have he := ex_lt g ht
  have hlo := lo_lt g t.val
  have hv : el (S := S3x17) pos_S3x17 fa (k0_off26 v t) = wd (ex g t.val) := by rw [off26_eq t ht17]; exact (hact t.val ht).1
  unfold branch32
  iintro ⟨Hs, Hx, Ha, Hy, HR, HO⟩
  unfold k0_t9_body
  rw [wp_bind, k0_part7_eq_skeleton]
  unfold k0_part7_skel
  dsimp only
  rw [wp_bind]
  iapply wp_sm8 (F := F) c (by decide) $$ Ha
  iintro Ha
  rw [hv]
  rw [wp_bind]
  iapply wp_chk (F := F) c (chk6_ok _ _ u he)
  rw [wp_bind]
  iapply arrive (F := F) g c fw t.val u.val hu ht (off27_eq t ht17 u) $$ [HR HO]
  · isplitl [HR]
    · iexact HR
    iexact HO
  iintro Hw Hback HO
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_sm1 (F := F) c (by decide) $$ Hs
  iintro Hs
  rw [wp_bind]
  iapply wp_ld6 (F := F) c (fun _ _ => Finset.mem_univ _) $$ Hx
  iintro Hx
  iapply wp_end c
  dsimp only
  rw [wp_bind, k0_part8_eq_skeleton]
  unfold k0_part8_skel
  dsimp only
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_ld7 (F := F) c (mem_Rg (d := 0) (by omega) _ (off34_eq t ht17 u)) $$ Hw
  iintro Hw
  rw [wp_bind]
  iapply wp_loop (F := F) c _ _ _ _ 19 t10_trips (fun d acc => inner32 c fs fq fw (t.val % 5) (ex g t.val) (lo g t.val) u.val d acc)
    (fun d acc _ => inner_step32 c fs fq fw t ht17 he hlo _ hw4 v17 h2 v81 _ u _ _ _ _ d acc) $$ [Hs Hx Hw]
  · unfold inner32
    isplitl [Hs]
    · iexact Hs
    isplitl [Hx]
    · iexact Hx
    isplitl [Hw]
    · iexact Hw
    ipureintro
    exact acc_first32 fs fq fw (t.val % 5) (ex g t.val) (lo g t.val) u.val he _ _ _ _ (off30_eq he u 0) (off32_eq he u 0) (off30_eq he u 1) (off32_eq he u 1)
      _ _ (off31_eq hlo) (off33_eq hlo) _ (off34_eq t ht17 u)
  iintro %a H
  unfold inner32
  icases H with ⟨Hs, Hx, Hw, %hp⟩
  rw [wp_bind]
  iapply wp_ld4 (F := F) c (fun _ _ => Finset.mem_univ _) $$ Hy
  iintro Hy
  rw [wp_bind]
  iapply wp_ld4 (F := F) c (fun _ _ => Finset.mem_univ _) $$ Hy
  iintro Hy
  rw [wp_bind]
  iapply wp_st4 (F := F) c $$ Hy
  iintro Hy
  iapply wp_end c
  iapply wp_end c
  isplitl [Hs]
  · iexact Hs
  isplitl [Hx]
  · iexact Hx
  isplitl [Ha]
  · iexact Ha
  isplitl [Hy]
  · rw [hy, ← chunk_eq32 fs fq fw (ex g t.val) (lo g t.val) (hi g t.val) u.val (y u.val) a hp _ (off38_eq hlo u)]
    iexact Hy
  isplitl [Hw Hback]
  · iapply Hback $$ Hw
  · iexact HO

/-- A branch, run. -/
theorem branch_run32 (g : ℕ → ℕ) (fa : Buf (Elt F) ((c : Thread nD τ).loc cc0_scratch3)) (hact : Act g 16 fa) (y : ℕ → S128x1536.Idx → Elt F .bf16)
    {v : BitVec 32} (t : Fin (k0_t6_loop v).trips) (ht : t.val < num g)
    (hy : ∀ u, y (u + 1) = chunk32 fs fq fw (ex g t.val) (lo g t.val) (hi g t.val) u (y u))
    (hw4 : k0_chk4 v t (wd (ex g t.val)) (wd (lo g t.val)) (wd (hi g t.val))) (arg11 v17 : BitVec 32) (h2 : k0_cond3 (wd (lo g t.val)) (wd (hi g t.val)) = 1#1) (v81 : BitVec 32)
    {Q : Unit → sProp 𝕄} :
    branch32 c fs fq fw g fa y t.val 0 ⊢ iprop((branch32 c fs fq fw g fa y t.val 6 -∗ Q ⟨⟩) -∗ wp frame (wpE (defs₀ (F := F)) Variants.none (c : Thread nD τ) none) Set.univ
      (Scf.Loop.for k0_t9_loop k0_t9_ok ⟨⟩ (k0_t9_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v t arg11 (wd (ex g t.val)) (wd (lo g t.val)) (wd (hi g t.val)) hw4 v17 (fl (wd (lo g t.val))) h2 v81)) Q) := by
  iintro H HQ
  iapply wp_loop (F := F) c _ _ _ _ 6 t9_trips (fun u _ => branch32 c fs fq fw g fa y t.val u)
    (fun u acc _ => chunk_step32 c fs fq fw g fa hact y t ht hy hw4 arg11 v17 h2 v81 u acc) $$ H
  iintro %acc H
  iapply HQ $$ H
end

end Cert.KernelIdeal.Hand

end
-- ==== Proof.KIBranch64.lean ====
/-
  What the branch of 64 rows computes, and its run.
-/
module

public import proofs.«01_k».proof.Proof.KITile

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-! ## The branch of 64 rows -/

/-- The branch's rows of a block of quantised tokens. -/
abbrev xr64 (fq : S128x5120.Idx → Elt F .bf16) (lo d : ℕ) : S64x128.Idx → Elt F .bf16 :=
  rd (S := S128x5120) pos_S128x5120 S64x128.size fq ![row64 lo, 128 * d]

/-- The running product after `d + 1` tiles. -/
def acc64 (fs : S16x12x40.Idx → Elt F .f32) (fq : S128x5120.Idx → Elt F .bf16) (fw : S16x1536x5120.Idx → Elt F .fp8e4m3) (e lo u : ℕ) : ℕ → FVec F S128x256 .f32
  | 0 => k0_pay34 (k0_pay33 (ws fs e (2 * u) 0) (xr64 fq lo 0) (ws fs e (2 * u) 1) (xr64 fq lo 1)) (ws fs e (2 * u + 1) 0) (xr64 fq lo 0)
      (ws fs e (2 * u + 1) 1) (xr64 fq lo 1) (wt fw e u 0)
  | d + 1 => k0_pay35 (acc64 fs fq fw e lo u d)
      (k0_pay31 (ws fs e (2 * u) (2 * (d + 1))) (xr64 fq lo (2 * (d + 1))) (ws fs e (2 * u) (2 * (d + 1) + 1)) (xr64 fq lo (2 * (d + 1) + 1)))
      (k0_pay32 (ws fs e (2 * u + 1) (2 * (d + 1)))) (xr64 fq lo (2 * (d + 1))) (ws fs e (2 * u + 1) (2 * (d + 1) + 1)) (xr64 fq lo (2 * (d + 1) + 1)) (wt fw e u (d + 1))

/-- What one chunk's branch makes of the result. -/
def chunk64 (fs : S16x12x40.Idx → Elt F .f32) (fq : S128x5120.Idx → Elt F .bf16) (fw : S16x1536x5120.Idx → Elt F .fp8e4m3) (e lo hi u : ℕ)
    (y : S128x1536.Idx → Elt F .bf16) : S128x1536.Idx → Elt F .bf16 :=
  wr (S := S128x1536) S64x256.size y ![row64 lo, 256 * u] (k0_pay36 (k0_pay5 (F := F) (wd lo) (wd hi) (fl (wd lo))) (acc64 fs fq fw e lo u 19)
    (rd (S := S128x1536) pos_S128x1536 S64x256.size y ![row64 lo, 256 * u]))

theorem acc_step64 (fs : S16x12x40.Idx → Elt F .f32) (fq : S128x5120.Idx → Elt F .bf16) (fw : S16x1536x5120.Idx → Elt F .fp8e4m3) (s e lo u d : ℕ) (he : e < 16) (a : FVec F S128x256 .f32)
    (ha : a = acc64 fs fq fw e lo u d) : ∀ w00 w01 w10 w11 : Fin 3 → ℕ, w00 = ![e, 2 * u, 2 * (d + 1)] → w01 = ![e, 2 * u, 2 * (d + 1) + 1] →
      w10 = ![e, 2 * u + 1, 2 * (d + 1)] → w11 = ![e, 2 * u + 1, 2 * (d + 1) + 1] →
      ∀ x0 x1 : Fin 2 → ℕ, x0 = ![row64 lo, 128 * (2 * (d + 1))] → x1 = ![row64 lo, 128 * (2 * (d + 1) + 1)] → ∀ t, t = ![s, 256 * u, 256 * (d + 1)] →
      k0_pay35 a (k0_pay31 (el (S := S16x12x40) pos_S16x12x40 fs w00) (rd (S := S128x5120) pos_S128x5120 S64x128.size fq x0)
          (el (S := S16x12x40) pos_S16x12x40 fs w01) (rd (S := S128x5120) pos_S128x5120 S64x128.size fq x1))
        (k0_pay32 (el (S := S16x12x40) pos_S16x12x40 fs w10)) (rd (S := S128x5120) pos_S128x5120 S64x128.size fq x0) (el (S := S16x12x40) pos_S16x12x40 fs w11)
        (rd (S := S128x5120) pos_S128x5120 S64x128.size fq x1) (rd (S := S5x1536x5120) pos_S5x1536x5120 S1x256x256.size (G fw e) t) = acc64 fs fq fw e lo u (d + 1) := by
  rintro _ _ _ _ rfl rfl rfl rfl _ _ rfl rfl t ht
  rw [rd_G fw e s u (d + 1) he t ht, ha]
  rfl

theorem acc_first64 (fs : S16x12x40.Idx → Elt F .f32) (fq : S128x5120.Idx → Elt F .bf16) (fw : S16x1536x5120.Idx → Elt F .fp8e4m3) (s e lo u : ℕ) (he : e < 16) :
    ∀ w00 w01 w10 w11 : Fin 3 → ℕ, w00 = ![e, 2 * u, 0] → w01 = ![e, 2 * u, 1] → w10 = ![e, 2 * u + 1, 0] → w11 = ![e, 2 * u + 1, 1] →
      ∀ x0 x1 : Fin 2 → ℕ, x0 = ![row64 lo, 0] → x1 = ![row64 lo, 128] → ∀ t, t = ![s, 256 * u, 0] →
      k0_pay34 (k0_pay33 (el (S := S16x12x40) pos_S16x12x40 fs w00) (rd (S := S128x5120) pos_S128x5120 S64x128.size fq x0)
          (el (S := S16x12x40) pos_S16x12x40 fs w01) (rd (S := S128x5120) pos_S128x5120 S64x128.size fq x1))
        (el (S := S16x12x40) pos_S16x12x40 fs w10) (rd (S := S128x5120) pos_S128x5120 S64x128.size fq x0) (el (S := S16x12x40) pos_S16x12x40 fs w11)
        (rd (S := S128x5120) pos_S128x5120 S64x128.size fq x1) (rd (S := S5x1536x5120) pos_S5x1536x5120 S1x256x256.size (G fw e) t) = acc64 fs fq fw e lo u 0 := by
  rintro _ _ _ _ rfl rfl rfl rfl _ _ rfl rfl t ht
  rw [rd_G fw e s u 0 he t ht]
  rfl

theorem chunk_eq64 (fs : S16x12x40.Idx → Elt F .f32) (fq : S128x5120.Idx → Elt F .bf16) (fw : S16x1536x5120.Idx → Elt F .fp8e4m3) (e lo hi u : ℕ)
    (y : S128x1536.Idx → Elt F .bf16) (a : FVec F S128x256 .f32) (ha : a = acc64 fs fq fw e lo u 19) : ∀ o, o = ![row64 lo, 256 * u] →
    wr (S := S128x1536) S64x256.size y o (k0_pay36 (k0_pay5 (F := F) (wd lo) (wd hi) (fl (wd lo))) a (rd (S := S128x1536) pos_S128x1536 S64x256.size y o))
      = chunk64 fs fq fw e lo hi u y := by
  rintro _ rfl
  rw [ha]; rfl

/-- What the product's loop holds. -/
def inner64 (c : Dev nD) (fs : Buf (Elt F) ((c : Thread nD τ).loc cc0_stg1_0)) (fq : Buf (Elt F) ((c : Thread nD τ).loc cc0_scratch1)) (fw : Buf (Elt F) ((c : Thread nD τ).loc main_arg2))
    (s e lo u d : ℕ) (acc : FVec F S128x256 .f32) : sProp 𝕄 :=
  iprop(((c : Thread nD τ).loc cc0_stg1_0 ↦{fullShare} fs) ∗ ((c : Thread nD τ).loc cc0_scratch1 ↦{fullShare} fq) ∗
    ((c : Thread nD τ).loc cc0_scratch2 ↦[Rg s u]{fullShare} (G fw e : S5x1536x5120.Idx → Elt F .fp8e4m3)) ∗ ⌜acc = acc64 fs fq fw e lo u d⌝)

section
variable (c : Dev nD) (fs : Buf (Elt F) ((c : Thread nD τ).loc cc0_stg1_0)) (fq : Buf (Elt F) ((c : Thread nD τ).loc cc0_scratch1)) (fw : Buf (Elt F) ((c : Thread nD τ).loc main_arg2))

/-- One tile of the product. -/
theorem inner_step64 {v : BitVec 32} (t : Fin (k0_t6_loop v).trips) (ht : t.val < 17) {e lo : ℕ} (he : e < 16) (hlo : lo < 129) (v16 : BitVec 32)
    (hw4 : k0_chk4 v t (wd e) (wd lo) v16) (v17 : BitVec 32) (h2 : k0_cond4 (wd lo) v16 = 1#1) (v81 : BitVec 32) (v89 : IVec S64x1 1) (u : Fin k0_t11_loop.trips)
    (arg12 v103 : BitVec 32) (v128 : FVec F S64x256 .bf16) (v130 : BitVec 32) (d : Fin k0_t12_loop.trips) (acc : FVec F S128x256 .f32) :
    inner64 c fs fq fw (t.val % 5) e lo u.val d.val acc ⊢ wp frame (wpE (defs₀ (F := F)) Variants.none (c : Thread nD τ) none) Set.univ
      (k0_t12_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v t (wd e) (wd lo) v16 hw4 v17 h2 v81 v89 u arg12 v103 v128 v130 d acc) (inner64 c fs fq fw (t.val % 5) e lo u.val (d.val + 1)) := by
  have hd : d.val < 19 := Nat.lt_of_lt_of_eq d.isLt t12_trips
  unfold inner64
  iintro ⟨Hs, Hx, Hw, %hp⟩
  unfold k0_t12_body
  rw [wp_bind, k0_part9_eq_skeleton]
  unfold k0_part9_skel
  dsimp only
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_sm1 (F := F) c (by decide) $$ Hs
  iintro Hs
  iapply wp_end c
  dsimp only
  rw [wp_bind]
  iapply wp_ld6 (F := F) c (fun _ _ => Finset.mem_univ _) $$ Hx
  iintro Hx
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_ld7 (F := F) c (mem_Rg (d := d.val + 1) (by omega) _ (off50_eq t ht u d)) $$ Hw
  iintro Hw
  iapply wp_end c
  isplitl [Hs]
  · iexact Hs
  isplitl [Hx]
  · iexact Hx
  isplitl [Hw]
  · iexact Hw
  ipureintro
  exact acc_step64 fs fq fw (t.val % 5) e lo u.val d.val he acc hp _ _ _ _ (off48_eq he u d 0 0) (off48_eq he u d 0 1) (off48_eq he u d 1 0) (off48_eq he u d 1 1)
    _ _ (off49_eq hlo d 0) (off49_eq hlo d 1) _ (off50_eq t ht u d)

/-- What a branch's loop over the chunks holds. -/
def branch64 (g : ℕ → ℕ) (fa : Buf (Elt F) ((c : Thread nD τ).loc cc0_scratch3)) (y : ℕ → S128x1536.Idx → Elt F .bf16) (a u : ℕ) : sProp 𝕄 :=
  iprop(((c : Thread nD τ).loc cc0_stg1_0 ↦{fullShare} fs) ∗ ((c : Thread nD τ).loc cc0_scratch1 ↦{fullShare} fq) ∗ ((c : Thread nD τ).loc cc0_scratch3 ↦{fullShare} fa) ∗
    ((c : Thread nD τ).loc cc0_stg2_0 ↦{fullShare} (y u : S128x1536.Idx → Elt F .bf16)) ∗ ring c fw (stDrain g a u) ∗ (∃ W, owes (c : Thread nD τ) (0 : CellTallies nD τ sig Unit) W))

/-- One chunk of a branch. -/
theorem chunk_step64 (g : ℕ → ℕ) (fa : Buf (Elt F) ((c : Thread nD τ).loc cc0_scratch3)) (hact : Act g 16 fa) (y : ℕ → S128x1536.Idx → Elt F .bf16)
    {v : BitVec 32} (t : Fin (k0_t6_loop v).trips) (ht : t.val < num g)
    (hy : ∀ u, y (u + 1) = chunk64 fs fq fw (ex g t.val) (lo g t.val) (hi g t.val) u (y u))
    (hw4 : k0_chk4 v t (wd (ex g t.val)) (wd (lo g t.val)) (wd (hi g t.val))) (arg11 v17 : BitVec 32) (h2 : k0_cond4 (wd (lo g t.val)) (wd (hi g t.val)) = 1#1) (v81 : BitVec 32)
    (u : Fin k0_t11_loop.trips) (acc : Unit) :
    branch64 c fs fq fw g fa y t.val u.val ⊢ wp frame (wpE (defs₀ (F := F)) Variants.none (c : Thread nD τ) none) Set.univ
      (k0_t11_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v t arg11 (wd (ex g t.val)) (wd (lo g t.val)) (wd (hi g t.val)) hw4 v17 (fl (wd (lo g t.val))) h2 v81 u acc)
      (fun _ => branch64 c fs fq fw g fa y t.val (u.val + 1)) := by
  have hu : u.val < 6 := Nat.lt_of_lt_of_eq u.isLt t11_trips
  have hn := num_lt g
  have ht17 : t.val < 17 := by omega
  have he := ex_lt g ht
  have hlo := lo_lt g t.val
  have hv : el (S := S3x17) pos_S3x17 fa (k0_off39 v t) = wd (ex g t.val) := by rw [off39_eq t ht17]; exact (hact t.val ht).1
  unfold branch64
  iintro ⟨Hs, Hx, Ha, Hy, HR, HO⟩
  unfold k0_t11_body
  rw [wp_bind, k0_part10_eq_skeleton]
  unfold k0_part10_skel
  dsimp only
  rw [wp_bind]
  iapply wp_sm8 (F := F) c (by decide) $$ Ha
  iintro Ha
  rw [hv]
  rw [wp_bind]
  iapply wp_chk (F := F) c (chk7_ok _ _ u he)
  rw [wp_bind]
  iapply arrive (F := F) g c fw t.val u.val hu ht (off40_eq t ht17 u) $$ [HR HO]
  · isplitl [HR]
    · iexact HR
    iexact HO
  iintro Hw Hback HO
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_sm1 (F := F) c (by decide) $$ Hs
  iintro Hs
  rw [wp_bind]
  iapply wp_ld6 (F := F) c (fun _ _ => Finset.mem_univ _) $$ Hx
  iintro Hx
  iapply wp_end c
  dsimp only
  rw [wp_bind, k0_part11_eq_skeleton]
  unfold k0_part11_skel
  dsimp only
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_ld7 (F := F) c (mem_Rg (d := 0) (by omega) _ (off47_eq t ht17 u)) $$ Hw
  iintro Hw
  rw [wp_bind]
  iapply wp_loop (F := F) c _ _ _ _ 19 t12_trips (fun d acc => inner64 c fs fq fw (t.val % 5) (ex g t.val) (lo g t.val) u.val d acc)
    (fun d acc _ => inner_step64 c fs fq fw t ht17 he hlo _ hw4 v17 h2 v81 _ u _ _ _ _ d acc) $$ [Hs Hx Hw]
  · unfold inner64
    isplitl [Hs]
    · iexact Hs
    isplitl [Hx]
    · iexact Hx
    isplitl [Hw]
    · iexact Hw
    ipureintro
    exact acc_first64 fs fq fw (t.val % 5) (ex g t.val) (lo g t.val) u.val he _ _ _ _ (off43_eq he u 0) (off45_eq he u 0) (off43_eq he u 1) (off45_eq he u 1)
      _ _ (off44_eq hlo) (off46_eq hlo) _ (off47_eq t ht17 u)
  iintro %a H
  unfold inner64
  icases H with ⟨Hs, Hx, Hw, %hp⟩
  rw [wp_bind]
  iapply wp_ld4 (F := F) c (fun _ _ => Finset.mem_univ _) $$ Hy
  iintro Hy
  rw [wp_bind]
  iapply wp_ld4 (F := F) c (fun _ _ => Finset.mem_univ _) $$ Hy
  iintro Hy
  rw [wp_bind]
  iapply wp_st4 (F := F) c $$ Hy
  iintro Hy
  iapply wp_end c
  iapply wp_end c
  isplitl [Hs]
  · iexact Hs
  isplitl [Hx]
  · iexact Hx
  isplitl [Ha]
  · iexact Ha
  isplitl [Hy]
  · rw [hy, ← chunk_eq64 fs fq fw (ex g t.val) (lo g t.val) (hi g t.val) u.val (y u.val) a hp _ (off51_eq hlo u)]
    iexact Hy
  isplitl [Hw Hback]
  · iapply Hback $$ Hw
  · iexact HO

/-- A branch, run. -/
theorem branch_run64 (g : ℕ → ℕ) (fa : Buf (Elt F) ((c : Thread nD τ).loc cc0_scratch3)) (hact : Act g 16 fa) (y : ℕ → S128x1536.Idx → Elt F .bf16)
    {v : BitVec 32} (t : Fin (k0_t6_loop v).trips) (ht : t.val < num g)
    (hy : ∀ u, y (u + 1) = chunk64 fs fq fw (ex g t.val) (lo g t.val) (hi g t.val) u (y u))
    (hw4 : k0_chk4 v t (wd (ex g t.val)) (wd (lo g t.val)) (wd (hi g t.val))) (arg11 v17 : BitVec 32) (h2 : k0_cond4 (wd (lo g t.val)) (wd (hi g t.val)) = 1#1) (v81 : BitVec 32)
    {Q : Unit → sProp 𝕄} :
    branch64 c fs fq fw g fa y t.val 0 ⊢ iprop((branch64 c fs fq fw g fa y t.val 6 -∗ Q ⟨⟩) -∗ wp frame (wpE (defs₀ (F := F)) Variants.none (c : Thread nD τ) none) Set.univ
      (Scf.Loop.for k0_t11_loop k0_t11_ok ⟨⟩ (k0_t11_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v t arg11 (wd (ex g t.val)) (wd (lo g t.val)) (wd (hi g t.val)) hw4 v17 (fl (wd (lo g t.val))) h2 v81)) Q) := by
  iintro H HQ
  iapply wp_loop (F := F) c _ _ _ _ 6 t11_trips (fun u _ => branch64 c fs fq fw g fa y t.val u)
    (fun u acc _ => chunk_step64 c fs fq fw g fa hact y t ht hy hw4 arg11 v17 h2 v81 u acc) $$ H
  iintro %acc H
  iapply HQ $$ H
end

end Cert.KernelIdeal.Hand

end
-- ==== Proof.KIBranch128.lean ====
/-
  What the branch of 128 rows computes, and its run.
-/
module

public import proofs.«01_k».proof.Proof.KITile

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-! ## The branch of 128 rows -/

/-- The branch's rows of a block of quantised tokens. -/
abbrev xr128 (fq : S128x5120.Idx → Elt F .bf16) (lo d : ℕ) : S128x128.Idx → Elt F .bf16 :=
  rd (S := S128x5120) pos_S128x5120 S128x128.size fq ![row128 lo, 128 * d]

/-- The running product after `d + 1` tiles. -/
def acc128 (fs : S16x12x40.Idx → Elt F .f32) (fq : S128x5120.Idx → Elt F .bf16) (fw : S16x1536x5120.Idx → Elt F .fp8e4m3) (e lo u : ℕ) : ℕ → FVec F S256x256 .f32
  | 0 => k0_pay40 (k0_pay39 (ws fs e (2 * u) 0) (xr128 fq lo 0) (ws fs e (2 * u) 1) (xr128 fq lo 1)) (ws fs e (2 * u + 1) 0) (xr128 fq lo 0)
      (ws fs e (2 * u + 1) 1) (xr128 fq lo 1) (wt fw e u 0)
  | d + 1 => k0_pay41 (acc128 fs fq fw e lo u d)
      (k0_pay37 (ws fs e (2 * u) (2 * (d + 1))) (xr128 fq lo (2 * (d + 1))) (ws fs e (2 * u) (2 * (d + 1) + 1)) (xr128 fq lo (2 * (d + 1) + 1)))
      (k0_pay38 (ws fs e (2 * u + 1) (2 * (d + 1)))) (xr128 fq lo (2 * (d + 1))) (ws fs e (2 * u + 1) (2 * (d + 1) + 1)) (xr128 fq lo (2 * (d + 1) + 1)) (wt fw e u (d + 1))

/-- What one chunk's branch makes of the result. -/
def chunk128 (fs : S16x12x40.Idx → Elt F .f32) (fq : S128x5120.Idx → Elt F .bf16) (fw : S16x1536x5120.Idx → Elt F .fp8e4m3) (e lo hi u : ℕ)
    (y : S128x1536.Idx → Elt F .bf16) : S128x1536.Idx → Elt F .bf16 :=
  wr (S := S128x1536) S128x256.size y ![row128 lo, 256 * u] (k0_pay42 (k0_pay6 (F := F) (wd lo) (wd hi) (fl (wd lo))) (acc128 fs fq fw e lo u 19)
    (rd (S := S128x1536) pos_S128x1536 S128x256.size y ![row128 lo, 256 * u]))

theorem acc_step128 (fs : S16x12x40.Idx → Elt F .f32) (fq : S128x5120.Idx → Elt F .bf16) (fw : S16x1536x5120.Idx → Elt F .fp8e4m3) (s e lo u d : ℕ) (he : e < 16) (a : FVec F S256x256 .f32)
    (ha : a = acc128 fs fq fw e lo u d) : ∀ w00 w01 w10 w11 : Fin 3 → ℕ, w00 = ![e, 2 * u, 2 * (d + 1)] → w01 = ![e, 2 * u, 2 * (d + 1) + 1] →
      w10 = ![e, 2 * u + 1, 2 * (d + 1)] → w11 = ![e, 2 * u + 1, 2 * (d + 1) + 1] →
      ∀ x0 x1 : Fin 2 → ℕ, x0 = ![row128 lo, 128 * (2 * (d + 1))] → x1 = ![row128 lo, 128 * (2 * (d + 1) + 1)] → ∀ t, t = ![s, 256 * u, 256 * (d + 1)] →
      k0_pay41 a (k0_pay37 (el (S := S16x12x40) pos_S16x12x40 fs w00) (rd (S := S128x5120) pos_S128x5120 S128x128.size fq x0)
          (el (S := S16x12x40) pos_S16x12x40 fs w01) (rd (S := S128x5120) pos_S128x5120 S128x128.size fq x1))
        (k0_pay38 (el (S := S16x12x40) pos_S16x12x40 fs w10)) (rd (S := S128x5120) pos_S128x5120 S128x128.size fq x0) (el (S := S16x12x40) pos_S16x12x40 fs w11)
        (rd (S := S128x5120) pos_S128x5120 S128x128.size fq x1) (rd (S := S5x1536x5120) pos_S5x1536x5120 S1x256x256.size (G fw e) t) = acc128 fs fq fw e lo u (d + 1) := by
  rintro _ _ _ _ rfl rfl rfl rfl _ _ rfl rfl t ht
  rw [rd_G fw e s u (d + 1) he t ht, ha]
  rfl

theorem acc_first128 (fs : S16x12x40.Idx → Elt F .f32) (fq : S128x5120.Idx → Elt F .bf16) (fw : S16x1536x5120.Idx → Elt F .fp8e4m3) (s e lo u : ℕ) (he : e < 16) :
    ∀ w00 w01 w10 w11 : Fin 3 → ℕ, w00 = ![e, 2 * u, 0] → w01 = ![e, 2 * u, 1] → w10 = ![e, 2 * u + 1, 0] → w11 = ![e, 2 * u + 1, 1] →
      ∀ x0 x1 : Fin 2 → ℕ, x0 = ![row128 lo, 0] → x1 = ![row128 lo, 128] → ∀ t, t = ![s, 256 * u, 0] →
      k0_pay40 (k0_pay39 (el (S := S16x12x40) pos_S16x12x40 fs w00) (rd (S := S128x5120) pos_S128x5120 S128x128.size fq x0)
          (el (S := S16x12x40) pos_S16x12x40 fs w01) (rd (S := S128x5120) pos_S128x5120 S128x128.size fq x1))
        (el (S := S16x12x40) pos_S16x12x40 fs w10) (rd (S := S128x5120) pos_S128x5120 S128x128.size fq x0) (el (S := S16x12x40) pos_S16x12x40 fs w11)
        (rd (S := S128x5120) pos_S128x5120 S128x128.size fq x1) (rd (S := S5x1536x5120) pos_S5x1536x5120 S1x256x256.size (G fw e) t) = acc128 fs fq fw e lo u 0 := by
  rintro _ _ _ _ rfl rfl rfl rfl _ _ rfl rfl t ht
  rw [rd_G fw e s u 0 he t ht]
  rfl

theorem chunk_eq128 (fs : S16x12x40.Idx → Elt F .f32) (fq : S128x5120.Idx → Elt F .bf16) (fw : S16x1536x5120.Idx → Elt F .fp8e4m3) (e lo hi u : ℕ)
    (y : S128x1536.Idx → Elt F .bf16) (a : FVec F S256x256 .f32) (ha : a = acc128 fs fq fw e lo u 19) : ∀ o, o = ![row128 lo, 256 * u] →
    wr (S := S128x1536) S128x256.size y o (k0_pay42 (k0_pay6 (F := F) (wd lo) (wd hi) (fl (wd lo))) a (rd (S := S128x1536) pos_S128x1536 S128x256.size y o))
      = chunk128 fs fq fw e lo hi u y := by
  rintro _ rfl
  rw [ha]; rfl

/-- What the product's loop holds. -/
def inner128 (c : Dev nD) (fs : Buf (Elt F) ((c : Thread nD τ).loc cc0_stg1_0)) (fq : Buf (Elt F) ((c : Thread nD τ).loc cc0_scratch1)) (fw : Buf (Elt F) ((c : Thread nD τ).loc main_arg2))
    (s e lo u d : ℕ) (acc : FVec F S256x256 .f32) : sProp 𝕄 :=
  iprop(((c : Thread nD τ).loc cc0_stg1_0 ↦{fullShare} fs) ∗ ((c : Thread nD τ).loc cc0_scratch1 ↦{fullShare} fq) ∗
    ((c : Thread nD τ).loc cc0_scratch2 ↦[Rg s u]{fullShare} (G fw e : S5x1536x5120.Idx → Elt F .fp8e4m3)) ∗ ⌜acc = acc128 fs fq fw e lo u d⌝)

section
variable (c : Dev nD) (fs : Buf (Elt F) ((c : Thread nD τ).loc cc0_stg1_0)) (fq : Buf (Elt F) ((c : Thread nD τ).loc cc0_scratch1)) (fw : Buf (Elt F) ((c : Thread nD τ).loc main_arg2))

/-- One tile of the product. -/
theorem inner_step128 {v : BitVec 32} (t : Fin (k0_t6_loop v).trips) (ht : t.val < 17) {e lo : ℕ} (he : e < 16) (hlo : lo < 129) (v16 : BitVec 32)
    (hw4 : k0_chk4 v t (wd e) (wd lo) v16) (v17 : BitVec 32) (h2 : k0_cond5 (wd lo) v16 = 1#1) (v81 : BitVec 32) (v89 : IVec S128x1 1) (u : Fin k0_t13_loop.trips)
    (arg12 v103 : BitVec 32) (v128 : FVec F S128x256 .bf16) (v130 : BitVec 32) (d : Fin k0_t14_loop.trips) (acc : FVec F S256x256 .f32) :
    inner128 c fs fq fw (t.val % 5) e lo u.val d.val acc ⊢ wp frame (wpE (defs₀ (F := F)) Variants.none (c : Thread nD τ) none) Set.univ
      (k0_t14_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v t (wd e) (wd lo) v16 hw4 v17 h2 v81 v89 u arg12 v103 v128 v130 d acc) (inner128 c fs fq fw (t.val % 5) e lo u.val (d.val + 1)) := by
  have hd : d.val < 19 := Nat.lt_of_lt_of_eq d.isLt t14_trips
  unfold inner128
  iintro ⟨Hs, Hx, Hw, %hp⟩
  unfold k0_t14_body
  rw [wp_bind, k0_part12_eq_skeleton]
  unfold k0_part12_skel
  dsimp only
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_sm1 (F := F) c (by decide) $$ Hs
  iintro Hs
  iapply wp_end c
  dsimp only
  rw [wp_bind]
  iapply wp_ld6 (F := F) c (fun _ _ => Finset.mem_univ _) $$ Hx
  iintro Hx
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_ld7 (F := F) c (mem_Rg (d := d.val + 1) (by omega) _ (off63_eq t ht u d)) $$ Hw
  iintro Hw
  iapply wp_end c
  isplitl [Hs]
  · iexact Hs
  isplitl [Hx]
  · iexact Hx
  isplitl [Hw]
  · iexact Hw
  ipureintro
  exact acc_step128 fs fq fw (t.val % 5) e lo u.val d.val he acc hp _ _ _ _ (off61_eq he u d 0 0) (off61_eq he u d 0 1) (off61_eq he u d 1 0) (off61_eq he u d 1 1)
    _ _ (off62_eq hlo d 0) (off62_eq hlo d 1) _ (off63_eq t ht u d)

/-- What a branch's loop over the chunks holds. -/
def branch128 (g : ℕ → ℕ) (fa : Buf (Elt F) ((c : Thread nD τ).loc cc0_scratch3)) (y : ℕ → S128x1536.Idx → Elt F .bf16) (a u : ℕ) : sProp 𝕄 :=
  iprop(((c : Thread nD τ).loc cc0_stg1_0 ↦{fullShare} fs) ∗ ((c : Thread nD τ).loc cc0_scratch1 ↦{fullShare} fq) ∗ ((c : Thread nD τ).loc cc0_scratch3 ↦{fullShare} fa) ∗
    ((c : Thread nD τ).loc cc0_stg2_0 ↦{fullShare} (y u : S128x1536.Idx → Elt F .bf16)) ∗ ring c fw (stDrain g a u) ∗ (∃ W, owes (c : Thread nD τ) (0 : CellTallies nD τ sig Unit) W))

/-- One chunk of a branch. -/
theorem chunk_step128 (g : ℕ → ℕ) (fa : Buf (Elt F) ((c : Thread nD τ).loc cc0_scratch3)) (hact : Act g 16 fa) (y : ℕ → S128x1536.Idx → Elt F .bf16)
    {v : BitVec 32} (t : Fin (k0_t6_loop v).trips) (ht : t.val < num g)
    (hy : ∀ u, y (u + 1) = chunk128 fs fq fw (ex g t.val) (lo g t.val) (hi g t.val) u (y u))
    (hw4 : k0_chk4 v t (wd (ex g t.val)) (wd (lo g t.val)) (wd (hi g t.val))) (arg11 v17 : BitVec 32) (h2 : k0_cond5 (wd (lo g t.val)) (wd (hi g t.val)) = 1#1) (v81 : BitVec 32)
    (u : Fin k0_t13_loop.trips) (acc : Unit) :
    branch128 c fs fq fw g fa y t.val u.val ⊢ wp frame (wpE (defs₀ (F := F)) Variants.none (c : Thread nD τ) none) Set.univ
      (k0_t13_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v t arg11 (wd (ex g t.val)) (wd (lo g t.val)) (wd (hi g t.val)) hw4 v17 (fl (wd (lo g t.val))) h2 v81 u acc)
      (fun _ => branch128 c fs fq fw g fa y t.val (u.val + 1)) := by
  have hu : u.val < 6 := Nat.lt_of_lt_of_eq u.isLt t13_trips
  have hn := num_lt g
  have ht17 : t.val < 17 := by omega
  have he := ex_lt g ht
  have hlo := lo_lt g t.val
  have hv : el (S := S3x17) pos_S3x17 fa (k0_off52 v t) = wd (ex g t.val) := by rw [off52_eq t ht17]; exact (hact t.val ht).1
  unfold branch128
  iintro ⟨Hs, Hx, Ha, Hy, HR, HO⟩
  unfold k0_t13_body
  rw [wp_bind, k0_part13_eq_skeleton]
  unfold k0_part13_skel
  dsimp only
  rw [wp_bind]
  iapply wp_sm8 (F := F) c (by decide) $$ Ha
  iintro Ha
  rw [hv]
  rw [wp_bind]
  iapply wp_chk (F := F) c (chk8_ok _ _ u he)
  rw [wp_bind]
  iapply arrive (F := F) g c fw t.val u.val hu ht (off53_eq t ht17 u) $$ [HR HO]
  · isplitl [HR]
    · iexact HR
    iexact HO
  iintro Hw Hback HO
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_sm1 (F := F) c (by decide) $$ Hs
  iintro Hs
  rw [wp_bind]
  iapply wp_ld6 (F := F) c (fun _ _ => Finset.mem_univ _) $$ Hx
  iintro Hx
  iapply wp_end c
  dsimp only
  rw [wp_bind, k0_part14_eq_skeleton]
  unfold k0_part14_skel
  dsimp only
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_sm1 (F := F) c (by decide) $$ Hs
  iintro Hs
  rw [wp_bind]
  iapply wp_ld6 (F := F) c (fun _ _ => Finset.mem_univ _) $$ Hx
  iintro Hx
  rw [wp_bind]
  iapply wp_ld7 (F := F) c (mem_Rg (d := 0) (by omega) _ (off60_eq t ht17 u)) $$ Hw
  iintro Hw
  rw [wp_bind]
  iapply wp_loop (F := F) c _ _ _ _ 19 t14_trips (fun d acc => inner128 c fs fq fw (t.val % 5) (ex g t.val) (lo g t.val) u.val d acc)
    (fun d acc _ => inner_step128 c fs fq fw t ht17 he hlo _ hw4 v17 h2 v81 _ u _ _ _ _ d acc) $$ [Hs Hx Hw]
  · unfold inner128
    isplitl [Hs]
    · iexact Hs
    isplitl [Hx]
    · iexact Hx
    isplitl [Hw]
    · iexact Hw
    ipureintro
    exact acc_first128 fs fq fw (t.val % 5) (ex g t.val) (lo g t.val) u.val he _ _ _ _ (off56_eq he u 0) (off58_eq he u 0) (off56_eq he u 1) (off58_eq he u 1)
      _ _ (off57_eq hlo) (off59_eq hlo) _ (off60_eq t ht17 u)
  iintro %a H
  unfold inner128
  icases H with ⟨Hs, Hx, Hw, %hp⟩
  rw [wp_bind]
  iapply wp_ld4 (F := F) c (fun _ _ => Finset.mem_univ _) $$ Hy
  iintro Hy
  rw [wp_bind]
  iapply wp_ld4 (F := F) c (fun _ _ => Finset.mem_univ _) $$ Hy
  iintro Hy
  rw [wp_bind]
  iapply wp_st4 (F := F) c $$ Hy
  iintro Hy
  iapply wp_end c
  iapply wp_end c
  isplitl [Hs]
  · iexact Hs
  isplitl [Hx]
  · iexact Hx
  isplitl [Ha]
  · iexact Ha
  isplitl [Hy]
  · rw [hy, ← chunk_eq128 fs fq fw (ex g t.val) (lo g t.val) (hi g t.val) u.val (y u.val) a hp _ (off64_eq hlo u)]
    iexact Hy
  isplitl [Hw Hback]
  · iapply Hback $$ Hw
  · iexact HO

/-- A branch, run. -/
theorem branch_run128 (g : ℕ → ℕ) (fa : Buf (Elt F) ((c : Thread nD τ).loc cc0_scratch3)) (hact : Act g 16 fa) (y : ℕ → S128x1536.Idx → Elt F .bf16)
    {v : BitVec 32} (t : Fin (k0_t6_loop v).trips) (ht : t.val < num g)
    (hy : ∀ u, y (u + 1) = chunk128 fs fq fw (ex g t.val) (lo g t.val) (hi g t.val) u (y u))
    (hw4 : k0_chk4 v t (wd (ex g t.val)) (wd (lo g t.val)) (wd (hi g t.val))) (arg11 v17 : BitVec 32) (h2 : k0_cond5 (wd (lo g t.val)) (wd (hi g t.val)) = 1#1) (v81 : BitVec 32)
    {Q : Unit → sProp 𝕄} :
    branch128 c fs fq fw g fa y t.val 0 ⊢ iprop((branch128 c fs fq fw g fa y t.val 6 -∗ Q ⟨⟩) -∗ wp frame (wpE (defs₀ (F := F)) Variants.none (c : Thread nD τ) none) Set.univ
      (Scf.Loop.for k0_t13_loop k0_t13_ok ⟨⟩ (k0_t13_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v t arg11 (wd (ex g t.val)) (wd (lo g t.val)) (wd (hi g t.val)) hw4 v17 (fl (wd (lo g t.val))) h2 v81)) Q) := by
  iintro H HQ
  iapply wp_loop (F := F) c _ _ _ _ 6 t13_trips (fun u _ => branch128 c fs fq fw g fa y t.val u)
    (fun u acc _ => chunk_step128 c fs fq fw g fa hact y t ht hy hw4 arg11 v17 h2 v81 u acc) $$ H
  iintro %acc H
  iapply HQ $$ H
end

end Cert.KernelIdeal.Hand

end
-- ==== Proof.KISegment.lean ====
/-
  One segment: its branch, and the copies it starts; and all of them.
-/
module

public import proofs.«01_k».proof.Proof.KIBranch16
public import proofs.«01_k».proof.Proof.KIBranch32
public import proofs.«01_k».proof.Proof.KIBranch64
public import proofs.«01_k».proof.Proof.KIBranch128

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- `f` at the first `n` numbers, one after the other. -/
def iter {α : Type} (f : ℕ → α → α) : ℕ → α → α
  | 0, y => y
  | n + 1, y => f n (iter f n y)

/-- What one segment makes of the result: the branch its tiles choose. -/
def seg (fs : S16x12x40.Idx → Elt F .f32) (fq : S128x5120.Idx → Elt F .bf16) (fw : S16x1536x5120.Idx → Elt F .fp8e4m3) (e lo hi : ℕ)
    (y : S128x1536.Idx → Elt F .bf16) : S128x1536.Idx → Elt F .bf16 :=
  if tiles lo hi ≤ 1 then iter (chunk16 fs fq fw e lo hi) 6 y
  else if tiles lo hi ≤ 2 then iter (chunk32 fs fq fw e lo hi) 6 y
  else if tiles lo hi ≤ 4 then iter (chunk64 fs fq fw e lo hi) 6 y
  else iter (chunk128 fs fq fw e lo hi) 6 y

/-- The result after `n` segments. -/
def Y (fs : S16x12x40.Idx → Elt F .f32) (fq : S128x5120.Idx → Elt F .bf16) (fw : S16x1536x5120.Idx → Elt F .fp8e4m3) (g : ℕ → ℕ) (n : ℕ) :
    S128x1536.Idx → Elt F .bf16 :=
  iter (fun j => seg fs fq fw (ex g j) (lo g j) (hi g j)) n (k0_pay1 (F := F))

section
variable (c : Dev nD) (fs : Buf (Elt F) ((c : Thread nD τ).loc cc0_stg1_0)) (fq : Buf (Elt F) ((c : Thread nD τ).loc cc0_scratch1)) (fw : Buf (Elt F) ((c : Thread nD τ).loc main_arg2))
  (g : ℕ → ℕ) (fa : Buf (Elt F) ((c : Thread nD τ).loc cc0_scratch3)) (hact : Act g 16 fa)
include hact

/-- What the segments' loop holds. -/
def segInv (a : ℕ) (y : S128x1536.Idx → Elt F .bf16) : sProp 𝕄 :=
  iprop(((c : Thread nD τ).loc cc0_stg1_0 ↦{fullShare} fs) ∗ ((c : Thread nD τ).loc cc0_scratch1 ↦{fullShare} fq) ∗ ((c : Thread nD τ).loc cc0_scratch3 ↦{fullShare} fa) ∗
    ((c : Thread nD τ).loc cc0_stg2_0 ↦{fullShare} (y : S128x1536.Idx → Elt F .bf16)) ∗ ring c fw (stFull g a) ∗ (∃ W, owes (c : Thread nD τ) (0 : CellTallies nD τ sig Unit) W))

/-- The segment's expert and rows, read from the table. -/
theorem head_run (hw3 : k0_chk3 (wd (num g))) (t : Fin (k0_t6_loop (wd (num g))).trips)
    {Q : (Σ' (arg11 : BitVec 32) (v12 : Elt F .i32) (v14 : Elt F .i32) (v16 : Elt F .i32) (k0_hw4 : k0_chk4 (wd (num g)) t v12 v14 v16) (v17 : BitVec 32) (v34 : BitVec 32) (v37 : BitVec 32) (v48 : BitVec 1) (v49 : BitVec 32), BitVec 32) → sProp 𝕄} :
    ((c : Thread nD τ).loc cc0_scratch3 ↦{fullShare} fa) ⊢ iprop((∀ a11 : BitVec 32, ∀ hw4 : k0_chk4 (wd (num g)) t (wd (ex g t.val)) (wd (lo g t.val)) (wd (hi g t.val)),
        ∀ v17 : BitVec 32, ∀ v34 : BitVec 32, ∀ v37 : BitVec 32, ∀ v48 : BitVec 1, ∀ v49 : BitVec 32, ∀ c0 : BitVec 32, ⌜v34 = fl (wd (lo g t.val))⌝ -∗
        ((c : Thread nD τ).loc cc0_scratch3 ↦{fullShare} fa) -∗ Q ⟨a11, wd (ex g t.val), wd (lo g t.val), wd (hi g t.val), hw4, v17, v34, v37, v48, v49, c0⟩) -∗
      wp frame (wpE (defs₀ (F := F)) Variants.none (c : Thread nD τ) none) Set.univ
        (k0_part15 (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (wd (num g)) hw3 0#32 1#32 t) Q) := by
  have hn := num_lt g
  have ht : t.val < num g := Nat.lt_of_lt_of_eq t.isLt (t6_trips hn)
  have ht17 : t.val < 17 := by omega
  have h0 : el (S := S3x17) pos_S3x17 fa (k0_off10 (wd (num g)) t) = wd (ex g t.val) := by rw [off10_eq t ht17]; exact (hact t.val ht).1
  have h1 : el (S := S3x17) pos_S3x17 fa (k0_off11 (wd (num g)) t) = wd (lo g t.val) := by rw [off11_eq t ht17]; exact (hact t.val ht).2.1
  have h2 : el (S := S3x17) pos_S3x17 fa (k0_off12 (wd (num g)) t) = wd (hi g t.val) := by rw [off12_eq t ht17]; exact (hact t.val ht).2.2
  iintro Ha HQ
  rw [k0_part15_eq_skeleton]
  unfold k0_part15_skel
  dsimp only
  rw [wp_bind]
  iapply wp_sm8 (F := F) c (by decide) $$ Ha
  iintro Ha
  rw [h0]
  rw [wp_bind]
  iapply wp_sm8 (F := F) c (by decide) $$ Ha
  iintro Ha
  rw [h1]
  rw [wp_bind]
  iapply wp_sm8 (F := F) c (by decide) $$ Ha
  iintro Ha
  rw [h2]
  rw [wp_bind]
  iapply wp_chk (F := F) c (chk4_ok t ht17 (ex_lt g ht) (lo_lt g t.val) _)
  iapply wp_end c
  iapply HQ $$ [] Ha
  ipureintro
  rfl

/-- The copies for the segment five further, if there is one. -/
theorem tail_run (hw3 : k0_chk3 (wd (num g))) (t : Fin (k0_t6_loop (wd (num g))).trips) {Q : Unit → sProp 𝕄} :
    iprop(((c : Thread nD τ).loc cc0_scratch3 ↦{fullShare} fa) ∗ ring c fw (stDrain g t.val 6))
      ⊢ iprop((((c : Thread nD τ).loc cc0_scratch3 ↦{fullShare} fa) -∗ ring c fw (stFull g (t.val + 1)) -∗ Q ⟨⟩) -∗
        wp frame (wpE (defs₀ (F := F)) Variants.none (c : Thread nD τ) none) Set.univ
          (if h6 : k0_cond6 (wd (num g)) t = 1#1 then do
            Scf.Loop.for k0_t15_loop k0_t15_ok ⟨⟩ (k0_t15_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (wd (num g)) hw3 t h6)
            pure ⟨⟩
          else do
            pure ⟨⟩) Q) := by
  iintro ⟨Ha, HR⟩ HQ
  by_cases h6 : k0_cond6 (wd (num g)) t = 1#1
  · rw [dif_pos h6]
    rw [wp_bind]
    iapply fill_run (F := F) g c fw fa hact hw3 t h6 $$ [Ha HR]
    · isplitl [Ha]
      · iexact Ha
      iexact HR
    iintro Ha HR
    dsimp only
    iapply wp_end c
    iapply HQ $$ Ha HR
  · rw [dif_neg h6]
    dsimp only
    iapply wp_end c
    have hn : ¬ t.val + 5 < num g := fun h => h6 ((cond6_iff (num_lt g) t).2 h)
    rw [stDrain_last g t.val hn]
    iapply HQ $$ Ha HR

variable (hw3 : k0_chk3 (wd (num g))) (t : Fin (k0_t6_loop (wd (num g))).trips)

/-- A segment of 16 rows. -/
theorem seg_step16 (y : S128x1536.Idx → Elt F .bf16) (hT : 0 < tiles (lo g t.val) (hi g t.val) ∧ tiles (lo g t.val) (hi g t.val) ≤ 1) (acc : Unit) :
    segInv c fs fq fw g fa t.val y ⊢ wp frame (wpE (defs₀ (F := F)) Variants.none (c : Thread nD τ) none) Set.univ
      (k0_t6_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (wd (num g)) hw3 t acc)
      (fun _ => segInv c fs fq fw g fa (t.val + 1) (seg fs fq fw (ex g t.val) (lo g t.val) (hi g t.val) y)) := by
  have hn := num_lt g
  have ht : t.val < num g := Nat.lt_of_lt_of_eq t.isLt (t6_trips hn)
  have hle := Nat.le_of_lt (lo_lt_hi g ht)
  have hh := hi_lt g t.val
  have h2 := (cond2_iff hle hh).2 ⟨by omega, by omega⟩
  have h3 := mt (cond3_iff hle hh).1 (by omega)
  have h4 := mt (cond4_iff hle hh).1 (by omega)
  have h5 := mt (cond5_iff hle hh).1 (by omega)
  have hseg : seg fs fq fw (ex g t.val) (lo g t.val) (hi g t.val) y = iter (chunk16 fs fq fw (ex g t.val) (lo g t.val) (hi g t.val)) 6 y := by
    unfold seg
    rw [if_pos (by omega)]
  rw [hseg]
  unfold segInv
  iintro ⟨Hs, Hx, Ha, Hy, HR, HO⟩
  unfold k0_t6_body
  rw [wp_bind]
  iapply head_run (F := F) c g fa hact hw3 t $$ Ha
  iintro %a11 %hw4 %v17 %v34 %v37 %v48 %v49 %c0 %e34 Ha
  subst e34
  dsimp only
  rw [dif_pos h2]
  rw [wp_bind]
  iapply branch_run16 (F := F) c fs fq fw g fa hact (fun u => iter (chunk16 fs fq fw (ex g t.val) (lo g t.val) (hi g t.val)) u y) t ht (fun _ => rfl) hw4 a11 v17 h2 _ $$ [Hs Hx Ha Hy HR HO]
  · unfold branch16
    isplitl [Hs]
    · iexact Hs
    isplitl [Hx]
    · iexact Hx
    isplitl [Ha]
    · iexact Ha
    isplitl [Hy]
    · iexact Hy
    isplitl [HR]
    · rw [stDrain_zero]; iexact HR
    iexact HO
  iintro H
  unfold branch16
  icases H with ⟨Hs, Hx, Ha, Hy, HR, HO⟩
  rw [dif_neg h3]
  rw [dif_neg h4]
  rw [dif_neg h5]
  iapply tail_run (F := F) c fw g fa hact hw3 t $$ [Ha HR]
  · isplitl [Ha]
    · iexact Ha
    iexact HR
  iintro Ha HR
  isplitl [Hs]
  · iexact Hs
  isplitl [Hx]
  · iexact Hx
  isplitl [Ha]
  · iexact Ha
  isplitl [Hy]
  · iexact Hy
  isplitl [HR]
  · iexact HR
  iexact HO

/-- A segment of 32 rows. -/
theorem seg_step32 (y : S128x1536.Idx → Elt F .bf16) (hT : 1 < tiles (lo g t.val) (hi g t.val) ∧ tiles (lo g t.val) (hi g t.val) ≤ 2) (acc : Unit) :
    segInv c fs fq fw g fa t.val y ⊢ wp frame (wpE (defs₀ (F := F)) Variants.none (c : Thread nD τ) none) Set.univ
      (k0_t6_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (wd (num g)) hw3 t acc)
      (fun _ => segInv c fs fq fw g fa (t.val + 1) (seg fs fq fw (ex g t.val) (lo g t.val) (hi g t.val) y)) := by
  have hn := num_lt g
  have ht : t.val < num g := Nat.lt_of_lt_of_eq t.isLt (t6_trips hn)
  have hle := Nat.le_of_lt (lo_lt_hi g ht)
  have hh := hi_lt g t.val
  have h2 := mt (cond2_iff hle hh).1 (by omega)
  have h3 := (cond3_iff hle hh).2 ⟨by omega, by omega⟩
  have h4 := mt (cond4_iff hle hh).1 (by omega)
  have h5 := mt (cond5_iff hle hh).1 (by omega)
  have hseg : seg fs fq fw (ex g t.val) (lo g t.val) (hi g t.val) y = iter (chunk32 fs fq fw (ex g t.val) (lo g t.val) (hi g t.val)) 6 y := by
    unfold seg
    rw [if_neg (by omega)]; rw [if_pos (by omega)]
  rw [hseg]
  unfold segInv
  iintro ⟨Hs, Hx, Ha, Hy, HR, HO⟩
  unfold k0_t6_body
  rw [wp_bind]
  iapply head_run (F := F) c g fa hact hw3 t $$ Ha
  iintro %a11 %hw4 %v17 %v34 %v37 %v48 %v49 %c0 %e34 Ha
  subst e34
  dsimp only
  rw [dif_neg h2]
  rw [dif_pos h3]
  rw [wp_bind]
  iapply branch_run32 (F := F) c fs fq fw g fa hact (fun u => iter (chunk32 fs fq fw (ex g t.val) (lo g t.val) (hi g t.val)) u y) t ht (fun _ => rfl) hw4 a11 v17 h3 _ $$ [Hs Hx Ha Hy HR HO]
  · unfold branch32
    isplitl [Hs]
    · iexact Hs
    isplitl [Hx]
    · iexact Hx
    isplitl [Ha]
    · iexact Ha
    isplitl [Hy]
    · iexact Hy
    isplitl [HR]
    · rw [stDrain_zero]; iexact HR
    iexact HO
  iintro H
  unfold branch32
  icases H with ⟨Hs, Hx, Ha, Hy, HR, HO⟩
  rw [dif_neg h4]
  rw [dif_neg h5]
  iapply tail_run (F := F) c fw g fa hact hw3 t $$ [Ha HR]
  · isplitl [Ha]
    · iexact Ha
    iexact HR
  iintro Ha HR
  isplitl [Hs]
  · iexact Hs
  isplitl [Hx]
  · iexact Hx
  isplitl [Ha]
  · iexact Ha
  isplitl [Hy]
  · iexact Hy
  isplitl [HR]
  · iexact HR
  iexact HO

/-- A segment of 64 rows. -/
theorem seg_step64 (y : S128x1536.Idx → Elt F .bf16) (hT : 2 < tiles (lo g t.val) (hi g t.val) ∧ tiles (lo g t.val) (hi g t.val) ≤ 4) (acc : Unit) :
    segInv c fs fq fw g fa t.val y ⊢ wp frame (wpE (defs₀ (F := F)) Variants.none (c : Thread nD τ) none) Set.univ
      (k0_t6_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (wd (num g)) hw3 t acc)
      (fun _ => segInv c fs fq fw g fa (t.val + 1) (seg fs fq fw (ex g t.val) (lo g t.val) (hi g t.val) y)) := by
  have hn := num_lt g
  have ht : t.val < num g := Nat.lt_of_lt_of_eq t.isLt (t6_trips hn)
  have hle := Nat.le_of_lt (lo_lt_hi g ht)
  have hh := hi_lt g t.val
  have h2 := mt (cond2_iff hle hh).1 (by omega)
  have h3 := mt (cond3_iff hle hh).1 (by omega)
  have h4 := (cond4_iff hle hh).2 ⟨by omega, by omega⟩
  have h5 := mt (cond5_iff hle hh).1 (by omega)
  have hseg : seg fs fq fw (ex g t.val) (lo g t.val) (hi g t.val) y = iter (chunk64 fs fq fw (ex g t.val) (lo g t.val) (hi g t.val)) 6 y := by
    unfold seg
    rw [if_neg (by omega)]; rw [if_neg (by omega)]; rw [if_pos (by omega)]
  rw [hseg]
  unfold segInv
  iintro ⟨Hs, Hx, Ha, Hy, HR, HO⟩
  unfold k0_t6_body
  rw [wp_bind]
  iapply head_run (F := F) c g fa hact hw3 t $$ Ha
  iintro %a11 %hw4 %v17 %v34 %v37 %v48 %v49 %c0 %e34 Ha
  subst e34
  dsimp only
  rw [dif_neg h2]
  rw [dif_neg h3]
  rw [dif_pos h4]
  rw [wp_bind]
  iapply branch_run64 (F := F) c fs fq fw g fa hact (fun u => iter (chunk64 fs fq fw (ex g t.val) (lo g t.val) (hi g t.val)) u y) t ht (fun _ => rfl) hw4 a11 v17 h4 _ $$ [Hs Hx Ha Hy HR HO]
  · unfold branch64
    isplitl [Hs]
    · iexact Hs
    isplitl [Hx]
    · iexact Hx
    isplitl [Ha]
    · iexact Ha
    isplitl [Hy]
    · iexact Hy
    isplitl [HR]
    · rw [stDrain_zero]; iexact HR
    iexact HO
  iintro H
  unfold branch64
  icases H with ⟨Hs, Hx, Ha, Hy, HR, HO⟩
  rw [dif_neg h5]
  iapply tail_run (F := F) c fw g fa hact hw3 t $$ [Ha HR]
  · isplitl [Ha]
    · iexact Ha
    iexact HR
  iintro Ha HR
  isplitl [Hs]
  · iexact Hs
  isplitl [Hx]
  · iexact Hx
  isplitl [Ha]
  · iexact Ha
  isplitl [Hy]
  · iexact Hy
  isplitl [HR]
  · iexact HR
  iexact HO

/-- A segment of 128 rows. -/
theorem seg_step128 (y : S128x1536.Idx → Elt F .bf16) (hT : 4 < tiles (lo g t.val) (hi g t.val) ∧ tiles (lo g t.val) (hi g t.val) ≤ 8) (acc : Unit) :
    segInv c fs fq fw g fa t.val y ⊢ wp frame (wpE (defs₀ (F := F)) Variants.none (c : Thread nD τ) none) Set.univ
      (k0_t6_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (wd (num g)) hw3 t acc)
      (fun _ => segInv c fs fq fw g fa (t.val + 1) (seg fs fq fw (ex g t.val) (lo g t.val) (hi g t.val) y)) := by
  have hn := num_lt g
  have ht : t.val < num g := Nat.lt_of_lt_of_eq t.isLt (t6_trips hn)
  have hle := Nat.le_of_lt (lo_lt_hi g ht)
  have hh := hi_lt g t.val
  have h2 := mt (cond2_iff hle hh).1 (by omega)
  have h3 := mt (cond3_iff hle hh).1 (by omega)
  have h4 := mt (cond4_iff hle hh).1 (by omega)
  have h5 := (cond5_iff hle hh).2 ⟨by omega, by omega⟩
  have hseg : seg fs fq fw (ex g t.val) (lo g t.val) (hi g t.val) y = iter (chunk128 fs fq fw (ex g t.val) (lo g t.val) (hi g t.val)) 6 y := by
    unfold seg
    rw [if_neg (by omega)]; rw [if_neg (by omega)]; rw [if_neg (by omega)]
  rw [hseg]
  unfold segInv
  iintro ⟨Hs, Hx, Ha, Hy, HR, HO⟩
  unfold k0_t6_body
  rw [wp_bind]
  iapply head_run (F := F) c g fa hact hw3 t $$ Ha
  iintro %a11 %hw4 %v17 %v34 %v37 %v48 %v49 %c0 %e34 Ha
  subst e34
  dsimp only
  rw [dif_neg h2]
  rw [dif_neg h3]
  rw [dif_neg h4]
  rw [dif_pos h5]
  rw [wp_bind]
  iapply branch_run128 (F := F) c fs fq fw g fa hact (fun u => iter (chunk128 fs fq fw (ex g t.val) (lo g t.val) (hi g t.val)) u y) t ht (fun _ => rfl) hw4 a11 v17 h5 _ $$ [Hs Hx Ha Hy HR HO]
  · unfold branch128
    isplitl [Hs]
    · iexact Hs
    isplitl [Hx]
    · iexact Hx
    isplitl [Ha]
    · iexact Ha
    isplitl [Hy]
    · iexact Hy
    isplitl [HR]
    · rw [stDrain_zero]; iexact HR
    iexact HO
  iintro H
  unfold branch128
  icases H with ⟨Hs, Hx, Ha, Hy, HR, HO⟩
  iapply tail_run (F := F) c fw g fa hact hw3 t $$ [Ha HR]
  · isplitl [Ha]
    · iexact Ha
    iexact HR
  iintro Ha HR
  isplitl [Hs]
  · iexact Hs
  isplitl [Hx]
  · iexact Hx
  isplitl [Ha]
  · iexact Ha
  isplitl [Hy]
  · iexact Hy
  isplitl [HR]
  · iexact HR
  iexact HO

/-- One segment. -/
theorem seg_step (n : ℕ) (y : S128x1536.Idx → Elt F .bf16) (acc : Unit) :
    segInv c fs fq fw g fa t.val y ⊢ wp frame (wpE (defs₀ (F := F)) Variants.none (c : Thread nD τ) none) Set.univ
      (k0_t6_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (wd (num g)) hw3 t acc)
      (fun _ => segInv c fs fq fw g fa (t.val + 1) (seg fs fq fw (ex g t.val) (lo g t.val) (hi g t.val) y)) := by
  have ht : t.val < num g := Nat.lt_of_lt_of_eq t.isLt (t6_trips (num_lt g))
  have h1 := lo_lt_hi g ht
  have h2 := hi_lt g t.val
  have h3 : 0 < tiles (lo g t.val) (hi g t.val) ∧ tiles (lo g t.val) (hi g t.val) ≤ 8 := by unfold tiles; omega
  by_cases c1 : tiles (lo g t.val) (hi g t.val) ≤ 1
  · exact seg_step16 c fs fq fw g fa hact hw3 t y ⟨by omega, by omega⟩ acc
  by_cases c2 : tiles (lo g t.val) (hi g t.val) ≤ 2
  · exact seg_step32 c fs fq fw g fa hact hw3 t y ⟨by omega, by omega⟩ acc
  by_cases c4 : tiles (lo g t.val) (hi g t.val) ≤ 4
  · exact seg_step64 c fs fq fw g fa hact hw3 t y ⟨by omega, by omega⟩ acc
  · exact seg_step128 c fs fq fw g fa hact hw3 t y ⟨by omega, by omega⟩ acc

/-- All segments. -/
theorem seg_run {Q : Unit → sProp 𝕄} (hok : (k0_t6_loop (wd (num g))).OK) :
    segInv c fs fq fw g fa 0 (Y fs fq fw g 0) ⊢ iprop((segInv c fs fq fw g fa (num g) (Y fs fq fw g (num g)) -∗ Q ⟨⟩) -∗
      wp frame (wpE (defs₀ (F := F)) Variants.none (c : Thread nD τ) none) Set.univ
        (Scf.Loop.for (k0_t6_loop (wd (num g))) hok ⟨⟩ (k0_t6_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (wd (num g)) hw3)) Q) := by
  iintro H HQ
  iapply wp_loop (F := F) c _ _ _ _ (num g) (t6_trips (num_lt g)) (fun a _ => segInv c fs fq fw g fa a (Y fs fq fw g a))
    (fun t acc _ => seg_step c fs fq fw g fa hact hw3 t 0 (Y fs fq fw g t.val) acc) $$ H
  iintro %acc H
  iapply HQ $$ H
end

end Cert.KernelIdeal.Hand

end
-- ==== Proof.KIQuant.lean ====
/-
  The loops that quantise the tokens, tile by tile.
-/
module

public import proofs.«01_k».proof.Proof.KIAccess

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- One tile of sixteen rows by a block of 128 columns, quantised as the kernel does it. -/
def qt (v : Vec F S16x128 .bf16) : Vec F S16x128 .bf16 :=
  k0_pay2 (k0_pay17 (k0_pay12 v) (k0_pay13 v) (k0_pay14 v) (k0_pay15 v)) (k0_pay18 (k0_pay11 v) (k0_pay12 v) (k0_pay13 v) (k0_pay14 v) (k0_pay15 v))
    (Scalar.ofBits .f32 0xC3E00000#32) (Scalar.ofBits .f32 0x43E00000#32)

/-- The quantised tokens: each tile from the tile of the tokens it lies on. -/
def XQ (fx : S128x5120.Idx → Elt F .bf16) : S128x5120.Idx → Elt F .bf16 :=
  fun i => qt (rd pos_S128x5120 S16x128.size fx ![16 * ((i 0).val / 16), 128 * ((i 1).val / 128)])
    (fun a => ⟨(i a).val % S16x128.size a, Nat.mod_lt _ (by revert a; decide)⟩)

/-- The first `k` rows of tiles, and of the next row the first `u` blocks, hold the quantised tokens. -/
def Qd (fx f : S128x5120.Idx → Elt F .bf16) (k u : ℕ) : Prop :=
  ∀ i : S128x5120.Idx, (i 0).val < 16 * k ∨ ((i 0).val < 16 * (k + 1) ∧ (i 1).val < 128 * u) → f i = XQ fx i

theorem Qd_step (fx f : S128x5120.Idx → Elt F .bf16) (k u : ℕ) (h : Qd fx f k u) (o o' : Fin 2 → ℕ) (ho : o = ![16 * k, 128 * u]) (ho' : o' = ![16 * k, 128 * u]) :
    Qd fx (wr S16x128.size f o' (qt (rd pos_S128x5120 S16x128.size fx o))) k (u + 1) := by
  subst ho ho'
  intro i hi
  unfold wr
  split
  · next hin =>
    have h0 : 16 * k ≤ (i 0).val ∧ (i 0).val < 16 * k + 16 := hin 0
    have h1 : 128 * u ≤ (i 1).val ∧ (i 1).val < 128 * u + 128 := hin 1
    have e0 : (i 0).val / 16 = k := by omega
    have e1 : (i 1).val / 128 = u := by omega
    unfold XQ
    rw [e0, e1]
    congr 1
    funext a
    apply Fin.ext
    fin_cases a
    · show (i 0).val - 16 * k = (i 0).val % 16; omega
    · show (i 1).val - 128 * u = (i 1).val % 128; omega
  · next hin =>
    refine h i ?_
    by_contra hc
    refine hin fun a => ?_
    fin_cases a
    · show 16 * k ≤ (i 0).val ∧ (i 0).val < 16 * k + 16; omega
    · show 128 * u ≤ (i 1).val ∧ (i 1).val < 128 * u + 128; omega

/-- What holds before block `u` of row `k` of tiles. -/
def quantInv (c : Dev nD) (fx : Buf (Elt F) ((c : Thread nD τ).loc cc0_scratch0)) (k u : ℕ) : sProp 𝕄 :=
  iprop(((c : Thread nD τ).loc cc0_scratch0 ↦{fullShare} fx) ∗ ∃ f : Buf (Elt F) ((c : Thread nD τ).loc cc0_scratch1), ((c : Thread nD τ).loc cc0_scratch1 ↦{fullShare} f) ∗
    ⌜Qd fx f k u⌝)

theorem quant_step (c : Dev nD) (fx : Buf (Elt F) ((c : Thread nD τ).loc cc0_scratch0)) (k : Fin k0_t4_loop.trips) (w : BitVec 32)
    (u : Fin k0_t5_loop.trips) (acc : Unit) :
    quantInv (F := F) c fx k u ⊢ wp frame (wpE (defs₀ (F := F)) Variants.none (c : Thread nD τ) none) Set.univ
      (k0_t5_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 k w u acc) (fun _ => quantInv (F := F) c fx k (u + 1)) := by
  unfold quantInv
  iintro ⟨Hx, %f, Hf, %hp⟩
  unfold k0_t5_body
  rw [wp_bind, k0_part1_eq_skeleton]
  unfold k0_part1_skel
  dsimp only
  rw [wp_bind]
  iapply wp_ld5 (F := F) c (fun _ _ => Finset.mem_univ _) $$ Hx
  iintro Hx
  iapply wp_end c
  dsimp only
  rw [wp_bind, k0_part2_eq_skeleton]
  unfold k0_part2_skel
  dsimp only
  iapply wp_end c
  dsimp only
  rw [wp_bind]
  iapply wp_ld6 (F := F) c (fun _ _ => Finset.mem_univ _) $$ Hf
  iintro Hf
  rw [wp_bind]
  iapply wp_st6 (F := F) c $$ Hf
  iintro Hf
  iapply wp_end c
  isplitl [Hx]
  · iexact Hx
  iexists _
  isplitl [Hf]
  · iexact Hf
  ipureintro
  exact Qd_step fx f k u hp _ _ (off9_eq k u) (off9_eq k u)

theorem quant_row (c : Dev nD) (fx : Buf (Elt F) ((c : Thread nD τ).loc cc0_scratch0)) (k : Fin k0_t4_loop.trips) (acc : Unit) :
    quantInv (F := F) c fx k 0 ⊢ wp frame (wpE (defs₀ (F := F)) Variants.none (c : Thread nD τ) none) Set.univ
      (k0_t4_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 k acc) (fun _ => quantInv (F := F) c fx (k + 1) 0) := by
  unfold k0_t4_body
  rw [wp_bind]
  iintro H
  iapply wp_loop (F := F) c _ _ _ _ 40 t5_trips (fun u _ => quantInv (F := F) c fx k u) (fun u acc _ => quant_step c fx k _ u acc) $$ H
  iintro %acc H
  iapply wp_end c
  unfold quantInv
  icases H with ⟨Hx, %f, Hf, %hp⟩
  isplitl [Hx]
  · iexact Hx
  iexists f
  isplitl [Hf]
  · iexact Hf
  ipureintro
  intro i hi
  have h1 : (i 1).val < 5120 := (i 1).isLt
  exact hp i (by omega)

/-- The loops over the tiles leave the quantised tokens. -/
theorem quant_run (c : Dev nD) (fx : Buf (Elt F) ((c : Thread nD τ).loc cc0_scratch0)) (f0 : Buf (Elt F) ((c : Thread nD τ).loc cc0_scratch1))
    {Q : Unit → sProp 𝕄} :
    iprop(((c : Thread nD τ).loc cc0_scratch0 ↦{fullShare} fx) ∗ ((c : Thread nD τ).loc cc0_scratch1 ↦{fullShare} f0))
      ⊢ iprop((((c : Thread nD τ).loc cc0_scratch0 ↦{fullShare} fx) -∗ ((c : Thread nD τ).loc cc0_scratch1 ↦{fullShare} (XQ fx : S128x5120.Idx → Elt F .bf16)) -∗ Q ⟨⟩) -∗
        wp frame (wpE (defs₀ (F := F)) Variants.none (c : Thread nD τ) none) Set.univ
          (Scf.Loop.for k0_t4_loop k0_t4_ok ⟨⟩ (k0_t4_body (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5)) Q) := by
  iintro ⟨Hx, Hf⟩ HQ
  iapply wp_loop (F := F) c _ _ _ _ 8 t4_trips (fun k _ => quantInv (F := F) c fx k 0) (fun k acc _ => quant_row c fx k acc) $$ [Hx Hf]
  · unfold quantInv
    isplitl [Hx]
    · iexact Hx
    iexists f0
    isplitl [Hf]
    · iexact Hf
    ipureintro
    intro i hi; omega
  · iintro %acc H
    unfold quantInv
    icases H with ⟨Hx, %f, Hf, %hp⟩
    have e : f = (XQ fx : S128x5120.Idx → Elt F .bf16) := funext fun i => hp i (Or.inl (i 0).isLt)
    subst e
    iapply HQ $$ Hx Hf

end Cert.KernelIdeal.Hand

end
-- ==== Proof.KIBody.lean ====
/-
  The body of the kernel, run once: the ring lent and given back, the activations fetched, and the segments in turn.
-/
module

public import proofs.«01_k».proof.Proof.KISegment
public import proofs.«01_k».proof.Proof.KIQuant

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-! ## The ring out of whole buffers, and back -/

theorem Rg_disjoint : ∀ p ∈ (Finset.univ : Finset (Fin 30)), ∀ p' ∈ (Finset.univ : Finset (Fin 30)), p ≠ p' →
    Disjoint (Rg (sl p) (ch p)) (Rg (sl p') (ch p')) := by
  intro p _ p' _ hne
  rw [Finset.disjoint_left]
  intro i hi hi'
  unfold Rg at hi hi'
  rw [Finset.mem_filter] at hi hi'
  apply hne
  apply Fin.ext
  have a : (i 0).val = p.val / 6 ∧ 256 * (p.val % 6) ≤ (i 1).val ∧ (i 1).val < 256 * (p.val % 6) + 256 := hi.2
  have b : (i 0).val = p'.val / 6 ∧ 256 * (p'.val % 6) ≤ (i 1).val ∧ (i 1).val < 256 * (p'.val % 6) + 256 := hi'.2
  omega

theorem Rg_union : (Finset.univ : Finset (Fin 30)).biUnion (fun p => Rg (sl p) (ch p)) = Finset.univ := by
  ext i
  simp only [Finset.mem_biUnion, Finset.mem_univ, true_and, iff_true]
  have h0 : (i 0).val < 5 := (i 0).isLt
  have h1 : (i 1).val < 1536 := (i 1).isLt
  refine ⟨⟨6 * (i 0).val + (i 1).val / 256, by omega⟩, ?_⟩
  unfold Rg
  rw [Finset.mem_filter]
  refine ⟨Finset.mem_univ _, ?_⟩
  show (i 0).val = (6 * (i 0).val + (i 1).val / 256) / 6 ∧ 256 * ((6 * (i 0).val + (i 1).val / 256) % 6) ≤ (i 1).val
    ∧ (i 1).val < 256 * ((6 * (i 0).val + (i 1).val / 256) % 6) + 256
  omega

/-- The whole buffers dealt out as a ring of free places. -/
theorem ring_make (c : Dev nD) (fw : Buf (Elt F) ((c : Thread nD τ).loc main_arg2)) (f : Buf (Elt F) ((c : Thread nD τ).loc cc0_scratch2)) :
    iprop(((c : Thread nD τ).loc main_arg2 ↦{fullShare} fw) ∗ ((c : Thread nD τ).loc cc0_scratch2 ↦{fullShare} f)
      ∗ bigSep Finset.univ (fun p : Fin 30 => semVal ((c : Thread nD τ), SemLoc.dma (cellSem p)) 0))
      ⊢ (iprop(((c : Thread nD τ).loc main_arg2 ↦{Transfers.shareDrop fullShare 30} fw) ∗ ring c fw (fun _ => none)) : sProp 𝕄) := by
  iintro ⟨Hw, Hf, Hs⟩
  ihave Hw := (Transfers.pointsTo_toks_split (ℓ := (c : Thread nD τ).loc main_arg2) (f := fw) fullShare 30) $$ Hw
  icases Hw with ⟨Hd, Hw⟩
  isplitl [Hd]
  · iexact Hd
  have e : ((c : Thread nD τ).loc cc0_scratch2 ↦{fullShare} f : sProp 𝕄) = bigSep Finset.univ (fun p : Fin 30 => (c : Thread nD τ).loc cc0_scratch2 ↦[Rg (sl p) (ch p)]{fullShare} f) := by
    rw [← pointsTo_biUnion (ℓ := (c : Thread nD τ).loc cc0_scratch2) (Finset.univ : Finset (Fin 30)) (fun p => Rg (sl p) (ch p)) Rg_disjoint, Rg_union]
  ihave Hf := (Entails.of_eq e) $$ Hf
  ihave Hsw := (Entails.of_eq (bigSep_sep' (Finset.univ : Finset (Fin 30)) _ _).symm) $$ [Hs Hw]
  · isplitl [Hs]
    · iexact Hs
    · iexact Hw
  ihave H := (Entails.of_eq (bigSep_sep' (Finset.univ : Finset (Fin 30)) _ _).symm) $$ [Hf Hsw]
  · isplitl [Hf]
    · iexact Hf
    · iexact Hsw
  unfold ring
  have hm : ∀ p ∈ (Finset.univ : Finset (Fin 30)), iprop(((c : Thread nD τ).loc cc0_scratch2 ↦[Rg (sl p) (ch p)]{fullShare} f)
      ∗ semVal ((c : Thread nD τ), SemLoc.dma (cellSem p)) 0 ∗ (c : Thread nD τ).loc main_arg2 ↦{tk p} fw) ⊢ (cell c fw p none : sProp 𝕄) := by
    intro p _
    unfold cell
    iintro ⟨H1, H2, H3⟩
    isplitl [H1]
    · iexists f
      iexact H1
    isplitl [H2]
    · iexact H2
    · iexact H3
  have h2 : (bigSep (Finset.univ : Finset (Fin 30)) (fun p => iprop(((c : Thread nD τ).loc cc0_scratch2 ↦[Rg (sl p) (ch p)]{fullShare} f)
      ∗ semVal ((c : Thread nD τ), SemLoc.dma (cellSem p)) 0 ∗ (c : Thread nD τ).loc main_arg2 ↦{tk p} fw)) : sProp 𝕄)
      ⊢ bigSep (Finset.univ : Finset (Fin 30)) (fun p => cell c fw p none) := bigSep_mono hm
  iapply h2 $$ H

/-- A ring of free places joined back into the whole buffers. -/
theorem ring_back (c : Dev nD) (fw : Buf (Elt F) ((c : Thread nD τ).loc main_arg2)) :
    (iprop(((c : Thread nD τ).loc main_arg2 ↦{Transfers.shareDrop fullShare 30} fw) ∗ ring c fw (fun _ => none)) : sProp 𝕄)
      ⊢ iprop(((c : Thread nD τ).loc main_arg2 ↦{fullShare} fw) ∗ (∃ f : Buf (Elt F) ((c : Thread nD τ).loc cc0_scratch2), (c : Thread nD τ).loc cc0_scratch2 ↦{fullShare} f)
      ∗ bigSep Finset.univ (fun p : Fin 30 => semVal ((c : Thread nD τ), SemLoc.dma (cellSem p)) 0)) := by
  iintro ⟨Hd, HR⟩
  have e : (ring c fw (fun _ => none) : sProp 𝕄) = bigSep (Finset.univ : Finset (Fin 30)) (fun p => iprop((∃ f : Buf (Elt F) ((c : Thread nD τ).loc cc0_scratch2), (c : Thread nD τ).loc cc0_scratch2 ↦[Rg (sl p) (ch p)]{fullShare} f)
      ∗ semVal ((c : Thread nD τ), SemLoc.dma (cellSem p)) 0 ∗ (c : Thread nD τ).loc main_arg2 ↦{tk p} fw)) := rfl
  ihave HR := (Entails.of_eq e) $$ HR
  ihave HR := (Entails.of_eq (bigSep_sep' (Finset.univ : Finset (Fin 30)) _ _)) $$ HR
  icases HR with ⟨Hf, HR⟩
  ihave HR := (Entails.of_eq (bigSep_sep' (Finset.univ : Finset (Fin 30)) _ _)) $$ HR
  icases HR with ⟨Hs, Hw⟩
  isplitl [Hd Hw]
  · iapply (Transfers.pointsTo_toks_join (ℓ := (c : Thread nD τ).loc main_arg2) (f := fw) fullShare 30)
    isplitl [Hd]
    · iexact Hd
    · iexact Hw
  isplitl [Hf]
  · ihave Hf := (BI.bigSep_exists_pi (Y := fun _ : Fin 30 => Buf (Elt F) ((c : Thread nD τ).loc cc0_scratch2)) (Finset.univ : Finset (Fin 30))
      (fun p f => ((c : Thread nD τ).loc cc0_scratch2 ↦[Rg (sl p) (ch p)]{fullShare} f : sProp 𝕄))) $$ Hf
    icases Hf with ⟨%fs, Hf⟩
    ihave Hf := (pointsTo_biUnion_join (ℓ := (c : Thread nD τ).loc cc0_scratch2) (q := fullShare) (Finset.univ : Finset (Fin 30)) (fun p => Rg (sl p) (ch p)) fs (fs 0) Rg_disjoint) $$ Hf
    icases Hf with ⟨%g, -, Hf⟩
    iexists g
    have e2 : ((c : Thread nD τ).loc cc0_scratch2 ↦[(Finset.univ : Finset (Fin 30)).biUnion (fun p => Rg (sl p) (ch p))]{fullShare} g : sProp 𝕄) = ((c : Thread nD τ).loc cc0_scratch2 ↦{fullShare} g) := by
      rw [Rg_union]
    iapply (Entails.of_eq e2) $$ Hf
  · iexact Hs

/-! ## The copy of the activations -/

/-- The copy of the activations on its way. -/
def flightX (c : Dev nD) (fx : Buf (Elt F) ((c : Thread nD τ).loc main_arg0)) : sProp 𝕄 :=
  Transfers.Flight (countersEmb (U := Pipeline.UD sig nD τ) : UEmb Counters 𝕄) (c : Thread nD τ) (SemLoc.dma cc0_scratch4.sem) () (Memref.whole cc0_scratch0 : Memref sig .tc .vmem S128x5120 .bf16).view.dmaCredit
    iprop(((c : Thread nD τ).loc cc0_scratch0 ↦{fullShare} (fx : S128x5120.Idx → Elt F .bf16)) ∗ (c : Thread nD τ).loc main_arg0 ↦{fullShare} fx)

theorem wp_fetchX (c : Dev nD) (fx : Buf (Elt F) ((c : Thread nD τ).loc main_arg0)) (fd : Buf (Elt F) ((c : Thread nD τ).loc cc0_scratch0)) {hsrc hdst hsem} {Q : Unit → sProp 𝕄} :
    iprop(((c : Thread nD τ).loc main_arg0 ↦{fullShare} fx) ∗ ((c : Thread nD τ).loc cc0_scratch0 ↦{fullShare} fd) ∗ semVal ((c : Thread nD τ), SemLoc.dma cc0_scratch4.sem) 0)
      ⊢ iprop((flightX c fx -∗ Q ⟨⟩) -∗
      wp frame (wpE (defs₀ (F := F)) Variants.none (c : Thread nD τ) none) Set.univ
        (Prog.lift (TpuEff.enqueueDma (Memref.whole main_arg0 : Memref sig .tc .hbm S128x5120 .bf16) (.here (Memref.whole cc0_scratch0 : Memref sig .tc .vmem S128x5120 .bf16)) (.dma cc0_scratch4.sem) hsrc hdst hsem)) Q) := by
  iintro ⟨Hx, Hd, Hs⟩ HQ
  have es : ((c : Thread nD τ).loc main_arg0 ↦{fullShare} fx : sProp 𝕄) = ((c : Thread nD τ).loc main_arg0 ↦[(Memref.whole main_arg0 : Memref sig .tc .hbm S128x5120 .bf16).view.set]{fullShare} fx) := by
    rw [show (Memref.whole main_arg0 : Memref sig .tc .hbm S128x5120 .bf16).view.set = Finset.univ from View.set_whole _]
  ihave Hx := (Entails.of_eq es) $$ Hx
  have key := Transfers.wp_dmaLocal (Lvl := ℕ) (Name := ℕ) (defs := defs₀ (F := F)) (countersEmb (U := Pipeline.UD sig nD τ) : UEmb Counters 𝕄) (via := ReadAs.same) (hsrc := hsrc) (hdst := hdst) (hsem := hsem) (k := Prog.ret) (Q := Q) (q := fullShare) (fs := fx) (Sd := Finset.univ) (fd := fd)
    (src := (Memref.whole main_arg0 : Memref sig .tc .hbm S128x5120 .bf16)) (dst := (Memref.whole cc0_scratch0 : Memref sig .tc .vmem S128x5120 .bf16)) (sm := SemLoc.dma cc0_scratch4.sem) Variants.none (c : Thread nD τ) none ()
    (Memref.whole cc0_scratch0 : Memref sig .tc .vmem S128x5120 .bf16).view.dmaCredit rfl (View.amount_pos (Memref.whole cc0_scratch0 : Memref sig .tc .vmem S128x5120 .bf16).view (SemLoc.dma cc0_scratch4.sem) (by decide)) (Finset.subset_univ _)
  iapply key $$ [Hx Hd Hs]
  · isplitl [Hx]
    · iexact Hx
    isplitl [Hd]
    · iexact Hd
    iexact Hs
  iintro HF
  rw [wp_ret]
  imodintro
  iapply HQ
  unfold flightX
  have e1 : ((c : Thread nD τ).loc cc0_scratch0 ↦{fullShare} ((Memref.whole cc0_scratch0 : Memref sig .tc .vmem S128x5120 .bf16).view.write (Elt F) fd ((Memref.whole main_arg0 : Memref sig .tc .hbm S128x5120 .bf16).view.read (Elt F) fx) Finset.univ) : sProp 𝕄)
      = ((c : Thread nD τ).loc cc0_scratch0 ↦{fullShare} (fx : S128x5120.Idx → Elt F .bf16)) :=
    congrArg (fun X : S128x5120.Idx → Elt F .bf16 => ((c : Thread nD τ).loc cc0_scratch0 ↦{fullShare} X : sProp 𝕄)) (View.write_whole_univ (Val := Elt F) cc0_scratch0 fd fx)
  iapply (Entails.of_eq ((congrArg (fun X => Transfers.Flight (countersEmb (U := Pipeline.UD sig nD τ) : UEmb Counters 𝕄) (c : Thread nD τ) (SemLoc.dma cc0_scratch4.sem) () (Memref.whole cc0_scratch0 : Memref sig .tc .vmem S128x5120 .bf16).view.dmaCredit
    iprop(X ∗ (c : Thread nD τ).loc main_arg0 ↦[(Memref.whole main_arg0 : Memref sig .tc .hbm S128x5120 .bf16).view.set]{fullShare} fx)) e1).trans
    (congrArg (fun X => Transfers.Flight (countersEmb (U := Pipeline.UD sig nD τ) : UEmb Counters 𝕄) (c : Thread nD τ) (SemLoc.dma cc0_scratch4.sem) () (Memref.whole cc0_scratch0 : Memref sig .tc .vmem S128x5120 .bf16).view.dmaCredit
    iprop(((c : Thread nD τ).loc cc0_scratch0 ↦{fullShare} (fx : S128x5120.Idx → Elt F .bf16)) ∗ X)) es.symm))) $$ HF

theorem wp_haveX (c : Dev nD) (fx : Buf (Elt F) ((c : Thread nD τ).loc main_arg0)) (W : Waits sig Unit) {hsrc hdst} {Q : Unit → sProp 𝕄} :
    iprop(flightX c fx ∗ owes (c : Thread nD τ) (0 : CellTallies nD τ sig Unit) W)
      ⊢ iprop((((c : Thread nD τ).loc cc0_scratch0 ↦{fullShare} (fx : S128x5120.Idx → Elt F .bf16)) -∗ ((c : Thread nD τ).loc main_arg0 ↦{fullShare} fx) -∗ semVal ((c : Thread nD τ), SemLoc.dma cc0_scratch4.sem) 0 -∗
          (∃ W', owes (c : Thread nD τ) (0 : CellTallies nD τ sig Unit) W') -∗ Q ⟨⟩) -∗
      wp frame (wpE (defs₀ (F := F)) Variants.none (c : Thread nD τ) none) Set.univ
        (Prog.lift (TpuEff.waitDma2 cc0_scratch4.sem (Memref.whole main_arg0 : Memref sig .tc .hbm S128x5120 .bf16) (Memref.whole cc0_scratch0 : Memref sig .tc .vmem S128x5120 .bf16) hsrc hdst)) Q) := by
  unfold flightX
  iintro ⟨HF, HO⟩ HQ
  have key := Transfers.wp_waitLocal (Lvl := ℕ) (Name := ℕ) (defs := defs₀ (F := F)) (countersEmb (U := Pipeline.UD sig nD τ) : UEmb Counters 𝕄) (sem := cc0_scratch4.sem) (srcw := (Memref.whole main_arg0 : Memref sig .tc .hbm S128x5120 .bf16)) (dstw := (Memref.whole cc0_scratch0 : Memref sig .tc .vmem S128x5120 .bf16)) (hsrc := hsrc) (hdst := hdst) (k := Prog.ret) (Q := Q)
    (D := iprop(((c : Thread nD τ).loc cc0_scratch0 ↦{fullShare} (fx : S128x5120.Idx → Elt F .bf16)) ∗ (c : Thread nD τ).loc main_arg0 ↦{fullShare} fx)) (W := W) Variants.none (c : Thread nD τ) none ()
    (N := (Memref.whole cc0_scratch0 : Memref sig .tc .vmem S128x5120 .bf16).view.dmaCredit) rfl
  iapply key $$ [HF HO]
  · isplitl [HF]
    · iexact HF
    iexact HO
  iintro ⟨⟨Hd, Hx⟩, Hs, HO⟩
  rw [wp_ret]
  imodintro
  iapply HQ $$ Hd Hx Hs [HO]
  iexists _
  iexact HO

/-! ## The whole body -/

theorem wr_all (f w : S128x1536.Idx → Elt F .bf16) : (wr (S := S128x1536) S128x1536.size f ![0, 0] w : S128x1536.Idx → Elt F .bf16) = w := by
  funext i
  unfold wr
  rw [dif_pos]
  · congr 1
    funext a
    apply Fin.ext
    fin_cases a <;> rfl
  · intro a
    fin_cases a
    · exact ⟨Nat.zero_le _, by show (i 0).val < 0 + 128; have := (i 0).isLt; have h : (i 0).val < 128 := this; omega⟩
    · exact ⟨Nat.zero_le _, by show (i 1).val < 0 + 1536; have := (i 1).isLt; have h : (i 1).val < 1536 := this; omega⟩

/-- What the body leaves in the result's buffer. -/
def YF (fg : S16.Idx → Elt F .i32) (fs : S16x12x40.Idx → Elt F .f32) (fx : S128x5120.Idx → Elt F .bf16) (fw : S16x1536x5120.Idx → Elt F .fp8e4m3) : S128x1536.Idx → Elt F .bf16 :=
  Y fs (XQ fx) fw (sizes fg) (num (sizes fg))

/-- The buffers and semaphores the body runs on. -/
def bodyRes (c : Dev nD) (fg : Buf (Elt F) ((c : Thread nD τ).loc cc0_stg0_0)) (fs : Buf (Elt F) ((c : Thread nD τ).loc cc0_stg1_0))
    (fx : Buf (Elt F) ((c : Thread nD τ).loc main_arg0)) (fw : Buf (Elt F) ((c : Thread nD τ).loc main_arg2)) (y : Buf (Elt F) ((c : Thread nD τ).loc cc0_stg2_0)) : sProp 𝕄 :=
  iprop(((c : Thread nD τ).loc cc0_stg0_0 ↦{fullShare} fg) ∗ ((c : Thread nD τ).loc cc0_stg1_0 ↦{fullShare} fs) ∗ ((c : Thread nD τ).loc cc0_stg2_0 ↦{fullShare} y)
    ∗ ((c : Thread nD τ).loc main_arg0 ↦{fullShare} fx) ∗ ((c : Thread nD τ).loc main_arg2 ↦{fullShare} fw)
    ∗ (∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f)
    ∗ (∃ f : Buf (Elt F) ((c : Thread nD τ).loc cc0_scratch3), (c : Thread nD τ).loc cc0_scratch3 ↦{fullShare} f)
    ∗ semVal ((c : Thread nD τ), SemLoc.dma cc0_scratch4.sem) 0
    ∗ bigSep Finset.univ (fun p : Fin 30 => semVal ((c : Thread nD τ), SemLoc.dma (cellSem p)) 0)
    ∗ (∃ W, owes (c : Thread nD τ) (0 : CellTallies nD τ sig Unit) W))

set_option maxHeartbeats 1600000 in
theorem body_run (c : Dev nD) (fg : Buf (Elt F) ((c : Thread nD τ).loc cc0_stg0_0)) (fs : Buf (Elt F) ((c : Thread nD τ).loc cc0_stg1_0))
    (fx : Buf (Elt F) ((c : Thread nD τ).loc main_arg0)) (fw : Buf (Elt F) ((c : Thread nD τ).loc main_arg2)) (y : Buf (Elt F) ((c : Thread nD τ).loc cc0_stg2_0))
    (hg : ∀ k < 16, sizes fg k < 2 ^ 27) {Q : Unit → sProp 𝕄} :
    bodyRes c fg fs fx fw y ⊢ iprop((bodyRes c fg fs fx fw (YF fg fs fx fw : S128x1536.Idx → Elt F .bf16) -∗ Q ⟨⟩) -∗
      wp frame (wpE (defs₀ (F := F)) Variants.none (c : Thread nD τ) none) Set.univ
        (cc0_grouped_fp8_matmul (F := F) (Memref.whole cc0_stg0_0) (Memref.isWhole_whole _) (Memref.whole cc0_stg1_0) (Memref.isWhole_whole _) (Memref.whole main_arg0) (Memref.isWhole_whole _) (Memref.whole main_arg2) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) Q) := by
  rw [cc0_grouped_fp8_matmul_eq_skeleton]
  unfold cc0_grouped_fp8_matmul_skel bodyRes
  dsimp only
  iintro ⟨Hg, Hs, Hy, Hx, Hw, ⟨%f0, H0⟩, ⟨%f1, H1⟩, ⟨%f2, H2⟩, ⟨%f3, H3⟩, Hq, Hqs, ⟨%W, HO⟩⟩ HQ
  ihave HR := (ring_make c fw f2) $$ [Hw H2 Hqs]
  · isplitl [Hw]
    · iexact Hw
    isplitl [H2]
    · iexact H2
    iexact Hqs
  icases HR with ⟨Hw, HR⟩
  rw [wp_bind]
  iapply wp_fetchX c fx f0 $$ [Hx H0 Hq]
  · isplitl [Hx]
    · iexact Hx
    isplitl [H0]
    · iexact H0
    iexact Hq
  iintro HF
  rw [wp_bind]
  iapply scan_run c fullShare fg hg f3 $$ [Hg H3]
  · isplitl [Hg]
    · iexact Hg
    iexact H3
  iintro %fa Hg H3 %hact
  have hn : num (sizes fg) < 17 := num_lt (sizes fg)
  have hw3 : k0_chk3 (wd (num (sizes fg))) := chk3_ok hn
  rw [wp_bind]
  iapply wp_chk (F := F) c hw3
  rw [wp_bind]
  iapply pre_run (sizes fg) c fw fa hact $$ [H3 HR]
  · isplitl [H3]
    · iexact H3
    iexact HR
  iintro H3 HR
  rw [wp_bind]
  iapply wp_haveX c fx W $$ [HF HO]
  · isplitl [HF]
    · iexact HF
    iexact HO
  iintro H0 Hx Hq HO
  rw [wp_bind]
  iapply wp_ld4 (F := F) c (fun _ _ => Finset.mem_univ _) $$ Hy
  iintro Hy
  rw [wp_bind]
  iapply wp_st4 (F := F) c $$ Hy
  iintro Hy
  rw [wr_all]
  rw [wp_bind]
  iapply quant_run c fx f1 $$ [H0 H1]
  · isplitl [H0]
    · iexact H0
    iexact H1
  iintro H0 H1
  rw [wp_bind]
  iapply seg_run c fs (XQ fx) fw (sizes fg) fa hact hw3 (k0_t6_ok _ hw3) $$ [Hs H1 H3 Hy HR HO]
  · unfold segInv
    isplitl [Hs]
    · iexact Hs
    isplitl [H1]
    · iexact H1
    isplitl [H3]
    · iexact H3
    isplitl [Hy]
    · iexact Hy
    isplitl [HR]
    · iexact HR
    iexact HO
  unfold segInv
  rw [stFull_num]
  iintro ⟨Hs, H1, H3, Hy, HR, HO⟩
  rw [wp_bind]
  iapply wp_loop (F := F) c _ _ _ _ 0 (t16_trips hn) (fun _ _ => iprop(⌜True⌝)) (fun k acc h => absurd h (Nat.not_lt_zero _)) $$ []
  · ipureintro; trivial
  iintro %acc -
  iapply wp_end (F := F) c
  ihave HR := (ring_back c fw) $$ [Hw HR]
  · isplitl [Hw]
    · iexact Hw
    iexact HR
  icases HR with ⟨Hw, H2, Hqs⟩
  iapply HQ
  isplitl [Hg]
  · iexact Hg
  isplitl [Hs]
  · iexact Hs
  isplitl [Hy]
  · unfold YF
    iexact Hy
  isplitl [Hx]
  · iexact Hx
  isplitl [Hw]
  · iexact Hw
  isplitl [H0]
  · iexists _
    iexact H0
  isplitl [H1]
  · iexists _
    iexact H1
  isplitl [H2]
  · iexact H2
  isplitl [H3]
  · iexists _
    iexact H3
  isplitl [Hq]
  · iexact Hq
  isplitl [Hqs]
  · iexact Hqs
  iexact HO

end Cert.KernelIdeal.Hand

end
-- ==== Proof.KIFrame.lean ====
/-
  The launch of the kernel: its run, the arguments it leaves unchanged and the result it computes.
-/
module

public import proofs.«01_k».proof.Proof.KIBody
public import proofs.«01_k».proof.Proof.Gen.KernelIdeal.Frame
public import proofs.«01_k».proof.Proof.Gen.Pre_sizes_ok
public import Idealize.ShloMosaic.Lib.ReduceAll

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The one grid point. -/
def t₀ : Fin cfg0.N := ⟨0, by decide⟩

theorem only_t (t : Fin cfg0.N) : t = t₀ := by
  apply Fin.ext
  have h : t.val < 1 := Nat.lt_of_lt_of_eq t.isLt (by decide)
  show t.val = 0
  omega

/-! ## The windows: each whole -/

theorem iblk_0 (c : Dev nD) : iblk m c 0 t₀ = V m c main_arg1 := by
  have hz : (fun a => (win0_0.index t₀) a * main_arg1.ty.shape.size a) = fun _ => 0 := funext fun a => by fin_cases a <;> decide
  exact Memref.read_access_unit_zero (Elt F) main_arg1 hz (fun a => by fin_cases a <;> decide) _
theorem iblk_1 (c : Dev nD) : iblk m c 1 t₀ = V m c main_arg3 := by
  have hz : (fun a => (win0_1.index t₀) a * main_arg3.ty.shape.size a) = fun _ => 0 := funext fun a => by fin_cases a <;> decide
  exact Memref.read_access_unit_zero (Elt F) main_arg3 hz (fun a => by fin_cases a <;> decide) _

/-! ## The kernel's own semaphores and the operands it addresses itself -/

/-- The semaphore of the activations' copy, and the thirty of the ring. -/
def osem0 : Option (Fin 30) → SemLoc sig
  | none => SemLoc.dma cc0_scratch4.sem
  | some p => SemLoc.dma (cellSem p)

theorem scratch4_val : (cc0_scratch4.sem : DmaSem sig) = (⟨3, by decide⟩ : Fin 34) := by decide +kernel
theorem cellSem_val : ∀ p : Fin 30, (cellSem p : DmaSem sig) = (⟨4 + p.val, by omega⟩ : Fin 34) := by decide +kernel

theorem osem0_val (k : Option (Fin 30)) : osem0 k = SemLoc.dma (⟨match k with | none => 3 | some p => 4 + p.val, by cases k <;> simp <;> omega⟩ : Fin 34) := by
  cases k with
  | none => exact congrArg SemLoc.dma scratch4_val
  | some p => exact congrArg SemLoc.dma (cellSem_val p)

theorem ownSemFacts0 : Pipeline.OwnSemFacts spec0 osem0 := by
  have e : osem0 = fun k => SemLoc.dma (⟨match k with | none => 3 | some p => 4 + p.val, by cases k <;> simp <;> omega⟩ : Fin 34) := funext osem0_val
  rw [e]
  decide +kernel

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma cc0_scratch4.sem) 0 ∗ bigSep Finset.univ (fun p : Fin 30 => semVal ((c : Thread nD τ), SemLoc.dma (cellSem p)) 0)) := by
  have hu : (Finset.univ : Finset (Option (Fin 30))) = insert none ((Finset.univ : Finset (Fin 30)).map Function.Embedding.some) := by
    ext k
    cases k <;> simp
  unfold Pipeline.ownSems0
  rw [hu, bigSep_insert (by simp), bigSep_map]
  rfl

/-- The operands the body copies from itself. -/
def H0 : Finset (Ref sig .tc) := {main_arg0, main_arg2}
theorem H0_sub : H0 ⊆ Pipeline.restRefs sig spec0 := by decide
theorem hbmPts0_eq (c : Dev nD) :
    (bigSep H0 (fun b => ((c : Thread nD τ).loc b) ↦{fullShare} V m c b) : sProp 𝕄)
      = iprop(((c : Thread nD τ).loc main_arg0 ↦{fullShare} V m c main_arg0) ∗ ((c : Thread nD τ).loc main_arg2 ↦{fullShare} V m c main_arg2)) := by
  rw [BI.bigSep_eq_bigSepL_of_eq [main_arg0, main_arg2] (by decide) (by decide)]; rfl

theorem PhiD0_eq (c : Dev nD) :
    (Pipeline.ΦD osem0 spec0 H0 (V m) c : sProp 𝕄)
      = iprop(iprop((∃ f : Buf (Elt F) ((c : Thread nD τ).loc cc0_scratch0), (c : Thread nD τ).loc cc0_scratch0 ↦{fullShare} f)
            ∗ (∃ f : Buf (Elt F) ((c : Thread nD τ).loc cc0_scratch1), (c : Thread nD τ).loc cc0_scratch1 ↦{fullShare} f)
            ∗ (∃ f : Buf (Elt F) ((c : Thread nD τ).loc cc0_scratch2), (c : Thread nD τ).loc cc0_scratch2 ↦{fullShare} f)
            ∗ (∃ f : Buf (Elt F) ((c : Thread nD τ).loc cc0_scratch3), (c : Thread nD τ).loc cc0_scratch3 ↦{fullShare} f))
          ∗ (∃ r, prngReg c r)
          ∗ iprop(semVal ((c : Thread nD τ), SemLoc.dma cc0_scratch4.sem) 0 ∗ bigSep Finset.univ (fun p : Fin 30 => semVal ((c : Thread nD τ), SemLoc.dma (cellSem p)) 0))
          ∗ iprop(((c : Thread nD τ).loc main_arg0 ↦{fullShare} V m c main_arg0) ∗ ((c : Thread nD τ).loc main_arg2 ↦{fullShare} V m c main_arg2))) := by
  rw [Pipeline.ΦD_eq, scopedRest0_eq, ownSems00_eq, hbmPts0_eq]

/-! ## The proof data and the body's obligation -/

/-- The result as a function of the argument arrays. -/
def outOf (c : Dev nD) : S128x1536.Idx → Elt F .bf16 :=
  YF (F := F) (V m c main_arg1) (V m c main_arg3) (V m c main_arg0) (V m c main_arg2)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outOf m c
    | ⟨_ + 3, h⟩ => absurd h (Nat.not_lt.2 (Nat.le_add_left _ _))
  Φ _ := Pipeline.ΦD osem0 spec0 H0 (V m) c
  q _ := fullShare
  owed _ := 0

theorem A_eq (c : Dev nD) (w) : (dats (F := F) m 0 c).A w = V m c (Pipeline.arrRef spec0 w) := rfl

theorem before0_0 (c : Dev nD) (t : Fin cfg0.N) (d) : (dats m 0 c).before 0 t d = iblk m c 0 t :=
  ((dats m 0 c).before_in_eq_fetched 0 rfl (fun _ => rfl) (fun _ _ _ => rfl) (fun t => by show iblk m c 0 t = _; unfold Dat.blockOf iblk; rw [A_eq]) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by show iblk m c 1 t = _; unfold Dat.blockOf iblk; rw [A_eq]) t d).trans
    (by unfold Dat.fetched Dat.blockOf iblk; rw [A_eq]; try rfl)

abbrev bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
abbrev bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

variable (hg : ∀ c : Dev nD, ∀ k < 16, sizes (V m c main_arg1) k < 2 ^ 27)
include hg

theorem sound_body (c : Dev nD) (t : Fin cfg0.N) :
    bodyPre m c t ⊢ wp frame (wpE (defs₀ (F := F)) Variants.none c none) Set.univ (bodyAt0 t) (fun _ => bodyPost m c t) := by
  obtain rfl := only_t t
  have e0 : ∀ X, (owns (c : Thread nD τ) (st0_0 t₀) fullShare X : sProp 𝕄) = ((c : Thread nD τ).loc cc0_stg0_0 ↦{fullShare} X) := fun X => owns_whole (c : Thread nD τ) cc0_stg0_0 fullShare X
  have e1 : ∀ X, (owns (c : Thread nD τ) (st0_1 t₀) fullShare X : sProp 𝕄) = ((c : Thread nD τ).loc cc0_stg1_0 ↦{fullShare} X) := fun X => owns_whole (c : Thread nD τ) cc0_stg1_0 fullShare X
  have e2 : ∀ X, (owns (c : Thread nD τ) (st0_2 t₀) fullShare X : sProp 𝕄) = ((c : Thread nD τ).loc cc0_stg2_0 ↦{fullShare} X) := fun X => owns_whole (c : Thread nD τ) cc0_stg2_0 fullShare X
  have a0 : (dats m 0 c).after 0 t₀ = V m c main_arg1 := iblk_0 m c
  have a1 : (dats m 0 c).after 1 t₀ = V m c main_arg3 := iblk_1 m c
  have a2 : (dats m 0 c).after 2 t₀ = outOf m c := rfl
  have b0 : ∀ d, (dats m 0 c).before 0 t₀ d = V m c main_arg1 := fun d => (before0_0 m c t₀ d).trans (iblk_0 m c)
  have b1 : ∀ d, (dats m 0 c).before 1 t₀ d = V m c main_arg3 := fun d => (before0_1 m c t₀ d).trans (iblk_1 m c)
  unfold bodyPre bodyPost bodyAt0
  rw [show (dats m 0 c).Φ t₀.succ = (dats m 0 c).Φ t₀.castSucc from rfl, a0, a1, a2]
  rw [show (dats m 0 c).Φ t₀.castSucc = Pipeline.ΦD osem0 spec0 H0 (V m) c from rfl, PhiD0_eq]
  unfold Dat.owesAt Pipeline.owesWithin
  rw [show (dats m 0 c).owed t₀.castSucc = 0 from rfl, show (dats m 0 c).owed t₀.succ = 0 from rfl]
  simp only [b0, b1, e0, e1, e2]
  iintro ⟨⟨⟨HS0, HS1, HS2, HS3⟩, Hg, ⟨Hq, Hqs⟩, ⟨Hx, Hw⟩⟩, ⟨%W, -, HW⟩, ⟨%d0, H0⟩, ⟨%d1, H1⟩, ⟨%d2, H2⟩⟩
  iapply (body_run c (V m c main_arg1) (V m c main_arg3) (V m c main_arg0) (V m c main_arg2) _ (hg c)) $$ [HS0 HS1 HS2 HS3 Hq Hqs Hx Hw HW H0 H1 H2]
  · unfold bodyRes
    isplitl [H0]
    · iexact H0
    isplitl [H1]
    · iexact H1
    isplitl [H2]
    · iexact H2
    isplitl [Hx]
    · iexact Hx
    isplitl [Hw]
    · iexact Hw
    isplitl [HS0]
    · iexact HS0
    isplitl [HS1]
    · iexact HS1
    isplitl [HS2]
    · iexact HS2
    isplitl [HS3]
    · iexact HS3
    isplitl [Hq]
    · iexact Hq
    isplitl [Hqs]
    · iexact Hqs
    iexists W
    iexact HW
  unfold bodyRes outOf
  iintro ⟨H0, H1, H2, Hx, Hw, HS0, HS1, HS2, HS3, Hq, Hqs, ⟨%W', HW⟩⟩
  isplitl [HS0 HS1 HS2 HS3 Hq Hqs Hx Hw Hg]
  · isplitl [HS0 HS1 HS2 HS3]
    · isplitl [HS0]
      · iexact HS0
      isplitl [HS1]
      · iexact HS1
      isplitl [HS2]
      · iexact HS2
      iexact HS3
    isplitl [Hg]
    · iexact Hg
    isplitl [Hq Hqs]
    · isplitl [Hq]
      · iexact Hq
      iexact Hqs
    isplitl [Hx]
    · iexact Hx
    iexact Hw
  isplitl [HW]
  · iexists W'
    isplitr
    · ipureintro; exact fun _ _ => Or.inl trivial
    iexact HW
  isplitl [H0]
  · iexact H0
  isplitl [H1]
  · iexact H1
  iexact H2

omit hg in
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m hg c t) rfl .rfl fun _ => .rfl

/-! ## The run, the frame and the result -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hg c).loose) (hshare := fun c => (dats m 0 c).share_full fun _ => rfl)
    (howed := fun _ _ => rfl) (V := V m) (hmain := hmain m Variants.none) (hA := A_eq m)
    (hin := fun _ => .rfl) (hout := fun _ => .rfl)

omit hg in
theorem final_v0 (c : Dev nD) : (dats (F := F) m 0 c).arrAt (2 : Fin 3) cfg0.N = outOf m c := by
  have ho : ((cfg0.win (2 : Fin 3)).blk t₀).view.read (Elt F) ((dats (F := F) m 0 c).arrAt (2 : Fin 3) cfg0.N) = (dats (F := F) m 0 c).flushed (2 : Fin 3) t₀ := by
    rw [show cfg0.N = (t₀ : Fin cfg0.N).val + 1 from rfl, (dats (F := F) m 0 c).arrAt_succ (2 : Fin 3) t₀]
    rw [show (cfg0.win (2 : Fin 3)).flush t₀ = true from by decide, if_pos rfl]
    exact View.read_write_univ _ _
  have hz2 : (fun a => (win0_2.index t₀) a * main_v0.ty.shape.size a) = fun _ => 0 := funext fun a => by fin_cases a <;> decide
  have hr2 := fun f => Memref.read_access_unit_zero (Elt F) main_v0 hz2 (fun a => by fin_cases a <;> decide) f
  rw [hr2] at ho
  rw [ho]
  rfl

/-- The run with everything a claim reads: the result, the arguments unchanged, every counter at zero. -/
theorem run_full : θ_run defs (onTc (τ := τ) (main (F := F))) ⟨m, fun _ => 0, ρ⟩ (fun r => (∀ c : Dev nD,
      r.2.mem ((c.tc : Thread nD τ).loc main_v0) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 2).trans (final_v0 m c),
      (h.1 c).2 main_arg0 (Pipeline.mem_restRefs_of main_arg0 (by decide) (by decide)),
      ((h.1 c).1 0).trans ((dats m 0 c).arrAt_in 0 rfl _),
      (h.1 c).2 main_arg2 (Pipeline.mem_restRefs_of main_arg2 (by decide) (by decide)),
      ((h.1 c).1 1).trans ((dats m 0 c).arrAt_in 1 rfl _)⟩, h.2⟩) (run_main m ρ hg)

omit hg in
/-- The precondition read: every group's size is below `2 ^ 27`. -/
theorem sizes_of_pre (x : S128x5120.Idx → Elt F .bf16) (gs : S16.Idx → BitVec 32) (w : S16x1536x5120.Idx → Elt F .fp8e4m3) (ws : S16x12x40.Idx → Elt F .f32)
    (h : Cert.Pre_sizes_ok.fn (F := F) x gs w ws (fun a => a.elim0) = 1#1) : ∀ k < 16, sizes gs k < 2 ^ 27 := by
  intro k hk
  unfold Cert.Pre_sizes_ok.fn at h
  dsimp only at h
  have hk' := Host.reduce_andi_all _ _ _ _ _ h (fun | 0 => (⟨k, hk⟩ : Fin 16))
  obtain ⟨h1, h2⟩ := IntOp.andi_eq_one.1 hk'
  have h1 := IntOp.cmpi_sge.1 h1
  have h2 := IntOp.cmpi_slt.1 h2
  have e : (fun | 0 => (⟨k, hk⟩ : Fin 16) : S16.Idx) = (fun a => ⟨(![k] : Fin 1 → ℕ) a % S16.size a, Nat.mod_lt _ (pos_S16 a)⟩ : S16.Idx) := by
    funext a
    apply Fin.ext
    match a with
    | 0 => exact (Nat.mod_eq_of_lt hk).symm
  unfold sizes el
  have h1 : (0#32 : BitVec 32).toInt ≤ (gs (fun | 0 => (⟨k, hk⟩ : Fin 16))).toInt := h1
  have h2 : (gs (fun | 0 => (⟨k, hk⟩ : Fin 16))).toInt < (134217728#32 : BitVec 32).toInt := h2
  have e2 := congrArg gs e
  rw [e2] at h1 h2
  generalize gs _ = b at h1 h2 ⊢
  have h3 : (0#32 : BitVec 32).toInt = 0 := by decide
  have h4 : (134217728#32 : BitVec 32).toInt = 134217728 := by decide
  rw [h3] at h1
  rw [h4] at h2
  have hb := b.isLt
  rw [BitVec.toInt_eq_toNat_cond] at h1 h2
  show b.toNat < 2 ^ 27
  split at h1 <;> rename_i hc
  · rw [if_pos hc] at h2; omega
  · omega

end Cert.KernelIdeal.Hand

end
-- ==== Proof.VBlk.lean ====
/-
  The value of one output over the reals, as a sum over the forty blocks of 128 columns of the tokens.
-/
module

public import proofs.«01_k».proof.Proof.KIBody
public import Idealize.ShloMosaic.Lib.Pointwise
public import Idealize.ShloMosaic.Lib.ValueIdx
public import Idealize.ShloMosaic.Lib.ReduceAll

@[expose] public section

noncomputable section

namespace Cert.KernelIdeal.Hand

open Cert.KernelIdeal Cert.KernelIdeal.Gen Cert.Hand
open Idealize.ShloMosaic

/-- The part of one output that block `b` of the columns gives: token `t`, expert `e`, output `o`, scaled as output block `s` is. -/
def blk (fs : S16x12x40.Idx → EReal) (fq : S128x5120.Idx → EReal) (fw : S16x1536x5120.Idx → EReal) (e t s o b : ℕ) : EReal :=
  ∑ x : Fin 128, el (S := S128x5120) pos_S128x5120 fq ![t, 128 * b + x.val] * el (S := S16x12x40) pos_S16x12x40 fs ![e, s, b] *
    el (S := S16x1536x5120) pos_S16x1536x5120 fw ![e, o, 128 * b + x.val]

/-- One output: token `t` against row `o` of expert `e`, every block of columns scaled by its own factor. -/
def dotv (fs : S16x12x40.Idx → EReal) (fq : S128x5120.Idx → EReal) (fw : S16x1536x5120.Idx → EReal) (e t o : ℕ) : EReal :=
  ∑ b ∈ Finset.range 40, blk fs fq fw e t (o / 128) o b

/-- A read of a rectangle at an index is the element at the sum of the offset and the index. -/
theorem rd_apply {S : Shape} {α : Type} (hS : ∀ a, 0 < S.size a) (size : Fin S.rank → ℕ) (f : S.Idx → α) (off off' : Fin S.rank → ℕ)
    (y : (⟨S.rank, size⟩ : Shape).Idx) (h : ∀ a, off a + (y a).val = off' a) : rd hS size f off y = el hS f off' := by
  unfold rd el
  congr 1
  funext a
  apply Fin.ext
  show (off a + (y a).val) % _ = off' a % _
  rw [h a]

theorem wd_toInt {n : ℕ} (h : n < 2 ^ 31) : (wd n).toInt = n := by
  unfold wd
  rw [BitVec.toInt_eq_toNat_of_lt] <;> simp only [BitVec.toNat_ofNat] <;> omega

/-- The mask of a segment: the word of a row lies between the segment's ends. -/
theorem mask_iff {lo hi n : ℕ} (hlo : lo < 2 ^ 31) (hhi : hi < 2 ^ 31) (hn : n < 2 ^ 31) :
    IntOp.andi (IntOp.cmpi .sge (wd n) (wd lo)) (IntOp.cmpi .slt (wd n) (wd hi)) = 1#1 ↔ lo ≤ n ∧ n < hi := by
  rw [IntOp.andi_eq_one, IntOp.cmpi_sge, IntOp.cmpi_slt, wd_toInt hlo, wd_toInt hhi, wd_toInt hn]
  omega

end Cert.KernelIdeal.Hand

end
-- ==== Proof.V16.lean ====
/-
  The chunks of 16 rows over the reals: what each leaves is the value of the segment's rows.
-/
module

public import proofs.«01_k».proof.Proof.VBlk

@[expose] public section

set_option maxRecDepth 16384

noncomputable section

namespace Cert.KernelIdeal.Hand

open Cert.KernelIdeal Cert.KernelIdeal.Gen Cert.Hand
open Idealize.ShloMosaic

variable (fs : S16x12x40.Idx → EReal) (fq : S128x5120.Idx → EReal) (fw : S16x1536x5120.Idx → EReal)

theorem pay23_ap (a : FVec Ideal S32x256 .f32) (s00 s01 s10 s11 : Elt Ideal .f32) (x0 x1 : Vec Ideal S16x128 .bf16) (w : Vec Ideal S1x256x256 .fp8e4m3) (j : S32x256.Idx) :
    k0_pay23 a (k0_pay19 s00 x0 s01 x1) (k0_pay20 s10) x0 s11 x1 w j = a j +
      (∑ x : Fin 128, (if h : (j 0).val < 16 then x0 (ix2 ⟨(j 0).val, h⟩ x) * s00
            else x0 (ix2 ⟨(j 0).val - 16, by have : (j 0).val < 32 := (j 0).isLt; omega⟩ x) * s10) * w (ix3 0 (j 1) ⟨x.val, by omega⟩) +
        ∑ x : Fin 128, (if h : (j 0).val < 16 then x1 (ix2 ⟨(j 0).val, h⟩ x) * s01
            else x1 (ix2 ⟨(j 0).val - 16, by have : (j 0).val < 32 := (j 0).isLt; omega⟩ x) * s11) * w (ix3 0 (j 1) ⟨128 + x.val, by omega⟩)) := by
  pointwise [k0_pay23, k0_pay19, k0_pay20]

theorem pay22_ap (s00 s01 s10 s11 : Elt Ideal .f32) (x0 x1 : Vec Ideal S16x128 .bf16) (w : Vec Ideal S1x256x256 .fp8e4m3) (j : S32x256.Idx) :
    k0_pay22 (k0_pay21 s00 x0 s01 x1) s10 x0 s11 x1 w j =
      (∑ x : Fin 128, (if h : (j 0).val < 16 then x0 (ix2 ⟨(j 0).val, h⟩ x) * s00
            else x0 (ix2 ⟨(j 0).val - 16, by have : (j 0).val < 32 := (j 0).isLt; omega⟩ x) * s10) * w (ix3 0 (j 1) ⟨x.val, by omega⟩) +
        ∑ x : Fin 128, (if h : (j 0).val < 16 then x1 (ix2 ⟨(j 0).val, h⟩ x) * s01
            else x1 (ix2 ⟨(j 0).val - 16, by have : (j 0).val < 32 := (j 0).isLt; omega⟩ x) * s11) * w (ix3 0 (j 1) ⟨128 + x.val, by omega⟩)) := by
  pointwise [k0_pay22, k0_pay21]

theorem pay24_ap (m : IVec S16x1 1) (a : FVec Ideal S32x256 .f32) (y : Vec Ideal S16x256 .bf16) (j : S16x256.Idx) :
    k0_pay24 m a y j = Scalar.select (m (ix2 (j 0) 0))
      (if h : (j 1).val < 128 then a (ix2 ⟨(j 0).val, by have : (j 0).val < 16 := (j 0).isLt; omega⟩ (j 1))
      else a (ix2 ⟨16 + (j 0).val, by have : (j 0).val < 16 := (j 0).isLt; omega⟩ (j 1))) (y j) := by
  pointwise [k0_pay24]
  congr 1
  split
  · rfl
  · next h =>
    congr 2
    apply Fin.ext
    show 128 + ((j 1).val - 128) = (j 1).val
    omega

private theorem tab_base16 : ∀ lo : Fin 129, Scalar.minsi (Scalar.muli (fl (wd lo.val)) 16#32) 112#32 = wd (row16 lo.val) := by decide +kernel

theorem pay3_ap {lo hi : ℕ} (hlo : lo < 129) (hhi : hi < 129) (j : S16x1.Idx) :
    k0_pay3 (F := Ideal) (wd lo) (wd hi) (fl (wd lo)) j = 1#1 ↔ lo ≤ row16 lo + (j 0).val ∧ row16 lo + (j 0).val < hi := by
  have hj : (j 0).val < 16 := (j 0).isLt
  have hr := row16_le lo
  have e : k0_pay3 (F := Ideal) (wd lo) (wd hi) (fl (wd lo)) j =
      IntOp.andi (IntOp.cmpi .sge (wd (row16 lo + (j 0).val)) (wd lo)) (IntOp.cmpi .slt (wd (row16 lo + (j 0).val)) (wd hi)) := by
    pointwise [k0_pay3]
    rw [tab_base16 ⟨lo, hlo⟩]
    unfold wd IntOp.addi
    rw [← BitVec.ofNat_add]
  rw [e]
  exact mask_iff (by omega) (by omega) (by omega)

variable {e : ℕ}

theorem acc16_lo (lo u d : ℕ) (j : S32x256.Idx) (hj : (j 0).val < 16) :
    acc16 (F := Ideal) fs fq fw e lo u d j = ∑ b ∈ Finset.range (2 * (d + 1)), blk fs fq fw e (row16 lo + (j 0).val) (2 * u) (256 * u + (j 1).val) b := by
  induction d with
  | zero =>
    rw [show 2 * (0 + 1) = 0 + 1 + 1 from rfl, Finset.sum_range_succ, Finset.sum_range_succ, Finset.sum_range_zero, zero_add]
    unfold acc16
    rw [pay22_ap]
    simp only [dif_pos hj]
    refine congrArg₂ (· + ·) (Finset.sum_congr rfl fun x _ => ?_) (Finset.sum_congr rfl fun x _ => ?_)
    · refine congrArg₂ (· * ·) (congrArg₂ (· * ·) (rd_apply _ _ _ _ _ _ fun a => ?_) rfl) (rd_apply _ _ _ _ _ _ fun a => ?_) <;> fin_cases a <;> rfl
    · refine congrArg₂ (· * ·) (congrArg₂ (· * ·) (rd_apply _ _ _ _ _ _ fun a => ?_) rfl) (rd_apply _ _ _ _ _ _ fun a => ?_) <;> fin_cases a <;> first | rfl | (show 256 * 0 + (128 + x.val) = 128 * 1 + x.val; omega)
  | succ d ih =>
    rw [show 2 * (d + 1 + 1) = 2 * (d + 1) + 1 + 1 from rfl, Finset.sum_range_succ, Finset.sum_range_succ, ← ih, add_assoc]
    conv_lhs => unfold acc16
    rw [pay23_ap]
    simp only [dif_pos hj]
    refine congrArg₂ (· + ·) rfl (congrArg₂ (· + ·) (Finset.sum_congr rfl fun x _ => ?_) (Finset.sum_congr rfl fun x _ => ?_))
    · refine congrArg₂ (· * ·) (congrArg₂ (· * ·) (rd_apply _ _ _ _ _ _ fun a => ?_) rfl) (rd_apply _ _ _ _ _ _ fun a => ?_) <;> fin_cases a <;> first | rfl | (show 256 * (d + 1) + x.val = 128 * (2 * (d + 1)) + x.val; omega)
    · refine congrArg₂ (· * ·) (congrArg₂ (· * ·) (rd_apply _ _ _ _ _ _ fun a => ?_) rfl) (rd_apply _ _ _ _ _ _ fun a => ?_) <;> fin_cases a <;> first | rfl | (show 256 * (d + 1) + (128 + x.val) = 128 * (2 * (d + 1) + 1) + x.val; omega)

theorem acc16_hi (lo u d : ℕ) (j : S32x256.Idx) (hj : ¬ (j 0).val < 16) :
    acc16 (F := Ideal) fs fq fw e lo u d j = ∑ b ∈ Finset.range (2 * (d + 1)), blk fs fq fw e (row16 lo + ((j 0).val - 16)) (2 * u + 1) (256 * u + (j 1).val) b := by
  induction d with
  | zero =>
    rw [show 2 * (0 + 1) = 0 + 1 + 1 from rfl, Finset.sum_range_succ, Finset.sum_range_succ, Finset.sum_range_zero, zero_add]
    unfold acc16
    rw [pay22_ap]
    simp only [dif_neg hj]
    refine congrArg₂ (· + ·) (Finset.sum_congr rfl fun x _ => ?_) (Finset.sum_congr rfl fun x _ => ?_)
    · refine congrArg₂ (· * ·) (congrArg₂ (· * ·) (rd_apply _ _ _ _ _ _ fun a => ?_) rfl) (rd_apply _ _ _ _ _ _ fun a => ?_) <;> fin_cases a <;> rfl
    · refine congrArg₂ (· * ·) (congrArg₂ (· * ·) (rd_apply _ _ _ _ _ _ fun a => ?_) rfl) (rd_apply _ _ _ _ _ _ fun a => ?_) <;> fin_cases a <;> first | rfl | (show 256 * 0 + (128 + x.val) = 128 * 1 + x.val; omega)
  | succ d ih =>
    rw [show 2 * (d + 1 + 1) = 2 * (d + 1) + 1 + 1 from rfl, Finset.sum_range_succ, Finset.sum_range_succ, ← ih, add_assoc]
    conv_lhs => unfold acc16
    rw [pay23_ap]
    simp only [dif_neg hj]
    refine congrArg₂ (· + ·) rfl (congrArg₂ (· + ·) (Finset.sum_congr rfl fun x _ => ?_) (Finset.sum_congr rfl fun x _ => ?_))
    · refine congrArg₂ (· * ·) (congrArg₂ (· * ·) (rd_apply _ _ _ _ _ _ fun a => ?_) rfl) (rd_apply _ _ _ _ _ _ fun a => ?_) <;> fin_cases a <;> first | rfl | (show 256 * (d + 1) + x.val = 128 * (2 * (d + 1)) + x.val; omega)
    · refine congrArg₂ (· * ·) (congrArg₂ (· * ·) (rd_apply _ _ _ _ _ _ fun a => ?_) rfl) (rd_apply _ _ _ _ _ _ fun a => ?_) <;> fin_cases a <;> first | rfl | (show 256 * (d + 1) + (128 + x.val) = 128 * (2 * (d + 1) + 1) + x.val; omega)

/-- One chunk: the rows of the segment under it get their values in 256 columns of the result. -/
theorem chunk16_ap {lo hi : ℕ} (hlo : lo < 129) (hhi : hi < 129) (u : ℕ) (y : S128x1536.Idx → EReal) (i : S128x1536.Idx) :
    chunk16 (F := Ideal) fs fq fw e lo hi u y i =
      if (lo ≤ (i 0).val ∧ (i 0).val < hi) ∧ (row16 lo ≤ (i 0).val ∧ (i 0).val < row16 lo + 16) ∧ 256 * u ≤ (i 1).val ∧ (i 1).val < 256 * u + 256
      then dotv fs fq fw e (i 0).val (i 1).val else y i := by
  unfold chunk16 wr
  by_cases hin : (row16 lo ≤ (i 0).val ∧ (i 0).val < row16 lo + 16) ∧ 256 * u ≤ (i 1).val ∧ (i 1).val < 256 * u + 256
  · rw [dif_pos (by intro a; fin_cases a; exacts [hin.1, hin.2]), pay24_ap]
    have h0 : row16 lo + ((i 0).val - row16 lo) = (i 0).val := by omega
    have h1 : 256 * u + ((i 1).val - 256 * u) = (i 1).val := by omega
    by_cases hm : lo ≤ (i 0).val ∧ (i 0).val < hi
    · rw [if_pos ⟨hm, hin⟩]
      have hmask := (pay3_ap (j := ix2 ⟨(i 0).val - row16 lo, by omega⟩ 0) hlo hhi).2 (by
        show lo ≤ row16 lo + ((i 0).val - row16 lo) ∧ row16 lo + ((i 0).val - row16 lo) < hi
        rw [h0]; exact hm)
      unfold Scalar.select
      refine (if_pos hmask).trans ?_
      unfold dotv
      by_cases hc : (i 1).val - 256 * u < 128
      · refine (dif_pos hc).trans ?_
        refine (acc16_lo fs fq fw lo u 19 _ (show (i 0).val - row16 lo < 16 by omega)).trans ?_
        show ∑ b ∈ Finset.range 40, blk fs fq fw e (row16 lo + ((i 0).val - row16 lo)) (2 * u) (256 * u + ((i 1).val - 256 * u)) b = _
        rw [h0, h1, show (i 1).val / 128 = 2 * u by omega]
      · refine (dif_neg hc).trans ?_
        refine (acc16_hi fs fq fw lo u 19 _ (show ¬ 16 + ((i 0).val - row16 lo) < 16 by omega)).trans ?_
        show ∑ b ∈ Finset.range 40, blk fs fq fw e (row16 lo + (16 + ((i 0).val - row16 lo) - 16)) (2 * u + 1) (256 * u + ((i 1).val - 256 * u)) b = _
        rw [show row16 lo + (16 + ((i 0).val - row16 lo) - 16) = (i 0).val by omega, h1, show (i 1).val / 128 = 2 * u + 1 by omega]
    · rw [if_neg (fun h => hm h.1)]
      have hmask := mt (pay3_ap (j := ix2 ⟨(i 0).val - row16 lo, by omega⟩ 0) hlo hhi).1 (by
        show ¬ (lo ≤ row16 lo + ((i 0).val - row16 lo) ∧ row16 lo + ((i 0).val - row16 lo) < hi)
        rw [h0]; exact hm)
      unfold Scalar.select
      refine (if_neg hmask).trans ?_
      unfold rd
      congr 1
      funext a
      apply Fin.ext
      have hi0 : (i 0).val < 128 := (i 0).isLt
      have hi1 : (i 1).val < 1536 := (i 1).isLt
      fin_cases a
      · show (row16 lo + ((i 0).val - row16 lo)) % 128 = (i 0).val
        rw [h0]; omega
      · show (256 * u + ((i 1).val - 256 * u)) % 1536 = (i 1).val
        rw [h1]; omega
  · rw [dif_neg (fun h => hin ⟨h 0, h 1⟩), if_neg (fun h => hin h.2)]

/-- The six chunks of a segment. -/
theorem iter16_ap {lo hi : ℕ} (hlo : lo < 129) (hhi : hi < 129) (y : S128x1536.Idx → EReal) (i : S128x1536.Idx) (n : ℕ) :
    iter (chunk16 (F := Ideal) fs fq fw e lo hi) n y i =
      if (lo ≤ (i 0).val ∧ (i 0).val < hi) ∧ (row16 lo ≤ (i 0).val ∧ (i 0).val < row16 lo + 16) ∧ (i 1).val < 256 * n
      then dotv fs fq fw e (i 0).val (i 1).val else y i := by
  induction n with
  | zero => rw [if_neg (by omega)]; rfl
  | succ n ih =>
    show chunk16 (F := Ideal) fs fq fw e lo hi n (iter (chunk16 (F := Ideal) fs fq fw e lo hi) n y) i = _
    rw [chunk16_ap fs fq fw hlo hhi, ih]
    by_cases h1 : (lo ≤ (i 0).val ∧ (i 0).val < hi) ∧ (row16 lo ≤ (i 0).val ∧ (i 0).val < row16 lo + 16) ∧ (i 1).val < 256 * (n + 1)
    · rw [if_pos h1]
      by_cases h2 : 256 * n ≤ (i 1).val
      · rw [if_pos (by omega)]
      · rw [if_neg (by omega), if_pos (by omega)]
    · rw [if_neg h1, if_neg (by omega), if_neg (by omega)]

end Cert.KernelIdeal.Hand

end
-- ==== Proof.V32.lean ====
/-
  The chunks of 32 rows over the reals: what each leaves is the value of the segment's rows.
-/
module

public import proofs.«01_k».proof.Proof.VBlk

@[expose] public section

set_option maxRecDepth 16384

noncomputable section

namespace Cert.KernelIdeal.Hand

open Cert.KernelIdeal Cert.KernelIdeal.Gen Cert.Hand
open Idealize.ShloMosaic

variable (fs : S16x12x40.Idx → EReal) (fq : S128x5120.Idx → EReal) (fw : S16x1536x5120.Idx → EReal)

theorem pay29_ap (a : FVec Ideal S64x256 .f32) (s00 s01 s10 s11 : Elt Ideal .f32) (x0 x1 : Vec Ideal S32x128 .bf16) (w : Vec Ideal S1x256x256 .fp8e4m3) (j : S64x256.Idx) :
    k0_pay29 a (k0_pay25 s00 x0 s01 x1) (k0_pay26 s10) x0 s11 x1 w j = a j +
      (∑ x : Fin 128, (if h : (j 0).val < 32 then x0 (ix2 ⟨(j 0).val, h⟩ x) * s00
            else x0 (ix2 ⟨(j 0).val - 32, by have : (j 0).val < 64 := (j 0).isLt; omega⟩ x) * s10) * w (ix3 0 (j 1) ⟨x.val, by omega⟩) +
        ∑ x : Fin 128, (if h : (j 0).val < 32 then x1 (ix2 ⟨(j 0).val, h⟩ x) * s01
            else x1 (ix2 ⟨(j 0).val - 32, by have : (j 0).val < 64 := (j 0).isLt; omega⟩ x) * s11) * w (ix3 0 (j 1) ⟨128 + x.val, by omega⟩)) := by
  pointwise [k0_pay29, k0_pay25, k0_pay26]

theorem pay28_ap (s00 s01 s10 s11 : Elt Ideal .f32) (x0 x1 : Vec Ideal S32x128 .bf16) (w : Vec Ideal S1x256x256 .fp8e4m3) (j : S64x256.Idx) :
    k0_pay28 (k0_pay27 s00 x0 s01 x1) s10 x0 s11 x1 w j =
      (∑ x : Fin 128, (if h : (j 0).val < 32 then x0 (ix2 ⟨(j 0).val, h⟩ x) * s00
            else x0 (ix2 ⟨(j 0).val - 32, by have : (j 0).val < 64 := (j 0).isLt; omega⟩ x) * s10) * w (ix3 0 (j 1) ⟨x.val, by omega⟩) +
        ∑ x : Fin 128, (if h : (j 0).val < 32 then x1 (ix2 ⟨(j 0).val, h⟩ x) * s01
            else x1 (ix2 ⟨(j 0).val - 32, by have : (j 0).val < 64 := (j 0).isLt; omega⟩ x) * s11) * w (ix3 0 (j 1) ⟨128 + x.val, by omega⟩)) := by
  pointwise [k0_pay28, k0_pay27]

theorem pay30_ap (m : IVec S32x1 1) (a : FVec Ideal S64x256 .f32) (y : Vec Ideal S32x256 .bf16) (j : S32x256.Idx) :
    k0_pay30 m a y j = Scalar.select (m (ix2 (j 0) 0))
      (if h : (j 1).val < 128 then a (ix2 ⟨(j 0).val, by have : (j 0).val < 32 := (j 0).isLt; omega⟩ (j 1))
      else a (ix2 ⟨32 + (j 0).val, by have : (j 0).val < 32 := (j 0).isLt; omega⟩ (j 1))) (y j) := by
  pointwise [k0_pay30]
  congr 1
  split
  · rfl
  · next h =>
    congr 2
    apply Fin.ext
    show 128 + ((j 1).val - 128) = (j 1).val
    omega

private theorem tab_base32 : ∀ lo : Fin 129, Scalar.minsi (Scalar.muli (fl (wd lo.val)) 16#32) 96#32 = wd (row32 lo.val) := by decide +kernel

theorem pay4_ap {lo hi : ℕ} (hlo : lo < 129) (hhi : hi < 129) (j : S32x1.Idx) :
    k0_pay4 (F := Ideal) (wd lo) (wd hi) (fl (wd lo)) j = 1#1 ↔ lo ≤ row32 lo + (j 0).val ∧ row32 lo + (j 0).val < hi := by
  have hj : (j 0).val < 32 := (j 0).isLt
  have hr := row32_le lo
  have e : k0_pay4 (F := Ideal) (wd lo) (wd hi) (fl (wd lo)) j =
      IntOp.andi (IntOp.cmpi .sge (wd (row32 lo + (j 0).val)) (wd lo)) (IntOp.cmpi .slt (wd (row32 lo + (j 0).val)) (wd hi)) := by
    pointwise [k0_pay4]
    rw [tab_base32 ⟨lo, hlo⟩]
    unfold wd IntOp.addi
    rw [← BitVec.ofNat_add]
  rw [e]
  exact mask_iff (by omega) (by omega) (by omega)

variable {e : ℕ}

theorem acc32_lo (lo u d : ℕ) (j : S64x256.Idx) (hj : (j 0).val < 32) :
    acc32 (F := Ideal) fs fq fw e lo u d j = ∑ b ∈ Finset.range (2 * (d + 1)), blk fs fq fw e (row32 lo + (j 0).val) (2 * u) (256 * u + (j 1).val) b := by
  induction d with
  | zero =>
    rw [show 2 * (0 + 1) = 0 + 1 + 1 from rfl, Finset.sum_range_succ, Finset.sum_range_succ, Finset.sum_range_zero, zero_add]
    unfold acc32
    rw [pay28_ap]
    simp only [dif_pos hj]
    refine congrArg₂ (· + ·) (Finset.sum_congr rfl fun x _ => ?_) (Finset.sum_congr rfl fun x _ => ?_)
    · refine congrArg₂ (· * ·) (congrArg₂ (· * ·) (rd_apply _ _ _ _ _ _ fun a => ?_) rfl) (rd_apply _ _ _ _ _ _ fun a => ?_) <;> fin_cases a <;> rfl
    · refine congrArg₂ (· * ·) (congrArg₂ (· * ·) (rd_apply _ _ _ _ _ _ fun a => ?_) rfl) (rd_apply _ _ _ _ _ _ fun a => ?_) <;> fin_cases a <;> first | rfl | (show 256 * 0 + (128 + x.val) = 128 * 1 + x.val; omega)
  | succ d ih =>
    rw [show 2 * (d + 1 + 1) = 2 * (d + 1) + 1 + 1 from rfl, Finset.sum_range_succ, Finset.sum_range_succ, ← ih, add_assoc]
    conv_lhs => unfold acc32
    rw [pay29_ap]
    simp only [dif_pos hj]
    refine congrArg₂ (· + ·) rfl (congrArg₂ (· + ·) (Finset.sum_congr rfl fun x _ => ?_) (Finset.sum_congr rfl fun x _ => ?_))
    · refine congrArg₂ (· * ·) (congrArg₂ (· * ·) (rd_apply _ _ _ _ _ _ fun a => ?_) rfl) (rd_apply _ _ _ _ _ _ fun a => ?_) <;> fin_cases a <;> first | rfl | (show 256 * (d + 1) + x.val = 128 * (2 * (d + 1)) + x.val; omega)
    · refine congrArg₂ (· * ·) (congrArg₂ (· * ·) (rd_apply _ _ _ _ _ _ fun a => ?_) rfl) (rd_apply _ _ _ _ _ _ fun a => ?_) <;> fin_cases a <;> first | rfl | (show 256 * (d + 1) + (128 + x.val) = 128 * (2 * (d + 1) + 1) + x.val; omega)

theorem acc32_hi (lo u d : ℕ) (j : S64x256.Idx) (hj : ¬ (j 0).val < 32) :
    acc32 (F := Ideal) fs fq fw e lo u d j = ∑ b ∈ Finset.range (2 * (d + 1)), blk fs fq fw e (row32 lo + ((j 0).val - 32)) (2 * u + 1) (256 * u + (j 1).val) b := by
  induction d with
  | zero =>
    rw [show 2 * (0 + 1) = 0 + 1 + 1 from rfl, Finset.sum_range_succ, Finset.sum_range_succ, Finset.sum_range_zero, zero_add]
    unfold acc32
    rw [pay28_ap]
    simp only [dif_neg hj]
    refine congrArg₂ (· + ·) (Finset.sum_congr rfl fun x _ => ?_) (Finset.sum_congr rfl fun x _ => ?_)
    · refine congrArg₂ (· * ·) (congrArg₂ (· * ·) (rd_apply _ _ _ _ _ _ fun a => ?_) rfl) (rd_apply _ _ _ _ _ _ fun a => ?_) <;> fin_cases a <;> rfl
    · refine congrArg₂ (· * ·) (congrArg₂ (· * ·) (rd_apply _ _ _ _ _ _ fun a => ?_) rfl) (rd_apply _ _ _ _ _ _ fun a => ?_) <;> fin_cases a <;> first | rfl | (show 256 * 0 + (128 + x.val) = 128 * 1 + x.val; omega)
  | succ d ih =>
    rw [show 2 * (d + 1 + 1) = 2 * (d + 1) + 1 + 1 from rfl, Finset.sum_range_succ, Finset.sum_range_succ, ← ih, add_assoc]
    conv_lhs => unfold acc32
    rw [pay29_ap]
    simp only [dif_neg hj]
    refine congrArg₂ (· + ·) rfl (congrArg₂ (· + ·) (Finset.sum_congr rfl fun x _ => ?_) (Finset.sum_congr rfl fun x _ => ?_))
    · refine congrArg₂ (· * ·) (congrArg₂ (· * ·) (rd_apply _ _ _ _ _ _ fun a => ?_) rfl) (rd_apply _ _ _ _ _ _ fun a => ?_) <;> fin_cases a <;> first | rfl | (show 256 * (d + 1) + x.val = 128 * (2 * (d + 1)) + x.val; omega)
    · refine congrArg₂ (· * ·) (congrArg₂ (· * ·) (rd_apply _ _ _ _ _ _ fun a => ?_) rfl) (rd_apply _ _ _ _ _ _ fun a => ?_) <;> fin_cases a <;> first | rfl | (show 256 * (d + 1) + (128 + x.val) = 128 * (2 * (d + 1) + 1) + x.val; omega)

/-- One chunk: the rows of the segment under it get their values in 256 columns of the result. -/
theorem chunk32_ap {lo hi : ℕ} (hlo : lo < 129) (hhi : hi < 129) (u : ℕ) (y : S128x1536.Idx → EReal) (i : S128x1536.Idx) :
    chunk32 (F := Ideal) fs fq fw e lo hi u y i =
      if (lo ≤ (i 0).val ∧ (i 0).val < hi) ∧ (row32 lo ≤ (i 0).val ∧ (i 0).val < row32 lo + 32) ∧ 256 * u ≤ (i 1).val ∧ (i 1).val < 256 * u + 256
      then dotv fs fq fw e (i 0).val (i 1).val else y i := by
  unfold chunk32 wr
  by_cases hin : (row32 lo ≤ (i 0).val ∧ (i 0).val < row32 lo + 32) ∧ 256 * u ≤ (i 1).val ∧ (i 1).val < 256 * u + 256
  · rw [dif_pos (by intro a; fin_cases a; exacts [hin.1, hin.2]), pay30_ap]
    have h0 : row32 lo + ((i 0).val - row32 lo) = (i 0).val := by omega
    have h1 : 256 * u + ((i 1).val - 256 * u) = (i 1).val := by omega
    by_cases hm : lo ≤ (i 0).val ∧ (i 0).val < hi
    · rw [if_pos ⟨hm, hin⟩]
      have hmask := (pay4_ap (j := ix2 ⟨(i 0).val - row32 lo, by omega⟩ 0) hlo hhi).2 (by
        show lo ≤ row32 lo + ((i 0).val - row32 lo) ∧ row32 lo + ((i 0).val - row32 lo) < hi
        rw [h0]; exact hm)
      unfold Scalar.select
      refine (if_pos hmask).trans ?_
      unfold dotv
      by_cases hc : (i 1).val - 256 * u < 128
      · refine (dif_pos hc).trans ?_
        refine (acc32_lo fs fq fw lo u 19 _ (show (i 0).val - row32 lo < 32 by omega)).trans ?_
        show ∑ b ∈ Finset.range 40, blk fs fq fw e (row32 lo + ((i 0).val - row32 lo)) (2 * u) (256 * u + ((i 1).val - 256 * u)) b = _
        rw [h0, h1, show (i 1).val / 128 = 2 * u by omega]
      · refine (dif_neg hc).trans ?_
        refine (acc32_hi fs fq fw lo u 19 _ (show ¬ 32 + ((i 0).val - row32 lo) < 32 by omega)).trans ?_
        show ∑ b ∈ Finset.range 40, blk fs fq fw e (row32 lo + (32 + ((i 0).val - row32 lo) - 32)) (2 * u + 1) (256 * u + ((i 1).val - 256 * u)) b = _
        rw [show row32 lo + (32 + ((i 0).val - row32 lo) - 32) = (i 0).val by omega, h1, show (i 1).val / 128 = 2 * u + 1 by omega]
    · rw [if_neg (fun h => hm h.1)]
      have hmask := mt (pay4_ap (j := ix2 ⟨(i 0).val - row32 lo, by omega⟩ 0) hlo hhi).1 (by
        show ¬ (lo ≤ row32 lo + ((i 0).val - row32 lo) ∧ row32 lo + ((i 0).val - row32 lo) < hi)
        rw [h0]; exact hm)
      unfold Scalar.select
      refine (if_neg hmask).trans ?_
      unfold rd
      congr 1
      funext a
      apply Fin.ext
      have hi0 : (i 0).val < 128 := (i 0).isLt
      have hi1 : (i 1).val < 1536 := (i 1).isLt
      fin_cases a
      · show (row32 lo + ((i 0).val - row32 lo)) % 128 = (i 0).val
        rw [h0]; omega
      · show (256 * u + ((i 1).val - 256 * u)) % 1536 = (i 1).val
        rw [h1]; omega
  · rw [dif_neg (fun h => hin ⟨h 0, h 1⟩), if_neg (fun h => hin h.2)]

/-- The six chunks of a segment. -/
theorem iter32_ap {lo hi : ℕ} (hlo : lo < 129) (hhi : hi < 129) (y : S128x1536.Idx → EReal) (i : S128x1536.Idx) (n : ℕ) :
    iter (chunk32 (F := Ideal) fs fq fw e lo hi) n y i =
      if (lo ≤ (i 0).val ∧ (i 0).val < hi) ∧ (row32 lo ≤ (i 0).val ∧ (i 0).val < row32 lo + 32) ∧ (i 1).val < 256 * n
      then dotv fs fq fw e (i 0).val (i 1).val else y i := by
  induction n with
  | zero => rw [if_neg (by omega)]; rfl
  | succ n ih =>
    show chunk32 (F := Ideal) fs fq fw e lo hi n (iter (chunk32 (F := Ideal) fs fq fw e lo hi) n y) i = _
    rw [chunk32_ap fs fq fw hlo hhi, ih]
    by_cases h1 : (lo ≤ (i 0).val ∧ (i 0).val < hi) ∧ (row32 lo ≤ (i 0).val ∧ (i 0).val < row32 lo + 32) ∧ (i 1).val < 256 * (n + 1)
    · rw [if_pos h1]
      by_cases h2 : 256 * n ≤ (i 1).val
      · rw [if_pos (by omega)]
      · rw [if_neg (by omega), if_pos (by omega)]
    · rw [if_neg h1, if_neg (by omega), if_neg (by omega)]

end Cert.KernelIdeal.Hand

end
-- ==== Proof.V64.lean ====
/-
  The chunks of 64 rows over the reals: what each leaves is the value of the segment's rows.
-/
module

public import proofs.«01_k».proof.Proof.VBlk

@[expose] public section

set_option maxRecDepth 16384

noncomputable section

namespace Cert.KernelIdeal.Hand

open Cert.KernelIdeal Cert.KernelIdeal.Gen Cert.Hand
open Idealize.ShloMosaic

variable (fs : S16x12x40.Idx → EReal) (fq : S128x5120.Idx → EReal) (fw : S16x1536x5120.Idx → EReal)

theorem pay35_ap (a : FVec Ideal S128x256 .f32) (s00 s01 s10 s11 : Elt Ideal .f32) (x0 x1 : Vec Ideal S64x128 .bf16) (w : Vec Ideal S1x256x256 .fp8e4m3) (j : S128x256.Idx) :
    k0_pay35 a (k0_pay31 s00 x0 s01 x1) (k0_pay32 s10) x0 s11 x1 w j = a j +
      (∑ x : Fin 128, (if h : (j 0).val < 64 then x0 (ix2 ⟨(j 0).val, h⟩ x) * s00
            else x0 (ix2 ⟨(j 0).val - 64, by have : (j 0).val < 128 := (j 0).isLt; omega⟩ x) * s10) * w (ix3 0 (j 1) ⟨x.val, by omega⟩) +
        ∑ x : Fin 128, (if h : (j 0).val < 64 then x1 (ix2 ⟨(j 0).val, h⟩ x) * s01
            else x1 (ix2 ⟨(j 0).val - 64, by have : (j 0).val < 128 := (j 0).isLt; omega⟩ x) * s11) * w (ix3 0 (j 1) ⟨128 + x.val, by omega⟩)) := by
  pointwise [k0_pay35, k0_pay31, k0_pay32]

theorem pay34_ap (s00 s01 s10 s11 : Elt Ideal .f32) (x0 x1 : Vec Ideal S64x128 .bf16) (w : Vec Ideal S1x256x256 .fp8e4m3) (j : S128x256.Idx) :
    k0_pay34 (k0_pay33 s00 x0 s01 x1) s10 x0 s11 x1 w j =
      (∑ x : Fin 128, (if h : (j 0).val < 64 then x0 (ix2 ⟨(j 0).val, h⟩ x) * s00
            else x0 (ix2 ⟨(j 0).val - 64, by have : (j 0).val < 128 := (j 0).isLt; omega⟩ x) * s10) * w (ix3 0 (j 1) ⟨x.val, by omega⟩) +
        ∑ x : Fin 128, (if h : (j 0).val < 64 then x1 (ix2 ⟨(j 0).val, h⟩ x) * s01
            else x1 (ix2 ⟨(j 0).val - 64, by have : (j 0).val < 128 := (j 0).isLt; omega⟩ x) * s11) * w (ix3 0 (j 1) ⟨128 + x.val, by omega⟩)) := by
  pointwise [k0_pay34, k0_pay33]

theorem pay36_ap (m : IVec S64x1 1) (a : FVec Ideal S128x256 .f32) (y : Vec Ideal S64x256 .bf16) (j : S64x256.Idx) :
    k0_pay36 m a y j = Scalar.select (m (ix2 (j 0) 0))
      (if h : (j 1).val < 128 then a (ix2 ⟨(j 0).val, by have : (j 0).val < 64 := (j 0).isLt; omega⟩ (j 1))
      else a (ix2 ⟨64 + (j 0).val, by have : (j 0).val < 64 := (j 0).isLt; omega⟩ (j 1))) (y j) := by
  pointwise [k0_pay36]
  congr 1
  split
  · rfl
  · next h =>
    congr 2
    apply Fin.ext
    show 128 + ((j 1).val - 128) = (j 1).val
    omega

private theorem tab_base64 : ∀ lo : Fin 129, Scalar.minsi (Scalar.muli (fl (wd lo.val)) 16#32) 64#32 = wd (row64 lo.val) := by decide +kernel

theorem pay5_ap {lo hi : ℕ} (hlo : lo < 129) (hhi : hi < 129) (j : S64x1.Idx) :
    k0_pay5 (F := Ideal) (wd lo) (wd hi) (fl (wd lo)) j = 1#1 ↔ lo ≤ row64 lo + (j 0).val ∧ row64 lo + (j 0).val < hi := by
  have hj : (j 0).val < 64 := (j 0).isLt
  have hr := row64_le lo
  have e : k0_pay5 (F := Ideal) (wd lo) (wd hi) (fl (wd lo)) j =
      IntOp.andi (IntOp.cmpi .sge (wd (row64 lo + (j 0).val)) (wd lo)) (IntOp.cmpi .slt (wd (row64 lo + (j 0).val)) (wd hi)) := by
    pointwise [k0_pay5]
    rw [tab_base64 ⟨lo, hlo⟩]
    unfold wd IntOp.addi
    rw [← BitVec.ofNat_add]
  rw [e]
  exact mask_iff (by omega) (by omega) (by omega)

variable {e : ℕ}

theorem acc64_lo (lo u d : ℕ) (j : S128x256.Idx) (hj : (j 0).val < 64) :
    acc64 (F := Ideal) fs fq fw e lo u d j = ∑ b ∈ Finset.range (2 * (d + 1)), blk fs fq fw e (row64 lo + (j 0).val) (2 * u) (256 * u + (j 1).val) b := by
  induction d with
  | zero =>
    rw [show 2 * (0 + 1) = 0 + 1 + 1 from rfl, Finset.sum_range_succ, Finset.sum_range_succ, Finset.sum_range_zero, zero_add]
    unfold acc64
    rw [pay34_ap]
    simp only [dif_pos hj]
    refine congrArg₂ (· + ·) (Finset.sum_congr rfl fun x _ => ?_) (Finset.sum_congr rfl fun x _ => ?_)
    · refine congrArg₂ (· * ·) (congrArg₂ (· * ·) (rd_apply _ _ _ _ _ _ fun a => ?_) rfl) (rd_apply _ _ _ _ _ _ fun a => ?_) <;> fin_cases a <;> rfl
    · refine congrArg₂ (· * ·) (congrArg₂ (· * ·) (rd_apply _ _ _ _ _ _ fun a => ?_) rfl) (rd_apply _ _ _ _ _ _ fun a => ?_) <;> fin_cases a <;> first | rfl | (show 256 * 0 + (128 + x.val) = 128 * 1 + x.val; omega)
  | succ d ih =>
    rw [show 2 * (d + 1 + 1) = 2 * (d + 1) + 1 + 1 from rfl, Finset.sum_range_succ, Finset.sum_range_succ, ← ih, add_assoc]
    conv_lhs => unfold acc64
    rw [pay35_ap]
    simp only [dif_pos hj]
    refine congrArg₂ (· + ·) rfl (congrArg₂ (· + ·) (Finset.sum_congr rfl fun x _ => ?_) (Finset.sum_congr rfl fun x _ => ?_))
    · refine congrArg₂ (· * ·) (congrArg₂ (· * ·) (rd_apply _ _ _ _ _ _ fun a => ?_) rfl) (rd_apply _ _ _ _ _ _ fun a => ?_) <;> fin_cases a <;> first | rfl | (show 256 * (d + 1) + x.val = 128 * (2 * (d + 1)) + x.val; omega)
    · refine congrArg₂ (· * ·) (congrArg₂ (· * ·) (rd_apply _ _ _ _ _ _ fun a => ?_) rfl) (rd_apply _ _ _ _ _ _ fun a => ?_) <;> fin_cases a <;> first | rfl | (show 256 * (d + 1) + (128 + x.val) = 128 * (2 * (d + 1) + 1) + x.val; omega)

theorem acc64_hi (lo u d : ℕ) (j : S128x256.Idx) (hj : ¬ (j 0).val < 64) :
    acc64 (F := Ideal) fs fq fw e lo u d j = ∑ b ∈ Finset.range (2 * (d + 1)), blk fs fq fw e (row64 lo + ((j 0).val - 64)) (2 * u + 1) (256 * u + (j 1).val) b := by
  induction d with
  | zero =>
    rw [show 2 * (0 + 1) = 0 + 1 + 1 from rfl, Finset.sum_range_succ, Finset.sum_range_succ, Finset.sum_range_zero, zero_add]
    unfold acc64
    rw [pay34_ap]
    simp only [dif_neg hj]
    refine congrArg₂ (· + ·) (Finset.sum_congr rfl fun x _ => ?_) (Finset.sum_congr rfl fun x _ => ?_)
    · refine congrArg₂ (· * ·) (congrArg₂ (· * ·) (rd_apply _ _ _ _ _ _ fun a => ?_) rfl) (rd_apply _ _ _ _ _ _ fun a => ?_) <;> fin_cases a <;> rfl
    · refine congrArg₂ (· * ·) (congrArg₂ (· * ·) (rd_apply _ _ _ _ _ _ fun a => ?_) rfl) (rd_apply _ _ _ _ _ _ fun a => ?_) <;> fin_cases a <;> first | rfl | (show 256 * 0 + (128 + x.val) = 128 * 1 + x.val; omega)
  | succ d ih =>
    rw [show 2 * (d + 1 + 1) = 2 * (d + 1) + 1 + 1 from rfl, Finset.sum_range_succ, Finset.sum_range_succ, ← ih, add_assoc]
    conv_lhs => unfold acc64
    rw [pay35_ap]
    simp only [dif_neg hj]
    refine congrArg₂ (· + ·) rfl (congrArg₂ (· + ·) (Finset.sum_congr rfl fun x _ => ?_) (Finset.sum_congr rfl fun x _ => ?_))
    · refine congrArg₂ (· * ·) (congrArg₂ (· * ·) (rd_apply _ _ _ _ _ _ fun a => ?_) rfl) (rd_apply _ _ _ _ _ _ fun a => ?_) <;> fin_cases a <;> first | rfl | (show 256 * (d + 1) + x.val = 128 * (2 * (d + 1)) + x.val; omega)
    · refine congrArg₂ (· * ·) (congrArg₂ (· * ·) (rd_apply _ _ _ _ _ _ fun a => ?_) rfl) (rd_apply _ _ _ _ _ _ fun a => ?_) <;> fin_cases a <;> first | rfl | (show 256 * (d + 1) + (128 + x.val) = 128 * (2 * (d + 1) + 1) + x.val; omega)

/-- One chunk: the rows of the segment under it get their values in 256 columns of the result. -/
theorem chunk64_ap {lo hi : ℕ} (hlo : lo < 129) (hhi : hi < 129) (u : ℕ) (y : S128x1536.Idx → EReal) (i : S128x1536.Idx) :
    chunk64 (F := Ideal) fs fq fw e lo hi u y i =
      if (lo ≤ (i 0).val ∧ (i 0).val < hi) ∧ (row64 lo ≤ (i 0).val ∧ (i 0).val < row64 lo + 64) ∧ 256 * u ≤ (i 1).val ∧ (i 1).val < 256 * u + 256
      then dotv fs fq fw e (i 0).val (i 1).val else y i := by
  unfold chunk64 wr
  by_cases hin : (row64 lo ≤ (i 0).val ∧ (i 0).val < row64 lo + 64) ∧ 256 * u ≤ (i 1).val ∧ (i 1).val < 256 * u + 256
  · rw [dif_pos (by intro a; fin_cases a; exacts [hin.1, hin.2]), pay36_ap]
    have h0 : row64 lo + ((i 0).val - row64 lo) = (i 0).val := by omega
    have h1 : 256 * u + ((i 1).val - 256 * u) = (i 1).val := by omega
    by_cases hm : lo ≤ (i 0).val ∧ (i 0).val < hi
    · rw [if_pos ⟨hm, hin⟩]
      have hmask := (pay5_ap (j := ix2 ⟨(i 0).val - row64 lo, by omega⟩ 0) hlo hhi).2 (by
        show lo ≤ row64 lo + ((i 0).val - row64 lo) ∧ row64 lo + ((i 0).val - row64 lo) < hi
        rw [h0]; exact hm)
      unfold Scalar.select
      refine (if_pos hmask).trans ?_
      unfold dotv
      by_cases hc : (i 1).val - 256 * u < 128
      · refine (dif_pos hc).trans ?_
        refine (acc64_lo fs fq fw lo u 19 _ (show (i 0).val - row64 lo < 64 by omega)).trans ?_
        show ∑ b ∈ Finset.range 40, blk fs fq fw e (row64 lo + ((i 0).val - row64 lo)) (2 * u) (256 * u + ((i 1).val - 256 * u)) b = _
        rw [h0, h1, show (i 1).val / 128 = 2 * u by omega]
      · refine (dif_neg hc).trans ?_
        refine (acc64_hi fs fq fw lo u 19 _ (show ¬ 64 + ((i 0).val - row64 lo) < 64 by omega)).trans ?_
        show ∑ b ∈ Finset.range 40, blk fs fq fw e (row64 lo + (64 + ((i 0).val - row64 lo) - 64)) (2 * u + 1) (256 * u + ((i 1).val - 256 * u)) b = _
        rw [show row64 lo + (64 + ((i 0).val - row64 lo) - 64) = (i 0).val by omega, h1, show (i 1).val / 128 = 2 * u + 1 by omega]
    · rw [if_neg (fun h => hm h.1)]
      have hmask := mt (pay5_ap (j := ix2 ⟨(i 0).val - row64 lo, by omega⟩ 0) hlo hhi).1 (by
        show ¬ (lo ≤ row64 lo + ((i 0).val - row64 lo) ∧ row64 lo + ((i 0).val - row64 lo) < hi)
        rw [h0]; exact hm)
      unfold Scalar.select
      refine (if_neg hmask).trans ?_
      unfold rd
      congr 1
      funext a
      apply Fin.ext
      have hi0 : (i 0).val < 128 := (i 0).isLt
      have hi1 : (i 1).val < 1536 := (i 1).isLt
      fin_cases a
      · show (row64 lo + ((i 0).val - row64 lo)) % 128 = (i 0).val
        rw [h0]; omega
      · show (256 * u + ((i 1).val - 256 * u)) % 1536 = (i 1).val
        rw [h1]; omega
  · rw [dif_neg (fun h => hin ⟨h 0, h 1⟩), if_neg (fun h => hin h.2)]

/-- The six chunks of a segment. -/
theorem iter64_ap {lo hi : ℕ} (hlo : lo < 129) (hhi : hi < 129) (y : S128x1536.Idx → EReal) (i : S128x1536.Idx) (n : ℕ) :
    iter (chunk64 (F := Ideal) fs fq fw e lo hi) n y i =
      if (lo ≤ (i 0).val ∧ (i 0).val < hi) ∧ (row64 lo ≤ (i 0).val ∧ (i 0).val < row64 lo + 64) ∧ (i 1).val < 256 * n
      then dotv fs fq fw e (i 0).val (i 1).val else y i := by
  induction n with
  | zero => rw [if_neg (by omega)]; rfl
  | succ n ih =>
    show chunk64 (F := Ideal) fs fq fw e lo hi n (iter (chunk64 (F := Ideal) fs fq fw e lo hi) n y) i = _
    rw [chunk64_ap fs fq fw hlo hhi, ih]
    by_cases h1 : (lo ≤ (i 0).val ∧ (i 0).val < hi) ∧ (row64 lo ≤ (i 0).val ∧ (i 0).val < row64 lo + 64) ∧ (i 1).val < 256 * (n + 1)
    · rw [if_pos h1]
      by_cases h2 : 256 * n ≤ (i 1).val
      · rw [if_pos (by omega)]
      · rw [if_neg (by omega), if_pos (by omega)]
    · rw [if_neg h1, if_neg (by omega), if_neg (by omega)]

end Cert.KernelIdeal.Hand

end
-- ==== Proof.V128.lean ====
/-
  The chunks of 128 rows over the reals: what each leaves is the value of the segment's rows.
-/
module

public import proofs.«01_k».proof.Proof.VBlk

@[expose] public section

set_option maxRecDepth 16384

noncomputable section

namespace Cert.KernelIdeal.Hand

open Cert.KernelIdeal Cert.KernelIdeal.Gen Cert.Hand
open Idealize.ShloMosaic

variable (fs : S16x12x40.Idx → EReal) (fq : S128x5120.Idx → EReal) (fw : S16x1536x5120.Idx → EReal)

theorem pay41_ap (a : FVec Ideal S256x256 .f32) (s00 s01 s10 s11 : Elt Ideal .f32) (x0 x1 : Vec Ideal S128x128 .bf16) (w : Vec Ideal S1x256x256 .fp8e4m3) (j : S256x256.Idx) :
    k0_pay41 a (k0_pay37 s00 x0 s01 x1) (k0_pay38 s10) x0 s11 x1 w j = a j +
      (∑ x : Fin 128, (if h : (j 0).val < 128 then x0 (ix2 ⟨(j 0).val, h⟩ x) * s00
            else x0 (ix2 ⟨(j 0).val - 128, by have : (j 0).val < 256 := (j 0).isLt; omega⟩ x) * s10) * w (ix3 0 (j 1) ⟨x.val, by omega⟩) +
        ∑ x : Fin 128, (if h : (j 0).val < 128 then x1 (ix2 ⟨(j 0).val, h⟩ x) * s01
            else x1 (ix2 ⟨(j 0).val - 128, by have : (j 0).val < 256 := (j 0).isLt; omega⟩ x) * s11) * w (ix3 0 (j 1) ⟨128 + x.val, by omega⟩)) := by
  pointwise [k0_pay41, k0_pay37, k0_pay38]

theorem pay40_ap (s00 s01 s10 s11 : Elt Ideal .f32) (x0 x1 : Vec Ideal S128x128 .bf16) (w : Vec Ideal S1x256x256 .fp8e4m3) (j : S256x256.Idx) :
    k0_pay40 (k0_pay39 s00 x0 s01 x1) s10 x0 s11 x1 w j =
      (∑ x : Fin 128, (if h : (j 0).val < 128 then x0 (ix2 ⟨(j 0).val, h⟩ x) * s00
            else x0 (ix2 ⟨(j 0).val - 128, by have : (j 0).val < 256 := (j 0).isLt; omega⟩ x) * s10) * w (ix3 0 (j 1) ⟨x.val, by omega⟩) +
        ∑ x : Fin 128, (if h : (j 0).val < 128 then x1 (ix2 ⟨(j 0).val, h⟩ x) * s01
            else x1 (ix2 ⟨(j 0).val - 128, by have : (j 0).val < 256 := (j 0).isLt; omega⟩ x) * s11) * w (ix3 0 (j 1) ⟨128 + x.val, by omega⟩)) := by
  pointwise [k0_pay40, k0_pay39]

theorem pay42_ap (m : IVec S128x1 1) (a : FVec Ideal S256x256 .f32) (y : Vec Ideal S128x256 .bf16) (j : S128x256.Idx) :
    k0_pay42 m a y j = Scalar.select (m (ix2 (j 0) 0))
      (if h : (j 1).val < 128 then a (ix2 ⟨(j 0).val, by have : (j 0).val < 128 := (j 0).isLt; omega⟩ (j 1))
      else a (ix2 ⟨128 + (j 0).val, by have : (j 0).val < 128 := (j 0).isLt; omega⟩ (j 1))) (y j) := by
  pointwise [k0_pay42]
  congr 1
  split
  · rfl
  · next h =>
    congr 2
    apply Fin.ext
    show 128 + ((j 1).val - 128) = (j 1).val
    omega

private theorem tab_base128 : ∀ lo : Fin 129, Scalar.minsi (Scalar.muli (fl (wd lo.val)) 16#32) 0#32 = wd (row128 lo.val) := by decide +kernel

theorem pay6_ap {lo hi : ℕ} (hlo : lo < 129) (hhi : hi < 129) (j : S128x1.Idx) :
    k0_pay6 (F := Ideal) (wd lo) (wd hi) (fl (wd lo)) j = 1#1 ↔ lo ≤ row128 lo + (j 0).val ∧ row128 lo + (j 0).val < hi := by
  have hj : (j 0).val < 128 := (j 0).isLt
  have hr := row128_le lo
  have e : k0_pay6 (F := Ideal) (wd lo) (wd hi) (fl (wd lo)) j =
      IntOp.andi (IntOp.cmpi .sge (wd (row128 lo + (j 0).val)) (wd lo)) (IntOp.cmpi .slt (wd (row128 lo + (j 0).val)) (wd hi)) := by
    pointwise [k0_pay6]
    rw [tab_base128 ⟨lo, hlo⟩]
    unfold wd IntOp.addi
    rw [← BitVec.ofNat_add]
  rw [e]
  exact mask_iff (by omega) (by omega) (by omega)

variable {e : ℕ}

theorem acc128_lo (lo u d : ℕ) (j : S256x256.Idx) (hj : (j 0).val < 128) :
    acc128 (F := Ideal) fs fq fw e lo u d j = ∑ b ∈ Finset.range (2 * (d + 1)), blk fs fq fw e (row128 lo + (j 0).val) (2 * u) (256 * u + (j 1).val) b := by
  induction d with
  | zero =>
    rw [show 2 * (0 + 1) = 0 + 1 + 1 from rfl, Finset.sum_range_succ, Finset.sum_range_succ, Finset.sum_range_zero, zero_add]
    unfold acc128
    rw [pay40_ap]
    simp only [dif_pos hj]
    refine congrArg₂ (· + ·) (Finset.sum_congr rfl fun x _ => ?_) (Finset.sum_congr rfl fun x _ => ?_)
    · refine congrArg₂ (· * ·) (congrArg₂ (· * ·) (rd_apply _ _ _ _ _ _ fun a => ?_) rfl) (rd_apply _ _ _ _ _ _ fun a => ?_) <;> fin_cases a <;> rfl
    · refine congrArg₂ (· * ·) (congrArg₂ (· * ·) (rd_apply _ _ _ _ _ _ fun a => ?_) rfl) (rd_apply _ _ _ _ _ _ fun a => ?_) <;> fin_cases a <;> first | rfl | (show 256 * 0 + (128 + x.val) = 128 * 1 + x.val; omega)
  | succ d ih =>
    rw [show 2 * (d + 1 + 1) = 2 * (d + 1) + 1 + 1 from rfl, Finset.sum_range_succ, Finset.sum_range_succ, ← ih, add_assoc]
    conv_lhs => unfold acc128
    rw [pay41_ap]
    simp only [dif_pos hj]
    refine congrArg₂ (· + ·) rfl (congrArg₂ (· + ·) (Finset.sum_congr rfl fun x _ => ?_) (Finset.sum_congr rfl fun x _ => ?_))
    · refine congrArg₂ (· * ·) (congrArg₂ (· * ·) (rd_apply _ _ _ _ _ _ fun a => ?_) rfl) (rd_apply _ _ _ _ _ _ fun a => ?_) <;> fin_cases a <;> first | rfl | (show 256 * (d + 1) + x.val = 128 * (2 * (d + 1)) + x.val; omega)
    · refine congrArg₂ (· * ·) (congrArg₂ (· * ·) (rd_apply _ _ _ _ _ _ fun a => ?_) rfl) (rd_apply _ _ _ _ _ _ fun a => ?_) <;> fin_cases a <;> first | rfl | (show 256 * (d + 1) + (128 + x.val) = 128 * (2 * (d + 1) + 1) + x.val; omega)

theorem acc128_hi (lo u d : ℕ) (j : S256x256.Idx) (hj : ¬ (j 0).val < 128) :
    acc128 (F := Ideal) fs fq fw e lo u d j = ∑ b ∈ Finset.range (2 * (d + 1)), blk fs fq fw e (row128 lo + ((j 0).val - 128)) (2 * u + 1) (256 * u + (j 1).val) b := by
  induction d with
  | zero =>
    rw [show 2 * (0 + 1) = 0 + 1 + 1 from rfl, Finset.sum_range_succ, Finset.sum_range_succ, Finset.sum_range_zero, zero_add]
    unfold acc128
    rw [pay40_ap]
    simp only [dif_neg hj]
    refine congrArg₂ (· + ·) (Finset.sum_congr rfl fun x _ => ?_) (Finset.sum_congr rfl fun x _ => ?_)
    · refine congrArg₂ (· * ·) (congrArg₂ (· * ·) (rd_apply _ _ _ _ _ _ fun a => ?_) rfl) (rd_apply _ _ _ _ _ _ fun a => ?_) <;> fin_cases a <;> rfl
    · refine congrArg₂ (· * ·) (congrArg₂ (· * ·) (rd_apply _ _ _ _ _ _ fun a => ?_) rfl) (rd_apply _ _ _ _ _ _ fun a => ?_) <;> fin_cases a <;> first | rfl | (show 256 * 0 + (128 + x.val) = 128 * 1 + x.val; omega)
  | succ d ih =>
    rw [show 2 * (d + 1 + 1) = 2 * (d + 1) + 1 + 1 from rfl, Finset.sum_range_succ, Finset.sum_range_succ, ← ih, add_assoc]
    conv_lhs => unfold acc128
    rw [pay41_ap]
    simp only [dif_neg hj]
    refine congrArg₂ (· + ·) rfl (congrArg₂ (· + ·) (Finset.sum_congr rfl fun x _ => ?_) (Finset.sum_congr rfl fun x _ => ?_))
    · refine congrArg₂ (· * ·) (congrArg₂ (· * ·) (rd_apply _ _ _ _ _ _ fun a => ?_) rfl) (rd_apply _ _ _ _ _ _ fun a => ?_) <;> fin_cases a <;> first | rfl | (show 256 * (d + 1) + x.val = 128 * (2 * (d + 1)) + x.val; omega)
    · refine congrArg₂ (· * ·) (congrArg₂ (· * ·) (rd_apply _ _ _ _ _ _ fun a => ?_) rfl) (rd_apply _ _ _ _ _ _ fun a => ?_) <;> fin_cases a <;> first | rfl | (show 256 * (d + 1) + (128 + x.val) = 128 * (2 * (d + 1) + 1) + x.val; omega)

/-- One chunk: the rows of the segment under it get their values in 256 columns of the result. -/
theorem chunk128_ap {lo hi : ℕ} (hlo : lo < 129) (hhi : hi < 129) (u : ℕ) (y : S128x1536.Idx → EReal) (i : S128x1536.Idx) :
    chunk128 (F := Ideal) fs fq fw e lo hi u y i =
      if (lo ≤ (i 0).val ∧ (i 0).val < hi) ∧ (row128 lo ≤ (i 0).val ∧ (i 0).val < row128 lo + 128) ∧ 256 * u ≤ (i 1).val ∧ (i 1).val < 256 * u + 256
      then dotv fs fq fw e (i 0).val (i 1).val else y i := by
  unfold chunk128 wr
  by_cases hin : (row128 lo ≤ (i 0).val ∧ (i 0).val < row128 lo + 128) ∧ 256 * u ≤ (i 1).val ∧ (i 1).val < 256 * u + 256
  · rw [dif_pos (by intro a; fin_cases a; exacts [hin.1, hin.2]), pay42_ap]
    have h0 : row128 lo + ((i 0).val - row128 lo) = (i 0).val := by omega
    have h1 : 256 * u + ((i 1).val - 256 * u) = (i 1).val := by omega
    by_cases hm : lo ≤ (i 0).val ∧ (i 0).val < hi
    · rw [if_pos ⟨hm, hin⟩]
      have hmask := (pay6_ap (j := ix2 ⟨(i 0).val - row128 lo, by omega⟩ 0) hlo hhi).2 (by
        show lo ≤ row128 lo + ((i 0).val - row128 lo) ∧ row128 lo + ((i 0).val - row128 lo) < hi
        rw [h0]; exact hm)
      unfold Scalar.select
      refine (if_pos hmask).trans ?_
      unfold dotv
      by_cases hc : (i 1).val - 256 * u < 128
      · refine (dif_pos hc).trans ?_
        refine (acc128_lo fs fq fw lo u 19 _ (show (i 0).val - row128 lo < 128 by omega)).trans ?_
        show ∑ b ∈ Finset.range 40, blk fs fq fw e (row128 lo + ((i 0).val - row128 lo)) (2 * u) (256 * u + ((i 1).val - 256 * u)) b = _
        rw [h0, h1, show (i 1).val / 128 = 2 * u by omega]
      · refine (dif_neg hc).trans ?_
        refine (acc128_hi fs fq fw lo u 19 _ (show ¬ 128 + ((i 0).val - row128 lo) < 128 by omega)).trans ?_
        show ∑ b ∈ Finset.range 40, blk fs fq fw e (row128 lo + (128 + ((i 0).val - row128 lo) - 128)) (2 * u + 1) (256 * u + ((i 1).val - 256 * u)) b = _
        rw [show row128 lo + (128 + ((i 0).val - row128 lo) - 128) = (i 0).val by omega, h1, show (i 1).val / 128 = 2 * u + 1 by omega]
    · rw [if_neg (fun h => hm h.1)]
      have hmask := mt (pay6_ap (j := ix2 ⟨(i 0).val - row128 lo, by omega⟩ 0) hlo hhi).1 (by
        show ¬ (lo ≤ row128 lo + ((i 0).val - row128 lo) ∧ row128 lo + ((i 0).val - row128 lo) < hi)
        rw [h0]; exact hm)
      unfold Scalar.select
      refine (if_neg hmask).trans ?_
      unfold rd
      congr 1
      funext a
      apply Fin.ext
      have hi0 : (i 0).val < 128 := (i 0).isLt
      have hi1 : (i 1).val < 1536 := (i 1).isLt
      fin_cases a
      · show (row128 lo + ((i 0).val - row128 lo)) % 128 = (i 0).val
        rw [h0]; omega
      · show (256 * u + ((i 1).val - 256 * u)) % 1536 = (i 1).val
        rw [h1]; omega
  · rw [dif_neg (fun h => hin ⟨h 0, h 1⟩), if_neg (fun h => hin h.2)]

/-- The six chunks of a segment. -/
theorem iter128_ap {lo hi : ℕ} (hlo : lo < 129) (hhi : hi < 129) (y : S128x1536.Idx → EReal) (i : S128x1536.Idx) (n : ℕ) :
    iter (chunk128 (F := Ideal) fs fq fw e lo hi) n y i =
      if (lo ≤ (i 0).val ∧ (i 0).val < hi) ∧ (row128 lo ≤ (i 0).val ∧ (i 0).val < row128 lo + 128) ∧ (i 1).val < 256 * n
      then dotv fs fq fw e (i 0).val (i 1).val else y i := by
  induction n with
  | zero => rw [if_neg (by omega)]; rfl
  | succ n ih =>
    show chunk128 (F := Ideal) fs fq fw e lo hi n (iter (chunk128 (F := Ideal) fs fq fw e lo hi) n y) i = _
    rw [chunk128_ap fs fq fw hlo hhi, ih]
    by_cases h1 : (lo ≤ (i 0).val ∧ (i 0).val < hi) ∧ (row128 lo ≤ (i 0).val ∧ (i 0).val < row128 lo + 128) ∧ (i 1).val < 256 * (n + 1)
    · rw [if_pos h1]
      by_cases h2 : 256 * n ≤ (i 1).val
      · rw [if_pos (by omega)]
      · rw [if_neg (by omega), if_pos (by omega)]
    · rw [if_neg h1, if_neg (by omega), if_neg (by omega)]

end Cert.KernelIdeal.Hand

end
-- ==== Proof.VSeg.lean ====
/-
  The value the kernel computes, over the reals: every row of the result is its token against its expert's weights.
-/
module

public import proofs.«01_k».proof.Proof.V16
public import proofs.«01_k».proof.Proof.V32
public import proofs.«01_k».proof.Proof.V64
public import proofs.«01_k».proof.Proof.V128

@[expose] public section

noncomputable section

namespace Cert.KernelIdeal.Hand

open Cert.KernelIdeal Cert.KernelIdeal.Gen Cert.Hand
open Idealize.ShloMosaic

variable (fs : S16x12x40.Idx → EReal) (fq : S128x5120.Idx → EReal) (fw : S16x1536x5120.Idx → EReal)

/-- One segment: its rows get their values, the others stay. -/
theorem seg_ap {e lo hi : ℕ} (h : lo < hi) (hhi : hi < 129) (y : S128x1536.Idx → EReal) (i : S128x1536.Idx) :
    seg (F := Ideal) fs fq fw e lo hi y i = if lo ≤ (i 0).val ∧ (i 0).val < hi then dotv fs fq fw e (i 0).val (i 1).val else y i := by
  have h1 : (i 1).val < 1536 := (i 1).isLt
  have key : ∀ R row : ℕ, (lo ≤ (i 0).val ∧ (i 0).val < hi → row ≤ (i 0).val ∧ (i 0).val < row + R) →
      (if (lo ≤ (i 0).val ∧ (i 0).val < hi) ∧ (row ≤ (i 0).val ∧ (i 0).val < row + R) ∧ (i 1).val < 256 * 6
        then dotv fs fq fw e (i 0).val (i 1).val else y i) =
      if lo ≤ (i 0).val ∧ (i 0).val < hi then dotv fs fq fw e (i 0).val (i 1).val else y i := by
    intro R row hr
    by_cases hc : lo ≤ (i 0).val ∧ (i 0).val < hi
    · rw [if_pos hc, if_pos ⟨hc, hr hc, by omega⟩]
    · rw [if_neg hc, if_neg (fun h => hc h.1)]
  unfold seg
  have ht : tiles lo hi = (hi + 15) / 16 - lo / 16 := rfl
  split
  · rw [iter16_ap fs fq fw (by omega) hhi]
    exact key 16 _ (by unfold row16; omega)
  split
  · rw [iter32_ap fs fq fw (by omega) hhi]
    exact key 32 _ (by unfold row32; omega)
  split
  · rw [iter64_ap fs fq fw (by omega) hhi]
    exact key 64 _ (by unfold row64; omega)
  · rw [iter128_ap fs fq fw (by omega) hhi]
    exact key 128 _ (by unfold row128; omega)

/-- All segments: each row gets the value of the span it lies in. -/
theorem iterseg_ap (g : ℕ → ℕ) (y : S128x1536.Idx → EReal) (i : S128x1536.Idx) {s : ℕ} (h0 : cut g s ≤ (i 0).val) (h1 : (i 0).val < cut g (s + 1)) :
    ∀ n ≤ num g, (∃ j < n, ex g j = s) →
      iter (fun j => seg (F := Ideal) fs fq fw (ex g j) (lo g j) (hi g j)) n y i = dotv fs fq fw s (i 0).val (i 1).val := by
  intro n
  induction n with
  | zero => rintro - ⟨j, hj, -⟩; omega
  | succ n ih =>
    intro hn hex
    show seg (F := Ideal) fs fq fw (ex g n) (lo g n) (hi g n) (iter (fun j => seg (F := Ideal) fs fq fw (ex g j) (lo g j) (hi g j)) n y) i = _
    rw [seg_ap fs fq fw (lo_lt_hi g (by omega)) (hi_lt g n)]
    by_cases he : ex g n = s
    · have hlo : lo g n = cut g s := by rw [← he]
      have hhi : hi g n = cut g (s + 1) := by rw [← he]
      rw [if_pos (by rw [hlo, hhi]; exact ⟨h0, h1⟩), he]
    · rw [if_neg]
      · refine ih (by omega) ?_
        obtain ⟨j, hj, e⟩ := hex
        exact ⟨j, by rcases Nat.lt_succ_iff_lt_or_eq.1 hj with h | h; exacts [h, absurd (h ▸ e) he], e⟩
      · rintro ⟨a, b⟩
        have hlo : lo g n = cut g (ex g n) := rfl
        have hhi : hi g n = cut g (ex g n + 1) := rfl
        rw [hlo] at a; rw [hhi] at b
        rcases Nat.lt_or_gt_of_ne he with hc | hc
        · have := cut_mono g (j := ex g n + 1) (k := s) hc; omega
        · have := cut_mono g (j := s + 1) (k := ex g n) hc; omega

/-- The kernel's result at an index: the token against the weights of the expert whose span it lies in. -/
theorem Y_ap (g : ℕ → ℕ) (i : S128x1536.Idx) {s : ℕ} (hs : s < 16) (h0 : cut g s ≤ (i 0).val) (h1 : (i 0).val < cut g (s + 1)) :
    Y (F := Ideal) fs fq fw g (num g) i = dotv fs fq fw s (i 0).val (i 1).val :=
  iterseg_ap fs fq fw g _ i h0 h1 _ le_rfl (exs_cover g 16 s hs (by omega))

end Cert.KernelIdeal.Hand

end
-- ==== Proof.QReal.lean ====
/-
  The quantiser over the reals: the scale is a power of two, the clip never acts on finite numbers, and the cast is the
  identity, so that quantising and scaling back gives the number itself.
-/
module

public import Idealize.ShloMosaic.Lib.Pointwise

@[expose] public section

noncomputable section

namespace Cert.Hand

open Idealize.ShloMosaic

/-- The word of the float whose exponent field is `n` and whose significand field is zero. -/
def ew (n : ℕ) : BitVec 32 := BitVec.ofNat 32 n <<< 23

private theorem tab_ew : ∀ n : Fin 256, (ew n.val).extractLsb' 31 1 = 0#1 ∧ ((ew n.val).extractLsb' 23 8).toNat = n.val ∧
    ((ew n.val).extractLsb' 0 23).toNat = 0 := by decide +kernel

theorem ew_zero : Ideal.ofBits .f32 (ew 0) = 0 := by
  obtain ⟨h1, h2, h3⟩ := tab_ew 0
  simp only [Fin.val_zero] at h1 h2 h3
  simp [Ideal.ofBits, Ideal.ieee, h1, h2, h3]

theorem ew_pow {n : ℕ} (h0 : 0 < n) (h : n < 255) : Ideal.ofBits .f32 (ew n) = (((2 : ℝ) ^ ((n : ℤ) - 127) : ℝ) : EReal) := by
  obtain ⟨h1, h2, h3⟩ := tab_ew ⟨n, by omega⟩
  have e1 : ¬ n = 2 ^ 8 - 1 := by norm_num; omega
  have e2 : ¬ n = 0 := by omega
  have e3 : (n : ℤ) - 127 = 23 + ((n : ℤ) - 127 - 23) := by ring
  simp [Ideal.ofBits, Ideal.ieee, h1, h2, h3, e2, -EReal.coe_mul]
  rw [if_neg (by omega), e3, zpow_add₀ (by norm_num)]
  norm_num

theorem ofBits_rcp448 : Ideal.ofBits .f32 0x3B124925#32 = ((9586981 / 2 ^ 32 : ℝ) : EReal) := by
  simp [Ideal.ofBits, Ideal.ieee, -EReal.coe_mul]; norm_num
theorem ofBits_big : Ideal.ofBits .f32 0x7F7F0000#32 = ((255 * 2 ^ 120 : ℝ) : EReal) := by
  simp [Ideal.ofBits, Ideal.ieee, -EReal.coe_mul]; norm_num
theorem ofBits_448 : Ideal.ofBits .f32 0x43E00000#32 = ((448 : ℝ) : EReal) := by
  simp [Ideal.ofBits, Ideal.ieee, -EReal.coe_mul]; norm_num
theorem ofBits_neg448 : Ideal.ofBits .f32 0xC3E00000#32 = ((-448 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_ninf : Ideal.ofBits .f32 0xFF800000#32 = ⊥ := by
  simp [Ideal.ofBits, Ideal.ieee]

/-- Scaling, clipping and scaling back change nothing where the clip does not act. -/
theorem clip_back (x s i : ℝ) (h : i * s = 1) (hl : -448 ≤ x * i) (hu : x * i ≤ 448) :
    min (Ideal.ofBits .f32 0x43E00000#32) (max (Ideal.ofBits .f32 0xC3E00000#32) ((x : EReal) * (i : EReal))) * (s : EReal) = (x : EReal) := by
  rw [ofBits_448, ofBits_neg448, ← EReal.coe_mul, max_eq_right (EReal.coe_le_coe_iff.2 hl), min_eq_right (EReal.coe_le_coe_iff.2 hu),
    ← EReal.coe_mul, mul_assoc, h, mul_one]

/-- The greatest magnitude of a row bounds each, and is finite when all are. -/
theorem amax_spec {n : ℕ} (f : Fin n → EReal) (k : Fin n) (hf : ∀ k, max (f k) (-(f k)) ≤ Ideal.ofBits .f32 0x7F7F0000#32) :
    ∃ a x : ℝ, Finset.univ.fold max (Ideal.ofBits .f32 0xFF800000#32) (fun k => FloatOps.absf (F := Ideal) (φ := .f32) (f k)) = (a : EReal) ∧
      f k = (x : EReal) ∧ |x| ≤ a ∧ a ≤ 255 * 2 ^ 120 := by
  have hk : max (f k) (-(f k)) ≤ ((255 * 2 ^ 120 : ℝ) : EReal) := ofBits_big ▸ hf k
  have e : Finset.univ.fold max (Ideal.ofBits .f32 0xFF800000#32) (fun k => FloatOps.absf (F := Ideal) (φ := .f32) (f k)) =
      Finset.univ.sup (fun k => max (f k) (-(f k))) := by
    rw [ofBits_ninf]; rfl
  have hle : max (f k) (-(f k)) ≤ Finset.univ.sup (fun k => max (f k) (-(f k))) := Finset.le_sup (f := fun k => max (f k) (-(f k))) (Finset.mem_univ k)
  have hge : Finset.univ.sup (fun k => max (f k) (-(f k))) ≤ ((255 * 2 ^ 120 : ℝ) : EReal) :=
    Finset.sup_le fun k _ => ofBits_big ▸ hf k
  rw [e]
  generalize Finset.univ.sup (fun k => max (f k) (-(f k))) = A at hle hge
  generalize f k = X at hk hle
  have hX1 : X ≤ A := (le_max_left _ _).trans hle
  have hX2 : -X ≤ A := (le_max_right _ _).trans hle
  induction X with
  | bot => simp at hX2; rw [hX2] at hge; exact absurd hge (not_le.2 (EReal.coe_lt_top _))
  | top => simp at hX1; rw [hX1] at hge; exact absurd hge (not_le.2 (EReal.coe_lt_top _))
  | coe x =>
    induction A with
    | bot => simp at hX1
    | top => exact absurd hge (not_le.2 (EReal.coe_lt_top _))
    | coe a =>
      rw [← EReal.coe_neg] at hX2
      exact ⟨a, x, rfl, rfl, abs_le.2 ⟨by have := EReal.coe_le_coe_iff.1 hX2; linarith, EReal.coe_le_coe_iff.1 hX1⟩, EReal.coe_le_coe_iff.1 hge⟩

/-! ### The kernel's search for the exponent -/

/-- One step of the search: the exponent `b` grows by `s` where the float of exponent `b + s` is not above `v`. -/
def st (v : EReal) (s b : BitVec 32) : BitVec 32 :=
  Scalar.select (FloatOps.cmpf (F := Ideal) (φ := .f32) .oge v (Ideal.ofBits .f32 (IntOp.shli .vector (IntOp.addi b s) 23#32))) (IntOp.addi b s) b

/-- The exponent found so far is `n`, a multiple of the gap `g`, with `v` between the powers at `n` and at `n + g`. -/
def Found (v : EReal) (g n : ℕ) : Prop :=
  g ∣ n ∧ n + g ≤ 256 ∧ (n = 0 ∨ Ideal.ofBits .f32 (ew n) ≤ v) ∧ (n + g = 256 ∨ v < Ideal.ofBits .f32 (ew (n + g)))

theorem shli_ew (n : ℕ) : IntOp.shli .vector (BitVec.ofNat 32 n) 23#32 = ew n := by
  unfold ew; rfl

theorem st_found {v : EReal} {s n : ℕ} (h : Found v (2 * s) n) (hs : 0 < s) :
    ∃ n', st v (BitVec.ofNat 32 s) (BitVec.ofNat 32 n) = BitVec.ofNat 32 n' ∧ Found v s n' := by
  obtain ⟨h1, h2, h3, h4⟩ := h
  unfold st
  have ea : IntOp.addi (BitVec.ofNat 32 n) (BitVec.ofNat 32 s) = BitVec.ofNat 32 (n + s) := by
    unfold IntOp.addi; rw [← BitVec.ofNat_add]
  rw [ea, shli_ew]
  obtain ⟨q, rfl⟩ := h1
  by_cases hc : Ideal.ofBits .f32 (ew (2 * s * q + s)) ≤ v
  · refine ⟨2 * s * q + s, ?_, ⟨2 * q + 1, by ring⟩, by omega, .inr hc, ?_⟩
    · exact if_pos (by simp [FloatOps.cmpf, Ideal.cmp, hc])
    · rcases h4 with h4 | h4
      · left; omega
      · right; convert h4 using 3; ring
  · refine ⟨2 * s * q, ?_, ⟨2 * q, by ring⟩, by omega, h3, .inr (not_le.1 hc)⟩
    exact if_neg (by simp [FloatOps.cmpf, Ideal.cmp, hc])

/-- The eight steps of the search. -/
def search (v : EReal) : BitVec 32 :=
  st v 1#32 (st v 2#32 (st v 4#32 (st v 8#32 (st v 16#32 (st v 32#32 (st v 64#32 (st v 128#32 0#32)))))))

theorem search_found (v : EReal) : ∃ n, search v = BitVec.ofNat 32 n ∧ Found v 1 n := by
  have f0 : Found v (2 * 128) 0 := ⟨⟨0, rfl⟩, by norm_num, .inl rfl, .inl rfl⟩
  obtain ⟨n1, e1, f1⟩ := st_found f0 (by norm_num)
  obtain ⟨n2, e2, f2⟩ := st_found (s := 64) f1 (by norm_num)
  obtain ⟨n3, e3, f3⟩ := st_found (s := 32) f2 (by norm_num)
  obtain ⟨n4, e4, f4⟩ := st_found (s := 16) f3 (by norm_num)
  obtain ⟨n5, e5, f5⟩ := st_found (s := 8) f4 (by norm_num)
  obtain ⟨n6, e6, f6⟩ := st_found (s := 4) f5 (by norm_num)
  obtain ⟨n7, e7, f7⟩ := st_found (s := 2) f6 (by norm_num)
  obtain ⟨n8, e8, f8⟩ := st_found (s := 1) f7 (by norm_num)
  refine ⟨n8, ?_, f8⟩
  unfold search
  rw [e1, e2, e3, e4, e5, e6, e7, e8]

/-- The kernel's exponent: zero where the search found none, else the found one without its bias. -/
def expo (b : BitVec 32) : BitVec 32 :=
  Scalar.select (IntOp.ori (IntOp.cmpi .eq b 0#32) (IntOp.cmpi .eq b 255#32)) 0#32 (IntOp.subi b 126#32)

/-- The kernel's scale and its inverse, of the word the search found. -/
def scl (b : BitVec 32) : EReal := Ideal.ofBits .f32 (IntOp.shli .vector (IntOp.addi (expo b) 127#32) 23#32)
def isc (b : BitVec 32) : EReal := Ideal.ofBits .f32 (IntOp.shli .vector (IntOp.subi 127#32 (expo b)) 23#32)

private theorem tab_expo : ∀ n : Fin 253, 0 < n.val → IntOp.addi (expo (BitVec.ofNat 32 n.val)) 127#32 = BitVec.ofNat 32 (n.val + 1) ∧
    IntOp.subi 127#32 (expo (BitVec.ofNat 32 n.val)) = BitVec.ofNat 32 (253 - n.val) := by decide +kernel

theorem scl_eq {n : ℕ} (h0 : 0 < n) (h : n < 253) : scl (BitVec.ofNat 32 n) = (((2 : ℝ) ^ ((n : ℤ) - 126) : ℝ) : EReal) := by
  unfold scl
  rw [(tab_expo ⟨n, h⟩ h0).1, shli_ew, ew_pow (by omega) (by omega)]
  congr 2; push_cast; ring
theorem inv_eq {n : ℕ} (h0 : 0 < n) (h : n < 253) : isc (BitVec.ofNat 32 n) = (((2 : ℝ) ^ (126 - (n : ℤ)) : ℝ) : EReal) := by
  unfold isc
  rw [(tab_expo ⟨n, h⟩ h0).2, shli_ew, ew_pow (by omega) (by omega)]
  congr 2; push_cast [Nat.cast_sub (show n ≤ 253 by omega)]; ring
theorem scl_zero : scl (BitVec.ofNat 32 0) = ((1 : ℝ) : EReal) := by
  unfold scl
  rw [show IntOp.addi (expo (BitVec.ofNat 32 0)) 127#32 = BitVec.ofNat 32 127 by decide +kernel, shli_ew, ew_pow (by omega) (by omega)]
  norm_num
theorem inv_zero : isc (BitVec.ofNat 32 0) = ((1 : ℝ) : EReal) := by
  unfold isc
  rw [show IntOp.subi 127#32 (expo (BitVec.ofNat 32 0)) = BitVec.ofNat 32 127 by decide +kernel, shli_ew, ew_pow (by omega) (by omega)]
  norm_num

/-- The magnitudes are at most 448 times the row's quotient, since the constant for one over 448 is rounded up. -/
theorem le_448 {a x : ℝ} (hx : |x| ≤ a) : |x| ≤ 448 * (a * (9586981 / 2 ^ 32)) := by
  have : 0 ≤ a := (abs_nonneg x).trans hx
  refine hx.trans ?_
  norm_num
  linarith

/-- The kernel's quantiser is the identity on a row of finite numbers. -/
theorem kernel_quant {a x : ℝ} (hx : |x| ≤ a) (ha : a ≤ 255 * 2 ^ 120) :
    min (Ideal.ofBits .f32 0x43E00000#32) (max (Ideal.ofBits .f32 0xC3E00000#32) ((x : EReal) * isc (search ((a : EReal) * Ideal.ofBits .f32 0x3B124925#32)))) *
      scl (search ((a : EReal) * Ideal.ofBits .f32 0x3B124925#32)) = (x : EReal) := by
  rw [ofBits_rcp448, ← EReal.coe_mul]
  obtain ⟨n, e, -, h2, h3, h4⟩ := search_found ((a * (9586981 / 2 ^ 32) : ℝ) : EReal)
  rw [e]
  have hv : |x| ≤ 448 * (a * (9586981 / 2 ^ 32)) := le_448 hx
  have hv2 : a * (9586981 / 2 ^ 32) < 2 ^ 120 := by
    norm_num at ha ⊢; linarith
  generalize a * (9586981 / 2 ^ 32 : ℝ) = v at *
  have hn : n < 250 := by
    by_contra hc
    rcases h3 with h3 | h3
    · omega
    · by_cases hn : n = 255
      · subst hn
        have : Ideal.ofBits .f32 (ew 255) = ⊤ := by
          obtain ⟨h1, h2, h3⟩ := tab_ew 255
          simp only [show ((255 : Fin 256) : ℕ) = 255 from rfl] at h1 h2 h3
          simp [Ideal.ofBits, Ideal.ieee, h1, h2, h3]
        rw [this] at h3
        exact absurd h3 (not_le.2 (EReal.coe_lt_top _))
      · rw [ew_pow (by omega) (by omega), EReal.coe_le_coe_iff] at h3
        have : (2 : ℝ) ^ (120 : ℤ) ≤ 2 ^ ((n : ℤ) - 127) := zpow_le_zpow_right₀ (by norm_num) (by omega)
        have e120 : (2 : ℝ) ^ (120 : ℤ) = 2 ^ 120 := by norm_cast
        rw [e120] at this
        linarith
  have h4 : v < 2 ^ ((n : ℤ) - 126) := by
    rcases h4 with h4 | h4
    · omega
    · rw [ew_pow (by omega) (by omega), EReal.coe_lt_coe_iff] at h4
      convert h4 using 2; push_cast; ring
  by_cases h0 : n = 0
  · subst h0
    rw [scl_zero, inv_zero]
    have hs : (2 : ℝ) ^ (((0 : ℕ) : ℤ) - 126) ≤ 1 := by
      rw [show (1 : ℝ) = 2 ^ (0 : ℤ) by norm_num]
      exact zpow_le_zpow_right₀ (by norm_num) (by norm_num)
    have := abs_le.1 hv
    exact clip_back x 1 1 (by norm_num) (by linarith) (by linarith)
  · rw [scl_eq (by omega) (by omega), inv_eq (by omega) (by omega)]
    have hp : (0 : ℝ) < 2 ^ (126 - (n : ℤ)) := by positivity
    have hm : (2 : ℝ) ^ (126 - (n : ℤ)) * 2 ^ ((n : ℤ) - 126) = 1 := by
      rw [← zpow_add₀ (by norm_num), show 126 - (n : ℤ) + ((n : ℤ) - 126) = 0 by ring, zpow_zero]
    have hb : |x * 2 ^ (126 - (n : ℤ))| ≤ 448 := by
      rw [abs_mul, abs_of_pos hp]
      calc |x| * 2 ^ (126 - (n : ℤ)) ≤ 448 * 2 ^ ((n : ℤ) - 126) * 2 ^ (126 - (n : ℤ)) :=
            mul_le_mul_of_nonneg_right (by linarith) hp.le
        _ = 448 := by rw [mul_assoc, mul_comm ((2 : ℝ) ^ ((n : ℤ) - 126)), hm, mul_one]
    have := abs_le.1 hb
    exact clip_back x _ _ hm this.1 this.2

/-- The reference's exponent, of the row's greatest magnitude. -/
def rexp (a : EReal) : EReal :=
  if a = 0 then 0
  else Ideal.liftRound Int.floor (Ideal.div (Ideal.log (a * Ideal.ofBits .f32 0x3B124925#32)) (Ideal.log (Ideal.ofBits .f32 0x40000000#32))) + 1

/-- The reference's quantiser is the identity on a row of finite numbers. -/
theorem reference_quant {a x : ℝ} (hx : |x| ≤ a) :
    min (Ideal.ofBits .f32 0x43E00000#32) (max (Ideal.ofBits .f32 0xC3E00000#32) ((x : EReal) * FloatOps.exp2 (F := Ideal) (φ := .f32) (0 - rexp (a : EReal)))) *
      FloatOps.exp2 (F := Ideal) (φ := .f32) (rexp (a : EReal)) = (x : EReal) := by
  have hv : |x| ≤ 448 * (a * (9586981 / 2 ^ 32)) := le_448 hx
  have hx0 := abs_nonneg x
  by_cases h0 : a = 0
  · have hx1 : x = 0 := by rw [h0] at hx; exact abs_eq_zero.1 (le_antisymm hx hx0)
    have e : rexp (a : EReal) = ((0 : ℝ) : EReal) := by rw [h0]; exact if_pos rfl
    rw [e, show (0 : EReal) - ((0 : ℝ) : EReal) = ((0 : ℝ) : EReal) by simp]
    show min _ (max _ ((x : EReal) * ((Real.rpow 2 0 : ℝ) : EReal))) * ((Real.rpow 2 0 : ℝ) : EReal) = _
    have e1 : Real.rpow 2 0 = 1 := Real.rpow_zero 2
    rw [e1, hx1]
    exact clip_back 0 1 1 (by norm_num) (by norm_num) (by norm_num)
  · have ha : 0 < a := lt_of_le_of_ne (hx0.trans hx) (Ne.symm h0)
    have hvp : 0 < a * (9586981 / 2 ^ 32 : ℝ) := by positivity
    have hl2 : 0 < Real.log 2 := Real.log_pos (by norm_num)
    have e : rexp (a : EReal) = (((⌊Real.log (a * (9586981 / 2 ^ 32)) / Real.log 2⌋ + 1 : ℤ) : ℝ) : EReal) := by
      unfold rexp
      rw [if_neg (by exact_mod_cast h0), ofBits_rcp448, ofBits_two, ← EReal.coe_mul]
      have el1 : Ideal.log ((a * (9586981 / 2 ^ 32) : ℝ) : EReal) = ((Real.log (a * (9586981 / 2 ^ 32)) : ℝ) : EReal) := if_neg (not_le.2 hvp)
      have el2 : Ideal.log ((2 : ℝ) : EReal) = ((Real.log 2 : ℝ) : EReal) := if_neg (by norm_num)
      rw [el1, el2, Ideal.div_coe hl2.ne', ← EReal.coe_mul, mul_one_div]
      show (((⌊Real.log (a * (9586981 / 2 ^ 32)) / Real.log 2⌋ : ℤ) : ℝ) : EReal) + 1 = _
      push_cast
      rfl
    rw [e]
    generalize a * (9586981 / 2 ^ 32 : ℝ) = v at *
    generalize hz : (⌊Real.log v / Real.log 2⌋ + 1 : ℤ) = z
    have hlt : v < 2 ^ z := by
      have h1 : Real.log v / Real.log 2 < z := by rw [← hz]; push_cast; exact Int.lt_floor_add_one _
      rw [div_lt_iff₀ hl2] at h1
      have h2 := (Real.log_lt_iff_lt_exp hvp).1 h1
      rwa [mul_comm, Real.exp_mul, Real.exp_log (by norm_num), Real.rpow_intCast] at h2
    rw [zero_sub, ← EReal.coe_neg]
    show min _ (max _ ((x : EReal) * ((Real.rpow 2 (-(z : ℝ)) : ℝ) : EReal))) * ((Real.rpow 2 (z : ℝ) : ℝ) : EReal) = _
    have e1 : Real.rpow 2 (z : ℝ) = 2 ^ z := Real.rpow_intCast 2 z
    have e2 : Real.rpow 2 (-(z : ℝ)) = 2 ^ (-z) := by
      have := Real.rpow_intCast 2 (-z)
      rw [← this]; push_cast; rfl
    rw [e1, e2]
    have hp : (0 : ℝ) < 2 ^ (-z) := by positivity
    have hm : (2 : ℝ) ^ (-z) * 2 ^ z = 1 := by
      rw [← zpow_add₀ (by norm_num), show -z + z = 0 by ring, zpow_zero]
    have hb : |x * 2 ^ (-z)| ≤ 448 := by
      rw [abs_mul, abs_of_pos hp]
      calc |x| * 2 ^ (-z) ≤ 448 * 2 ^ z * 2 ^ (-z) := mul_le_mul_of_nonneg_right (by linarith) hp.le
        _ = 448 := by rw [mul_assoc, mul_comm ((2 : ℝ) ^ z), hm, mul_one]
    have := abs_le.1 hb
    exact clip_back x _ _ hm this.1 this.2

end Cert.Hand

end
-- ==== Proof.VQuant.lean ====
/-
  The kernel's quantiser over the reals: the tile it leaves holds the tokens themselves, where those are finite.
-/
module

public import proofs.«01_k».proof.Proof.VBlk
public import proofs.«01_k».proof.Proof.QReal

@[expose] public section

set_option maxRecDepth 16384

noncomputable section

namespace Cert.KernelIdeal.Hand

open Cert.KernelIdeal Cert.KernelIdeal.Gen Cert.Hand
open Idealize.ShloMosaic

/-- One step of the search on the sixteen rows of a tile. -/
def vst (V : FVec Ideal S16x1 .f32) (s : BitVec 32) (b : IVec S16x1 32) : IVec S16x1 32 :=
  select (cmpf .oge V (bitcastToFloat .f32 (shli (addi b (broadcast S16x1 s)) (broadcast S16x1 23#32)))) (addi b (broadcast S16x1 s)) b

theorem vst_ap (V : FVec Ideal S16x1 .f32) (s : BitVec 32) (b : IVec S16x1 32) (j : S16x1.Idx) : vst V s b j = st (V j) s (b j) := rfl

theorem pay13_eq (v : Vec Ideal S16x128 .bf16) :
    k0_pay13 v = vst (k0_pay12 v) 16#32 (vst (k0_pay12 v) 32#32 (vst (k0_pay12 v) 64#32 (vst (k0_pay12 v) 128#32 (broadcast S16x1 0#32)))) := by
  unfold k0_pay13
  generalize k0_pay12 v = V
  dsimp only [vst]

theorem pay16_eq (V : FVec Ideal S16x1 .f32) (b : IVec S16x1 32) :
    k0_pay16 V b (addi b (broadcast S16x1 8#32)) (bitcastToFloat .f32 (shli (addi b (broadcast S16x1 8#32)) (broadcast S16x1 23#32))) =
      fun j => expo (vst V 1#32 (vst V 2#32 (vst V 4#32 (vst V 8#32 b))) j) := by
  have e : ∀ c : IVec S16x1 32, (select (ori (cmpi .eq c (broadcast S16x1 0#32)) (cmpi .eq c (broadcast S16x1 255#32))) (broadcast S16x1 0#32)
      (subi c (broadcast S16x1 126#32)) : IVec S16x1 32) = fun j => expo (c j) := fun _ => rfl
  rw [← e]
  unfold k0_pay16
  dsimp only [vst]

theorem pay16_ap (v : Vec Ideal S16x128 .bf16) (j : S16x1.Idx) :
    k0_pay16 (k0_pay12 v) (k0_pay13 v) (k0_pay14 v) (k0_pay15 v) j = expo (search (k0_pay12 v j)) := by
  have e := congrFun (pay16_eq (k0_pay12 v) (k0_pay13 v)) j
  refine Eq.trans ?_ (e.trans ?_)
  · unfold k0_pay15 k0_pay14
    rfl
  · unfold search
    rw [vst_ap, vst_ap, vst_ap, vst_ap, pay13_eq, vst_ap, vst_ap, vst_ap, vst_ap]
    rfl

theorem pay12_ap (v : Vec Ideal S16x128 .bf16) (j : S16x1.Idx) :
    k0_pay12 v j = Finset.univ.fold max (Ideal.ofBits .f32 0xFF800000#32) (fun x => FloatOps.absf (F := Ideal) (φ := .f32) (v (ix2 (j 0) x))) *
      Ideal.ofBits .f32 0x3B124925#32 := by
  pointwise [k0_pay12, k0_pay11]
  try rfl

theorem pay17_ap (v : Vec Ideal S16x128 .bf16) (j : S16x1.Idx) :
    k0_pay17 (k0_pay12 v) (k0_pay13 v) (k0_pay14 v) (k0_pay15 v) j = scl (search (k0_pay12 v j)) := by
  unfold k0_pay17 scl
  rw [← pay16_ap]
  rfl

theorem pay18_ap (v : Vec Ideal S16x128 .bf16) (j : S16x128.Idx) :
    k0_pay18 (k0_pay11 v) (k0_pay12 v) (k0_pay13 v) (k0_pay14 v) (k0_pay15 v) j = v j * isc (search (k0_pay12 v (ix2 (j 0) 0))) := by
  unfold k0_pay18 isc k0_pay11
  rw [← pay16_ap]
  generalize k0_pay16 (k0_pay12 v) (k0_pay13 v) (k0_pay14 v) (k0_pay15 v) = e
  pointwise
  try rfl

theorem qt_ap (v : Vec Ideal S16x128 .bf16) (j : S16x128.Idx) :
    qt v j = min (Ideal.ofBits .f32 0x43E00000#32) (max (Ideal.ofBits .f32 0xC3E00000#32) (v j * isc (search (k0_pay12 v (ix2 (j 0) 0))))) *
      scl (search (k0_pay12 v (ix2 (j 0) 0))) := by
  unfold qt
  rw [← pay18_ap, ← pay17_ap]
  generalize k0_pay18 (k0_pay11 v) (k0_pay12 v) (k0_pay13 v) (k0_pay14 v) (k0_pay15 v) = a
  generalize k0_pay17 (k0_pay12 v) (k0_pay13 v) (k0_pay14 v) (k0_pay15 v) = b
  pointwise [k0_pay2]

/-- The quantised tile is the tile. -/
theorem qt_id (v : Vec Ideal S16x128 .bf16) (hf : ∀ i, max (v i) (-(v i)) ≤ Ideal.ofBits .f32 0x7F7F0000#32) (j : S16x128.Idx) : qt v j = v j := by
  rw [qt_ap, pay12_ap]
  obtain ⟨a, x, ha, hx, h1, h2⟩ := amax_spec (fun k : Fin 128 => v (ix2 (j 0) k)) (j 1) (fun k => hf _)
  have hj : v j = x := by
    rw [← hx]
    congr 1
    funext a
    fin_cases a <;> rfl
  rw [hj]
  refine Eq.trans ?_ (kernel_quant h1 h2)
  rw [← ha]
  rfl

/-- The quantised tokens are the tokens. -/
theorem XQ_id (fx : S128x5120.Idx → EReal) (hf : ∀ i, max (fx i) (-(fx i)) ≤ Ideal.ofBits .f32 0x7F7F0000#32) : XQ (F := Ideal) fx = fx := by
  funext i
  unfold XQ
  rw [qt_id (rd pos_S128x5120 S16x128.size fx _) (fun i => hf _)]
  unfold rd
  congr 1
  funext a
  apply Fin.ext
  have h0 : (i 0).val < 128 := (i 0).isLt
  have h1 : (i 1).val < 5120 := (i 1).isLt
  fin_cases a
  · show (16 * ((i 0).val / 16) + (i 0).val % 16) % 128 = (i 0).val
    omega
  · show (128 * ((i 1).val / 128) + (i 1).val % 128) % 5120 = (i 1).val
    omega

end Cert.KernelIdeal.Hand

end
-- ==== Proof.RQuant.lean ====
/-
  The reference's quantiser over the reals: what it leaves of a finite token block is the block, regrouped by channel block.
-/
module

public import proofs.«01_k».proof.Proof.Gen.ReferenceIdeal.Frame
public import proofs.«01_k».proof.Proof.QReal

@[expose] public section

set_option maxRecDepth 16384

noncomputable section

namespace Cert.ReferenceIdeal.Hand

open Cert.ReferenceIdeal Cert.ReferenceIdeal.Gen Cert.Hand
open Idealize.ShloMosaic

/-- The channel that the entry `j` of a regrouped block stands for. -/
abbrev chan (j : S128x40x128.Idx) (x : Fin 128) : S128x5120.Idx :=
  ix2 (j 0) ⟨(j 1).val * 128 + x.val, by have h : (j 1).val < 40 := (j 1).isLt; have hx := x.isLt; show _ < 5120; omega⟩

theorem pay1_ap (v : Vec Ideal S128x5120 .bf16) (hv : ∀ i, max (v i) (-(v i)) ≤ Ideal.ofBits .f32 0x7F7F0000#32) (j : S128x40x128.Idx) :
    k0_pay1 v j = v (chan j (j 2)) := by
  obtain ⟨a, x, ha, hx, hxa, -⟩ := amax_spec (fun x : Fin 128 => v (chan j x)) (j 2) (fun k => hv _)
  have hx : v (chan j (j 2)) = ↑x := hx
  have e := reference_quant hxa
  rw [← hx, ← ha] at e
  refine Eq.trans ?_ e
  unfold rexp
  pointwise [k0_pay1]
  try rfl

theorem pay2_ap (v : Vec Ideal S16x1536x5120 .fp8e4m3) : k0_pay2 v = v := rfl

end Cert.ReferenceIdeal.Hand

end
-- ==== Proof.RReg.lean ====
/-
  The two arrays that the reference's region of casts leaves: the quantised tokens and the widened weights.
-/
module

public import proofs.«01_k».proof.Proof.Gen.ReferenceIdeal.Run
public import Idealize.ShloMosaic.Lib.Pipeline.Value

@[expose] public section

set_option maxRecDepth 16384

noncomputable section

namespace Cert.ReferenceIdeal.Hand

open Cert.ReferenceIdeal Cert.ReferenceIdeal.Gen
open Idealize.ShloMosaic Idealize.ShloMosaic.TcCoe

variable {F : FTy → Type} [FloatOps F]
variable (m : (ℓ : Loc nD τ sig) → Buf (Elt F) ℓ)

/-- The one point of the region. -/
def t₀ : Fin cfg0.N := ⟨0, by decide⟩

theorem iblk_0 (c : Dev nD) : iblk m c 0 t₀ = m ((c.tc : Thread nD τ).loc main_arg0) := by
  have hz : (fun a => (win0_0.index t₀) a * main_arg0.ty.shape.size a) = fun _ => 0 := funext fun a => by fin_cases a <;> decide
  exact Memref.read_access_unit_zero (Elt F) main_arg0 hz (fun a => by fin_cases a <;> decide) _

theorem iblk_1 (c : Dev nD) : iblk m c 1 t₀ = m ((c.tc : Thread nD τ).loc main_arg2) := by
  have hz : (fun a => (win0_1.index t₀) a * main_arg2.ty.shape.size a) = fun _ => 0 := funext fun a => by fin_cases a <;> decide
  exact Memref.read_access_unit_zero (Elt F) main_arg2 hz (fun a => by fin_cases a <;> decide) _

theorem out2_eq (x0 : Vec F S128x5120 .bf16) (x1 : Vec F S16x1536x5120 .fp8e4m3) : out0_2 x0 x1 = k0_pay1 x0 := by
  unfold out0_2
  refine (View.canon_unit_zero (funext fun a => by fin_cases a <;> rfl) _ _).trans ?_
  exact congrArg k0_pay1 (View.ld_unit_zero (funext fun a => by fin_cases a <;> rfl) _ _)

theorem out3_eq (x0 : Vec F S128x5120 .bf16) (x1 : Vec F S16x1536x5120 .fp8e4m3) : out0_3 x0 x1 = k0_pay2 x1 := by
  unfold out0_3
  refine (View.canon_unit_zero (funext fun a => by fin_cases a <;> rfl) _ _).trans ?_
  exact congrArg k0_pay2 (View.ld_unit_zero (funext fun a => by fin_cases a <;> rfl) _ _)

theorem reg0 (c : Dev nD) : Value.reg_main_v0_0 m c = k0_pay1 (m ((c.tc : Thread nD τ).loc main_arg0)) := by
  unfold Value.reg_main_v0_0
  have ho : ((cfg0.win (2 : Fin 4)).blk t₀).view.read (Elt F) ((dats (F := F) m 0 c).arrAt (2 : Fin 4) cfg0.N) = (dats (F := F) m 0 c).flushed (2 : Fin 4) t₀ := by
    rw [show cfg0.N = (t₀ : Fin cfg0.N).val + 1 from rfl, (dats (F := F) m 0 c).arrAt_succ (2 : Fin 4) t₀]
    rw [show (cfg0.win (2 : Fin 4)).flush t₀ = true from by decide, if_pos rfl]
    exact View.read_write_univ _ _
  have hz2 : (fun a => (win0_2.index t₀) a * main_v0_0.ty.shape.size a) = fun _ => 0 := funext fun a => by fin_cases a <;> decide
  have hr2 := fun f => Memref.read_access_unit_zero (Elt F) main_v0_0 hz2 (fun a => by fin_cases a <;> decide) f
  rw [hr2] at ho
  rw [ho]
  refine Eq.trans (show _ = (dats m 0 c).after 2 t₀ from rfl) ?_
  rw [after0_2, out2_eq, iblk_0]

theorem reg1 (c : Dev nD) : Value.reg_main_v0_1 m c = k0_pay2 (m ((c.tc : Thread nD τ).loc main_arg2)) := by
  unfold Value.reg_main_v0_1
  have ho : ((cfg0.win (3 : Fin 4)).blk t₀).view.read (Elt F) ((dats (F := F) m 0 c).arrAt (3 : Fin 4) cfg0.N) = (dats (F := F) m 0 c).flushed (3 : Fin 4) t₀ := by
    rw [show cfg0.N = (t₀ : Fin cfg0.N).val + 1 from rfl, (dats (F := F) m 0 c).arrAt_succ (3 : Fin 4) t₀]
    rw [show (cfg0.win (3 : Fin 4)).flush t₀ = true from by decide, if_pos rfl]
    exact View.read_write_univ _ _
  have hz2 : (fun a => (win0_3.index t₀) a * main_v0_1.ty.shape.size a) = fun _ => 0 := funext fun a => by fin_cases a <;> decide
  have hr2 := fun f => Memref.read_access_unit_zero (Elt F) main_v0_1 hz2 (fun a => by fin_cases a <;> decide) f
  rw [hr2] at ho
  rw [ho]
  refine Eq.trans (show _ = (dats m 0 c).after 3 t₀ from rfl) ?_
  rw [after0_3, out3_eq, iblk_1]

end Cert.ReferenceIdeal.Hand

end
-- ==== Proof.RRoute.lean ====
/-
  The reference's routing: the expert number it computes for a token, by counting the running sums that are at most the
  token's number, is the one whose span holds the token.
-/
module

public import proofs.«01_k».proof.Proof.Gen.ReferenceIdeal.Read
public import proofs.«01_k».proof.Proof.Scan
public import Idealize.ShloMosaic.Lib.Routing.Ops

@[expose] public section

set_option maxRecDepth 16384

noncomputable section

namespace Cert.ReferenceIdeal.Hand

open Cert.ReferenceIdeal Cert.ReferenceIdeal.Gen Cert.ReferenceIdeal.Read Cert.Hand
open Idealize.ShloMosaic Idealize.ShloMosaic.Routing Idealize.ShloMosaic.ValueIdx

/-! ## Over the natural numbers -/

/-- The sum of the first `k` group sizes. -/
def pre (g : ℕ → ℕ) (k : ℕ) : ℕ := ((List.range k).map g).sum

theorem pre_succ (g : ℕ → ℕ) (k : ℕ) : pre g (k + 1) = pre g k + g k := by
  unfold pre
  rw [List.range_succ, List.map_append, List.sum_append]
  simp

theorem pre_mono (g : ℕ → ℕ) {j k : ℕ} (h : j ≤ k) : pre g j ≤ pre g k := by
  induction k with
  | zero => rw [Nat.le_zero.1 h]
  | succ k ih =>
    rw [pre_succ]
    rcases Nat.lt_or_ge j (k + 1) with h' | h'
    · have := ih (by omega)
      omega
    · rw [show j = k + 1 by omega, pre_succ]

theorem pre_lt (g : ℕ → ℕ) (hg : ∀ k < 16, g k < 2 ^ 27) : ∀ k ≤ 16, pre g k ≤ k * (2 ^ 27 - 1) := by
  intro k
  induction k with
  | zero => intro _; simp [pre]
  | succ k ih =>
    intro h
    rw [pre_succ]
    have := ih (by omega)
    have := hg k (by omega)
    omega

theorem cut_pre (g : ℕ → ℕ) : ∀ k ≤ 15, cut g k = min (pre g k) 128 := by
  intro k
  induction k with
  | zero => intro _; simp [cut, pre]
  | succ k ih =>
    intro h
    rw [pre_succ]
    simp only [cut]
    rw [if_pos (by omega), ih (by omega)]
    omega

theorem count_expert (g : ℕ → ℕ) {e t : ℕ} (he : e < 16) (ht : t < 128) (h0 : cut g e ≤ t) (h1 : t < cut g (e + 1)) :
    min (Nat.count (fun q => pre g (q + 1) ≤ t) 16) 15 = e := by
  have hl : pre g e ≤ t := by
    rw [cut_pre g e (by omega)] at h0
    omega
  have hr : e < 15 → t < pre g (e + 1) := fun h => by
    rw [cut_pre g (e + 1) (by omega)] at h1
    omega
  have hc : ∀ n ≤ 15, Nat.count (fun q => pre g (q + 1) ≤ t) n = min n e := by
    intro n
    induction n with
    | zero => intro _; simp
    | succ n ih =>
      intro h
      rw [Nat.count_succ, ih (by omega)]
      rcases Nat.lt_or_ge n e with hn | hn
      · rw [if_pos ((pre_mono g (show n + 1 ≤ e by omega)).trans hl)]
        omega
      · have := hr (by omega)
        have := pre_mono g (show e + 1 ≤ n + 1 by omega)
        rw [if_neg (by omega)]
        omega
  rw [Nat.count_succ, hc 15 (by omega)]
  rcases Nat.lt_or_ge e 15 with h | h
  · have := hr h
    have := pre_mono g (show e + 1 ≤ 15 + 1 by omega)
    rw [if_neg (by omega)]
    omega
  · split <;> omega

/-! ## The reference's words -/

variable {x1 : (⟨S16, .i32⟩ : BufTy).Contents (Elt Ideal)} {g : ℕ → ℕ}

theorem ends_ap (hx : ∀ i : Fin 16, x1 (ix1 i) = BitVec.ofNat 32 (g i.val)) (j : Fin 16) :
    val_main_v1 (F := Ideal) x1 (ix1 j) = BitVec.ofNat 32 (pre g (j.val + 1)) := by
  unfold val_main_v1
  exact cumsum1 (N := 16) (Nm1 := 15) rfl x1 g hx _ (by rw [val_main_call0_call0_v0_apply]; rfl) _ _ j

theorem ge_ap (hx : ∀ i : Fin 16, x1 (ix1 i) = BitVec.ofNat 32 (g i.val)) (hg : ∀ k < 16, g k < 2 ^ 27) (t : Fin 128) (q : Fin 16) :
    val_main_v7 (F := Ideal) x1 (ix2 t q) = 1#1 ↔ pre g (q.val + 1) ≤ t.val := by
  have e6 : val_main_v6 (F := Ideal) x1 (ix2 t q) = BitVec.ofNat 32 (pre g (q.val + 1)) := by
    rw [val_main_v6_apply, val_main_v4_apply]
    exact (congrArg (val_main_v1 (F := Ideal) x1) (funext fun a => Fin.ext (by match a with | ⟨0, _⟩ => rfl))).trans (ends_ap hx q)
  have e5 : val_main_v5 (F := Ideal) (ix2 t q) = BitVec.ofNat 32 t.val := by
    rw [val_main_v5_apply, val_main_v3_apply, val_main_v2_apply]
  have hq := q.isLt
  have ht := t.isLt
  have hp := pre_lt g hg (q.val + 1) (by omega)
  have hp' : pre g (q.val + 1) < 2147483648 := by omega
  rw [val_main_v7_apply, e5, e6, IntOp.cmpi_sge]
  rw [StableHlo.Predicate.toInt_ofNat_small _ (by omega), StableHlo.Predicate.toInt_ofNat_small _ (by omega)]
  omega

theorem eid_ap (hx : ∀ i : Fin 16, x1 (ix1 i) = BitVec.ofNat 32 (g i.val)) (hg : ∀ k < 16, g k < 2 ^ 27) (t : Fin 128) {e : ℕ}
    (he : e < 16) (h0 : cut g e ≤ t.val) (h1 : t.val < cut g (e + 1)) :
    val_main_v11 (F := Ideal) x1 (ix1 t) = BitVec.ofNat 32 e := by
  have e9 : val_main_v9 (F := Ideal) x1 (ix1 t) = BitVec.ofNat 32 (Nat.count (fun q => pre g (q + 1) ≤ t.val) 16) := by
    unfold val_main_v9
    exact reduce_count (n := 128) (m := 16) (by omega) (val_main_v7 (F := Ideal) x1) natLt_1_32 _ _ t _ (ge_ap hx hg t)
  have e10 : val_main_v10 (F := Ideal) (ix1 t) = 15#32 := by
    rw [val_main_v10_apply]
    rfl
  have hc := count_expert g he t.isLt h0 h1
  have hle : Nat.count (fun q => pre g (q + 1) ≤ t.val) 16 ≤ 16 := Nat.count_le _
  rw [val_main_v11_apply, e9, e10]
  generalize Nat.count (fun q => pre g (q + 1) ≤ t.val) 16 = n at hc hle
  subst hc
  clear h0 h1 he
  have : ∀ n : Fin 17, IntOp.minsi (BitVec.ofNat 32 n.val) 15#32 = BitVec.ofNat 32 (min n.val 15) := by decide
  exact this ⟨n, by omega⟩

/-! ## The row of scales -/

theorem scale_ap (hx : ∀ i : Fin 16, x1 (ix1 i) = BitVec.ofNat 32 (g i.val)) (hg : ∀ k < 16, g k < 2 ^ 27)
    (x3 : (⟨S16x12x40, .f32⟩ : BufTy).Contents (Elt Ideal)) (t : Fin 128) (o : Fin 12) (b : Fin 40) (e : Fin 16)
    (h0 : cut g e.val ≤ t.val) (h1 : t.val < cut g (e.val + 1)) :
    val_main_v18 (F := Ideal) x1 x3 (ix3 t o b) = x3 (ix3 e o b) := by
  have hi : val_main_call1_v0 (F := Ideal) x1 (ix2 t (0 : Fin 1)) = BitVec.ofNat 32 e.val := by
    rw [val_main_call1_v0_apply]
    exact (congrArg (val_main_v11 (F := Ideal) x1) (funext fun a => Fin.ext (by match a with | ⟨0, _⟩ => rfl))).trans (eid_ap hx hg t e.isLt h0 h1)
  unfold val_main_v18 Host.gather
  generalize val_main_call1_v0 (F := Ideal) x1 = idx at hi
  refine congrArg x3 (funext fun a => Fin.ext ?_)
  match a with
  | ⟨0, _⟩ =>
    have hm : (0 : Fin 3) ∈ gather_S16x12x40_S128x1_S128x12x40_12_0_n_n_0_1_11240.startIndexMap := by decide
    show gather_S16x12x40_S128x1_S128x12x40_12_0_n_n_0_1_11240.start (ix3 t o b) idx 0
      + gather_S16x12x40_S128x1_S128x12x40_12_0_n_n_0_1_11240.batchCoord (ix3 t o b) 0
      + gather_S16x12x40_S128x1_S128x12x40_12_0_n_n_0_1_11240.offCoord (ix3 t o b) 0 = e.val
    rw [GatherDims.batchCoord_eq_zero _ _ _ (by decide), GatherDims.offCoord_eq_zero _ _ _ (by decide)]
    unfold GatherDims.start
    rw [dif_pos hm]
    have hsi : gather_S16x12x40_S128x1_S128x12x40_12_0_n_n_0_1_11240.siIdx (ix3 t o b) ⟨_, List.idxOf_lt_length_iff.2 hm⟩ = ix2 t (0 : Fin 1) := by
      funext a
      match a with
      | ⟨0, _⟩ => rfl
      | ⟨1, _⟩ => rfl
    rw [hsi]
    show min (idx (ix2 t (0 : Fin 1))).toInt.toNat (16 - 1) + 0 + 0 = e.val
    rw [hi, StableHlo.Predicate.toInt_ofNat_small _ (by omega)]
    omega
  | ⟨1, _⟩ => show 0 + 0 + o.val = o.val; omega
  | ⟨2, _⟩ => show 0 + 0 + b.val = b.val; omega

end Cert.ReferenceIdeal.Hand

end
-- ==== Proof.RVal.lean ====
/-
  The reference's result at a token and an output: the sum over the channel blocks and their channels of the token's entry
  times its expert's scale of the block times the expert's weight.
-/
module

public import proofs.«01_k».proof.Proof.RRoute

@[expose] public section

set_option maxRecDepth 16384

noncomputable section

namespace Cert.ReferenceIdeal.Hand

open Cert.ReferenceIdeal Cert.ReferenceIdeal.Gen Cert.ReferenceIdeal.Read Cert.Hand
open Idealize.ShloMosaic Idealize.ShloMosaic.Routing Idealize.ShloMosaic.ValueIdx

/-- A sum over the channels is a sum over the blocks of the sums over their channels. -/
theorem sum_split (f : Fin 5120 → EReal) :
    ∑ k, f k = ∑ b : Fin 40, ∑ x : Fin 128, f ⟨128 * b.val + x.val, by have := b.isLt; have := x.isLt; omega⟩ := by
  refine (Equiv.sum_comp (finProdFinEquiv : Fin 40 × Fin 128 ≃ Fin (40 * 128)) f).symm.trans ?_
  rw [Fintype.sum_prod_type]
  refine Finset.sum_congr rfl fun b _ => Finset.sum_congr rfl fun x _ => congrArg f (Fin.ext ?_)
  show x.val + 128 * b.val = 128 * b.val + x.val
  omega

variable {x1 : (⟨S16, .i32⟩ : BufTy).Contents (Elt Ideal)} {g : ℕ → ℕ}
variable (x3 : (⟨S16x12x40, .f32⟩ : BufTy).Contents (Elt Ideal)) (r0 : (⟨S128x40x128, .bf16⟩ : BufTy).Contents (Elt Ideal))
variable (r1 : (⟨S16x1536x5120, .bf16⟩ : BufTy).Contents (Elt Ideal))

/-- The entry `(s, t, e, y)` of the array over output blocks, tokens, experts and outputs within a block. -/
abbrev at4 (s : Fin 12) (t : Fin 128) (e : Fin 16) (y : Fin 128) : S12x128x16x128.Idx := fun a => match a with
  | ⟨0, _⟩ => s
  | ⟨1, _⟩ => t
  | ⟨2, _⟩ => e
  | ⟨3, _⟩ => y

theorem lhs_ap (hx : ∀ i : Fin 16, x1 (ix1 i) = BitVec.ofNat 32 (g i.val)) (hg : ∀ k < 16, g k < 2 ^ 27) (s : Fin 12) (t : Fin 128) (e k : Fin 16)
    (y : Fin 128) (h0 : cut g e.val ≤ t.val) (h1 : t.val < cut g (e.val + 1)) (b : Fin 40) (x : Fin 128) :
    val_main_v25 (F := Ideal) x1 x3 r0 (lidx_main_v27 (at4 s t k y) ⟨128 * b.val + x.val, by have := b.isLt; have := x.isLt; omega⟩)
      = r0 (ix3 t b x) * x3 (ix3 e s b) := by
  have hs := s.isLt
  have ht := t.isLt
  have hb := b.isLt
  have hy := x.isLt
  rw [val_main_v25_apply, val_main_v24_apply, val_main_v22_apply, val_main_v20_apply, val_main_v23_apply, val_main_v21_apply, val_main_v19_apply]
  refine congrArg₂ (fun p q : EReal => p * q) (congrArg r0 (funext fun a => Fin.ext ?_))
    ((congrArg (val_main_v18 (F := Ideal) x1 x3) (funext fun a => Fin.ext ?_)).trans (scale_ap hx hg x3 t s b e h0 h1))
  · match a with
    | ⟨0, _⟩ =>
      show ((t.val * 12 + s.val) * 5120 + (128 * b.val + x.val)) / 61440 = t.val
      omega
    | ⟨1, _⟩ =>
      show ((t.val * 12 + s.val) * 5120 + (128 * b.val + x.val)) / 128 % 40 = b.val
      omega
    | ⟨2, _⟩ =>
      show ((t.val * 12 + s.val) * 5120 + (128 * b.val + x.val)) % 128 = x.val
      omega
  · match a with
    | ⟨0, _⟩ =>
      show ((t.val * 12 + s.val) * 5120 + (128 * b.val + x.val)) / 61440 = t.val
      omega
    | ⟨1, _⟩ =>
      show ((t.val * 12 + s.val) * 5120 + (128 * b.val + x.val)) / 5120 % 12 = s.val
      omega
    | ⟨2, _⟩ =>
      show ((t.val * 12 + s.val) * 5120 + (128 * b.val + x.val)) / 128 % 40 = b.val
      omega

theorem rhs_ap (s : Fin 12) (t : Fin 128) (e : Fin 16) (y : Fin 128) (o : Fin 1536) (ho : o.val = s.val * 128 + y.val) (c : Fin 5120) :
    val_main_v26 (F := Ideal) r1 (ridx_main_v27 (at4 s t e y) c) = r1 (ix3 e o c) := by
  have hs := s.isLt
  have he := e.isLt
  have hy := y.isLt
  have hc := c.isLt
  rw [val_main_v26_apply]
  refine congrArg r1 (funext fun a => Fin.ext ?_)
  match a with
  | ⟨0, _⟩ =>
    show (((e.val * 12 + s.val) * 128 + y.val) * 5120 + c.val) / 7864320 = e.val
    omega
  | ⟨1, _⟩ =>
    show (((e.val * 12 + s.val) * 128 + y.val) * 5120 + c.val) / 5120 % 1536 = o.val
    omega
  | ⟨2, _⟩ =>
    show (((e.val * 12 + s.val) * 128 + y.val) * 5120 + c.val) % 5120 = c.val
    omega

theorem dot_ap (hx : ∀ i : Fin 16, x1 (ix1 i) = BitVec.ofNat 32 (g i.val)) (hg : ∀ k < 16, g k < 2 ^ 27) (s : Fin 12) (t : Fin 128) (e : Fin 16)
    (y : Fin 128) (o : Fin 1536) (ho : o.val = s.val * 128 + y.val) (h0 : cut g e.val ≤ t.val) (h1 : t.val < cut g (e.val + 1)) :
    val_main_v27 (F := Ideal) x1 x3 r0 r1 (at4 s t e y) = ∑ b : Fin 40, ∑ x : Fin 128,
      r0 (ix3 t b x) * x3 (ix3 e s b) * r1 (ix3 e o ⟨128 * b.val + x.val, by have := b.isLt; have := x.isLt; omega⟩) := by
  rw [val_main_v27_apply, sum_split]
  refine Finset.sum_congr rfl fun b _ => Finset.sum_congr rfl fun x _ => ?_
  rw [lhs_ap x3 r0 hx hg s t e e y h0 h1 b x, rhs_ap r1 s t e y o ho]

theorem onehot_ap (hx : ∀ i : Fin 16, x1 (ix1 i) = BitVec.ofNat 32 (g i.val)) (hg : ∀ k < 16, g k < 2 ^ 27) (s : Fin 12) (t : Fin 128) (e k : Fin 16)
    (y : Fin 128) (h0 : cut g e.val ≤ t.val) (h1 : t.val < cut g (e.val + 1)) :
    val_main_call2_v1 (F := Ideal) x1 (at4 s t k y) = IntOp.cmpi .eq (BitVec.ofNat 32 e.val) (BitVec.ofNat 32 k.val) := by
  rw [val_main_call2_v1_apply, val_main_v28_apply, val_main_v17_apply, val_main_v15_apply, val_main_v12_apply, val_main_v16_apply,
    val_main_v14_apply, val_main_v13_apply]
  refine congrArg₂ (IntOp.cmpi .eq) ?_ rfl
  exact (congrArg (val_main_v11 (F := Ideal) x1) (funext fun a => Fin.ext (by match a with | ⟨0, _⟩ => rfl))).trans (eid_ap hx hg t e.isLt h0 h1)

theorem sel_zero {α : Type} {c : BitVec 1} (h : c = 0#1) (x y : α) : Scalar.select c x y = y := by subst h; rfl
theorem sel_one {α : Type} {c : BitVec 1} (h : c = 1#1) (x y : α) : Scalar.select c x y = x := by subst h; rfl

theorem result_ap (hx : ∀ i : Fin 16, x1 (ix1 i) = BitVec.ofNat 32 (g i.val)) (hg : ∀ k < 16, g k < 2 ^ 27) (t : Fin 128) (o : Fin 1536)
    (e : Fin 16) (h0 : cut g e.val ≤ t.val) (h1 : t.val < cut g (e.val + 1)) :
    val_main_v33 (F := Ideal) x1 x3 r0 r1 (ix2 t o) = ∑ b : Fin 40, ∑ x : Fin 128,
      r0 (ix3 t b x) * x3 (ix3 e ⟨o.val / 128, by have := o.isLt; omega⟩ b)
        * r1 (ix3 e o ⟨128 * b.val + x.val, by have := b.isLt; have := x.isLt; omega⟩) := by
  have ht := t.isLt
  have hoo := o.isLt
  have hs : o.val / 128 < 12 := by omega
  have hy : o.val % 128 < 128 := by omega
  have hi : ∀ k : Fin 16, idx_main_v30 (idx_main_v31 (idx_main_v32 (ix2 t o))) k = at4 ⟨o.val / 128, hs⟩ t k ⟨o.val % 128, hy⟩ := fun k =>
    funext fun a => Fin.ext (by
      match a with
      | ⟨0, _⟩ =>
        show (t.val * 1536 + o.val) / 128 % 12 = o.val / 128
        omega
      | ⟨1, _⟩ =>
        show (t.val * 1536 + o.val) / 1536 = t.val
        omega
      | ⟨2, _⟩ => rfl
      | ⟨3, _⟩ =>
        show (t.val * 1536 + o.val) % 128 = o.val % 128
        omega)
  have hz : FloatOps.ofBits (F := Ideal) .f32 0x00000000#32 = (0 : EReal) := Ideal.ofBits_zero_f32
  rw [val_main_v33_apply]
  refine (show _ = val_main_v32 (F := Ideal) x1 x3 r0 r1 (ix2 t o) from rfl).trans ?_
  rw [val_main_v32_apply, val_main_v31_apply, val_main_v30_apply, val_main_cst_1_apply, hz, zero_add]
  rw [← dot_ap x3 r0 r1 hx hg ⟨o.val / 128, hs⟩ t e ⟨o.val % 128, hy⟩ o (by show o.val = o.val / 128 * 128 + o.val % 128; omega) h0 h1]
  refine (Finset.sum_eq_single e (fun k _ hk => ?_) (fun h => absurd (Finset.mem_univ e) h)).trans ?_
  · rw [hi, val_main_v29_apply, onehot_ap hx hg _ t e k _ h0 h1, sel_zero, val_main_call2_v2_apply]
    · exact hz
    · have : ∀ a b : Fin 16, b ≠ a → IntOp.cmpi .eq (BitVec.ofNat 32 a.val) (BitVec.ofNat 32 b.val) = 0#1 := by decide
      exact this e k hk
  · rw [hi, val_main_v29_apply, onehot_ap hx hg _ t e e _ h0 h1, sel_one]
    have : ∀ a : Fin 16, IntOp.cmpi .eq (BitVec.ofNat 32 a.val) (BitVec.ofNat 32 a.val) = 1#1 := by decide
    exact this e

end Cert.ReferenceIdeal.Hand

end
-- ==== Proof.Final.lean ====
/-
  The kernel's result and the reference's are the same sums, over the ideal values, where the tokens are finite and the
  group sizes are below `2 ^ 27`; and the precondition of the claims, read.
-/
module

public import proofs.«01_k».proof.Proof.VSeg
public import proofs.«01_k».proof.Proof.VQuant
public import proofs.«01_k».proof.Proof.KIFrame
public import proofs.«01_k».proof.Proof.RQuant
public import proofs.«01_k».proof.Proof.RReg
public import proofs.«01_k».proof.Proof.RVal
public import proofs.«01_k».proof.Proof.Gen.Pre_inputs_ok

@[expose] public section

set_option maxRecDepth 16384

noncomputable section

namespace Cert.Final

open Idealize.ShloMosaic Cert.Hand Cert.KernelIdeal.Hand
open Cert.KernelIdeal (S16 S16x12x40 S16x1536x5120 S128x5120 S128x1536)

variable (fx : S128x5120.Idx → EReal) (fg : S16.Idx → BitVec 32) (fw : S16x1536x5120.Idx → EReal) (fs : S16x12x40.Idx → EReal)

/-- The precondition read: every group's size is below `2 ^ 27`, and every entry of the tokens is at most the largest
    finite bf16 in absolute value. -/
theorem inputs_of_pre (h : Cert.Pre_inputs_ok.fn (F := Ideal) fx fg fw fs (fun a => a.elim0) = 1#1) :
    (∀ k < 16, sizes fg k < 2 ^ 27) ∧ ∀ i, max (fx i) (-(fx i)) ≤ Ideal.ofBits .f32 0x7F7F0000#32 := by
  obtain ⟨h1, h2⟩ := IntOp.andi_eq_one.1 h
  refine ⟨sizes_of_pre (F := Ideal) fx fg fw fs h1, fun i => ?_⟩
  have h3 := Host.reduce_andi_all _ _ _ _ _ h2 i
  have h3 : BitVec.ofBool (decide (max (fx i) (-(fx i)) ≤ Ideal.ofBits .f32 0x7F7F0000#32)) = 1#1 := h3
  by_contra hc
  rw [decide_eq_false hc] at h3
  exact absurd h3 (by decide)

theorem el2 (t c : ℕ) (ht : t < 128) (hc : c < 5120) (i : S128x5120.Idx) (h0 : (i 0).val = t) (h1 : (i 1).val = c) :
    fx i = el pos_S128x5120 fx ![t, c] := by
  unfold el
  refine congrArg fx (funext fun a => Fin.ext ?_)
  match a with
  | ⟨0, _⟩ => exact h0.trans (Nat.mod_eq_of_lt ht).symm
  | ⟨1, _⟩ => exact h1.trans (Nat.mod_eq_of_lt hc).symm

theorem el3s (e s b : ℕ) (he : e < 16) (hs : s < 12) (hb : b < 40) (i : S16x12x40.Idx) (h0 : (i 0).val = e) (h1 : (i 1).val = s)
    (h2 : (i 2).val = b) : fs i = el pos_S16x12x40 fs ![e, s, b] := by
  unfold el
  refine congrArg fs (funext fun a => Fin.ext ?_)
  match a with
  | ⟨0, _⟩ => exact h0.trans (Nat.mod_eq_of_lt he).symm
  | ⟨1, _⟩ => exact h1.trans (Nat.mod_eq_of_lt hs).symm
  | ⟨2, _⟩ => exact h2.trans (Nat.mod_eq_of_lt hb).symm

theorem el3w (e o c : ℕ) (he : e < 16) (ho : o < 1536) (hc : c < 5120) (i : S16x1536x5120.Idx) (h0 : (i 0).val = e) (h1 : (i 1).val = o)
    (h2 : (i 2).val = c) : fw i = el pos_S16x1536x5120 fw ![e, o, c] := by
  unfold el
  refine congrArg fw (funext fun a => Fin.ext ?_)
  match a with
  | ⟨0, _⟩ => exact h0.trans (Nat.mod_eq_of_lt he).symm
  | ⟨1, _⟩ => exact h1.trans (Nat.mod_eq_of_lt ho).symm
  | ⟨2, _⟩ => exact h2.trans (Nat.mod_eq_of_lt hc).symm

theorem sizes_ap (i : Fin 16) : fg (ValueIdx.ix1 i) = BitVec.ofNat 32 (sizes fg i.val) := by
  unfold sizes
  rw [BitVec.ofNat_toNat, BitVec.setWidth_eq]
  unfold el
  refine congrArg fg (funext fun a => Fin.ext ?_)
  match a with
  | ⟨0, _⟩ => exact (Nat.mod_eq_of_lt i.isLt).symm

theorem value (hf : ∀ i, max (fx i) (-(fx i)) ≤ Ideal.ofBits .f32 0x7F7F0000#32) (hg : ∀ k < 16, sizes fg k < 2 ^ 27) :
    YF (F := Ideal) fg fs fx fw = Cert.ReferenceIdeal.Read.val_main_v33 (F := Ideal) fg fs (Cert.ReferenceIdeal.Gen.k0_pay1 (F := Ideal) fx)
      (Cert.ReferenceIdeal.Gen.k0_pay2 (F := Ideal) fw) := by
  funext i
  have ht : (i 0).val < 128 := (i 0).isLt
  have ho : (i 1).val < 1536 := (i 1).isLt
  obtain ⟨e, he, h0, h1⟩ := exists_span (sizes fg) (i 0).val ht
  have hk : YF (F := Ideal) fg fs fx fw i = dotv fs fx fw e (i 0).val (i 1).val := by
    unfold YF
    rw [XQ_id fx hf]
    exact Y_ap fs fx fw (sizes fg) i he h0 h1
  have hi : i = ValueIdx.ix2 (⟨(i 0).val, ht⟩ : Fin 128) (⟨(i 1).val, ho⟩ : Fin 1536) := funext fun a => by
    match a with
    | ⟨0, _⟩ => rfl
    | ⟨1, _⟩ => rfl
  have hr := Cert.ReferenceIdeal.Hand.result_ap (x1 := fg) fs (Cert.ReferenceIdeal.Gen.k0_pay1 (F := Ideal) fx)
    (Cert.ReferenceIdeal.Gen.k0_pay2 (F := Ideal) fw) (sizes_ap fg) hg ⟨(i 0).val, ht⟩ ⟨(i 1).val, ho⟩ ⟨e, he⟩ h0 h1
  rw [← hi] at hr
  rw [hk, hr]
  unfold dotv
  rw [Finset.sum_range]
  refine Finset.sum_congr rfl fun b _ => ?_
  unfold blk
  refine Finset.sum_congr rfl fun x _ => ?_
  have hb := b.isLt
  have hx := x.isLt
  rw [Cert.ReferenceIdeal.Hand.pay1_ap fx hf, Cert.ReferenceIdeal.Hand.pay2_ap]
  exact congrArg₂ (fun p q : EReal => p * q) (congrArg₂ (fun p q : EReal => p * q)
    (el2 fx (i 0).val (128 * b.val + x.val) ht (by omega) (Cert.ReferenceIdeal.Hand.chan (ValueIdx.ix3 (⟨(i 0).val, ht⟩ : Fin 128) b x) x) rfl
      (by show b.val * 128 + x.val = 128 * b.val + x.val; omega)).symm
    (el3s fs e ((i 1).val / 128) b.val he (by omega) hb _ rfl rfl rfl).symm)
    (el3w fw e (i 1).val (128 * b.val + x.val) he ho (by omega) _ rfl rfl rfl).symm

end Cert.Final

end
-- ==== Proof.lean ====
/-
  The proof of `Cert.Claim` (Defs.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Read
public import proofs.«01_k».proof.Proof.Gen.Pre_sizes_ok
public import proofs.«01_k».proof.Proof.Gen.Pre_inputs_ok
public import proofs.«01_k».proof.Proof.KFrame
public import proofs.«01_k».proof.Proof.KIFrame
public import proofs.«01_k».proof.Proof.Final
public import Idealize.ShloMosaic.Adequacy
public import Idealize.ShloMosaic.Init

@[expose] public section

noncomputable section

namespace Cert.Proof

open Idealize.ShloMosaic Idealize.SL.Sem

/-- The kernel as printed: it ends, leaves its arguments alone and every counter at zero. -/
theorem frame_kernel : Cert.quiescent_Kernel := fun m ρ hpre =>
  (θ_run _ _ _).mono (fun _ h => ⟨fun c => (h.1 c).2, h.2⟩)
    (Cert.Kernel.Hand.run_full m ρ fun c => Cert.Kernel.Hand.sizes_of_pre _ _ _ _ (congrFun (hpre c) _))

/-- The same at the ideal values. -/
theorem frame_ideal : Cert.quiescent_KernelIdeal := fun m ρ hpre =>
  (θ_run _ _ _).mono (fun _ h => ⟨fun c => (h.1 c).2, h.2⟩)
    (Cert.KernelIdeal.Hand.run_full m ρ fun c => Cert.KernelIdeal.Hand.sizes_of_pre _ _ _ _ (congrFun (hpre c) _))

/-- The same under the precondition of the value claim, which bounds the sizes alike. -/
theorem frame_ideal_inputs : Cert.quiescent_KernelIdeal_pre_inputs_ok := fun m ρ hpre =>
  (θ_run _ _ _).mono (fun _ h => ⟨fun c => (h.1 c).2, h.2⟩)
    (Cert.KernelIdeal.Hand.run_full m ρ fun c => (Cert.Final.inputs_of_pre _ _ _ _ (congrFun (hpre c) _)).1)

/-- The kernel and the reference leave equal results, over the ideal values. -/
theorem algebraic : Cert.algebraic_KernelIdeal_ReferenceIdeal_pre_inputs_ok := by
  intro m ρ m' ρ' hpre hargs
  have hin := fun c => Cert.Final.inputs_of_pre _ _ _ _ (congrFun (hpre c) (fun a => a.elim0))
  refine ⟨fun c => Cert.KernelIdeal.Hand.outOf m c, ?_, ?_⟩
  · exact (θ_run _ _ _).mono (fun _ h => h.1) (Cert.KernelIdeal.Hand.run_full m ρ fun c => (hin c).1)
  · refine (θ_run _ _ _).mono (fun r h c => ⟨(h c).1.trans ?_, (h c).2⟩) (Cert.ReferenceIdeal.Value.run m' ρ')
    obtain ⟨e0, e1, e2, e3⟩ := hargs c
    have hv := Cert.ReferenceIdeal.Read.val_main_v33_eq (Cert.ReferenceIdeal.Value.exitV m' c)
    rw [Cert.ReferenceIdeal.Value.exit_main_arg1, Cert.ReferenceIdeal.Value.exit_main_arg3, Cert.ReferenceIdeal.Value.exit_main_v0_0,
      Cert.ReferenceIdeal.Value.exit_main_v0_1] at hv
    refine hv.trans ?_
    rw [Cert.ReferenceIdeal.Hand.reg0, Cert.ReferenceIdeal.Hand.reg1, e0, e1, e2, e3]
    exact (Cert.Final.value _ _ _ _ (hin c).2 (hin c).1).symm

theorem claim : Cert.Claim :=
  ⟨Cert.Kernel.Gen.facts, Cert.KernelIdeal.Gen.facts, Cert.ReferenceIdeal.Gen.facts, Cert.Pre_sizes_ok.Gen.facts, Cert.Pre_inputs_ok.Gen.facts,
    frame_kernel, frame_ideal, frame_ideal_inputs, fun m ρ _ => Cert.ReferenceIdeal.Gen.frame m ρ,
    fun m ρ _ => Cert.ReferenceIdeal.Gen.frame m ρ, trivial, algebraic⟩

end Cert.Proof

end
